-- ==== Defs.lean ====
def Pre_Kernel [hPre_valid_plan : Cert.Pre_valid_plan.Facts] (m : (ℓ : Loc Cert.Kernel.nD Cert.Kernel.τ Cert.Kernel.sig) → Buf (Elt Bits) ℓ) : Prop :=
  ∀ c : Dev Cert.Kernel.nD,
    (Cert.Pre_valid_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).1 = (fun _ => 1#1)
    ∧ (Cert.Pre_valid_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.1 = (fun _ => 1#1)
    ∧ (Cert.Pre_valid_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.1 = (fun _ => 1#1)
    ∧ (Cert.Pre_valid_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.1 = (fun _ => 1#1)
    ∧ (Cert.Pre_valid_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.1 = (fun _ => 1#1)
    ∧ (Cert.Pre_valid_plan.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))).2.2.2.2.2 = (fun _ => 1#1)

def Pre_KernelIdeal [hPre_valid_plan : Cert.Pre_valid_plan.Facts] (m : (ℓ : Loc Cert.KernelIdeal.nD Cert.KernelIdeal.τ Cert.KernelIdeal.sig) → Buf (Elt Ideal) ℓ) : Prop :=
  ∀ c : Dev Cert.KernelIdeal.nD,
    (Cert.Pre_valid_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_valid_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_valid_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_valid_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_valid_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.1 = (fun _ => 1#1)
    ∧ (Cert.Pre_valid_plan.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_valid_plan [hPre_valid_plan : Cert.Pre_valid_plan.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_valid_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_valid_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_valid_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_valid_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_valid_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.1 = (fun _ => 1#1)
    ∧ (Cert.Pre_valid_plan.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2.2 = (fun _ => 1#1)

def quiescent_Kernel [hKernel : Cert.Kernel.Facts] [hPre_valid_plan : Cert.Pre_valid_plan.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] [hPre_valid_plan : Cert.Pre_valid_plan.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_valid_plan [hReferenceIdeal : Cert.ReferenceIdeal.Facts] [hPre_valid_plan : Cert.Pre_valid_plan.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_valid_plan m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_valid_plan : Cert.Pre_valid_plan.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_valid_plan : Cert.Pre_valid_plan.Facts),
    quiescent_Kernel (hKernel := hKernel) (hPre_valid_plan := hPre_valid_plan)
    ∧ quiescent_KernelIdeal (hKernelIdeal := hKernelIdeal) (hPre_valid_plan := hPre_valid_plan)
    ∧ quiescent_ReferenceIdeal (hReferenceIdeal := hReferenceIdeal)
    ∧ quiescent_ReferenceIdeal_pre_valid_plan (hReferenceIdeal := hReferenceIdeal) (hPre_valid_plan := hPre_valid_plan)
    ∧ preserves_Kernel_KernelIdeal
    ∧ algebraic_KernelIdeal_ReferenceIdeal (hKernelIdeal := hKernelIdeal) (hReferenceIdeal := hReferenceIdeal) (hPre_valid_plan := hPre_valid_plan)
-- ==== Pre_valid_plan.lean ====
abbrev S8x32 : Shape := ⟨2, ![8, 32]⟩
abbrev S8x8x1536 : Shape := ⟨3, ![8, 8, 1536]⟩
abbrev S8x7720x128 : Shape := ⟨3, ![8, 7720, 128]⟩
abbrev S32x2048x1536 : Shape := ⟨3, ![32, 2048, 1536]⟩
abbrev S32x1x1536 : Shape := ⟨3, ![32, 1, 1536]⟩
abbrev S32x768x2048 : Shape := ⟨3, ![32, 768, 2048]⟩
abbrev S32x1x2048 : Shape := ⟨3, ![32, 1, 2048]⟩
abbrev S_ : Shape := ⟨0, ![]⟩
abbrev S8x32x8x1536 : Shape := ⟨4, ![8, 32, 8, 1536]⟩
abbrev S8x8x1536x8x1536 : Shape := ⟨5, ![8, 8, 1536, 8, 1536]⟩
abbrev S8x32x8x8x1536 : Shape := ⟨5, ![8, 32, 8, 8, 1536]⟩
abbrev S8x16512x8x1536 : Shape := ⟨4, ![8, 16512, 8, 1536]⟩
abbrev S8x16512 : Shape := ⟨2, ![8, 16512]⟩
abbrev S8x32x16512 : Shape := ⟨3, ![8, 32, 16512]⟩

class Facts : Prop where
  bcast_S_S8x32 : S_.BroadcastsInDim S8x32 (![] : Fin 0 → Fin S8x32.rank)
  bcast_S_S8x8x1536 : S_.BroadcastsInDim S8x8x1536 (![] : Fin 0 → Fin S8x8x1536.rank)
  bcast_S8x32_S8x32x8x1536_0_1 : S8x32.BroadcastsInDim S8x32x8x1536 (![0, 1] : Fin 2 → Fin S8x32x8x1536.rank)
  bcast_S8x8x1536_S8x32x8x1536_0_2_3 : S8x8x1536.BroadcastsInDim S8x32x8x1536 (![0, 2, 3] : Fin 3 → Fin S8x32x8x1536.rank)
  bcast_S8x8x1536_S8x8x1536x8x1536_0_1_2 : S8x8x1536.BroadcastsInDim S8x8x1536x8x1536 (![0, 1, 2] : Fin 3 → Fin S8x8x1536x8x1536.rank)
  bcast_S8x8x1536_S8x8x1536x8x1536_0_3_4 : S8x8x1536.BroadcastsInDim S8x8x1536x8x1536 (![0, 3, 4] : Fin 3 → Fin S8x8x1536x8x1536.rank)
  bcast_S8x32x8x1536_S8x32x8x8x1536_0_1_2_4 : S8x32x8x1536.BroadcastsInDim S8x32x8x8x1536 (![0, 1, 2, 4] : Fin 4 → Fin S8x32x8x8x1536.rank)
  bcast_S8x32x8x1536_S8x32x8x8x1536_0_1_3_4 : S8x32x8x1536.BroadcastsInDim S8x32x8x8x1536 (![0, 1, 3, 4] : Fin 4 → Fin S8x32x8x8x1536.rank)
  bcast_S8x8x1536_S8x16512x8x1536_0_2_3 : S8x8x1536.BroadcastsInDim S8x16512x8x1536 (![0, 2, 3] : Fin 3 → Fin S8x16512x8x1536.rank)
  reducesTo_S8x16512x8x1536_S8x16512_d2_3 : S8x16512x8x1536.ReducesTo [2, 3] S8x16512
  h_S_ : 0 < S_.numel
  bcast_S8x16512_S8x32x16512_0_2 : S8x16512.BroadcastsInDim S8x32x16512 (![0, 2] : Fin 2 → Fin S8x32x16512.rank)
  bcast_S8x32_S8x32x16512_0_1 : S8x32.BroadcastsInDim S8x32x16512 (![0, 1] : Fin 2 → Fin S8x32x16512.rank)

variable [Facts]

def fn_valid_plan_part3 {F : FTy → Type} [FloatOps F] (arg0 : IVec S8x32 32) (arg1 : IVec S8x32 32) (v14 : IVec S8x32 1) (v19 : IVec S8x8x1536 1) (v34 : IVec S8x32x8x1536 1) (v45 : IVec S8x8x1536x8x1536 1) (v56 : IVec S8x32x8x8x1536 1) (v60 : IVec S8x16512 1) : IVec S8x32 1 × IVec S8x8x1536 1 × IVec S8x32x8x1536 1 × IVec S8x8x1536x8x1536 1 × IVec S8x32x8x8x1536 1 × IVec S8x32x16512 1 :=
  let v61 : IVec S8x32x16512 32 := iotaInDim S8x32x16512 32 2
  let v62 : IVec S8x32x16512 1 := broadcastInDim S8x32x16512 ![0, 2] bcast_S8x16512_S8x32x16512_0_2 v60
  let v63 : IVec S8x32x16512 32 := broadcastInDim S8x32x16512 ![0, 1] bcast_S8x32_S8x32x16512_0_1 arg1
  let v64 : IVec S8x32x16512 1 := cmpi .slt v61 v63
  let v65 : IVec S8x32x16512 1 := ori v62 v64
  let v66 : IVec S8x32 32 := addi arg1 arg0
  let v67 : IVec S8x32x16512 32 := broadcastInDim S8x32x16512 ![0, 1] bcast_S8x32_S8x32x16512_0_1 v66
  let v68 : IVec S8x32x16512 1 := cmpi .sge v61 v67
  let v69 : IVec S8x32x16512 1 := ori v65 v68
  (v14, v19, v34, v45, v56, v69)

def fn_valid_plan_part2 {F : FTy → Type} [FloatOps F] (arg0 : IVec S8x32 32) (arg1 : IVec S8x32 32) (arg2 : IVec S8x8x1536 32) (v14 : IVec S8x32 1) (v19 : IVec S8x8x1536 1) (v20 : IVec S8x32x8x1536 32) (v22 : IVec S8x32x8x1536 32) (v31 : IVec S8x32x8x1536 32) (v34 : IVec S8x32x8x1536 1) (v37 : IVec S8x8x1536x8x1536 1) : IVec S8x32 1 × IVec S8x8x1536 1 × IVec S8x32x8x1536 1 × IVec S8x8x1536x8x1536 1 × IVec S8x32x8x8x1536 1 × IVec S8x32x16512 1 :=
  let v38 : IVec S8x8x1536x8x1536 32 := iotaInDim S8x8x1536x8x1536 32 2
  let v39 : IVec S8x8x1536x8x1536 32 := iotaInDim S8x8x1536x8x1536 32 4
  let v40 : IVec S8x8x1536x8x1536 1 := cmpi .eq v38 v39
  let v41 : IVec S8x8x1536x8x1536 1 := andi v37 v40
  let v42 : IVec S8x8x1536x8x1536 32 := broadcastInDim S8x8x1536x8x1536 ![0, 1, 2] bcast_S8x8x1536_S8x8x1536x8x1536_0_1_2 arg2
  let v43 : IVec S8x8x1536x8x1536 32 := broadcastInDim S8x8x1536x8x1536 ![0, 3, 4] bcast_S8x8x1536_S8x8x1536x8x1536_0_3_4 arg2
  let v44 : IVec S8x8x1536x8x1536 1 := cmpi .ne v42 v43
  let v45 : IVec S8x8x1536x8x1536 1 := ori v41 v44
  let v46 : IVec S8x32x8x1536 1 := cmpi .sle v20 v31
  let v47 : IVec S8x32x8x1536 1 := cmpi .slt v31 v22
  let v48 : IVec S8x32x8x1536 1 := andi v46 v47
  let v49 : IVec S8x32x8x8x1536 32 := iotaInDim S8x32x8x8x1536 32 2
  let v50 : IVec S8x32x8x8x1536 32 := iotaInDim S8x32x8x8x1536 32 3
  let v51 : IVec S8x32x8x8x1536 1 := cmpi .eq v49 v50
  let v52 : IVec S8x32x8x8x1536 1 := broadcastInDim S8x32x8x8x1536 ![0, 1, 2, 4] bcast_S8x32x8x1536_S8x32x8x8x1536_0_1_2_4 v48
  let v53 : IVec S8x32x8x8x1536 1 := broadcastInDim S8x32x8x8x1536 ![0, 1, 3, 4] bcast_S8x32x8x1536_S8x32x8x8x1536_0_1_3_4 v48
  let v54 : IVec S8x32x8x8x1536 1 := andi v52 v53
  let v55 : IVec S8x32x8x8x1536 1 := noti v54
  let v56 : IVec S8x32x8x8x1536 1 := ori v51 v55
  let v57 : IVec S8x16512x8x1536 32 := broadcastInDim S8x16512x8x1536 ![0, 2, 3] bcast_S8x8x1536_S8x16512x8x1536_0_2_3 arg2
  let v58 : IVec S8x16512x8x1536 32 := iotaInDim S8x16512x8x1536 32 1
  let v59 : IVec S8x16512x8x1536 1 := cmpi .eq v57 v58
  let c_9 : IVec S_ 1 := constantI S_ 1 0#1
  let v60 : IVec S8x16512 1 := (fun x v => Host.reduce IntOp.ori x v reducesTo_S8x16512x8x1536_S8x16512_d2_3 h_S_) v59 c_9
  fn_valid_plan_part3 (F := F) arg0 arg1 v14 v19 v34 v45 v56 v60

def fn_valid_plan_part1 {F : FTy → Type} [FloatOps F] (arg0 : IVec S8x32 32) (arg1 : IVec S8x32 32) (arg2 : IVec S8x8x1536 32) (v14 : IVec S8x32 1) (v16 : IVec S8x8x1536 1) (c_5 : IVec S_ 32) : IVec S8x32 1 × IVec S8x8x1536 1 × IVec S8x32x8x1536 1 × IVec S8x8x1536x8x1536 1 × IVec S8x32x8x8x1536 1 × IVec S8x32x16512 1 :=
  let v17 : IVec S8x8x1536 32 := broadcastInDim S8x8x1536 ![] bcast_S_S8x8x1536 c_5
  let v18 : IVec S8x8x1536 1 := cmpi .slt arg2 v17
  let v19 : IVec S8x8x1536 1 := andi v16 v18
  let v20 : IVec S8x32x8x1536 32 := broadcastInDim S8x32x8x1536 ![0, 1] bcast_S8x32_S8x32x8x1536_0_1 arg1
  let v21 : IVec S8x32 32 := addi arg1 arg0
  let v22 : IVec S8x32x8x1536 32 := broadcastInDim S8x32x8x1536 ![0, 1] bcast_S8x32_S8x32x8x1536_0_1 v21
  let c_6 : IVec S_ 32 := constantI S_ 32 127#32
  let v23 : IVec S8x32 32 := broadcastInDim S8x32 ![] bcast_S_S8x32 c_6
  let v24 : IVec S8x32 32 := addi arg0 v23
  let c_7 : IVec S_ 32 := constantI S_ 32 7#32
  let v25 : IVec S8x32 32 := broadcastInDim S8x32 ![] bcast_S_S8x32 c_7
  let v26 : IVec S8x32 32 := Host.shrsi v24 v25
  let c_8 : IVec S_ 32 := constantI S_ 32 7#32
  let v27 : IVec S8x32 32 := broadcastInDim S8x32 ![] bcast_S_S8x32 c_8
  let v28 : IVec S8x32 32 := Host.shli v26 v27
  let v29 : IVec S8x32 32 := addi arg1 v28
  let v30 : IVec S8x32x8x1536 32 := broadcastInDim S8x32x8x1536 ![0, 1] bcast_S8x32_S8x32x8x1536_0_1 v29
  let v31 : IVec S8x32x8x1536 32 := broadcastInDim S8x32x8x1536 ![0, 2, 3] bcast_S8x8x1536_S8x32x8x1536_0_2_3 arg2
  let v32 : IVec S8x32x8x1536 1 := cmpi .slt v31 v22
  let v33 : IVec S8x32x8x1536 1 := cmpi .sge v31 v30
  let v34 : IVec S8x32x8x1536 1 := ori v32 v33
  let v35 : IVec S8x8x1536x8x1536 32 := iotaInDim S8x8x1536x8x1536 32 1
  let v36 : IVec S8x8x1536x8x1536 32 := iotaInDim S8x8x1536x8x1536 32 3
  let v37 : IVec S8x8x1536x8x1536 1 := cmpi .eq v35 v36
  fn_valid_plan_part2 (F := F) arg0 arg1 arg2 v14 v19 v20 v22 v31 v34 v37

def fn_valid_plan {F : FTy → Type} [FloatOps F] (arg0 : IVec S8x32 32) (arg1 : IVec S8x32 32) (arg2 : IVec S8x8x1536 32) : IVec S8x32 1 × IVec S8x8x1536 1 × IVec S8x32x8x1536 1 × IVec S8x8x1536x8x1536 1 × IVec S8x32x8x8x1536 1 × IVec S8x32x16512 1 :=
  let c : IVec S_ 32 := constantI S_ 32 0#32
  let v0 : IVec S8x32 32 := broadcastInDim S8x32 ![] bcast_S_S8x32 c
  let v1 : IVec S8x32 1 := cmpi .sge arg0 v0
  let c_0 : IVec S_ 32 := constantI S_ 32 12288#32
  let v2 : IVec S8x32 32 := broadcastInDim S8x32 ![] bcast_S_S8x32 c_0
  let v3 : IVec S8x32 1 := cmpi .sle arg0 v2
  let v4 : IVec S8x32 1 := andi v1 v3
  let c_1 : IVec S_ 32 := constantI S_ 32 0#32
  let v5 : IVec S8x32 32 := broadcastInDim S8x32 ![] bcast_S_S8x32 c_1
  let v6 : IVec S8x32 1 := cmpi .sge arg1 v5
  let v7 : IVec S8x32 1 := andi v4 v6
  let c_2 : IVec S_ 32 := constantI S_ 32 16384#32
  let v8 : IVec S8x32 32 := broadcastInDim S8x32 ![] bcast_S_S8x32 c_2
  let v9 : IVec S8x32 1 := cmpi .sle arg1 v8
  let v10 : IVec S8x32 1 := andi v7 v9
  let v11 : IVec S8x32 32 := addi arg1 arg0
  let c_3 : IVec S_ 32 := constantI S_ 32 16384#32
  let v12 : IVec S8x32 32 := broadcastInDim S8x32 ![] bcast_S_S8x32 c_3
  let v13 : IVec S8x32 1 := cmpi .sle v11 v12
  let v14 : IVec S8x32 1 := andi v10 v13
  let c_4 : IVec S_ 32 := constantI S_ 32 0#32
  let v15 : IVec S8x8x1536 32 := broadcastInDim S8x8x1536 ![] bcast_S_S8x8x1536 c_4
  let v16 : IVec S8x8x1536 1 := cmpi .sge arg2 v15
  let c_5 : IVec S_ 32 := constantI S_ 32 16512#32
  fn_valid_plan_part1 (F := F) arg0 arg1 arg2 v14 v16 c_5

def fn {F : FTy → Type} [FloatOps F] (main_arg0 : IVec S8x32 32) (main_arg1 : IVec S8x32 32) (main_arg2 : IVec S8x8x1536 32) (main_arg3 : IVec S8x7720x128 32) (main_arg4 : FVec F S32x2048x1536 .fp8e4m3) (main_arg5 : FVec F S32x1x1536 .f32) (main_arg6 : FVec F S32x768x2048 .fp8e4m3) (main_arg7 : FVec F S32x1x2048 .f32) : IVec S8x32 1 × IVec S8x8x1536 1 × IVec S8x32x8x1536 1 × IVec S8x8x1536x8x1536 1 × IVec S8x32x8x8x1536 1 × IVec S8x32x16512 1 :=
  let main_v0_0 : IVec S8x32 1 := (fn_valid_plan (F := F) main_arg0 main_arg1 main_arg2).1
  let main_v0_1 : IVec S8x8x1536 1 := (fn_valid_plan (F := F) main_arg0 main_arg1 main_arg2).2.1
  let main_v0_2 : IVec S8x32x8x1536 1 := (fn_valid_plan (F := F) main_arg0 main_arg1 main_arg2).2.2.1
  let main_v0_3 : IVec S8x8x1536x8x1536 1 := (fn_valid_plan (F := F) main_arg0 main_arg1 main_arg2).2.2.2.1
  let main_v0_4 : IVec S8x32x8x8x1536 1 := (fn_valid_plan (F := F) main_arg0 main_arg1 main_arg2).2.2.2.2.1
  let main_v0_5 : IVec S8x32x16512 1 := (fn_valid_plan (F := F) main_arg0 main_arg1 main_arg2).2.2.2.2.2
  (main_v0_0, main_v0_1, main_v0_2, main_v0_3, main_v0_4, main_v0_5)
-- ==== Kernel.lean ====
abbrev S8x32 : Shape := ⟨2, ![8, 32]⟩
abbrev S8x8x1536 : Shape := ⟨3, ![8, 8, 1536]⟩
abbrev S8x7720x128 : Shape := ⟨3, ![8, 7720, 128]⟩
abbrev S32x2048x1536 : Shape := ⟨3, ![32, 2048, 1536]⟩
abbrev S32x1x1536 : Shape := ⟨3, ![32, 1, 1536]⟩
abbrev S32x768x2048 : Shape := ⟨3, ![32, 768, 2048]⟩
abbrev S32x1x2048 : Shape := ⟨3, ![32, 1, 2048]⟩
abbrev S12288x2048 : Shape := ⟨2, ![12288, 2048]⟩
abbrev S1x8x1536 : Shape := ⟨3, ![1, 8, 1536]⟩
abbrev S1x7720x128 : Shape := ⟨3, ![1, 7720, 128]⟩
abbrev S1x2048x1536 : Shape := ⟨3, ![1, 2048, 1536]⟩
abbrev S1x1x1536 : Shape := ⟨3, ![1, 1, 1536]⟩
abbrev S1x768x2048 : Shape := ⟨3, ![1, 768, 2048]⟩
abbrev S1x1x2048 : Shape := ⟨3, ![1, 1, 2048]⟩
abbrev S1536x2048 : Shape := ⟨2, ![1536, 2048]⟩
abbrev S16512 : Shape := ⟨1, ![16512]⟩
abbrev S26136x128 : Shape := ⟨2, ![26136, 128]⟩
abbrev S648x128 : Shape := ⟨2, ![648, 128]⟩
abbrev S128x2048 : Shape := ⟨2, ![128, 2048]⟩
abbrev S2064x128 : Shape := ⟨2, ![2064, 128]⟩
abbrev S1x1 : Shape := ⟨2, ![1, 1]⟩
abbrev S1 : Shape := ⟨1, ![1]⟩
abbrev S1x1x1 : Shape := ⟨3, ![1, 1, 1]⟩
abbrev S1x5x128 : Shape := ⟨3, ![1, 5, 128]⟩
abbrev S5x128 : Shape := ⟨2, ![5, 128]⟩
abbrev S128x128 : Shape := ⟨2, ![128, 128]⟩
abbrev S128 : Shape := ⟨1, ![128]⟩
abbrev S128x1 : Shape := ⟨2, ![128, 1]⟩
abbrev S2048x1536 : Shape := ⟨2, ![2048, 1536]⟩
abbrev S128x1536 : Shape := ⟨2, ![128, 1536]⟩
abbrev S1x1536 : Shape := ⟨2, ![1, 1536]⟩
abbrev S128x768 : Shape := ⟨2, ![128, 768]⟩
abbrev S128x256 : Shape := ⟨2, ![128, 256]⟩
abbrev S768x2048 : Shape := ⟨2, ![768, 2048]⟩
abbrev S1x2048 : Shape := ⟨2, ![1, 2048]⟩
abbrev S16x128 : Shape := ⟨2, ![16, 128]⟩
abbrev S1536x128 : Shape := ⟨2, ![1536, 128]⟩

abbrev nBuf : Space → Nat
  | .hbm => 7
  | .vmem => 16
  | .smem => 5
  | _ => 0

abbrev bufTy : (tb : Table) → Fin (tcTables nBuf tb) → BufTy
  | .hbm, ⟨0, _⟩ => ⟨S8x8x1536, .i32⟩
  | .hbm, ⟨1, _⟩ => ⟨S8x7720x128, .i32⟩
  | .hbm, ⟨2, _⟩ => ⟨S32x2048x1536, .fp8e4m3⟩
  | .hbm, ⟨3, _⟩ => ⟨S32x1x1536, .f32⟩
  | .hbm, ⟨4, _⟩ => ⟨S32x768x2048, .fp8e4m3⟩
  | .hbm, ⟨5, _⟩ => ⟨S32x1x2048, .f32⟩
  | .hbm, ⟨6, _⟩ => ⟨S12288x2048, .bf16⟩
  | .local _ .vmem, ⟨0, _⟩ => ⟨S1x7720x128, .i32⟩
  | .local _ .vmem, ⟨1, _⟩ => ⟨S1x7720x128, .i32⟩
  | .local _ .vmem, ⟨2, _⟩ => ⟨S1x2048x1536, .fp8e4m3⟩
  | .local _ .vmem, ⟨3, _⟩ => ⟨S1x2048x1536, .fp8e4m3⟩
  | .local _ .vmem, ⟨4, _⟩ => ⟨S1x1x1536, .f32⟩
  | .local _ .vmem, ⟨5, _⟩ => ⟨S1x1x1536, .f32⟩
  | .local _ .vmem, ⟨6, _⟩ => ⟨S1x768x2048, .fp8e4m3⟩
  | .local _ .vmem, ⟨7, _⟩ => ⟨S1x768x2048, .fp8e4m3⟩
  | .local _ .vmem, ⟨8, _⟩ => ⟨S1x1x2048, .f32⟩
  | .local _ .vmem, ⟨9, _⟩ => ⟨S1x1x2048, .f32⟩
  | .local _ .vmem, ⟨10, _⟩ => ⟨S1536x2048, .bf16⟩
  | .local _ .vmem, ⟨11, _⟩ => ⟨S1536x2048, .bf16⟩
  | .local _ .vmem, ⟨12, _⟩ => ⟨S26136x128, .f32⟩
  | .local _ .vmem, ⟨13, _⟩ => ⟨S648x128, .i32⟩
  | .local _ .vmem, ⟨14, _⟩ => ⟨S128x2048, .fp8e4m3⟩
  | .local _ .vmem, ⟨15, _⟩ => ⟨S2064x128, .f32⟩
  | .local _ .smem, ⟨0, _⟩ => ⟨S8x32, .i32⟩
  | .local _ .smem, ⟨1, _⟩ => ⟨S8x32, .i32⟩
  | .local _ .smem, ⟨2, _⟩ => ⟨S1x8x1536, .i32⟩
  | .local _ .smem, ⟨3, _⟩ => ⟨S1x8x1536, .i32⟩
  | .local _ .smem, ⟨4, _⟩ => ⟨S16512, .i32⟩
  | _, _ => ⟨S8x8x1536, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨2, _⟩ => true
  | .smem, ⟨3, _⟩ => true
  | .smem, ⟨4, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0 : Ref sig .tc := ⟨.hbm, 6, rfl⟩
abbrev main_arg0 : Ref sig .tc := ⟨.smem, 0, rfl⟩
abbrev main_arg1 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_stg0_0 : Ref sig .tc := ⟨.smem, 2, rfl⟩
abbrev cc0_stg0_1 : Ref sig .tc := ⟨.smem, 3, rfl⟩
abbrev cc0_scratch0 : Ref sig .tc := ⟨.smem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 32], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_13 : BitVec 32 := 0#32
  let c32_i32 : BitVec 32 := 32#32
  let v38 : BitVec 32 := Scalar.addi c0_i32_13 c32_i32
  let c1_i32_14 : BitVec 32 := 1#32
  ⟨c0_i32_13, v38, c1_i32_14⟩
def k0_off1 (i : grid0.Coords) (k0_t1 : Fin k0_t1_loop.trips) : Fin 2 → Nat :=
  let arg0 : BitVec 32 := BitVec.ofNat 32 (i 0).val
  let v40 : Index := Scalar.indexCast arg0
  let c0_i32_13 : BitVec 32 := 0#32
  let c1_i32_14 : BitVec 32 := 1#32
  let arg16 : BitVec 32 := Scf.iv c0_i32_13 c1_i32_14 k0_t1
  let v41 : Index := Scalar.indexCast arg16
  ![v40.toNat, v41.toNat]
def k0_off2 (v42 : BitVec 32) (v45 : BitVec 32) (c0_i32_19 : BitVec 32) : Fin 1 → Nat :=
  let v46 : BitVec 32 := Scalar.addi v42 v45
  let v47 : BitVec 32 := Scalar.addi v46 c0_i32_19
  let v48 : Index := Scalar.indexCast v47
  ![v48.toNat]

def k0_chk1 (i : grid0.Coords) (v42 : BitVec 32) (v45 : BitVec 32) : Prop :=
  (∀ (k0_h1 : k0_cond1 i = 1#1), ∀ (r : Fin 128), ∀ a, (k0_off2 v42 v45 (BitVec.ofNat 32 r.val)) a + S1.size a ≤ S16512.size a)
theorem k0_off2_inb : ∀ (i : grid0.Coords) (v42 : BitVec 32) (v45 : BitVec 32) (k0_hw1 : k0_chk1 i v42 v45), ∀ (k0_h1 : k0_cond1 i = 1#1), ∀ (r : Fin 128), ∀ a, (k0_off2 v42 v45 (BitVec.ofNat 32 r.val)) a + S1.size a ≤ S16512.size a := fun i v42 v45 k0_hw1 k0_h1 r => k0_hw1 k0_h1 r

@[reducible] def k0_t2_loop : Scf.Loop 32 :=
  let c0_i32_16 : BitVec 32 := 0#32
  let c96_i32 : BitVec 32 := 96#32
  let v39 : BitVec 32 := Scalar.addi c0_i32_16 c96_i32
  let c1_i32_17 : BitVec 32 := 1#32
  ⟨c0_i32_16, v39, c1_i32_17⟩
def k0_off3 (k0_t2 : Fin k0_t2_loop.trips) : Fin 3 → Nat :=
  let c0_22 : Index := 0#32
  let c0_23 : Index := 0#32
  let c0_i32_16 : BitVec 32 := 0#32
  let c1_i32_17 : BitVec 32 := 1#32
  let arg16 : BitVec 32 := Scf.iv c0_i32_16 c1_i32_17 k0_t2
  let c16_i32_20 : BitVec 32 := 16#32
  let v42 : BitVec 32 := Scalar.muli arg16 c16_i32_20
  let c0_i32_21 : BitVec 32 := 0#32
  let v43 : BitVec 32 := Scalar.addi v42 c0_i32_21
  let v44 : Index := Scalar.indexCast v43
  ![0, 0, v44.toNat]
def k0_off4 (v45 : BitVec 32) : Fin 1 → Nat :=
  let v46 : Index := Scalar.indexCast v45
  ![v46.toNat]

def k0_chk2 (i : grid0.Coords) (v45 : BitVec 32) : Prop :=
  (∀ (k0_h1 : k0_cond1 i = 1#1), ∀ a, (k0_off4 v45) a + S1.size a ≤ S16512.size a)
theorem k0_off4_inb : ∀ (i : grid0.Coords) (v45 : BitVec 32) (k0_hw2 : k0_chk2 i v45), ∀ (k0_h1 : k0_cond1 i = 1#1), ∀ a, (k0_off4 v45) a + S1.size a ≤ S16512.size a := fun i v45 k0_hw2 k0_h1 => k0_hw2 k0_h1

def k0_off5 (k0_t2 : Fin k0_t2_loop.trips) : Fin 3 → Nat :=
  let c0_28 : Index := 0#32
  let c0_29 : Index := 0#32
  let c0_i32_16 : BitVec 32 := 0#32
  let c1_i32_17 : BitVec 32 := 1#32
  let arg16 : BitVec 32 := Scf.iv c0_i32_16 c1_i32_17 k0_t2
  let c16_i32_26 : BitVec 32 := 16#32
  let v50 : BitVec 32 := Scalar.muli arg16 c16_i32_26
  let c1_i32_27 : BitVec 32 := 1#32
  let v51 : BitVec 32 := Scalar.addi v50 c1_i32_27
  let v52 : Index := Scalar.indexCast v51
  ![0, 0, v52.toNat]
def k0_off6 (v53 : BitVec 32) : Fin 1 → Nat :=
  let v54 : Index := Scalar.indexCast v53
  ![v54.toNat]

def k0_chk3 (i : grid0.Coords) (v53 : BitVec 32) : Prop :=
  (∀ (k0_h1 : k0_cond1 i = 1#1), ∀ a, (k0_off6 v53) a + S1.size a ≤ S16512.size a)
theorem k0_off6_inb : ∀ (i : grid0.Coords) (v53 : BitVec 32) (k0_hw3 : k0_chk3 i v53), ∀ (k0_h1 : k0_cond1 i = 1#1), ∀ a, (k0_off6 v53) a + S1.size a ≤ S16512.size a := fun i v53 k0_hw3 k0_h1 => k0_hw3 k0_h1

def k0_off7 (k0_t2 : Fin k0_t2_loop.trips) : Fin 3 → Nat :=
  let c0_33 : Index := 0#32
  let c0_34 : Index := 0#32
  let c0_i32_16 : BitVec 32 := 0#32
  let c1_i32_17 : BitVec 32 := 1#32
  let arg16 : BitVec 32 := Scf.iv c0_i32_16 c1_i32_17 k0_t2
  let c16_i32_31 : BitVec 32 := 16#32
  let v58 : BitVec 32 := Scalar.muli arg16 c16_i32_31
  let c2_i32_32 : BitVec 32 := 2#32
  let v59 : BitVec 32 := Scalar.addi v58 c2_i32_32
  let v60 : Index := Scalar.indexCast v59
  ![0, 0, v60.toNat]
def k0_off8 (v61 : BitVec 32) : Fin 1 → Nat :=
  let v62 : Index := Scalar.indexCast v61
  ![v62.toNat]

def k0_chk4 (i : grid0.Coords) (v61 : BitVec 32) : Prop :=
  (∀ (k0_h1 : k0_cond1 i = 1#1), ∀ a, (k0_off8 v61) a + S1.size a ≤ S16512.size a)
theorem k0_off8_inb : ∀ (i : grid0.Coords) (v61 : BitVec 32) (k0_hw4 : k0_chk4 i v61), ∀ (k0_h1 : k0_cond1 i = 1#1), ∀ a, (k0_off8 v61) a + S1.size a ≤ S16512.size a := fun i v61 k0_hw4 k0_h1 => k0_hw4 k0_h1

def k0_off9 (k0_t2 : Fin k0_t2_loop.trips) : Fin 3 → Nat :=
  let c0_38 : Index := 0#32
  let c0_39 : Index := 0#32
  let c0_i32_16 : BitVec 32 := 0#32
  let c1_i32_17 : BitVec 32 := 1#32
  let arg16 : BitVec 32 := Scf.iv c0_i32_16 c1_i32_17 k0_t2
  let c16_i32_36 : BitVec 32 := 16#32
  let v66 : BitVec 32 := Scalar.muli arg16 c16_i32_36
  let c3_i32_37 : BitVec 32 := 3#32
  let v67 : BitVec 32 := Scalar.addi v66 c3_i32_37
  let v68 : Index := Scalar.indexCast v67
  ![0, 0, v68.toNat]
def k0_off10 (v69 : BitVec 32) : Fin 1 → Nat :=
  let v70 : Index := Scalar.indexCast v69
  ![v70.toNat]

def k0_chk5 (i : grid0.Coords) (v69 : BitVec 32) : Prop :=
  (∀ (k0_h1 : k0_cond1 i = 1#1), ∀ a, (k0_off10 v69) a + S1.size a ≤ S16512.size a)
theorem k0_off10_inb : ∀ (i : grid0.Coords) (v69 : BitVec 32) (k0_hw5 : k0_chk5 i v69), ∀ (k0_h1 : k0_cond1 i = 1#1), ∀ a, (k0_off10 v69) a + S1.size a ≤ S16512.size a := fun i v69 k0_hw5 k0_h1 => k0_hw5 k0_h1

def k0_off11 (k0_t2 : Fin k0_t2_loop.trips) : Fin 3 → Nat :=
  let c0_43 : Index := 0#32
  let c0_44 : Index := 0#32
  let c0_i32_16 : BitVec 32 := 0#32
  let c1_i32_17 : BitVec 32 := 1#32
  let arg16 : BitVec 32 := Scf.iv c0_i32_16 c1_i32_17 k0_t2
  let c16_i32_41 : BitVec 32 := 16#32
  let v74 : BitVec 32 := Scalar.muli arg16 c16_i32_41
  let c4_i32_42 : BitVec 32 := 4#32
  let v75 : BitVec 32 := Scalar.addi v74 c4_i32_42
  let v76 : Index := Scalar.indexCast v75
  ![0, 0, v76.toNat]
def k0_off12 (v77 : BitVec 32) : Fin 1 → Nat :=
  let v78 : Index := Scalar.indexCast v77
  ![v78.toNat]

def k0_chk6 (i : grid0.Coords) (v77 : BitVec 32) : Prop :=
  (∀ (k0_h1 : k0_cond1 i = 1#1), ∀ a, (k0_off12 v77) a + S1.size a ≤ S16512.size a)
theorem k0_off12_inb : ∀ (i : grid0.Coords) (v77 : BitVec 32) (k0_hw6 : k0_chk6 i v77), ∀ (k0_h1 : k0_cond1 i = 1#1), ∀ a, (k0_off12 v77) a + S1.size a ≤ S16512.size a := fun i v77 k0_hw6 k0_h1 => k0_hw6 k0_h1

def k0_off13 (k0_t2 : Fin k0_t2_loop.trips) : Fin 3 → Nat :=
  let c0_48 : Index := 0#32
  let c0_49 : Index := 0#32
  let c0_i32_16 : BitVec 32 := 0#32
  let c1_i32_17 : BitVec 32 := 1#32
  let arg16 : BitVec 32 := Scf.iv c0_i32_16 c1_i32_17 k0_t2
  let c16_i32_46 : BitVec 32 := 16#32
  let v82 : BitVec 32 := Scalar.muli arg16 c16_i32_46
  let c5_i32_47 : BitVec 32 := 5#32
  let v83 : BitVec 32 := Scalar.addi v82 c5_i32_47
  let v84 : Index := Scalar.indexCast v83
  ![0, 0, v84.toNat]
def k0_off14 (v85 : BitVec 32) : Fin 1 → Nat :=
  let v86 : Index := Scalar.indexCast v85
  ![v86.toNat]

def k0_chk7 (i : grid0.Coords) (v85 : BitVec 32) : Prop :=
  (∀ (k0_h1 : k0_cond1 i = 1#1), ∀ a, (k0_off14 v85) a + S1.size a ≤ S16512.size a)
theorem k0_off14_inb : ∀ (i : grid0.Coords) (v85 : BitVec 32) (k0_hw7 : k0_chk7 i v85), ∀ (k0_h1 : k0_cond1 i = 1#1), ∀ a, (k0_off14 v85) a + S1.size a ≤ S16512.size a := fun i v85 k0_hw7 k0_h1 => k0_hw7 k0_h1

def k0_off15 (k0_t2 : Fin k0_t2_loop.trips) : Fin 3 → Nat :=
  let c0_53 : Index := 0#32
  let c0_54 : Index := 0#32
  let c0_i32_16 : BitVec 32 := 0#32
  let c1_i32_17 : BitVec 32 := 1#32
  let arg16 : BitVec 32 := Scf.iv c0_i32_16 c1_i32_17 k0_t2
  let c16_i32_51 : BitVec 32 := 16#32
  let v90 : BitVec 32 := Scalar.muli arg16 c16_i32_51
  let c6_i32_52 : BitVec 32 := 6#32
  let v91 : BitVec 32 := Scalar.addi v90 c6_i32_52
  let v92 : Index := Scalar.indexCast v91
  ![0, 0, v92.toNat]
def k0_off16 (v93 : BitVec 32) : Fin 1 → Nat :=
  let v94 : Index := Scalar.indexCast v93
  ![v94.toNat]

def k0_chk8 (i : grid0.Coords) (v93 : BitVec 32) : Prop :=
  (∀ (k0_h1 : k0_cond1 i = 1#1), ∀ a, (k0_off16 v93) a + S1.size a ≤ S16512.size a)
theorem k0_off16_inb : ∀ (i : grid0.Coords) (v93 : BitVec 32) (k0_hw8 : k0_chk8 i v93), ∀ (k0_h1 : k0_cond1 i = 1#1), ∀ a, (k0_off16 v93) a + S1.size a ≤ S16512.size a := fun i v93 k0_hw8 k0_h1 => k0_hw8 k0_h1

def k0_off17 (k0_t2 : Fin k0_t2_loop.trips) : Fin 3 → Nat :=
  let c0_58 : Index := 0#32
  let c0_59 : Index := 0#32
  let c0_i32_16 : BitVec 32 := 0#32
  let c1_i32_17 : BitVec 32 := 1#32
  let arg16 : BitVec 32 := Scf.iv c0_i32_16 c1_i32_17 k0_t2
  let c16_i32_56 : BitVec 32 := 16#32
  let v98 : BitVec 32 := Scalar.muli arg16 c16_i32_56
  let c7_i32_57 : BitVec 32 := 7#32
  let v99 : BitVec 32 := Scalar.addi v98 c7_i32_57
  let v100 : Index := Scalar.indexCast v99
  ![0, 0, v100.toNat]
def k0_off18 (v101 : BitVec 32) : Fin 1 → Nat :=
  let v102 : Index := Scalar.indexCast v101
  ![v102.toNat]

def k0_chk9 (i : grid0.Coords) (v101 : BitVec 32) : Prop :=
  (∀ (k0_h1 : k0_cond1 i = 1#1), ∀ a, (k0_off18 v101) a + S1.size a ≤ S16512.size a)
theorem k0_off18_inb : ∀ (i : grid0.Coords) (v101 : BitVec 32) (k0_hw9 : k0_chk9 i v101), ∀ (k0_h1 : k0_cond1 i = 1#1), ∀ a, (k0_off18 v101) a + S1.size a ≤ S16512.size a := fun i v101 k0_hw9 k0_h1 => k0_hw9 k0_h1

def k0_off19 (k0_t2 : Fin k0_t2_loop.trips) : Fin 3 → Nat :=
  let c0_63 : Index := 0#32
  let c0_64 : Index := 0#32
  let c0_i32_16 : BitVec 32 := 0#32
  let c1_i32_17 : BitVec 32 := 1#32
  let arg16 : BitVec 32 := Scf.iv c0_i32_16 c1_i32_17 k0_t2
  let c16_i32_61 : BitVec 32 := 16#32
  let v106 : BitVec 32 := Scalar.muli arg16 c16_i32_61
  let c8_i32_62 : BitVec 32 := 8#32
  let v107 : BitVec 32 := Scalar.addi v106 c8_i32_62
  let v108 : Index := Scalar.indexCast v107
  ![0, 0, v108.toNat]
def k0_off20 (v109 : BitVec 32) : Fin 1 → Nat :=
  let v110 : Index := Scalar.indexCast v109
  ![v110.toNat]

def k0_chk10 (i : grid0.Coords) (v109 : BitVec 32) : Prop :=
  (∀ (k0_h1 : k0_cond1 i = 1#1), ∀ a, (k0_off20 v109) a + S1.size a ≤ S16512.size a)
theorem k0_off20_inb : ∀ (i : grid0.Coords) (v109 : BitVec 32) (k0_hw10 : k0_chk10 i v109), ∀ (k0_h1 : k0_cond1 i = 1#1), ∀ a, (k0_off20 v109) a + S1.size a ≤ S16512.size a := fun i v109 k0_hw10 k0_h1 => k0_hw10 k0_h1

def k0_off21 (k0_t2 : Fin k0_t2_loop.trips) : Fin 3 → Nat :=
  let c0_68 : Index := 0#32
  let c0_69 : Index := 0#32
  let c0_i32_16 : BitVec 32 := 0#32
  let c1_i32_17 : BitVec 32 := 1#32
  let arg16 : BitVec 32 := Scf.iv c0_i32_16 c1_i32_17 k0_t2
  let c16_i32_66 : BitVec 32 := 16#32
  let v114 : BitVec 32 := Scalar.muli arg16 c16_i32_66
  let c9_i32_67 : BitVec 32 := 9#32
  let v115 : BitVec 32 := Scalar.addi v114 c9_i32_67
  let v116 : Index := Scalar.indexCast v115
  ![0, 0, v116.toNat]
def k0_off22 (v117 : BitVec 32) : Fin 1 → Nat :=
  let v118 : Index := Scalar.indexCast v117
  ![v118.toNat]

def k0_chk11 (i : grid0.Coords) (v117 : BitVec 32) : Prop :=
  (∀ (k0_h1 : k0_cond1 i = 1#1), ∀ a, (k0_off22 v117) a + S1.size a ≤ S16512.size a)
theorem k0_off22_inb : ∀ (i : grid0.Coords) (v117 : BitVec 32) (k0_hw11 : k0_chk11 i v117), ∀ (k0_h1 : k0_cond1 i = 1#1), ∀ a, (k0_off22 v117) a + S1.size a ≤ S16512.size a := fun i v117 k0_hw11 k0_h1 => k0_hw11 k0_h1

def k0_off23 (k0_t2 : Fin k0_t2_loop.trips) : Fin 3 → Nat :=
  let c0_73 : Index := 0#32
  let c0_74 : Index := 0#32
  let c0_i32_16 : BitVec 32 := 0#32
  let c1_i32_17 : BitVec 32 := 1#32
  let arg16 : BitVec 32 := Scf.iv c0_i32_16 c1_i32_17 k0_t2
  let c16_i32_71 : BitVec 32 := 16#32
  let v122 : BitVec 32 := Scalar.muli arg16 c16_i32_71
  let c10_i32_72 : BitVec 32 := 10#32
  let v123 : BitVec 32 := Scalar.addi v122 c10_i32_72
  let v124 : Index := Scalar.indexCast v123
  ![0, 0, v124.toNat]
def k0_off24 (v125 : BitVec 32) : Fin 1 → Nat :=
  let v126 : Index := Scalar.indexCast v125
  ![v126.toNat]

def k0_chk12 (i : grid0.Coords) (v125 : BitVec 32) : Prop :=
  (∀ (k0_h1 : k0_cond1 i = 1#1), ∀ a, (k0_off24 v125) a + S1.size a ≤ S16512.size a)
theorem k0_off24_inb : ∀ (i : grid0.Coords) (v125 : BitVec 32) (k0_hw12 : k0_chk12 i v125), ∀ (k0_h1 : k0_cond1 i = 1#1), ∀ a, (k0_off24 v125) a + S1.size a ≤ S16512.size a := fun i v125 k0_hw12 k0_h1 => k0_hw12 k0_h1

def k0_off25 (k0_t2 : Fin k0_t2_loop.trips) : Fin 3 → Nat :=
  let c0_78 : Index := 0#32
  let c0_79 : Index := 0#32
  let c0_i32_16 : BitVec 32 := 0#32
  let c1_i32_17 : BitVec 32 := 1#32
  let arg16 : BitVec 32 := Scf.iv c0_i32_16 c1_i32_17 k0_t2
  let c16_i32_76 : BitVec 32 := 16#32
  let v130 : BitVec 32 := Scalar.muli arg16 c16_i32_76
  let c11_i32_77 : BitVec 32 := 11#32
  let v131 : BitVec 32 := Scalar.addi v130 c11_i32_77
  let v132 : Index := Scalar.indexCast v131
  ![0, 0, v132.toNat]
def k0_off26 (v133 : BitVec 32) : Fin 1 → Nat :=
  let v134 : Index := Scalar.indexCast v133
  ![v134.toNat]

def k0_chk13 (i : grid0.Coords) (v133 : BitVec 32) : Prop :=
  (∀ (k0_h1 : k0_cond1 i = 1#1), ∀ a, (k0_off26 v133) a + S1.size a ≤ S16512.size a)
theorem k0_off26_inb : ∀ (i : grid0.Coords) (v133 : BitVec 32) (k0_hw13 : k0_chk13 i v133), ∀ (k0_h1 : k0_cond1 i = 1#1), ∀ a, (k0_off26 v133) a + S1.size a ≤ S16512.size a := fun i v133 k0_hw13 k0_h1 => k0_hw13 k0_h1

def k0_off27 (k0_t2 : Fin k0_t2_loop.trips) : Fin 3 → Nat :=
  let c0_83 : Index := 0#32
  let c0_84 : Index := 0#32
  let c0_i32_16 : BitVec 32 := 0#32
  let c1_i32_17 : BitVec 32 := 1#32
  let arg16 : BitVec 32 := Scf.iv c0_i32_16 c1_i32_17 k0_t2
  let c16_i32_81 : BitVec 32 := 16#32
  let v138 : BitVec 32 := Scalar.muli arg16 c16_i32_81
  let c12_i32_82 : BitVec 32 := 12#32
  let v139 : BitVec 32 := Scalar.addi v138 c12_i32_82
  let v140 : Index := Scalar.indexCast v139
  ![0, 0, v140.toNat]
def k0_off28 (v141 : BitVec 32) : Fin 1 → Nat :=
  let v142 : Index := Scalar.indexCast v141
  ![v142.toNat]

def k0_chk14 (i : grid0.Coords) (v141 : BitVec 32) : Prop :=
  (∀ (k0_h1 : k0_cond1 i = 1#1), ∀ a, (k0_off28 v141) a + S1.size a ≤ S16512.size a)
theorem k0_off28_inb : ∀ (i : grid0.Coords) (v141 : BitVec 32) (k0_hw14 : k0_chk14 i v141), ∀ (k0_h1 : k0_cond1 i = 1#1), ∀ a, (k0_off28 v141) a + S1.size a ≤ S16512.size a := fun i v141 k0_hw14 k0_h1 => k0_hw14 k0_h1

def k0_off29 (k0_t2 : Fin k0_t2_loop.trips) : Fin 3 → Nat :=
  let c0_88 : Index := 0#32
  let c0_89 : Index := 0#32
  let c0_i32_16 : BitVec 32 := 0#32
  let c1_i32_17 : BitVec 32 := 1#32
  let arg16 : BitVec 32 := Scf.iv c0_i32_16 c1_i32_17 k0_t2
  let c16_i32_86 : BitVec 32 := 16#32
  let v146 : BitVec 32 := Scalar.muli arg16 c16_i32_86
  let c13_i32_87 : BitVec 32 := 13#32
  let v147 : BitVec 32 := Scalar.addi v146 c13_i32_87
  let v148 : Index := Scalar.indexCast v147
  ![0, 0, v148.toNat]
def k0_off30 (v149 : BitVec 32) : Fin 1 → Nat :=
  let v150 : Index := Scalar.indexCast v149
  ![v150.toNat]

def k0_chk15 (i : grid0.Coords) (v149 : BitVec 32) : Prop :=
  (∀ (k0_h1 : k0_cond1 i = 1#1), ∀ a, (k0_off30 v149) a + S1.size a ≤ S16512.size a)
theorem k0_off30_inb : ∀ (i : grid0.Coords) (v149 : BitVec 32) (k0_hw15 : k0_chk15 i v149), ∀ (k0_h1 : k0_cond1 i = 1#1), ∀ a, (k0_off30 v149) a + S1.size a ≤ S16512.size a := fun i v149 k0_hw15 k0_h1 => k0_hw15 k0_h1

def k0_off31 (k0_t2 : Fin k0_t2_loop.trips) : Fin 3 → Nat :=
  let c0_93 : Index := 0#32
  let c0_94 : Index := 0#32
  let c0_i32_16 : BitVec 32 := 0#32
  let c1_i32_17 : BitVec 32 := 1#32
  let arg16 : BitVec 32 := Scf.iv c0_i32_16 c1_i32_17 k0_t2
  let c16_i32_91 : BitVec 32 := 16#32
  let v154 : BitVec 32 := Scalar.muli arg16 c16_i32_91
  let c14_i32_92 : BitVec 32 := 14#32
  let v155 : BitVec 32 := Scalar.addi v154 c14_i32_92
  let v156 : Index := Scalar.indexCast v155
  ![0, 0, v156.toNat]
def k0_off32 (v157 : BitVec 32) : Fin 1 → Nat :=
  let v158 : Index := Scalar.indexCast v157
  ![v158.toNat]

def k0_chk16 (i : grid0.Coords) (v157 : BitVec 32) : Prop :=
  (∀ (k0_h1 : k0_cond1 i = 1#1), ∀ a, (k0_off32 v157) a + S1.size a ≤ S16512.size a)
theorem k0_off32_inb : ∀ (i : grid0.Coords) (v157 : BitVec 32) (k0_hw16 : k0_chk16 i v157), ∀ (k0_h1 : k0_cond1 i = 1#1), ∀ a, (k0_off32 v157) a + S1.size a ≤ S16512.size a := fun i v157 k0_hw16 k0_h1 => k0_hw16 k0_h1

def k0_off33 (k0_t2 : Fin k0_t2_loop.trips) : Fin 3 → Nat :=
  let c0_98 : Index := 0#32
  let c0_99 : Index := 0#32
  let c0_i32_16 : BitVec 32 := 0#32
  let c1_i32_17 : BitVec 32 := 1#32
  let arg16 : BitVec 32 := Scf.iv c0_i32_16 c1_i32_17 k0_t2
  let c16_i32_96 : BitVec 32 := 16#32
  let v162 : BitVec 32 := Scalar.muli arg16 c16_i32_96
  let c15_i32_97 : BitVec 32 := 15#32
  let v163 : BitVec 32 := Scalar.addi v162 c15_i32_97
  let v164 : Index := Scalar.indexCast v163
  ![0, 0, v164.toNat]
def k0_off34 (v165 : BitVec 32) : Fin 1 → Nat :=
  let v166 : Index := Scalar.indexCast v165
  ![v166.toNat]

def k0_chk17 (i : grid0.Coords) (v165 : BitVec 32) : Prop :=
  (∀ (k0_h1 : k0_cond1 i = 1#1), ∀ a, (k0_off34 v165) a + S1.size a ≤ S16512.size a)
theorem k0_off34_inb : ∀ (i : grid0.Coords) (v165 : BitVec 32) (k0_hw17 : k0_chk17 i v165), ∀ (k0_h1 : k0_cond1 i = 1#1), ∀ a, (k0_off34 v165) a + S1.size a ≤ S16512.size a := fun i v165 k0_hw17 k0_h1 => k0_hw17 k0_h1

def k0_off35 (k0_t2 : Fin k0_t2_loop.trips) : Fin 3 → Nat :=
  let c0_104 : Index := 0#32
  let c1 : Index := 1#32
  let c0_i32_16 : BitVec 32 := 0#32
  let c1_i32_17 : BitVec 32 := 1#32
  let arg16 : BitVec 32 := Scf.iv c0_i32_16 c1_i32_17 k0_t2
  let c16_i32_102 : BitVec 32 := 16#32
  let v170 : BitVec 32 := Scalar.muli arg16 c16_i32_102
  let c0_i32_103 : BitVec 32 := 0#32
  let v171 : BitVec 32 := Scalar.addi v170 c0_i32_103
  let v172 : Index := Scalar.indexCast v171
  ![0, 1, v172.toNat]
def k0_off36 (v173 : BitVec 32) : Fin 1 → Nat :=
  let v174 : Index := Scalar.indexCast v173
  ![v174.toNat]

def k0_chk18 (i : grid0.Coords) (v173 : BitVec 32) : Prop :=
  (∀ (k0_h1 : k0_cond1 i = 1#1), ∀ a, (k0_off36 v173) a + S1.size a ≤ S16512.size a)
theorem k0_off36_inb : ∀ (i : grid0.Coords) (v173 : BitVec 32) (k0_hw18 : k0_chk18 i v173), ∀ (k0_h1 : k0_cond1 i = 1#1), ∀ a, (k0_off36 v173) a + S1.size a ≤ S16512.size a := fun i v173 k0_hw18 k0_h1 => k0_hw18 k0_h1

def k0_off37 (k0_t2 : Fin k0_t2_loop.trips) : Fin 3 → Nat :=
  let c0_109 : Index := 0#32
  let c1_110 : Index := 1#32
  let c0_i32_16 : BitVec 32 := 0#32
  let c1_i32_17 : BitVec 32 := 1#32
  let arg16 : BitVec 32 := Scf.iv c0_i32_16 c1_i32_17 k0_t2
  let c16_i32_107 : BitVec 32 := 16#32
  let v178 : BitVec 32 := Scalar.muli arg16 c16_i32_107
  let c1_i32_108 : BitVec 32 := 1#32
  let v179 : BitVec 32 := Scalar.addi v178 c1_i32_108
  let v180 : Index := Scalar.indexCast v179
  ![0, 1, v180.toNat]
def k0_off38 (v181 : BitVec 32) : Fin 1 → Nat :=
  let v182 : Index := Scalar.indexCast v181
  ![v182.toNat]

def k0_chk19 (i : grid0.Coords) (v181 : BitVec 32) : Prop :=
  (∀ (k0_h1 : k0_cond1 i = 1#1), ∀ a, (k0_off38 v181) a + S1.size a ≤ S16512.size a)
theorem k0_off38_inb : ∀ (i : grid0.Coords) (v181 : BitVec 32) (k0_hw19 : k0_chk19 i v181), ∀ (k0_h1 : k0_cond1 i = 1#1), ∀ a, (k0_off38 v181) a + S1.size a ≤ S16512.size a := fun i v181 k0_hw19 k0_h1 => k0_hw19 k0_h1

def k0_off39 (k0_t2 : Fin k0_t2_loop.trips) : Fin 3 → Nat :=
  let c0_115 : Index := 0#32
  let c1_116 : Index := 1#32
  let c0_i32_16 : BitVec 32 := 0#32
  let c1_i32_17 : BitVec 32 := 1#32
  let arg16 : BitVec 32 := Scf.iv c0_i32_16 c1_i32_17 k0_t2
  let c16_i32_113 : BitVec 32 := 16#32
  let v186 : BitVec 32 := Scalar.muli arg16 c16_i32_113
  let c2_i32_114 : BitVec 32 := 2#32
  let v187 : BitVec 32 := Scalar.addi v186 c2_i32_114
  let v188 : Index := Scalar.indexCast v187
  ![0, 1, v188.toNat]
def k0_off40 (v189 : BitVec 32) : Fin 1 → Nat :=
  let v190 : Index := Scalar.indexCast v189
  ![v190.toNat]

def k0_chk20 (i : grid0.Coords) (v189 : BitVec 32) : Prop :=
  (∀ (k0_h1 : k0_cond1 i = 1#1), ∀ a, (k0_off40 v189) a + S1.size a ≤ S16512.size a)
theorem k0_off40_inb : ∀ (i : grid0.Coords) (v189 : BitVec 32) (k0_hw20 : k0_chk20 i v189), ∀ (k0_h1 : k0_cond1 i = 1#1), ∀ a, (k0_off40 v189) a + S1.size a ≤ S16512.size a := fun i v189 k0_hw20 k0_h1 => k0_hw20 k0_h1

def k0_off41 (k0_t2 : Fin k0_t2_loop.trips) : Fin 3 → Nat :=
  let c0_121 : Index := 0#32
  let c1_122 : Index := 1#32
  let c0_i32_16 : BitVec 32 := 0#32
  let c1_i32_17 : BitVec 32 := 1#32
  let arg16 : BitVec 32 := Scf.iv c0_i32_16 c1_i32_17 k0_t2
  let c16_i32_119 : BitVec 32 := 16#32
  let v194 : BitVec 32 := Scalar.muli arg16 c16_i32_119
  let c3_i32_120 : BitVec 32 := 3#32
  let v195 : BitVec 32 := Scalar.addi v194 c3_i32_120
  let v196 : Index := Scalar.indexCast v195
  ![0, 1, v196.toNat]
def k0_off42 (v197 : BitVec 32) : Fin 1 → Nat :=
  let v198 : Index := Scalar.indexCast v197
  ![v198.toNat]

def k0_chk21 (i : grid0.Coords) (v197 : BitVec 32) : Prop :=
  (∀ (k0_h1 : k0_cond1 i = 1#1), ∀ a, (k0_off42 v197) a + S1.size a ≤ S16512.size a)
theorem k0_off42_inb : ∀ (i : grid0.Coords) (v197 : BitVec 32) (k0_hw21 : k0_chk21 i v197), ∀ (k0_h1 : k0_cond1 i = 1#1), ∀ a, (k0_off42 v197) a + S1.size a ≤ S16512.size a := fun i v197 k0_hw21 k0_h1 => k0_hw21 k0_h1

def k0_off43 (k0_t2 : Fin k0_t2_loop.trips) : Fin 3 → Nat :=
  let c0_127 : Index := 0#32
  let c1_128 : Index := 1#32
  let c0_i32_16 : BitVec 32 := 0#32
  let c1_i32_17 : BitVec 32 := 1#32
  let arg16 : BitVec 32 := Scf.iv c0_i32_16 c1_i32_17 k0_t2
  let c16_i32_125 : BitVec 32 := 16#32
  let v202 : BitVec 32 := Scalar.muli arg16 c16_i32_125
  let c4_i32_126 : BitVec 32 := 4#32
  let v203 : BitVec 32 := Scalar.addi v202 c4_i32_126
  let v204 : Index := Scalar.indexCast v203
  ![0, 1, v204.toNat]
def k0_off44 (v205 : BitVec 32) : Fin 1 → Nat :=
  let v206 : Index := Scalar.indexCast v205
  ![v206.toNat]

def k0_chk22 (i : grid0.Coords) (v205 : BitVec 32) : Prop :=
  (∀ (k0_h1 : k0_cond1 i = 1#1), ∀ a, (k0_off44 v205) a + S1.size a ≤ S16512.size a)
theorem k0_off44_inb : ∀ (i : grid0.Coords) (v205 : BitVec 32) (k0_hw22 : k0_chk22 i v205), ∀ (k0_h1 : k0_cond1 i = 1#1), ∀ a, (k0_off44 v205) a + S1.size a ≤ S16512.size a := fun i v205 k0_hw22 k0_h1 => k0_hw22 k0_h1

def k0_off45 (k0_t2 : Fin k0_t2_loop.trips) : Fin 3 → Nat :=
  let c0_133 : Index := 0#32
  let c1_134 : Index := 1#32
  let c0_i32_16 : BitVec 32 := 0#32
  let c1_i32_17 : BitVec 32 := 1#32
  let arg16 : BitVec 32 := Scf.iv c0_i32_16 c1_i32_17 k0_t2
  let c16_i32_131 : BitVec 32 := 16#32
  let v210 : BitVec 32 := Scalar.muli arg16 c16_i32_131
  let c5_i32_132 : BitVec 32 := 5#32
  let v211 : BitVec 32 := Scalar.addi v210 c5_i32_132
  let v212 : Index := Scalar.indexCast v211
  ![0, 1, v212.toNat]
def k0_off46 (v213 : BitVec 32) : Fin 1 → Nat :=
  let v214 : Index := Scalar.indexCast v213
  ![v214.toNat]

def k0_chk23 (i : grid0.Coords) (v213 : BitVec 32) : Prop :=
  (∀ (k0_h1 : k0_cond1 i = 1#1), ∀ a, (k0_off46 v213) a + S1.size a ≤ S16512.size a)
theorem k0_off46_inb : ∀ (i : grid0.Coords) (v213 : BitVec 32) (k0_hw23 : k0_chk23 i v213), ∀ (k0_h1 : k0_cond1 i = 1#1), ∀ a, (k0_off46 v213) a + S1.size a ≤ S16512.size a := fun i v213 k0_hw23 k0_h1 => k0_hw23 k0_h1

def k0_off47 (k0_t2 : Fin k0_t2_loop.trips) : Fin 3 → Nat :=
  let c0_139 : Index := 0#32
  let c1_140 : Index := 1#32
  let c0_i32_16 : BitVec 32 := 0#32
  let c1_i32_17 : BitVec 32 := 1#32
  let arg16 : BitVec 32 := Scf.iv c0_i32_16 c1_i32_17 k0_t2
  let c16_i32_137 : BitVec 32 := 16#32
  let v218 : BitVec 32 := Scalar.muli arg16 c16_i32_137
  let c6_i32_138 : BitVec 32 := 6#32
  let v219 : BitVec 32 := Scalar.addi v218 c6_i32_138
  let v220 : Index := Scalar.indexCast v219
  ![0, 1, v220.toNat]
def k0_off48 (v221 : BitVec 32) : Fin 1 → Nat :=
  let v222 : Index := Scalar.indexCast v221
  ![v222.toNat]

def k0_chk24 (i : grid0.Coords) (v221 : BitVec 32) : Prop :=
  (∀ (k0_h1 : k0_cond1 i = 1#1), ∀ a, (k0_off48 v221) a + S1.size a ≤ S16512.size a)
theorem k0_off48_inb : ∀ (i : grid0.Coords) (v221 : BitVec 32) (k0_hw24 : k0_chk24 i v221), ∀ (k0_h1 : k0_cond1 i = 1#1), ∀ a, (k0_off48 v221) a + S1.size a ≤ S16512.size a := fun i v221 k0_hw24 k0_h1 => k0_hw24 k0_h1

def k0_off49 (k0_t2 : Fin k0_t2_loop.trips) : Fin 3 → Nat :=
  let c0_145 : Index := 0#32
  let c1_146 : Index := 1#32
  let c0_i32_16 : BitVec 32 := 0#32
  let c1_i32_17 : BitVec 32 := 1#32
  let arg16 : BitVec 32 := Scf.iv c0_i32_16 c1_i32_17 k0_t2
  let c16_i32_143 : BitVec 32 := 16#32
  let v226 : BitVec 32 := Scalar.muli arg16 c16_i32_143
  let c7_i32_144 : BitVec 32 := 7#32
  let v227 : BitVec 32 := Scalar.addi v226 c7_i32_144
  let v228 : Index := Scalar.indexCast v227
  ![0, 1, v228.toNat]
def k0_off50 (v229 : BitVec 32) : Fin 1 → Nat :=
  let v230 : Index := Scalar.indexCast v229
  ![v230.toNat]

def k0_chk25 (i : grid0.Coords) (v229 : BitVec 32) : Prop :=
  (∀ (k0_h1 : k0_cond1 i = 1#1), ∀ a, (k0_off50 v229) a + S1.size a ≤ S16512.size a)
theorem k0_off50_inb : ∀ (i : grid0.Coords) (v229 : BitVec 32) (k0_hw25 : k0_chk25 i v229), ∀ (k0_h1 : k0_cond1 i = 1#1), ∀ a, (k0_off50 v229) a + S1.size a ≤ S16512.size a := fun i v229 k0_hw25 k0_h1 => k0_hw25 k0_h1

def k0_off51 (k0_t2 : Fin k0_t2_loop.trips) : Fin 3 → Nat :=
  let c0_151 : Index := 0#32
  let c1_152 : Index := 1#32
  let c0_i32_16 : BitVec 32 := 0#32
  let c1_i32_17 : BitVec 32 := 1#32
  let arg16 : BitVec 32 := Scf.iv c0_i32_16 c1_i32_17 k0_t2
  let c16_i32_149 : BitVec 32 := 16#32
  let v234 : BitVec 32 := Scalar.muli arg16 c16_i32_149
  let c8_i32_150 : BitVec 32 := 8#32
  let v235 : BitVec 32 := Scalar.addi v234 c8_i32_150
  let v236 : Index := Scalar.indexCast v235
  ![0, 1, v236.toNat]
def k0_off52 (v237 : BitVec 32) : Fin 1 → Nat :=
  let v238 : Index := Scalar.indexCast v237
  ![v238.toNat]

def k0_chk26 (i : grid0.Coords) (v237 : BitVec 32) : Prop :=
  (∀ (k0_h1 : k0_cond1 i = 1#1), ∀ a, (k0_off52 v237) a + S1.size a ≤ S16512.size a)
theorem k0_off52_inb : ∀ (i : grid0.Coords) (v237 : BitVec 32) (k0_hw26 : k0_chk26 i v237), ∀ (k0_h1 : k0_cond1 i = 1#1), ∀ a, (k0_off52 v237) a + S1.size a ≤ S16512.size a := fun i v237 k0_hw26 k0_h1 => k0_hw26 k0_h1

def k0_off53 (k0_t2 : Fin k0_t2_loop.trips) : Fin 3 → Nat :=
  let c0_157 : Index := 0#32
  let c1_158 : Index := 1#32
  let c0_i32_16 : BitVec 32 := 0#32
  let c1_i32_17 : BitVec 32 := 1#32
  let arg16 : BitVec 32 := Scf.iv c0_i32_16 c1_i32_17 k0_t2
  let c16_i32_155 : BitVec 32 := 16#32
  let v242 : BitVec 32 := Scalar.muli arg16 c16_i32_155
  let c9_i32_156 : BitVec 32 := 9#32
  let v243 : BitVec 32 := Scalar.addi v242 c9_i32_156
  let v244 : Index := Scalar.indexCast v243
  ![0, 1, v244.toNat]
def k0_off54 (v245 : BitVec 32) : Fin 1 → Nat :=
  let v246 : Index := Scalar.indexCast v245
  ![v246.toNat]

def k0_chk27 (i : grid0.Coords) (v245 : BitVec 32) : Prop :=
  (∀ (k0_h1 : k0_cond1 i = 1#1), ∀ a, (k0_off54 v245) a + S1.size a ≤ S16512.size a)
theorem k0_off54_inb : ∀ (i : grid0.Coords) (v245 : BitVec 32) (k0_hw27 : k0_chk27 i v245), ∀ (k0_h1 : k0_cond1 i = 1#1), ∀ a, (k0_off54 v245) a + S1.size a ≤ S16512.size a := fun i v245 k0_hw27 k0_h1 => k0_hw27 k0_h1

def k0_off55 (k0_t2 : Fin k0_t2_loop.trips) : Fin 3 → Nat :=
  let c0_163 : Index := 0#32
  let c1_164 : Index := 1#32
  let c0_i32_16 : BitVec 32 := 0#32
  let c1_i32_17 : BitVec 32 := 1#32
  let arg16 : BitVec 32 := Scf.iv c0_i32_16 c1_i32_17 k0_t2
  let c16_i32_161 : BitVec 32 := 16#32
  let v250 : BitVec 32 := Scalar.muli arg16 c16_i32_161
  let c10_i32_162 : BitVec 32 := 10#32
  let v251 : BitVec 32 := Scalar.addi v250 c10_i32_162
  let v252 : Index := Scalar.indexCast v251
  ![0, 1, v252.toNat]
def k0_off56 (v253 : BitVec 32) : Fin 1 → Nat :=
  let v254 : Index := Scalar.indexCast v253
  ![v254.toNat]

def k0_chk28 (i : grid0.Coords) (v253 : BitVec 32) : Prop :=
  (∀ (k0_h1 : k0_cond1 i = 1#1), ∀ a, (k0_off56 v253) a + S1.size a ≤ S16512.size a)
theorem k0_off56_inb : ∀ (i : grid0.Coords) (v253 : BitVec 32) (k0_hw28 : k0_chk28 i v253), ∀ (k0_h1 : k0_cond1 i = 1#1), ∀ a, (k0_off56 v253) a + S1.size a ≤ S16512.size a := fun i v253 k0_hw28 k0_h1 => k0_hw28 k0_h1

def k0_off57 (k0_t2 : Fin k0_t2_loop.trips) : Fin 3 → Nat :=
  let c0_169 : Index := 0#32
  let c1_170 : Index := 1#32
  let c0_i32_16 : BitVec 32 := 0#32
  let c1_i32_17 : BitVec 32 := 1#32
  let arg16 : BitVec 32 := Scf.iv c0_i32_16 c1_i32_17 k0_t2
  let c16_i32_167 : BitVec 32 := 16#32
  let v258 : BitVec 32 := Scalar.muli arg16 c16_i32_167
  let c11_i32_168 : BitVec 32 := 11#32
  let v259 : BitVec 32 := Scalar.addi v258 c11_i32_168
  let v260 : Index := Scalar.indexCast v259
  ![0, 1, v260.toNat]
def k0_off58 (v261 : BitVec 32) : Fin 1 → Nat :=
  let v262 : Index := Scalar.indexCast v261
  ![v262.toNat]

def k0_chk29 (i : grid0.Coords) (v261 : BitVec 32) : Prop :=
  (∀ (k0_h1 : k0_cond1 i = 1#1), ∀ a, (k0_off58 v261) a + S1.size a ≤ S16512.size a)
theorem k0_off58_inb : ∀ (i : grid0.Coords) (v261 : BitVec 32) (k0_hw29 : k0_chk29 i v261), ∀ (k0_h1 : k0_cond1 i = 1#1), ∀ a, (k0_off58 v261) a + S1.size a ≤ S16512.size a := fun i v261 k0_hw29 k0_h1 => k0_hw29 k0_h1

def k0_off59 (k0_t2 : Fin k0_t2_loop.trips) : Fin 3 → Nat :=
  let c0_175 : Index := 0#32
  let c1_176 : Index := 1#32
  let c0_i32_16 : BitVec 32 := 0#32
  let c1_i32_17 : BitVec 32 := 1#32
  let arg16 : BitVec 32 := Scf.iv c0_i32_16 c1_i32_17 k0_t2
  let c16_i32_173 : BitVec 32 := 16#32
  let v266 : BitVec 32 := Scalar.muli arg16 c16_i32_173
  let c12_i32_174 : BitVec 32 := 12#32
  let v267 : BitVec 32 := Scalar.addi v266 c12_i32_174
  let v268 : Index := Scalar.indexCast v267
  ![0, 1, v268.toNat]
def k0_off60 (v269 : BitVec 32) : Fin 1 → Nat :=
  let v270 : Index := Scalar.indexCast v269
  ![v270.toNat]

def k0_chk30 (i : grid0.Coords) (v269 : BitVec 32) : Prop :=
  (∀ (k0_h1 : k0_cond1 i = 1#1), ∀ a, (k0_off60 v269) a + S1.size a ≤ S16512.size a)
theorem k0_off60_inb : ∀ (i : grid0.Coords) (v269 : BitVec 32) (k0_hw30 : k0_chk30 i v269), ∀ (k0_h1 : k0_cond1 i = 1#1), ∀ a, (k0_off60 v269) a + S1.size a ≤ S16512.size a := fun i v269 k0_hw30 k0_h1 => k0_hw30 k0_h1

def k0_off61 (k0_t2 : Fin k0_t2_loop.trips) : Fin 3 → Nat :=
  let c0_181 : Index := 0#32
  let c1_182 : Index := 1#32
  let c0_i32_16 : BitVec 32 := 0#32
  let c1_i32_17 : BitVec 32 := 1#32
  let arg16 : BitVec 32 := Scf.iv c0_i32_16 c1_i32_17 k0_t2
  let c16_i32_179 : BitVec 32 := 16#32
  let v274 : BitVec 32 := Scalar.muli arg16 c16_i32_179
  let c13_i32_180 : BitVec 32 := 13#32
  let v275 : BitVec 32 := Scalar.addi v274 c13_i32_180
  let v276 : Index := Scalar.indexCast v275
  ![0, 1, v276.toNat]
def k0_off62 (v277 : BitVec 32) : Fin 1 → Nat :=
  let v278 : Index := Scalar.indexCast v277
  ![v278.toNat]

def k0_chk31 (i : grid0.Coords) (v277 : BitVec 32) : Prop :=
  (∀ (k0_h1 : k0_cond1 i = 1#1), ∀ a, (k0_off62 v277) a + S1.size a ≤ S16512.size a)
theorem k0_off62_inb : ∀ (i : grid0.Coords) (v277 : BitVec 32) (k0_hw31 : k0_chk31 i v277), ∀ (k0_h1 : k0_cond1 i = 1#1), ∀ a, (k0_off62 v277) a + S1.size a ≤ S16512.size a := fun i v277 k0_hw31 k0_h1 => k0_hw31 k0_h1

def k0_off63 (k0_t2 : Fin k0_t2_loop.trips) : Fin 3 → Nat :=
  let c0_187 : Index := 0#32
  let c1_188 : Index := 1#32
  let c0_i32_16 : BitVec 32 := 0#32
  let c1_i32_17 : BitVec 32 := 1#32
  let arg16 : BitVec 32 := Scf.iv c0_i32_16 c1_i32_17 k0_t2
  let c16_i32_185 : BitVec 32 := 16#32
  let v282 : BitVec 32 := Scalar.muli arg16 c16_i32_185
  let c14_i32_186 : BitVec 32 := 14#32
  let v283 : BitVec 32 := Scalar.addi v282 c14_i32_186
  let v284 : Index := Scalar.indexCast v283
  ![0, 1, v284.toNat]
def k0_off64 (v285 : BitVec 32) : Fin 1 → Nat :=
  let v286 : Index := Scalar.indexCast v285
  ![v286.toNat]

def k0_chk32 (i : grid0.Coords) (v285 : BitVec 32) : Prop :=
  (∀ (k0_h1 : k0_cond1 i = 1#1), ∀ a, (k0_off64 v285) a + S1.size a ≤ S16512.size a)
theorem k0_off64_inb : ∀ (i : grid0.Coords) (v285 : BitVec 32) (k0_hw32 : k0_chk32 i v285), ∀ (k0_h1 : k0_cond1 i = 1#1), ∀ a, (k0_off64 v285) a + S1.size a ≤ S16512.size a := fun i v285 k0_hw32 k0_h1 => k0_hw32 k0_h1

def k0_off65 (k0_t2 : Fin k0_t2_loop.trips) : Fin 3 → Nat :=
  let c0_193 : Index := 0#32
  let c1_194 : Index := 1#32
  let c0_i32_16 : BitVec 32 := 0#32
  let c1_i32_17 : BitVec 32 := 1#32
  let arg16 : BitVec 32 := Scf.iv c0_i32_16 c1_i32_17 k0_t2
  let c16_i32_191 : BitVec 32 := 16#32
  let v290 : BitVec 32 := Scalar.muli arg16 c16_i32_191
  let c15_i32_192 : BitVec 32 := 15#32
  let v291 : BitVec 32 := Scalar.addi v290 c15_i32_192
  let v292 : Index := Scalar.indexCast v291
  ![0, 1, v292.toNat]
def k0_off66 (v293 : BitVec 32) : Fin 1 → Nat :=
  let v294 : Index := Scalar.indexCast v293
  ![v294.toNat]

def k0_chk33 (i : grid0.Coords) (v293 : BitVec 32) : Prop :=
  (∀ (k0_h1 : k0_cond1 i = 1#1), ∀ a, (k0_off66 v293) a + S1.size a ≤ S16512.size a)
theorem k0_off66_inb : ∀ (i : grid0.Coords) (v293 : BitVec 32) (k0_hw33 : k0_chk33 i v293), ∀ (k0_h1 : k0_cond1 i = 1#1), ∀ a, (k0_off66 v293) a + S1.size a ≤ S16512.size a := fun i v293 k0_hw33 k0_h1 => k0_hw33 k0_h1

def k0_off67 (k0_t2 : Fin k0_t2_loop.trips) : Fin 3 → Nat :=
  let c0_199 : Index := 0#32
  let c2 : Index := 2#32
  let c0_i32_16 : BitVec 32 := 0#32
  let c1_i32_17 : BitVec 32 := 1#32
  let arg16 : BitVec 32 := Scf.iv c0_i32_16 c1_i32_17 k0_t2
  let c16_i32_197 : BitVec 32 := 16#32
  let v298 : BitVec 32 := Scalar.muli arg16 c16_i32_197
  let c0_i32_198 : BitVec 32 := 0#32
  let v299 : BitVec 32 := Scalar.addi v298 c0_i32_198
  let v300 : Index := Scalar.indexCast v299
  ![0, 2, v300.toNat]
def k0_off68 (v301 : BitVec 32) : Fin 1 → Nat :=
  let v302 : Index := Scalar.indexCast v301
  ![v302.toNat]

def k0_chk34 (i : grid0.Coords) (v301 : BitVec 32) : Prop :=
  (∀ (k0_h1 : k0_cond1 i = 1#1), ∀ a, (k0_off68 v301) a + S1.size a ≤ S16512.size a)
theorem k0_off68_inb : ∀ (i : grid0.Coords) (v301 : BitVec 32) (k0_hw34 : k0_chk34 i v301), ∀ (k0_h1 : k0_cond1 i = 1#1), ∀ a, (k0_off68 v301) a + S1.size a ≤ S16512.size a := fun i v301 k0_hw34 k0_h1 => k0_hw34 k0_h1

def k0_off69 (k0_t2 : Fin k0_t2_loop.trips) : Fin 3 → Nat :=
  let c0_204 : Index := 0#32
  let c2_205 : Index := 2#32
  let c0_i32_16 : BitVec 32 := 0#32
  let c1_i32_17 : BitVec 32 := 1#32
  let arg16 : BitVec 32 := Scf.iv c0_i32_16 c1_i32_17 k0_t2
  let c16_i32_202 : BitVec 32 := 16#32
  let v306 : BitVec 32 := Scalar.muli arg16 c16_i32_202
  let c1_i32_203 : BitVec 32 := 1#32
  let v307 : BitVec 32 := Scalar.addi v306 c1_i32_203
  let v308 : Index := Scalar.indexCast v307
  ![0, 2, v308.toNat]
def k0_off70 (v309 : BitVec 32) : Fin 1 → Nat :=
  let v310 : Index := Scalar.indexCast v309
  ![v310.toNat]

def k0_chk35 (i : grid0.Coords) (v309 : BitVec 32) : Prop :=
  (∀ (k0_h1 : k0_cond1 i = 1#1), ∀ a, (k0_off70 v309) a + S1.size a ≤ S16512.size a)
theorem k0_off70_inb : ∀ (i : grid0.Coords) (v309 : BitVec 32) (k0_hw35 : k0_chk35 i v309), ∀ (k0_h1 : k0_cond1 i = 1#1), ∀ a, (k0_off70 v309) a + S1.size a ≤ S16512.size a := fun i v309 k0_hw35 k0_h1 => k0_hw35 k0_h1

def k0_off71 (k0_t2 : Fin k0_t2_loop.trips) : Fin 3 → Nat :=
  let c0_210 : Index := 0#32
  let c2_211 : Index := 2#32
  let c0_i32_16 : BitVec 32 := 0#32
  let c1_i32_17 : BitVec 32 := 1#32
  let arg16 : BitVec 32 := Scf.iv c0_i32_16 c1_i32_17 k0_t2
  let c16_i32_208 : BitVec 32 := 16#32
  let v314 : BitVec 32 := Scalar.muli arg16 c16_i32_208
  let c2_i32_209 : BitVec 32 := 2#32
  let v315 : BitVec 32 := Scalar.addi v314 c2_i32_209
  let v316 : Index := Scalar.indexCast v315
  ![0, 2, v316.toNat]
def k0_off72 (v317 : BitVec 32) : Fin 1 → Nat :=
  let v318 : Index := Scalar.indexCast v317
  ![v318.toNat]

def k0_chk36 (i : grid0.Coords) (v317 : BitVec 32) : Prop :=
  (∀ (k0_h1 : k0_cond1 i = 1#1), ∀ a, (k0_off72 v317) a + S1.size a ≤ S16512.size a)
theorem k0_off72_inb : ∀ (i : grid0.Coords) (v317 : BitVec 32) (k0_hw36 : k0_chk36 i v317), ∀ (k0_h1 : k0_cond1 i = 1#1), ∀ a, (k0_off72 v317) a + S1.size a ≤ S16512.size a := fun i v317 k0_hw36 k0_h1 => k0_hw36 k0_h1

def k0_off73 (k0_t2 : Fin k0_t2_loop.trips) : Fin 3 → Nat :=
  let c0_216 : Index := 0#32
  let c2_217 : Index := 2#32
  let c0_i32_16 : BitVec 32 := 0#32
  let c1_i32_17 : BitVec 32 := 1#32
  let arg16 : BitVec 32 := Scf.iv c0_i32_16 c1_i32_17 k0_t2
  let c16_i32_214 : BitVec 32 := 16#32
  let v322 : BitVec 32 := Scalar.muli arg16 c16_i32_214
  let c3_i32_215 : BitVec 32 := 3#32
  let v323 : BitVec 32 := Scalar.addi v322 c3_i32_215
  let v324 : Index := Scalar.indexCast v323
  ![0, 2, v324.toNat]
def k0_off74 (v325 : BitVec 32) : Fin 1 → Nat :=
  let v326 : Index := Scalar.indexCast v325
  ![v326.toNat]

def k0_chk37 (i : grid0.Coords) (v325 : BitVec 32) : Prop :=
  (∀ (k0_h1 : k0_cond1 i = 1#1), ∀ a, (k0_off74 v325) a + S1.size a ≤ S16512.size a)
theorem k0_off74_inb : ∀ (i : grid0.Coords) (v325 : BitVec 32) (k0_hw37 : k0_chk37 i v325), ∀ (k0_h1 : k0_cond1 i = 1#1), ∀ a, (k0_off74 v325) a + S1.size a ≤ S16512.size a := fun i v325 k0_hw37 k0_h1 => k0_hw37 k0_h1

def k0_off75 (k0_t2 : Fin k0_t2_loop.trips) : Fin 3 → Nat :=
  let c0_222 : Index := 0#32
  let c2_223 : Index := 2#32
  let c0_i32_16 : BitVec 32 := 0#32
  let c1_i32_17 : BitVec 32 := 1#32
  let arg16 : BitVec 32 := Scf.iv c0_i32_16 c1_i32_17 k0_t2
  let c16_i32_220 : BitVec 32 := 16#32
  let v330 : BitVec 32 := Scalar.muli arg16 c16_i32_220
  let c4_i32_221 : BitVec 32 := 4#32
  let v331 : BitVec 32 := Scalar.addi v330 c4_i32_221
  let v332 : Index := Scalar.indexCast v331
  ![0, 2, v332.toNat]
def k0_off76 (v333 : BitVec 32) : Fin 1 → Nat :=
  let v334 : Index := Scalar.indexCast v333
  ![v334.toNat]

def k0_chk38 (i : grid0.Coords) (v333 : BitVec 32) : Prop :=
  (∀ (k0_h1 : k0_cond1 i = 1#1), ∀ a, (k0_off76 v333) a + S1.size a ≤ S16512.size a)
theorem k0_off76_inb : ∀ (i : grid0.Coords) (v333 : BitVec 32) (k0_hw38 : k0_chk38 i v333), ∀ (k0_h1 : k0_cond1 i = 1#1), ∀ a, (k0_off76 v333) a + S1.size a ≤ S16512.size a := fun i v333 k0_hw38 k0_h1 => k0_hw38 k0_h1

def k0_off77 (k0_t2 : Fin k0_t2_loop.trips) : Fin 3 → Nat :=
  let c0_228 : Index := 0#32
  let c2_229 : Index := 2#32
  let c0_i32_16 : BitVec 32 := 0#32
  let c1_i32_17 : BitVec 32 := 1#32
  let arg16 : BitVec 32 := Scf.iv c0_i32_16 c1_i32_17 k0_t2
  let c16_i32_226 : BitVec 32 := 16#32
  let v338 : BitVec 32 := Scalar.muli arg16 c16_i32_226
  let c5_i32_227 : BitVec 32 := 5#32
  let v339 : BitVec 32 := Scalar.addi v338 c5_i32_227
  let v340 : Index := Scalar.indexCast v339
  ![0, 2, v340.toNat]
def k0_off78 (v341 : BitVec 32) : Fin 1 → Nat :=
  let v342 : Index := Scalar.indexCast v341
  ![v342.toNat]

def k0_chk39 (i : grid0.Coords) (v341 : BitVec 32) : Prop :=
  (∀ (k0_h1 : k0_cond1 i = 1#1), ∀ a, (k0_off78 v341) a + S1.size a ≤ S16512.size a)
theorem k0_off78_inb : ∀ (i : grid0.Coords) (v341 : BitVec 32) (k0_hw39 : k0_chk39 i v341), ∀ (k0_h1 : k0_cond1 i = 1#1), ∀ a, (k0_off78 v341) a + S1.size a ≤ S16512.size a := fun i v341 k0_hw39 k0_h1 => k0_hw39 k0_h1

def k0_off79 (k0_t2 : Fin k0_t2_loop.trips) : Fin 3 → Nat :=
  let c0_234 : Index := 0#32
  let c2_235 : Index := 2#32
  let c0_i32_16 : BitVec 32 := 0#32
  let c1_i32_17 : BitVec 32 := 1#32
  let arg16 : BitVec 32 := Scf.iv c0_i32_16 c1_i32_17 k0_t2
  let c16_i32_232 : BitVec 32 := 16#32
  let v346 : BitVec 32 := Scalar.muli arg16 c16_i32_232
  let c6_i32_233 : BitVec 32 := 6#32
  let v347 : BitVec 32 := Scalar.addi v346 c6_i32_233
  let v348 : Index := Scalar.indexCast v347
  ![0, 2, v348.toNat]
def k0_off80 (v349 : BitVec 32) : Fin 1 → Nat :=
  let v350 : Index := Scalar.indexCast v349
  ![v350.toNat]

def k0_chk40 (i : grid0.Coords) (v349 : BitVec 32) : Prop :=
  (∀ (k0_h1 : k0_cond1 i = 1#1), ∀ a, (k0_off80 v349) a + S1.size a ≤ S16512.size a)
theorem k0_off80_inb : ∀ (i : grid0.Coords) (v349 : BitVec 32) (k0_hw40 : k0_chk40 i v349), ∀ (k0_h1 : k0_cond1 i = 1#1), ∀ a, (k0_off80 v349) a + S1.size a ≤ S16512.size a := fun i v349 k0_hw40 k0_h1 => k0_hw40 k0_h1

def k0_off81 (k0_t2 : Fin k0_t2_loop.trips) : Fin 3 → Nat :=
  let c0_240 : Index := 0#32
  let c2_241 : Index := 2#32
  let c0_i32_16 : BitVec 32 := 0#32
  let c1_i32_17 : BitVec 32 := 1#32
  let arg16 : BitVec 32 := Scf.iv c0_i32_16 c1_i32_17 k0_t2
  let c16_i32_238 : BitVec 32 := 16#32
  let v354 : BitVec 32 := Scalar.muli arg16 c16_i32_238
  let c7_i32_239 : BitVec 32 := 7#32
  let v355 : BitVec 32 := Scalar.addi v354 c7_i32_239
  let v356 : Index := Scalar.indexCast v355
  ![0, 2, v356.toNat]
def k0_off82 (v357 : BitVec 32) : Fin 1 → Nat :=
  let v358 : Index := Scalar.indexCast v357
  ![v358.toNat]

def k0_chk41 (i : grid0.Coords) (v357 : BitVec 32) : Prop :=
  (∀ (k0_h1 : k0_cond1 i = 1#1), ∀ a, (k0_off82 v357) a + S1.size a ≤ S16512.size a)
theorem k0_off82_inb : ∀ (i : grid0.Coords) (v357 : BitVec 32) (k0_hw41 : k0_chk41 i v357), ∀ (k0_h1 : k0_cond1 i = 1#1), ∀ a, (k0_off82 v357) a + S1.size a ≤ S16512.size a := fun i v357 k0_hw41 k0_h1 => k0_hw41 k0_h1

def k0_off83 (k0_t2 : Fin k0_t2_loop.trips) : Fin 3 → Nat :=
  let c0_246 : Index := 0#32
  let c2_247 : Index := 2#32
  let c0_i32_16 : BitVec 32 := 0#32
  let c1_i32_17 : BitVec 32 := 1#32
  let arg16 : BitVec 32 := Scf.iv c0_i32_16 c1_i32_17 k0_t2
  let c16_i32_244 : BitVec 32 := 16#32
  let v362 : BitVec 32 := Scalar.muli arg16 c16_i32_244
  let c8_i32_245 : BitVec 32 := 8#32
  let v363 : BitVec 32 := Scalar.addi v362 c8_i32_245
  let v364 : Index := Scalar.indexCast v363
  ![0, 2, v364.toNat]
def k0_off84 (v365 : BitVec 32) : Fin 1 → Nat :=
  let v366 : Index := Scalar.indexCast v365
  ![v366.toNat]

def k0_chk42 (i : grid0.Coords) (v365 : BitVec 32) : Prop :=
  (∀ (k0_h1 : k0_cond1 i = 1#1), ∀ a, (k0_off84 v365) a + S1.size a ≤ S16512.size a)
theorem k0_off84_inb : ∀ (i : grid0.Coords) (v365 : BitVec 32) (k0_hw42 : k0_chk42 i v365), ∀ (k0_h1 : k0_cond1 i = 1#1), ∀ a, (k0_off84 v365) a + S1.size a ≤ S16512.size a := fun i v365 k0_hw42 k0_h1 => k0_hw42 k0_h1

def k0_off85 (k0_t2 : Fin k0_t2_loop.trips) : Fin 3 → Nat :=
  let c0_252 : Index := 0#32
  let c2_253 : Index := 2#32
  let c0_i32_16 : BitVec 32 := 0#32
  let c1_i32_17 : BitVec 32 := 1#32
  let arg16 : BitVec 32 := Scf.iv c0_i32_16 c1_i32_17 k0_t2
  let c16_i32_250 : BitVec 32 := 16#32
  let v370 : BitVec 32 := Scalar.muli arg16 c16_i32_250
  let c9_i32_251 : BitVec 32 := 9#32
  let v371 : BitVec 32 := Scalar.addi v370 c9_i32_251
  let v372 : Index := Scalar.indexCast v371
  ![0, 2, v372.toNat]
def k0_off86 (v373 : BitVec 32) : Fin 1 → Nat :=
  let v374 : Index := Scalar.indexCast v373
  ![v374.toNat]

def k0_chk43 (i : grid0.Coords) (v373 : BitVec 32) : Prop :=
  (∀ (k0_h1 : k0_cond1 i = 1#1), ∀ a, (k0_off86 v373) a + S1.size a ≤ S16512.size a)
theorem k0_off86_inb : ∀ (i : grid0.Coords) (v373 : BitVec 32) (k0_hw43 : k0_chk43 i v373), ∀ (k0_h1 : k0_cond1 i = 1#1), ∀ a, (k0_off86 v373) a + S1.size a ≤ S16512.size a := fun i v373 k0_hw43 k0_h1 => k0_hw43 k0_h1

def k0_off87 (k0_t2 : Fin k0_t2_loop.trips) : Fin 3 → Nat :=
  let c0_258 : Index := 0#32
  let c2_259 : Index := 2#32
  let c0_i32_16 : BitVec 32 := 0#32
  let c1_i32_17 : BitVec 32 := 1#32
  let arg16 : BitVec 32 := Scf.iv c0_i32_16 c1_i32_17 k0_t2
  let c16_i32_256 : BitVec 32 := 16#32
  let v378 : BitVec 32 := Scalar.muli arg16 c16_i32_256
  let c10_i32_257 : BitVec 32 := 10#32
  let v379 : BitVec 32 := Scalar.addi v378 c10_i32_257
  let v380 : Index := Scalar.indexCast v379
  ![0, 2, v380.toNat]
def k0_off88 (v381 : BitVec 32) : Fin 1 → Nat :=
  let v382 : Index := Scalar.indexCast v381
  ![v382.toNat]

def k0_chk44 (i : grid0.Coords) (v381 : BitVec 32) : Prop :=
  (∀ (k0_h1 : k0_cond1 i = 1#1), ∀ a, (k0_off88 v381) a + S1.size a ≤ S16512.size a)
theorem k0_off88_inb : ∀ (i : grid0.Coords) (v381 : BitVec 32) (k0_hw44 : k0_chk44 i v381), ∀ (k0_h1 : k0_cond1 i = 1#1), ∀ a, (k0_off88 v381) a + S1.size a ≤ S16512.size a := fun i v381 k0_hw44 k0_h1 => k0_hw44 k0_h1

def k0_off89 (k0_t2 : Fin k0_t2_loop.trips) : Fin 3 → Nat :=
  let c0_264 : Index := 0#32
  let c2_265 : Index := 2#32
  let c0_i32_16 : BitVec 32 := 0#32
  let c1_i32_17 : BitVec 32 := 1#32
  let arg16 : BitVec 32 := Scf.iv c0_i32_16 c1_i32_17 k0_t2
  let c16_i32_262 : BitVec 32 := 16#32
  let v386 : BitVec 32 := Scalar.muli arg16 c16_i32_262
  let c11_i32_263 : BitVec 32 := 11#32
  let v387 : BitVec 32 := Scalar.addi v386 c11_i32_263
  let v388 : Index := Scalar.indexCast v387
  ![0, 2, v388.toNat]
def k0_off90 (v389 : BitVec 32) : Fin 1 → Nat :=
  let v390 : Index := Scalar.indexCast v389
  ![v390.toNat]

def k0_chk45 (i : grid0.Coords) (v389 : BitVec 32) : Prop :=
  (∀ (k0_h1 : k0_cond1 i = 1#1), ∀ a, (k0_off90 v389) a + S1.size a ≤ S16512.size a)
theorem k0_off90_inb : ∀ (i : grid0.Coords) (v389 : BitVec 32) (k0_hw45 : k0_chk45 i v389), ∀ (k0_h1 : k0_cond1 i = 1#1), ∀ a, (k0_off90 v389) a + S1.size a ≤ S16512.size a := fun i v389 k0_hw45 k0_h1 => k0_hw45 k0_h1

def k0_off91 (k0_t2 : Fin k0_t2_loop.trips) : Fin 3 → Nat :=
  let c0_270 : Index := 0#32
  let c2_271 : Index := 2#32
  let c0_i32_16 : BitVec 32 := 0#32
  let c1_i32_17 : BitVec 32 := 1#32
  let arg16 : BitVec 32 := Scf.iv c0_i32_16 c1_i32_17 k0_t2
  let c16_i32_268 : BitVec 32 := 16#32
  let v394 : BitVec 32 := Scalar.muli arg16 c16_i32_268
  let c12_i32_269 : BitVec 32 := 12#32
  let v395 : BitVec 32 := Scalar.addi v394 c12_i32_269
  let v396 : Index := Scalar.indexCast v395
  ![0, 2, v396.toNat]
def k0_off92 (v397 : BitVec 32) : Fin 1 → Nat :=
  let v398 : Index := Scalar.indexCast v397
  ![v398.toNat]

def k0_chk46 (i : grid0.Coords) (v397 : BitVec 32) : Prop :=
  (∀ (k0_h1 : k0_cond1 i = 1#1), ∀ a, (k0_off92 v397) a + S1.size a ≤ S16512.size a)
theorem k0_off92_inb : ∀ (i : grid0.Coords) (v397 : BitVec 32) (k0_hw46 : k0_chk46 i v397), ∀ (k0_h1 : k0_cond1 i = 1#1), ∀ a, (k0_off92 v397) a + S1.size a ≤ S16512.size a := fun i v397 k0_hw46 k0_h1 => k0_hw46 k0_h1

def k0_off93 (k0_t2 : Fin k0_t2_loop.trips) : Fin 3 → Nat :=
  let c0_276 : Index := 0#32
  let c2_277 : Index := 2#32
  let c0_i32_16 : BitVec 32 := 0#32
  let c1_i32_17 : BitVec 32 := 1#32
  let arg16 : BitVec 32 := Scf.iv c0_i32_16 c1_i32_17 k0_t2
  let c16_i32_274 : BitVec 32 := 16#32
  let v402 : BitVec 32 := Scalar.muli arg16 c16_i32_274
  let c13_i32_275 : BitVec 32 := 13#32
  let v403 : BitVec 32 := Scalar.addi v402 c13_i32_275
  let v404 : Index := Scalar.indexCast v403
  ![0, 2, v404.toNat]
def k0_off94 (v405 : BitVec 32) : Fin 1 → Nat :=
  let v406 : Index := Scalar.indexCast v405
  ![v406.toNat]

def k0_chk47 (i : grid0.Coords) (v405 : BitVec 32) : Prop :=
  (∀ (k0_h1 : k0_cond1 i = 1#1), ∀ a, (k0_off94 v405) a + S1.size a ≤ S16512.size a)
theorem k0_off94_inb : ∀ (i : grid0.Coords) (v405 : BitVec 32) (k0_hw47 : k0_chk47 i v405), ∀ (k0_h1 : k0_cond1 i = 1#1), ∀ a, (k0_off94 v405) a + S1.size a ≤ S16512.size a := fun i v405 k0_hw47 k0_h1 => k0_hw47 k0_h1

def k0_off95 (k0_t2 : Fin k0_t2_loop.trips) : Fin 3 → Nat :=
  let c0_282 : Index := 0#32
  let c2_283 : Index := 2#32
  let c0_i32_16 : BitVec 32 := 0#32
  let c1_i32_17 : BitVec 32 := 1#32
  let arg16 : BitVec 32 := Scf.iv c0_i32_16 c1_i32_17 k0_t2
  let c16_i32_280 : BitVec 32 := 16#32
  let v410 : BitVec 32 := Scalar.muli arg16 c16_i32_280
  let c14_i32_281 : BitVec 32 := 14#32
  let v411 : BitVec 32 := Scalar.addi v410 c14_i32_281
  let v412 : Index := Scalar.indexCast v411
  ![0, 2, v412.toNat]
def k0_off96 (v413 : BitVec 32) : Fin 1 → Nat :=
  let v414 : Index := Scalar.indexCast v413
  ![v414.toNat]

def k0_chk48 (i : grid0.Coords) (v413 : BitVec 32) : Prop :=
  (∀ (k0_h1 : k0_cond1 i = 1#1), ∀ a, (k0_off96 v413) a + S1.size a ≤ S16512.size a)
theorem k0_off96_inb : ∀ (i : grid0.Coords) (v413 : BitVec 32) (k0_hw48 : k0_chk48 i v413), ∀ (k0_h1 : k0_cond1 i = 1#1), ∀ a, (k0_off96 v413) a + S1.size a ≤ S16512.size a := fun i v413 k0_hw48 k0_h1 => k0_hw48 k0_h1

def k0_off97 (k0_t2 : Fin k0_t2_loop.trips) : Fin 3 → Nat :=
  let c0_288 : Index := 0#32
  let c2_289 : Index := 2#32
  let c0_i32_16 : BitVec 32 := 0#32
  let c1_i32_17 : BitVec 32 := 1#32
  let arg16 : BitVec 32 := Scf.iv c0_i32_16 c1_i32_17 k0_t2
  let c16_i32_286 : BitVec 32 := 16#32
  let v418 : BitVec 32 := Scalar.muli arg16 c16_i32_286
  let c15_i32_287 : BitVec 32 := 15#32
  let v419 : BitVec 32 := Scalar.addi v418 c15_i32_287
  let v420 : Index := Scalar.indexCast v419
  ![0, 2, v420.toNat]
def k0_off98 (v421 : BitVec 32) : Fin 1 → Nat :=
  let v422 : Index := Scalar.indexCast v421
  ![v422.toNat]

def k0_chk49 (i : grid0.Coords) (v421 : BitVec 32) : Prop :=
  (∀ (k0_h1 : k0_cond1 i = 1#1), ∀ a, (k0_off98 v421) a + S1.size a ≤ S16512.size a)
theorem k0_off98_inb : ∀ (i : grid0.Coords) (v421 : BitVec 32) (k0_hw49 : k0_chk49 i v421), ∀ (k0_h1 : k0_cond1 i = 1#1), ∀ a, (k0_off98 v421) a + S1.size a ≤ S16512.size a := fun i v421 k0_hw49 k0_h1 => k0_hw49 k0_h1

def k0_off99 (k0_t2 : Fin k0_t2_loop.trips) : Fin 3 → Nat :=
  let c0_294 : Index := 0#32
  let c3 : Index := 3#32
  let c0_i32_16 : BitVec 32 := 0#32
  let c1_i32_17 : BitVec 32 := 1#32
  let arg16 : BitVec 32 := Scf.iv c0_i32_16 c1_i32_17 k0_t2
  let c16_i32_292 : BitVec 32 := 16#32
  let v426 : BitVec 32 := Scalar.muli arg16 c16_i32_292
  let c0_i32_293 : BitVec 32 := 0#32
  let v427 : BitVec 32 := Scalar.addi v426 c0_i32_293
  let v428 : Index := Scalar.indexCast v427
  ![0, 3, v428.toNat]
def k0_off100 (v429 : BitVec 32) : Fin 1 → Nat :=
  let v430 : Index := Scalar.indexCast v429
  ![v430.toNat]

def k0_chk50 (i : grid0.Coords) (v429 : BitVec 32) : Prop :=
  (∀ (k0_h1 : k0_cond1 i = 1#1), ∀ a, (k0_off100 v429) a + S1.size a ≤ S16512.size a)
theorem k0_off100_inb : ∀ (i : grid0.Coords) (v429 : BitVec 32) (k0_hw50 : k0_chk50 i v429), ∀ (k0_h1 : k0_cond1 i = 1#1), ∀ a, (k0_off100 v429) a + S1.size a ≤ S16512.size a := fun i v429 k0_hw50 k0_h1 => k0_hw50 k0_h1

def k0_off101 (k0_t2 : Fin k0_t2_loop.trips) : Fin 3 → Nat :=
  let c0_299 : Index := 0#32
  let c3_300 : Index := 3#32
  let c0_i32_16 : BitVec 32 := 0#32
  let c1_i32_17 : BitVec 32 := 1#32
  let arg16 : BitVec 32 := Scf.iv c0_i32_16 c1_i32_17 k0_t2
  let c16_i32_297 : BitVec 32 := 16#32
  let v434 : BitVec 32 := Scalar.muli arg16 c16_i32_297
  let c1_i32_298 : BitVec 32 := 1#32
  let v435 : BitVec 32 := Scalar.addi v434 c1_i32_298
  let v436 : Index := Scalar.indexCast v435
  ![0, 3, v436.toNat]
def k0_off102 (v437 : BitVec 32) : Fin 1 → Nat :=
  let v438 : Index := Scalar.indexCast v437
  ![v438.toNat]

def k0_chk51 (i : grid0.Coords) (v437 : BitVec 32) : Prop :=
  (∀ (k0_h1 : k0_cond1 i = 1#1), ∀ a, (k0_off102 v437) a + S1.size a ≤ S16512.size a)
theorem k0_off102_inb : ∀ (i : grid0.Coords) (v437 : BitVec 32) (k0_hw51 : k0_chk51 i v437), ∀ (k0_h1 : k0_cond1 i = 1#1), ∀ a, (k0_off102 v437) a + S1.size a ≤ S16512.size a := fun i v437 k0_hw51 k0_h1 => k0_hw51 k0_h1

def k0_off103 (k0_t2 : Fin k0_t2_loop.trips) : Fin 3 → Nat :=
  let c0_305 : Index := 0#32
  let c3_306 : Index := 3#32
  let c0_i32_16 : BitVec 32 := 0#32
  let c1_i32_17 : BitVec 32 := 1#32
  let arg16 : BitVec 32 := Scf.iv c0_i32_16 c1_i32_17 k0_t2
  let c16_i32_303 : BitVec 32 := 16#32
  let v442 : BitVec 32 := Scalar.muli arg16 c16_i32_303
  let c2_i32_304 : BitVec 32 := 2#32
  let v443 : BitVec 32 := Scalar.addi v442 c2_i32_304
  let v444 : Index := Scalar.indexCast v443
  ![0, 3, v444.toNat]
def k0_off104 (v445 : BitVec 32) : Fin 1 → Nat :=
  let v446 : Index := Scalar.indexCast v445
  ![v446.toNat]

def k0_chk52 (i : grid0.Coords) (v445 : BitVec 32) : Prop :=
  (∀ (k0_h1 : k0_cond1 i = 1#1), ∀ a, (k0_off104 v445) a + S1.size a ≤ S16512.size a)
theorem k0_off104_inb : ∀ (i : grid0.Coords) (v445 : BitVec 32) (k0_hw52 : k0_chk52 i v445), ∀ (k0_h1 : k0_cond1 i = 1#1), ∀ a, (k0_off104 v445) a + S1.size a ≤ S16512.size a := fun i v445 k0_hw52 k0_h1 => k0_hw52 k0_h1

def k0_off105 (k0_t2 : Fin k0_t2_loop.trips) : Fin 3 → Nat :=
  let c0_311 : Index := 0#32
  let c3_312 : Index := 3#32
  let c0_i32_16 : BitVec 32 := 0#32
  let c1_i32_17 : BitVec 32 := 1#32
  let arg16 : BitVec 32 := Scf.iv c0_i32_16 c1_i32_17 k0_t2
  let c16_i32_309 : BitVec 32 := 16#32
  let v450 : BitVec 32 := Scalar.muli arg16 c16_i32_309
  let c3_i32_310 : BitVec 32 := 3#32
  let v451 : BitVec 32 := Scalar.addi v450 c3_i32_310
  let v452 : Index := Scalar.indexCast v451
  ![0, 3, v452.toNat]
def k0_off106 (v453 : BitVec 32) : Fin 1 → Nat :=
  let v454 : Index := Scalar.indexCast v453
  ![v454.toNat]

def k0_chk53 (i : grid0.Coords) (v453 : BitVec 32) : Prop :=
  (∀ (k0_h1 : k0_cond1 i = 1#1), ∀ a, (k0_off106 v453) a + S1.size a ≤ S16512.size a)
theorem k0_off106_inb : ∀ (i : grid0.Coords) (v453 : BitVec 32) (k0_hw53 : k0_chk53 i v453), ∀ (k0_h1 : k0_cond1 i = 1#1), ∀ a, (k0_off106 v453) a + S1.size a ≤ S16512.size a := fun i v453 k0_hw53 k0_h1 => k0_hw53 k0_h1

def k0_off107 (k0_t2 : Fin k0_t2_loop.trips) : Fin 3 → Nat :=
  let c0_317 : Index := 0#32
  let c3_318 : Index := 3#32
  let c0_i32_16 : BitVec 32 := 0#32
  let c1_i32_17 : BitVec 32 := 1#32
  let arg16 : BitVec 32 := Scf.iv c0_i32_16 c1_i32_17 k0_t2
  let c16_i32_315 : BitVec 32 := 16#32
  let v458 : BitVec 32 := Scalar.muli arg16 c16_i32_315
  let c4_i32_316 : BitVec 32 := 4#32
  let v459 : BitVec 32 := Scalar.addi v458 c4_i32_316
  let v460 : Index := Scalar.indexCast v459
  ![0, 3, v460.toNat]
def k0_off108 (v461 : BitVec 32) : Fin 1 → Nat :=
  let v462 : Index := Scalar.indexCast v461
  ![v462.toNat]

def k0_chk54 (i : grid0.Coords) (v461 : BitVec 32) : Prop :=
  (∀ (k0_h1 : k0_cond1 i = 1#1), ∀ a, (k0_off108 v461) a + S1.size a ≤ S16512.size a)
theorem k0_off108_inb : ∀ (i : grid0.Coords) (v461 : BitVec 32) (k0_hw54 : k0_chk54 i v461), ∀ (k0_h1 : k0_cond1 i = 1#1), ∀ a, (k0_off108 v461) a + S1.size a ≤ S16512.size a := fun i v461 k0_hw54 k0_h1 => k0_hw54 k0_h1

def k0_off109 (k0_t2 : Fin k0_t2_loop.trips) : Fin 3 → Nat :=
  let c0_323 : Index := 0#32
  let c3_324 : Index := 3#32
  let c0_i32_16 : BitVec 32 := 0#32
  let c1_i32_17 : BitVec 32 := 1#32
  let arg16 : BitVec 32 := Scf.iv c0_i32_16 c1_i32_17 k0_t2
  let c16_i32_321 : BitVec 32 := 16#32
  let v466 : BitVec 32 := Scalar.muli arg16 c16_i32_321
  let c5_i32_322 : BitVec 32 := 5#32
  let v467 : BitVec 32 := Scalar.addi v466 c5_i32_322
  let v468 : Index := Scalar.indexCast v467
  ![0, 3, v468.toNat]
def k0_off110 (v469 : BitVec 32) : Fin 1 → Nat :=
  let v470 : Index := Scalar.indexCast v469
  ![v470.toNat]

def k0_chk55 (i : grid0.Coords) (v469 : BitVec 32) : Prop :=
  (∀ (k0_h1 : k0_cond1 i = 1#1), ∀ a, (k0_off110 v469) a + S1.size a ≤ S16512.size a)
theorem k0_off110_inb : ∀ (i : grid0.Coords) (v469 : BitVec 32) (k0_hw55 : k0_chk55 i v469), ∀ (k0_h1 : k0_cond1 i = 1#1), ∀ a, (k0_off110 v469) a + S1.size a ≤ S16512.size a := fun i v469 k0_hw55 k0_h1 => k0_hw55 k0_h1

def k0_off111 (k0_t2 : Fin k0_t2_loop.trips) : Fin 3 → Nat :=
  let c0_329 : Index := 0#32
  let c3_330 : Index := 3#32
  let c0_i32_16 : BitVec 32 := 0#32
  let c1_i32_17 : BitVec 32 := 1#32
  let arg16 : BitVec 32 := Scf.iv c0_i32_16 c1_i32_17 k0_t2
  let c16_i32_327 : BitVec 32 := 16#32
  let v474 : BitVec 32 := Scalar.muli arg16 c16_i32_327
  let c6_i32_328 : BitVec 32 := 6#32
  let v475 : BitVec 32 := Scalar.addi v474 c6_i32_328
  let v476 : Index := Scalar.indexCast v475
  ![0, 3, v476.toNat]
def k0_off112 (v477 : BitVec 32) : Fin 1 → Nat :=
  let v478 : Index := Scalar.indexCast v477
  ![v478.toNat]

def k0_chk56 (i : grid0.Coords) (v477 : BitVec 32) : Prop :=
  (∀ (k0_h1 : k0_cond1 i = 1#1), ∀ a, (k0_off112 v477) a + S1.size a ≤ S16512.size a)
theorem k0_off112_inb : ∀ (i : grid0.Coords) (v477 : BitVec 32) (k0_hw56 : k0_chk56 i v477), ∀ (k0_h1 : k0_cond1 i = 1#1), ∀ a, (k0_off112 v477) a + S1.size a ≤ S16512.size a := fun i v477 k0_hw56 k0_h1 => k0_hw56 k0_h1

def k0_off113 (k0_t2 : Fin k0_t2_loop.trips) : Fin 3 → Nat :=
  let c0_335 : Index := 0#32
  let c3_336 : Index := 3#32
  let c0_i32_16 : BitVec 32 := 0#32
  let c1_i32_17 : BitVec 32 := 1#32
  let arg16 : BitVec 32 := Scf.iv c0_i32_16 c1_i32_17 k0_t2
  let c16_i32_333 : BitVec 32 := 16#32
  let v482 : BitVec 32 := Scalar.muli arg16 c16_i32_333
  let c7_i32_334 : BitVec 32 := 7#32
  let v483 : BitVec 32 := Scalar.addi v482 c7_i32_334
  let v484 : Index := Scalar.indexCast v483
  ![0, 3, v484.toNat]
def k0_off114 (v485 : BitVec 32) : Fin 1 → Nat :=
  let v486 : Index := Scalar.indexCast v485
  ![v486.toNat]

def k0_chk57 (i : grid0.Coords) (v485 : BitVec 32) : Prop :=
  (∀ (k0_h1 : k0_cond1 i = 1#1), ∀ a, (k0_off114 v485) a + S1.size a ≤ S16512.size a)
theorem k0_off114_inb : ∀ (i : grid0.Coords) (v485 : BitVec 32) (k0_hw57 : k0_chk57 i v485), ∀ (k0_h1 : k0_cond1 i = 1#1), ∀ a, (k0_off114 v485) a + S1.size a ≤ S16512.size a := fun i v485 k0_hw57 k0_h1 => k0_hw57 k0_h1

def k0_off115 (k0_t2 : Fin k0_t2_loop.trips) : Fin 3 → Nat :=
  let c0_341 : Index := 0#32
  let c3_342 : Index := 3#32
  let c0_i32_16 : BitVec 32 := 0#32
  let c1_i32_17 : BitVec 32 := 1#32
  let arg16 : BitVec 32 := Scf.iv c0_i32_16 c1_i32_17 k0_t2
  let c16_i32_339 : BitVec 32 := 16#32
  let v490 : BitVec 32 := Scalar.muli arg16 c16_i32_339
  let c8_i32_340 : BitVec 32 := 8#32
  let v491 : BitVec 32 := Scalar.addi v490 c8_i32_340
  let v492 : Index := Scalar.indexCast v491
  ![0, 3, v492.toNat]
def k0_off116 (v493 : BitVec 32) : Fin 1 → Nat :=
  let v494 : Index := Scalar.indexCast v493
  ![v494.toNat]

def k0_chk58 (i : grid0.Coords) (v493 : BitVec 32) : Prop :=
  (∀ (k0_h1 : k0_cond1 i = 1#1), ∀ a, (k0_off116 v493) a + S1.size a ≤ S16512.size a)
theorem k0_off116_inb : ∀ (i : grid0.Coords) (v493 : BitVec 32) (k0_hw58 : k0_chk58 i v493), ∀ (k0_h1 : k0_cond1 i = 1#1), ∀ a, (k0_off116 v493) a + S1.size a ≤ S16512.size a := fun i v493 k0_hw58 k0_h1 => k0_hw58 k0_h1

def k0_off117 (k0_t2 : Fin k0_t2_loop.trips) : Fin 3 → Nat :=
  let c0_347 : Index := 0#32
  let c3_348 : Index := 3#32
  let c0_i32_16 : BitVec 32 := 0#32
  let c1_i32_17 : BitVec 32 := 1#32
  let arg16 : BitVec 32 := Scf.iv c0_i32_16 c1_i32_17 k0_t2
  let c16_i32_345 : BitVec 32 := 16#32
  let v498 : BitVec 32 := Scalar.muli arg16 c16_i32_345
  let c9_i32_346 : BitVec 32 := 9#32
  let v499 : BitVec 32 := Scalar.addi v498 c9_i32_346
  let v500 : Index := Scalar.indexCast v499
  ![0, 3, v500.toNat]
def k0_off118 (v501 : BitVec 32) : Fin 1 → Nat :=
  let v502 : Index := Scalar.indexCast v501
  ![v502.toNat]

def k0_chk59 (i : grid0.Coords) (v501 : BitVec 32) : Prop :=
  (∀ (k0_h1 : k0_cond1 i = 1#1), ∀ a, (k0_off118 v501) a + S1.size a ≤ S16512.size a)
theorem k0_off118_inb : ∀ (i : grid0.Coords) (v501 : BitVec 32) (k0_hw59 : k0_chk59 i v501), ∀ (k0_h1 : k0_cond1 i = 1#1), ∀ a, (k0_off118 v501) a + S1.size a ≤ S16512.size a := fun i v501 k0_hw59 k0_h1 => k0_hw59 k0_h1

def k0_off119 (k0_t2 : Fin k0_t2_loop.trips) : Fin 3 → Nat :=
  let c0_353 : Index := 0#32
  let c3_354 : Index := 3#32
  let c0_i32_16 : BitVec 32 := 0#32
  let c1_i32_17 : BitVec 32 := 1#32
  let arg16 : BitVec 32 := Scf.iv c0_i32_16 c1_i32_17 k0_t2
  let c16_i32_351 : BitVec 32 := 16#32
  let v506 : BitVec 32 := Scalar.muli arg16 c16_i32_351
  let c10_i32_352 : BitVec 32 := 10#32
  let v507 : BitVec 32 := Scalar.addi v506 c10_i32_352
  let v508 : Index := Scalar.indexCast v507
  ![0, 3, v508.toNat]
def k0_off120 (v509 : BitVec 32) : Fin 1 → Nat :=
  let v510 : Index := Scalar.indexCast v509
  ![v510.toNat]

def k0_chk60 (i : grid0.Coords) (v509 : BitVec 32) : Prop :=
  (∀ (k0_h1 : k0_cond1 i = 1#1), ∀ a, (k0_off120 v509) a + S1.size a ≤ S16512.size a)
theorem k0_off120_inb : ∀ (i : grid0.Coords) (v509 : BitVec 32) (k0_hw60 : k0_chk60 i v509), ∀ (k0_h1 : k0_cond1 i = 1#1), ∀ a, (k0_off120 v509) a + S1.size a ≤ S16512.size a := fun i v509 k0_hw60 k0_h1 => k0_hw60 k0_h1

def k0_off121 (k0_t2 : Fin k0_t2_loop.trips) : Fin 3 → Nat :=
  let c0_359 : Index := 0#32
  let c3_360 : Index := 3#32
  let c0_i32_16 : BitVec 32 := 0#32
  let c1_i32_17 : BitVec 32 := 1#32
  let arg16 : BitVec 32 := Scf.iv c0_i32_16 c1_i32_17 k0_t2
  let c16_i32_357 : BitVec 32 := 16#32
  let v514 : BitVec 32 := Scalar.muli arg16 c16_i32_357
  let c11_i32_358 : BitVec 32 := 11#32
  let v515 : BitVec 32 := Scalar.addi v514 c11_i32_358
  let v516 : Index := Scalar.indexCast v515
  ![0, 3, v516.toNat]
def k0_off122 (v517 : BitVec 32) : Fin 1 → Nat :=
  let v518 : Index := Scalar.indexCast v517
  ![v518.toNat]

def k0_chk61 (i : grid0.Coords) (v517 : BitVec 32) : Prop :=
  (∀ (k0_h1 : k0_cond1 i = 1#1), ∀ a, (k0_off122 v517) a + S1.size a ≤ S16512.size a)
theorem k0_off122_inb : ∀ (i : grid0.Coords) (v517 : BitVec 32) (k0_hw61 : k0_chk61 i v517), ∀ (k0_h1 : k0_cond1 i = 1#1), ∀ a, (k0_off122 v517) a + S1.size a ≤ S16512.size a := fun i v517 k0_hw61 k0_h1 => k0_hw61 k0_h1

def k0_off123 (k0_t2 : Fin k0_t2_loop.trips) : Fin 3 → Nat :=
  let c0_365 : Index := 0#32
  let c3_366 : Index := 3#32
  let c0_i32_16 : BitVec 32 := 0#32
  let c1_i32_17 : BitVec 32 := 1#32
  let arg16 : BitVec 32 := Scf.iv c0_i32_16 c1_i32_17 k0_t2
  let c16_i32_363 : BitVec 32 := 16#32
  let v522 : BitVec 32 := Scalar.muli arg16 c16_i32_363
  let c12_i32_364 : BitVec 32 := 12#32
  let v523 : BitVec 32 := Scalar.addi v522 c12_i32_364
  let v524 : Index := Scalar.indexCast v523
  ![0, 3, v524.toNat]
def k0_off124 (v525 : BitVec 32) : Fin 1 → Nat :=
  let v526 : Index := Scalar.indexCast v525
  ![v526.toNat]

def k0_chk62 (i : grid0.Coords) (v525 : BitVec 32) : Prop :=
  (∀ (k0_h1 : k0_cond1 i = 1#1), ∀ a, (k0_off124 v525) a + S1.size a ≤ S16512.size a)
theorem k0_off124_inb : ∀ (i : grid0.Coords) (v525 : BitVec 32) (k0_hw62 : k0_chk62 i v525), ∀ (k0_h1 : k0_cond1 i = 1#1), ∀ a, (k0_off124 v525) a + S1.size a ≤ S16512.size a := fun i v525 k0_hw62 k0_h1 => k0_hw62 k0_h1

def k0_off125 (k0_t2 : Fin k0_t2_loop.trips) : Fin 3 → Nat :=
  let c0_371 : Index := 0#32
  let c3_372 : Index := 3#32
  let c0_i32_16 : BitVec 32 := 0#32
  let c1_i32_17 : BitVec 32 := 1#32
  let arg16 : BitVec 32 := Scf.iv c0_i32_16 c1_i32_17 k0_t2
  let c16_i32_369 : BitVec 32 := 16#32
  let v530 : BitVec 32 := Scalar.muli arg16 c16_i32_369
  let c13_i32_370 : BitVec 32 := 13#32
  let v531 : BitVec 32 := Scalar.addi v530 c13_i32_370
  let v532 : Index := Scalar.indexCast v531
  ![0, 3, v532.toNat]
def k0_off126 (v533 : BitVec 32) : Fin 1 → Nat :=
  let v534 : Index := Scalar.indexCast v533
  ![v534.toNat]

def k0_chk63 (i : grid0.Coords) (v533 : BitVec 32) : Prop :=
  (∀ (k0_h1 : k0_cond1 i = 1#1), ∀ a, (k0_off126 v533) a + S1.size a ≤ S16512.size a)
theorem k0_off126_inb : ∀ (i : grid0.Coords) (v533 : BitVec 32) (k0_hw63 : k0_chk63 i v533), ∀ (k0_h1 : k0_cond1 i = 1#1), ∀ a, (k0_off126 v533) a + S1.size a ≤ S16512.size a := fun i v533 k0_hw63 k0_h1 => k0_hw63 k0_h1

def k0_off127 (k0_t2 : Fin k0_t2_loop.trips) : Fin 3 → Nat :=
  let c0_377 : Index := 0#32
  let c3_378 : Index := 3#32
  let c0_i32_16 : BitVec 32 := 0#32
  let c1_i32_17 : BitVec 32 := 1#32
  let arg16 : BitVec 32 := Scf.iv c0_i32_16 c1_i32_17 k0_t2
  let c16_i32_375 : BitVec 32 := 16#32
  let v538 : BitVec 32 := Scalar.muli arg16 c16_i32_375
  let c14_i32_376 : BitVec 32 := 14#32
  let v539 : BitVec 32 := Scalar.addi v538 c14_i32_376
  let v540 : Index := Scalar.indexCast v539
  ![0, 3, v540.toNat]
def k0_off128 (v541 : BitVec 32) : Fin 1 → Nat :=
  let v542 : Index := Scalar.indexCast v541
  ![v542.toNat]

def k0_chk64 (i : grid0.Coords) (v541 : BitVec 32) : Prop :=
  (∀ (k0_h1 : k0_cond1 i = 1#1), ∀ a, (k0_off128 v541) a + S1.size a ≤ S16512.size a)
theorem k0_off128_inb : ∀ (i : grid0.Coords) (v541 : BitVec 32) (k0_hw64 : k0_chk64 i v541), ∀ (k0_h1 : k0_cond1 i = 1#1), ∀ a, (k0_off128 v541) a + S1.size a ≤ S16512.size a := fun i v541 k0_hw64 k0_h1 => k0_hw64 k0_h1

def k0_off129 (k0_t2 : Fin k0_t2_loop.trips) : Fin 3 → Nat :=
  let c0_383 : Index := 0#32
  let c3_384 : Index := 3#32
  let c0_i32_16 : BitVec 32 := 0#32
  let c1_i32_17 : BitVec 32 := 1#32
  let arg16 : BitVec 32 := Scf.iv c0_i32_16 c1_i32_17 k0_t2
  let c16_i32_381 : BitVec 32 := 16#32
  let v546 : BitVec 32 := Scalar.muli arg16 c16_i32_381
  let c15_i32_382 : BitVec 32 := 15#32
  let v547 : BitVec 32 := Scalar.addi v546 c15_i32_382
  let v548 : Index := Scalar.indexCast v547
  ![0, 3, v548.toNat]
def k0_off130 (v549 : BitVec 32) : Fin 1 → Nat :=
  let v550 : Index := Scalar.indexCast v549
  ![v550.toNat]

def k0_chk65 (i : grid0.Coords) (v549 : BitVec 32) : Prop :=
  (∀ (k0_h1 : k0_cond1 i = 1#1), ∀ a, (k0_off130 v549) a + S1.size a ≤ S16512.size a)
theorem k0_off130_inb : ∀ (i : grid0.Coords) (v549 : BitVec 32) (k0_hw65 : k0_chk65 i v549), ∀ (k0_h1 : k0_cond1 i = 1#1), ∀ a, (k0_off130 v549) a + S1.size a ≤ S16512.size a := fun i v549 k0_hw65 k0_h1 => k0_hw65 k0_h1

def k0_off131 (k0_t2 : Fin k0_t2_loop.trips) : Fin 3 → Nat :=
  let c0_389 : Index := 0#32
  let c4 : Index := 4#32
  let c0_i32_16 : BitVec 32 := 0#32
  let c1_i32_17 : BitVec 32 := 1#32
  let arg16 : BitVec 32 := Scf.iv c0_i32_16 c1_i32_17 k0_t2
  let c16_i32_387 : BitVec 32 := 16#32
  let v554 : BitVec 32 := Scalar.muli arg16 c16_i32_387
  let c0_i32_388 : BitVec 32 := 0#32
  let v555 : BitVec 32 := Scalar.addi v554 c0_i32_388
  let v556 : Index := Scalar.indexCast v555
  ![0, 4, v556.toNat]
def k0_off132 (v557 : BitVec 32) : Fin 1 → Nat :=
  let v558 : Index := Scalar.indexCast v557
  ![v558.toNat]

def k0_chk66 (i : grid0.Coords) (v557 : BitVec 32) : Prop :=
  (∀ (k0_h1 : k0_cond1 i = 1#1), ∀ a, (k0_off132 v557) a + S1.size a ≤ S16512.size a)
theorem k0_off132_inb : ∀ (i : grid0.Coords) (v557 : BitVec 32) (k0_hw66 : k0_chk66 i v557), ∀ (k0_h1 : k0_cond1 i = 1#1), ∀ a, (k0_off132 v557) a + S1.size a ≤ S16512.size a := fun i v557 k0_hw66 k0_h1 => k0_hw66 k0_h1

def k0_off133 (k0_t2 : Fin k0_t2_loop.trips) : Fin 3 → Nat :=
  let c0_394 : Index := 0#32
  let c4_395 : Index := 4#32
  let c0_i32_16 : BitVec 32 := 0#32
  let c1_i32_17 : BitVec 32 := 1#32
  let arg16 : BitVec 32 := Scf.iv c0_i32_16 c1_i32_17 k0_t2
  let c16_i32_392 : BitVec 32 := 16#32
  let v562 : BitVec 32 := Scalar.muli arg16 c16_i32_392
  let c1_i32_393 : BitVec 32 := 1#32
  let v563 : BitVec 32 := Scalar.addi v562 c1_i32_393
  let v564 : Index := Scalar.indexCast v563
  ![0, 4, v564.toNat]
def k0_off134 (v565 : BitVec 32) : Fin 1 → Nat :=
  let v566 : Index := Scalar.indexCast v565
  ![v566.toNat]

def k0_chk67 (i : grid0.Coords) (v565 : BitVec 32) : Prop :=
  (∀ (k0_h1 : k0_cond1 i = 1#1), ∀ a, (k0_off134 v565) a + S1.size a ≤ S16512.size a)
theorem k0_off134_inb : ∀ (i : grid0.Coords) (v565 : BitVec 32) (k0_hw67 : k0_chk67 i v565), ∀ (k0_h1 : k0_cond1 i = 1#1), ∀ a, (k0_off134 v565) a + S1.size a ≤ S16512.size a := fun i v565 k0_hw67 k0_h1 => k0_hw67 k0_h1

def k0_off135 (k0_t2 : Fin k0_t2_loop.trips) : Fin 3 → Nat :=
  let c0_400 : Index := 0#32
  let c4_401 : Index := 4#32
  let c0_i32_16 : BitVec 32 := 0#32
  let c1_i32_17 : BitVec 32 := 1#32
  let arg16 : BitVec 32 := Scf.iv c0_i32_16 c1_i32_17 k0_t2
  let c16_i32_398 : BitVec 32 := 16#32
  let v570 : BitVec 32 := Scalar.muli arg16 c16_i32_398
  let c2_i32_399 : BitVec 32 := 2#32
  let v571 : BitVec 32 := Scalar.addi v570 c2_i32_399
  let v572 : Index := Scalar.indexCast v571
  ![0, 4, v572.toNat]
def k0_off136 (v573 : BitVec 32) : Fin 1 → Nat :=
  let v574 : Index := Scalar.indexCast v573
  ![v574.toNat]

def k0_chk68 (i : grid0.Coords) (v573 : BitVec 32) : Prop :=
  (∀ (k0_h1 : k0_cond1 i = 1#1), ∀ a, (k0_off136 v573) a + S1.size a ≤ S16512.size a)
theorem k0_off136_inb : ∀ (i : grid0.Coords) (v573 : BitVec 32) (k0_hw68 : k0_chk68 i v573), ∀ (k0_h1 : k0_cond1 i = 1#1), ∀ a, (k0_off136 v573) a + S1.size a ≤ S16512.size a := fun i v573 k0_hw68 k0_h1 => k0_hw68 k0_h1

def k0_off137 (k0_t2 : Fin k0_t2_loop.trips) : Fin 3 → Nat :=
  let c0_406 : Index := 0#32
  let c4_407 : Index := 4#32
  let c0_i32_16 : BitVec 32 := 0#32
  let c1_i32_17 : BitVec 32 := 1#32
  let arg16 : BitVec 32 := Scf.iv c0_i32_16 c1_i32_17 k0_t2
  let c16_i32_404 : BitVec 32 := 16#32
  let v578 : BitVec 32 := Scalar.muli arg16 c16_i32_404
  let c3_i32_405 : BitVec 32 := 3#32
  let v579 : BitVec 32 := Scalar.addi v578 c3_i32_405
  let v580 : Index := Scalar.indexCast v579
  ![0, 4, v580.toNat]
def k0_off138 (v581 : BitVec 32) : Fin 1 → Nat :=
  let v582 : Index := Scalar.indexCast v581
  ![v582.toNat]

def k0_chk69 (i : grid0.Coords) (v581 : BitVec 32) : Prop :=
  (∀ (k0_h1 : k0_cond1 i = 1#1), ∀ a, (k0_off138 v581) a + S1.size a ≤ S16512.size a)
theorem k0_off138_inb : ∀ (i : grid0.Coords) (v581 : BitVec 32) (k0_hw69 : k0_chk69 i v581), ∀ (k0_h1 : k0_cond1 i = 1#1), ∀ a, (k0_off138 v581) a + S1.size a ≤ S16512.size a := fun i v581 k0_hw69 k0_h1 => k0_hw69 k0_h1

def k0_off139 (k0_t2 : Fin k0_t2_loop.trips) : Fin 3 → Nat :=
  let c0_412 : Index := 0#32
  let c4_413 : Index := 4#32
  let c0_i32_16 : BitVec 32 := 0#32
  let c1_i32_17 : BitVec 32 := 1#32
  let arg16 : BitVec 32 := Scf.iv c0_i32_16 c1_i32_17 k0_t2
  let c16_i32_410 : BitVec 32 := 16#32
  let v586 : BitVec 32 := Scalar.muli arg16 c16_i32_410
  let c4_i32_411 : BitVec 32 := 4#32
  let v587 : BitVec 32 := Scalar.addi v586 c4_i32_411
  let v588 : Index := Scalar.indexCast v587
  ![0, 4, v588.toNat]
def k0_off140 (v589 : BitVec 32) : Fin 1 → Nat :=
  let v590 : Index := Scalar.indexCast v589
  ![v590.toNat]

def k0_chk70 (i : grid0.Coords) (v589 : BitVec 32) : Prop :=
  (∀ (k0_h1 : k0_cond1 i = 1#1), ∀ a, (k0_off140 v589) a + S1.size a ≤ S16512.size a)
theorem k0_off140_inb : ∀ (i : grid0.Coords) (v589 : BitVec 32) (k0_hw70 : k0_chk70 i v589), ∀ (k0_h1 : k0_cond1 i = 1#1), ∀ a, (k0_off140 v589) a + S1.size a ≤ S16512.size a := fun i v589 k0_hw70 k0_h1 => k0_hw70 k0_h1

def k0_off141 (k0_t2 : Fin k0_t2_loop.trips) : Fin 3 → Nat :=
  let c0_418 : Index := 0#32
  let c4_419 : Index := 4#32
  let c0_i32_16 : BitVec 32 := 0#32
  let c1_i32_17 : BitVec 32 := 1#32
  let arg16 : BitVec 32 := Scf.iv c0_i32_16 c1_i32_17 k0_t2
  let c16_i32_416 : BitVec 32 := 16#32
  let v594 : BitVec 32 := Scalar.muli arg16 c16_i32_416
  let c5_i32_417 : BitVec 32 := 5#32
  let v595 : BitVec 32 := Scalar.addi v594 c5_i32_417
  let v596 : Index := Scalar.indexCast v595
  ![0, 4, v596.toNat]
def k0_off142 (v597 : BitVec 32) : Fin 1 → Nat :=
  let v598 : Index := Scalar.indexCast v597
  ![v598.toNat]

def k0_chk71 (i : grid0.Coords) (v597 : BitVec 32) : Prop :=
  (∀ (k0_h1 : k0_cond1 i = 1#1), ∀ a, (k0_off142 v597) a + S1.size a ≤ S16512.size a)
theorem k0_off142_inb : ∀ (i : grid0.Coords) (v597 : BitVec 32) (k0_hw71 : k0_chk71 i v597), ∀ (k0_h1 : k0_cond1 i = 1#1), ∀ a, (k0_off142 v597) a + S1.size a ≤ S16512.size a := fun i v597 k0_hw71 k0_h1 => k0_hw71 k0_h1

def k0_off143 (k0_t2 : Fin k0_t2_loop.trips) : Fin 3 → Nat :=
  let c0_424 : Index := 0#32
  let c4_425 : Index := 4#32
  let c0_i32_16 : BitVec 32 := 0#32
  let c1_i32_17 : BitVec 32 := 1#32
  let arg16 : BitVec 32 := Scf.iv c0_i32_16 c1_i32_17 k0_t2
  let c16_i32_422 : BitVec 32 := 16#32
  let v602 : BitVec 32 := Scalar.muli arg16 c16_i32_422
  let c6_i32_423 : BitVec 32 := 6#32
  let v603 : BitVec 32 := Scalar.addi v602 c6_i32_423
  let v604 : Index := Scalar.indexCast v603
  ![0, 4, v604.toNat]
def k0_off144 (v605 : BitVec 32) : Fin 1 → Nat :=
  let v606 : Index := Scalar.indexCast v605
  ![v606.toNat]

def k0_chk72 (i : grid0.Coords) (v605 : BitVec 32) : Prop :=
  (∀ (k0_h1 : k0_cond1 i = 1#1), ∀ a, (k0_off144 v605) a + S1.size a ≤ S16512.size a)
theorem k0_off144_inb : ∀ (i : grid0.Coords) (v605 : BitVec 32) (k0_hw72 : k0_chk72 i v605), ∀ (k0_h1 : k0_cond1 i = 1#1), ∀ a, (k0_off144 v605) a + S1.size a ≤ S16512.size a := fun i v605 k0_hw72 k0_h1 => k0_hw72 k0_h1

def k0_off145 (k0_t2 : Fin k0_t2_loop.trips) : Fin 3 → Nat :=
  let c0_430 : Index := 0#32
  let c4_431 : Index := 4#32
  let c0_i32_16 : BitVec 32 := 0#32
  let c1_i32_17 : BitVec 32 := 1#32
  let arg16 : BitVec 32 := Scf.iv c0_i32_16 c1_i32_17 k0_t2
  let c16_i32_428 : BitVec 32 := 16#32
  let v610 : BitVec 32 := Scalar.muli arg16 c16_i32_428
  let c7_i32_429 : BitVec 32 := 7#32
  let v611 : BitVec 32 := Scalar.addi v610 c7_i32_429
  let v612 : Index := Scalar.indexCast v611
  ![0, 4, v612.toNat]
def k0_off146 (v613 : BitVec 32) : Fin 1 → Nat :=
  let v614 : Index := Scalar.indexCast v613
  ![v614.toNat]

def k0_chk73 (i : grid0.Coords) (v613 : BitVec 32) : Prop :=
  (∀ (k0_h1 : k0_cond1 i = 1#1), ∀ a, (k0_off146 v613) a + S1.size a ≤ S16512.size a)
theorem k0_off146_inb : ∀ (i : grid0.Coords) (v613 : BitVec 32) (k0_hw73 : k0_chk73 i v613), ∀ (k0_h1 : k0_cond1 i = 1#1), ∀ a, (k0_off146 v613) a + S1.size a ≤ S16512.size a := fun i v613 k0_hw73 k0_h1 => k0_hw73 k0_h1

def k0_off147 (k0_t2 : Fin k0_t2_loop.trips) : Fin 3 → Nat :=
  let c0_436 : Index := 0#32
  let c4_437 : Index := 4#32
  let c0_i32_16 : BitVec 32 := 0#32
  let c1_i32_17 : BitVec 32 := 1#32
  let arg16 : BitVec 32 := Scf.iv c0_i32_16 c1_i32_17 k0_t2
  let c16_i32_434 : BitVec 32 := 16#32
  let v618 : BitVec 32 := Scalar.muli arg16 c16_i32_434
  let c8_i32_435 : BitVec 32 := 8#32
  let v619 : BitVec 32 := Scalar.addi v618 c8_i32_435
  let v620 : Index := Scalar.indexCast v619
  ![0, 4, v620.toNat]
def k0_off148 (v621 : BitVec 32) : Fin 1 → Nat :=
  let v622 : Index := Scalar.indexCast v621
  ![v622.toNat]

def k0_chk74 (i : grid0.Coords) (v621 : BitVec 32) : Prop :=
  (∀ (k0_h1 : k0_cond1 i = 1#1), ∀ a, (k0_off148 v621) a + S1.size a ≤ S16512.size a)
theorem k0_off148_inb : ∀ (i : grid0.Coords) (v621 : BitVec 32) (k0_hw74 : k0_chk74 i v621), ∀ (k0_h1 : k0_cond1 i = 1#1), ∀ a, (k0_off148 v621) a + S1.size a ≤ S16512.size a := fun i v621 k0_hw74 k0_h1 => k0_hw74 k0_h1

def k0_off149 (k0_t2 : Fin k0_t2_loop.trips) : Fin 3 → Nat :=
  let c0_442 : Index := 0#32
  let c4_443 : Index := 4#32
  let c0_i32_16 : BitVec 32 := 0#32
  let c1_i32_17 : BitVec 32 := 1#32
  let arg16 : BitVec 32 := Scf.iv c0_i32_16 c1_i32_17 k0_t2
  let c16_i32_440 : BitVec 32 := 16#32
  let v626 : BitVec 32 := Scalar.muli arg16 c16_i32_440
  let c9_i32_441 : BitVec 32 := 9#32
  let v627 : BitVec 32 := Scalar.addi v626 c9_i32_441
  let v628 : Index := Scalar.indexCast v627
  ![0, 4, v628.toNat]
def k0_off150 (v629 : BitVec 32) : Fin 1 → Nat :=
  let v630 : Index := Scalar.indexCast v629
  ![v630.toNat]

def k0_chk75 (i : grid0.Coords) (v629 : BitVec 32) : Prop :=
  (∀ (k0_h1 : k0_cond1 i = 1#1), ∀ a, (k0_off150 v629) a + S1.size a ≤ S16512.size a)
theorem k0_off150_inb : ∀ (i : grid0.Coords) (v629 : BitVec 32) (k0_hw75 : k0_chk75 i v629), ∀ (k0_h1 : k0_cond1 i = 1#1), ∀ a, (k0_off150 v629) a + S1.size a ≤ S16512.size a := fun i v629 k0_hw75 k0_h1 => k0_hw75 k0_h1

def k0_off151 (k0_t2 : Fin k0_t2_loop.trips) : Fin 3 → Nat :=
  let c0_448 : Index := 0#32
  let c4_449 : Index := 4#32
  let c0_i32_16 : BitVec 32 := 0#32
  let c1_i32_17 : BitVec 32 := 1#32
  let arg16 : BitVec 32 := Scf.iv c0_i32_16 c1_i32_17 k0_t2
  let c16_i32_446 : BitVec 32 := 16#32
  let v634 : BitVec 32 := Scalar.muli arg16 c16_i32_446
  let c10_i32_447 : BitVec 32 := 10#32
  let v635 : BitVec 32 := Scalar.addi v634 c10_i32_447
  let v636 : Index := Scalar.indexCast v635
  ![0, 4, v636.toNat]
def k0_off152 (v637 : BitVec 32) : Fin 1 → Nat :=
  let v638 : Index := Scalar.indexCast v637
  ![v638.toNat]

def k0_chk76 (i : grid0.Coords) (v637 : BitVec 32) : Prop :=
  (∀ (k0_h1 : k0_cond1 i = 1#1), ∀ a, (k0_off152 v637) a + S1.size a ≤ S16512.size a)
theorem k0_off152_inb : ∀ (i : grid0.Coords) (v637 : BitVec 32) (k0_hw76 : k0_chk76 i v637), ∀ (k0_h1 : k0_cond1 i = 1#1), ∀ a, (k0_off152 v637) a + S1.size a ≤ S16512.size a := fun i v637 k0_hw76 k0_h1 => k0_hw76 k0_h1

def k0_off153 (k0_t2 : Fin k0_t2_loop.trips) : Fin 3 → Nat :=
  let c0_454 : Index := 0#32
  let c4_455 : Index := 4#32
  let c0_i32_16 : BitVec 32 := 0#32
  let c1_i32_17 : BitVec 32 := 1#32
  let arg16 : BitVec 32 := Scf.iv c0_i32_16 c1_i32_17 k0_t2
  let c16_i32_452 : BitVec 32 := 16#32
  let v642 : BitVec 32 := Scalar.muli arg16 c16_i32_452
  let c11_i32_453 : BitVec 32 := 11#32
  let v643 : BitVec 32 := Scalar.addi v642 c11_i32_453
  let v644 : Index := Scalar.indexCast v643
  ![0, 4, v644.toNat]
def k0_off154 (v645 : BitVec 32) : Fin 1 → Nat :=
  let v646 : Index := Scalar.indexCast v645
  ![v646.toNat]

def k0_chk77 (i : grid0.Coords) (v645 : BitVec 32) : Prop :=
  (∀ (k0_h1 : k0_cond1 i = 1#1), ∀ a, (k0_off154 v645) a + S1.size a ≤ S16512.size a)
theorem k0_off154_inb : ∀ (i : grid0.Coords) (v645 : BitVec 32) (k0_hw77 : k0_chk77 i v645), ∀ (k0_h1 : k0_cond1 i = 1#1), ∀ a, (k0_off154 v645) a + S1.size a ≤ S16512.size a := fun i v645 k0_hw77 k0_h1 => k0_hw77 k0_h1

def k0_off155 (k0_t2 : Fin k0_t2_loop.trips) : Fin 3 → Nat :=
  let c0_460 : Index := 0#32
  let c4_461 : Index := 4#32
  let c0_i32_16 : BitVec 32 := 0#32
  let c1_i32_17 : BitVec 32 := 1#32
  let arg16 : BitVec 32 := Scf.iv c0_i32_16 c1_i32_17 k0_t2
  let c16_i32_458 : BitVec 32 := 16#32
  let v650 : BitVec 32 := Scalar.muli arg16 c16_i32_458
  let c12_i32_459 : BitVec 32 := 12#32
  let v651 : BitVec 32 := Scalar.addi v650 c12_i32_459
  let v652 : Index := Scalar.indexCast v651
  ![0, 4, v652.toNat]
def k0_off156 (v653 : BitVec 32) : Fin 1 → Nat :=
  let v654 : Index := Scalar.indexCast v653
  ![v654.toNat]

def k0_chk78 (i : grid0.Coords) (v653 : BitVec 32) : Prop :=
  (∀ (k0_h1 : k0_cond1 i = 1#1), ∀ a, (k0_off156 v653) a + S1.size a ≤ S16512.size a)
theorem k0_off156_inb : ∀ (i : grid0.Coords) (v653 : BitVec 32) (k0_hw78 : k0_chk78 i v653), ∀ (k0_h1 : k0_cond1 i = 1#1), ∀ a, (k0_off156 v653) a + S1.size a ≤ S16512.size a := fun i v653 k0_hw78 k0_h1 => k0_hw78 k0_h1

def k0_off157 (k0_t2 : Fin k0_t2_loop.trips) : Fin 3 → Nat :=
  let c0_466 : Index := 0#32
  let c4_467 : Index := 4#32
  let c0_i32_16 : BitVec 32 := 0#32
  let c1_i32_17 : BitVec 32 := 1#32
  let arg16 : BitVec 32 := Scf.iv c0_i32_16 c1_i32_17 k0_t2
  let c16_i32_464 : BitVec 32 := 16#32
  let v658 : BitVec 32 := Scalar.muli arg16 c16_i32_464
  let c13_i32_465 : BitVec 32 := 13#32
  let v659 : BitVec 32 := Scalar.addi v658 c13_i32_465
  let v660 : Index := Scalar.indexCast v659
  ![0, 4, v660.toNat]
def k0_off158 (v661 : BitVec 32) : Fin 1 → Nat :=
  let v662 : Index := Scalar.indexCast v661
  ![v662.toNat]

def k0_chk79 (i : grid0.Coords) (v661 : BitVec 32) : Prop :=
  (∀ (k0_h1 : k0_cond1 i = 1#1), ∀ a, (k0_off158 v661) a + S1.size a ≤ S16512.size a)
theorem k0_off158_inb : ∀ (i : grid0.Coords) (v661 : BitVec 32) (k0_hw79 : k0_chk79 i v661), ∀ (k0_h1 : k0_cond1 i = 1#1), ∀ a, (k0_off158 v661) a + S1.size a ≤ S16512.size a := fun i v661 k0_hw79 k0_h1 => k0_hw79 k0_h1

def k0_off159 (k0_t2 : Fin k0_t2_loop.trips) : Fin 3 → Nat :=
  let c0_472 : Index := 0#32
  let c4_473 : Index := 4#32
  let c0_i32_16 : BitVec 32 := 0#32
  let c1_i32_17 : BitVec 32 := 1#32
  let arg16 : BitVec 32 := Scf.iv c0_i32_16 c1_i32_17 k0_t2
  let c16_i32_470 : BitVec 32 := 16#32
  let v666 : BitVec 32 := Scalar.muli arg16 c16_i32_470
  let c14_i32_471 : BitVec 32 := 14#32
  let v667 : BitVec 32 := Scalar.addi v666 c14_i32_471
  let v668 : Index := Scalar.indexCast v667
  ![0, 4, v668.toNat]
def k0_off160 (v669 : BitVec 32) : Fin 1 → Nat :=
  let v670 : Index := Scalar.indexCast v669
  ![v670.toNat]

def k0_chk80 (i : grid0.Coords) (v669 : BitVec 32) : Prop :=
  (∀ (k0_h1 : k0_cond1 i = 1#1), ∀ a, (k0_off160 v669) a + S1.size a ≤ S16512.size a)
theorem k0_off160_inb : ∀ (i : grid0.Coords) (v669 : BitVec 32) (k0_hw80 : k0_chk80 i v669), ∀ (k0_h1 : k0_cond1 i = 1#1), ∀ a, (k0_off160 v669) a + S1.size a ≤ S16512.size a := fun i v669 k0_hw80 k0_h1 => k0_hw80 k0_h1

def k0_off161 (k0_t2 : Fin k0_t2_loop.trips) : Fin 3 → Nat :=
  let c0_478 : Index := 0#32
  let c4_479 : Index := 4#32
  let c0_i32_16 : BitVec 32 := 0#32
  let c1_i32_17 : BitVec 32 := 1#32
  let arg16 : BitVec 32 := Scf.iv c0_i32_16 c1_i32_17 k0_t2
  let c16_i32_476 : BitVec 32 := 16#32
  let v674 : BitVec 32 := Scalar.muli arg16 c16_i32_476
  let c15_i32_477 : BitVec 32 := 15#32
  let v675 : BitVec 32 := Scalar.addi v674 c15_i32_477
  let v676 : Index := Scalar.indexCast v675
  ![0, 4, v676.toNat]
def k0_off162 (v677 : BitVec 32) : Fin 1 → Nat :=
  let v678 : Index := Scalar.indexCast v677
  ![v678.toNat]

def k0_chk81 (i : grid0.Coords) (v677 : BitVec 32) : Prop :=
  (∀ (k0_h1 : k0_cond1 i = 1#1), ∀ a, (k0_off162 v677) a + S1.size a ≤ S16512.size a)
theorem k0_off162_inb : ∀ (i : grid0.Coords) (v677 : BitVec 32) (k0_hw81 : k0_chk81 i v677), ∀ (k0_h1 : k0_cond1 i = 1#1), ∀ a, (k0_off162 v677) a + S1.size a ≤ S16512.size a := fun i v677 k0_hw81 k0_h1 => k0_hw81 k0_h1

def k0_off163 (k0_t2 : Fin k0_t2_loop.trips) : Fin 3 → Nat :=
  let c0_484 : Index := 0#32
  let c5 : Index := 5#32
  let c0_i32_16 : BitVec 32 := 0#32
  let c1_i32_17 : BitVec 32 := 1#32
  let arg16 : BitVec 32 := Scf.iv c0_i32_16 c1_i32_17 k0_t2
  let c16_i32_482 : BitVec 32 := 16#32
  let v682 : BitVec 32 := Scalar.muli arg16 c16_i32_482
  let c0_i32_483 : BitVec 32 := 0#32
  let v683 : BitVec 32 := Scalar.addi v682 c0_i32_483
  let v684 : Index := Scalar.indexCast v683
  ![0, 5, v684.toNat]
def k0_off164 (v685 : BitVec 32) : Fin 1 → Nat :=
  let v686 : Index := Scalar.indexCast v685
  ![v686.toNat]

def k0_chk82 (i : grid0.Coords) (v685 : BitVec 32) : Prop :=
  (∀ (k0_h1 : k0_cond1 i = 1#1), ∀ a, (k0_off164 v685) a + S1.size a ≤ S16512.size a)
theorem k0_off164_inb : ∀ (i : grid0.Coords) (v685 : BitVec 32) (k0_hw82 : k0_chk82 i v685), ∀ (k0_h1 : k0_cond1 i = 1#1), ∀ a, (k0_off164 v685) a + S1.size a ≤ S16512.size a := fun i v685 k0_hw82 k0_h1 => k0_hw82 k0_h1

def k0_off165 (k0_t2 : Fin k0_t2_loop.trips) : Fin 3 → Nat :=
  let c0_489 : Index := 0#32
  let c5_490 : Index := 5#32
  let c0_i32_16 : BitVec 32 := 0#32
  let c1_i32_17 : BitVec 32 := 1#32
  let arg16 : BitVec 32 := Scf.iv c0_i32_16 c1_i32_17 k0_t2
  let c16_i32_487 : BitVec 32 := 16#32
  let v690 : BitVec 32 := Scalar.muli arg16 c16_i32_487
  let c1_i32_488 : BitVec 32 := 1#32
  let v691 : BitVec 32 := Scalar.addi v690 c1_i32_488
  let v692 : Index := Scalar.indexCast v691
  ![0, 5, v692.toNat]
def k0_off166 (v693 : BitVec 32) : Fin 1 → Nat :=
  let v694 : Index := Scalar.indexCast v693
  ![v694.toNat]

def k0_chk83 (i : grid0.Coords) (v693 : BitVec 32) : Prop :=
  (∀ (k0_h1 : k0_cond1 i = 1#1), ∀ a, (k0_off166 v693) a + S1.size a ≤ S16512.size a)
theorem k0_off166_inb : ∀ (i : grid0.Coords) (v693 : BitVec 32) (k0_hw83 : k0_chk83 i v693), ∀ (k0_h1 : k0_cond1 i = 1#1), ∀ a, (k0_off166 v693) a + S1.size a ≤ S16512.size a := fun i v693 k0_hw83 k0_h1 => k0_hw83 k0_h1

def k0_off167 (k0_t2 : Fin k0_t2_loop.trips) : Fin 3 → Nat :=
  let c0_495 : Index := 0#32
  let c5_496 : Index := 5#32
  let c0_i32_16 : BitVec 32 := 0#32
  let c1_i32_17 : BitVec 32 := 1#32
  let arg16 : BitVec 32 := Scf.iv c0_i32_16 c1_i32_17 k0_t2
  let c16_i32_493 : BitVec 32 := 16#32
  let v698 : BitVec 32 := Scalar.muli arg16 c16_i32_493
  let c2_i32_494 : BitVec 32 := 2#32
  let v699 : BitVec 32 := Scalar.addi v698 c2_i32_494
  let v700 : Index := Scalar.indexCast v699
  ![0, 5, v700.toNat]
def k0_off168 (v701 : BitVec 32) : Fin 1 → Nat :=
  let v702 : Index := Scalar.indexCast v701
  ![v702.toNat]

def k0_chk84 (i : grid0.Coords) (v701 : BitVec 32) : Prop :=
  (∀ (k0_h1 : k0_cond1 i = 1#1), ∀ a, (k0_off168 v701) a + S1.size a ≤ S16512.size a)
theorem k0_off168_inb : ∀ (i : grid0.Coords) (v701 : BitVec 32) (k0_hw84 : k0_chk84 i v701), ∀ (k0_h1 : k0_cond1 i = 1#1), ∀ a, (k0_off168 v701) a + S1.size a ≤ S16512.size a := fun i v701 k0_hw84 k0_h1 => k0_hw84 k0_h1

def k0_off169 (k0_t2 : Fin k0_t2_loop.trips) : Fin 3 → Nat :=
  let c0_501 : Index := 0#32
  let c5_502 : Index := 5#32
  let c0_i32_16 : BitVec 32 := 0#32
  let c1_i32_17 : BitVec 32 := 1#32
  let arg16 : BitVec 32 := Scf.iv c0_i32_16 c1_i32_17 k0_t2
  let c16_i32_499 : BitVec 32 := 16#32
  let v706 : BitVec 32 := Scalar.muli arg16 c16_i32_499
  let c3_i32_500 : BitVec 32 := 3#32
  let v707 : BitVec 32 := Scalar.addi v706 c3_i32_500
  let v708 : Index := Scalar.indexCast v707
  ![0, 5, v708.toNat]
def k0_off170 (v709 : BitVec 32) : Fin 1 → Nat :=
  let v710 : Index := Scalar.indexCast v709
  ![v710.toNat]

def k0_chk85 (i : grid0.Coords) (v709 : BitVec 32) : Prop :=
  (∀ (k0_h1 : k0_cond1 i = 1#1), ∀ a, (k0_off170 v709) a + S1.size a ≤ S16512.size a)
theorem k0_off170_inb : ∀ (i : grid0.Coords) (v709 : BitVec 32) (k0_hw85 : k0_chk85 i v709), ∀ (k0_h1 : k0_cond1 i = 1#1), ∀ a, (k0_off170 v709) a + S1.size a ≤ S16512.size a := fun i v709 k0_hw85 k0_h1 => k0_hw85 k0_h1

def k0_off171 (k0_t2 : Fin k0_t2_loop.trips) : Fin 3 → Nat :=
  let c0_507 : Index := 0#32
  let c5_508 : Index := 5#32
  let c0_i32_16 : BitVec 32 := 0#32
  let c1_i32_17 : BitVec 32 := 1#32
  let arg16 : BitVec 32 := Scf.iv c0_i32_16 c1_i32_17 k0_t2
  let c16_i32_505 : BitVec 32 := 16#32
  let v714 : BitVec 32 := Scalar.muli arg16 c16_i32_505
  let c4_i32_506 : BitVec 32 := 4#32
  let v715 : BitVec 32 := Scalar.addi v714 c4_i32_506
  let v716 : Index := Scalar.indexCast v715
  ![0, 5, v716.toNat]
def k0_off172 (v717 : BitVec 32) : Fin 1 → Nat :=
  let v718 : Index := Scalar.indexCast v717
  ![v718.toNat]

def k0_chk86 (i : grid0.Coords) (v717 : BitVec 32) : Prop :=
  (∀ (k0_h1 : k0_cond1 i = 1#1), ∀ a, (k0_off172 v717) a + S1.size a ≤ S16512.size a)
theorem k0_off172_inb : ∀ (i : grid0.Coords) (v717 : BitVec 32) (k0_hw86 : k0_chk86 i v717), ∀ (k0_h1 : k0_cond1 i = 1#1), ∀ a, (k0_off172 v717) a + S1.size a ≤ S16512.size a := fun i v717 k0_hw86 k0_h1 => k0_hw86 k0_h1

def k0_off173 (k0_t2 : Fin k0_t2_loop.trips) : Fin 3 → Nat :=
  let c0_513 : Index := 0#32
  let c5_514 : Index := 5#32
  let c0_i32_16 : BitVec 32 := 0#32
  let c1_i32_17 : BitVec 32 := 1#32
  let arg16 : BitVec 32 := Scf.iv c0_i32_16 c1_i32_17 k0_t2
  let c16_i32_511 : BitVec 32 := 16#32
  let v722 : BitVec 32 := Scalar.muli arg16 c16_i32_511
  let c5_i32_512 : BitVec 32 := 5#32
  let v723 : BitVec 32 := Scalar.addi v722 c5_i32_512
  let v724 : Index := Scalar.indexCast v723
  ![0, 5, v724.toNat]
def k0_off174 (v725 : BitVec 32) : Fin 1 → Nat :=
  let v726 : Index := Scalar.indexCast v725
  ![v726.toNat]

def k0_chk87 (i : grid0.Coords) (v725 : BitVec 32) : Prop :=
  (∀ (k0_h1 : k0_cond1 i = 1#1), ∀ a, (k0_off174 v725) a + S1.size a ≤ S16512.size a)
theorem k0_off174_inb : ∀ (i : grid0.Coords) (v725 : BitVec 32) (k0_hw87 : k0_chk87 i v725), ∀ (k0_h1 : k0_cond1 i = 1#1), ∀ a, (k0_off174 v725) a + S1.size a ≤ S16512.size a := fun i v725 k0_hw87 k0_h1 => k0_hw87 k0_h1

def k0_off175 (k0_t2 : Fin k0_t2_loop.trips) : Fin 3 → Nat :=
  let c0_519 : Index := 0#32
  let c5_520 : Index := 5#32
  let c0_i32_16 : BitVec 32 := 0#32
  let c1_i32_17 : BitVec 32 := 1#32
  let arg16 : BitVec 32 := Scf.iv c0_i32_16 c1_i32_17 k0_t2
  let c16_i32_517 : BitVec 32 := 16#32
  let v730 : BitVec 32 := Scalar.muli arg16 c16_i32_517
  let c6_i32_518 : BitVec 32 := 6#32
  let v731 : BitVec 32 := Scalar.addi v730 c6_i32_518
  let v732 : Index := Scalar.indexCast v731
  ![0, 5, v732.toNat]
def k0_off176 (v733 : BitVec 32) : Fin 1 → Nat :=
  let v734 : Index := Scalar.indexCast v733
  ![v734.toNat]

def k0_chk88 (i : grid0.Coords) (v733 : BitVec 32) : Prop :=
  (∀ (k0_h1 : k0_cond1 i = 1#1), ∀ a, (k0_off176 v733) a + S1.size a ≤ S16512.size a)
theorem k0_off176_inb : ∀ (i : grid0.Coords) (v733 : BitVec 32) (k0_hw88 : k0_chk88 i v733), ∀ (k0_h1 : k0_cond1 i = 1#1), ∀ a, (k0_off176 v733) a + S1.size a ≤ S16512.size a := fun i v733 k0_hw88 k0_h1 => k0_hw88 k0_h1

def k0_off177 (k0_t2 : Fin k0_t2_loop.trips) : Fin 3 → Nat :=
  let c0_525 : Index := 0#32
  let c5_526 : Index := 5#32
  let c0_i32_16 : BitVec 32 := 0#32
  let c1_i32_17 : BitVec 32 := 1#32
  let arg16 : BitVec 32 := Scf.iv c0_i32_16 c1_i32_17 k0_t2
  let c16_i32_523 : BitVec 32 := 16#32
  let v738 : BitVec 32 := Scalar.muli arg16 c16_i32_523
  let c7_i32_524 : BitVec 32 := 7#32
  let v739 : BitVec 32 := Scalar.addi v738 c7_i32_524
  let v740 : Index := Scalar.indexCast v739
  ![0, 5, v740.toNat]
def k0_off178 (v741 : BitVec 32) : Fin 1 → Nat :=
  let v742 : Index := Scalar.indexCast v741
  ![v742.toNat]

def k0_chk89 (i : grid0.Coords) (v741 : BitVec 32) : Prop :=
  (∀ (k0_h1 : k0_cond1 i = 1#1), ∀ a, (k0_off178 v741) a + S1.size a ≤ S16512.size a)
theorem k0_off178_inb : ∀ (i : grid0.Coords) (v741 : BitVec 32) (k0_hw89 : k0_chk89 i v741), ∀ (k0_h1 : k0_cond1 i = 1#1), ∀ a, (k0_off178 v741) a + S1.size a ≤ S16512.size a := fun i v741 k0_hw89 k0_h1 => k0_hw89 k0_h1

def k0_off179 (k0_t2 : Fin k0_t2_loop.trips) : Fin 3 → Nat :=
  let c0_531 : Index := 0#32
  let c5_532 : Index := 5#32
  let c0_i32_16 : BitVec 32 := 0#32
  let c1_i32_17 : BitVec 32 := 1#32
  let arg16 : BitVec 32 := Scf.iv c0_i32_16 c1_i32_17 k0_t2
  let c16_i32_529 : BitVec 32 := 16#32
  let v746 : BitVec 32 := Scalar.muli arg16 c16_i32_529
  let c8_i32_530 : BitVec 32 := 8#32
  let v747 : BitVec 32 := Scalar.addi v746 c8_i32_530
  let v748 : Index := Scalar.indexCast v747
  ![0, 5, v748.toNat]
def k0_off180 (v749 : BitVec 32) : Fin 1 → Nat :=
  let v750 : Index := Scalar.indexCast v749
  ![v750.toNat]

def k0_chk90 (i : grid0.Coords) (v749 : BitVec 32) : Prop :=
  (∀ (k0_h1 : k0_cond1 i = 1#1), ∀ a, (k0_off180 v749) a + S1.size a ≤ S16512.size a)
theorem k0_off180_inb : ∀ (i : grid0.Coords) (v749 : BitVec 32) (k0_hw90 : k0_chk90 i v749), ∀ (k0_h1 : k0_cond1 i = 1#1), ∀ a, (k0_off180 v749) a + S1.size a ≤ S16512.size a := fun i v749 k0_hw90 k0_h1 => k0_hw90 k0_h1

def k0_off181 (k0_t2 : Fin k0_t2_loop.trips) : Fin 3 → Nat :=
  let c0_537 : Index := 0#32
  let c5_538 : Index := 5#32
  let c0_i32_16 : BitVec 32 := 0#32
  let c1_i32_17 : BitVec 32 := 1#32
  let arg16 : BitVec 32 := Scf.iv c0_i32_16 c1_i32_17 k0_t2
  let c16_i32_535 : BitVec 32 := 16#32
  let v754 : BitVec 32 := Scalar.muli arg16 c16_i32_535
  let c9_i32_536 : BitVec 32 := 9#32
  let v755 : BitVec 32 := Scalar.addi v754 c9_i32_536
  let v756 : Index := Scalar.indexCast v755
  ![0, 5, v756.toNat]
def k0_off182 (v757 : BitVec 32) : Fin 1 → Nat :=
  let v758 : Index := Scalar.indexCast v757
  ![v758.toNat]

def k0_chk91 (i : grid0.Coords) (v757 : BitVec 32) : Prop :=
  (∀ (k0_h1 : k0_cond1 i = 1#1), ∀ a, (k0_off182 v757) a + S1.size a ≤ S16512.size a)
theorem k0_off182_inb : ∀ (i : grid0.Coords) (v757 : BitVec 32) (k0_hw91 : k0_chk91 i v757), ∀ (k0_h1 : k0_cond1 i = 1#1), ∀ a, (k0_off182 v757) a + S1.size a ≤ S16512.size a := fun i v757 k0_hw91 k0_h1 => k0_hw91 k0_h1

def k0_off183 (k0_t2 : Fin k0_t2_loop.trips) : Fin 3 → Nat :=
  let c0_543 : Index := 0#32
  let c5_544 : Index := 5#32
  let c0_i32_16 : BitVec 32 := 0#32
  let c1_i32_17 : BitVec 32 := 1#32
  let arg16 : BitVec 32 := Scf.iv c0_i32_16 c1_i32_17 k0_t2
  let c16_i32_541 : BitVec 32 := 16#32
  let v762 : BitVec 32 := Scalar.muli arg16 c16_i32_541
  let c10_i32_542 : BitVec 32 := 10#32
  let v763 : BitVec 32 := Scalar.addi v762 c10_i32_542
  let v764 : Index := Scalar.indexCast v763
  ![0, 5, v764.toNat]
def k0_off184 (v765 : BitVec 32) : Fin 1 → Nat :=
  let v766 : Index := Scalar.indexCast v765
  ![v766.toNat]

def k0_chk92 (i : grid0.Coords) (v765 : BitVec 32) : Prop :=
  (∀ (k0_h1 : k0_cond1 i = 1#1), ∀ a, (k0_off184 v765) a + S1.size a ≤ S16512.size a)
theorem k0_off184_inb : ∀ (i : grid0.Coords) (v765 : BitVec 32) (k0_hw92 : k0_chk92 i v765), ∀ (k0_h1 : k0_cond1 i = 1#1), ∀ a, (k0_off184 v765) a + S1.size a ≤ S16512.size a := fun i v765 k0_hw92 k0_h1 => k0_hw92 k0_h1

def k0_off185 (k0_t2 : Fin k0_t2_loop.trips) : Fin 3 → Nat :=
  let c0_549 : Index := 0#32
  let c5_550 : Index := 5#32
  let c0_i32_16 : BitVec 32 := 0#32
  let c1_i32_17 : BitVec 32 := 1#32
  let arg16 : BitVec 32 := Scf.iv c0_i32_16 c1_i32_17 k0_t2
  let c16_i32_547 : BitVec 32 := 16#32
  let v770 : BitVec 32 := Scalar.muli arg16 c16_i32_547
  let c11_i32_548 : BitVec 32 := 11#32
  let v771 : BitVec 32 := Scalar.addi v770 c11_i32_548
  let v772 : Index := Scalar.indexCast v771
  ![0, 5, v772.toNat]
def k0_off186 (v773 : BitVec 32) : Fin 1 → Nat :=
  let v774 : Index := Scalar.indexCast v773
  ![v774.toNat]

def k0_chk93 (i : grid0.Coords) (v773 : BitVec 32) : Prop :=
  (∀ (k0_h1 : k0_cond1 i = 1#1), ∀ a, (k0_off186 v773) a + S1.size a ≤ S16512.size a)
theorem k0_off186_inb : ∀ (i : grid0.Coords) (v773 : BitVec 32) (k0_hw93 : k0_chk93 i v773), ∀ (k0_h1 : k0_cond1 i = 1#1), ∀ a, (k0_off186 v773) a + S1.size a ≤ S16512.size a := fun i v773 k0_hw93 k0_h1 => k0_hw93 k0_h1

def k0_off187 (k0_t2 : Fin k0_t2_loop.trips) : Fin 3 → Nat :=
  let c0_555 : Index := 0#32
  let c5_556 : Index := 5#32
  let c0_i32_16 : BitVec 32 := 0#32
  let c1_i32_17 : BitVec 32 := 1#32
  let arg16 : BitVec 32 := Scf.iv c0_i32_16 c1_i32_17 k0_t2
  let c16_i32_553 : BitVec 32 := 16#32
  let v778 : BitVec 32 := Scalar.muli arg16 c16_i32_553
  let c12_i32_554 : BitVec 32 := 12#32
  let v779 : BitVec 32 := Scalar.addi v778 c12_i32_554
  let v780 : Index := Scalar.indexCast v779
  ![0, 5, v780.toNat]
def k0_off188 (v781 : BitVec 32) : Fin 1 → Nat :=
  let v782 : Index := Scalar.indexCast v781
  ![v782.toNat]

def k0_chk94 (i : grid0.Coords) (v781 : BitVec 32) : Prop :=
  (∀ (k0_h1 : k0_cond1 i = 1#1), ∀ a, (k0_off188 v781) a + S1.size a ≤ S16512.size a)
theorem k0_off188_inb : ∀ (i : grid0.Coords) (v781 : BitVec 32) (k0_hw94 : k0_chk94 i v781), ∀ (k0_h1 : k0_cond1 i = 1#1), ∀ a, (k0_off188 v781) a + S1.size a ≤ S16512.size a := fun i v781 k0_hw94 k0_h1 => k0_hw94 k0_h1

def k0_off189 (k0_t2 : Fin k0_t2_loop.trips) : Fin 3 → Nat :=
  let c0_561 : Index := 0#32
  let c5_562 : Index := 5#32
  let c0_i32_16 : BitVec 32 := 0#32
  let c1_i32_17 : BitVec 32 := 1#32
  let arg16 : BitVec 32 := Scf.iv c0_i32_16 c1_i32_17 k0_t2
  let c16_i32_559 : BitVec 32 := 16#32
  let v786 : BitVec 32 := Scalar.muli arg16 c16_i32_559
  let c13_i32_560 : BitVec 32 := 13#32
  let v787 : BitVec 32 := Scalar.addi v786 c13_i32_560
  let v788 : Index := Scalar.indexCast v787
  ![0, 5, v788.toNat]
def k0_off190 (v789 : BitVec 32) : Fin 1 → Nat :=
  let v790 : Index := Scalar.indexCast v789
  ![v790.toNat]

def k0_chk95 (i : grid0.Coords) (v789 : BitVec 32) : Prop :=
  (∀ (k0_h1 : k0_cond1 i = 1#1), ∀ a, (k0_off190 v789) a + S1.size a ≤ S16512.size a)
theorem k0_off190_inb : ∀ (i : grid0.Coords) (v789 : BitVec 32) (k0_hw95 : k0_chk95 i v789), ∀ (k0_h1 : k0_cond1 i = 1#1), ∀ a, (k0_off190 v789) a + S1.size a ≤ S16512.size a := fun i v789 k0_hw95 k0_h1 => k0_hw95 k0_h1

def k0_off191 (k0_t2 : Fin k0_t2_loop.trips) : Fin 3 → Nat :=
  let c0_567 : Index := 0#32
  let c5_568 : Index := 5#32
  let c0_i32_16 : BitVec 32 := 0#32
  let c1_i32_17 : BitVec 32 := 1#32
  let arg16 : BitVec 32 := Scf.iv c0_i32_16 c1_i32_17 k0_t2
  let c16_i32_565 : BitVec 32 := 16#32
  let v794 : BitVec 32 := Scalar.muli arg16 c16_i32_565
  let c14_i32_566 : BitVec 32 := 14#32
  let v795 : BitVec 32 := Scalar.addi v794 c14_i32_566
  let v796 : Index := Scalar.indexCast v795
  ![0, 5, v796.toNat]
def k0_off192 (v797 : BitVec 32) : Fin 1 → Nat :=
  let v798 : Index := Scalar.indexCast v797
  ![v798.toNat]

def k0_chk96 (i : grid0.Coords) (v797 : BitVec 32) : Prop :=
  (∀ (k0_h1 : k0_cond1 i = 1#1), ∀ a, (k0_off192 v797) a + S1.size a ≤ S16512.size a)
theorem k0_off192_inb : ∀ (i : grid0.Coords) (v797 : BitVec 32) (k0_hw96 : k0_chk96 i v797), ∀ (k0_h1 : k0_cond1 i = 1#1), ∀ a, (k0_off192 v797) a + S1.size a ≤ S16512.size a := fun i v797 k0_hw96 k0_h1 => k0_hw96 k0_h1

def k0_off193 (k0_t2 : Fin k0_t2_loop.trips) : Fin 3 → Nat :=
  let c0_573 : Index := 0#32
  let c5_574 : Index := 5#32
  let c0_i32_16 : BitVec 32 := 0#32
  let c1_i32_17 : BitVec 32 := 1#32
  let arg16 : BitVec 32 := Scf.iv c0_i32_16 c1_i32_17 k0_t2
  let c16_i32_571 : BitVec 32 := 16#32
  let v802 : BitVec 32 := Scalar.muli arg16 c16_i32_571
  let c15_i32_572 : BitVec 32 := 15#32
  let v803 : BitVec 32 := Scalar.addi v802 c15_i32_572
  let v804 : Index := Scalar.indexCast v803
  ![0, 5, v804.toNat]
def k0_off194 (v805 : BitVec 32) : Fin 1 → Nat :=
  let v806 : Index := Scalar.indexCast v805
  ![v806.toNat]

def k0_chk97 (i : grid0.Coords) (v805 : BitVec 32) : Prop :=
  (∀ (k0_h1 : k0_cond1 i = 1#1), ∀ a, (k0_off194 v805) a + S1.size a ≤ S16512.size a)
theorem k0_off194_inb : ∀ (i : grid0.Coords) (v805 : BitVec 32) (k0_hw97 : k0_chk97 i v805), ∀ (k0_h1 : k0_cond1 i = 1#1), ∀ a, (k0_off194 v805) a + S1.size a ≤ S16512.size a := fun i v805 k0_hw97 k0_h1 => k0_hw97 k0_h1

def k0_off195 (k0_t2 : Fin k0_t2_loop.trips) : Fin 3 → Nat :=
  let c0_579 : Index := 0#32
  let c6 : Index := 6#32
  let c0_i32_16 : BitVec 32 := 0#32
  let c1_i32_17 : BitVec 32 := 1#32
  let arg16 : BitVec 32 := Scf.iv c0_i32_16 c1_i32_17 k0_t2
  let c16_i32_577 : BitVec 32 := 16#32
  let v810 : BitVec 32 := Scalar.muli arg16 c16_i32_577
  let c0_i32_578 : BitVec 32 := 0#32
  let v811 : BitVec 32 := Scalar.addi v810 c0_i32_578
  let v812 : Index := Scalar.indexCast v811
  ![0, 6, v812.toNat]
def k0_off196 (v813 : BitVec 32) : Fin 1 → Nat :=
  let v814 : Index := Scalar.indexCast v813
  ![v814.toNat]

def k0_chk98 (i : grid0.Coords) (v813 : BitVec 32) : Prop :=
  (∀ (k0_h1 : k0_cond1 i = 1#1), ∀ a, (k0_off196 v813) a + S1.size a ≤ S16512.size a)
theorem k0_off196_inb : ∀ (i : grid0.Coords) (v813 : BitVec 32) (k0_hw98 : k0_chk98 i v813), ∀ (k0_h1 : k0_cond1 i = 1#1), ∀ a, (k0_off196 v813) a + S1.size a ≤ S16512.size a := fun i v813 k0_hw98 k0_h1 => k0_hw98 k0_h1

def k0_off197 (k0_t2 : Fin k0_t2_loop.trips) : Fin 3 → Nat :=
  let c0_584 : Index := 0#32
  let c6_585 : Index := 6#32
  let c0_i32_16 : BitVec 32 := 0#32
  let c1_i32_17 : BitVec 32 := 1#32
  let arg16 : BitVec 32 := Scf.iv c0_i32_16 c1_i32_17 k0_t2
  let c16_i32_582 : BitVec 32 := 16#32
  let v818 : BitVec 32 := Scalar.muli arg16 c16_i32_582
  let c1_i32_583 : BitVec 32 := 1#32
  let v819 : BitVec 32 := Scalar.addi v818 c1_i32_583
  let v820 : Index := Scalar.indexCast v819
  ![0, 6, v820.toNat]
def k0_off198 (v821 : BitVec 32) : Fin 1 → Nat :=
  let v822 : Index := Scalar.indexCast v821
  ![v822.toNat]

def k0_chk99 (i : grid0.Coords) (v821 : BitVec 32) : Prop :=
  (∀ (k0_h1 : k0_cond1 i = 1#1), ∀ a, (k0_off198 v821) a + S1.size a ≤ S16512.size a)
theorem k0_off198_inb : ∀ (i : grid0.Coords) (v821 : BitVec 32) (k0_hw99 : k0_chk99 i v821), ∀ (k0_h1 : k0_cond1 i = 1#1), ∀ a, (k0_off198 v821) a + S1.size a ≤ S16512.size a := fun i v821 k0_hw99 k0_h1 => k0_hw99 k0_h1

def k0_off199 (k0_t2 : Fin k0_t2_loop.trips) : Fin 3 → Nat :=
  let c0_590 : Index := 0#32
  let c6_591 : Index := 6#32
  let c0_i32_16 : BitVec 32 := 0#32
  let c1_i32_17 : BitVec 32 := 1#32
  let arg16 : BitVec 32 := Scf.iv c0_i32_16 c1_i32_17 k0_t2
  let c16_i32_588 : BitVec 32 := 16#32
  let v826 : BitVec 32 := Scalar.muli arg16 c16_i32_588
  let c2_i32_589 : BitVec 32 := 2#32
  let v827 : BitVec 32 := Scalar.addi v826 c2_i32_589
  let v828 : Index := Scalar.indexCast v827
  ![0, 6, v828.toNat]
def k0_off200 (v829 : BitVec 32) : Fin 1 → Nat :=
  let v830 : Index := Scalar.indexCast v829
  ![v830.toNat]

def k0_chk100 (i : grid0.Coords) (v829 : BitVec 32) : Prop :=
  (∀ (k0_h1 : k0_cond1 i = 1#1), ∀ a, (k0_off200 v829) a + S1.size a ≤ S16512.size a)
theorem k0_off200_inb : ∀ (i : grid0.Coords) (v829 : BitVec 32) (k0_hw100 : k0_chk100 i v829), ∀ (k0_h1 : k0_cond1 i = 1#1), ∀ a, (k0_off200 v829) a + S1.size a ≤ S16512.size a := fun i v829 k0_hw100 k0_h1 => k0_hw100 k0_h1

def k0_off201 (k0_t2 : Fin k0_t2_loop.trips) : Fin 3 → Nat :=
  let c0_596 : Index := 0#32
  let c6_597 : Index := 6#32
  let c0_i32_16 : BitVec 32 := 0#32
  let c1_i32_17 : BitVec 32 := 1#32
  let arg16 : BitVec 32 := Scf.iv c0_i32_16 c1_i32_17 k0_t2
  let c16_i32_594 : BitVec 32 := 16#32
  let v834 : BitVec 32 := Scalar.muli arg16 c16_i32_594
  let c3_i32_595 : BitVec 32 := 3#32
  let v835 : BitVec 32 := Scalar.addi v834 c3_i32_595
  let v836 : Index := Scalar.indexCast v835
  ![0, 6, v836.toNat]
def k0_off202 (v837 : BitVec 32) : Fin 1 → Nat :=
  let v838 : Index := Scalar.indexCast v837
  ![v838.toNat]

def k0_chk101 (i : grid0.Coords) (v837 : BitVec 32) : Prop :=
  (∀ (k0_h1 : k0_cond1 i = 1#1), ∀ a, (k0_off202 v837) a + S1.size a ≤ S16512.size a)
theorem k0_off202_inb : ∀ (i : grid0.Coords) (v837 : BitVec 32) (k0_hw101 : k0_chk101 i v837), ∀ (k0_h1 : k0_cond1 i = 1#1), ∀ a, (k0_off202 v837) a + S1.size a ≤ S16512.size a := fun i v837 k0_hw101 k0_h1 => k0_hw101 k0_h1

def k0_off203 (k0_t2 : Fin k0_t2_loop.trips) : Fin 3 → Nat :=
  let c0_602 : Index := 0#32
  let c6_603 : Index := 6#32
  let c0_i32_16 : BitVec 32 := 0#32
  let c1_i32_17 : BitVec 32 := 1#32
  let arg16 : BitVec 32 := Scf.iv c0_i32_16 c1_i32_17 k0_t2
  let c16_i32_600 : BitVec 32 := 16#32
  let v842 : BitVec 32 := Scalar.muli arg16 c16_i32_600
  let c4_i32_601 : BitVec 32 := 4#32
  let v843 : BitVec 32 := Scalar.addi v842 c4_i32_601
  let v844 : Index := Scalar.indexCast v843
  ![0, 6, v844.toNat]
def k0_off204 (v845 : BitVec 32) : Fin 1 → Nat :=
  let v846 : Index := Scalar.indexCast v845
  ![v846.toNat]

def k0_chk102 (i : grid0.Coords) (v845 : BitVec 32) : Prop :=
  (∀ (k0_h1 : k0_cond1 i = 1#1), ∀ a, (k0_off204 v845) a + S1.size a ≤ S16512.size a)
theorem k0_off204_inb : ∀ (i : grid0.Coords) (v845 : BitVec 32) (k0_hw102 : k0_chk102 i v845), ∀ (k0_h1 : k0_cond1 i = 1#1), ∀ a, (k0_off204 v845) a + S1.size a ≤ S16512.size a := fun i v845 k0_hw102 k0_h1 => k0_hw102 k0_h1

def k0_off205 (k0_t2 : Fin k0_t2_loop.trips) : Fin 3 → Nat :=
  let c0_608 : Index := 0#32
  let c6_609 : Index := 6#32
  let c0_i32_16 : BitVec 32 := 0#32
  let c1_i32_17 : BitVec 32 := 1#32
  let arg16 : BitVec 32 := Scf.iv c0_i32_16 c1_i32_17 k0_t2
  let c16_i32_606 : BitVec 32 := 16#32
  let v850 : BitVec 32 := Scalar.muli arg16 c16_i32_606
  let c5_i32_607 : BitVec 32 := 5#32
  let v851 : BitVec 32 := Scalar.addi v850 c5_i32_607
  let v852 : Index := Scalar.indexCast v851
  ![0, 6, v852.toNat]
def k0_off206 (v853 : BitVec 32) : Fin 1 → Nat :=
  let v854 : Index := Scalar.indexCast v853
  ![v854.toNat]

def k0_chk103 (i : grid0.Coords) (v853 : BitVec 32) : Prop :=
  (∀ (k0_h1 : k0_cond1 i = 1#1), ∀ a, (k0_off206 v853) a + S1.size a ≤ S16512.size a)
theorem k0_off206_inb : ∀ (i : grid0.Coords) (v853 : BitVec 32) (k0_hw103 : k0_chk103 i v853), ∀ (k0_h1 : k0_cond1 i = 1#1), ∀ a, (k0_off206 v853) a + S1.size a ≤ S16512.size a := fun i v853 k0_hw103 k0_h1 => k0_hw103 k0_h1

def k0_off207 (k0_t2 : Fin k0_t2_loop.trips) : Fin 3 → Nat :=
  let c0_614 : Index := 0#32
  let c6_615 : Index := 6#32
  let c0_i32_16 : BitVec 32 := 0#32
  let c1_i32_17 : BitVec 32 := 1#32
  let arg16 : BitVec 32 := Scf.iv c0_i32_16 c1_i32_17 k0_t2
  let c16_i32_612 : BitVec 32 := 16#32
  let v858 : BitVec 32 := Scalar.muli arg16 c16_i32_612
  let c6_i32_613 : BitVec 32 := 6#32
  let v859 : BitVec 32 := Scalar.addi v858 c6_i32_613
  let v860 : Index := Scalar.indexCast v859
  ![0, 6, v860.toNat]
def k0_off208 (v861 : BitVec 32) : Fin 1 → Nat :=
  let v862 : Index := Scalar.indexCast v861
  ![v862.toNat]

def k0_chk104 (i : grid0.Coords) (v861 : BitVec 32) : Prop :=
  (∀ (k0_h1 : k0_cond1 i = 1#1), ∀ a, (k0_off208 v861) a + S1.size a ≤ S16512.size a)
theorem k0_off208_inb : ∀ (i : grid0.Coords) (v861 : BitVec 32) (k0_hw104 : k0_chk104 i v861), ∀ (k0_h1 : k0_cond1 i = 1#1), ∀ a, (k0_off208 v861) a + S1.size a ≤ S16512.size a := fun i v861 k0_hw104 k0_h1 => k0_hw104 k0_h1

def k0_off209 (k0_t2 : Fin k0_t2_loop.trips) : Fin 3 → Nat :=
  let c0_620 : Index := 0#32
  let c6_621 : Index := 6#32
  let c0_i32_16 : BitVec 32 := 0#32
  let c1_i32_17 : BitVec 32 := 1#32
  let arg16 : BitVec 32 := Scf.iv c0_i32_16 c1_i32_17 k0_t2
  let c16_i32_618 : BitVec 32 := 16#32
  let v866 : BitVec 32 := Scalar.muli arg16 c16_i32_618
  let c7_i32_619 : BitVec 32 := 7#32
  let v867 : BitVec 32 := Scalar.addi v866 c7_i32_619
  let v868 : Index := Scalar.indexCast v867
  ![0, 6, v868.toNat]
def k0_off210 (v869 : BitVec 32) : Fin 1 → Nat :=
  let v870 : Index := Scalar.indexCast v869
  ![v870.toNat]

def k0_chk105 (i : grid0.Coords) (v869 : BitVec 32) : Prop :=
  (∀ (k0_h1 : k0_cond1 i = 1#1), ∀ a, (k0_off210 v869) a + S1.size a ≤ S16512.size a)
theorem k0_off210_inb : ∀ (i : grid0.Coords) (v869 : BitVec 32) (k0_hw105 : k0_chk105 i v869), ∀ (k0_h1 : k0_cond1 i = 1#1), ∀ a, (k0_off210 v869) a + S1.size a ≤ S16512.size a := fun i v869 k0_hw105 k0_h1 => k0_hw105 k0_h1

def k0_off211 (k0_t2 : Fin k0_t2_loop.trips) : Fin 3 → Nat :=
  let c0_626 : Index := 0#32
  let c6_627 : Index := 6#32
  let c0_i32_16 : BitVec 32 := 0#32
  let c1_i32_17 : BitVec 32 := 1#32
  let arg16 : BitVec 32 := Scf.iv c0_i32_16 c1_i32_17 k0_t2
  let c16_i32_624 : BitVec 32 := 16#32
  let v874 : BitVec 32 := Scalar.muli arg16 c16_i32_624
  let c8_i32_625 : BitVec 32 := 8#32
  let v875 : BitVec 32 := Scalar.addi v874 c8_i32_625
  let v876 : Index := Scalar.indexCast v875
  ![0, 6, v876.toNat]
def k0_off212 (v877 : BitVec 32) : Fin 1 → Nat :=
  let v878 : Index := Scalar.indexCast v877
  ![v878.toNat]

def k0_chk106 (i : grid0.Coords) (v877 : BitVec 32) : Prop :=
  (∀ (k0_h1 : k0_cond1 i = 1#1), ∀ a, (k0_off212 v877) a + S1.size a ≤ S16512.size a)
theorem k0_off212_inb : ∀ (i : grid0.Coords) (v877 : BitVec 32) (k0_hw106 : k0_chk106 i v877), ∀ (k0_h1 : k0_cond1 i = 1#1), ∀ a, (k0_off212 v877) a + S1.size a ≤ S16512.size a := fun i v877 k0_hw106 k0_h1 => k0_hw106 k0_h1

def k0_off213 (k0_t2 : Fin k0_t2_loop.trips) : Fin 3 → Nat :=
  let c0_632 : Index := 0#32
  let c6_633 : Index := 6#32
  let c0_i32_16 : BitVec 32 := 0#32
  let c1_i32_17 : BitVec 32 := 1#32
  let arg16 : BitVec 32 := Scf.iv c0_i32_16 c1_i32_17 k0_t2
  let c16_i32_630 : BitVec 32 := 16#32
  let v882 : BitVec 32 := Scalar.muli arg16 c16_i32_630
  let c9_i32_631 : BitVec 32 := 9#32
  let v883 : BitVec 32 := Scalar.addi v882 c9_i32_631
  let v884 : Index := Scalar.indexCast v883
  ![0, 6, v884.toNat]
def k0_off214 (v885 : BitVec 32) : Fin 1 → Nat :=
  let v886 : Index := Scalar.indexCast v885
  ![v886.toNat]

def k0_chk107 (i : grid0.Coords) (v885 : BitVec 32) : Prop :=
  (∀ (k0_h1 : k0_cond1 i = 1#1), ∀ a, (k0_off214 v885) a + S1.size a ≤ S16512.size a)
theorem k0_off214_inb : ∀ (i : grid0.Coords) (v885 : BitVec 32) (k0_hw107 : k0_chk107 i v885), ∀ (k0_h1 : k0_cond1 i = 1#1), ∀ a, (k0_off214 v885) a + S1.size a ≤ S16512.size a := fun i v885 k0_hw107 k0_h1 => k0_hw107 k0_h1

def k0_off215 (k0_t2 : Fin k0_t2_loop.trips) : Fin 3 → Nat :=
  let c0_638 : Index := 0#32
  let c6_639 : Index := 6#32
  let c0_i32_16 : BitVec 32 := 0#32
  let c1_i32_17 : BitVec 32 := 1#32
  let arg16 : BitVec 32 := Scf.iv c0_i32_16 c1_i32_17 k0_t2
  let c16_i32_636 : BitVec 32 := 16#32
  let v890 : BitVec 32 := Scalar.muli arg16 c16_i32_636
  let c10_i32_637 : BitVec 32 := 10#32
  let v891 : BitVec 32 := Scalar.addi v890 c10_i32_637
  let v892 : Index := Scalar.indexCast v891
  ![0, 6, v892.toNat]
def k0_off216 (v893 : BitVec 32) : Fin 1 → Nat :=
  let v894 : Index := Scalar.indexCast v893
  ![v894.toNat]

def k0_chk108 (i : grid0.Coords) (v893 : BitVec 32) : Prop :=
  (∀ (k0_h1 : k0_cond1 i = 1#1), ∀ a, (k0_off216 v893) a + S1.size a ≤ S16512.size a)
theorem k0_off216_inb : ∀ (i : grid0.Coords) (v893 : BitVec 32) (k0_hw108 : k0_chk108 i v893), ∀ (k0_h1 : k0_cond1 i = 1#1), ∀ a, (k0_off216 v893) a + S1.size a ≤ S16512.size a := fun i v893 k0_hw108 k0_h1 => k0_hw108 k0_h1

def k0_off217 (k0_t2 : Fin k0_t2_loop.trips) : Fin 3 → Nat :=
  let c0_644 : Index := 0#32
  let c6_645 : Index := 6#32
  let c0_i32_16 : BitVec 32 := 0#32
  let c1_i32_17 : BitVec 32 := 1#32
  let arg16 : BitVec 32 := Scf.iv c0_i32_16 c1_i32_17 k0_t2
  let c16_i32_642 : BitVec 32 := 16#32
  let v898 : BitVec 32 := Scalar.muli arg16 c16_i32_642
  let c11_i32_643 : BitVec 32 := 11#32
  let v899 : BitVec 32 := Scalar.addi v898 c11_i32_643
  let v900 : Index := Scalar.indexCast v899
  ![0, 6, v900.toNat]
def k0_off218 (v901 : BitVec 32) : Fin 1 → Nat :=
  let v902 : Index := Scalar.indexCast v901
  ![v902.toNat]

def k0_chk109 (i : grid0.Coords) (v901 : BitVec 32) : Prop :=
  (∀ (k0_h1 : k0_cond1 i = 1#1), ∀ a, (k0_off218 v901) a + S1.size a ≤ S16512.size a)
theorem k0_off218_inb : ∀ (i : grid0.Coords) (v901 : BitVec 32) (k0_hw109 : k0_chk109 i v901), ∀ (k0_h1 : k0_cond1 i = 1#1), ∀ a, (k0_off218 v901) a + S1.size a ≤ S16512.size a := fun i v901 k0_hw109 k0_h1 => k0_hw109 k0_h1

def k0_off219 (k0_t2 : Fin k0_t2_loop.trips) : Fin 3 → Nat :=
  let c0_650 : Index := 0#32
  let c6_651 : Index := 6#32
  let c0_i32_16 : BitVec 32 := 0#32
  let c1_i32_17 : BitVec 32 := 1#32
  let arg16 : BitVec 32 := Scf.iv c0_i32_16 c1_i32_17 k0_t2
  let c16_i32_648 : BitVec 32 := 16#32
  let v906 : BitVec 32 := Scalar.muli arg16 c16_i32_648
  let c12_i32_649 : BitVec 32 := 12#32
  let v907 : BitVec 32 := Scalar.addi v906 c12_i32_649
  let v908 : Index := Scalar.indexCast v907
  ![0, 6, v908.toNat]
def k0_off220 (v909 : BitVec 32) : Fin 1 → Nat :=
  let v910 : Index := Scalar.indexCast v909
  ![v910.toNat]

def k0_chk110 (i : grid0.Coords) (v909 : BitVec 32) : Prop :=
  (∀ (k0_h1 : k0_cond1 i = 1#1), ∀ a, (k0_off220 v909) a + S1.size a ≤ S16512.size a)
theorem k0_off220_inb : ∀ (i : grid0.Coords) (v909 : BitVec 32) (k0_hw110 : k0_chk110 i v909), ∀ (k0_h1 : k0_cond1 i = 1#1), ∀ a, (k0_off220 v909) a + S1.size a ≤ S16512.size a := fun i v909 k0_hw110 k0_h1 => k0_hw110 k0_h1

def k0_off221 (k0_t2 : Fin k0_t2_loop.trips) : Fin 3 → Nat :=
  let c0_656 : Index := 0#32
  let c6_657 : Index := 6#32
  let c0_i32_16 : BitVec 32 := 0#32
  let c1_i32_17 : BitVec 32 := 1#32
  let arg16 : BitVec 32 := Scf.iv c0_i32_16 c1_i32_17 k0_t2
  let c16_i32_654 : BitVec 32 := 16#32
  let v914 : BitVec 32 := Scalar.muli arg16 c16_i32_654
  let c13_i32_655 : BitVec 32 := 13#32
  let v915 : BitVec 32 := Scalar.addi v914 c13_i32_655
  let v916 : Index := Scalar.indexCast v915
  ![0, 6, v916.toNat]
def k0_off222 (v917 : BitVec 32) : Fin 1 → Nat :=
  let v918 : Index := Scalar.indexCast v917
  ![v918.toNat]

def k0_chk111 (i : grid0.Coords) (v917 : BitVec 32) : Prop :=
  (∀ (k0_h1 : k0_cond1 i = 1#1), ∀ a, (k0_off222 v917) a + S1.size a ≤ S16512.size a)
theorem k0_off222_inb : ∀ (i : grid0.Coords) (v917 : BitVec 32) (k0_hw111 : k0_chk111 i v917), ∀ (k0_h1 : k0_cond1 i = 1#1), ∀ a, (k0_off222 v917) a + S1.size a ≤ S16512.size a := fun i v917 k0_hw111 k0_h1 => k0_hw111 k0_h1

def k0_off223 (k0_t2 : Fin k0_t2_loop.trips) : Fin 3 → Nat :=
  let c0_662 : Index := 0#32
  let c6_663 : Index := 6#32
  let c0_i32_16 : BitVec 32 := 0#32
  let c1_i32_17 : BitVec 32 := 1#32
  let arg16 : BitVec 32 := Scf.iv c0_i32_16 c1_i32_17 k0_t2
  let c16_i32_660 : BitVec 32 := 16#32
  let v922 : BitVec 32 := Scalar.muli arg16 c16_i32_660
  let c14_i32_661 : BitVec 32 := 14#32
  let v923 : BitVec 32 := Scalar.addi v922 c14_i32_661
  let v924 : Index := Scalar.indexCast v923
  ![0, 6, v924.toNat]
def k0_off224 (v925 : BitVec 32) : Fin 1 → Nat :=
  let v926 : Index := Scalar.indexCast v925
  ![v926.toNat]

def k0_chk112 (i : grid0.Coords) (v925 : BitVec 32) : Prop :=
  (∀ (k0_h1 : k0_cond1 i = 1#1), ∀ a, (k0_off224 v925) a + S1.size a ≤ S16512.size a)
theorem k0_off224_inb : ∀ (i : grid0.Coords) (v925 : BitVec 32) (k0_hw112 : k0_chk112 i v925), ∀ (k0_h1 : k0_cond1 i = 1#1), ∀ a, (k0_off224 v925) a + S1.size a ≤ S16512.size a := fun i v925 k0_hw112 k0_h1 => k0_hw112 k0_h1

def k0_off225 (k0_t2 : Fin k0_t2_loop.trips) : Fin 3 → Nat :=
  let c0_668 : Index := 0#32
  let c6_669 : Index := 6#32
  let c0_i32_16 : BitVec 32 := 0#32
  let c1_i32_17 : BitVec 32 := 1#32
  let arg16 : BitVec 32 := Scf.iv c0_i32_16 c1_i32_17 k0_t2
  let c16_i32_666 : BitVec 32 := 16#32
  let v930 : BitVec 32 := Scalar.muli arg16 c16_i32_666
  let c15_i32_667 : BitVec 32 := 15#32
  let v931 : BitVec 32 := Scalar.addi v930 c15_i32_667
  let v932 : Index := Scalar.indexCast v931
  ![0, 6, v932.toNat]
def k0_off226 (v933 : BitVec 32) : Fin 1 → Nat :=
  let v934 : Index := Scalar.indexCast v933
  ![v934.toNat]

def k0_chk113 (i : grid0.Coords) (v933 : BitVec 32) : Prop :=
  (∀ (k0_h1 : k0_cond1 i = 1#1), ∀ a, (k0_off226 v933) a + S1.size a ≤ S16512.size a)
theorem k0_off226_inb : ∀ (i : grid0.Coords) (v933 : BitVec 32) (k0_hw113 : k0_chk113 i v933), ∀ (k0_h1 : k0_cond1 i = 1#1), ∀ a, (k0_off226 v933) a + S1.size a ≤ S16512.size a := fun i v933 k0_hw113 k0_h1 => k0_hw113 k0_h1

def k0_off227 (k0_t2 : Fin k0_t2_loop.trips) : Fin 3 → Nat :=
  let c0_674 : Index := 0#32
  let c7 : Index := 7#32
  let c0_i32_16 : BitVec 32 := 0#32
  let c1_i32_17 : BitVec 32 := 1#32
  let arg16 : BitVec 32 := Scf.iv c0_i32_16 c1_i32_17 k0_t2
  let c16_i32_672 : BitVec 32 := 16#32
  let v938 : BitVec 32 := Scalar.muli arg16 c16_i32_672
  let c0_i32_673 : BitVec 32 := 0#32
  let v939 : BitVec 32 := Scalar.addi v938 c0_i32_673
  let v940 : Index := Scalar.indexCast v939
  ![0, 7, v940.toNat]
def k0_off228 (v941 : BitVec 32) : Fin 1 → Nat :=
  let v942 : Index := Scalar.indexCast v941
  ![v942.toNat]

def k0_chk114 (i : grid0.Coords) (v941 : BitVec 32) : Prop :=
  (∀ (k0_h1 : k0_cond1 i = 1#1), ∀ a, (k0_off228 v941) a + S1.size a ≤ S16512.size a)
theorem k0_off228_inb : ∀ (i : grid0.Coords) (v941 : BitVec 32) (k0_hw114 : k0_chk114 i v941), ∀ (k0_h1 : k0_cond1 i = 1#1), ∀ a, (k0_off228 v941) a + S1.size a ≤ S16512.size a := fun i v941 k0_hw114 k0_h1 => k0_hw114 k0_h1

def k0_off229 (k0_t2 : Fin k0_t2_loop.trips) : Fin 3 → Nat :=
  let c0_679 : Index := 0#32
  let c7_680 : Index := 7#32
  let c0_i32_16 : BitVec 32 := 0#32
  let c1_i32_17 : BitVec 32 := 1#32
  let arg16 : BitVec 32 := Scf.iv c0_i32_16 c1_i32_17 k0_t2
  let c16_i32_677 : BitVec 32 := 16#32
  let v946 : BitVec 32 := Scalar.muli arg16 c16_i32_677
  let c1_i32_678 : BitVec 32 := 1#32
  let v947 : BitVec 32 := Scalar.addi v946 c1_i32_678
  let v948 : Index := Scalar.indexCast v947
  ![0, 7, v948.toNat]
def k0_off230 (v949 : BitVec 32) : Fin 1 → Nat :=
  let v950 : Index := Scalar.indexCast v949
  ![v950.toNat]

def k0_chk115 (i : grid0.Coords) (v949 : BitVec 32) : Prop :=
  (∀ (k0_h1 : k0_cond1 i = 1#1), ∀ a, (k0_off230 v949) a + S1.size a ≤ S16512.size a)
theorem k0_off230_inb : ∀ (i : grid0.Coords) (v949 : BitVec 32) (k0_hw115 : k0_chk115 i v949), ∀ (k0_h1 : k0_cond1 i = 1#1), ∀ a, (k0_off230 v949) a + S1.size a ≤ S16512.size a := fun i v949 k0_hw115 k0_h1 => k0_hw115 k0_h1

def k0_off231 (k0_t2 : Fin k0_t2_loop.trips) : Fin 3 → Nat :=
  let c0_685 : Index := 0#32
  let c7_686 : Index := 7#32
  let c0_i32_16 : BitVec 32 := 0#32
  let c1_i32_17 : BitVec 32 := 1#32
  let arg16 : BitVec 32 := Scf.iv c0_i32_16 c1_i32_17 k0_t2
  let c16_i32_683 : BitVec 32 := 16#32
  let v954 : BitVec 32 := Scalar.muli arg16 c16_i32_683
  let c2_i32_684 : BitVec 32 := 2#32
  let v955 : BitVec 32 := Scalar.addi v954 c2_i32_684
  let v956 : Index := Scalar.indexCast v955
  ![0, 7, v956.toNat]
def k0_off232 (v957 : BitVec 32) : Fin 1 → Nat :=
  let v958 : Index := Scalar.indexCast v957
  ![v958.toNat]

def k0_chk116 (i : grid0.Coords) (v957 : BitVec 32) : Prop :=
  (∀ (k0_h1 : k0_cond1 i = 1#1), ∀ a, (k0_off232 v957) a + S1.size a ≤ S16512.size a)
theorem k0_off232_inb : ∀ (i : grid0.Coords) (v957 : BitVec 32) (k0_hw116 : k0_chk116 i v957), ∀ (k0_h1 : k0_cond1 i = 1#1), ∀ a, (k0_off232 v957) a + S1.size a ≤ S16512.size a := fun i v957 k0_hw116 k0_h1 => k0_hw116 k0_h1

def k0_off233 (k0_t2 : Fin k0_t2_loop.trips) : Fin 3 → Nat :=
  let c0_691 : Index := 0#32
  let c7_692 : Index := 7#32
  let c0_i32_16 : BitVec 32 := 0#32
  let c1_i32_17 : BitVec 32 := 1#32
  let arg16 : BitVec 32 := Scf.iv c0_i32_16 c1_i32_17 k0_t2
  let c16_i32_689 : BitVec 32 := 16#32
  let v962 : BitVec 32 := Scalar.muli arg16 c16_i32_689
  let c3_i32_690 : BitVec 32 := 3#32
  let v963 : BitVec 32 := Scalar.addi v962 c3_i32_690
  let v964 : Index := Scalar.indexCast v963
  ![0, 7, v964.toNat]
def k0_off234 (v965 : BitVec 32) : Fin 1 → Nat :=
  let v966 : Index := Scalar.indexCast v965
  ![v966.toNat]

def k0_chk117 (i : grid0.Coords) (v965 : BitVec 32) : Prop :=
  (∀ (k0_h1 : k0_cond1 i = 1#1), ∀ a, (k0_off234 v965) a + S1.size a ≤ S16512.size a)
theorem k0_off234_inb : ∀ (i : grid0.Coords) (v965 : BitVec 32) (k0_hw117 : k0_chk117 i v965), ∀ (k0_h1 : k0_cond1 i = 1#1), ∀ a, (k0_off234 v965) a + S1.size a ≤ S16512.size a := fun i v965 k0_hw117 k0_h1 => k0_hw117 k0_h1

def k0_off235 (k0_t2 : Fin k0_t2_loop.trips) : Fin 3 → Nat :=
  let c0_697 : Index := 0#32
  let c7_698 : Index := 7#32
  let c0_i32_16 : BitVec 32 := 0#32
  let c1_i32_17 : BitVec 32 := 1#32
  let arg16 : BitVec 32 := Scf.iv c0_i32_16 c1_i32_17 k0_t2
  let c16_i32_695 : BitVec 32 := 16#32
  let v970 : BitVec 32 := Scalar.muli arg16 c16_i32_695
  let c4_i32_696 : BitVec 32 := 4#32
  let v971 : BitVec 32 := Scalar.addi v970 c4_i32_696
  let v972 : Index := Scalar.indexCast v971
  ![0, 7, v972.toNat]
def k0_off236 (v973 : BitVec 32) : Fin 1 → Nat :=
  let v974 : Index := Scalar.indexCast v973
  ![v974.toNat]

def k0_chk118 (i : grid0.Coords) (v973 : BitVec 32) : Prop :=
  (∀ (k0_h1 : k0_cond1 i = 1#1), ∀ a, (k0_off236 v973) a + S1.size a ≤ S16512.size a)
theorem k0_off236_inb : ∀ (i : grid0.Coords) (v973 : BitVec 32) (k0_hw118 : k0_chk118 i v973), ∀ (k0_h1 : k0_cond1 i = 1#1), ∀ a, (k0_off236 v973) a + S1.size a ≤ S16512.size a := fun i v973 k0_hw118 k0_h1 => k0_hw118 k0_h1

def k0_off237 (k0_t2 : Fin k0_t2_loop.trips) : Fin 3 → Nat :=
  let c0_703 : Index := 0#32
  let c7_704 : Index := 7#32
  let c0_i32_16 : BitVec 32 := 0#32
  let c1_i32_17 : BitVec 32 := 1#32
  let arg16 : BitVec 32 := Scf.iv c0_i32_16 c1_i32_17 k0_t2
  let c16_i32_701 : BitVec 32 := 16#32
  let v978 : BitVec 32 := Scalar.muli arg16 c16_i32_701
  let c5_i32_702 : BitVec 32 := 5#32
  let v979 : BitVec 32 := Scalar.addi v978 c5_i32_702
  let v980 : Index := Scalar.indexCast v979
  ![0, 7, v980.toNat]
def k0_off238 (v981 : BitVec 32) : Fin 1 → Nat :=
  let v982 : Index := Scalar.indexCast v981
  ![v982.toNat]

def k0_chk119 (i : grid0.Coords) (v981 : BitVec 32) : Prop :=
  (∀ (k0_h1 : k0_cond1 i = 1#1), ∀ a, (k0_off238 v981) a + S1.size a ≤ S16512.size a)
theorem k0_off238_inb : ∀ (i : grid0.Coords) (v981 : BitVec 32) (k0_hw119 : k0_chk119 i v981), ∀ (k0_h1 : k0_cond1 i = 1#1), ∀ a, (k0_off238 v981) a + S1.size a ≤ S16512.size a := fun i v981 k0_hw119 k0_h1 => k0_hw119 k0_h1

def k0_off239 (k0_t2 : Fin k0_t2_loop.trips) : Fin 3 → Nat :=
  let c0_709 : Index := 0#32
  let c7_710 : Index := 7#32
  let c0_i32_16 : BitVec 32 := 0#32
  let c1_i32_17 : BitVec 32 := 1#32
  let arg16 : BitVec 32 := Scf.iv c0_i32_16 c1_i32_17 k0_t2
  let c16_i32_707 : BitVec 32 := 16#32
  let v986 : BitVec 32 := Scalar.muli arg16 c16_i32_707
  let c6_i32_708 : BitVec 32 := 6#32
  let v987 : BitVec 32 := Scalar.addi v986 c6_i32_708
  let v988 : Index := Scalar.indexCast v987
  ![0, 7, v988.toNat]
def k0_off240 (v989 : BitVec 32) : Fin 1 → Nat :=
  let v990 : Index := Scalar.indexCast v989
  ![v990.toNat]

def k0_chk120 (i : grid0.Coords) (v989 : BitVec 32) : Prop :=
  (∀ (k0_h1 : k0_cond1 i = 1#1), ∀ a, (k0_off240 v989) a + S1.size a ≤ S16512.size a)
theorem k0_off240_inb : ∀ (i : grid0.Coords) (v989 : BitVec 32) (k0_hw120 : k0_chk120 i v989), ∀ (k0_h1 : k0_cond1 i = 1#1), ∀ a, (k0_off240 v989) a + S1.size a ≤ S16512.size a := fun i v989 k0_hw120 k0_h1 => k0_hw120 k0_h1

def k0_off241 (k0_t2 : Fin k0_t2_loop.trips) : Fin 3 → Nat :=
  let c0_715 : Index := 0#32
  let c7_716 : Index := 7#32
  let c0_i32_16 : BitVec 32 := 0#32
  let c1_i32_17 : BitVec 32 := 1#32
  let arg16 : BitVec 32 := Scf.iv c0_i32_16 c1_i32_17 k0_t2
  let c16_i32_713 : BitVec 32 := 16#32
  let v994 : BitVec 32 := Scalar.muli arg16 c16_i32_713
  let c7_i32_714 : BitVec 32 := 7#32
  let v995 : BitVec 32 := Scalar.addi v994 c7_i32_714
  let v996 : Index := Scalar.indexCast v995
  ![0, 7, v996.toNat]
def k0_off242 (v997 : BitVec 32) : Fin 1 → Nat :=
  let v998 : Index := Scalar.indexCast v997
  ![v998.toNat]

def k0_chk121 (i : grid0.Coords) (v997 : BitVec 32) : Prop :=
  (∀ (k0_h1 : k0_cond1 i = 1#1), ∀ a, (k0_off242 v997) a + S1.size a ≤ S16512.size a)
theorem k0_off242_inb : ∀ (i : grid0.Coords) (v997 : BitVec 32) (k0_hw121 : k0_chk121 i v997), ∀ (k0_h1 : k0_cond1 i = 1#1), ∀ a, (k0_off242 v997) a + S1.size a ≤ S16512.size a := fun i v997 k0_hw121 k0_h1 => k0_hw121 k0_h1

def k0_off243 (k0_t2 : Fin k0_t2_loop.trips) : Fin 3 → Nat :=
  let c0_721 : Index := 0#32
  let c7_722 : Index := 7#32
  let c0_i32_16 : BitVec 32 := 0#32
  let c1_i32_17 : BitVec 32 := 1#32
  let arg16 : BitVec 32 := Scf.iv c0_i32_16 c1_i32_17 k0_t2
  let c16_i32_719 : BitVec 32 := 16#32
  let v1002 : BitVec 32 := Scalar.muli arg16 c16_i32_719
  let c8_i32_720 : BitVec 32 := 8#32
  let v1003 : BitVec 32 := Scalar.addi v1002 c8_i32_720
  let v1004 : Index := Scalar.indexCast v1003
  ![0, 7, v1004.toNat]
def k0_off244 (v1005 : BitVec 32) : Fin 1 → Nat :=
  let v1006 : Index := Scalar.indexCast v1005
  ![v1006.toNat]

def k0_chk122 (i : grid0.Coords) (v1005 : BitVec 32) : Prop :=
  (∀ (k0_h1 : k0_cond1 i = 1#1), ∀ a, (k0_off244 v1005) a + S1.size a ≤ S16512.size a)
theorem k0_off244_inb : ∀ (i : grid0.Coords) (v1005 : BitVec 32) (k0_hw122 : k0_chk122 i v1005), ∀ (k0_h1 : k0_cond1 i = 1#1), ∀ a, (k0_off244 v1005) a + S1.size a ≤ S16512.size a := fun i v1005 k0_hw122 k0_h1 => k0_hw122 k0_h1

def k0_off245 (k0_t2 : Fin k0_t2_loop.trips) : Fin 3 → Nat :=
  let c0_727 : Index := 0#32
  let c7_728 : Index := 7#32
  let c0_i32_16 : BitVec 32 := 0#32
  let c1_i32_17 : BitVec 32 := 1#32
  let arg16 : BitVec 32 := Scf.iv c0_i32_16 c1_i32_17 k0_t2
  let c16_i32_725 : BitVec 32 := 16#32
  let v1010 : BitVec 32 := Scalar.muli arg16 c16_i32_725
  let c9_i32_726 : BitVec 32 := 9#32
  let v1011 : BitVec 32 := Scalar.addi v1010 c9_i32_726
  let v1012 : Index := Scalar.indexCast v1011
  ![0, 7, v1012.toNat]
def k0_off246 (v1013 : BitVec 32) : Fin 1 → Nat :=
  let v1014 : Index := Scalar.indexCast v1013
  ![v1014.toNat]

def k0_chk123 (i : grid0.Coords) (v1013 : BitVec 32) : Prop :=
  (∀ (k0_h1 : k0_cond1 i = 1#1), ∀ a, (k0_off246 v1013) a + S1.size a ≤ S16512.size a)
theorem k0_off246_inb : ∀ (i : grid0.Coords) (v1013 : BitVec 32) (k0_hw123 : k0_chk123 i v1013), ∀ (k0_h1 : k0_cond1 i = 1#1), ∀ a, (k0_off246 v1013) a + S1.size a ≤ S16512.size a := fun i v1013 k0_hw123 k0_h1 => k0_hw123 k0_h1

def k0_off247 (k0_t2 : Fin k0_t2_loop.trips) : Fin 3 → Nat :=
  let c0_733 : Index := 0#32
  let c7_734 : Index := 7#32
  let c0_i32_16 : BitVec 32 := 0#32
  let c1_i32_17 : BitVec 32 := 1#32
  let arg16 : BitVec 32 := Scf.iv c0_i32_16 c1_i32_17 k0_t2
  let c16_i32_731 : BitVec 32 := 16#32
  let v1018 : BitVec 32 := Scalar.muli arg16 c16_i32_731
  let c10_i32_732 : BitVec 32 := 10#32
  let v1019 : BitVec 32 := Scalar.addi v1018 c10_i32_732
  let v1020 : Index := Scalar.indexCast v1019
  ![0, 7, v1020.toNat]
def k0_off248 (v1021 : BitVec 32) : Fin 1 → Nat :=
  let v1022 : Index := Scalar.indexCast v1021
  ![v1022.toNat]

def k0_chk124 (i : grid0.Coords) (v1021 : BitVec 32) : Prop :=
  (∀ (k0_h1 : k0_cond1 i = 1#1), ∀ a, (k0_off248 v1021) a + S1.size a ≤ S16512.size a)
theorem k0_off248_inb : ∀ (i : grid0.Coords) (v1021 : BitVec 32) (k0_hw124 : k0_chk124 i v1021), ∀ (k0_h1 : k0_cond1 i = 1#1), ∀ a, (k0_off248 v1021) a + S1.size a ≤ S16512.size a := fun i v1021 k0_hw124 k0_h1 => k0_hw124 k0_h1

def k0_off249 (k0_t2 : Fin k0_t2_loop.trips) : Fin 3 → Nat :=
  let c0_739 : Index := 0#32
  let c7_740 : Index := 7#32
  let c0_i32_16 : BitVec 32 := 0#32
  let c1_i32_17 : BitVec 32 := 1#32
  let arg16 : BitVec 32 := Scf.iv c0_i32_16 c1_i32_17 k0_t2
  let c16_i32_737 : BitVec 32 := 16#32
  let v1026 : BitVec 32 := Scalar.muli arg16 c16_i32_737
  let c11_i32_738 : BitVec 32 := 11#32
  let v1027 : BitVec 32 := Scalar.addi v1026 c11_i32_738
  let v1028 : Index := Scalar.indexCast v1027
  ![0, 7, v1028.toNat]
def k0_off250 (v1029 : BitVec 32) : Fin 1 → Nat :=
  let v1030 : Index := Scalar.indexCast v1029
  ![v1030.toNat]

def k0_chk125 (i : grid0.Coords) (v1029 : BitVec 32) : Prop :=
  (∀ (k0_h1 : k0_cond1 i = 1#1), ∀ a, (k0_off250 v1029) a + S1.size a ≤ S16512.size a)
theorem k0_off250_inb : ∀ (i : grid0.Coords) (v1029 : BitVec 32) (k0_hw125 : k0_chk125 i v1029), ∀ (k0_h1 : k0_cond1 i = 1#1), ∀ a, (k0_off250 v1029) a + S1.size a ≤ S16512.size a := fun i v1029 k0_hw125 k0_h1 => k0_hw125 k0_h1

def k0_off251 (k0_t2 : Fin k0_t2_loop.trips) : Fin 3 → Nat :=
  let c0_745 : Index := 0#32
  let c7_746 : Index := 7#32
  let c0_i32_16 : BitVec 32 := 0#32
  let c1_i32_17 : BitVec 32 := 1#32
  let arg16 : BitVec 32 := Scf.iv c0_i32_16 c1_i32_17 k0_t2
  let c16_i32_743 : BitVec 32 := 16#32
  let v1034 : BitVec 32 := Scalar.muli arg16 c16_i32_743
  let c12_i32_744 : BitVec 32 := 12#32
  let v1035 : BitVec 32 := Scalar.addi v1034 c12_i32_744
  let v1036 : Index := Scalar.indexCast v1035
  ![0, 7, v1036.toNat]
def k0_off252 (v1037 : BitVec 32) : Fin 1 → Nat :=
  let v1038 : Index := Scalar.indexCast v1037
  ![v1038.toNat]

def k0_chk126 (i : grid0.Coords) (v1037 : BitVec 32) : Prop :=
  (∀ (k0_h1 : k0_cond1 i = 1#1), ∀ a, (k0_off252 v1037) a + S1.size a ≤ S16512.size a)
theorem k0_off252_inb : ∀ (i : grid0.Coords) (v1037 : BitVec 32) (k0_hw126 : k0_chk126 i v1037), ∀ (k0_h1 : k0_cond1 i = 1#1), ∀ a, (k0_off252 v1037) a + S1.size a ≤ S16512.size a := fun i v1037 k0_hw126 k0_h1 => k0_hw126 k0_h1

def k0_off253 (k0_t2 : Fin k0_t2_loop.trips) : Fin 3 → Nat :=
  let c0_751 : Index := 0#32
  let c7_752 : Index := 7#32
  let c0_i32_16 : BitVec 32 := 0#32
  let c1_i32_17 : BitVec 32 := 1#32
  let arg16 : BitVec 32 := Scf.iv c0_i32_16 c1_i32_17 k0_t2
  let c16_i32_749 : BitVec 32 := 16#32
  let v1042 : BitVec 32 := Scalar.muli arg16 c16_i32_749
  let c13_i32_750 : BitVec 32 := 13#32
  let v1043 : BitVec 32 := Scalar.addi v1042 c13_i32_750
  let v1044 : Index := Scalar.indexCast v1043
  ![0, 7, v1044.toNat]
def k0_off254 (v1045 : BitVec 32) : Fin 1 → Nat :=
  let v1046 : Index := Scalar.indexCast v1045
  ![v1046.toNat]

def k0_chk127 (i : grid0.Coords) (v1045 : BitVec 32) : Prop :=
  (∀ (k0_h1 : k0_cond1 i = 1#1), ∀ a, (k0_off254 v1045) a + S1.size a ≤ S16512.size a)
theorem k0_off254_inb : ∀ (i : grid0.Coords) (v1045 : BitVec 32) (k0_hw127 : k0_chk127 i v1045), ∀ (k0_h1 : k0_cond1 i = 1#1), ∀ a, (k0_off254 v1045) a + S1.size a ≤ S16512.size a := fun i v1045 k0_hw127 k0_h1 => k0_hw127 k0_h1

def k0_off255 (k0_t2 : Fin k0_t2_loop.trips) : Fin 3 → Nat :=
  let c0_757 : Index := 0#32
  let c7_758 : Index := 7#32
  let c0_i32_16 : BitVec 32 := 0#32
  let c1_i32_17 : BitVec 32 := 1#32
  let arg16 : BitVec 32 := Scf.iv c0_i32_16 c1_i32_17 k0_t2
  let c16_i32_755 : BitVec 32 := 16#32
  let v1050 : BitVec 32 := Scalar.muli arg16 c16_i32_755
  let c14_i32_756 : BitVec 32 := 14#32
  let v1051 : BitVec 32 := Scalar.addi v1050 c14_i32_756
  let v1052 : Index := Scalar.indexCast v1051
  ![0, 7, v1052.toNat]
def k0_off256 (v1053 : BitVec 32) : Fin 1 → Nat :=
  let v1054 : Index := Scalar.indexCast v1053
  ![v1054.toNat]

def k0_chk128 (i : grid0.Coords) (v1053 : BitVec 32) : Prop :=
  (∀ (k0_h1 : k0_cond1 i = 1#1), ∀ a, (k0_off256 v1053) a + S1.size a ≤ S16512.size a)
theorem k0_off256_inb : ∀ (i : grid0.Coords) (v1053 : BitVec 32) (k0_hw128 : k0_chk128 i v1053), ∀ (k0_h1 : k0_cond1 i = 1#1), ∀ a, (k0_off256 v1053) a + S1.size a ≤ S16512.size a := fun i v1053 k0_hw128 k0_h1 => k0_hw128 k0_h1

def k0_off257 (k0_t2 : Fin k0_t2_loop.trips) : Fin 3 → Nat :=
  let c0_763 : Index := 0#32
  let c7_764 : Index := 7#32
  let c0_i32_16 : BitVec 32 := 0#32
  let c1_i32_17 : BitVec 32 := 1#32
  let arg16 : BitVec 32 := Scf.iv c0_i32_16 c1_i32_17 k0_t2
  let c16_i32_761 : BitVec 32 := 16#32
  let v1058 : BitVec 32 := Scalar.muli arg16 c16_i32_761
  let c15_i32_762 : BitVec 32 := 15#32
  let v1059 : BitVec 32 := Scalar.addi v1058 c15_i32_762
  let v1060 : Index := Scalar.indexCast v1059
  ![0, 7, v1060.toNat]
def k0_off258 (v1061 : BitVec 32) : Fin 1 → Nat :=
  let v1062 : Index := Scalar.indexCast v1061
  ![v1062.toNat]

def k0_chk129 (i : grid0.Coords) (v1061 : BitVec 32) : Prop :=
  (∀ (k0_h1 : k0_cond1 i = 1#1), ∀ a, (k0_off258 v1061) a + S1.size a ≤ S16512.size a)
theorem k0_off258_inb : ∀ (i : grid0.Coords) (v1061 : BitVec 32) (k0_hw129 : k0_chk129 i v1061), ∀ (k0_h1 : k0_cond1 i = 1#1), ∀ a, (k0_off258 v1061) a + S1.size a ≤ S16512.size a := fun i v1061 k0_hw129 k0_h1 => k0_hw129 k0_h1

def k0_off259 (i : grid0.Coords) : Fin 2 → Nat :=
  let arg0 : BitVec 32 := BitVec.ofNat 32 (i 0).val
  let v3 : Index := Scalar.indexCast arg0
  let arg1 : BitVec 32 := BitVec.ofNat 32 (i 1).val
  let v4 : Index := Scalar.indexCast arg1
  ![v3.toNat, v4.toNat]
@[reducible] def k0_t3_loop (v5 : BitVec 32) : Scf.Loop 32 :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_9 : BitVec 32 := 1#32
  ⟨c0_i32_6, v28, c1_i32_9⟩

def k0_off260 (i : grid0.Coords) : Fin 2 → Nat :=
  let arg0 : BitVec 32 := BitVec.ofNat 32 (i 0).val
  let v34 : Index := Scalar.indexCast arg0
  let arg1 : BitVec 32 := BitVec.ofNat 32 (i 1).val
  let v35 : Index := Scalar.indexCast arg1
  ![v34.toNat, v35.toNat]
def k0_off261 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c0_i32_13 : BitVec 32 := 0#32
  let v39 : BitVec 32 := Scalar.addi v38 c0_i32_13
  let v40 : Index := Scalar.indexCast v39
  ![v40.toNat]

def k0_off262 (v41 : BitVec 32) : Fin 3 → Nat :=
  let c0 : Index := 0#32
  let c5_i32 : BitVec 32 := 5#32
  let v42 : BitVec 32 := Scalar.muli v41 c5_i32
  let v43 : Index := Scalar.indexCast v42
  let c0_14 : Index := 0#32
  ![0, v43.toNat, 0]

def k0_chk132 (v41 : BitVec 32) : Prop :=
  (∀ a, (k0_off262 v41) a + S1x5x128.size a ≤ S1x7720x128.size a)
theorem k0_off262_inb : ∀ (v41 : BitVec 32) (k0_hw132 : k0_chk132 v41), ∀ a, (k0_off262 v41) a + S1x5x128.size a ≤ S1x7720x128.size a := fun v41 k0_hw132 => k0_hw132

def k0_off263 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c1_i32_17 : BitVec 32 := 1#32
  let v49 : BitVec 32 := Scalar.addi v38 c1_i32_17
  let v50 : Index := Scalar.indexCast v49
  ![v50.toNat]
def k0_off264 (v51 : BitVec 32) : Fin 3 → Nat :=
  let c0_19 : Index := 0#32
  let c5_i32_18 : BitVec 32 := 5#32
  let v52 : BitVec 32 := Scalar.muli v51 c5_i32_18
  let v53 : Index := Scalar.indexCast v52
  let c0_20 : Index := 0#32
  ![0, v53.toNat, 0]

def k0_chk133 (v51 : BitVec 32) : Prop :=
  (∀ a, (k0_off264 v51) a + S1x5x128.size a ≤ S1x7720x128.size a)
theorem k0_off264_inb : ∀ (v51 : BitVec 32) (k0_hw133 : k0_chk133 v51), ∀ a, (k0_off264 v51) a + S1x5x128.size a ≤ S1x7720x128.size a := fun v51 k0_hw133 => k0_hw133

def k0_off265 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c2_i32 : BitVec 32 := 2#32
  let v59 : BitVec 32 := Scalar.addi v38 c2_i32
  let v60 : Index := Scalar.indexCast v59
  ![v60.toNat]
def k0_off266 (v61 : BitVec 32) : Fin 3 → Nat :=
  let c0_23 : Index := 0#32
  let c5_i32_22 : BitVec 32 := 5#32
  let v62 : BitVec 32 := Scalar.muli v61 c5_i32_22
  let v63 : Index := Scalar.indexCast v62
  let c0_24 : Index := 0#32
  ![0, v63.toNat, 0]

def k0_chk134 (v61 : BitVec 32) : Prop :=
  (∀ a, (k0_off266 v61) a + S1x5x128.size a ≤ S1x7720x128.size a)
theorem k0_off266_inb : ∀ (v61 : BitVec 32) (k0_hw134 : k0_chk134 v61), ∀ a, (k0_off266 v61) a + S1x5x128.size a ≤ S1x7720x128.size a := fun v61 k0_hw134 => k0_hw134

def k0_off267 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c3_i32 : BitVec 32 := 3#32
  let v69 : BitVec 32 := Scalar.addi v38 c3_i32
  let v70 : Index := Scalar.indexCast v69
  ![v70.toNat]
def k0_off268 (v71 : BitVec 32) : Fin 3 → Nat :=
  let c0_27 : Index := 0#32
  let c5_i32_26 : BitVec 32 := 5#32
  let v72 : BitVec 32 := Scalar.muli v71 c5_i32_26
  let v73 : Index := Scalar.indexCast v72
  let c0_28 : Index := 0#32
  ![0, v73.toNat, 0]

def k0_chk135 (v71 : BitVec 32) : Prop :=
  (∀ a, (k0_off268 v71) a + S1x5x128.size a ≤ S1x7720x128.size a)
theorem k0_off268_inb : ∀ (v71 : BitVec 32) (k0_hw135 : k0_chk135 v71), ∀ a, (k0_off268 v71) a + S1x5x128.size a ≤ S1x7720x128.size a := fun v71 k0_hw135 => k0_hw135

def k0_off269 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c4_i32 : BitVec 32 := 4#32
  let v79 : BitVec 32 := Scalar.addi v38 c4_i32
  let v80 : Index := Scalar.indexCast v79
  ![v80.toNat]
def k0_off270 (v81 : BitVec 32) : Fin 3 → Nat :=
  let c0_31 : Index := 0#32
  let c5_i32_30 : BitVec 32 := 5#32
  let v82 : BitVec 32 := Scalar.muli v81 c5_i32_30
  let v83 : Index := Scalar.indexCast v82
  let c0_32 : Index := 0#32
  ![0, v83.toNat, 0]

def k0_chk136 (v81 : BitVec 32) : Prop :=
  (∀ a, (k0_off270 v81) a + S1x5x128.size a ≤ S1x7720x128.size a)
theorem k0_off270_inb : ∀ (v81 : BitVec 32) (k0_hw136 : k0_chk136 v81), ∀ a, (k0_off270 v81) a + S1x5x128.size a ≤ S1x7720x128.size a := fun v81 k0_hw136 => k0_hw136

def k0_off271 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c5_i32_34 : BitVec 32 := 5#32
  let v89 : BitVec 32 := Scalar.addi v38 c5_i32_34
  let v90 : Index := Scalar.indexCast v89
  ![v90.toNat]
def k0_off272 (v91 : BitVec 32) : Fin 3 → Nat :=
  let c0_36 : Index := 0#32
  let c5_i32_35 : BitVec 32 := 5#32
  let v92 : BitVec 32 := Scalar.muli v91 c5_i32_35
  let v93 : Index := Scalar.indexCast v92
  let c0_37 : Index := 0#32
  ![0, v93.toNat, 0]

def k0_chk137 (v91 : BitVec 32) : Prop :=
  (∀ a, (k0_off272 v91) a + S1x5x128.size a ≤ S1x7720x128.size a)
theorem k0_off272_inb : ∀ (v91 : BitVec 32) (k0_hw137 : k0_chk137 v91), ∀ a, (k0_off272 v91) a + S1x5x128.size a ≤ S1x7720x128.size a := fun v91 k0_hw137 => k0_hw137

def k0_off273 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c6_i32 : BitVec 32 := 6#32
  let v99 : BitVec 32 := Scalar.addi v38 c6_i32
  let v100 : Index := Scalar.indexCast v99
  ![v100.toNat]
def k0_off274 (v101 : BitVec 32) : Fin 3 → Nat :=
  let c0_40 : Index := 0#32
  let c5_i32_39 : BitVec 32 := 5#32
  let v102 : BitVec 32 := Scalar.muli v101 c5_i32_39
  let v103 : Index := Scalar.indexCast v102
  let c0_41 : Index := 0#32
  ![0, v103.toNat, 0]

def k0_chk138 (v101 : BitVec 32) : Prop :=
  (∀ a, (k0_off274 v101) a + S1x5x128.size a ≤ S1x7720x128.size a)
theorem k0_off274_inb : ∀ (v101 : BitVec 32) (k0_hw138 : k0_chk138 v101), ∀ a, (k0_off274 v101) a + S1x5x128.size a ≤ S1x7720x128.size a := fun v101 k0_hw138 => k0_hw138

def k0_off275 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c7_i32 : BitVec 32 := 7#32
  let v109 : BitVec 32 := Scalar.addi v38 c7_i32
  let v110 : Index := Scalar.indexCast v109
  ![v110.toNat]
def k0_off276 (v111 : BitVec 32) : Fin 3 → Nat :=
  let c0_44 : Index := 0#32
  let c5_i32_43 : BitVec 32 := 5#32
  let v112 : BitVec 32 := Scalar.muli v111 c5_i32_43
  let v113 : Index := Scalar.indexCast v112
  let c0_45 : Index := 0#32
  ![0, v113.toNat, 0]

def k0_chk139 (v111 : BitVec 32) : Prop :=
  (∀ a, (k0_off276 v111) a + S1x5x128.size a ≤ S1x7720x128.size a)
theorem k0_off276_inb : ∀ (v111 : BitVec 32) (k0_hw139 : k0_chk139 v111), ∀ a, (k0_off276 v111) a + S1x5x128.size a ≤ S1x7720x128.size a := fun v111 k0_hw139 => k0_hw139

def k0_off277 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c8_i32 : BitVec 32 := 8#32
  let v119 : BitVec 32 := Scalar.addi v38 c8_i32
  let v120 : Index := Scalar.indexCast v119
  ![v120.toNat]
def k0_off278 (v121 : BitVec 32) : Fin 3 → Nat :=
  let c0_48 : Index := 0#32
  let c5_i32_47 : BitVec 32 := 5#32
  let v122 : BitVec 32 := Scalar.muli v121 c5_i32_47
  let v123 : Index := Scalar.indexCast v122
  let c0_49 : Index := 0#32
  ![0, v123.toNat, 0]

def k0_chk140 (v121 : BitVec 32) : Prop :=
  (∀ a, (k0_off278 v121) a + S1x5x128.size a ≤ S1x7720x128.size a)
theorem k0_off278_inb : ∀ (v121 : BitVec 32) (k0_hw140 : k0_chk140 v121), ∀ a, (k0_off278 v121) a + S1x5x128.size a ≤ S1x7720x128.size a := fun v121 k0_hw140 => k0_hw140

def k0_off279 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c9_i32 : BitVec 32 := 9#32
  let v129 : BitVec 32 := Scalar.addi v38 c9_i32
  let v130 : Index := Scalar.indexCast v129
  ![v130.toNat]
def k0_off280 (v131 : BitVec 32) : Fin 3 → Nat :=
  let c0_52 : Index := 0#32
  let c5_i32_51 : BitVec 32 := 5#32
  let v132 : BitVec 32 := Scalar.muli v131 c5_i32_51
  let v133 : Index := Scalar.indexCast v132
  let c0_53 : Index := 0#32
  ![0, v133.toNat, 0]

def k0_chk141 (v131 : BitVec 32) : Prop :=
  (∀ a, (k0_off280 v131) a + S1x5x128.size a ≤ S1x7720x128.size a)
theorem k0_off280_inb : ∀ (v131 : BitVec 32) (k0_hw141 : k0_chk141 v131), ∀ a, (k0_off280 v131) a + S1x5x128.size a ≤ S1x7720x128.size a := fun v131 k0_hw141 => k0_hw141

def k0_off281 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c10_i32 : BitVec 32 := 10#32
  let v139 : BitVec 32 := Scalar.addi v38 c10_i32
  let v140 : Index := Scalar.indexCast v139
  ![v140.toNat]
def k0_off282 (v141 : BitVec 32) : Fin 3 → Nat :=
  let c0_56 : Index := 0#32
  let c5_i32_55 : BitVec 32 := 5#32
  let v142 : BitVec 32 := Scalar.muli v141 c5_i32_55
  let v143 : Index := Scalar.indexCast v142
  let c0_57 : Index := 0#32
  ![0, v143.toNat, 0]

def k0_chk142 (v141 : BitVec 32) : Prop :=
  (∀ a, (k0_off282 v141) a + S1x5x128.size a ≤ S1x7720x128.size a)
theorem k0_off282_inb : ∀ (v141 : BitVec 32) (k0_hw142 : k0_chk142 v141), ∀ a, (k0_off282 v141) a + S1x5x128.size a ≤ S1x7720x128.size a := fun v141 k0_hw142 => k0_hw142

def k0_off283 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c11_i32 : BitVec 32 := 11#32
  let v149 : BitVec 32 := Scalar.addi v38 c11_i32
  let v150 : Index := Scalar.indexCast v149
  ![v150.toNat]
def k0_off284 (v151 : BitVec 32) : Fin 3 → Nat :=
  let c0_60 : Index := 0#32
  let c5_i32_59 : BitVec 32 := 5#32
  let v152 : BitVec 32 := Scalar.muli v151 c5_i32_59
  let v153 : Index := Scalar.indexCast v152
  let c0_61 : Index := 0#32
  ![0, v153.toNat, 0]

def k0_chk143 (v151 : BitVec 32) : Prop :=
  (∀ a, (k0_off284 v151) a + S1x5x128.size a ≤ S1x7720x128.size a)
theorem k0_off284_inb : ∀ (v151 : BitVec 32) (k0_hw143 : k0_chk143 v151), ∀ a, (k0_off284 v151) a + S1x5x128.size a ≤ S1x7720x128.size a := fun v151 k0_hw143 => k0_hw143

def k0_off285 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c12_i32 : BitVec 32 := 12#32
  let v159 : BitVec 32 := Scalar.addi v38 c12_i32
  let v160 : Index := Scalar.indexCast v159
  ![v160.toNat]
def k0_off286 (v161 : BitVec 32) : Fin 3 → Nat :=
  let c0_64 : Index := 0#32
  let c5_i32_63 : BitVec 32 := 5#32
  let v162 : BitVec 32 := Scalar.muli v161 c5_i32_63
  let v163 : Index := Scalar.indexCast v162
  let c0_65 : Index := 0#32
  ![0, v163.toNat, 0]

def k0_chk144 (v161 : BitVec 32) : Prop :=
  (∀ a, (k0_off286 v161) a + S1x5x128.size a ≤ S1x7720x128.size a)
theorem k0_off286_inb : ∀ (v161 : BitVec 32) (k0_hw144 : k0_chk144 v161), ∀ a, (k0_off286 v161) a + S1x5x128.size a ≤ S1x7720x128.size a := fun v161 k0_hw144 => k0_hw144

def k0_off287 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c13_i32 : BitVec 32 := 13#32
  let v169 : BitVec 32 := Scalar.addi v38 c13_i32
  let v170 : Index := Scalar.indexCast v169
  ![v170.toNat]
def k0_off288 (v171 : BitVec 32) : Fin 3 → Nat :=
  let c0_68 : Index := 0#32
  let c5_i32_67 : BitVec 32 := 5#32
  let v172 : BitVec 32 := Scalar.muli v171 c5_i32_67
  let v173 : Index := Scalar.indexCast v172
  let c0_69 : Index := 0#32
  ![0, v173.toNat, 0]

def k0_chk145 (v171 : BitVec 32) : Prop :=
  (∀ a, (k0_off288 v171) a + S1x5x128.size a ≤ S1x7720x128.size a)
theorem k0_off288_inb : ∀ (v171 : BitVec 32) (k0_hw145 : k0_chk145 v171), ∀ a, (k0_off288 v171) a + S1x5x128.size a ≤ S1x7720x128.size a := fun v171 k0_hw145 => k0_hw145

def k0_off289 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c14_i32 : BitVec 32 := 14#32
  let v179 : BitVec 32 := Scalar.addi v38 c14_i32
  let v180 : Index := Scalar.indexCast v179
  ![v180.toNat]
def k0_off290 (v181 : BitVec 32) : Fin 3 → Nat :=
  let c0_72 : Index := 0#32
  let c5_i32_71 : BitVec 32 := 5#32
  let v182 : BitVec 32 := Scalar.muli v181 c5_i32_71
  let v183 : Index := Scalar.indexCast v182
  let c0_73 : Index := 0#32
  ![0, v183.toNat, 0]

def k0_chk146 (v181 : BitVec 32) : Prop :=
  (∀ a, (k0_off290 v181) a + S1x5x128.size a ≤ S1x7720x128.size a)
theorem k0_off290_inb : ∀ (v181 : BitVec 32) (k0_hw146 : k0_chk146 v181), ∀ a, (k0_off290 v181) a + S1x5x128.size a ≤ S1x7720x128.size a := fun v181 k0_hw146 => k0_hw146

def k0_off291 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c15_i32 : BitVec 32 := 15#32
  let v189 : BitVec 32 := Scalar.addi v38 c15_i32
  let v190 : Index := Scalar.indexCast v189
  ![v190.toNat]
def k0_off292 (v191 : BitVec 32) : Fin 3 → Nat :=
  let c0_76 : Index := 0#32
  let c5_i32_75 : BitVec 32 := 5#32
  let v192 : BitVec 32 := Scalar.muli v191 c5_i32_75
  let v193 : Index := Scalar.indexCast v192
  let c0_77 : Index := 0#32
  ![0, v193.toNat, 0]

def k0_chk147 (v191 : BitVec 32) : Prop :=
  (∀ a, (k0_off292 v191) a + S1x5x128.size a ≤ S1x7720x128.size a)
theorem k0_off292_inb : ∀ (v191 : BitVec 32) (k0_hw147 : k0_chk147 v191), ∀ a, (k0_off292 v191) a + S1x5x128.size a ≤ S1x7720x128.size a := fun v191 k0_hw147 => k0_hw147

def k0_off293 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c16_i32 : BitVec 32 := 16#32
  let v199 : BitVec 32 := Scalar.addi v38 c16_i32
  let v200 : Index := Scalar.indexCast v199
  ![v200.toNat]
def k0_off294 (v201 : BitVec 32) : Fin 3 → Nat :=
  let c0_80 : Index := 0#32
  let c5_i32_79 : BitVec 32 := 5#32
  let v202 : BitVec 32 := Scalar.muli v201 c5_i32_79
  let v203 : Index := Scalar.indexCast v202
  let c0_81 : Index := 0#32
  ![0, v203.toNat, 0]

def k0_chk148 (v201 : BitVec 32) : Prop :=
  (∀ a, (k0_off294 v201) a + S1x5x128.size a ≤ S1x7720x128.size a)
theorem k0_off294_inb : ∀ (v201 : BitVec 32) (k0_hw148 : k0_chk148 v201), ∀ a, (k0_off294 v201) a + S1x5x128.size a ≤ S1x7720x128.size a := fun v201 k0_hw148 => k0_hw148

def k0_off295 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c17_i32 : BitVec 32 := 17#32
  let v209 : BitVec 32 := Scalar.addi v38 c17_i32
  let v210 : Index := Scalar.indexCast v209
  ![v210.toNat]
def k0_off296 (v211 : BitVec 32) : Fin 3 → Nat :=
  let c0_84 : Index := 0#32
  let c5_i32_83 : BitVec 32 := 5#32
  let v212 : BitVec 32 := Scalar.muli v211 c5_i32_83
  let v213 : Index := Scalar.indexCast v212
  let c0_85 : Index := 0#32
  ![0, v213.toNat, 0]

def k0_chk149 (v211 : BitVec 32) : Prop :=
  (∀ a, (k0_off296 v211) a + S1x5x128.size a ≤ S1x7720x128.size a)
theorem k0_off296_inb : ∀ (v211 : BitVec 32) (k0_hw149 : k0_chk149 v211), ∀ a, (k0_off296 v211) a + S1x5x128.size a ≤ S1x7720x128.size a := fun v211 k0_hw149 => k0_hw149

def k0_off297 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c18_i32 : BitVec 32 := 18#32
  let v219 : BitVec 32 := Scalar.addi v38 c18_i32
  let v220 : Index := Scalar.indexCast v219
  ![v220.toNat]
def k0_off298 (v221 : BitVec 32) : Fin 3 → Nat :=
  let c0_88 : Index := 0#32
  let c5_i32_87 : BitVec 32 := 5#32
  let v222 : BitVec 32 := Scalar.muli v221 c5_i32_87
  let v223 : Index := Scalar.indexCast v222
  let c0_89 : Index := 0#32
  ![0, v223.toNat, 0]

def k0_chk150 (v221 : BitVec 32) : Prop :=
  (∀ a, (k0_off298 v221) a + S1x5x128.size a ≤ S1x7720x128.size a)
theorem k0_off298_inb : ∀ (v221 : BitVec 32) (k0_hw150 : k0_chk150 v221), ∀ a, (k0_off298 v221) a + S1x5x128.size a ≤ S1x7720x128.size a := fun v221 k0_hw150 => k0_hw150

def k0_off299 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c19_i32 : BitVec 32 := 19#32
  let v229 : BitVec 32 := Scalar.addi v38 c19_i32
  let v230 : Index := Scalar.indexCast v229
  ![v230.toNat]
def k0_off300 (v231 : BitVec 32) : Fin 3 → Nat :=
  let c0_92 : Index := 0#32
  let c5_i32_91 : BitVec 32 := 5#32
  let v232 : BitVec 32 := Scalar.muli v231 c5_i32_91
  let v233 : Index := Scalar.indexCast v232
  let c0_93 : Index := 0#32
  ![0, v233.toNat, 0]

def k0_chk151 (v231 : BitVec 32) : Prop :=
  (∀ a, (k0_off300 v231) a + S1x5x128.size a ≤ S1x7720x128.size a)
theorem k0_off300_inb : ∀ (v231 : BitVec 32) (k0_hw151 : k0_chk151 v231), ∀ a, (k0_off300 v231) a + S1x5x128.size a ≤ S1x7720x128.size a := fun v231 k0_hw151 => k0_hw151

def k0_off301 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c20_i32 : BitVec 32 := 20#32
  let v239 : BitVec 32 := Scalar.addi v38 c20_i32
  let v240 : Index := Scalar.indexCast v239
  ![v240.toNat]
def k0_off302 (v241 : BitVec 32) : Fin 3 → Nat :=
  let c0_96 : Index := 0#32
  let c5_i32_95 : BitVec 32 := 5#32
  let v242 : BitVec 32 := Scalar.muli v241 c5_i32_95
  let v243 : Index := Scalar.indexCast v242
  let c0_97 : Index := 0#32
  ![0, v243.toNat, 0]

def k0_chk152 (v241 : BitVec 32) : Prop :=
  (∀ a, (k0_off302 v241) a + S1x5x128.size a ≤ S1x7720x128.size a)
theorem k0_off302_inb : ∀ (v241 : BitVec 32) (k0_hw152 : k0_chk152 v241), ∀ a, (k0_off302 v241) a + S1x5x128.size a ≤ S1x7720x128.size a := fun v241 k0_hw152 => k0_hw152

def k0_off303 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c21_i32 : BitVec 32 := 21#32
  let v249 : BitVec 32 := Scalar.addi v38 c21_i32
  let v250 : Index := Scalar.indexCast v249
  ![v250.toNat]
def k0_off304 (v251 : BitVec 32) : Fin 3 → Nat :=
  let c0_100 : Index := 0#32
  let c5_i32_99 : BitVec 32 := 5#32
  let v252 : BitVec 32 := Scalar.muli v251 c5_i32_99
  let v253 : Index := Scalar.indexCast v252
  let c0_101 : Index := 0#32
  ![0, v253.toNat, 0]

def k0_chk153 (v251 : BitVec 32) : Prop :=
  (∀ a, (k0_off304 v251) a + S1x5x128.size a ≤ S1x7720x128.size a)
theorem k0_off304_inb : ∀ (v251 : BitVec 32) (k0_hw153 : k0_chk153 v251), ∀ a, (k0_off304 v251) a + S1x5x128.size a ≤ S1x7720x128.size a := fun v251 k0_hw153 => k0_hw153

def k0_off305 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c22_i32 : BitVec 32 := 22#32
  let v259 : BitVec 32 := Scalar.addi v38 c22_i32
  let v260 : Index := Scalar.indexCast v259
  ![v260.toNat]
def k0_off306 (v261 : BitVec 32) : Fin 3 → Nat :=
  let c0_104 : Index := 0#32
  let c5_i32_103 : BitVec 32 := 5#32
  let v262 : BitVec 32 := Scalar.muli v261 c5_i32_103
  let v263 : Index := Scalar.indexCast v262
  let c0_105 : Index := 0#32
  ![0, v263.toNat, 0]

def k0_chk154 (v261 : BitVec 32) : Prop :=
  (∀ a, (k0_off306 v261) a + S1x5x128.size a ≤ S1x7720x128.size a)
theorem k0_off306_inb : ∀ (v261 : BitVec 32) (k0_hw154 : k0_chk154 v261), ∀ a, (k0_off306 v261) a + S1x5x128.size a ≤ S1x7720x128.size a := fun v261 k0_hw154 => k0_hw154

def k0_off307 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c23_i32 : BitVec 32 := 23#32
  let v269 : BitVec 32 := Scalar.addi v38 c23_i32
  let v270 : Index := Scalar.indexCast v269
  ![v270.toNat]
def k0_off308 (v271 : BitVec 32) : Fin 3 → Nat :=
  let c0_108 : Index := 0#32
  let c5_i32_107 : BitVec 32 := 5#32
  let v272 : BitVec 32 := Scalar.muli v271 c5_i32_107
  let v273 : Index := Scalar.indexCast v272
  let c0_109 : Index := 0#32
  ![0, v273.toNat, 0]

def k0_chk155 (v271 : BitVec 32) : Prop :=
  (∀ a, (k0_off308 v271) a + S1x5x128.size a ≤ S1x7720x128.size a)
theorem k0_off308_inb : ∀ (v271 : BitVec 32) (k0_hw155 : k0_chk155 v271), ∀ a, (k0_off308 v271) a + S1x5x128.size a ≤ S1x7720x128.size a := fun v271 k0_hw155 => k0_hw155

def k0_off309 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c24_i32 : BitVec 32 := 24#32
  let v279 : BitVec 32 := Scalar.addi v38 c24_i32
  let v280 : Index := Scalar.indexCast v279
  ![v280.toNat]
def k0_off310 (v281 : BitVec 32) : Fin 3 → Nat :=
  let c0_112 : Index := 0#32
  let c5_i32_111 : BitVec 32 := 5#32
  let v282 : BitVec 32 := Scalar.muli v281 c5_i32_111
  let v283 : Index := Scalar.indexCast v282
  let c0_113 : Index := 0#32
  ![0, v283.toNat, 0]

def k0_chk156 (v281 : BitVec 32) : Prop :=
  (∀ a, (k0_off310 v281) a + S1x5x128.size a ≤ S1x7720x128.size a)
theorem k0_off310_inb : ∀ (v281 : BitVec 32) (k0_hw156 : k0_chk156 v281), ∀ a, (k0_off310 v281) a + S1x5x128.size a ≤ S1x7720x128.size a := fun v281 k0_hw156 => k0_hw156

def k0_off311 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c25_i32 : BitVec 32 := 25#32
  let v289 : BitVec 32 := Scalar.addi v38 c25_i32
  let v290 : Index := Scalar.indexCast v289
  ![v290.toNat]
def k0_off312 (v291 : BitVec 32) : Fin 3 → Nat :=
  let c0_116 : Index := 0#32
  let c5_i32_115 : BitVec 32 := 5#32
  let v292 : BitVec 32 := Scalar.muli v291 c5_i32_115
  let v293 : Index := Scalar.indexCast v292
  let c0_117 : Index := 0#32
  ![0, v293.toNat, 0]

def k0_chk157 (v291 : BitVec 32) : Prop :=
  (∀ a, (k0_off312 v291) a + S1x5x128.size a ≤ S1x7720x128.size a)
theorem k0_off312_inb : ∀ (v291 : BitVec 32) (k0_hw157 : k0_chk157 v291), ∀ a, (k0_off312 v291) a + S1x5x128.size a ≤ S1x7720x128.size a := fun v291 k0_hw157 => k0_hw157

def k0_off313 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c26_i32 : BitVec 32 := 26#32
  let v299 : BitVec 32 := Scalar.addi v38 c26_i32
  let v300 : Index := Scalar.indexCast v299
  ![v300.toNat]
def k0_off314 (v301 : BitVec 32) : Fin 3 → Nat :=
  let c0_120 : Index := 0#32
  let c5_i32_119 : BitVec 32 := 5#32
  let v302 : BitVec 32 := Scalar.muli v301 c5_i32_119
  let v303 : Index := Scalar.indexCast v302
  let c0_121 : Index := 0#32
  ![0, v303.toNat, 0]

def k0_chk158 (v301 : BitVec 32) : Prop :=
  (∀ a, (k0_off314 v301) a + S1x5x128.size a ≤ S1x7720x128.size a)
theorem k0_off314_inb : ∀ (v301 : BitVec 32) (k0_hw158 : k0_chk158 v301), ∀ a, (k0_off314 v301) a + S1x5x128.size a ≤ S1x7720x128.size a := fun v301 k0_hw158 => k0_hw158

def k0_off315 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c27_i32 : BitVec 32 := 27#32
  let v309 : BitVec 32 := Scalar.addi v38 c27_i32
  let v310 : Index := Scalar.indexCast v309
  ![v310.toNat]
def k0_off316 (v311 : BitVec 32) : Fin 3 → Nat :=
  let c0_124 : Index := 0#32
  let c5_i32_123 : BitVec 32 := 5#32
  let v312 : BitVec 32 := Scalar.muli v311 c5_i32_123
  let v313 : Index := Scalar.indexCast v312
  let c0_125 : Index := 0#32
  ![0, v313.toNat, 0]

def k0_chk159 (v311 : BitVec 32) : Prop :=
  (∀ a, (k0_off316 v311) a + S1x5x128.size a ≤ S1x7720x128.size a)
theorem k0_off316_inb : ∀ (v311 : BitVec 32) (k0_hw159 : k0_chk159 v311), ∀ a, (k0_off316 v311) a + S1x5x128.size a ≤ S1x7720x128.size a := fun v311 k0_hw159 => k0_hw159

def k0_off317 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c28_i32 : BitVec 32 := 28#32
  let v319 : BitVec 32 := Scalar.addi v38 c28_i32
  let v320 : Index := Scalar.indexCast v319
  ![v320.toNat]
def k0_off318 (v321 : BitVec 32) : Fin 3 → Nat :=
  let c0_128 : Index := 0#32
  let c5_i32_127 : BitVec 32 := 5#32
  let v322 : BitVec 32 := Scalar.muli v321 c5_i32_127
  let v323 : Index := Scalar.indexCast v322
  let c0_129 : Index := 0#32
  ![0, v323.toNat, 0]

def k0_chk160 (v321 : BitVec 32) : Prop :=
  (∀ a, (k0_off318 v321) a + S1x5x128.size a ≤ S1x7720x128.size a)
theorem k0_off318_inb : ∀ (v321 : BitVec 32) (k0_hw160 : k0_chk160 v321), ∀ a, (k0_off318 v321) a + S1x5x128.size a ≤ S1x7720x128.size a := fun v321 k0_hw160 => k0_hw160

def k0_off319 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c29_i32 : BitVec 32 := 29#32
  let v329 : BitVec 32 := Scalar.addi v38 c29_i32
  let v330 : Index := Scalar.indexCast v329
  ![v330.toNat]
def k0_off320 (v331 : BitVec 32) : Fin 3 → Nat :=
  let c0_132 : Index := 0#32
  let c5_i32_131 : BitVec 32 := 5#32
  let v332 : BitVec 32 := Scalar.muli v331 c5_i32_131
  let v333 : Index := Scalar.indexCast v332
  let c0_133 : Index := 0#32
  ![0, v333.toNat, 0]

def k0_chk161 (v331 : BitVec 32) : Prop :=
  (∀ a, (k0_off320 v331) a + S1x5x128.size a ≤ S1x7720x128.size a)
theorem k0_off320_inb : ∀ (v331 : BitVec 32) (k0_hw161 : k0_chk161 v331), ∀ a, (k0_off320 v331) a + S1x5x128.size a ≤ S1x7720x128.size a := fun v331 k0_hw161 => k0_hw161

def k0_off321 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c30_i32 : BitVec 32 := 30#32
  let v339 : BitVec 32 := Scalar.addi v38 c30_i32
  let v340 : Index := Scalar.indexCast v339
  ![v340.toNat]
def k0_off322 (v341 : BitVec 32) : Fin 3 → Nat :=
  let c0_136 : Index := 0#32
  let c5_i32_135 : BitVec 32 := 5#32
  let v342 : BitVec 32 := Scalar.muli v341 c5_i32_135
  let v343 : Index := Scalar.indexCast v342
  let c0_137 : Index := 0#32
  ![0, v343.toNat, 0]

def k0_chk162 (v341 : BitVec 32) : Prop :=
  (∀ a, (k0_off322 v341) a + S1x5x128.size a ≤ S1x7720x128.size a)
theorem k0_off322_inb : ∀ (v341 : BitVec 32) (k0_hw162 : k0_chk162 v341), ∀ a, (k0_off322 v341) a + S1x5x128.size a ≤ S1x7720x128.size a := fun v341 k0_hw162 => k0_hw162

def k0_off323 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c31_i32_139 : BitVec 32 := 31#32
  let v349 : BitVec 32 := Scalar.addi v38 c31_i32_139
  let v350 : Index := Scalar.indexCast v349
  ![v350.toNat]
def k0_off324 (v351 : BitVec 32) : Fin 3 → Nat :=
  let c0_141 : Index := 0#32
  let c5_i32_140 : BitVec 32 := 5#32
  let v352 : BitVec 32 := Scalar.muli v351 c5_i32_140
  let v353 : Index := Scalar.indexCast v352
  let c0_142 : Index := 0#32
  ![0, v353.toNat, 0]

def k0_chk163 (v351 : BitVec 32) : Prop :=
  (∀ a, (k0_off324 v351) a + S1x5x128.size a ≤ S1x7720x128.size a)
theorem k0_off324_inb : ∀ (v351 : BitVec 32) (k0_hw163 : k0_chk163 v351), ∀ a, (k0_off324 v351) a + S1x5x128.size a ≤ S1x7720x128.size a := fun v351 k0_hw163 => k0_hw163

def k0_off325 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c32_i32 : BitVec 32 := 32#32
  let v359 : BitVec 32 := Scalar.addi v38 c32_i32
  let v360 : Index := Scalar.indexCast v359
  ![v360.toNat]
def k0_off326 (v361 : BitVec 32) : Fin 3 → Nat :=
  let c0_145 : Index := 0#32
  let c5_i32_144 : BitVec 32 := 5#32
  let v362 : BitVec 32 := Scalar.muli v361 c5_i32_144
  let v363 : Index := Scalar.indexCast v362
  let c0_146 : Index := 0#32
  ![0, v363.toNat, 0]

def k0_chk164 (v361 : BitVec 32) : Prop :=
  (∀ a, (k0_off326 v361) a + S1x5x128.size a ≤ S1x7720x128.size a)
theorem k0_off326_inb : ∀ (v361 : BitVec 32) (k0_hw164 : k0_chk164 v361), ∀ a, (k0_off326 v361) a + S1x5x128.size a ≤ S1x7720x128.size a := fun v361 k0_hw164 => k0_hw164

def k0_off327 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c33_i32 : BitVec 32 := 33#32
  let v369 : BitVec 32 := Scalar.addi v38 c33_i32
  let v370 : Index := Scalar.indexCast v369
  ![v370.toNat]
def k0_off328 (v371 : BitVec 32) : Fin 3 → Nat :=
  let c0_149 : Index := 0#32
  let c5_i32_148 : BitVec 32 := 5#32
  let v372 : BitVec 32 := Scalar.muli v371 c5_i32_148
  let v373 : Index := Scalar.indexCast v372
  let c0_150 : Index := 0#32
  ![0, v373.toNat, 0]

def k0_chk165 (v371 : BitVec 32) : Prop :=
  (∀ a, (k0_off328 v371) a + S1x5x128.size a ≤ S1x7720x128.size a)
theorem k0_off328_inb : ∀ (v371 : BitVec 32) (k0_hw165 : k0_chk165 v371), ∀ a, (k0_off328 v371) a + S1x5x128.size a ≤ S1x7720x128.size a := fun v371 k0_hw165 => k0_hw165

def k0_off329 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c34_i32 : BitVec 32 := 34#32
  let v379 : BitVec 32 := Scalar.addi v38 c34_i32
  let v380 : Index := Scalar.indexCast v379
  ![v380.toNat]
def k0_off330 (v381 : BitVec 32) : Fin 3 → Nat :=
  let c0_153 : Index := 0#32
  let c5_i32_152 : BitVec 32 := 5#32
  let v382 : BitVec 32 := Scalar.muli v381 c5_i32_152
  let v383 : Index := Scalar.indexCast v382
  let c0_154 : Index := 0#32
  ![0, v383.toNat, 0]

def k0_chk166 (v381 : BitVec 32) : Prop :=
  (∀ a, (k0_off330 v381) a + S1x5x128.size a ≤ S1x7720x128.size a)
theorem k0_off330_inb : ∀ (v381 : BitVec 32) (k0_hw166 : k0_chk166 v381), ∀ a, (k0_off330 v381) a + S1x5x128.size a ≤ S1x7720x128.size a := fun v381 k0_hw166 => k0_hw166

def k0_off331 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c35_i32 : BitVec 32 := 35#32
  let v389 : BitVec 32 := Scalar.addi v38 c35_i32
  let v390 : Index := Scalar.indexCast v389
  ![v390.toNat]
def k0_off332 (v391 : BitVec 32) : Fin 3 → Nat :=
  let c0_157 : Index := 0#32
  let c5_i32_156 : BitVec 32 := 5#32
  let v392 : BitVec 32 := Scalar.muli v391 c5_i32_156
  let v393 : Index := Scalar.indexCast v392
  let c0_158 : Index := 0#32
  ![0, v393.toNat, 0]

def k0_chk167 (v391 : BitVec 32) : Prop :=
  (∀ a, (k0_off332 v391) a + S1x5x128.size a ≤ S1x7720x128.size a)
theorem k0_off332_inb : ∀ (v391 : BitVec 32) (k0_hw167 : k0_chk167 v391), ∀ a, (k0_off332 v391) a + S1x5x128.size a ≤ S1x7720x128.size a := fun v391 k0_hw167 => k0_hw167

def k0_off333 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c36_i32 : BitVec 32 := 36#32
  let v399 : BitVec 32 := Scalar.addi v38 c36_i32
  let v400 : Index := Scalar.indexCast v399
  ![v400.toNat]
def k0_off334 (v401 : BitVec 32) : Fin 3 → Nat :=
  let c0_161 : Index := 0#32
  let c5_i32_160 : BitVec 32 := 5#32
  let v402 : BitVec 32 := Scalar.muli v401 c5_i32_160
  let v403 : Index := Scalar.indexCast v402
  let c0_162 : Index := 0#32
  ![0, v403.toNat, 0]

def k0_chk168 (v401 : BitVec 32) : Prop :=
  (∀ a, (k0_off334 v401) a + S1x5x128.size a ≤ S1x7720x128.size a)
theorem k0_off334_inb : ∀ (v401 : BitVec 32) (k0_hw168 : k0_chk168 v401), ∀ a, (k0_off334 v401) a + S1x5x128.size a ≤ S1x7720x128.size a := fun v401 k0_hw168 => k0_hw168

def k0_off335 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c37_i32 : BitVec 32 := 37#32
  let v409 : BitVec 32 := Scalar.addi v38 c37_i32
  let v410 : Index := Scalar.indexCast v409
  ![v410.toNat]
def k0_off336 (v411 : BitVec 32) : Fin 3 → Nat :=
  let c0_165 : Index := 0#32
  let c5_i32_164 : BitVec 32 := 5#32
  let v412 : BitVec 32 := Scalar.muli v411 c5_i32_164
  let v413 : Index := Scalar.indexCast v412
  let c0_166 : Index := 0#32
  ![0, v413.toNat, 0]

def k0_chk169 (v411 : BitVec 32) : Prop :=
  (∀ a, (k0_off336 v411) a + S1x5x128.size a ≤ S1x7720x128.size a)
theorem k0_off336_inb : ∀ (v411 : BitVec 32) (k0_hw169 : k0_chk169 v411), ∀ a, (k0_off336 v411) a + S1x5x128.size a ≤ S1x7720x128.size a := fun v411 k0_hw169 => k0_hw169

def k0_off337 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c38_i32 : BitVec 32 := 38#32
  let v419 : BitVec 32 := Scalar.addi v38 c38_i32
  let v420 : Index := Scalar.indexCast v419
  ![v420.toNat]
def k0_off338 (v421 : BitVec 32) : Fin 3 → Nat :=
  let c0_169 : Index := 0#32
  let c5_i32_168 : BitVec 32 := 5#32
  let v422 : BitVec 32 := Scalar.muli v421 c5_i32_168
  let v423 : Index := Scalar.indexCast v422
  let c0_170 : Index := 0#32
  ![0, v423.toNat, 0]

def k0_chk170 (v421 : BitVec 32) : Prop :=
  (∀ a, (k0_off338 v421) a + S1x5x128.size a ≤ S1x7720x128.size a)
theorem k0_off338_inb : ∀ (v421 : BitVec 32) (k0_hw170 : k0_chk170 v421), ∀ a, (k0_off338 v421) a + S1x5x128.size a ≤ S1x7720x128.size a := fun v421 k0_hw170 => k0_hw170

def k0_off339 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c39_i32 : BitVec 32 := 39#32
  let v429 : BitVec 32 := Scalar.addi v38 c39_i32
  let v430 : Index := Scalar.indexCast v429
  ![v430.toNat]
def k0_off340 (v431 : BitVec 32) : Fin 3 → Nat :=
  let c0_173 : Index := 0#32
  let c5_i32_172 : BitVec 32 := 5#32
  let v432 : BitVec 32 := Scalar.muli v431 c5_i32_172
  let v433 : Index := Scalar.indexCast v432
  let c0_174 : Index := 0#32
  ![0, v433.toNat, 0]

def k0_chk171 (v431 : BitVec 32) : Prop :=
  (∀ a, (k0_off340 v431) a + S1x5x128.size a ≤ S1x7720x128.size a)
theorem k0_off340_inb : ∀ (v431 : BitVec 32) (k0_hw171 : k0_chk171 v431), ∀ a, (k0_off340 v431) a + S1x5x128.size a ≤ S1x7720x128.size a := fun v431 k0_hw171 => k0_hw171

def k0_off341 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c40_i32 : BitVec 32 := 40#32
  let v439 : BitVec 32 := Scalar.addi v38 c40_i32
  let v440 : Index := Scalar.indexCast v439
  ![v440.toNat]
def k0_off342 (v441 : BitVec 32) : Fin 3 → Nat :=
  let c0_177 : Index := 0#32
  let c5_i32_176 : BitVec 32 := 5#32
  let v442 : BitVec 32 := Scalar.muli v441 c5_i32_176
  let v443 : Index := Scalar.indexCast v442
  let c0_178 : Index := 0#32
  ![0, v443.toNat, 0]

def k0_chk172 (v441 : BitVec 32) : Prop :=
  (∀ a, (k0_off342 v441) a + S1x5x128.size a ≤ S1x7720x128.size a)
theorem k0_off342_inb : ∀ (v441 : BitVec 32) (k0_hw172 : k0_chk172 v441), ∀ a, (k0_off342 v441) a + S1x5x128.size a ≤ S1x7720x128.size a := fun v441 k0_hw172 => k0_hw172

def k0_off343 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c41_i32 : BitVec 32 := 41#32
  let v449 : BitVec 32 := Scalar.addi v38 c41_i32
  let v450 : Index := Scalar.indexCast v449
  ![v450.toNat]
def k0_off344 (v451 : BitVec 32) : Fin 3 → Nat :=
  let c0_181 : Index := 0#32
  let c5_i32_180 : BitVec 32 := 5#32
  let v452 : BitVec 32 := Scalar.muli v451 c5_i32_180
  let v453 : Index := Scalar.indexCast v452
  let c0_182 : Index := 0#32
  ![0, v453.toNat, 0]

def k0_chk173 (v451 : BitVec 32) : Prop :=
  (∀ a, (k0_off344 v451) a + S1x5x128.size a ≤ S1x7720x128.size a)
theorem k0_off344_inb : ∀ (v451 : BitVec 32) (k0_hw173 : k0_chk173 v451), ∀ a, (k0_off344 v451) a + S1x5x128.size a ≤ S1x7720x128.size a := fun v451 k0_hw173 => k0_hw173

def k0_off345 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c42_i32 : BitVec 32 := 42#32
  let v459 : BitVec 32 := Scalar.addi v38 c42_i32
  let v460 : Index := Scalar.indexCast v459
  ![v460.toNat]
def k0_off346 (v461 : BitVec 32) : Fin 3 → Nat :=
  let c0_185 : Index := 0#32
  let c5_i32_184 : BitVec 32 := 5#32
  let v462 : BitVec 32 := Scalar.muli v461 c5_i32_184
  let v463 : Index := Scalar.indexCast v462
  let c0_186 : Index := 0#32
  ![0, v463.toNat, 0]

def k0_chk174 (v461 : BitVec 32) : Prop :=
  (∀ a, (k0_off346 v461) a + S1x5x128.size a ≤ S1x7720x128.size a)
theorem k0_off346_inb : ∀ (v461 : BitVec 32) (k0_hw174 : k0_chk174 v461), ∀ a, (k0_off346 v461) a + S1x5x128.size a ≤ S1x7720x128.size a := fun v461 k0_hw174 => k0_hw174

def k0_off347 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c43_i32 : BitVec 32 := 43#32
  let v469 : BitVec 32 := Scalar.addi v38 c43_i32
  let v470 : Index := Scalar.indexCast v469
  ![v470.toNat]
def k0_off348 (v471 : BitVec 32) : Fin 3 → Nat :=
  let c0_189 : Index := 0#32
  let c5_i32_188 : BitVec 32 := 5#32
  let v472 : BitVec 32 := Scalar.muli v471 c5_i32_188
  let v473 : Index := Scalar.indexCast v472
  let c0_190 : Index := 0#32
  ![0, v473.toNat, 0]

def k0_chk175 (v471 : BitVec 32) : Prop :=
  (∀ a, (k0_off348 v471) a + S1x5x128.size a ≤ S1x7720x128.size a)
theorem k0_off348_inb : ∀ (v471 : BitVec 32) (k0_hw175 : k0_chk175 v471), ∀ a, (k0_off348 v471) a + S1x5x128.size a ≤ S1x7720x128.size a := fun v471 k0_hw175 => k0_hw175

def k0_off349 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c44_i32 : BitVec 32 := 44#32
  let v479 : BitVec 32 := Scalar.addi v38 c44_i32
  let v480 : Index := Scalar.indexCast v479
  ![v480.toNat]
def k0_off350 (v481 : BitVec 32) : Fin 3 → Nat :=
  let c0_193 : Index := 0#32
  let c5_i32_192 : BitVec 32 := 5#32
  let v482 : BitVec 32 := Scalar.muli v481 c5_i32_192
  let v483 : Index := Scalar.indexCast v482
  let c0_194 : Index := 0#32
  ![0, v483.toNat, 0]

def k0_chk176 (v481 : BitVec 32) : Prop :=
  (∀ a, (k0_off350 v481) a + S1x5x128.size a ≤ S1x7720x128.size a)
theorem k0_off350_inb : ∀ (v481 : BitVec 32) (k0_hw176 : k0_chk176 v481), ∀ a, (k0_off350 v481) a + S1x5x128.size a ≤ S1x7720x128.size a := fun v481 k0_hw176 => k0_hw176

def k0_off351 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c45_i32 : BitVec 32 := 45#32
  let v489 : BitVec 32 := Scalar.addi v38 c45_i32
  let v490 : Index := Scalar.indexCast v489
  ![v490.toNat]
def k0_off352 (v491 : BitVec 32) : Fin 3 → Nat :=
  let c0_197 : Index := 0#32
  let c5_i32_196 : BitVec 32 := 5#32
  let v492 : BitVec 32 := Scalar.muli v491 c5_i32_196
  let v493 : Index := Scalar.indexCast v492
  let c0_198 : Index := 0#32
  ![0, v493.toNat, 0]

def k0_chk177 (v491 : BitVec 32) : Prop :=
  (∀ a, (k0_off352 v491) a + S1x5x128.size a ≤ S1x7720x128.size a)
theorem k0_off352_inb : ∀ (v491 : BitVec 32) (k0_hw177 : k0_chk177 v491), ∀ a, (k0_off352 v491) a + S1x5x128.size a ≤ S1x7720x128.size a := fun v491 k0_hw177 => k0_hw177

def k0_off353 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c46_i32 : BitVec 32 := 46#32
  let v499 : BitVec 32 := Scalar.addi v38 c46_i32
  let v500 : Index := Scalar.indexCast v499
  ![v500.toNat]
def k0_off354 (v501 : BitVec 32) : Fin 3 → Nat :=
  let c0_201 : Index := 0#32
  let c5_i32_200 : BitVec 32 := 5#32
  let v502 : BitVec 32 := Scalar.muli v501 c5_i32_200
  let v503 : Index := Scalar.indexCast v502
  let c0_202 : Index := 0#32
  ![0, v503.toNat, 0]

def k0_chk178 (v501 : BitVec 32) : Prop :=
  (∀ a, (k0_off354 v501) a + S1x5x128.size a ≤ S1x7720x128.size a)
theorem k0_off354_inb : ∀ (v501 : BitVec 32) (k0_hw178 : k0_chk178 v501), ∀ a, (k0_off354 v501) a + S1x5x128.size a ≤ S1x7720x128.size a := fun v501 k0_hw178 => k0_hw178

def k0_off355 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c47_i32 : BitVec 32 := 47#32
  let v509 : BitVec 32 := Scalar.addi v38 c47_i32
  let v510 : Index := Scalar.indexCast v509
  ![v510.toNat]
def k0_off356 (v511 : BitVec 32) : Fin 3 → Nat :=
  let c0_205 : Index := 0#32
  let c5_i32_204 : BitVec 32 := 5#32
  let v512 : BitVec 32 := Scalar.muli v511 c5_i32_204
  let v513 : Index := Scalar.indexCast v512
  let c0_206 : Index := 0#32
  ![0, v513.toNat, 0]

def k0_chk179 (v511 : BitVec 32) : Prop :=
  (∀ a, (k0_off356 v511) a + S1x5x128.size a ≤ S1x7720x128.size a)
theorem k0_off356_inb : ∀ (v511 : BitVec 32) (k0_hw179 : k0_chk179 v511), ∀ a, (k0_off356 v511) a + S1x5x128.size a ≤ S1x7720x128.size a := fun v511 k0_hw179 => k0_hw179

def k0_off357 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c48_i32 : BitVec 32 := 48#32
  let v519 : BitVec 32 := Scalar.addi v38 c48_i32
  let v520 : Index := Scalar.indexCast v519
  ![v520.toNat]
def k0_off358 (v521 : BitVec 32) : Fin 3 → Nat :=
  let c0_209 : Index := 0#32
  let c5_i32_208 : BitVec 32 := 5#32
  let v522 : BitVec 32 := Scalar.muli v521 c5_i32_208
  let v523 : Index := Scalar.indexCast v522
  let c0_210 : Index := 0#32
  ![0, v523.toNat, 0]

def k0_chk180 (v521 : BitVec 32) : Prop :=
  (∀ a, (k0_off358 v521) a + S1x5x128.size a ≤ S1x7720x128.size a)
theorem k0_off358_inb : ∀ (v521 : BitVec 32) (k0_hw180 : k0_chk180 v521), ∀ a, (k0_off358 v521) a + S1x5x128.size a ≤ S1x7720x128.size a := fun v521 k0_hw180 => k0_hw180

def k0_off359 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c49_i32 : BitVec 32 := 49#32
  let v529 : BitVec 32 := Scalar.addi v38 c49_i32
  let v530 : Index := Scalar.indexCast v529
  ![v530.toNat]
def k0_off360 (v531 : BitVec 32) : Fin 3 → Nat :=
  let c0_213 : Index := 0#32
  let c5_i32_212 : BitVec 32 := 5#32
  let v532 : BitVec 32 := Scalar.muli v531 c5_i32_212
  let v533 : Index := Scalar.indexCast v532
  let c0_214 : Index := 0#32
  ![0, v533.toNat, 0]

def k0_chk181 (v531 : BitVec 32) : Prop :=
  (∀ a, (k0_off360 v531) a + S1x5x128.size a ≤ S1x7720x128.size a)
theorem k0_off360_inb : ∀ (v531 : BitVec 32) (k0_hw181 : k0_chk181 v531), ∀ a, (k0_off360 v531) a + S1x5x128.size a ≤ S1x7720x128.size a := fun v531 k0_hw181 => k0_hw181

def k0_off361 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c50_i32 : BitVec 32 := 50#32
  let v539 : BitVec 32 := Scalar.addi v38 c50_i32
  let v540 : Index := Scalar.indexCast v539
  ![v540.toNat]
def k0_off362 (v541 : BitVec 32) : Fin 3 → Nat :=
  let c0_217 : Index := 0#32
  let c5_i32_216 : BitVec 32 := 5#32
  let v542 : BitVec 32 := Scalar.muli v541 c5_i32_216
  let v543 : Index := Scalar.indexCast v542
  let c0_218 : Index := 0#32
  ![0, v543.toNat, 0]

def k0_chk182 (v541 : BitVec 32) : Prop :=
  (∀ a, (k0_off362 v541) a + S1x5x128.size a ≤ S1x7720x128.size a)
theorem k0_off362_inb : ∀ (v541 : BitVec 32) (k0_hw182 : k0_chk182 v541), ∀ a, (k0_off362 v541) a + S1x5x128.size a ≤ S1x7720x128.size a := fun v541 k0_hw182 => k0_hw182

def k0_off363 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c51_i32 : BitVec 32 := 51#32
  let v549 : BitVec 32 := Scalar.addi v38 c51_i32
  let v550 : Index := Scalar.indexCast v549
  ![v550.toNat]
def k0_off364 (v551 : BitVec 32) : Fin 3 → Nat :=
  let c0_221 : Index := 0#32
  let c5_i32_220 : BitVec 32 := 5#32
  let v552 : BitVec 32 := Scalar.muli v551 c5_i32_220
  let v553 : Index := Scalar.indexCast v552
  let c0_222 : Index := 0#32
  ![0, v553.toNat, 0]

def k0_chk183 (v551 : BitVec 32) : Prop :=
  (∀ a, (k0_off364 v551) a + S1x5x128.size a ≤ S1x7720x128.size a)
theorem k0_off364_inb : ∀ (v551 : BitVec 32) (k0_hw183 : k0_chk183 v551), ∀ a, (k0_off364 v551) a + S1x5x128.size a ≤ S1x7720x128.size a := fun v551 k0_hw183 => k0_hw183

def k0_off365 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c52_i32 : BitVec 32 := 52#32
  let v559 : BitVec 32 := Scalar.addi v38 c52_i32
  let v560 : Index := Scalar.indexCast v559
  ![v560.toNat]
def k0_off366 (v561 : BitVec 32) : Fin 3 → Nat :=
  let c0_225 : Index := 0#32
  let c5_i32_224 : BitVec 32 := 5#32
  let v562 : BitVec 32 := Scalar.muli v561 c5_i32_224
  let v563 : Index := Scalar.indexCast v562
  let c0_226 : Index := 0#32
  ![0, v563.toNat, 0]

def k0_chk184 (v561 : BitVec 32) : Prop :=
  (∀ a, (k0_off366 v561) a + S1x5x128.size a ≤ S1x7720x128.size a)
theorem k0_off366_inb : ∀ (v561 : BitVec 32) (k0_hw184 : k0_chk184 v561), ∀ a, (k0_off366 v561) a + S1x5x128.size a ≤ S1x7720x128.size a := fun v561 k0_hw184 => k0_hw184

def k0_off367 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c53_i32 : BitVec 32 := 53#32
  let v569 : BitVec 32 := Scalar.addi v38 c53_i32
  let v570 : Index := Scalar.indexCast v569
  ![v570.toNat]
def k0_off368 (v571 : BitVec 32) : Fin 3 → Nat :=
  let c0_229 : Index := 0#32
  let c5_i32_228 : BitVec 32 := 5#32
  let v572 : BitVec 32 := Scalar.muli v571 c5_i32_228
  let v573 : Index := Scalar.indexCast v572
  let c0_230 : Index := 0#32
  ![0, v573.toNat, 0]

def k0_chk185 (v571 : BitVec 32) : Prop :=
  (∀ a, (k0_off368 v571) a + S1x5x128.size a ≤ S1x7720x128.size a)
theorem k0_off368_inb : ∀ (v571 : BitVec 32) (k0_hw185 : k0_chk185 v571), ∀ a, (k0_off368 v571) a + S1x5x128.size a ≤ S1x7720x128.size a := fun v571 k0_hw185 => k0_hw185

def k0_off369 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c54_i32 : BitVec 32 := 54#32
  let v579 : BitVec 32 := Scalar.addi v38 c54_i32
  let v580 : Index := Scalar.indexCast v579
  ![v580.toNat]
def k0_off370 (v581 : BitVec 32) : Fin 3 → Nat :=
  let c0_233 : Index := 0#32
  let c5_i32_232 : BitVec 32 := 5#32
  let v582 : BitVec 32 := Scalar.muli v581 c5_i32_232
  let v583 : Index := Scalar.indexCast v582
  let c0_234 : Index := 0#32
  ![0, v583.toNat, 0]

def k0_chk186 (v581 : BitVec 32) : Prop :=
  (∀ a, (k0_off370 v581) a + S1x5x128.size a ≤ S1x7720x128.size a)
theorem k0_off370_inb : ∀ (v581 : BitVec 32) (k0_hw186 : k0_chk186 v581), ∀ a, (k0_off370 v581) a + S1x5x128.size a ≤ S1x7720x128.size a := fun v581 k0_hw186 => k0_hw186

def k0_off371 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c55_i32 : BitVec 32 := 55#32
  let v589 : BitVec 32 := Scalar.addi v38 c55_i32
  let v590 : Index := Scalar.indexCast v589
  ![v590.toNat]
def k0_off372 (v591 : BitVec 32) : Fin 3 → Nat :=
  let c0_237 : Index := 0#32
  let c5_i32_236 : BitVec 32 := 5#32
  let v592 : BitVec 32 := Scalar.muli v591 c5_i32_236
  let v593 : Index := Scalar.indexCast v592
  let c0_238 : Index := 0#32
  ![0, v593.toNat, 0]

def k0_chk187 (v591 : BitVec 32) : Prop :=
  (∀ a, (k0_off372 v591) a + S1x5x128.size a ≤ S1x7720x128.size a)
theorem k0_off372_inb : ∀ (v591 : BitVec 32) (k0_hw187 : k0_chk187 v591), ∀ a, (k0_off372 v591) a + S1x5x128.size a ≤ S1x7720x128.size a := fun v591 k0_hw187 => k0_hw187

def k0_off373 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c56_i32 : BitVec 32 := 56#32
  let v599 : BitVec 32 := Scalar.addi v38 c56_i32
  let v600 : Index := Scalar.indexCast v599
  ![v600.toNat]
def k0_off374 (v601 : BitVec 32) : Fin 3 → Nat :=
  let c0_241 : Index := 0#32
  let c5_i32_240 : BitVec 32 := 5#32
  let v602 : BitVec 32 := Scalar.muli v601 c5_i32_240
  let v603 : Index := Scalar.indexCast v602
  let c0_242 : Index := 0#32
  ![0, v603.toNat, 0]

def k0_chk188 (v601 : BitVec 32) : Prop :=
  (∀ a, (k0_off374 v601) a + S1x5x128.size a ≤ S1x7720x128.size a)
theorem k0_off374_inb : ∀ (v601 : BitVec 32) (k0_hw188 : k0_chk188 v601), ∀ a, (k0_off374 v601) a + S1x5x128.size a ≤ S1x7720x128.size a := fun v601 k0_hw188 => k0_hw188

def k0_off375 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c57_i32 : BitVec 32 := 57#32
  let v609 : BitVec 32 := Scalar.addi v38 c57_i32
  let v610 : Index := Scalar.indexCast v609
  ![v610.toNat]
def k0_off376 (v611 : BitVec 32) : Fin 3 → Nat :=
  let c0_245 : Index := 0#32
  let c5_i32_244 : BitVec 32 := 5#32
  let v612 : BitVec 32 := Scalar.muli v611 c5_i32_244
  let v613 : Index := Scalar.indexCast v612
  let c0_246 : Index := 0#32
  ![0, v613.toNat, 0]

def k0_chk189 (v611 : BitVec 32) : Prop :=
  (∀ a, (k0_off376 v611) a + S1x5x128.size a ≤ S1x7720x128.size a)
theorem k0_off376_inb : ∀ (v611 : BitVec 32) (k0_hw189 : k0_chk189 v611), ∀ a, (k0_off376 v611) a + S1x5x128.size a ≤ S1x7720x128.size a := fun v611 k0_hw189 => k0_hw189

def k0_off377 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c58_i32 : BitVec 32 := 58#32
  let v619 : BitVec 32 := Scalar.addi v38 c58_i32
  let v620 : Index := Scalar.indexCast v619
  ![v620.toNat]
def k0_off378 (v621 : BitVec 32) : Fin 3 → Nat :=
  let c0_249 : Index := 0#32
  let c5_i32_248 : BitVec 32 := 5#32
  let v622 : BitVec 32 := Scalar.muli v621 c5_i32_248
  let v623 : Index := Scalar.indexCast v622
  let c0_250 : Index := 0#32
  ![0, v623.toNat, 0]

def k0_chk190 (v621 : BitVec 32) : Prop :=
  (∀ a, (k0_off378 v621) a + S1x5x128.size a ≤ S1x7720x128.size a)
theorem k0_off378_inb : ∀ (v621 : BitVec 32) (k0_hw190 : k0_chk190 v621), ∀ a, (k0_off378 v621) a + S1x5x128.size a ≤ S1x7720x128.size a := fun v621 k0_hw190 => k0_hw190

def k0_off379 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c59_i32 : BitVec 32 := 59#32
  let v629 : BitVec 32 := Scalar.addi v38 c59_i32
  let v630 : Index := Scalar.indexCast v629
  ![v630.toNat]
def k0_off380 (v631 : BitVec 32) : Fin 3 → Nat :=
  let c0_253 : Index := 0#32
  let c5_i32_252 : BitVec 32 := 5#32
  let v632 : BitVec 32 := Scalar.muli v631 c5_i32_252
  let v633 : Index := Scalar.indexCast v632
  let c0_254 : Index := 0#32
  ![0, v633.toNat, 0]

def k0_chk191 (v631 : BitVec 32) : Prop :=
  (∀ a, (k0_off380 v631) a + S1x5x128.size a ≤ S1x7720x128.size a)
theorem k0_off380_inb : ∀ (v631 : BitVec 32) (k0_hw191 : k0_chk191 v631), ∀ a, (k0_off380 v631) a + S1x5x128.size a ≤ S1x7720x128.size a := fun v631 k0_hw191 => k0_hw191

def k0_off381 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c60_i32 : BitVec 32 := 60#32
  let v639 : BitVec 32 := Scalar.addi v38 c60_i32
  let v640 : Index := Scalar.indexCast v639
  ![v640.toNat]
def k0_off382 (v641 : BitVec 32) : Fin 3 → Nat :=
  let c0_257 : Index := 0#32
  let c5_i32_256 : BitVec 32 := 5#32
  let v642 : BitVec 32 := Scalar.muli v641 c5_i32_256
  let v643 : Index := Scalar.indexCast v642
  let c0_258 : Index := 0#32
  ![0, v643.toNat, 0]

def k0_chk192 (v641 : BitVec 32) : Prop :=
  (∀ a, (k0_off382 v641) a + S1x5x128.size a ≤ S1x7720x128.size a)
theorem k0_off382_inb : ∀ (v641 : BitVec 32) (k0_hw192 : k0_chk192 v641), ∀ a, (k0_off382 v641) a + S1x5x128.size a ≤ S1x7720x128.size a := fun v641 k0_hw192 => k0_hw192

def k0_off383 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c61_i32 : BitVec 32 := 61#32
  let v649 : BitVec 32 := Scalar.addi v38 c61_i32
  let v650 : Index := Scalar.indexCast v649
  ![v650.toNat]
def k0_off384 (v651 : BitVec 32) : Fin 3 → Nat :=
  let c0_261 : Index := 0#32
  let c5_i32_260 : BitVec 32 := 5#32
  let v652 : BitVec 32 := Scalar.muli v651 c5_i32_260
  let v653 : Index := Scalar.indexCast v652
  let c0_262 : Index := 0#32
  ![0, v653.toNat, 0]

def k0_chk193 (v651 : BitVec 32) : Prop :=
  (∀ a, (k0_off384 v651) a + S1x5x128.size a ≤ S1x7720x128.size a)
theorem k0_off384_inb : ∀ (v651 : BitVec 32) (k0_hw193 : k0_chk193 v651), ∀ a, (k0_off384 v651) a + S1x5x128.size a ≤ S1x7720x128.size a := fun v651 k0_hw193 => k0_hw193

def k0_off385 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c62_i32 : BitVec 32 := 62#32
  let v659 : BitVec 32 := Scalar.addi v38 c62_i32
  let v660 : Index := Scalar.indexCast v659
  ![v660.toNat]
def k0_off386 (v661 : BitVec 32) : Fin 3 → Nat :=
  let c0_265 : Index := 0#32
  let c5_i32_264 : BitVec 32 := 5#32
  let v662 : BitVec 32 := Scalar.muli v661 c5_i32_264
  let v663 : Index := Scalar.indexCast v662
  let c0_266 : Index := 0#32
  ![0, v663.toNat, 0]

def k0_chk194 (v661 : BitVec 32) : Prop :=
  (∀ a, (k0_off386 v661) a + S1x5x128.size a ≤ S1x7720x128.size a)
theorem k0_off386_inb : ∀ (v661 : BitVec 32) (k0_hw194 : k0_chk194 v661), ∀ a, (k0_off386 v661) a + S1x5x128.size a ≤ S1x7720x128.size a := fun v661 k0_hw194 => k0_hw194

def k0_off387 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c63_i32 : BitVec 32 := 63#32
  let v669 : BitVec 32 := Scalar.addi v38 c63_i32
  let v670 : Index := Scalar.indexCast v669
  ![v670.toNat]
def k0_off388 (v671 : BitVec 32) : Fin 3 → Nat :=
  let c0_269 : Index := 0#32
  let c5_i32_268 : BitVec 32 := 5#32
  let v672 : BitVec 32 := Scalar.muli v671 c5_i32_268
  let v673 : Index := Scalar.indexCast v672
  let c0_270 : Index := 0#32
  ![0, v673.toNat, 0]

def k0_chk195 (v671 : BitVec 32) : Prop :=
  (∀ a, (k0_off388 v671) a + S1x5x128.size a ≤ S1x7720x128.size a)
theorem k0_off388_inb : ∀ (v671 : BitVec 32) (k0_hw195 : k0_chk195 v671), ∀ a, (k0_off388 v671) a + S1x5x128.size a ≤ S1x7720x128.size a := fun v671 k0_hw195 => k0_hw195

def k0_off389 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c64_i32 : BitVec 32 := 64#32
  let v679 : BitVec 32 := Scalar.addi v38 c64_i32
  let v680 : Index := Scalar.indexCast v679
  ![v680.toNat]
def k0_off390 (v681 : BitVec 32) : Fin 3 → Nat :=
  let c0_273 : Index := 0#32
  let c5_i32_272 : BitVec 32 := 5#32
  let v682 : BitVec 32 := Scalar.muli v681 c5_i32_272
  let v683 : Index := Scalar.indexCast v682
  let c0_274 : Index := 0#32
  ![0, v683.toNat, 0]

def k0_chk196 (v681 : BitVec 32) : Prop :=
  (∀ a, (k0_off390 v681) a + S1x5x128.size a ≤ S1x7720x128.size a)
theorem k0_off390_inb : ∀ (v681 : BitVec 32) (k0_hw196 : k0_chk196 v681), ∀ a, (k0_off390 v681) a + S1x5x128.size a ≤ S1x7720x128.size a := fun v681 k0_hw196 => k0_hw196

def k0_off391 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c65_i32 : BitVec 32 := 65#32
  let v689 : BitVec 32 := Scalar.addi v38 c65_i32
  let v690 : Index := Scalar.indexCast v689
  ![v690.toNat]
def k0_off392 (v691 : BitVec 32) : Fin 3 → Nat :=
  let c0_277 : Index := 0#32
  let c5_i32_276 : BitVec 32 := 5#32
  let v692 : BitVec 32 := Scalar.muli v691 c5_i32_276
  let v693 : Index := Scalar.indexCast v692
  let c0_278 : Index := 0#32
  ![0, v693.toNat, 0]

def k0_chk197 (v691 : BitVec 32) : Prop :=
  (∀ a, (k0_off392 v691) a + S1x5x128.size a ≤ S1x7720x128.size a)
theorem k0_off392_inb : ∀ (v691 : BitVec 32) (k0_hw197 : k0_chk197 v691), ∀ a, (k0_off392 v691) a + S1x5x128.size a ≤ S1x7720x128.size a := fun v691 k0_hw197 => k0_hw197

def k0_off393 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c66_i32 : BitVec 32 := 66#32
  let v699 : BitVec 32 := Scalar.addi v38 c66_i32
  let v700 : Index := Scalar.indexCast v699
  ![v700.toNat]
def k0_off394 (v701 : BitVec 32) : Fin 3 → Nat :=
  let c0_281 : Index := 0#32
  let c5_i32_280 : BitVec 32 := 5#32
  let v702 : BitVec 32 := Scalar.muli v701 c5_i32_280
  let v703 : Index := Scalar.indexCast v702
  let c0_282 : Index := 0#32
  ![0, v703.toNat, 0]

def k0_chk198 (v701 : BitVec 32) : Prop :=
  (∀ a, (k0_off394 v701) a + S1x5x128.size a ≤ S1x7720x128.size a)
theorem k0_off394_inb : ∀ (v701 : BitVec 32) (k0_hw198 : k0_chk198 v701), ∀ a, (k0_off394 v701) a + S1x5x128.size a ≤ S1x7720x128.size a := fun v701 k0_hw198 => k0_hw198

def k0_off395 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c67_i32 : BitVec 32 := 67#32
  let v709 : BitVec 32 := Scalar.addi v38 c67_i32
  let v710 : Index := Scalar.indexCast v709
  ![v710.toNat]
def k0_off396 (v711 : BitVec 32) : Fin 3 → Nat :=
  let c0_285 : Index := 0#32
  let c5_i32_284 : BitVec 32 := 5#32
  let v712 : BitVec 32 := Scalar.muli v711 c5_i32_284
  let v713 : Index := Scalar.indexCast v712
  let c0_286 : Index := 0#32
  ![0, v713.toNat, 0]

def k0_chk199 (v711 : BitVec 32) : Prop :=
  (∀ a, (k0_off396 v711) a + S1x5x128.size a ≤ S1x7720x128.size a)
theorem k0_off396_inb : ∀ (v711 : BitVec 32) (k0_hw199 : k0_chk199 v711), ∀ a, (k0_off396 v711) a + S1x5x128.size a ≤ S1x7720x128.size a := fun v711 k0_hw199 => k0_hw199

def k0_off397 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c68_i32 : BitVec 32 := 68#32
  let v719 : BitVec 32 := Scalar.addi v38 c68_i32
  let v720 : Index := Scalar.indexCast v719
  ![v720.toNat]
def k0_off398 (v721 : BitVec 32) : Fin 3 → Nat :=
  let c0_289 : Index := 0#32
  let c5_i32_288 : BitVec 32 := 5#32
  let v722 : BitVec 32 := Scalar.muli v721 c5_i32_288
  let v723 : Index := Scalar.indexCast v722
  let c0_290 : Index := 0#32
  ![0, v723.toNat, 0]

def k0_chk200 (v721 : BitVec 32) : Prop :=
  (∀ a, (k0_off398 v721) a + S1x5x128.size a ≤ S1x7720x128.size a)
theorem k0_off398_inb : ∀ (v721 : BitVec 32) (k0_hw200 : k0_chk200 v721), ∀ a, (k0_off398 v721) a + S1x5x128.size a ≤ S1x7720x128.size a := fun v721 k0_hw200 => k0_hw200

def k0_off399 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c69_i32 : BitVec 32 := 69#32
  let v729 : BitVec 32 := Scalar.addi v38 c69_i32
  let v730 : Index := Scalar.indexCast v729
  ![v730.toNat]
def k0_off400 (v731 : BitVec 32) : Fin 3 → Nat :=
  let c0_293 : Index := 0#32
  let c5_i32_292 : BitVec 32 := 5#32
  let v732 : BitVec 32 := Scalar.muli v731 c5_i32_292
  let v733 : Index := Scalar.indexCast v732
  let c0_294 : Index := 0#32
  ![0, v733.toNat, 0]

def k0_chk201 (v731 : BitVec 32) : Prop :=
  (∀ a, (k0_off400 v731) a + S1x5x128.size a ≤ S1x7720x128.size a)
theorem k0_off400_inb : ∀ (v731 : BitVec 32) (k0_hw201 : k0_chk201 v731), ∀ a, (k0_off400 v731) a + S1x5x128.size a ≤ S1x7720x128.size a := fun v731 k0_hw201 => k0_hw201

def k0_off401 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c70_i32 : BitVec 32 := 70#32
  let v739 : BitVec 32 := Scalar.addi v38 c70_i32
  let v740 : Index := Scalar.indexCast v739
  ![v740.toNat]
def k0_off402 (v741 : BitVec 32) : Fin 3 → Nat :=
  let c0_297 : Index := 0#32
  let c5_i32_296 : BitVec 32 := 5#32
  let v742 : BitVec 32 := Scalar.muli v741 c5_i32_296
  let v743 : Index := Scalar.indexCast v742
  let c0_298 : Index := 0#32
  ![0, v743.toNat, 0]

def k0_chk202 (v741 : BitVec 32) : Prop :=
  (∀ a, (k0_off402 v741) a + S1x5x128.size a ≤ S1x7720x128.size a)
theorem k0_off402_inb : ∀ (v741 : BitVec 32) (k0_hw202 : k0_chk202 v741), ∀ a, (k0_off402 v741) a + S1x5x128.size a ≤ S1x7720x128.size a := fun v741 k0_hw202 => k0_hw202

def k0_off403 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c71_i32 : BitVec 32 := 71#32
  let v749 : BitVec 32 := Scalar.addi v38 c71_i32
  let v750 : Index := Scalar.indexCast v749
  ![v750.toNat]
def k0_off404 (v751 : BitVec 32) : Fin 3 → Nat :=
  let c0_301 : Index := 0#32
  let c5_i32_300 : BitVec 32 := 5#32
  let v752 : BitVec 32 := Scalar.muli v751 c5_i32_300
  let v753 : Index := Scalar.indexCast v752
  let c0_302 : Index := 0#32
  ![0, v753.toNat, 0]

def k0_chk203 (v751 : BitVec 32) : Prop :=
  (∀ a, (k0_off404 v751) a + S1x5x128.size a ≤ S1x7720x128.size a)
theorem k0_off404_inb : ∀ (v751 : BitVec 32) (k0_hw203 : k0_chk203 v751), ∀ a, (k0_off404 v751) a + S1x5x128.size a ≤ S1x7720x128.size a := fun v751 k0_hw203 => k0_hw203

def k0_off405 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c72_i32 : BitVec 32 := 72#32
  let v759 : BitVec 32 := Scalar.addi v38 c72_i32
  let v760 : Index := Scalar.indexCast v759
  ![v760.toNat]
def k0_off406 (v761 : BitVec 32) : Fin 3 → Nat :=
  let c0_305 : Index := 0#32
  let c5_i32_304 : BitVec 32 := 5#32
  let v762 : BitVec 32 := Scalar.muli v761 c5_i32_304
  let v763 : Index := Scalar.indexCast v762
  let c0_306 : Index := 0#32
  ![0, v763.toNat, 0]

def k0_chk204 (v761 : BitVec 32) : Prop :=
  (∀ a, (k0_off406 v761) a + S1x5x128.size a ≤ S1x7720x128.size a)
theorem k0_off406_inb : ∀ (v761 : BitVec 32) (k0_hw204 : k0_chk204 v761), ∀ a, (k0_off406 v761) a + S1x5x128.size a ≤ S1x7720x128.size a := fun v761 k0_hw204 => k0_hw204

def k0_off407 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c73_i32 : BitVec 32 := 73#32
  let v769 : BitVec 32 := Scalar.addi v38 c73_i32
  let v770 : Index := Scalar.indexCast v769
  ![v770.toNat]
def k0_off408 (v771 : BitVec 32) : Fin 3 → Nat :=
  let c0_309 : Index := 0#32
  let c5_i32_308 : BitVec 32 := 5#32
  let v772 : BitVec 32 := Scalar.muli v771 c5_i32_308
  let v773 : Index := Scalar.indexCast v772
  let c0_310 : Index := 0#32
  ![0, v773.toNat, 0]

def k0_chk205 (v771 : BitVec 32) : Prop :=
  (∀ a, (k0_off408 v771) a + S1x5x128.size a ≤ S1x7720x128.size a)
theorem k0_off408_inb : ∀ (v771 : BitVec 32) (k0_hw205 : k0_chk205 v771), ∀ a, (k0_off408 v771) a + S1x5x128.size a ≤ S1x7720x128.size a := fun v771 k0_hw205 => k0_hw205

def k0_off409 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c74_i32 : BitVec 32 := 74#32
  let v779 : BitVec 32 := Scalar.addi v38 c74_i32
  let v780 : Index := Scalar.indexCast v779
  ![v780.toNat]
def k0_off410 (v781 : BitVec 32) : Fin 3 → Nat :=
  let c0_313 : Index := 0#32
  let c5_i32_312 : BitVec 32 := 5#32
  let v782 : BitVec 32 := Scalar.muli v781 c5_i32_312
  let v783 : Index := Scalar.indexCast v782
  let c0_314 : Index := 0#32
  ![0, v783.toNat, 0]

def k0_chk206 (v781 : BitVec 32) : Prop :=
  (∀ a, (k0_off410 v781) a + S1x5x128.size a ≤ S1x7720x128.size a)
theorem k0_off410_inb : ∀ (v781 : BitVec 32) (k0_hw206 : k0_chk206 v781), ∀ a, (k0_off410 v781) a + S1x5x128.size a ≤ S1x7720x128.size a := fun v781 k0_hw206 => k0_hw206

def k0_off411 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c75_i32 : BitVec 32 := 75#32
  let v789 : BitVec 32 := Scalar.addi v38 c75_i32
  let v790 : Index := Scalar.indexCast v789
  ![v790.toNat]
def k0_off412 (v791 : BitVec 32) : Fin 3 → Nat :=
  let c0_317 : Index := 0#32
  let c5_i32_316 : BitVec 32 := 5#32
  let v792 : BitVec 32 := Scalar.muli v791 c5_i32_316
  let v793 : Index := Scalar.indexCast v792
  let c0_318 : Index := 0#32
  ![0, v793.toNat, 0]

def k0_chk207 (v791 : BitVec 32) : Prop :=
  (∀ a, (k0_off412 v791) a + S1x5x128.size a ≤ S1x7720x128.size a)
theorem k0_off412_inb : ∀ (v791 : BitVec 32) (k0_hw207 : k0_chk207 v791), ∀ a, (k0_off412 v791) a + S1x5x128.size a ≤ S1x7720x128.size a := fun v791 k0_hw207 => k0_hw207

def k0_off413 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c76_i32 : BitVec 32 := 76#32
  let v799 : BitVec 32 := Scalar.addi v38 c76_i32
  let v800 : Index := Scalar.indexCast v799
  ![v800.toNat]
def k0_off414 (v801 : BitVec 32) : Fin 3 → Nat :=
  let c0_321 : Index := 0#32
  let c5_i32_320 : BitVec 32 := 5#32
  let v802 : BitVec 32 := Scalar.muli v801 c5_i32_320
  let v803 : Index := Scalar.indexCast v802
  let c0_322 : Index := 0#32
  ![0, v803.toNat, 0]

def k0_chk208 (v801 : BitVec 32) : Prop :=
  (∀ a, (k0_off414 v801) a + S1x5x128.size a ≤ S1x7720x128.size a)
theorem k0_off414_inb : ∀ (v801 : BitVec 32) (k0_hw208 : k0_chk208 v801), ∀ a, (k0_off414 v801) a + S1x5x128.size a ≤ S1x7720x128.size a := fun v801 k0_hw208 => k0_hw208

def k0_off415 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c77_i32 : BitVec 32 := 77#32
  let v809 : BitVec 32 := Scalar.addi v38 c77_i32
  let v810 : Index := Scalar.indexCast v809
  ![v810.toNat]
def k0_off416 (v811 : BitVec 32) : Fin 3 → Nat :=
  let c0_325 : Index := 0#32
  let c5_i32_324 : BitVec 32 := 5#32
  let v812 : BitVec 32 := Scalar.muli v811 c5_i32_324
  let v813 : Index := Scalar.indexCast v812
  let c0_326 : Index := 0#32
  ![0, v813.toNat, 0]

def k0_chk209 (v811 : BitVec 32) : Prop :=
  (∀ a, (k0_off416 v811) a + S1x5x128.size a ≤ S1x7720x128.size a)
theorem k0_off416_inb : ∀ (v811 : BitVec 32) (k0_hw209 : k0_chk209 v811), ∀ a, (k0_off416 v811) a + S1x5x128.size a ≤ S1x7720x128.size a := fun v811 k0_hw209 => k0_hw209

def k0_off417 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c78_i32 : BitVec 32 := 78#32
  let v819 : BitVec 32 := Scalar.addi v38 c78_i32
  let v820 : Index := Scalar.indexCast v819
  ![v820.toNat]
def k0_off418 (v821 : BitVec 32) : Fin 3 → Nat :=
  let c0_329 : Index := 0#32
  let c5_i32_328 : BitVec 32 := 5#32
  let v822 : BitVec 32 := Scalar.muli v821 c5_i32_328
  let v823 : Index := Scalar.indexCast v822
  let c0_330 : Index := 0#32
  ![0, v823.toNat, 0]

def k0_chk210 (v821 : BitVec 32) : Prop :=
  (∀ a, (k0_off418 v821) a + S1x5x128.size a ≤ S1x7720x128.size a)
theorem k0_off418_inb : ∀ (v821 : BitVec 32) (k0_hw210 : k0_chk210 v821), ∀ a, (k0_off418 v821) a + S1x5x128.size a ≤ S1x7720x128.size a := fun v821 k0_hw210 => k0_hw210

def k0_off419 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c79_i32 : BitVec 32 := 79#32
  let v829 : BitVec 32 := Scalar.addi v38 c79_i32
  let v830 : Index := Scalar.indexCast v829
  ![v830.toNat]
def k0_off420 (v831 : BitVec 32) : Fin 3 → Nat :=
  let c0_333 : Index := 0#32
  let c5_i32_332 : BitVec 32 := 5#32
  let v832 : BitVec 32 := Scalar.muli v831 c5_i32_332
  let v833 : Index := Scalar.indexCast v832
  let c0_334 : Index := 0#32
  ![0, v833.toNat, 0]

def k0_chk211 (v831 : BitVec 32) : Prop :=
  (∀ a, (k0_off420 v831) a + S1x5x128.size a ≤ S1x7720x128.size a)
theorem k0_off420_inb : ∀ (v831 : BitVec 32) (k0_hw211 : k0_chk211 v831), ∀ a, (k0_off420 v831) a + S1x5x128.size a ≤ S1x7720x128.size a := fun v831 k0_hw211 => k0_hw211

def k0_off421 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c80_i32 : BitVec 32 := 80#32
  let v839 : BitVec 32 := Scalar.addi v38 c80_i32
  let v840 : Index := Scalar.indexCast v839
  ![v840.toNat]
def k0_off422 (v841 : BitVec 32) : Fin 3 → Nat :=
  let c0_337 : Index := 0#32
  let c5_i32_336 : BitVec 32 := 5#32
  let v842 : BitVec 32 := Scalar.muli v841 c5_i32_336
  let v843 : Index := Scalar.indexCast v842
  let c0_338 : Index := 0#32
  ![0, v843.toNat, 0]

def k0_chk212 (v841 : BitVec 32) : Prop :=
  (∀ a, (k0_off422 v841) a + S1x5x128.size a ≤ S1x7720x128.size a)
theorem k0_off422_inb : ∀ (v841 : BitVec 32) (k0_hw212 : k0_chk212 v841), ∀ a, (k0_off422 v841) a + S1x5x128.size a ≤ S1x7720x128.size a := fun v841 k0_hw212 => k0_hw212

def k0_off423 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c81_i32 : BitVec 32 := 81#32
  let v849 : BitVec 32 := Scalar.addi v38 c81_i32
  let v850 : Index := Scalar.indexCast v849
  ![v850.toNat]
def k0_off424 (v851 : BitVec 32) : Fin 3 → Nat :=
  let c0_341 : Index := 0#32
  let c5_i32_340 : BitVec 32 := 5#32
  let v852 : BitVec 32 := Scalar.muli v851 c5_i32_340
  let v853 : Index := Scalar.indexCast v852
  let c0_342 : Index := 0#32
  ![0, v853.toNat, 0]

def k0_chk213 (v851 : BitVec 32) : Prop :=
  (∀ a, (k0_off424 v851) a + S1x5x128.size a ≤ S1x7720x128.size a)
theorem k0_off424_inb : ∀ (v851 : BitVec 32) (k0_hw213 : k0_chk213 v851), ∀ a, (k0_off424 v851) a + S1x5x128.size a ≤ S1x7720x128.size a := fun v851 k0_hw213 => k0_hw213

def k0_off425 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c82_i32 : BitVec 32 := 82#32
  let v859 : BitVec 32 := Scalar.addi v38 c82_i32
  let v860 : Index := Scalar.indexCast v859
  ![v860.toNat]
def k0_off426 (v861 : BitVec 32) : Fin 3 → Nat :=
  let c0_345 : Index := 0#32
  let c5_i32_344 : BitVec 32 := 5#32
  let v862 : BitVec 32 := Scalar.muli v861 c5_i32_344
  let v863 : Index := Scalar.indexCast v862
  let c0_346 : Index := 0#32
  ![0, v863.toNat, 0]

def k0_chk214 (v861 : BitVec 32) : Prop :=
  (∀ a, (k0_off426 v861) a + S1x5x128.size a ≤ S1x7720x128.size a)
theorem k0_off426_inb : ∀ (v861 : BitVec 32) (k0_hw214 : k0_chk214 v861), ∀ a, (k0_off426 v861) a + S1x5x128.size a ≤ S1x7720x128.size a := fun v861 k0_hw214 => k0_hw214

def k0_off427 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c83_i32 : BitVec 32 := 83#32
  let v869 : BitVec 32 := Scalar.addi v38 c83_i32
  let v870 : Index := Scalar.indexCast v869
  ![v870.toNat]
def k0_off428 (v871 : BitVec 32) : Fin 3 → Nat :=
  let c0_349 : Index := 0#32
  let c5_i32_348 : BitVec 32 := 5#32
  let v872 : BitVec 32 := Scalar.muli v871 c5_i32_348
  let v873 : Index := Scalar.indexCast v872
  let c0_350 : Index := 0#32
  ![0, v873.toNat, 0]

def k0_chk215 (v871 : BitVec 32) : Prop :=
  (∀ a, (k0_off428 v871) a + S1x5x128.size a ≤ S1x7720x128.size a)
theorem k0_off428_inb : ∀ (v871 : BitVec 32) (k0_hw215 : k0_chk215 v871), ∀ a, (k0_off428 v871) a + S1x5x128.size a ≤ S1x7720x128.size a := fun v871 k0_hw215 => k0_hw215

def k0_off429 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c84_i32 : BitVec 32 := 84#32
  let v879 : BitVec 32 := Scalar.addi v38 c84_i32
  let v880 : Index := Scalar.indexCast v879
  ![v880.toNat]
def k0_off430 (v881 : BitVec 32) : Fin 3 → Nat :=
  let c0_353 : Index := 0#32
  let c5_i32_352 : BitVec 32 := 5#32
  let v882 : BitVec 32 := Scalar.muli v881 c5_i32_352
  let v883 : Index := Scalar.indexCast v882
  let c0_354 : Index := 0#32
  ![0, v883.toNat, 0]

def k0_chk216 (v881 : BitVec 32) : Prop :=
  (∀ a, (k0_off430 v881) a + S1x5x128.size a ≤ S1x7720x128.size a)
theorem k0_off430_inb : ∀ (v881 : BitVec 32) (k0_hw216 : k0_chk216 v881), ∀ a, (k0_off430 v881) a + S1x5x128.size a ≤ S1x7720x128.size a := fun v881 k0_hw216 => k0_hw216

def k0_off431 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c85_i32 : BitVec 32 := 85#32
  let v889 : BitVec 32 := Scalar.addi v38 c85_i32
  let v890 : Index := Scalar.indexCast v889
  ![v890.toNat]
def k0_off432 (v891 : BitVec 32) : Fin 3 → Nat :=
  let c0_357 : Index := 0#32
  let c5_i32_356 : BitVec 32 := 5#32
  let v892 : BitVec 32 := Scalar.muli v891 c5_i32_356
  let v893 : Index := Scalar.indexCast v892
  let c0_358 : Index := 0#32
  ![0, v893.toNat, 0]

def k0_chk217 (v891 : BitVec 32) : Prop :=
  (∀ a, (k0_off432 v891) a + S1x5x128.size a ≤ S1x7720x128.size a)
theorem k0_off432_inb : ∀ (v891 : BitVec 32) (k0_hw217 : k0_chk217 v891), ∀ a, (k0_off432 v891) a + S1x5x128.size a ≤ S1x7720x128.size a := fun v891 k0_hw217 => k0_hw217

def k0_off433 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c86_i32 : BitVec 32 := 86#32
  let v899 : BitVec 32 := Scalar.addi v38 c86_i32
  let v900 : Index := Scalar.indexCast v899
  ![v900.toNat]
def k0_off434 (v901 : BitVec 32) : Fin 3 → Nat :=
  let c0_361 : Index := 0#32
  let c5_i32_360 : BitVec 32 := 5#32
  let v902 : BitVec 32 := Scalar.muli v901 c5_i32_360
  let v903 : Index := Scalar.indexCast v902
  let c0_362 : Index := 0#32
  ![0, v903.toNat, 0]

def k0_chk218 (v901 : BitVec 32) : Prop :=
  (∀ a, (k0_off434 v901) a + S1x5x128.size a ≤ S1x7720x128.size a)
theorem k0_off434_inb : ∀ (v901 : BitVec 32) (k0_hw218 : k0_chk218 v901), ∀ a, (k0_off434 v901) a + S1x5x128.size a ≤ S1x7720x128.size a := fun v901 k0_hw218 => k0_hw218

def k0_off435 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c87_i32 : BitVec 32 := 87#32
  let v909 : BitVec 32 := Scalar.addi v38 c87_i32
  let v910 : Index := Scalar.indexCast v909
  ![v910.toNat]
def k0_off436 (v911 : BitVec 32) : Fin 3 → Nat :=
  let c0_365 : Index := 0#32
  let c5_i32_364 : BitVec 32 := 5#32
  let v912 : BitVec 32 := Scalar.muli v911 c5_i32_364
  let v913 : Index := Scalar.indexCast v912
  let c0_366 : Index := 0#32
  ![0, v913.toNat, 0]

def k0_chk219 (v911 : BitVec 32) : Prop :=
  (∀ a, (k0_off436 v911) a + S1x5x128.size a ≤ S1x7720x128.size a)
theorem k0_off436_inb : ∀ (v911 : BitVec 32) (k0_hw219 : k0_chk219 v911), ∀ a, (k0_off436 v911) a + S1x5x128.size a ≤ S1x7720x128.size a := fun v911 k0_hw219 => k0_hw219

def k0_off437 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c88_i32 : BitVec 32 := 88#32
  let v919 : BitVec 32 := Scalar.addi v38 c88_i32
  let v920 : Index := Scalar.indexCast v919
  ![v920.toNat]
def k0_off438 (v921 : BitVec 32) : Fin 3 → Nat :=
  let c0_369 : Index := 0#32
  let c5_i32_368 : BitVec 32 := 5#32
  let v922 : BitVec 32 := Scalar.muli v921 c5_i32_368
  let v923 : Index := Scalar.indexCast v922
  let c0_370 : Index := 0#32
  ![0, v923.toNat, 0]

def k0_chk220 (v921 : BitVec 32) : Prop :=
  (∀ a, (k0_off438 v921) a + S1x5x128.size a ≤ S1x7720x128.size a)
theorem k0_off438_inb : ∀ (v921 : BitVec 32) (k0_hw220 : k0_chk220 v921), ∀ a, (k0_off438 v921) a + S1x5x128.size a ≤ S1x7720x128.size a := fun v921 k0_hw220 => k0_hw220

def k0_off439 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c89_i32 : BitVec 32 := 89#32
  let v929 : BitVec 32 := Scalar.addi v38 c89_i32
  let v930 : Index := Scalar.indexCast v929
  ![v930.toNat]
def k0_off440 (v931 : BitVec 32) : Fin 3 → Nat :=
  let c0_373 : Index := 0#32
  let c5_i32_372 : BitVec 32 := 5#32
  let v932 : BitVec 32 := Scalar.muli v931 c5_i32_372
  let v933 : Index := Scalar.indexCast v932
  let c0_374 : Index := 0#32
  ![0, v933.toNat, 0]

def k0_chk221 (v931 : BitVec 32) : Prop :=
  (∀ a, (k0_off440 v931) a + S1x5x128.size a ≤ S1x7720x128.size a)
theorem k0_off440_inb : ∀ (v931 : BitVec 32) (k0_hw221 : k0_chk221 v931), ∀ a, (k0_off440 v931) a + S1x5x128.size a ≤ S1x7720x128.size a := fun v931 k0_hw221 => k0_hw221

def k0_off441 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c90_i32 : BitVec 32 := 90#32
  let v939 : BitVec 32 := Scalar.addi v38 c90_i32
  let v940 : Index := Scalar.indexCast v939
  ![v940.toNat]
def k0_off442 (v941 : BitVec 32) : Fin 3 → Nat :=
  let c0_377 : Index := 0#32
  let c5_i32_376 : BitVec 32 := 5#32
  let v942 : BitVec 32 := Scalar.muli v941 c5_i32_376
  let v943 : Index := Scalar.indexCast v942
  let c0_378 : Index := 0#32
  ![0, v943.toNat, 0]

def k0_chk222 (v941 : BitVec 32) : Prop :=
  (∀ a, (k0_off442 v941) a + S1x5x128.size a ≤ S1x7720x128.size a)
theorem k0_off442_inb : ∀ (v941 : BitVec 32) (k0_hw222 : k0_chk222 v941), ∀ a, (k0_off442 v941) a + S1x5x128.size a ≤ S1x7720x128.size a := fun v941 k0_hw222 => k0_hw222

def k0_off443 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c91_i32 : BitVec 32 := 91#32
  let v949 : BitVec 32 := Scalar.addi v38 c91_i32
  let v950 : Index := Scalar.indexCast v949
  ![v950.toNat]
def k0_off444 (v951 : BitVec 32) : Fin 3 → Nat :=
  let c0_381 : Index := 0#32
  let c5_i32_380 : BitVec 32 := 5#32
  let v952 : BitVec 32 := Scalar.muli v951 c5_i32_380
  let v953 : Index := Scalar.indexCast v952
  let c0_382 : Index := 0#32
  ![0, v953.toNat, 0]

def k0_chk223 (v951 : BitVec 32) : Prop :=
  (∀ a, (k0_off444 v951) a + S1x5x128.size a ≤ S1x7720x128.size a)
theorem k0_off444_inb : ∀ (v951 : BitVec 32) (k0_hw223 : k0_chk223 v951), ∀ a, (k0_off444 v951) a + S1x5x128.size a ≤ S1x7720x128.size a := fun v951 k0_hw223 => k0_hw223

def k0_off445 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c92_i32 : BitVec 32 := 92#32
  let v959 : BitVec 32 := Scalar.addi v38 c92_i32
  let v960 : Index := Scalar.indexCast v959
  ![v960.toNat]
def k0_off446 (v961 : BitVec 32) : Fin 3 → Nat :=
  let c0_385 : Index := 0#32
  let c5_i32_384 : BitVec 32 := 5#32
  let v962 : BitVec 32 := Scalar.muli v961 c5_i32_384
  let v963 : Index := Scalar.indexCast v962
  let c0_386 : Index := 0#32
  ![0, v963.toNat, 0]

def k0_chk224 (v961 : BitVec 32) : Prop :=
  (∀ a, (k0_off446 v961) a + S1x5x128.size a ≤ S1x7720x128.size a)
theorem k0_off446_inb : ∀ (v961 : BitVec 32) (k0_hw224 : k0_chk224 v961), ∀ a, (k0_off446 v961) a + S1x5x128.size a ≤ S1x7720x128.size a := fun v961 k0_hw224 => k0_hw224

def k0_off447 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c93_i32 : BitVec 32 := 93#32
  let v969 : BitVec 32 := Scalar.addi v38 c93_i32
  let v970 : Index := Scalar.indexCast v969
  ![v970.toNat]
def k0_off448 (v971 : BitVec 32) : Fin 3 → Nat :=
  let c0_389 : Index := 0#32
  let c5_i32_388 : BitVec 32 := 5#32
  let v972 : BitVec 32 := Scalar.muli v971 c5_i32_388
  let v973 : Index := Scalar.indexCast v972
  let c0_390 : Index := 0#32
  ![0, v973.toNat, 0]

def k0_chk225 (v971 : BitVec 32) : Prop :=
  (∀ a, (k0_off448 v971) a + S1x5x128.size a ≤ S1x7720x128.size a)
theorem k0_off448_inb : ∀ (v971 : BitVec 32) (k0_hw225 : k0_chk225 v971), ∀ a, (k0_off448 v971) a + S1x5x128.size a ≤ S1x7720x128.size a := fun v971 k0_hw225 => k0_hw225

def k0_off449 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c94_i32 : BitVec 32 := 94#32
  let v979 : BitVec 32 := Scalar.addi v38 c94_i32
  let v980 : Index := Scalar.indexCast v979
  ![v980.toNat]
def k0_off450 (v981 : BitVec 32) : Fin 3 → Nat :=
  let c0_393 : Index := 0#32
  let c5_i32_392 : BitVec 32 := 5#32
  let v982 : BitVec 32 := Scalar.muli v981 c5_i32_392
  let v983 : Index := Scalar.indexCast v982
  let c0_394 : Index := 0#32
  ![0, v983.toNat, 0]

def k0_chk226 (v981 : BitVec 32) : Prop :=
  (∀ a, (k0_off450 v981) a + S1x5x128.size a ≤ S1x7720x128.size a)
theorem k0_off450_inb : ∀ (v981 : BitVec 32) (k0_hw226 : k0_chk226 v981), ∀ a, (k0_off450 v981) a + S1x5x128.size a ≤ S1x7720x128.size a := fun v981 k0_hw226 => k0_hw226

def k0_off451 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c95_i32 : BitVec 32 := 95#32
  let v989 : BitVec 32 := Scalar.addi v38 c95_i32
  let v990 : Index := Scalar.indexCast v989
  ![v990.toNat]
def k0_off452 (v991 : BitVec 32) : Fin 3 → Nat :=
  let c0_397 : Index := 0#32
  let c5_i32_396 : BitVec 32 := 5#32
  let v992 : BitVec 32 := Scalar.muli v991 c5_i32_396
  let v993 : Index := Scalar.indexCast v992
  let c0_398 : Index := 0#32
  ![0, v993.toNat, 0]

def k0_chk227 (v991 : BitVec 32) : Prop :=
  (∀ a, (k0_off452 v991) a + S1x5x128.size a ≤ S1x7720x128.size a)
theorem k0_off452_inb : ∀ (v991 : BitVec 32) (k0_hw227 : k0_chk227 v991), ∀ a, (k0_off452 v991) a + S1x5x128.size a ≤ S1x7720x128.size a := fun v991 k0_hw227 => k0_hw227

def k0_off453 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c96_i32 : BitVec 32 := 96#32
  let v999 : BitVec 32 := Scalar.addi v38 c96_i32
  let v1000 : Index := Scalar.indexCast v999
  ![v1000.toNat]
def k0_off454 (v1001 : BitVec 32) : Fin 3 → Nat :=
  let c0_401 : Index := 0#32
  let c5_i32_400 : BitVec 32 := 5#32
  let v1002 : BitVec 32 := Scalar.muli v1001 c5_i32_400
  let v1003 : Index := Scalar.indexCast v1002
  let c0_402 : Index := 0#32
  ![0, v1003.toNat, 0]

def k0_chk228 (v1001 : BitVec 32) : Prop :=
  (∀ a, (k0_off454 v1001) a + S1x5x128.size a ≤ S1x7720x128.size a)
theorem k0_off454_inb : ∀ (v1001 : BitVec 32) (k0_hw228 : k0_chk228 v1001), ∀ a, (k0_off454 v1001) a + S1x5x128.size a ≤ S1x7720x128.size a := fun v1001 k0_hw228 => k0_hw228

def k0_off455 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c97_i32 : BitVec 32 := 97#32
  let v1009 : BitVec 32 := Scalar.addi v38 c97_i32
  let v1010 : Index := Scalar.indexCast v1009
  ![v1010.toNat]
def k0_off456 (v1011 : BitVec 32) : Fin 3 → Nat :=
  let c0_405 : Index := 0#32
  let c5_i32_404 : BitVec 32 := 5#32
  let v1012 : BitVec 32 := Scalar.muli v1011 c5_i32_404
  let v1013 : Index := Scalar.indexCast v1012
  let c0_406 : Index := 0#32
  ![0, v1013.toNat, 0]

def k0_chk229 (v1011 : BitVec 32) : Prop :=
  (∀ a, (k0_off456 v1011) a + S1x5x128.size a ≤ S1x7720x128.size a)
theorem k0_off456_inb : ∀ (v1011 : BitVec 32) (k0_hw229 : k0_chk229 v1011), ∀ a, (k0_off456 v1011) a + S1x5x128.size a ≤ S1x7720x128.size a := fun v1011 k0_hw229 => k0_hw229

def k0_off457 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c98_i32 : BitVec 32 := 98#32
  let v1019 : BitVec 32 := Scalar.addi v38 c98_i32
  let v1020 : Index := Scalar.indexCast v1019
  ![v1020.toNat]
def k0_off458 (v1021 : BitVec 32) : Fin 3 → Nat :=
  let c0_409 : Index := 0#32
  let c5_i32_408 : BitVec 32 := 5#32
  let v1022 : BitVec 32 := Scalar.muli v1021 c5_i32_408
  let v1023 : Index := Scalar.indexCast v1022
  let c0_410 : Index := 0#32
  ![0, v1023.toNat, 0]

def k0_chk230 (v1021 : BitVec 32) : Prop :=
  (∀ a, (k0_off458 v1021) a + S1x5x128.size a ≤ S1x7720x128.size a)
theorem k0_off458_inb : ∀ (v1021 : BitVec 32) (k0_hw230 : k0_chk230 v1021), ∀ a, (k0_off458 v1021) a + S1x5x128.size a ≤ S1x7720x128.size a := fun v1021 k0_hw230 => k0_hw230

def k0_off459 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c99_i32 : BitVec 32 := 99#32
  let v1029 : BitVec 32 := Scalar.addi v38 c99_i32
  let v1030 : Index := Scalar.indexCast v1029
  ![v1030.toNat]
def k0_off460 (v1031 : BitVec 32) : Fin 3 → Nat :=
  let c0_413 : Index := 0#32
  let c5_i32_412 : BitVec 32 := 5#32
  let v1032 : BitVec 32 := Scalar.muli v1031 c5_i32_412
  let v1033 : Index := Scalar.indexCast v1032
  let c0_414 : Index := 0#32
  ![0, v1033.toNat, 0]

def k0_chk231 (v1031 : BitVec 32) : Prop :=
  (∀ a, (k0_off460 v1031) a + S1x5x128.size a ≤ S1x7720x128.size a)
theorem k0_off460_inb : ∀ (v1031 : BitVec 32) (k0_hw231 : k0_chk231 v1031), ∀ a, (k0_off460 v1031) a + S1x5x128.size a ≤ S1x7720x128.size a := fun v1031 k0_hw231 => k0_hw231

def k0_off461 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c100_i32 : BitVec 32 := 100#32
  let v1039 : BitVec 32 := Scalar.addi v38 c100_i32
  let v1040 : Index := Scalar.indexCast v1039
  ![v1040.toNat]
def k0_off462 (v1041 : BitVec 32) : Fin 3 → Nat :=
  let c0_417 : Index := 0#32
  let c5_i32_416 : BitVec 32 := 5#32
  let v1042 : BitVec 32 := Scalar.muli v1041 c5_i32_416
  let v1043 : Index := Scalar.indexCast v1042
  let c0_418 : Index := 0#32
  ![0, v1043.toNat, 0]

def k0_chk232 (v1041 : BitVec 32) : Prop :=
  (∀ a, (k0_off462 v1041) a + S1x5x128.size a ≤ S1x7720x128.size a)
theorem k0_off462_inb : ∀ (v1041 : BitVec 32) (k0_hw232 : k0_chk232 v1041), ∀ a, (k0_off462 v1041) a + S1x5x128.size a ≤ S1x7720x128.size a := fun v1041 k0_hw232 => k0_hw232

def k0_off463 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c101_i32 : BitVec 32 := 101#32
  let v1049 : BitVec 32 := Scalar.addi v38 c101_i32
  let v1050 : Index := Scalar.indexCast v1049
  ![v1050.toNat]
def k0_off464 (v1051 : BitVec 32) : Fin 3 → Nat :=
  let c0_421 : Index := 0#32
  let c5_i32_420 : BitVec 32 := 5#32
  let v1052 : BitVec 32 := Scalar.muli v1051 c5_i32_420
  let v1053 : Index := Scalar.indexCast v1052
  let c0_422 : Index := 0#32
  ![0, v1053.toNat, 0]

def k0_chk233 (v1051 : BitVec 32) : Prop :=
  (∀ a, (k0_off464 v1051) a + S1x5x128.size a ≤ S1x7720x128.size a)
theorem k0_off464_inb : ∀ (v1051 : BitVec 32) (k0_hw233 : k0_chk233 v1051), ∀ a, (k0_off464 v1051) a + S1x5x128.size a ≤ S1x7720x128.size a := fun v1051 k0_hw233 => k0_hw233

def k0_off465 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c102_i32 : BitVec 32 := 102#32
  let v1059 : BitVec 32 := Scalar.addi v38 c102_i32
  let v1060 : Index := Scalar.indexCast v1059
  ![v1060.toNat]
def k0_off466 (v1061 : BitVec 32) : Fin 3 → Nat :=
  let c0_425 : Index := 0#32
  let c5_i32_424 : BitVec 32 := 5#32
  let v1062 : BitVec 32 := Scalar.muli v1061 c5_i32_424
  let v1063 : Index := Scalar.indexCast v1062
  let c0_426 : Index := 0#32
  ![0, v1063.toNat, 0]

def k0_chk234 (v1061 : BitVec 32) : Prop :=
  (∀ a, (k0_off466 v1061) a + S1x5x128.size a ≤ S1x7720x128.size a)
theorem k0_off466_inb : ∀ (v1061 : BitVec 32) (k0_hw234 : k0_chk234 v1061), ∀ a, (k0_off466 v1061) a + S1x5x128.size a ≤ S1x7720x128.size a := fun v1061 k0_hw234 => k0_hw234

def k0_off467 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c103_i32 : BitVec 32 := 103#32
  let v1069 : BitVec 32 := Scalar.addi v38 c103_i32
  let v1070 : Index := Scalar.indexCast v1069
  ![v1070.toNat]
def k0_off468 (v1071 : BitVec 32) : Fin 3 → Nat :=
  let c0_429 : Index := 0#32
  let c5_i32_428 : BitVec 32 := 5#32
  let v1072 : BitVec 32 := Scalar.muli v1071 c5_i32_428
  let v1073 : Index := Scalar.indexCast v1072
  let c0_430 : Index := 0#32
  ![0, v1073.toNat, 0]

def k0_chk235 (v1071 : BitVec 32) : Prop :=
  (∀ a, (k0_off468 v1071) a + S1x5x128.size a ≤ S1x7720x128.size a)
theorem k0_off468_inb : ∀ (v1071 : BitVec 32) (k0_hw235 : k0_chk235 v1071), ∀ a, (k0_off468 v1071) a + S1x5x128.size a ≤ S1x7720x128.size a := fun v1071 k0_hw235 => k0_hw235

def k0_off469 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c104_i32 : BitVec 32 := 104#32
  let v1079 : BitVec 32 := Scalar.addi v38 c104_i32
  let v1080 : Index := Scalar.indexCast v1079
  ![v1080.toNat]
def k0_off470 (v1081 : BitVec 32) : Fin 3 → Nat :=
  let c0_433 : Index := 0#32
  let c5_i32_432 : BitVec 32 := 5#32
  let v1082 : BitVec 32 := Scalar.muli v1081 c5_i32_432
  let v1083 : Index := Scalar.indexCast v1082
  let c0_434 : Index := 0#32
  ![0, v1083.toNat, 0]

def k0_chk236 (v1081 : BitVec 32) : Prop :=
  (∀ a, (k0_off470 v1081) a + S1x5x128.size a ≤ S1x7720x128.size a)
theorem k0_off470_inb : ∀ (v1081 : BitVec 32) (k0_hw236 : k0_chk236 v1081), ∀ a, (k0_off470 v1081) a + S1x5x128.size a ≤ S1x7720x128.size a := fun v1081 k0_hw236 => k0_hw236

def k0_off471 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c105_i32 : BitVec 32 := 105#32
  let v1089 : BitVec 32 := Scalar.addi v38 c105_i32
  let v1090 : Index := Scalar.indexCast v1089
  ![v1090.toNat]
def k0_off472 (v1091 : BitVec 32) : Fin 3 → Nat :=
  let c0_437 : Index := 0#32
  let c5_i32_436 : BitVec 32 := 5#32
  let v1092 : BitVec 32 := Scalar.muli v1091 c5_i32_436
  let v1093 : Index := Scalar.indexCast v1092
  let c0_438 : Index := 0#32
  ![0, v1093.toNat, 0]

def k0_chk237 (v1091 : BitVec 32) : Prop :=
  (∀ a, (k0_off472 v1091) a + S1x5x128.size a ≤ S1x7720x128.size a)
theorem k0_off472_inb : ∀ (v1091 : BitVec 32) (k0_hw237 : k0_chk237 v1091), ∀ a, (k0_off472 v1091) a + S1x5x128.size a ≤ S1x7720x128.size a := fun v1091 k0_hw237 => k0_hw237

def k0_off473 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c106_i32 : BitVec 32 := 106#32
  let v1099 : BitVec 32 := Scalar.addi v38 c106_i32
  let v1100 : Index := Scalar.indexCast v1099
  ![v1100.toNat]
def k0_off474 (v1101 : BitVec 32) : Fin 3 → Nat :=
  let c0_441 : Index := 0#32
  let c5_i32_440 : BitVec 32 := 5#32
  let v1102 : BitVec 32 := Scalar.muli v1101 c5_i32_440
  let v1103 : Index := Scalar.indexCast v1102
  let c0_442 : Index := 0#32
  ![0, v1103.toNat, 0]

def k0_chk238 (v1101 : BitVec 32) : Prop :=
  (∀ a, (k0_off474 v1101) a + S1x5x128.size a ≤ S1x7720x128.size a)
theorem k0_off474_inb : ∀ (v1101 : BitVec 32) (k0_hw238 : k0_chk238 v1101), ∀ a, (k0_off474 v1101) a + S1x5x128.size a ≤ S1x7720x128.size a := fun v1101 k0_hw238 => k0_hw238

def k0_off475 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c107_i32 : BitVec 32 := 107#32
  let v1109 : BitVec 32 := Scalar.addi v38 c107_i32
  let v1110 : Index := Scalar.indexCast v1109
  ![v1110.toNat]
def k0_off476 (v1111 : BitVec 32) : Fin 3 → Nat :=
  let c0_445 : Index := 0#32
  let c5_i32_444 : BitVec 32 := 5#32
  let v1112 : BitVec 32 := Scalar.muli v1111 c5_i32_444
  let v1113 : Index := Scalar.indexCast v1112
  let c0_446 : Index := 0#32
  ![0, v1113.toNat, 0]

def k0_chk239 (v1111 : BitVec 32) : Prop :=
  (∀ a, (k0_off476 v1111) a + S1x5x128.size a ≤ S1x7720x128.size a)
theorem k0_off476_inb : ∀ (v1111 : BitVec 32) (k0_hw239 : k0_chk239 v1111), ∀ a, (k0_off476 v1111) a + S1x5x128.size a ≤ S1x7720x128.size a := fun v1111 k0_hw239 => k0_hw239

def k0_off477 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c108_i32 : BitVec 32 := 108#32
  let v1119 : BitVec 32 := Scalar.addi v38 c108_i32
  let v1120 : Index := Scalar.indexCast v1119
  ![v1120.toNat]
def k0_off478 (v1121 : BitVec 32) : Fin 3 → Nat :=
  let c0_449 : Index := 0#32
  let c5_i32_448 : BitVec 32 := 5#32
  let v1122 : BitVec 32 := Scalar.muli v1121 c5_i32_448
  let v1123 : Index := Scalar.indexCast v1122
  let c0_450 : Index := 0#32
  ![0, v1123.toNat, 0]

def k0_chk240 (v1121 : BitVec 32) : Prop :=
  (∀ a, (k0_off478 v1121) a + S1x5x128.size a ≤ S1x7720x128.size a)
theorem k0_off478_inb : ∀ (v1121 : BitVec 32) (k0_hw240 : k0_chk240 v1121), ∀ a, (k0_off478 v1121) a + S1x5x128.size a ≤ S1x7720x128.size a := fun v1121 k0_hw240 => k0_hw240

def k0_off479 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c109_i32 : BitVec 32 := 109#32
  let v1129 : BitVec 32 := Scalar.addi v38 c109_i32
  let v1130 : Index := Scalar.indexCast v1129
  ![v1130.toNat]
def k0_off480 (v1131 : BitVec 32) : Fin 3 → Nat :=
  let c0_453 : Index := 0#32
  let c5_i32_452 : BitVec 32 := 5#32
  let v1132 : BitVec 32 := Scalar.muli v1131 c5_i32_452
  let v1133 : Index := Scalar.indexCast v1132
  let c0_454 : Index := 0#32
  ![0, v1133.toNat, 0]

def k0_chk241 (v1131 : BitVec 32) : Prop :=
  (∀ a, (k0_off480 v1131) a + S1x5x128.size a ≤ S1x7720x128.size a)
theorem k0_off480_inb : ∀ (v1131 : BitVec 32) (k0_hw241 : k0_chk241 v1131), ∀ a, (k0_off480 v1131) a + S1x5x128.size a ≤ S1x7720x128.size a := fun v1131 k0_hw241 => k0_hw241

def k0_off481 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c110_i32 : BitVec 32 := 110#32
  let v1139 : BitVec 32 := Scalar.addi v38 c110_i32
  let v1140 : Index := Scalar.indexCast v1139
  ![v1140.toNat]
def k0_off482 (v1141 : BitVec 32) : Fin 3 → Nat :=
  let c0_457 : Index := 0#32
  let c5_i32_456 : BitVec 32 := 5#32
  let v1142 : BitVec 32 := Scalar.muli v1141 c5_i32_456
  let v1143 : Index := Scalar.indexCast v1142
  let c0_458 : Index := 0#32
  ![0, v1143.toNat, 0]

def k0_chk242 (v1141 : BitVec 32) : Prop :=
  (∀ a, (k0_off482 v1141) a + S1x5x128.size a ≤ S1x7720x128.size a)
theorem k0_off482_inb : ∀ (v1141 : BitVec 32) (k0_hw242 : k0_chk242 v1141), ∀ a, (k0_off482 v1141) a + S1x5x128.size a ≤ S1x7720x128.size a := fun v1141 k0_hw242 => k0_hw242

def k0_off483 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c111_i32 : BitVec 32 := 111#32
  let v1149 : BitVec 32 := Scalar.addi v38 c111_i32
  let v1150 : Index := Scalar.indexCast v1149
  ![v1150.toNat]
def k0_off484 (v1151 : BitVec 32) : Fin 3 → Nat :=
  let c0_461 : Index := 0#32
  let c5_i32_460 : BitVec 32 := 5#32
  let v1152 : BitVec 32 := Scalar.muli v1151 c5_i32_460
  let v1153 : Index := Scalar.indexCast v1152
  let c0_462 : Index := 0#32
  ![0, v1153.toNat, 0]

def k0_chk243 (v1151 : BitVec 32) : Prop :=
  (∀ a, (k0_off484 v1151) a + S1x5x128.size a ≤ S1x7720x128.size a)
theorem k0_off484_inb : ∀ (v1151 : BitVec 32) (k0_hw243 : k0_chk243 v1151), ∀ a, (k0_off484 v1151) a + S1x5x128.size a ≤ S1x7720x128.size a := fun v1151 k0_hw243 => k0_hw243

def k0_off485 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c112_i32 : BitVec 32 := 112#32
  let v1159 : BitVec 32 := Scalar.addi v38 c112_i32
  let v1160 : Index := Scalar.indexCast v1159
  ![v1160.toNat]
def k0_off486 (v1161 : BitVec 32) : Fin 3 → Nat :=
  let c0_465 : Index := 0#32
  let c5_i32_464 : BitVec 32 := 5#32
  let v1162 : BitVec 32 := Scalar.muli v1161 c5_i32_464
  let v1163 : Index := Scalar.indexCast v1162
  let c0_466 : Index := 0#32
  ![0, v1163.toNat, 0]

def k0_chk244 (v1161 : BitVec 32) : Prop :=
  (∀ a, (k0_off486 v1161) a + S1x5x128.size a ≤ S1x7720x128.size a)
theorem k0_off486_inb : ∀ (v1161 : BitVec 32) (k0_hw244 : k0_chk244 v1161), ∀ a, (k0_off486 v1161) a + S1x5x128.size a ≤ S1x7720x128.size a := fun v1161 k0_hw244 => k0_hw244

def k0_off487 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c113_i32 : BitVec 32 := 113#32
  let v1169 : BitVec 32 := Scalar.addi v38 c113_i32
  let v1170 : Index := Scalar.indexCast v1169
  ![v1170.toNat]
def k0_off488 (v1171 : BitVec 32) : Fin 3 → Nat :=
  let c0_469 : Index := 0#32
  let c5_i32_468 : BitVec 32 := 5#32
  let v1172 : BitVec 32 := Scalar.muli v1171 c5_i32_468
  let v1173 : Index := Scalar.indexCast v1172
  let c0_470 : Index := 0#32
  ![0, v1173.toNat, 0]

def k0_chk245 (v1171 : BitVec 32) : Prop :=
  (∀ a, (k0_off488 v1171) a + S1x5x128.size a ≤ S1x7720x128.size a)
theorem k0_off488_inb : ∀ (v1171 : BitVec 32) (k0_hw245 : k0_chk245 v1171), ∀ a, (k0_off488 v1171) a + S1x5x128.size a ≤ S1x7720x128.size a := fun v1171 k0_hw245 => k0_hw245

def k0_off489 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c114_i32 : BitVec 32 := 114#32
  let v1179 : BitVec 32 := Scalar.addi v38 c114_i32
  let v1180 : Index := Scalar.indexCast v1179
  ![v1180.toNat]
def k0_off490 (v1181 : BitVec 32) : Fin 3 → Nat :=
  let c0_473 : Index := 0#32
  let c5_i32_472 : BitVec 32 := 5#32
  let v1182 : BitVec 32 := Scalar.muli v1181 c5_i32_472
  let v1183 : Index := Scalar.indexCast v1182
  let c0_474 : Index := 0#32
  ![0, v1183.toNat, 0]

def k0_chk246 (v1181 : BitVec 32) : Prop :=
  (∀ a, (k0_off490 v1181) a + S1x5x128.size a ≤ S1x7720x128.size a)
theorem k0_off490_inb : ∀ (v1181 : BitVec 32) (k0_hw246 : k0_chk246 v1181), ∀ a, (k0_off490 v1181) a + S1x5x128.size a ≤ S1x7720x128.size a := fun v1181 k0_hw246 => k0_hw246

def k0_off491 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c115_i32 : BitVec 32 := 115#32
  let v1189 : BitVec 32 := Scalar.addi v38 c115_i32
  let v1190 : Index := Scalar.indexCast v1189
  ![v1190.toNat]
def k0_off492 (v1191 : BitVec 32) : Fin 3 → Nat :=
  let c0_477 : Index := 0#32
  let c5_i32_476 : BitVec 32 := 5#32
  let v1192 : BitVec 32 := Scalar.muli v1191 c5_i32_476
  let v1193 : Index := Scalar.indexCast v1192
  let c0_478 : Index := 0#32
  ![0, v1193.toNat, 0]

def k0_chk247 (v1191 : BitVec 32) : Prop :=
  (∀ a, (k0_off492 v1191) a + S1x5x128.size a ≤ S1x7720x128.size a)
theorem k0_off492_inb : ∀ (v1191 : BitVec 32) (k0_hw247 : k0_chk247 v1191), ∀ a, (k0_off492 v1191) a + S1x5x128.size a ≤ S1x7720x128.size a := fun v1191 k0_hw247 => k0_hw247

def k0_off493 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c116_i32 : BitVec 32 := 116#32
  let v1199 : BitVec 32 := Scalar.addi v38 c116_i32
  let v1200 : Index := Scalar.indexCast v1199
  ![v1200.toNat]
def k0_off494 (v1201 : BitVec 32) : Fin 3 → Nat :=
  let c0_481 : Index := 0#32
  let c5_i32_480 : BitVec 32 := 5#32
  let v1202 : BitVec 32 := Scalar.muli v1201 c5_i32_480
  let v1203 : Index := Scalar.indexCast v1202
  let c0_482 : Index := 0#32
  ![0, v1203.toNat, 0]

def k0_chk248 (v1201 : BitVec 32) : Prop :=
  (∀ a, (k0_off494 v1201) a + S1x5x128.size a ≤ S1x7720x128.size a)
theorem k0_off494_inb : ∀ (v1201 : BitVec 32) (k0_hw248 : k0_chk248 v1201), ∀ a, (k0_off494 v1201) a + S1x5x128.size a ≤ S1x7720x128.size a := fun v1201 k0_hw248 => k0_hw248

def k0_off495 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c117_i32 : BitVec 32 := 117#32
  let v1209 : BitVec 32 := Scalar.addi v38 c117_i32
  let v1210 : Index := Scalar.indexCast v1209
  ![v1210.toNat]
def k0_off496 (v1211 : BitVec 32) : Fin 3 → Nat :=
  let c0_485 : Index := 0#32
  let c5_i32_484 : BitVec 32 := 5#32
  let v1212 : BitVec 32 := Scalar.muli v1211 c5_i32_484
  let v1213 : Index := Scalar.indexCast v1212
  let c0_486 : Index := 0#32
  ![0, v1213.toNat, 0]

def k0_chk249 (v1211 : BitVec 32) : Prop :=
  (∀ a, (k0_off496 v1211) a + S1x5x128.size a ≤ S1x7720x128.size a)
theorem k0_off496_inb : ∀ (v1211 : BitVec 32) (k0_hw249 : k0_chk249 v1211), ∀ a, (k0_off496 v1211) a + S1x5x128.size a ≤ S1x7720x128.size a := fun v1211 k0_hw249 => k0_hw249

def k0_off497 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c118_i32 : BitVec 32 := 118#32
  let v1219 : BitVec 32 := Scalar.addi v38 c118_i32
  let v1220 : Index := Scalar.indexCast v1219
  ![v1220.toNat]
def k0_off498 (v1221 : BitVec 32) : Fin 3 → Nat :=
  let c0_489 : Index := 0#32
  let c5_i32_488 : BitVec 32 := 5#32
  let v1222 : BitVec 32 := Scalar.muli v1221 c5_i32_488
  let v1223 : Index := Scalar.indexCast v1222
  let c0_490 : Index := 0#32
  ![0, v1223.toNat, 0]

def k0_chk250 (v1221 : BitVec 32) : Prop :=
  (∀ a, (k0_off498 v1221) a + S1x5x128.size a ≤ S1x7720x128.size a)
theorem k0_off498_inb : ∀ (v1221 : BitVec 32) (k0_hw250 : k0_chk250 v1221), ∀ a, (k0_off498 v1221) a + S1x5x128.size a ≤ S1x7720x128.size a := fun v1221 k0_hw250 => k0_hw250

def k0_off499 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c119_i32 : BitVec 32 := 119#32
  let v1229 : BitVec 32 := Scalar.addi v38 c119_i32
  let v1230 : Index := Scalar.indexCast v1229
  ![v1230.toNat]
def k0_off500 (v1231 : BitVec 32) : Fin 3 → Nat :=
  let c0_493 : Index := 0#32
  let c5_i32_492 : BitVec 32 := 5#32
  let v1232 : BitVec 32 := Scalar.muli v1231 c5_i32_492
  let v1233 : Index := Scalar.indexCast v1232
  let c0_494 : Index := 0#32
  ![0, v1233.toNat, 0]

def k0_chk251 (v1231 : BitVec 32) : Prop :=
  (∀ a, (k0_off500 v1231) a + S1x5x128.size a ≤ S1x7720x128.size a)
theorem k0_off500_inb : ∀ (v1231 : BitVec 32) (k0_hw251 : k0_chk251 v1231), ∀ a, (k0_off500 v1231) a + S1x5x128.size a ≤ S1x7720x128.size a := fun v1231 k0_hw251 => k0_hw251

def k0_off501 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c120_i32 : BitVec 32 := 120#32
  let v1239 : BitVec 32 := Scalar.addi v38 c120_i32
  let v1240 : Index := Scalar.indexCast v1239
  ![v1240.toNat]
def k0_off502 (v1241 : BitVec 32) : Fin 3 → Nat :=
  let c0_497 : Index := 0#32
  let c5_i32_496 : BitVec 32 := 5#32
  let v1242 : BitVec 32 := Scalar.muli v1241 c5_i32_496
  let v1243 : Index := Scalar.indexCast v1242
  let c0_498 : Index := 0#32
  ![0, v1243.toNat, 0]

def k0_chk252 (v1241 : BitVec 32) : Prop :=
  (∀ a, (k0_off502 v1241) a + S1x5x128.size a ≤ S1x7720x128.size a)
theorem k0_off502_inb : ∀ (v1241 : BitVec 32) (k0_hw252 : k0_chk252 v1241), ∀ a, (k0_off502 v1241) a + S1x5x128.size a ≤ S1x7720x128.size a := fun v1241 k0_hw252 => k0_hw252

def k0_off503 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c121_i32 : BitVec 32 := 121#32
  let v1249 : BitVec 32 := Scalar.addi v38 c121_i32
  let v1250 : Index := Scalar.indexCast v1249
  ![v1250.toNat]
def k0_off504 (v1251 : BitVec 32) : Fin 3 → Nat :=
  let c0_501 : Index := 0#32
  let c5_i32_500 : BitVec 32 := 5#32
  let v1252 : BitVec 32 := Scalar.muli v1251 c5_i32_500
  let v1253 : Index := Scalar.indexCast v1252
  let c0_502 : Index := 0#32
  ![0, v1253.toNat, 0]

def k0_chk253 (v1251 : BitVec 32) : Prop :=
  (∀ a, (k0_off504 v1251) a + S1x5x128.size a ≤ S1x7720x128.size a)
theorem k0_off504_inb : ∀ (v1251 : BitVec 32) (k0_hw253 : k0_chk253 v1251), ∀ a, (k0_off504 v1251) a + S1x5x128.size a ≤ S1x7720x128.size a := fun v1251 k0_hw253 => k0_hw253

def k0_off505 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c122_i32 : BitVec 32 := 122#32
  let v1259 : BitVec 32 := Scalar.addi v38 c122_i32
  let v1260 : Index := Scalar.indexCast v1259
  ![v1260.toNat]
def k0_off506 (v1261 : BitVec 32) : Fin 3 → Nat :=
  let c0_505 : Index := 0#32
  let c5_i32_504 : BitVec 32 := 5#32
  let v1262 : BitVec 32 := Scalar.muli v1261 c5_i32_504
  let v1263 : Index := Scalar.indexCast v1262
  let c0_506 : Index := 0#32
  ![0, v1263.toNat, 0]

def k0_chk254 (v1261 : BitVec 32) : Prop :=
  (∀ a, (k0_off506 v1261) a + S1x5x128.size a ≤ S1x7720x128.size a)
theorem k0_off506_inb : ∀ (v1261 : BitVec 32) (k0_hw254 : k0_chk254 v1261), ∀ a, (k0_off506 v1261) a + S1x5x128.size a ≤ S1x7720x128.size a := fun v1261 k0_hw254 => k0_hw254

def k0_off507 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c123_i32 : BitVec 32 := 123#32
  let v1269 : BitVec 32 := Scalar.addi v38 c123_i32
  let v1270 : Index := Scalar.indexCast v1269
  ![v1270.toNat]
def k0_off508 (v1271 : BitVec 32) : Fin 3 → Nat :=
  let c0_509 : Index := 0#32
  let c5_i32_508 : BitVec 32 := 5#32
  let v1272 : BitVec 32 := Scalar.muli v1271 c5_i32_508
  let v1273 : Index := Scalar.indexCast v1272
  let c0_510 : Index := 0#32
  ![0, v1273.toNat, 0]

def k0_chk255 (v1271 : BitVec 32) : Prop :=
  (∀ a, (k0_off508 v1271) a + S1x5x128.size a ≤ S1x7720x128.size a)
theorem k0_off508_inb : ∀ (v1271 : BitVec 32) (k0_hw255 : k0_chk255 v1271), ∀ a, (k0_off508 v1271) a + S1x5x128.size a ≤ S1x7720x128.size a := fun v1271 k0_hw255 => k0_hw255

def k0_off509 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c124_i32 : BitVec 32 := 124#32
  let v1279 : BitVec 32 := Scalar.addi v38 c124_i32
  let v1280 : Index := Scalar.indexCast v1279
  ![v1280.toNat]
def k0_off510 (v1281 : BitVec 32) : Fin 3 → Nat :=
  let c0_513 : Index := 0#32
  let c5_i32_512 : BitVec 32 := 5#32
  let v1282 : BitVec 32 := Scalar.muli v1281 c5_i32_512
  let v1283 : Index := Scalar.indexCast v1282
  let c0_514 : Index := 0#32
  ![0, v1283.toNat, 0]

def k0_chk256 (v1281 : BitVec 32) : Prop :=
  (∀ a, (k0_off510 v1281) a + S1x5x128.size a ≤ S1x7720x128.size a)
theorem k0_off510_inb : ∀ (v1281 : BitVec 32) (k0_hw256 : k0_chk256 v1281), ∀ a, (k0_off510 v1281) a + S1x5x128.size a ≤ S1x7720x128.size a := fun v1281 k0_hw256 => k0_hw256

def k0_off511 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c125_i32 : BitVec 32 := 125#32
  let v1289 : BitVec 32 := Scalar.addi v38 c125_i32
  let v1290 : Index := Scalar.indexCast v1289
  ![v1290.toNat]
def k0_off512 (v1291 : BitVec 32) : Fin 3 → Nat :=
  let c0_517 : Index := 0#32
  let c5_i32_516 : BitVec 32 := 5#32
  let v1292 : BitVec 32 := Scalar.muli v1291 c5_i32_516
  let v1293 : Index := Scalar.indexCast v1292
  let c0_518 : Index := 0#32
  ![0, v1293.toNat, 0]

def k0_chk257 (v1291 : BitVec 32) : Prop :=
  (∀ a, (k0_off512 v1291) a + S1x5x128.size a ≤ S1x7720x128.size a)
theorem k0_off512_inb : ∀ (v1291 : BitVec 32) (k0_hw257 : k0_chk257 v1291), ∀ a, (k0_off512 v1291) a + S1x5x128.size a ≤ S1x7720x128.size a := fun v1291 k0_hw257 => k0_hw257

def k0_off513 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c126_i32 : BitVec 32 := 126#32
  let v1299 : BitVec 32 := Scalar.addi v38 c126_i32
  let v1300 : Index := Scalar.indexCast v1299
  ![v1300.toNat]
def k0_off514 (v1301 : BitVec 32) : Fin 3 → Nat :=
  let c0_521 : Index := 0#32
  let c5_i32_520 : BitVec 32 := 5#32
  let v1302 : BitVec 32 := Scalar.muli v1301 c5_i32_520
  let v1303 : Index := Scalar.indexCast v1302
  let c0_522 : Index := 0#32
  ![0, v1303.toNat, 0]

def k0_chk258 (v1301 : BitVec 32) : Prop :=
  (∀ a, (k0_off514 v1301) a + S1x5x128.size a ≤ S1x7720x128.size a)
theorem k0_off514_inb : ∀ (v1301 : BitVec 32) (k0_hw258 : k0_chk258 v1301), ∀ a, (k0_off514 v1301) a + S1x5x128.size a ≤ S1x7720x128.size a := fun v1301 k0_hw258 => k0_hw258

def k0_off515 (v5 : BitVec 32) (k0_t3 : Fin (k0_t3_loop v5).trips) (v36 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c127_i32_524 : BitVec 32 := 127#32
  let v1309 : BitVec 32 := Scalar.addi v38 c127_i32_524
  let v1310 : Index := Scalar.indexCast v1309
  ![v1310.toNat]
def k0_off516 (v1311 : BitVec 32) : Fin 3 → Nat :=
  let c0_526 : Index := 0#32
  let c5_i32_525 : BitVec 32 := 5#32
  let v1312 : BitVec 32 := Scalar.muli v1311 c5_i32_525
  let v1313 : Index := Scalar.indexCast v1312
  let c0_527 : Index := 0#32
  ![0, v1313.toNat, 0]

def k0_chk259 (v1311 : BitVec 32) : Prop :=
  (∀ a, (k0_off516 v1311) a + S1x5x128.size a ≤ S1x7720x128.size a)
theorem k0_off516_inb : ∀ (v1311 : BitVec 32) (k0_hw259 : k0_chk259 v1311), ∀ a, (k0_off516 v1311) a + S1x5x128.size a ≤ S1x7720x128.size a := fun v1311 k0_hw259 => k0_hw259

def k0_off517 (v5 : BitVec 32) (k0_t3 : Fin (k0_t3_loop v5).trips) (v36 : BitVec 32) (c0_i32_627 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c0_i32_626 : BitVec 32 := 0#32
  let v1588 : BitVec 32 := Scalar.addi v38 c0_i32_626
  let v1589 : BitVec 32 := Scalar.addi v1588 c0_i32_627
  let v1590 : Index := Scalar.indexCast v1589
  ![v1590.toNat]
def k0_off518 (v1591 : BitVec 32) : Fin 2 → Nat :=
  let c17_i32_642 : BitVec 32 := 17#32
  let v1620 : BitVec 32 := Scalar.muli v1591 c17_i32_642
  let v1621 : Index := Scalar.indexCast v1620
  let c0_643 : Index := 0#32
  ![v1621.toNat, 0]

def k0_off519 (v1595 : BitVec 32) : Fin 2 → Nat :=
  let c17_i32_646 : BitVec 32 := 17#32
  let v1625 : BitVec 32 := Scalar.muli v1595 c17_i32_646
  let v1626 : Index := Scalar.indexCast v1625
  let c0_647 : Index := 0#32
  ![v1626.toNat, 0]

def k0_off520 (v1599 : BitVec 32) : Fin 2 → Nat :=
  let c17_i32_650 : BitVec 32 := 17#32
  let v1630 : BitVec 32 := Scalar.muli v1599 c17_i32_650
  let v1631 : Index := Scalar.indexCast v1630
  let c0_651 : Index := 0#32
  ![v1631.toNat, 0]

def k0_off521 (v1603 : BitVec 32) : Fin 2 → Nat :=
  let c17_i32_654 : BitVec 32 := 17#32
  let v1635 : BitVec 32 := Scalar.muli v1603 c17_i32_654
  let v1636 : Index := Scalar.indexCast v1635
  let c0_655 : Index := 0#32
  ![v1636.toNat, 0]

def k0_off522 (v1607 : BitVec 32) : Fin 2 → Nat :=
  let c17_i32_658 : BitVec 32 := 17#32
  let v1640 : BitVec 32 := Scalar.muli v1607 c17_i32_658
  let v1641 : Index := Scalar.indexCast v1640
  let c0_659 : Index := 0#32
  ![v1641.toNat, 0]

def k0_off523 (v1611 : BitVec 32) : Fin 2 → Nat :=
  let c17_i32_662 : BitVec 32 := 17#32
  let v1645 : BitVec 32 := Scalar.muli v1611 c17_i32_662
  let v1646 : Index := Scalar.indexCast v1645
  let c0_663 : Index := 0#32
  ![v1646.toNat, 0]

def k0_off524 (v1615 : BitVec 32) : Fin 2 → Nat :=
  let c17_i32_666 : BitVec 32 := 17#32
  let v1650 : BitVec 32 := Scalar.muli v1615 c17_i32_666
  let v1651 : Index := Scalar.indexCast v1650
  let c0_667 : Index := 0#32
  ![v1651.toNat, 0]

def k0_off525 (v1619 : BitVec 32) : Fin 2 → Nat :=
  let c17_i32_670 : BitVec 32 := 17#32
  let v1655 : BitVec 32 := Scalar.muli v1619 c17_i32_670
  let v1656 : Index := Scalar.indexCast v1655
  let c0_671 : Index := 0#32
  ![v1656.toNat, 0]

def k0_chk267 (v1619 : BitVec 32) : Prop :=
  (∀ a, (k0_off525 v1619) a + S16x128.size a ≤ S26136x128.size a)
theorem k0_off525_inb : ∀ (v1619 : BitVec 32) (k0_hw267 : k0_chk267 v1619), ∀ a, (k0_off525 v1619) a + S16x128.size a ≤ S26136x128.size a := fun v1619 k0_hw267 => k0_hw267

def k0_off526 (v1591 : BitVec 32) : Fin 2 → Nat :=
  let c17_i32_674 : BitVec 32 := 17#32
  let v1660 : BitVec 32 := Scalar.muli v1591 c17_i32_674
  let v1661 : Index := Scalar.indexCast v1660
  let c0_675 : Index := 0#32
  ![v1661.toNat, 0]

def k0_chk260 (v1591 : BitVec 32) : Prop :=
  (∀ a, (k0_off518 v1591) a + S16x128.size a ≤ S26136x128.size a) ∧
  (∀ a, (k0_off526 v1591) a + S16x128.size a ≤ S26136x128.size a)
theorem k0_off518_inb : ∀ (v1591 : BitVec 32) (k0_hw260 : k0_chk260 v1591), ∀ a, (k0_off518 v1591) a + S16x128.size a ≤ S26136x128.size a := fun v1591 k0_hw260 => k0_hw260.1
theorem k0_off526_inb : ∀ (v1591 : BitVec 32) (k0_hw260 : k0_chk260 v1591), ∀ a, (k0_off526 v1591) a + S16x128.size a ≤ S26136x128.size a := fun v1591 k0_hw260 => k0_hw260.2

def k0_off527 (v1595 : BitVec 32) : Fin 2 → Nat :=
  let c17_i32_676 : BitVec 32 := 17#32
  let v1665 : BitVec 32 := Scalar.muli v1595 c17_i32_676
  let v1666 : Index := Scalar.indexCast v1665
  let c0_677 : Index := 0#32
  ![v1666.toNat, 0]

def k0_chk261 (v1595 : BitVec 32) : Prop :=
  (∀ a, (k0_off519 v1595) a + S16x128.size a ≤ S26136x128.size a) ∧
  (∀ a, (k0_off527 v1595) a + S16x128.size a ≤ S26136x128.size a)
theorem k0_off519_inb : ∀ (v1595 : BitVec 32) (k0_hw261 : k0_chk261 v1595), ∀ a, (k0_off519 v1595) a + S16x128.size a ≤ S26136x128.size a := fun v1595 k0_hw261 => k0_hw261.1
theorem k0_off527_inb : ∀ (v1595 : BitVec 32) (k0_hw261 : k0_chk261 v1595), ∀ a, (k0_off527 v1595) a + S16x128.size a ≤ S26136x128.size a := fun v1595 k0_hw261 => k0_hw261.2

def k0_off528 (v1599 : BitVec 32) : Fin 2 → Nat :=
  let c17_i32_678 : BitVec 32 := 17#32
  let v1670 : BitVec 32 := Scalar.muli v1599 c17_i32_678
  let v1671 : Index := Scalar.indexCast v1670
  let c0_679 : Index := 0#32
  ![v1671.toNat, 0]

def k0_chk262 (v1599 : BitVec 32) : Prop :=
  (∀ a, (k0_off520 v1599) a + S16x128.size a ≤ S26136x128.size a) ∧
  (∀ a, (k0_off528 v1599) a + S16x128.size a ≤ S26136x128.size a)
theorem k0_off520_inb : ∀ (v1599 : BitVec 32) (k0_hw262 : k0_chk262 v1599), ∀ a, (k0_off520 v1599) a + S16x128.size a ≤ S26136x128.size a := fun v1599 k0_hw262 => k0_hw262.1
theorem k0_off528_inb : ∀ (v1599 : BitVec 32) (k0_hw262 : k0_chk262 v1599), ∀ a, (k0_off528 v1599) a + S16x128.size a ≤ S26136x128.size a := fun v1599 k0_hw262 => k0_hw262.2

def k0_off529 (v1603 : BitVec 32) : Fin 2 → Nat :=
  let c17_i32_680 : BitVec 32 := 17#32
  let v1675 : BitVec 32 := Scalar.muli v1603 c17_i32_680
  let v1676 : Index := Scalar.indexCast v1675
  let c0_681 : Index := 0#32
  ![v1676.toNat, 0]

def k0_chk263 (v1603 : BitVec 32) : Prop :=
  (∀ a, (k0_off521 v1603) a + S16x128.size a ≤ S26136x128.size a) ∧
  (∀ a, (k0_off529 v1603) a + S16x128.size a ≤ S26136x128.size a)
theorem k0_off521_inb : ∀ (v1603 : BitVec 32) (k0_hw263 : k0_chk263 v1603), ∀ a, (k0_off521 v1603) a + S16x128.size a ≤ S26136x128.size a := fun v1603 k0_hw263 => k0_hw263.1
theorem k0_off529_inb : ∀ (v1603 : BitVec 32) (k0_hw263 : k0_chk263 v1603), ∀ a, (k0_off529 v1603) a + S16x128.size a ≤ S26136x128.size a := fun v1603 k0_hw263 => k0_hw263.2

def k0_off530 (v1607 : BitVec 32) : Fin 2 → Nat :=
  let c17_i32_682 : BitVec 32 := 17#32
  let v1680 : BitVec 32 := Scalar.muli v1607 c17_i32_682
  let v1681 : Index := Scalar.indexCast v1680
  let c0_683 : Index := 0#32
  ![v1681.toNat, 0]

def k0_chk264 (v1607 : BitVec 32) : Prop :=
  (∀ a, (k0_off522 v1607) a + S16x128.size a ≤ S26136x128.size a) ∧
  (∀ a, (k0_off530 v1607) a + S16x128.size a ≤ S26136x128.size a)
theorem k0_off522_inb : ∀ (v1607 : BitVec 32) (k0_hw264 : k0_chk264 v1607), ∀ a, (k0_off522 v1607) a + S16x128.size a ≤ S26136x128.size a := fun v1607 k0_hw264 => k0_hw264.1
theorem k0_off530_inb : ∀ (v1607 : BitVec 32) (k0_hw264 : k0_chk264 v1607), ∀ a, (k0_off530 v1607) a + S16x128.size a ≤ S26136x128.size a := fun v1607 k0_hw264 => k0_hw264.2

def k0_off531 (v1611 : BitVec 32) : Fin 2 → Nat :=
  let c17_i32_684 : BitVec 32 := 17#32
  let v1685 : BitVec 32 := Scalar.muli v1611 c17_i32_684
  let v1686 : Index := Scalar.indexCast v1685
  let c0_685 : Index := 0#32
  ![v1686.toNat, 0]

def k0_chk265 (v1611 : BitVec 32) : Prop :=
  (∀ a, (k0_off523 v1611) a + S16x128.size a ≤ S26136x128.size a) ∧
  (∀ a, (k0_off531 v1611) a + S16x128.size a ≤ S26136x128.size a)
theorem k0_off523_inb : ∀ (v1611 : BitVec 32) (k0_hw265 : k0_chk265 v1611), ∀ a, (k0_off523 v1611) a + S16x128.size a ≤ S26136x128.size a := fun v1611 k0_hw265 => k0_hw265.1
theorem k0_off531_inb : ∀ (v1611 : BitVec 32) (k0_hw265 : k0_chk265 v1611), ∀ a, (k0_off531 v1611) a + S16x128.size a ≤ S26136x128.size a := fun v1611 k0_hw265 => k0_hw265.2

def k0_off532 (v1615 : BitVec 32) : Fin 2 → Nat :=
  let c17_i32_686 : BitVec 32 := 17#32
  let v1690 : BitVec 32 := Scalar.muli v1615 c17_i32_686
  let v1691 : Index := Scalar.indexCast v1690
  let c0_687 : Index := 0#32
  ![v1691.toNat, 0]

def k0_chk266 (v1615 : BitVec 32) : Prop :=
  (∀ a, (k0_off524 v1615) a + S16x128.size a ≤ S26136x128.size a) ∧
  (∀ a, (k0_off532 v1615) a + S16x128.size a ≤ S26136x128.size a)
theorem k0_off524_inb : ∀ (v1615 : BitVec 32) (k0_hw266 : k0_chk266 v1615), ∀ a, (k0_off524 v1615) a + S16x128.size a ≤ S26136x128.size a := fun v1615 k0_hw266 => k0_hw266.1
theorem k0_off532_inb : ∀ (v1615 : BitVec 32) (k0_hw266 : k0_chk266 v1615), ∀ a, (k0_off532 v1615) a + S16x128.size a ≤ S26136x128.size a := fun v1615 k0_hw266 => k0_hw266.2

def k0_off533 (v5 : BitVec 32) (k0_t3 : Fin (k0_t3_loop v5).trips) (v36 : BitVec 32) (c0_i32_691 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c8_i32_690 : BitVec 32 := 8#32
  let v1700 : BitVec 32 := Scalar.addi v38 c8_i32_690
  let v1701 : BitVec 32 := Scalar.addi v1700 c0_i32_691
  let v1702 : Index := Scalar.indexCast v1701
  ![v1702.toNat]
def k0_off534 (v1703 : BitVec 32) : Fin 2 → Nat :=
  let c17_i32_706 : BitVec 32 := 17#32
  let v1732 : BitVec 32 := Scalar.muli v1703 c17_i32_706
  let v1733 : Index := Scalar.indexCast v1732
  let c0_707 : Index := 0#32
  ![v1733.toNat, 0]

def k0_off535 (v1707 : BitVec 32) : Fin 2 → Nat :=
  let c17_i32_710 : BitVec 32 := 17#32
  let v1737 : BitVec 32 := Scalar.muli v1707 c17_i32_710
  let v1738 : Index := Scalar.indexCast v1737
  let c0_711 : Index := 0#32
  ![v1738.toNat, 0]

def k0_off536 (v1711 : BitVec 32) : Fin 2 → Nat :=
  let c17_i32_714 : BitVec 32 := 17#32
  let v1742 : BitVec 32 := Scalar.muli v1711 c17_i32_714
  let v1743 : Index := Scalar.indexCast v1742
  let c0_715 : Index := 0#32
  ![v1743.toNat, 0]

def k0_off537 (v1715 : BitVec 32) : Fin 2 → Nat :=
  let c17_i32_718 : BitVec 32 := 17#32
  let v1747 : BitVec 32 := Scalar.muli v1715 c17_i32_718
  let v1748 : Index := Scalar.indexCast v1747
  let c0_719 : Index := 0#32
  ![v1748.toNat, 0]

def k0_off538 (v1719 : BitVec 32) : Fin 2 → Nat :=
  let c17_i32_722 : BitVec 32 := 17#32
  let v1752 : BitVec 32 := Scalar.muli v1719 c17_i32_722
  let v1753 : Index := Scalar.indexCast v1752
  let c0_723 : Index := 0#32
  ![v1753.toNat, 0]

def k0_off539 (v1723 : BitVec 32) : Fin 2 → Nat :=
  let c17_i32_726 : BitVec 32 := 17#32
  let v1757 : BitVec 32 := Scalar.muli v1723 c17_i32_726
  let v1758 : Index := Scalar.indexCast v1757
  let c0_727 : Index := 0#32
  ![v1758.toNat, 0]

def k0_off540 (v1727 : BitVec 32) : Fin 2 → Nat :=
  let c17_i32_730 : BitVec 32 := 17#32
  let v1762 : BitVec 32 := Scalar.muli v1727 c17_i32_730
  let v1763 : Index := Scalar.indexCast v1762
  let c0_731 : Index := 0#32
  ![v1763.toNat, 0]

def k0_off541 (v1731 : BitVec 32) : Fin 2 → Nat :=
  let c17_i32_734 : BitVec 32 := 17#32
  let v1767 : BitVec 32 := Scalar.muli v1731 c17_i32_734
  let v1768 : Index := Scalar.indexCast v1767
  let c0_735 : Index := 0#32
  ![v1768.toNat, 0]

def k0_chk275 (v1731 : BitVec 32) : Prop :=
  (∀ a, (k0_off541 v1731) a + S16x128.size a ≤ S26136x128.size a)
theorem k0_off541_inb : ∀ (v1731 : BitVec 32) (k0_hw275 : k0_chk275 v1731), ∀ a, (k0_off541 v1731) a + S16x128.size a ≤ S26136x128.size a := fun v1731 k0_hw275 => k0_hw275

def k0_off542 (v1703 : BitVec 32) : Fin 2 → Nat :=
  let c17_i32_738 : BitVec 32 := 17#32
  let v1772 : BitVec 32 := Scalar.muli v1703 c17_i32_738
  let v1773 : Index := Scalar.indexCast v1772
  let c0_739 : Index := 0#32
  ![v1773.toNat, 0]

def k0_chk268 (v1703 : BitVec 32) : Prop :=
  (∀ a, (k0_off534 v1703) a + S16x128.size a ≤ S26136x128.size a) ∧
  (∀ a, (k0_off542 v1703) a + S16x128.size a ≤ S26136x128.size a)
theorem k0_off534_inb : ∀ (v1703 : BitVec 32) (k0_hw268 : k0_chk268 v1703), ∀ a, (k0_off534 v1703) a + S16x128.size a ≤ S26136x128.size a := fun v1703 k0_hw268 => k0_hw268.1
theorem k0_off542_inb : ∀ (v1703 : BitVec 32) (k0_hw268 : k0_chk268 v1703), ∀ a, (k0_off542 v1703) a + S16x128.size a ≤ S26136x128.size a := fun v1703 k0_hw268 => k0_hw268.2

def k0_off543 (v1707 : BitVec 32) : Fin 2 → Nat :=
  let c17_i32_740 : BitVec 32 := 17#32
  let v1777 : BitVec 32 := Scalar.muli v1707 c17_i32_740
  let v1778 : Index := Scalar.indexCast v1777
  let c0_741 : Index := 0#32
  ![v1778.toNat, 0]

def k0_chk269 (v1707 : BitVec 32) : Prop :=
  (∀ a, (k0_off535 v1707) a + S16x128.size a ≤ S26136x128.size a) ∧
  (∀ a, (k0_off543 v1707) a + S16x128.size a ≤ S26136x128.size a)
theorem k0_off535_inb : ∀ (v1707 : BitVec 32) (k0_hw269 : k0_chk269 v1707), ∀ a, (k0_off535 v1707) a + S16x128.size a ≤ S26136x128.size a := fun v1707 k0_hw269 => k0_hw269.1
theorem k0_off543_inb : ∀ (v1707 : BitVec 32) (k0_hw269 : k0_chk269 v1707), ∀ a, (k0_off543 v1707) a + S16x128.size a ≤ S26136x128.size a := fun v1707 k0_hw269 => k0_hw269.2

def k0_off544 (v1711 : BitVec 32) : Fin 2 → Nat :=
  let c17_i32_742 : BitVec 32 := 17#32
  let v1782 : BitVec 32 := Scalar.muli v1711 c17_i32_742
  let v1783 : Index := Scalar.indexCast v1782
  let c0_743 : Index := 0#32
  ![v1783.toNat, 0]

def k0_chk270 (v1711 : BitVec 32) : Prop :=
  (∀ a, (k0_off536 v1711) a + S16x128.size a ≤ S26136x128.size a) ∧
  (∀ a, (k0_off544 v1711) a + S16x128.size a ≤ S26136x128.size a)
theorem k0_off536_inb : ∀ (v1711 : BitVec 32) (k0_hw270 : k0_chk270 v1711), ∀ a, (k0_off536 v1711) a + S16x128.size a ≤ S26136x128.size a := fun v1711 k0_hw270 => k0_hw270.1
theorem k0_off544_inb : ∀ (v1711 : BitVec 32) (k0_hw270 : k0_chk270 v1711), ∀ a, (k0_off544 v1711) a + S16x128.size a ≤ S26136x128.size a := fun v1711 k0_hw270 => k0_hw270.2

def k0_off545 (v1715 : BitVec 32) : Fin 2 → Nat :=
  let c17_i32_744 : BitVec 32 := 17#32
  let v1787 : BitVec 32 := Scalar.muli v1715 c17_i32_744
  let v1788 : Index := Scalar.indexCast v1787
  let c0_745 : Index := 0#32
  ![v1788.toNat, 0]

def k0_chk271 (v1715 : BitVec 32) : Prop :=
  (∀ a, (k0_off537 v1715) a + S16x128.size a ≤ S26136x128.size a) ∧
  (∀ a, (k0_off545 v1715) a + S16x128.size a ≤ S26136x128.size a)
theorem k0_off537_inb : ∀ (v1715 : BitVec 32) (k0_hw271 : k0_chk271 v1715), ∀ a, (k0_off537 v1715) a + S16x128.size a ≤ S26136x128.size a := fun v1715 k0_hw271 => k0_hw271.1
theorem k0_off545_inb : ∀ (v1715 : BitVec 32) (k0_hw271 : k0_chk271 v1715), ∀ a, (k0_off545 v1715) a + S16x128.size a ≤ S26136x128.size a := fun v1715 k0_hw271 => k0_hw271.2

def k0_off546 (v1719 : BitVec 32) : Fin 2 → Nat :=
  let c17_i32_746 : BitVec 32 := 17#32
  let v1792 : BitVec 32 := Scalar.muli v1719 c17_i32_746
  let v1793 : Index := Scalar.indexCast v1792
  let c0_747 : Index := 0#32
  ![v1793.toNat, 0]

def k0_chk272 (v1719 : BitVec 32) : Prop :=
  (∀ a, (k0_off538 v1719) a + S16x128.size a ≤ S26136x128.size a) ∧
  (∀ a, (k0_off546 v1719) a + S16x128.size a ≤ S26136x128.size a)
theorem k0_off538_inb : ∀ (v1719 : BitVec 32) (k0_hw272 : k0_chk272 v1719), ∀ a, (k0_off538 v1719) a + S16x128.size a ≤ S26136x128.size a := fun v1719 k0_hw272 => k0_hw272.1
theorem k0_off546_inb : ∀ (v1719 : BitVec 32) (k0_hw272 : k0_chk272 v1719), ∀ a, (k0_off546 v1719) a + S16x128.size a ≤ S26136x128.size a := fun v1719 k0_hw272 => k0_hw272.2

def k0_off547 (v1723 : BitVec 32) : Fin 2 → Nat :=
  let c17_i32_748 : BitVec 32 := 17#32
  let v1797 : BitVec 32 := Scalar.muli v1723 c17_i32_748
  let v1798 : Index := Scalar.indexCast v1797
  let c0_749 : Index := 0#32
  ![v1798.toNat, 0]

def k0_chk273 (v1723 : BitVec 32) : Prop :=
  (∀ a, (k0_off539 v1723) a + S16x128.size a ≤ S26136x128.size a) ∧
  (∀ a, (k0_off547 v1723) a + S16x128.size a ≤ S26136x128.size a)
theorem k0_off539_inb : ∀ (v1723 : BitVec 32) (k0_hw273 : k0_chk273 v1723), ∀ a, (k0_off539 v1723) a + S16x128.size a ≤ S26136x128.size a := fun v1723 k0_hw273 => k0_hw273.1
theorem k0_off547_inb : ∀ (v1723 : BitVec 32) (k0_hw273 : k0_chk273 v1723), ∀ a, (k0_off547 v1723) a + S16x128.size a ≤ S26136x128.size a := fun v1723 k0_hw273 => k0_hw273.2

def k0_off548 (v1727 : BitVec 32) : Fin 2 → Nat :=
  let c17_i32_750 : BitVec 32 := 17#32
  let v1802 : BitVec 32 := Scalar.muli v1727 c17_i32_750
  let v1803 : Index := Scalar.indexCast v1802
  let c0_751 : Index := 0#32
  ![v1803.toNat, 0]

def k0_chk274 (v1727 : BitVec 32) : Prop :=
  (∀ a, (k0_off540 v1727) a + S16x128.size a ≤ S26136x128.size a) ∧
  (∀ a, (k0_off548 v1727) a + S16x128.size a ≤ S26136x128.size a)
theorem k0_off540_inb : ∀ (v1727 : BitVec 32) (k0_hw274 : k0_chk274 v1727), ∀ a, (k0_off540 v1727) a + S16x128.size a ≤ S26136x128.size a := fun v1727 k0_hw274 => k0_hw274.1
theorem k0_off548_inb : ∀ (v1727 : BitVec 32) (k0_hw274 : k0_chk274 v1727), ∀ a, (k0_off548 v1727) a + S16x128.size a ≤ S26136x128.size a := fun v1727 k0_hw274 => k0_hw274.2

def k0_off549 (v5 : BitVec 32) (k0_t3 : Fin (k0_t3_loop v5).trips) (v36 : BitVec 32) (c0_i32_755 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c16_i32_754 : BitVec 32 := 16#32
  let v1812 : BitVec 32 := Scalar.addi v38 c16_i32_754
  let v1813 : BitVec 32 := Scalar.addi v1812 c0_i32_755
  let v1814 : Index := Scalar.indexCast v1813
  ![v1814.toNat]
def k0_off550 (v1815 : BitVec 32) : Fin 2 → Nat :=
  let c17_i32_770 : BitVec 32 := 17#32
  let v1844 : BitVec 32 := Scalar.muli v1815 c17_i32_770
  let v1845 : Index := Scalar.indexCast v1844
  let c0_771 : Index := 0#32
  ![v1845.toNat, 0]

def k0_off551 (v1819 : BitVec 32) : Fin 2 → Nat :=
  let c17_i32_774 : BitVec 32 := 17#32
  let v1849 : BitVec 32 := Scalar.muli v1819 c17_i32_774
  let v1850 : Index := Scalar.indexCast v1849
  let c0_775 : Index := 0#32
  ![v1850.toNat, 0]

def k0_off552 (v1823 : BitVec 32) : Fin 2 → Nat :=
  let c17_i32_778 : BitVec 32 := 17#32
  let v1854 : BitVec 32 := Scalar.muli v1823 c17_i32_778
  let v1855 : Index := Scalar.indexCast v1854
  let c0_779 : Index := 0#32
  ![v1855.toNat, 0]

def k0_off553 (v1827 : BitVec 32) : Fin 2 → Nat :=
  let c17_i32_782 : BitVec 32 := 17#32
  let v1859 : BitVec 32 := Scalar.muli v1827 c17_i32_782
  let v1860 : Index := Scalar.indexCast v1859
  let c0_783 : Index := 0#32
  ![v1860.toNat, 0]

def k0_off554 (v1831 : BitVec 32) : Fin 2 → Nat :=
  let c17_i32_786 : BitVec 32 := 17#32
  let v1864 : BitVec 32 := Scalar.muli v1831 c17_i32_786
  let v1865 : Index := Scalar.indexCast v1864
  let c0_787 : Index := 0#32
  ![v1865.toNat, 0]

def k0_off555 (v1835 : BitVec 32) : Fin 2 → Nat :=
  let c17_i32_790 : BitVec 32 := 17#32
  let v1869 : BitVec 32 := Scalar.muli v1835 c17_i32_790
  let v1870 : Index := Scalar.indexCast v1869
  let c0_791 : Index := 0#32
  ![v1870.toNat, 0]

def k0_off556 (v1839 : BitVec 32) : Fin 2 → Nat :=
  let c17_i32_794 : BitVec 32 := 17#32
  let v1874 : BitVec 32 := Scalar.muli v1839 c17_i32_794
  let v1875 : Index := Scalar.indexCast v1874
  let c0_795 : Index := 0#32
  ![v1875.toNat, 0]

def k0_off557 (v1843 : BitVec 32) : Fin 2 → Nat :=
  let c17_i32_798 : BitVec 32 := 17#32
  let v1879 : BitVec 32 := Scalar.muli v1843 c17_i32_798
  let v1880 : Index := Scalar.indexCast v1879
  let c0_799 : Index := 0#32
  ![v1880.toNat, 0]

def k0_chk283 (v1843 : BitVec 32) : Prop :=
  (∀ a, (k0_off557 v1843) a + S16x128.size a ≤ S26136x128.size a)
theorem k0_off557_inb : ∀ (v1843 : BitVec 32) (k0_hw283 : k0_chk283 v1843), ∀ a, (k0_off557 v1843) a + S16x128.size a ≤ S26136x128.size a := fun v1843 k0_hw283 => k0_hw283

def k0_off558 (v1815 : BitVec 32) : Fin 2 → Nat :=
  let c17_i32_802 : BitVec 32 := 17#32
  let v1884 : BitVec 32 := Scalar.muli v1815 c17_i32_802
  let v1885 : Index := Scalar.indexCast v1884
  let c0_803 : Index := 0#32
  ![v1885.toNat, 0]

def k0_chk276 (v1815 : BitVec 32) : Prop :=
  (∀ a, (k0_off550 v1815) a + S16x128.size a ≤ S26136x128.size a) ∧
  (∀ a, (k0_off558 v1815) a + S16x128.size a ≤ S26136x128.size a)
theorem k0_off550_inb : ∀ (v1815 : BitVec 32) (k0_hw276 : k0_chk276 v1815), ∀ a, (k0_off550 v1815) a + S16x128.size a ≤ S26136x128.size a := fun v1815 k0_hw276 => k0_hw276.1
theorem k0_off558_inb : ∀ (v1815 : BitVec 32) (k0_hw276 : k0_chk276 v1815), ∀ a, (k0_off558 v1815) a + S16x128.size a ≤ S26136x128.size a := fun v1815 k0_hw276 => k0_hw276.2

def k0_off559 (v1819 : BitVec 32) : Fin 2 → Nat :=
  let c17_i32_804 : BitVec 32 := 17#32
  let v1889 : BitVec 32 := Scalar.muli v1819 c17_i32_804
  let v1890 : Index := Scalar.indexCast v1889
  let c0_805 : Index := 0#32
  ![v1890.toNat, 0]

def k0_chk277 (v1819 : BitVec 32) : Prop :=
  (∀ a, (k0_off551 v1819) a + S16x128.size a ≤ S26136x128.size a) ∧
  (∀ a, (k0_off559 v1819) a + S16x128.size a ≤ S26136x128.size a)
theorem k0_off551_inb : ∀ (v1819 : BitVec 32) (k0_hw277 : k0_chk277 v1819), ∀ a, (k0_off551 v1819) a + S16x128.size a ≤ S26136x128.size a := fun v1819 k0_hw277 => k0_hw277.1
theorem k0_off559_inb : ∀ (v1819 : BitVec 32) (k0_hw277 : k0_chk277 v1819), ∀ a, (k0_off559 v1819) a + S16x128.size a ≤ S26136x128.size a := fun v1819 k0_hw277 => k0_hw277.2

def k0_off560 (v1823 : BitVec 32) : Fin 2 → Nat :=
  let c17_i32_806 : BitVec 32 := 17#32
  let v1894 : BitVec 32 := Scalar.muli v1823 c17_i32_806
  let v1895 : Index := Scalar.indexCast v1894
  let c0_807 : Index := 0#32
  ![v1895.toNat, 0]

def k0_chk278 (v1823 : BitVec 32) : Prop :=
  (∀ a, (k0_off552 v1823) a + S16x128.size a ≤ S26136x128.size a) ∧
  (∀ a, (k0_off560 v1823) a + S16x128.size a ≤ S26136x128.size a)
theorem k0_off552_inb : ∀ (v1823 : BitVec 32) (k0_hw278 : k0_chk278 v1823), ∀ a, (k0_off552 v1823) a + S16x128.size a ≤ S26136x128.size a := fun v1823 k0_hw278 => k0_hw278.1
theorem k0_off560_inb : ∀ (v1823 : BitVec 32) (k0_hw278 : k0_chk278 v1823), ∀ a, (k0_off560 v1823) a + S16x128.size a ≤ S26136x128.size a := fun v1823 k0_hw278 => k0_hw278.2

def k0_off561 (v1827 : BitVec 32) : Fin 2 → Nat :=
  let c17_i32_808 : BitVec 32 := 17#32
  let v1899 : BitVec 32 := Scalar.muli v1827 c17_i32_808
  let v1900 : Index := Scalar.indexCast v1899
  let c0_809 : Index := 0#32
  ![v1900.toNat, 0]

def k0_chk279 (v1827 : BitVec 32) : Prop :=
  (∀ a, (k0_off553 v1827) a + S16x128.size a ≤ S26136x128.size a) ∧
  (∀ a, (k0_off561 v1827) a + S16x128.size a ≤ S26136x128.size a)
theorem k0_off553_inb : ∀ (v1827 : BitVec 32) (k0_hw279 : k0_chk279 v1827), ∀ a, (k0_off553 v1827) a + S16x128.size a ≤ S26136x128.size a := fun v1827 k0_hw279 => k0_hw279.1
theorem k0_off561_inb : ∀ (v1827 : BitVec 32) (k0_hw279 : k0_chk279 v1827), ∀ a, (k0_off561 v1827) a + S16x128.size a ≤ S26136x128.size a := fun v1827 k0_hw279 => k0_hw279.2

def k0_off562 (v1831 : BitVec 32) : Fin 2 → Nat :=
  let c17_i32_810 : BitVec 32 := 17#32
  let v1904 : BitVec 32 := Scalar.muli v1831 c17_i32_810
  let v1905 : Index := Scalar.indexCast v1904
  let c0_811 : Index := 0#32
  ![v1905.toNat, 0]

def k0_chk280 (v1831 : BitVec 32) : Prop :=
  (∀ a, (k0_off554 v1831) a + S16x128.size a ≤ S26136x128.size a) ∧
  (∀ a, (k0_off562 v1831) a + S16x128.size a ≤ S26136x128.size a)
theorem k0_off554_inb : ∀ (v1831 : BitVec 32) (k0_hw280 : k0_chk280 v1831), ∀ a, (k0_off554 v1831) a + S16x128.size a ≤ S26136x128.size a := fun v1831 k0_hw280 => k0_hw280.1
theorem k0_off562_inb : ∀ (v1831 : BitVec 32) (k0_hw280 : k0_chk280 v1831), ∀ a, (k0_off562 v1831) a + S16x128.size a ≤ S26136x128.size a := fun v1831 k0_hw280 => k0_hw280.2

def k0_off563 (v1835 : BitVec 32) : Fin 2 → Nat :=
  let c17_i32_812 : BitVec 32 := 17#32
  let v1909 : BitVec 32 := Scalar.muli v1835 c17_i32_812
  let v1910 : Index := Scalar.indexCast v1909
  let c0_813 : Index := 0#32
  ![v1910.toNat, 0]

def k0_chk281 (v1835 : BitVec 32) : Prop :=
  (∀ a, (k0_off555 v1835) a + S16x128.size a ≤ S26136x128.size a) ∧
  (∀ a, (k0_off563 v1835) a + S16x128.size a ≤ S26136x128.size a)
theorem k0_off555_inb : ∀ (v1835 : BitVec 32) (k0_hw281 : k0_chk281 v1835), ∀ a, (k0_off555 v1835) a + S16x128.size a ≤ S26136x128.size a := fun v1835 k0_hw281 => k0_hw281.1
theorem k0_off563_inb : ∀ (v1835 : BitVec 32) (k0_hw281 : k0_chk281 v1835), ∀ a, (k0_off563 v1835) a + S16x128.size a ≤ S26136x128.size a := fun v1835 k0_hw281 => k0_hw281.2

def k0_off564 (v1839 : BitVec 32) : Fin 2 → Nat :=
  let c17_i32_814 : BitVec 32 := 17#32
  let v1914 : BitVec 32 := Scalar.muli v1839 c17_i32_814
  let v1915 : Index := Scalar.indexCast v1914
  let c0_815 : Index := 0#32
  ![v1915.toNat, 0]

def k0_chk282 (v1839 : BitVec 32) : Prop :=
  (∀ a, (k0_off556 v1839) a + S16x128.size a ≤ S26136x128.size a) ∧
  (∀ a, (k0_off564 v1839) a + S16x128.size a ≤ S26136x128.size a)
theorem k0_off556_inb : ∀ (v1839 : BitVec 32) (k0_hw282 : k0_chk282 v1839), ∀ a, (k0_off556 v1839) a + S16x128.size a ≤ S26136x128.size a := fun v1839 k0_hw282 => k0_hw282.1
theorem k0_off564_inb : ∀ (v1839 : BitVec 32) (k0_hw282 : k0_chk282 v1839), ∀ a, (k0_off564 v1839) a + S16x128.size a ≤ S26136x128.size a := fun v1839 k0_hw282 => k0_hw282.2

def k0_off565 (v5 : BitVec 32) (k0_t3 : Fin (k0_t3_loop v5).trips) (v36 : BitVec 32) (c0_i32_819 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c24_i32_818 : BitVec 32 := 24#32
  let v1924 : BitVec 32 := Scalar.addi v38 c24_i32_818
  let v1925 : BitVec 32 := Scalar.addi v1924 c0_i32_819
  let v1926 : Index := Scalar.indexCast v1925
  ![v1926.toNat]
def k0_off566 (v1927 : BitVec 32) : Fin 2 → Nat :=
  let c17_i32_834 : BitVec 32 := 17#32
  let v1956 : BitVec 32 := Scalar.muli v1927 c17_i32_834
  let v1957 : Index := Scalar.indexCast v1956
  let c0_835 : Index := 0#32
  ![v1957.toNat, 0]

def k0_off567 (v1931 : BitVec 32) : Fin 2 → Nat :=
  let c17_i32_838 : BitVec 32 := 17#32
  let v1961 : BitVec 32 := Scalar.muli v1931 c17_i32_838
  let v1962 : Index := Scalar.indexCast v1961
  let c0_839 : Index := 0#32
  ![v1962.toNat, 0]

def k0_off568 (v1935 : BitVec 32) : Fin 2 → Nat :=
  let c17_i32_842 : BitVec 32 := 17#32
  let v1966 : BitVec 32 := Scalar.muli v1935 c17_i32_842
  let v1967 : Index := Scalar.indexCast v1966
  let c0_843 : Index := 0#32
  ![v1967.toNat, 0]

def k0_off569 (v1939 : BitVec 32) : Fin 2 → Nat :=
  let c17_i32_846 : BitVec 32 := 17#32
  let v1971 : BitVec 32 := Scalar.muli v1939 c17_i32_846
  let v1972 : Index := Scalar.indexCast v1971
  let c0_847 : Index := 0#32
  ![v1972.toNat, 0]

def k0_off570 (v1943 : BitVec 32) : Fin 2 → Nat :=
  let c17_i32_850 : BitVec 32 := 17#32
  let v1976 : BitVec 32 := Scalar.muli v1943 c17_i32_850
  let v1977 : Index := Scalar.indexCast v1976
  let c0_851 : Index := 0#32
  ![v1977.toNat, 0]

def k0_off571 (v1947 : BitVec 32) : Fin 2 → Nat :=
  let c17_i32_854 : BitVec 32 := 17#32
  let v1981 : BitVec 32 := Scalar.muli v1947 c17_i32_854
  let v1982 : Index := Scalar.indexCast v1981
  let c0_855 : Index := 0#32
  ![v1982.toNat, 0]

def k0_off572 (v1951 : BitVec 32) : Fin 2 → Nat :=
  let c17_i32_858 : BitVec 32 := 17#32
  let v1986 : BitVec 32 := Scalar.muli v1951 c17_i32_858
  let v1987 : Index := Scalar.indexCast v1986
  let c0_859 : Index := 0#32
  ![v1987.toNat, 0]

def k0_off573 (v1955 : BitVec 32) : Fin 2 → Nat :=
  let c17_i32_862 : BitVec 32 := 17#32
  let v1991 : BitVec 32 := Scalar.muli v1955 c17_i32_862
  let v1992 : Index := Scalar.indexCast v1991
  let c0_863 : Index := 0#32
  ![v1992.toNat, 0]

def k0_chk291 (v1955 : BitVec 32) : Prop :=
  (∀ a, (k0_off573 v1955) a + S16x128.size a ≤ S26136x128.size a)
theorem k0_off573_inb : ∀ (v1955 : BitVec 32) (k0_hw291 : k0_chk291 v1955), ∀ a, (k0_off573 v1955) a + S16x128.size a ≤ S26136x128.size a := fun v1955 k0_hw291 => k0_hw291

def k0_off574 (v1927 : BitVec 32) : Fin 2 → Nat :=
  let c17_i32_866 : BitVec 32 := 17#32
  let v1996 : BitVec 32 := Scalar.muli v1927 c17_i32_866
  let v1997 : Index := Scalar.indexCast v1996
  let c0_867 : Index := 0#32
  ![v1997.toNat, 0]

def k0_chk284 (v1927 : BitVec 32) : Prop :=
  (∀ a, (k0_off566 v1927) a + S16x128.size a ≤ S26136x128.size a) ∧
  (∀ a, (k0_off574 v1927) a + S16x128.size a ≤ S26136x128.size a)
theorem k0_off566_inb : ∀ (v1927 : BitVec 32) (k0_hw284 : k0_chk284 v1927), ∀ a, (k0_off566 v1927) a + S16x128.size a ≤ S26136x128.size a := fun v1927 k0_hw284 => k0_hw284.1
theorem k0_off574_inb : ∀ (v1927 : BitVec 32) (k0_hw284 : k0_chk284 v1927), ∀ a, (k0_off574 v1927) a + S16x128.size a ≤ S26136x128.size a := fun v1927 k0_hw284 => k0_hw284.2

def k0_off575 (v1931 : BitVec 32) : Fin 2 → Nat :=
  let c17_i32_868 : BitVec 32 := 17#32
  let v2001 : BitVec 32 := Scalar.muli v1931 c17_i32_868
  let v2002 : Index := Scalar.indexCast v2001
  let c0_869 : Index := 0#32
  ![v2002.toNat, 0]

def k0_chk285 (v1931 : BitVec 32) : Prop :=
  (∀ a, (k0_off567 v1931) a + S16x128.size a ≤ S26136x128.size a) ∧
  (∀ a, (k0_off575 v1931) a + S16x128.size a ≤ S26136x128.size a)
theorem k0_off567_inb : ∀ (v1931 : BitVec 32) (k0_hw285 : k0_chk285 v1931), ∀ a, (k0_off567 v1931) a + S16x128.size a ≤ S26136x128.size a := fun v1931 k0_hw285 => k0_hw285.1
theorem k0_off575_inb : ∀ (v1931 : BitVec 32) (k0_hw285 : k0_chk285 v1931), ∀ a, (k0_off575 v1931) a + S16x128.size a ≤ S26136x128.size a := fun v1931 k0_hw285 => k0_hw285.2

def k0_off576 (v1935 : BitVec 32) : Fin 2 → Nat :=
  let c17_i32_870 : BitVec 32 := 17#32
  let v2006 : BitVec 32 := Scalar.muli v1935 c17_i32_870
  let v2007 : Index := Scalar.indexCast v2006
  let c0_871 : Index := 0#32
  ![v2007.toNat, 0]

def k0_chk286 (v1935 : BitVec 32) : Prop :=
  (∀ a, (k0_off568 v1935) a + S16x128.size a ≤ S26136x128.size a) ∧
  (∀ a, (k0_off576 v1935) a + S16x128.size a ≤ S26136x128.size a)
theorem k0_off568_inb : ∀ (v1935 : BitVec 32) (k0_hw286 : k0_chk286 v1935), ∀ a, (k0_off568 v1935) a + S16x128.size a ≤ S26136x128.size a := fun v1935 k0_hw286 => k0_hw286.1
theorem k0_off576_inb : ∀ (v1935 : BitVec 32) (k0_hw286 : k0_chk286 v1935), ∀ a, (k0_off576 v1935) a + S16x128.size a ≤ S26136x128.size a := fun v1935 k0_hw286 => k0_hw286.2

def k0_off577 (v1939 : BitVec 32) : Fin 2 → Nat :=
  let c17_i32_872 : BitVec 32 := 17#32
  let v2011 : BitVec 32 := Scalar.muli v1939 c17_i32_872
  let v2012 : Index := Scalar.indexCast v2011
  let c0_873 : Index := 0#32
  ![v2012.toNat, 0]

def k0_chk287 (v1939 : BitVec 32) : Prop :=
  (∀ a, (k0_off569 v1939) a + S16x128.size a ≤ S26136x128.size a) ∧
  (∀ a, (k0_off577 v1939) a + S16x128.size a ≤ S26136x128.size a)
theorem k0_off569_inb : ∀ (v1939 : BitVec 32) (k0_hw287 : k0_chk287 v1939), ∀ a, (k0_off569 v1939) a + S16x128.size a ≤ S26136x128.size a := fun v1939 k0_hw287 => k0_hw287.1
theorem k0_off577_inb : ∀ (v1939 : BitVec 32) (k0_hw287 : k0_chk287 v1939), ∀ a, (k0_off577 v1939) a + S16x128.size a ≤ S26136x128.size a := fun v1939 k0_hw287 => k0_hw287.2

def k0_off578 (v1943 : BitVec 32) : Fin 2 → Nat :=
  let c17_i32_874 : BitVec 32 := 17#32
  let v2016 : BitVec 32 := Scalar.muli v1943 c17_i32_874
  let v2017 : Index := Scalar.indexCast v2016
  let c0_875 : Index := 0#32
  ![v2017.toNat, 0]

def k0_chk288 (v1943 : BitVec 32) : Prop :=
  (∀ a, (k0_off570 v1943) a + S16x128.size a ≤ S26136x128.size a) ∧
  (∀ a, (k0_off578 v1943) a + S16x128.size a ≤ S26136x128.size a)
theorem k0_off570_inb : ∀ (v1943 : BitVec 32) (k0_hw288 : k0_chk288 v1943), ∀ a, (k0_off570 v1943) a + S16x128.size a ≤ S26136x128.size a := fun v1943 k0_hw288 => k0_hw288.1
theorem k0_off578_inb : ∀ (v1943 : BitVec 32) (k0_hw288 : k0_chk288 v1943), ∀ a, (k0_off578 v1943) a + S16x128.size a ≤ S26136x128.size a := fun v1943 k0_hw288 => k0_hw288.2

def k0_off579 (v1947 : BitVec 32) : Fin 2 → Nat :=
  let c17_i32_876 : BitVec 32 := 17#32
  let v2021 : BitVec 32 := Scalar.muli v1947 c17_i32_876
  let v2022 : Index := Scalar.indexCast v2021
  let c0_877 : Index := 0#32
  ![v2022.toNat, 0]

def k0_chk289 (v1947 : BitVec 32) : Prop :=
  (∀ a, (k0_off571 v1947) a + S16x128.size a ≤ S26136x128.size a) ∧
  (∀ a, (k0_off579 v1947) a + S16x128.size a ≤ S26136x128.size a)
theorem k0_off571_inb : ∀ (v1947 : BitVec 32) (k0_hw289 : k0_chk289 v1947), ∀ a, (k0_off571 v1947) a + S16x128.size a ≤ S26136x128.size a := fun v1947 k0_hw289 => k0_hw289.1
theorem k0_off579_inb : ∀ (v1947 : BitVec 32) (k0_hw289 : k0_chk289 v1947), ∀ a, (k0_off579 v1947) a + S16x128.size a ≤ S26136x128.size a := fun v1947 k0_hw289 => k0_hw289.2

def k0_off580 (v1951 : BitVec 32) : Fin 2 → Nat :=
  let c17_i32_878 : BitVec 32 := 17#32
  let v2026 : BitVec 32 := Scalar.muli v1951 c17_i32_878
  let v2027 : Index := Scalar.indexCast v2026
  let c0_879 : Index := 0#32
  ![v2027.toNat, 0]

def k0_chk290 (v1951 : BitVec 32) : Prop :=
  (∀ a, (k0_off572 v1951) a + S16x128.size a ≤ S26136x128.size a) ∧
  (∀ a, (k0_off580 v1951) a + S16x128.size a ≤ S26136x128.size a)
theorem k0_off572_inb : ∀ (v1951 : BitVec 32) (k0_hw290 : k0_chk290 v1951), ∀ a, (k0_off572 v1951) a + S16x128.size a ≤ S26136x128.size a := fun v1951 k0_hw290 => k0_hw290.1
theorem k0_off580_inb : ∀ (v1951 : BitVec 32) (k0_hw290 : k0_chk290 v1951), ∀ a, (k0_off580 v1951) a + S16x128.size a ≤ S26136x128.size a := fun v1951 k0_hw290 => k0_hw290.2

def k0_off581 (v5 : BitVec 32) (k0_t3 : Fin (k0_t3_loop v5).trips) (v36 : BitVec 32) (c0_i32_883 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c32_i32_882 : BitVec 32 := 32#32
  let v2036 : BitVec 32 := Scalar.addi v38 c32_i32_882
  let v2037 : BitVec 32 := Scalar.addi v2036 c0_i32_883
  let v2038 : Index := Scalar.indexCast v2037
  ![v2038.toNat]
def k0_off582 (v2039 : BitVec 32) : Fin 2 → Nat :=
  let c17_i32_898 : BitVec 32 := 17#32
  let v2068 : BitVec 32 := Scalar.muli v2039 c17_i32_898
  let v2069 : Index := Scalar.indexCast v2068
  let c0_899 : Index := 0#32
  ![v2069.toNat, 0]

def k0_off583 (v2043 : BitVec 32) : Fin 2 → Nat :=
  let c17_i32_902 : BitVec 32 := 17#32
  let v2073 : BitVec 32 := Scalar.muli v2043 c17_i32_902
  let v2074 : Index := Scalar.indexCast v2073
  let c0_903 : Index := 0#32
  ![v2074.toNat, 0]

def k0_off584 (v2047 : BitVec 32) : Fin 2 → Nat :=
  let c17_i32_906 : BitVec 32 := 17#32
  let v2078 : BitVec 32 := Scalar.muli v2047 c17_i32_906
  let v2079 : Index := Scalar.indexCast v2078
  let c0_907 : Index := 0#32
  ![v2079.toNat, 0]

def k0_off585 (v2051 : BitVec 32) : Fin 2 → Nat :=
  let c17_i32_910 : BitVec 32 := 17#32
  let v2083 : BitVec 32 := Scalar.muli v2051 c17_i32_910
  let v2084 : Index := Scalar.indexCast v2083
  let c0_911 : Index := 0#32
  ![v2084.toNat, 0]

def k0_off586 (v2055 : BitVec 32) : Fin 2 → Nat :=
  let c17_i32_914 : BitVec 32 := 17#32
  let v2088 : BitVec 32 := Scalar.muli v2055 c17_i32_914
  let v2089 : Index := Scalar.indexCast v2088
  let c0_915 : Index := 0#32
  ![v2089.toNat, 0]

def k0_off587 (v2059 : BitVec 32) : Fin 2 → Nat :=
  let c17_i32_918 : BitVec 32 := 17#32
  let v2093 : BitVec 32 := Scalar.muli v2059 c17_i32_918
  let v2094 : Index := Scalar.indexCast v2093
  let c0_919 : Index := 0#32
  ![v2094.toNat, 0]

def k0_off588 (v2063 : BitVec 32) : Fin 2 → Nat :=
  let c17_i32_922 : BitVec 32 := 17#32
  let v2098 : BitVec 32 := Scalar.muli v2063 c17_i32_922
  let v2099 : Index := Scalar.indexCast v2098
  let c0_923 : Index := 0#32
  ![v2099.toNat, 0]

def k0_off589 (v2067 : BitVec 32) : Fin 2 → Nat :=
  let c17_i32_926 : BitVec 32 := 17#32
  let v2103 : BitVec 32 := Scalar.muli v2067 c17_i32_926
  let v2104 : Index := Scalar.indexCast v2103
  let c0_927 : Index := 0#32
  ![v2104.toNat, 0]

def k0_chk299 (v2067 : BitVec 32) : Prop :=
  (∀ a, (k0_off589 v2067) a + S16x128.size a ≤ S26136x128.size a)
theorem k0_off589_inb : ∀ (v2067 : BitVec 32) (k0_hw299 : k0_chk299 v2067), ∀ a, (k0_off589 v2067) a + S16x128.size a ≤ S26136x128.size a := fun v2067 k0_hw299 => k0_hw299

def k0_off590 (v2039 : BitVec 32) : Fin 2 → Nat :=
  let c17_i32_930 : BitVec 32 := 17#32
  let v2108 : BitVec 32 := Scalar.muli v2039 c17_i32_930
  let v2109 : Index := Scalar.indexCast v2108
  let c0_931 : Index := 0#32
  ![v2109.toNat, 0]

def k0_chk292 (v2039 : BitVec 32) : Prop :=
  (∀ a, (k0_off582 v2039) a + S16x128.size a ≤ S26136x128.size a) ∧
  (∀ a, (k0_off590 v2039) a + S16x128.size a ≤ S26136x128.size a)
theorem k0_off582_inb : ∀ (v2039 : BitVec 32) (k0_hw292 : k0_chk292 v2039), ∀ a, (k0_off582 v2039) a + S16x128.size a ≤ S26136x128.size a := fun v2039 k0_hw292 => k0_hw292.1
theorem k0_off590_inb : ∀ (v2039 : BitVec 32) (k0_hw292 : k0_chk292 v2039), ∀ a, (k0_off590 v2039) a + S16x128.size a ≤ S26136x128.size a := fun v2039 k0_hw292 => k0_hw292.2

def k0_off591 (v2043 : BitVec 32) : Fin 2 → Nat :=
  let c17_i32_932 : BitVec 32 := 17#32
  let v2113 : BitVec 32 := Scalar.muli v2043 c17_i32_932
  let v2114 : Index := Scalar.indexCast v2113
  let c0_933 : Index := 0#32
  ![v2114.toNat, 0]

def k0_chk293 (v2043 : BitVec 32) : Prop :=
  (∀ a, (k0_off583 v2043) a + S16x128.size a ≤ S26136x128.size a) ∧
  (∀ a, (k0_off591 v2043) a + S16x128.size a ≤ S26136x128.size a)
theorem k0_off583_inb : ∀ (v2043 : BitVec 32) (k0_hw293 : k0_chk293 v2043), ∀ a, (k0_off583 v2043) a + S16x128.size a ≤ S26136x128.size a := fun v2043 k0_hw293 => k0_hw293.1
theorem k0_off591_inb : ∀ (v2043 : BitVec 32) (k0_hw293 : k0_chk293 v2043), ∀ a, (k0_off591 v2043) a + S16x128.size a ≤ S26136x128.size a := fun v2043 k0_hw293 => k0_hw293.2

def k0_off592 (v2047 : BitVec 32) : Fin 2 → Nat :=
  let c17_i32_934 : BitVec 32 := 17#32
  let v2118 : BitVec 32 := Scalar.muli v2047 c17_i32_934
  let v2119 : Index := Scalar.indexCast v2118
  let c0_935 : Index := 0#32
  ![v2119.toNat, 0]

def k0_chk294 (v2047 : BitVec 32) : Prop :=
  (∀ a, (k0_off584 v2047) a + S16x128.size a ≤ S26136x128.size a) ∧
  (∀ a, (k0_off592 v2047) a + S16x128.size a ≤ S26136x128.size a)
theorem k0_off584_inb : ∀ (v2047 : BitVec 32) (k0_hw294 : k0_chk294 v2047), ∀ a, (k0_off584 v2047) a + S16x128.size a ≤ S26136x128.size a := fun v2047 k0_hw294 => k0_hw294.1
theorem k0_off592_inb : ∀ (v2047 : BitVec 32) (k0_hw294 : k0_chk294 v2047), ∀ a, (k0_off592 v2047) a + S16x128.size a ≤ S26136x128.size a := fun v2047 k0_hw294 => k0_hw294.2

def k0_off593 (v2051 : BitVec 32) : Fin 2 → Nat :=
  let c17_i32_936 : BitVec 32 := 17#32
  let v2123 : BitVec 32 := Scalar.muli v2051 c17_i32_936
  let v2124 : Index := Scalar.indexCast v2123
  let c0_937 : Index := 0#32
  ![v2124.toNat, 0]

def k0_chk295 (v2051 : BitVec 32) : Prop :=
  (∀ a, (k0_off585 v2051) a + S16x128.size a ≤ S26136x128.size a) ∧
  (∀ a, (k0_off593 v2051) a + S16x128.size a ≤ S26136x128.size a)
theorem k0_off585_inb : ∀ (v2051 : BitVec 32) (k0_hw295 : k0_chk295 v2051), ∀ a, (k0_off585 v2051) a + S16x128.size a ≤ S26136x128.size a := fun v2051 k0_hw295 => k0_hw295.1
theorem k0_off593_inb : ∀ (v2051 : BitVec 32) (k0_hw295 : k0_chk295 v2051), ∀ a, (k0_off593 v2051) a + S16x128.size a ≤ S26136x128.size a := fun v2051 k0_hw295 => k0_hw295.2

def k0_off594 (v2055 : BitVec 32) : Fin 2 → Nat :=
  let c17_i32_938 : BitVec 32 := 17#32
  let v2128 : BitVec 32 := Scalar.muli v2055 c17_i32_938
  let v2129 : Index := Scalar.indexCast v2128
  let c0_939 : Index := 0#32
  ![v2129.toNat, 0]

def k0_chk296 (v2055 : BitVec 32) : Prop :=
  (∀ a, (k0_off586 v2055) a + S16x128.size a ≤ S26136x128.size a) ∧
  (∀ a, (k0_off594 v2055) a + S16x128.size a ≤ S26136x128.size a)
theorem k0_off586_inb : ∀ (v2055 : BitVec 32) (k0_hw296 : k0_chk296 v2055), ∀ a, (k0_off586 v2055) a + S16x128.size a ≤ S26136x128.size a := fun v2055 k0_hw296 => k0_hw296.1
theorem k0_off594_inb : ∀ (v2055 : BitVec 32) (k0_hw296 : k0_chk296 v2055), ∀ a, (k0_off594 v2055) a + S16x128.size a ≤ S26136x128.size a := fun v2055 k0_hw296 => k0_hw296.2

def k0_off595 (v2059 : BitVec 32) : Fin 2 → Nat :=
  let c17_i32_940 : BitVec 32 := 17#32
  let v2133 : BitVec 32 := Scalar.muli v2059 c17_i32_940
  let v2134 : Index := Scalar.indexCast v2133
  let c0_941 : Index := 0#32
  ![v2134.toNat, 0]

def k0_chk297 (v2059 : BitVec 32) : Prop :=
  (∀ a, (k0_off587 v2059) a + S16x128.size a ≤ S26136x128.size a) ∧
  (∀ a, (k0_off595 v2059) a + S16x128.size a ≤ S26136x128.size a)
theorem k0_off587_inb : ∀ (v2059 : BitVec 32) (k0_hw297 : k0_chk297 v2059), ∀ a, (k0_off587 v2059) a + S16x128.size a ≤ S26136x128.size a := fun v2059 k0_hw297 => k0_hw297.1
theorem k0_off595_inb : ∀ (v2059 : BitVec 32) (k0_hw297 : k0_chk297 v2059), ∀ a, (k0_off595 v2059) a + S16x128.size a ≤ S26136x128.size a := fun v2059 k0_hw297 => k0_hw297.2

def k0_off596 (v2063 : BitVec 32) : Fin 2 → Nat :=
  let c17_i32_942 : BitVec 32 := 17#32
  let v2138 : BitVec 32 := Scalar.muli v2063 c17_i32_942
  let v2139 : Index := Scalar.indexCast v2138
  let c0_943 : Index := 0#32
  ![v2139.toNat, 0]

def k0_chk298 (v2063 : BitVec 32) : Prop :=
  (∀ a, (k0_off588 v2063) a + S16x128.size a ≤ S26136x128.size a) ∧
  (∀ a, (k0_off596 v2063) a + S16x128.size a ≤ S26136x128.size a)
theorem k0_off588_inb : ∀ (v2063 : BitVec 32) (k0_hw298 : k0_chk298 v2063), ∀ a, (k0_off588 v2063) a + S16x128.size a ≤ S26136x128.size a := fun v2063 k0_hw298 => k0_hw298.1
theorem k0_off596_inb : ∀ (v2063 : BitVec 32) (k0_hw298 : k0_chk298 v2063), ∀ a, (k0_off596 v2063) a + S16x128.size a ≤ S26136x128.size a := fun v2063 k0_hw298 => k0_hw298.2

def k0_off597 (v5 : BitVec 32) (k0_t3 : Fin (k0_t3_loop v5).trips) (v36 : BitVec 32) (c0_i32_947 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c40_i32_946 : BitVec 32 := 40#32
  let v2148 : BitVec 32 := Scalar.addi v38 c40_i32_946
  let v2149 : BitVec 32 := Scalar.addi v2148 c0_i32_947
  let v2150 : Index := Scalar.indexCast v2149
  ![v2150.toNat]
def k0_off598 (v2151 : BitVec 32) : Fin 2 → Nat :=
  let c17_i32_962 : BitVec 32 := 17#32
  let v2180 : BitVec 32 := Scalar.muli v2151 c17_i32_962
  let v2181 : Index := Scalar.indexCast v2180
  let c0_963 : Index := 0#32
  ![v2181.toNat, 0]

def k0_off599 (v2155 : BitVec 32) : Fin 2 → Nat :=
  let c17_i32_966 : BitVec 32 := 17#32
  let v2185 : BitVec 32 := Scalar.muli v2155 c17_i32_966
  let v2186 : Index := Scalar.indexCast v2185
  let c0_967 : Index := 0#32
  ![v2186.toNat, 0]

def k0_off600 (v2159 : BitVec 32) : Fin 2 → Nat :=
  let c17_i32_970 : BitVec 32 := 17#32
  let v2190 : BitVec 32 := Scalar.muli v2159 c17_i32_970
  let v2191 : Index := Scalar.indexCast v2190
  let c0_971 : Index := 0#32
  ![v2191.toNat, 0]

def k0_off601 (v2163 : BitVec 32) : Fin 2 → Nat :=
  let c17_i32_974 : BitVec 32 := 17#32
  let v2195 : BitVec 32 := Scalar.muli v2163 c17_i32_974
  let v2196 : Index := Scalar.indexCast v2195
  let c0_975 : Index := 0#32
  ![v2196.toNat, 0]

def k0_off602 (v2167 : BitVec 32) : Fin 2 → Nat :=
  let c17_i32_978 : BitVec 32 := 17#32
  let v2200 : BitVec 32 := Scalar.muli v2167 c17_i32_978
  let v2201 : Index := Scalar.indexCast v2200
  let c0_979 : Index := 0#32
  ![v2201.toNat, 0]

def k0_off603 (v2171 : BitVec 32) : Fin 2 → Nat :=
  let c17_i32_982 : BitVec 32 := 17#32
  let v2205 : BitVec 32 := Scalar.muli v2171 c17_i32_982
  let v2206 : Index := Scalar.indexCast v2205
  let c0_983 : Index := 0#32
  ![v2206.toNat, 0]

def k0_off604 (v2175 : BitVec 32) : Fin 2 → Nat :=
  let c17_i32_986 : BitVec 32 := 17#32
  let v2210 : BitVec 32 := Scalar.muli v2175 c17_i32_986
  let v2211 : Index := Scalar.indexCast v2210
  let c0_987 : Index := 0#32
  ![v2211.toNat, 0]

def k0_off605 (v2179 : BitVec 32) : Fin 2 → Nat :=
  let c17_i32_990 : BitVec 32 := 17#32
  let v2215 : BitVec 32 := Scalar.muli v2179 c17_i32_990
  let v2216 : Index := Scalar.indexCast v2215
  let c0_991 : Index := 0#32
  ![v2216.toNat, 0]

def k0_chk307 (v2179 : BitVec 32) : Prop :=
  (∀ a, (k0_off605 v2179) a + S16x128.size a ≤ S26136x128.size a)
theorem k0_off605_inb : ∀ (v2179 : BitVec 32) (k0_hw307 : k0_chk307 v2179), ∀ a, (k0_off605 v2179) a + S16x128.size a ≤ S26136x128.size a := fun v2179 k0_hw307 => k0_hw307

def k0_off606 (v2151 : BitVec 32) : Fin 2 → Nat :=
  let c17_i32_994 : BitVec 32 := 17#32
  let v2220 : BitVec 32 := Scalar.muli v2151 c17_i32_994
  let v2221 : Index := Scalar.indexCast v2220
  let c0_995 : Index := 0#32
  ![v2221.toNat, 0]

def k0_chk300 (v2151 : BitVec 32) : Prop :=
  (∀ a, (k0_off598 v2151) a + S16x128.size a ≤ S26136x128.size a) ∧
  (∀ a, (k0_off606 v2151) a + S16x128.size a ≤ S26136x128.size a)
theorem k0_off598_inb : ∀ (v2151 : BitVec 32) (k0_hw300 : k0_chk300 v2151), ∀ a, (k0_off598 v2151) a + S16x128.size a ≤ S26136x128.size a := fun v2151 k0_hw300 => k0_hw300.1
theorem k0_off606_inb : ∀ (v2151 : BitVec 32) (k0_hw300 : k0_chk300 v2151), ∀ a, (k0_off606 v2151) a + S16x128.size a ≤ S26136x128.size a := fun v2151 k0_hw300 => k0_hw300.2

def k0_off607 (v2155 : BitVec 32) : Fin 2 → Nat :=
  let c17_i32_996 : BitVec 32 := 17#32
  let v2225 : BitVec 32 := Scalar.muli v2155 c17_i32_996
  let v2226 : Index := Scalar.indexCast v2225
  let c0_997 : Index := 0#32
  ![v2226.toNat, 0]

def k0_chk301 (v2155 : BitVec 32) : Prop :=
  (∀ a, (k0_off599 v2155) a + S16x128.size a ≤ S26136x128.size a) ∧
  (∀ a, (k0_off607 v2155) a + S16x128.size a ≤ S26136x128.size a)
theorem k0_off599_inb : ∀ (v2155 : BitVec 32) (k0_hw301 : k0_chk301 v2155), ∀ a, (k0_off599 v2155) a + S16x128.size a ≤ S26136x128.size a := fun v2155 k0_hw301 => k0_hw301.1
theorem k0_off607_inb : ∀ (v2155 : BitVec 32) (k0_hw301 : k0_chk301 v2155), ∀ a, (k0_off607 v2155) a + S16x128.size a ≤ S26136x128.size a := fun v2155 k0_hw301 => k0_hw301.2

def k0_off608 (v2159 : BitVec 32) : Fin 2 → Nat :=
  let c17_i32_998 : BitVec 32 := 17#32
  let v2230 : BitVec 32 := Scalar.muli v2159 c17_i32_998
  let v2231 : Index := Scalar.indexCast v2230
  let c0_999 : Index := 0#32
  ![v2231.toNat, 0]

def k0_chk302 (v2159 : BitVec 32) : Prop :=
  (∀ a, (k0_off600 v2159) a + S16x128.size a ≤ S26136x128.size a) ∧
  (∀ a, (k0_off608 v2159) a + S16x128.size a ≤ S26136x128.size a)
theorem k0_off600_inb : ∀ (v2159 : BitVec 32) (k0_hw302 : k0_chk302 v2159), ∀ a, (k0_off600 v2159) a + S16x128.size a ≤ S26136x128.size a := fun v2159 k0_hw302 => k0_hw302.1
theorem k0_off608_inb : ∀ (v2159 : BitVec 32) (k0_hw302 : k0_chk302 v2159), ∀ a, (k0_off608 v2159) a + S16x128.size a ≤ S26136x128.size a := fun v2159 k0_hw302 => k0_hw302.2

def k0_off609 (v2163 : BitVec 32) : Fin 2 → Nat :=
  let c17_i32_1000 : BitVec 32 := 17#32
  let v2235 : BitVec 32 := Scalar.muli v2163 c17_i32_1000
  let v2236 : Index := Scalar.indexCast v2235
  let c0_1001 : Index := 0#32
  ![v2236.toNat, 0]

def k0_chk303 (v2163 : BitVec 32) : Prop :=
  (∀ a, (k0_off601 v2163) a + S16x128.size a ≤ S26136x128.size a) ∧
  (∀ a, (k0_off609 v2163) a + S16x128.size a ≤ S26136x128.size a)
theorem k0_off601_inb : ∀ (v2163 : BitVec 32) (k0_hw303 : k0_chk303 v2163), ∀ a, (k0_off601 v2163) a + S16x128.size a ≤ S26136x128.size a := fun v2163 k0_hw303 => k0_hw303.1
theorem k0_off609_inb : ∀ (v2163 : BitVec 32) (k0_hw303 : k0_chk303 v2163), ∀ a, (k0_off609 v2163) a + S16x128.size a ≤ S26136x128.size a := fun v2163 k0_hw303 => k0_hw303.2

def k0_off610 (v2167 : BitVec 32) : Fin 2 → Nat :=
  let c17_i32_1002 : BitVec 32 := 17#32
  let v2240 : BitVec 32 := Scalar.muli v2167 c17_i32_1002
  let v2241 : Index := Scalar.indexCast v2240
  let c0_1003 : Index := 0#32
  ![v2241.toNat, 0]

def k0_chk304 (v2167 : BitVec 32) : Prop :=
  (∀ a, (k0_off602 v2167) a + S16x128.size a ≤ S26136x128.size a) ∧
  (∀ a, (k0_off610 v2167) a + S16x128.size a ≤ S26136x128.size a)
theorem k0_off602_inb : ∀ (v2167 : BitVec 32) (k0_hw304 : k0_chk304 v2167), ∀ a, (k0_off602 v2167) a + S16x128.size a ≤ S26136x128.size a := fun v2167 k0_hw304 => k0_hw304.1
theorem k0_off610_inb : ∀ (v2167 : BitVec 32) (k0_hw304 : k0_chk304 v2167), ∀ a, (k0_off610 v2167) a + S16x128.size a ≤ S26136x128.size a := fun v2167 k0_hw304 => k0_hw304.2

def k0_off611 (v2171 : BitVec 32) : Fin 2 → Nat :=
  let c17_i32_1004 : BitVec 32 := 17#32
  let v2245 : BitVec 32 := Scalar.muli v2171 c17_i32_1004
  let v2246 : Index := Scalar.indexCast v2245
  let c0_1005 : Index := 0#32
  ![v2246.toNat, 0]

def k0_chk305 (v2171 : BitVec 32) : Prop :=
  (∀ a, (k0_off603 v2171) a + S16x128.size a ≤ S26136x128.size a) ∧
  (∀ a, (k0_off611 v2171) a + S16x128.size a ≤ S26136x128.size a)
theorem k0_off603_inb : ∀ (v2171 : BitVec 32) (k0_hw305 : k0_chk305 v2171), ∀ a, (k0_off603 v2171) a + S16x128.size a ≤ S26136x128.size a := fun v2171 k0_hw305 => k0_hw305.1
theorem k0_off611_inb : ∀ (v2171 : BitVec 32) (k0_hw305 : k0_chk305 v2171), ∀ a, (k0_off611 v2171) a + S16x128.size a ≤ S26136x128.size a := fun v2171 k0_hw305 => k0_hw305.2

def k0_off612 (v2175 : BitVec 32) : Fin 2 → Nat :=
  let c17_i32_1006 : BitVec 32 := 17#32
  let v2250 : BitVec 32 := Scalar.muli v2175 c17_i32_1006
  let v2251 : Index := Scalar.indexCast v2250
  let c0_1007 : Index := 0#32
  ![v2251.toNat, 0]

def k0_chk306 (v2175 : BitVec 32) : Prop :=
  (∀ a, (k0_off604 v2175) a + S16x128.size a ≤ S26136x128.size a) ∧
  (∀ a, (k0_off612 v2175) a + S16x128.size a ≤ S26136x128.size a)
theorem k0_off604_inb : ∀ (v2175 : BitVec 32) (k0_hw306 : k0_chk306 v2175), ∀ a, (k0_off604 v2175) a + S16x128.size a ≤ S26136x128.size a := fun v2175 k0_hw306 => k0_hw306.1
theorem k0_off612_inb : ∀ (v2175 : BitVec 32) (k0_hw306 : k0_chk306 v2175), ∀ a, (k0_off612 v2175) a + S16x128.size a ≤ S26136x128.size a := fun v2175 k0_hw306 => k0_hw306.2

def k0_off613 (v5 : BitVec 32) (k0_t3 : Fin (k0_t3_loop v5).trips) (v36 : BitVec 32) (c0_i32_1011 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c48_i32_1010 : BitVec 32 := 48#32
  let v2260 : BitVec 32 := Scalar.addi v38 c48_i32_1010
  let v2261 : BitVec 32 := Scalar.addi v2260 c0_i32_1011
  let v2262 : Index := Scalar.indexCast v2261
  ![v2262.toNat]
def k0_off614 (v2263 : BitVec 32) : Fin 2 → Nat :=
  let c17_i32_1026 : BitVec 32 := 17#32
  let v2292 : BitVec 32 := Scalar.muli v2263 c17_i32_1026
  let v2293 : Index := Scalar.indexCast v2292
  let c0_1027 : Index := 0#32
  ![v2293.toNat, 0]

def k0_off615 (v2267 : BitVec 32) : Fin 2 → Nat :=
  let c17_i32_1030 : BitVec 32 := 17#32
  let v2297 : BitVec 32 := Scalar.muli v2267 c17_i32_1030
  let v2298 : Index := Scalar.indexCast v2297
  let c0_1031 : Index := 0#32
  ![v2298.toNat, 0]

def k0_off616 (v2271 : BitVec 32) : Fin 2 → Nat :=
  let c17_i32_1034 : BitVec 32 := 17#32
  let v2302 : BitVec 32 := Scalar.muli v2271 c17_i32_1034
  let v2303 : Index := Scalar.indexCast v2302
  let c0_1035 : Index := 0#32
  ![v2303.toNat, 0]

def k0_off617 (v2275 : BitVec 32) : Fin 2 → Nat :=
  let c17_i32_1038 : BitVec 32 := 17#32
  let v2307 : BitVec 32 := Scalar.muli v2275 c17_i32_1038
  let v2308 : Index := Scalar.indexCast v2307
  let c0_1039 : Index := 0#32
  ![v2308.toNat, 0]

def k0_off618 (v2279 : BitVec 32) : Fin 2 → Nat :=
  let c17_i32_1042 : BitVec 32 := 17#32
  let v2312 : BitVec 32 := Scalar.muli v2279 c17_i32_1042
  let v2313 : Index := Scalar.indexCast v2312
  let c0_1043 : Index := 0#32
  ![v2313.toNat, 0]

def k0_off619 (v2283 : BitVec 32) : Fin 2 → Nat :=
  let c17_i32_1046 : BitVec 32 := 17#32
  let v2317 : BitVec 32 := Scalar.muli v2283 c17_i32_1046
  let v2318 : Index := Scalar.indexCast v2317
  let c0_1047 : Index := 0#32
  ![v2318.toNat, 0]

def k0_off620 (v2287 : BitVec 32) : Fin 2 → Nat :=
  let c17_i32_1050 : BitVec 32 := 17#32
  let v2322 : BitVec 32 := Scalar.muli v2287 c17_i32_1050
  let v2323 : Index := Scalar.indexCast v2322
  let c0_1051 : Index := 0#32
  ![v2323.toNat, 0]

def k0_off621 (v2291 : BitVec 32) : Fin 2 → Nat :=
  let c17_i32_1054 : BitVec 32 := 17#32
  let v2327 : BitVec 32 := Scalar.muli v2291 c17_i32_1054
  let v2328 : Index := Scalar.indexCast v2327
  let c0_1055 : Index := 0#32
  ![v2328.toNat, 0]

def k0_chk315 (v2291 : BitVec 32) : Prop :=
  (∀ a, (k0_off621 v2291) a + S16x128.size a ≤ S26136x128.size a)
theorem k0_off621_inb : ∀ (v2291 : BitVec 32) (k0_hw315 : k0_chk315 v2291), ∀ a, (k0_off621 v2291) a + S16x128.size a ≤ S26136x128.size a := fun v2291 k0_hw315 => k0_hw315

def k0_off622 (v2263 : BitVec 32) : Fin 2 → Nat :=
  let c17_i32_1058 : BitVec 32 := 17#32
  let v2332 : BitVec 32 := Scalar.muli v2263 c17_i32_1058
  let v2333 : Index := Scalar.indexCast v2332
  let c0_1059 : Index := 0#32
  ![v2333.toNat, 0]

def k0_chk308 (v2263 : BitVec 32) : Prop :=
  (∀ a, (k0_off614 v2263) a + S16x128.size a ≤ S26136x128.size a) ∧
  (∀ a, (k0_off622 v2263) a + S16x128.size a ≤ S26136x128.size a)
theorem k0_off614_inb : ∀ (v2263 : BitVec 32) (k0_hw308 : k0_chk308 v2263), ∀ a, (k0_off614 v2263) a + S16x128.size a ≤ S26136x128.size a := fun v2263 k0_hw308 => k0_hw308.1
theorem k0_off622_inb : ∀ (v2263 : BitVec 32) (k0_hw308 : k0_chk308 v2263), ∀ a, (k0_off622 v2263) a + S16x128.size a ≤ S26136x128.size a := fun v2263 k0_hw308 => k0_hw308.2

def k0_off623 (v2267 : BitVec 32) : Fin 2 → Nat :=
  let c17_i32_1060 : BitVec 32 := 17#32
  let v2337 : BitVec 32 := Scalar.muli v2267 c17_i32_1060
  let v2338 : Index := Scalar.indexCast v2337
  let c0_1061 : Index := 0#32
  ![v2338.toNat, 0]

def k0_chk309 (v2267 : BitVec 32) : Prop :=
  (∀ a, (k0_off615 v2267) a + S16x128.size a ≤ S26136x128.size a) ∧
  (∀ a, (k0_off623 v2267) a + S16x128.size a ≤ S26136x128.size a)
theorem k0_off615_inb : ∀ (v2267 : BitVec 32) (k0_hw309 : k0_chk309 v2267), ∀ a, (k0_off615 v2267) a + S16x128.size a ≤ S26136x128.size a := fun v2267 k0_hw309 => k0_hw309.1
theorem k0_off623_inb : ∀ (v2267 : BitVec 32) (k0_hw309 : k0_chk309 v2267), ∀ a, (k0_off623 v2267) a + S16x128.size a ≤ S26136x128.size a := fun v2267 k0_hw309 => k0_hw309.2

def k0_off624 (v2271 : BitVec 32) : Fin 2 → Nat :=
  let c17_i32_1062 : BitVec 32 := 17#32
  let v2342 : BitVec 32 := Scalar.muli v2271 c17_i32_1062
  let v2343 : Index := Scalar.indexCast v2342
  let c0_1063 : Index := 0#32
  ![v2343.toNat, 0]

def k0_chk310 (v2271 : BitVec 32) : Prop :=
  (∀ a, (k0_off616 v2271) a + S16x128.size a ≤ S26136x128.size a) ∧
  (∀ a, (k0_off624 v2271) a + S16x128.size a ≤ S26136x128.size a)
theorem k0_off616_inb : ∀ (v2271 : BitVec 32) (k0_hw310 : k0_chk310 v2271), ∀ a, (k0_off616 v2271) a + S16x128.size a ≤ S26136x128.size a := fun v2271 k0_hw310 => k0_hw310.1
theorem k0_off624_inb : ∀ (v2271 : BitVec 32) (k0_hw310 : k0_chk310 v2271), ∀ a, (k0_off624 v2271) a + S16x128.size a ≤ S26136x128.size a := fun v2271 k0_hw310 => k0_hw310.2

def k0_off625 (v2275 : BitVec 32) : Fin 2 → Nat :=
  let c17_i32_1064 : BitVec 32 := 17#32
  let v2347 : BitVec 32 := Scalar.muli v2275 c17_i32_1064
  let v2348 : Index := Scalar.indexCast v2347
  let c0_1065 : Index := 0#32
  ![v2348.toNat, 0]

def k0_chk311 (v2275 : BitVec 32) : Prop :=
  (∀ a, (k0_off617 v2275) a + S16x128.size a ≤ S26136x128.size a) ∧
  (∀ a, (k0_off625 v2275) a + S16x128.size a ≤ S26136x128.size a)
theorem k0_off617_inb : ∀ (v2275 : BitVec 32) (k0_hw311 : k0_chk311 v2275), ∀ a, (k0_off617 v2275) a + S16x128.size a ≤ S26136x128.size a := fun v2275 k0_hw311 => k0_hw311.1
theorem k0_off625_inb : ∀ (v2275 : BitVec 32) (k0_hw311 : k0_chk311 v2275), ∀ a, (k0_off625 v2275) a + S16x128.size a ≤ S26136x128.size a := fun v2275 k0_hw311 => k0_hw311.2

def k0_off626 (v2279 : BitVec 32) : Fin 2 → Nat :=
  let c17_i32_1066 : BitVec 32 := 17#32
  let v2352 : BitVec 32 := Scalar.muli v2279 c17_i32_1066
  let v2353 : Index := Scalar.indexCast v2352
  let c0_1067 : Index := 0#32
  ![v2353.toNat, 0]

def k0_chk312 (v2279 : BitVec 32) : Prop :=
  (∀ a, (k0_off618 v2279) a + S16x128.size a ≤ S26136x128.size a) ∧
  (∀ a, (k0_off626 v2279) a + S16x128.size a ≤ S26136x128.size a)
theorem k0_off618_inb : ∀ (v2279 : BitVec 32) (k0_hw312 : k0_chk312 v2279), ∀ a, (k0_off618 v2279) a + S16x128.size a ≤ S26136x128.size a := fun v2279 k0_hw312 => k0_hw312.1
theorem k0_off626_inb : ∀ (v2279 : BitVec 32) (k0_hw312 : k0_chk312 v2279), ∀ a, (k0_off626 v2279) a + S16x128.size a ≤ S26136x128.size a := fun v2279 k0_hw312 => k0_hw312.2

def k0_off627 (v2283 : BitVec 32) : Fin 2 → Nat :=
  let c17_i32_1068 : BitVec 32 := 17#32
  let v2357 : BitVec 32 := Scalar.muli v2283 c17_i32_1068
  let v2358 : Index := Scalar.indexCast v2357
  let c0_1069 : Index := 0#32
  ![v2358.toNat, 0]

def k0_chk313 (v2283 : BitVec 32) : Prop :=
  (∀ a, (k0_off619 v2283) a + S16x128.size a ≤ S26136x128.size a) ∧
  (∀ a, (k0_off627 v2283) a + S16x128.size a ≤ S26136x128.size a)
theorem k0_off619_inb : ∀ (v2283 : BitVec 32) (k0_hw313 : k0_chk313 v2283), ∀ a, (k0_off619 v2283) a + S16x128.size a ≤ S26136x128.size a := fun v2283 k0_hw313 => k0_hw313.1
theorem k0_off627_inb : ∀ (v2283 : BitVec 32) (k0_hw313 : k0_chk313 v2283), ∀ a, (k0_off627 v2283) a + S16x128.size a ≤ S26136x128.size a := fun v2283 k0_hw313 => k0_hw313.2

def k0_off628 (v2287 : BitVec 32) : Fin 2 → Nat :=
  let c17_i32_1070 : BitVec 32 := 17#32
  let v2362 : BitVec 32 := Scalar.muli v2287 c17_i32_1070
  let v2363 : Index := Scalar.indexCast v2362
  let c0_1071 : Index := 0#32
  ![v2363.toNat, 0]

def k0_chk314 (v2287 : BitVec 32) : Prop :=
  (∀ a, (k0_off620 v2287) a + S16x128.size a ≤ S26136x128.size a) ∧
  (∀ a, (k0_off628 v2287) a + S16x128.size a ≤ S26136x128.size a)
theorem k0_off620_inb : ∀ (v2287 : BitVec 32) (k0_hw314 : k0_chk314 v2287), ∀ a, (k0_off620 v2287) a + S16x128.size a ≤ S26136x128.size a := fun v2287 k0_hw314 => k0_hw314.1
theorem k0_off628_inb : ∀ (v2287 : BitVec 32) (k0_hw314 : k0_chk314 v2287), ∀ a, (k0_off628 v2287) a + S16x128.size a ≤ S26136x128.size a := fun v2287 k0_hw314 => k0_hw314.2

def k0_off629 (v5 : BitVec 32) (k0_t3 : Fin (k0_t3_loop v5).trips) (v36 : BitVec 32) (c0_i32_1075 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c56_i32_1074 : BitVec 32 := 56#32
  let v2372 : BitVec 32 := Scalar.addi v38 c56_i32_1074
  let v2373 : BitVec 32 := Scalar.addi v2372 c0_i32_1075
  let v2374 : Index := Scalar.indexCast v2373
  ![v2374.toNat]
def k0_off630 (v2375 : BitVec 32) : Fin 2 → Nat :=
  let c17_i32_1090 : BitVec 32 := 17#32
  let v2404 : BitVec 32 := Scalar.muli v2375 c17_i32_1090
  let v2405 : Index := Scalar.indexCast v2404
  let c0_1091 : Index := 0#32
  ![v2405.toNat, 0]

def k0_off631 (v2379 : BitVec 32) : Fin 2 → Nat :=
  let c17_i32_1094 : BitVec 32 := 17#32
  let v2409 : BitVec 32 := Scalar.muli v2379 c17_i32_1094
  let v2410 : Index := Scalar.indexCast v2409
  let c0_1095 : Index := 0#32
  ![v2410.toNat, 0]

def k0_off632 (v2383 : BitVec 32) : Fin 2 → Nat :=
  let c17_i32_1098 : BitVec 32 := 17#32
  let v2414 : BitVec 32 := Scalar.muli v2383 c17_i32_1098
  let v2415 : Index := Scalar.indexCast v2414
  let c0_1099 : Index := 0#32
  ![v2415.toNat, 0]

def k0_off633 (v2387 : BitVec 32) : Fin 2 → Nat :=
  let c17_i32_1102 : BitVec 32 := 17#32
  let v2419 : BitVec 32 := Scalar.muli v2387 c17_i32_1102
  let v2420 : Index := Scalar.indexCast v2419
  let c0_1103 : Index := 0#32
  ![v2420.toNat, 0]

def k0_off634 (v2391 : BitVec 32) : Fin 2 → Nat :=
  let c17_i32_1106 : BitVec 32 := 17#32
  let v2424 : BitVec 32 := Scalar.muli v2391 c17_i32_1106
  let v2425 : Index := Scalar.indexCast v2424
  let c0_1107 : Index := 0#32
  ![v2425.toNat, 0]

def k0_off635 (v2395 : BitVec 32) : Fin 2 → Nat :=
  let c17_i32_1110 : BitVec 32 := 17#32
  let v2429 : BitVec 32 := Scalar.muli v2395 c17_i32_1110
  let v2430 : Index := Scalar.indexCast v2429
  let c0_1111 : Index := 0#32
  ![v2430.toNat, 0]

def k0_off636 (v2399 : BitVec 32) : Fin 2 → Nat :=
  let c17_i32_1114 : BitVec 32 := 17#32
  let v2434 : BitVec 32 := Scalar.muli v2399 c17_i32_1114
  let v2435 : Index := Scalar.indexCast v2434
  let c0_1115 : Index := 0#32
  ![v2435.toNat, 0]

def k0_off637 (v2403 : BitVec 32) : Fin 2 → Nat :=
  let c17_i32_1118 : BitVec 32 := 17#32
  let v2439 : BitVec 32 := Scalar.muli v2403 c17_i32_1118
  let v2440 : Index := Scalar.indexCast v2439
  let c0_1119 : Index := 0#32
  ![v2440.toNat, 0]

def k0_chk323 (v2403 : BitVec 32) : Prop :=
  (∀ a, (k0_off637 v2403) a + S16x128.size a ≤ S26136x128.size a)
theorem k0_off637_inb : ∀ (v2403 : BitVec 32) (k0_hw323 : k0_chk323 v2403), ∀ a, (k0_off637 v2403) a + S16x128.size a ≤ S26136x128.size a := fun v2403 k0_hw323 => k0_hw323

def k0_off638 (v2375 : BitVec 32) : Fin 2 → Nat :=
  let c17_i32_1122 : BitVec 32 := 17#32
  let v2444 : BitVec 32 := Scalar.muli v2375 c17_i32_1122
  let v2445 : Index := Scalar.indexCast v2444
  let c0_1123 : Index := 0#32
  ![v2445.toNat, 0]

def k0_chk316 (v2375 : BitVec 32) : Prop :=
  (∀ a, (k0_off630 v2375) a + S16x128.size a ≤ S26136x128.size a) ∧
  (∀ a, (k0_off638 v2375) a + S16x128.size a ≤ S26136x128.size a)
theorem k0_off630_inb : ∀ (v2375 : BitVec 32) (k0_hw316 : k0_chk316 v2375), ∀ a, (k0_off630 v2375) a + S16x128.size a ≤ S26136x128.size a := fun v2375 k0_hw316 => k0_hw316.1
theorem k0_off638_inb : ∀ (v2375 : BitVec 32) (k0_hw316 : k0_chk316 v2375), ∀ a, (k0_off638 v2375) a + S16x128.size a ≤ S26136x128.size a := fun v2375 k0_hw316 => k0_hw316.2

def k0_off639 (v2379 : BitVec 32) : Fin 2 → Nat :=
  let c17_i32_1124 : BitVec 32 := 17#32
  let v2449 : BitVec 32 := Scalar.muli v2379 c17_i32_1124
  let v2450 : Index := Scalar.indexCast v2449
  let c0_1125 : Index := 0#32
  ![v2450.toNat, 0]

def k0_chk317 (v2379 : BitVec 32) : Prop :=
  (∀ a, (k0_off631 v2379) a + S16x128.size a ≤ S26136x128.size a) ∧
  (∀ a, (k0_off639 v2379) a + S16x128.size a ≤ S26136x128.size a)
theorem k0_off631_inb : ∀ (v2379 : BitVec 32) (k0_hw317 : k0_chk317 v2379), ∀ a, (k0_off631 v2379) a + S16x128.size a ≤ S26136x128.size a := fun v2379 k0_hw317 => k0_hw317.1
theorem k0_off639_inb : ∀ (v2379 : BitVec 32) (k0_hw317 : k0_chk317 v2379), ∀ a, (k0_off639 v2379) a + S16x128.size a ≤ S26136x128.size a := fun v2379 k0_hw317 => k0_hw317.2

def k0_off640 (v2383 : BitVec 32) : Fin 2 → Nat :=
  let c17_i32_1126 : BitVec 32 := 17#32
  let v2454 : BitVec 32 := Scalar.muli v2383 c17_i32_1126
  let v2455 : Index := Scalar.indexCast v2454
  let c0_1127 : Index := 0#32
  ![v2455.toNat, 0]

def k0_chk318 (v2383 : BitVec 32) : Prop :=
  (∀ a, (k0_off632 v2383) a + S16x128.size a ≤ S26136x128.size a) ∧
  (∀ a, (k0_off640 v2383) a + S16x128.size a ≤ S26136x128.size a)
theorem k0_off632_inb : ∀ (v2383 : BitVec 32) (k0_hw318 : k0_chk318 v2383), ∀ a, (k0_off632 v2383) a + S16x128.size a ≤ S26136x128.size a := fun v2383 k0_hw318 => k0_hw318.1
theorem k0_off640_inb : ∀ (v2383 : BitVec 32) (k0_hw318 : k0_chk318 v2383), ∀ a, (k0_off640 v2383) a + S16x128.size a ≤ S26136x128.size a := fun v2383 k0_hw318 => k0_hw318.2

def k0_off641 (v2387 : BitVec 32) : Fin 2 → Nat :=
  let c17_i32_1128 : BitVec 32 := 17#32
  let v2459 : BitVec 32 := Scalar.muli v2387 c17_i32_1128
  let v2460 : Index := Scalar.indexCast v2459
  let c0_1129 : Index := 0#32
  ![v2460.toNat, 0]

def k0_chk319 (v2387 : BitVec 32) : Prop :=
  (∀ a, (k0_off633 v2387) a + S16x128.size a ≤ S26136x128.size a) ∧
  (∀ a, (k0_off641 v2387) a + S16x128.size a ≤ S26136x128.size a)
theorem k0_off633_inb : ∀ (v2387 : BitVec 32) (k0_hw319 : k0_chk319 v2387), ∀ a, (k0_off633 v2387) a + S16x128.size a ≤ S26136x128.size a := fun v2387 k0_hw319 => k0_hw319.1
theorem k0_off641_inb : ∀ (v2387 : BitVec 32) (k0_hw319 : k0_chk319 v2387), ∀ a, (k0_off641 v2387) a + S16x128.size a ≤ S26136x128.size a := fun v2387 k0_hw319 => k0_hw319.2

def k0_off642 (v2391 : BitVec 32) : Fin 2 → Nat :=
  let c17_i32_1130 : BitVec 32 := 17#32
  let v2464 : BitVec 32 := Scalar.muli v2391 c17_i32_1130
  let v2465 : Index := Scalar.indexCast v2464
  let c0_1131 : Index := 0#32
  ![v2465.toNat, 0]

def k0_chk320 (v2391 : BitVec 32) : Prop :=
  (∀ a, (k0_off634 v2391) a + S16x128.size a ≤ S26136x128.size a) ∧
  (∀ a, (k0_off642 v2391) a + S16x128.size a ≤ S26136x128.size a)
theorem k0_off634_inb : ∀ (v2391 : BitVec 32) (k0_hw320 : k0_chk320 v2391), ∀ a, (k0_off634 v2391) a + S16x128.size a ≤ S26136x128.size a := fun v2391 k0_hw320 => k0_hw320.1
theorem k0_off642_inb : ∀ (v2391 : BitVec 32) (k0_hw320 : k0_chk320 v2391), ∀ a, (k0_off642 v2391) a + S16x128.size a ≤ S26136x128.size a := fun v2391 k0_hw320 => k0_hw320.2

def k0_off643 (v2395 : BitVec 32) : Fin 2 → Nat :=
  let c17_i32_1132 : BitVec 32 := 17#32
  let v2469 : BitVec 32 := Scalar.muli v2395 c17_i32_1132
  let v2470 : Index := Scalar.indexCast v2469
  let c0_1133 : Index := 0#32
  ![v2470.toNat, 0]

def k0_chk321 (v2395 : BitVec 32) : Prop :=
  (∀ a, (k0_off635 v2395) a + S16x128.size a ≤ S26136x128.size a) ∧
  (∀ a, (k0_off643 v2395) a + S16x128.size a ≤ S26136x128.size a)
theorem k0_off635_inb : ∀ (v2395 : BitVec 32) (k0_hw321 : k0_chk321 v2395), ∀ a, (k0_off635 v2395) a + S16x128.size a ≤ S26136x128.size a := fun v2395 k0_hw321 => k0_hw321.1
theorem k0_off643_inb : ∀ (v2395 : BitVec 32) (k0_hw321 : k0_chk321 v2395), ∀ a, (k0_off643 v2395) a + S16x128.size a ≤ S26136x128.size a := fun v2395 k0_hw321 => k0_hw321.2

def k0_off644 (v2399 : BitVec 32) : Fin 2 → Nat :=
  let c17_i32_1134 : BitVec 32 := 17#32
  let v2474 : BitVec 32 := Scalar.muli v2399 c17_i32_1134
  let v2475 : Index := Scalar.indexCast v2474
  let c0_1135 : Index := 0#32
  ![v2475.toNat, 0]

def k0_chk322 (v2399 : BitVec 32) : Prop :=
  (∀ a, (k0_off636 v2399) a + S16x128.size a ≤ S26136x128.size a) ∧
  (∀ a, (k0_off644 v2399) a + S16x128.size a ≤ S26136x128.size a)
theorem k0_off636_inb : ∀ (v2399 : BitVec 32) (k0_hw322 : k0_chk322 v2399), ∀ a, (k0_off636 v2399) a + S16x128.size a ≤ S26136x128.size a := fun v2399 k0_hw322 => k0_hw322.1
theorem k0_off644_inb : ∀ (v2399 : BitVec 32) (k0_hw322 : k0_chk322 v2399), ∀ a, (k0_off644 v2399) a + S16x128.size a ≤ S26136x128.size a := fun v2399 k0_hw322 => k0_hw322.2

def k0_off645 (v5 : BitVec 32) (k0_t3 : Fin (k0_t3_loop v5).trips) (v36 : BitVec 32) (c0_i32_1139 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c64_i32_1138 : BitVec 32 := 64#32
  let v2484 : BitVec 32 := Scalar.addi v38 c64_i32_1138
  let v2485 : BitVec 32 := Scalar.addi v2484 c0_i32_1139
  let v2486 : Index := Scalar.indexCast v2485
  ![v2486.toNat]
def k0_off646 (v2487 : BitVec 32) : Fin 2 → Nat :=
  let c17_i32_1154 : BitVec 32 := 17#32
  let v2516 : BitVec 32 := Scalar.muli v2487 c17_i32_1154
  let v2517 : Index := Scalar.indexCast v2516
  let c0_1155 : Index := 0#32
  ![v2517.toNat, 0]

def k0_off647 (v2491 : BitVec 32) : Fin 2 → Nat :=
  let c17_i32_1158 : BitVec 32 := 17#32
  let v2521 : BitVec 32 := Scalar.muli v2491 c17_i32_1158
  let v2522 : Index := Scalar.indexCast v2521
  let c0_1159 : Index := 0#32
  ![v2522.toNat, 0]

def k0_off648 (v2495 : BitVec 32) : Fin 2 → Nat :=
  let c17_i32_1162 : BitVec 32 := 17#32
  let v2526 : BitVec 32 := Scalar.muli v2495 c17_i32_1162
  let v2527 : Index := Scalar.indexCast v2526
  let c0_1163 : Index := 0#32
  ![v2527.toNat, 0]

def k0_off649 (v2499 : BitVec 32) : Fin 2 → Nat :=
  let c17_i32_1166 : BitVec 32 := 17#32
  let v2531 : BitVec 32 := Scalar.muli v2499 c17_i32_1166
  let v2532 : Index := Scalar.indexCast v2531
  let c0_1167 : Index := 0#32
  ![v2532.toNat, 0]

def k0_off650 (v2503 : BitVec 32) : Fin 2 → Nat :=
  let c17_i32_1170 : BitVec 32 := 17#32
  let v2536 : BitVec 32 := Scalar.muli v2503 c17_i32_1170
  let v2537 : Index := Scalar.indexCast v2536
  let c0_1171 : Index := 0#32
  ![v2537.toNat, 0]

def k0_off651 (v2507 : BitVec 32) : Fin 2 → Nat :=
  let c17_i32_1174 : BitVec 32 := 17#32
  let v2541 : BitVec 32 := Scalar.muli v2507 c17_i32_1174
  let v2542 : Index := Scalar.indexCast v2541
  let c0_1175 : Index := 0#32
  ![v2542.toNat, 0]

def k0_off652 (v2511 : BitVec 32) : Fin 2 → Nat :=
  let c17_i32_1178 : BitVec 32 := 17#32
  let v2546 : BitVec 32 := Scalar.muli v2511 c17_i32_1178
  let v2547 : Index := Scalar.indexCast v2546
  let c0_1179 : Index := 0#32
  ![v2547.toNat, 0]

def k0_off653 (v2515 : BitVec 32) : Fin 2 → Nat :=
  let c17_i32_1182 : BitVec 32 := 17#32
  let v2551 : BitVec 32 := Scalar.muli v2515 c17_i32_1182
  let v2552 : Index := Scalar.indexCast v2551
  let c0_1183 : Index := 0#32
  ![v2552.toNat, 0]

def k0_chk331 (v2515 : BitVec 32) : Prop :=
  (∀ a, (k0_off653 v2515) a + S16x128.size a ≤ S26136x128.size a)
theorem k0_off653_inb : ∀ (v2515 : BitVec 32) (k0_hw331 : k0_chk331 v2515), ∀ a, (k0_off653 v2515) a + S16x128.size a ≤ S26136x128.size a := fun v2515 k0_hw331 => k0_hw331

def k0_off654 (v2487 : BitVec 32) : Fin 2 → Nat :=
  let c17_i32_1186 : BitVec 32 := 17#32
  let v2556 : BitVec 32 := Scalar.muli v2487 c17_i32_1186
  let v2557 : Index := Scalar.indexCast v2556
  let c0_1187 : Index := 0#32
  ![v2557.toNat, 0]

def k0_chk324 (v2487 : BitVec 32) : Prop :=
  (∀ a, (k0_off646 v2487) a + S16x128.size a ≤ S26136x128.size a) ∧
  (∀ a, (k0_off654 v2487) a + S16x128.size a ≤ S26136x128.size a)
theorem k0_off646_inb : ∀ (v2487 : BitVec 32) (k0_hw324 : k0_chk324 v2487), ∀ a, (k0_off646 v2487) a + S16x128.size a ≤ S26136x128.size a := fun v2487 k0_hw324 => k0_hw324.1
theorem k0_off654_inb : ∀ (v2487 : BitVec 32) (k0_hw324 : k0_chk324 v2487), ∀ a, (k0_off654 v2487) a + S16x128.size a ≤ S26136x128.size a := fun v2487 k0_hw324 => k0_hw324.2

def k0_off655 (v2491 : BitVec 32) : Fin 2 → Nat :=
  let c17_i32_1188 : BitVec 32 := 17#32
  let v2561 : BitVec 32 := Scalar.muli v2491 c17_i32_1188
  let v2562 : Index := Scalar.indexCast v2561
  let c0_1189 : Index := 0#32
  ![v2562.toNat, 0]

def k0_chk325 (v2491 : BitVec 32) : Prop :=
  (∀ a, (k0_off647 v2491) a + S16x128.size a ≤ S26136x128.size a) ∧
  (∀ a, (k0_off655 v2491) a + S16x128.size a ≤ S26136x128.size a)
theorem k0_off647_inb : ∀ (v2491 : BitVec 32) (k0_hw325 : k0_chk325 v2491), ∀ a, (k0_off647 v2491) a + S16x128.size a ≤ S26136x128.size a := fun v2491 k0_hw325 => k0_hw325.1
theorem k0_off655_inb : ∀ (v2491 : BitVec 32) (k0_hw325 : k0_chk325 v2491), ∀ a, (k0_off655 v2491) a + S16x128.size a ≤ S26136x128.size a := fun v2491 k0_hw325 => k0_hw325.2

def k0_off656 (v2495 : BitVec 32) : Fin 2 → Nat :=
  let c17_i32_1190 : BitVec 32 := 17#32
  let v2566 : BitVec 32 := Scalar.muli v2495 c17_i32_1190
  let v2567 : Index := Scalar.indexCast v2566
  let c0_1191 : Index := 0#32
  ![v2567.toNat, 0]

def k0_chk326 (v2495 : BitVec 32) : Prop :=
  (∀ a, (k0_off648 v2495) a + S16x128.size a ≤ S26136x128.size a) ∧
  (∀ a, (k0_off656 v2495) a + S16x128.size a ≤ S26136x128.size a)
theorem k0_off648_inb : ∀ (v2495 : BitVec 32) (k0_hw326 : k0_chk326 v2495), ∀ a, (k0_off648 v2495) a + S16x128.size a ≤ S26136x128.size a := fun v2495 k0_hw326 => k0_hw326.1
theorem k0_off656_inb : ∀ (v2495 : BitVec 32) (k0_hw326 : k0_chk326 v2495), ∀ a, (k0_off656 v2495) a + S16x128.size a ≤ S26136x128.size a := fun v2495 k0_hw326 => k0_hw326.2

def k0_off657 (v2499 : BitVec 32) : Fin 2 → Nat :=
  let c17_i32_1192 : BitVec 32 := 17#32
  let v2571 : BitVec 32 := Scalar.muli v2499 c17_i32_1192
  let v2572 : Index := Scalar.indexCast v2571
  let c0_1193 : Index := 0#32
  ![v2572.toNat, 0]

def k0_chk327 (v2499 : BitVec 32) : Prop :=
  (∀ a, (k0_off649 v2499) a + S16x128.size a ≤ S26136x128.size a) ∧
  (∀ a, (k0_off657 v2499) a + S16x128.size a ≤ S26136x128.size a)
theorem k0_off649_inb : ∀ (v2499 : BitVec 32) (k0_hw327 : k0_chk327 v2499), ∀ a, (k0_off649 v2499) a + S16x128.size a ≤ S26136x128.size a := fun v2499 k0_hw327 => k0_hw327.1
theorem k0_off657_inb : ∀ (v2499 : BitVec 32) (k0_hw327 : k0_chk327 v2499), ∀ a, (k0_off657 v2499) a + S16x128.size a ≤ S26136x128.size a := fun v2499 k0_hw327 => k0_hw327.2

def k0_off658 (v2503 : BitVec 32) : Fin 2 → Nat :=
  let c17_i32_1194 : BitVec 32 := 17#32
  let v2576 : BitVec 32 := Scalar.muli v2503 c17_i32_1194
  let v2577 : Index := Scalar.indexCast v2576
  let c0_1195 : Index := 0#32
  ![v2577.toNat, 0]

def k0_chk328 (v2503 : BitVec 32) : Prop :=
  (∀ a, (k0_off650 v2503) a + S16x128.size a ≤ S26136x128.size a) ∧
  (∀ a, (k0_off658 v2503) a + S16x128.size a ≤ S26136x128.size a)
theorem k0_off650_inb : ∀ (v2503 : BitVec 32) (k0_hw328 : k0_chk328 v2503), ∀ a, (k0_off650 v2503) a + S16x128.size a ≤ S26136x128.size a := fun v2503 k0_hw328 => k0_hw328.1
theorem k0_off658_inb : ∀ (v2503 : BitVec 32) (k0_hw328 : k0_chk328 v2503), ∀ a, (k0_off658 v2503) a + S16x128.size a ≤ S26136x128.size a := fun v2503 k0_hw328 => k0_hw328.2

def k0_off659 (v2507 : BitVec 32) : Fin 2 → Nat :=
  let c17_i32_1196 : BitVec 32 := 17#32
  let v2581 : BitVec 32 := Scalar.muli v2507 c17_i32_1196
  let v2582 : Index := Scalar.indexCast v2581
  let c0_1197 : Index := 0#32
  ![v2582.toNat, 0]

def k0_chk329 (v2507 : BitVec 32) : Prop :=
  (∀ a, (k0_off651 v2507) a + S16x128.size a ≤ S26136x128.size a) ∧
  (∀ a, (k0_off659 v2507) a + S16x128.size a ≤ S26136x128.size a)
theorem k0_off651_inb : ∀ (v2507 : BitVec 32) (k0_hw329 : k0_chk329 v2507), ∀ a, (k0_off651 v2507) a + S16x128.size a ≤ S26136x128.size a := fun v2507 k0_hw329 => k0_hw329.1
theorem k0_off659_inb : ∀ (v2507 : BitVec 32) (k0_hw329 : k0_chk329 v2507), ∀ a, (k0_off659 v2507) a + S16x128.size a ≤ S26136x128.size a := fun v2507 k0_hw329 => k0_hw329.2

def k0_off660 (v2511 : BitVec 32) : Fin 2 → Nat :=
  let c17_i32_1198 : BitVec 32 := 17#32
  let v2586 : BitVec 32 := Scalar.muli v2511 c17_i32_1198
  let v2587 : Index := Scalar.indexCast v2586
  let c0_1199 : Index := 0#32
  ![v2587.toNat, 0]

def k0_chk330 (v2511 : BitVec 32) : Prop :=
  (∀ a, (k0_off652 v2511) a + S16x128.size a ≤ S26136x128.size a) ∧
  (∀ a, (k0_off660 v2511) a + S16x128.size a ≤ S26136x128.size a)
theorem k0_off652_inb : ∀ (v2511 : BitVec 32) (k0_hw330 : k0_chk330 v2511), ∀ a, (k0_off652 v2511) a + S16x128.size a ≤ S26136x128.size a := fun v2511 k0_hw330 => k0_hw330.1
theorem k0_off660_inb : ∀ (v2511 : BitVec 32) (k0_hw330 : k0_chk330 v2511), ∀ a, (k0_off660 v2511) a + S16x128.size a ≤ S26136x128.size a := fun v2511 k0_hw330 => k0_hw330.2

def k0_off661 (v5 : BitVec 32) (k0_t3 : Fin (k0_t3_loop v5).trips) (v36 : BitVec 32) (c0_i32_1203 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c72_i32_1202 : BitVec 32 := 72#32
  let v2596 : BitVec 32 := Scalar.addi v38 c72_i32_1202
  let v2597 : BitVec 32 := Scalar.addi v2596 c0_i32_1203
  let v2598 : Index := Scalar.indexCast v2597
  ![v2598.toNat]
def k0_off662 (v2599 : BitVec 32) : Fin 2 → Nat :=
  let c17_i32_1218 : BitVec 32 := 17#32
  let v2628 : BitVec 32 := Scalar.muli v2599 c17_i32_1218
  let v2629 : Index := Scalar.indexCast v2628
  let c0_1219 : Index := 0#32
  ![v2629.toNat, 0]

def k0_off663 (v2603 : BitVec 32) : Fin 2 → Nat :=
  let c17_i32_1222 : BitVec 32 := 17#32
  let v2633 : BitVec 32 := Scalar.muli v2603 c17_i32_1222
  let v2634 : Index := Scalar.indexCast v2633
  let c0_1223 : Index := 0#32
  ![v2634.toNat, 0]

def k0_off664 (v2607 : BitVec 32) : Fin 2 → Nat :=
  let c17_i32_1226 : BitVec 32 := 17#32
  let v2638 : BitVec 32 := Scalar.muli v2607 c17_i32_1226
  let v2639 : Index := Scalar.indexCast v2638
  let c0_1227 : Index := 0#32
  ![v2639.toNat, 0]

def k0_off665 (v2611 : BitVec 32) : Fin 2 → Nat :=
  let c17_i32_1230 : BitVec 32 := 17#32
  let v2643 : BitVec 32 := Scalar.muli v2611 c17_i32_1230
  let v2644 : Index := Scalar.indexCast v2643
  let c0_1231 : Index := 0#32
  ![v2644.toNat, 0]

def k0_off666 (v2615 : BitVec 32) : Fin 2 → Nat :=
  let c17_i32_1234 : BitVec 32 := 17#32
  let v2648 : BitVec 32 := Scalar.muli v2615 c17_i32_1234
  let v2649 : Index := Scalar.indexCast v2648
  let c0_1235 : Index := 0#32
  ![v2649.toNat, 0]

def k0_off667 (v2619 : BitVec 32) : Fin 2 → Nat :=
  let c17_i32_1238 : BitVec 32 := 17#32
  let v2653 : BitVec 32 := Scalar.muli v2619 c17_i32_1238
  let v2654 : Index := Scalar.indexCast v2653
  let c0_1239 : Index := 0#32
  ![v2654.toNat, 0]

def k0_off668 (v2623 : BitVec 32) : Fin 2 → Nat :=
  let c17_i32_1242 : BitVec 32 := 17#32
  let v2658 : BitVec 32 := Scalar.muli v2623 c17_i32_1242
  let v2659 : Index := Scalar.indexCast v2658
  let c0_1243 : Index := 0#32
  ![v2659.toNat, 0]

def k0_off669 (v2627 : BitVec 32) : Fin 2 → Nat :=
  let c17_i32_1246 : BitVec 32 := 17#32
  let v2663 : BitVec 32 := Scalar.muli v2627 c17_i32_1246
  let v2664 : Index := Scalar.indexCast v2663
  let c0_1247 : Index := 0#32
  ![v2664.toNat, 0]

def k0_chk339 (v2627 : BitVec 32) : Prop :=
  (∀ a, (k0_off669 v2627) a + S16x128.size a ≤ S26136x128.size a)
theorem k0_off669_inb : ∀ (v2627 : BitVec 32) (k0_hw339 : k0_chk339 v2627), ∀ a, (k0_off669 v2627) a + S16x128.size a ≤ S26136x128.size a := fun v2627 k0_hw339 => k0_hw339

def k0_off670 (v2599 : BitVec 32) : Fin 2 → Nat :=
  let c17_i32_1250 : BitVec 32 := 17#32
  let v2668 : BitVec 32 := Scalar.muli v2599 c17_i32_1250
  let v2669 : Index := Scalar.indexCast v2668
  let c0_1251 : Index := 0#32
  ![v2669.toNat, 0]

def k0_chk332 (v2599 : BitVec 32) : Prop :=
  (∀ a, (k0_off662 v2599) a + S16x128.size a ≤ S26136x128.size a) ∧
  (∀ a, (k0_off670 v2599) a + S16x128.size a ≤ S26136x128.size a)
theorem k0_off662_inb : ∀ (v2599 : BitVec 32) (k0_hw332 : k0_chk332 v2599), ∀ a, (k0_off662 v2599) a + S16x128.size a ≤ S26136x128.size a := fun v2599 k0_hw332 => k0_hw332.1
theorem k0_off670_inb : ∀ (v2599 : BitVec 32) (k0_hw332 : k0_chk332 v2599), ∀ a, (k0_off670 v2599) a + S16x128.size a ≤ S26136x128.size a := fun v2599 k0_hw332 => k0_hw332.2

def k0_off671 (v2603 : BitVec 32) : Fin 2 → Nat :=
  let c17_i32_1252 : BitVec 32 := 17#32
  let v2673 : BitVec 32 := Scalar.muli v2603 c17_i32_1252
  let v2674 : Index := Scalar.indexCast v2673
  let c0_1253 : Index := 0#32
  ![v2674.toNat, 0]

def k0_chk333 (v2603 : BitVec 32) : Prop :=
  (∀ a, (k0_off663 v2603) a + S16x128.size a ≤ S26136x128.size a) ∧
  (∀ a, (k0_off671 v2603) a + S16x128.size a ≤ S26136x128.size a)
theorem k0_off663_inb : ∀ (v2603 : BitVec 32) (k0_hw333 : k0_chk333 v2603), ∀ a, (k0_off663 v2603) a + S16x128.size a ≤ S26136x128.size a := fun v2603 k0_hw333 => k0_hw333.1
theorem k0_off671_inb : ∀ (v2603 : BitVec 32) (k0_hw333 : k0_chk333 v2603), ∀ a, (k0_off671 v2603) a + S16x128.size a ≤ S26136x128.size a := fun v2603 k0_hw333 => k0_hw333.2

def k0_off672 (v2607 : BitVec 32) : Fin 2 → Nat :=
  let c17_i32_1254 : BitVec 32 := 17#32
  let v2678 : BitVec 32 := Scalar.muli v2607 c17_i32_1254
  let v2679 : Index := Scalar.indexCast v2678
  let c0_1255 : Index := 0#32
  ![v2679.toNat, 0]

def k0_chk334 (v2607 : BitVec 32) : Prop :=
  (∀ a, (k0_off664 v2607) a + S16x128.size a ≤ S26136x128.size a) ∧
  (∀ a, (k0_off672 v2607) a + S16x128.size a ≤ S26136x128.size a)
theorem k0_off664_inb : ∀ (v2607 : BitVec 32) (k0_hw334 : k0_chk334 v2607), ∀ a, (k0_off664 v2607) a + S16x128.size a ≤ S26136x128.size a := fun v2607 k0_hw334 => k0_hw334.1
theorem k0_off672_inb : ∀ (v2607 : BitVec 32) (k0_hw334 : k0_chk334 v2607), ∀ a, (k0_off672 v2607) a + S16x128.size a ≤ S26136x128.size a := fun v2607 k0_hw334 => k0_hw334.2

def k0_off673 (v2611 : BitVec 32) : Fin 2 → Nat :=
  let c17_i32_1256 : BitVec 32 := 17#32
  let v2683 : BitVec 32 := Scalar.muli v2611 c17_i32_1256
  let v2684 : Index := Scalar.indexCast v2683
  let c0_1257 : Index := 0#32
  ![v2684.toNat, 0]

def k0_chk335 (v2611 : BitVec 32) : Prop :=
  (∀ a, (k0_off665 v2611) a + S16x128.size a ≤ S26136x128.size a) ∧
  (∀ a, (k0_off673 v2611) a + S16x128.size a ≤ S26136x128.size a)
theorem k0_off665_inb : ∀ (v2611 : BitVec 32) (k0_hw335 : k0_chk335 v2611), ∀ a, (k0_off665 v2611) a + S16x128.size a ≤ S26136x128.size a := fun v2611 k0_hw335 => k0_hw335.1
theorem k0_off673_inb : ∀ (v2611 : BitVec 32) (k0_hw335 : k0_chk335 v2611), ∀ a, (k0_off673 v2611) a + S16x128.size a ≤ S26136x128.size a := fun v2611 k0_hw335 => k0_hw335.2

def k0_off674 (v2615 : BitVec 32) : Fin 2 → Nat :=
  let c17_i32_1258 : BitVec 32 := 17#32
  let v2688 : BitVec 32 := Scalar.muli v2615 c17_i32_1258
  let v2689 : Index := Scalar.indexCast v2688
  let c0_1259 : Index := 0#32
  ![v2689.toNat, 0]

def k0_chk336 (v2615 : BitVec 32) : Prop :=
  (∀ a, (k0_off666 v2615) a + S16x128.size a ≤ S26136x128.size a) ∧
  (∀ a, (k0_off674 v2615) a + S16x128.size a ≤ S26136x128.size a)
theorem k0_off666_inb : ∀ (v2615 : BitVec 32) (k0_hw336 : k0_chk336 v2615), ∀ a, (k0_off666 v2615) a + S16x128.size a ≤ S26136x128.size a := fun v2615 k0_hw336 => k0_hw336.1
theorem k0_off674_inb : ∀ (v2615 : BitVec 32) (k0_hw336 : k0_chk336 v2615), ∀ a, (k0_off674 v2615) a + S16x128.size a ≤ S26136x128.size a := fun v2615 k0_hw336 => k0_hw336.2

def k0_off675 (v2619 : BitVec 32) : Fin 2 → Nat :=
  let c17_i32_1260 : BitVec 32 := 17#32
  let v2693 : BitVec 32 := Scalar.muli v2619 c17_i32_1260
  let v2694 : Index := Scalar.indexCast v2693
  let c0_1261 : Index := 0#32
  ![v2694.toNat, 0]

def k0_chk337 (v2619 : BitVec 32) : Prop :=
  (∀ a, (k0_off667 v2619) a + S16x128.size a ≤ S26136x128.size a) ∧
  (∀ a, (k0_off675 v2619) a + S16x128.size a ≤ S26136x128.size a)
theorem k0_off667_inb : ∀ (v2619 : BitVec 32) (k0_hw337 : k0_chk337 v2619), ∀ a, (k0_off667 v2619) a + S16x128.size a ≤ S26136x128.size a := fun v2619 k0_hw337 => k0_hw337.1
theorem k0_off675_inb : ∀ (v2619 : BitVec 32) (k0_hw337 : k0_chk337 v2619), ∀ a, (k0_off675 v2619) a + S16x128.size a ≤ S26136x128.size a := fun v2619 k0_hw337 => k0_hw337.2

def k0_off676 (v2623 : BitVec 32) : Fin 2 → Nat :=
  let c17_i32_1262 : BitVec 32 := 17#32
  let v2698 : BitVec 32 := Scalar.muli v2623 c17_i32_1262
  let v2699 : Index := Scalar.indexCast v2698
  let c0_1263 : Index := 0#32
  ![v2699.toNat, 0]

def k0_chk338 (v2623 : BitVec 32) : Prop :=
  (∀ a, (k0_off668 v2623) a + S16x128.size a ≤ S26136x128.size a) ∧
  (∀ a, (k0_off676 v2623) a + S16x128.size a ≤ S26136x128.size a)
theorem k0_off668_inb : ∀ (v2623 : BitVec 32) (k0_hw338 : k0_chk338 v2623), ∀ a, (k0_off668 v2623) a + S16x128.size a ≤ S26136x128.size a := fun v2623 k0_hw338 => k0_hw338.1
theorem k0_off676_inb : ∀ (v2623 : BitVec 32) (k0_hw338 : k0_chk338 v2623), ∀ a, (k0_off676 v2623) a + S16x128.size a ≤ S26136x128.size a := fun v2623 k0_hw338 => k0_hw338.2

def k0_off677 (v5 : BitVec 32) (k0_t3 : Fin (k0_t3_loop v5).trips) (v36 : BitVec 32) (c0_i32_1267 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c80_i32_1266 : BitVec 32 := 80#32
  let v2708 : BitVec 32 := Scalar.addi v38 c80_i32_1266
  let v2709 : BitVec 32 := Scalar.addi v2708 c0_i32_1267
  let v2710 : Index := Scalar.indexCast v2709
  ![v2710.toNat]
def k0_off678 (v2711 : BitVec 32) : Fin 2 → Nat :=
  let c17_i32_1282 : BitVec 32 := 17#32
  let v2740 : BitVec 32 := Scalar.muli v2711 c17_i32_1282
  let v2741 : Index := Scalar.indexCast v2740
  let c0_1283 : Index := 0#32
  ![v2741.toNat, 0]

def k0_off679 (v2715 : BitVec 32) : Fin 2 → Nat :=
  let c17_i32_1286 : BitVec 32 := 17#32
  let v2745 : BitVec 32 := Scalar.muli v2715 c17_i32_1286
  let v2746 : Index := Scalar.indexCast v2745
  let c0_1287 : Index := 0#32
  ![v2746.toNat, 0]

def k0_off680 (v2719 : BitVec 32) : Fin 2 → Nat :=
  let c17_i32_1290 : BitVec 32 := 17#32
  let v2750 : BitVec 32 := Scalar.muli v2719 c17_i32_1290
  let v2751 : Index := Scalar.indexCast v2750
  let c0_1291 : Index := 0#32
  ![v2751.toNat, 0]

def k0_off681 (v2723 : BitVec 32) : Fin 2 → Nat :=
  let c17_i32_1294 : BitVec 32 := 17#32
  let v2755 : BitVec 32 := Scalar.muli v2723 c17_i32_1294
  let v2756 : Index := Scalar.indexCast v2755
  let c0_1295 : Index := 0#32
  ![v2756.toNat, 0]

def k0_off682 (v2727 : BitVec 32) : Fin 2 → Nat :=
  let c17_i32_1298 : BitVec 32 := 17#32
  let v2760 : BitVec 32 := Scalar.muli v2727 c17_i32_1298
  let v2761 : Index := Scalar.indexCast v2760
  let c0_1299 : Index := 0#32
  ![v2761.toNat, 0]

def k0_off683 (v2731 : BitVec 32) : Fin 2 → Nat :=
  let c17_i32_1302 : BitVec 32 := 17#32
  let v2765 : BitVec 32 := Scalar.muli v2731 c17_i32_1302
  let v2766 : Index := Scalar.indexCast v2765
  let c0_1303 : Index := 0#32
  ![v2766.toNat, 0]

def k0_off684 (v2735 : BitVec 32) : Fin 2 → Nat :=
  let c17_i32_1306 : BitVec 32 := 17#32
  let v2770 : BitVec 32 := Scalar.muli v2735 c17_i32_1306
  let v2771 : Index := Scalar.indexCast v2770
  let c0_1307 : Index := 0#32
  ![v2771.toNat, 0]

def k0_off685 (v2739 : BitVec 32) : Fin 2 → Nat :=
  let c17_i32_1310 : BitVec 32 := 17#32
  let v2775 : BitVec 32 := Scalar.muli v2739 c17_i32_1310
  let v2776 : Index := Scalar.indexCast v2775
  let c0_1311 : Index := 0#32
  ![v2776.toNat, 0]

def k0_chk347 (v2739 : BitVec 32) : Prop :=
  (∀ a, (k0_off685 v2739) a + S16x128.size a ≤ S26136x128.size a)
theorem k0_off685_inb : ∀ (v2739 : BitVec 32) (k0_hw347 : k0_chk347 v2739), ∀ a, (k0_off685 v2739) a + S16x128.size a ≤ S26136x128.size a := fun v2739 k0_hw347 => k0_hw347

def k0_off686 (v2711 : BitVec 32) : Fin 2 → Nat :=
  let c17_i32_1314 : BitVec 32 := 17#32
  let v2780 : BitVec 32 := Scalar.muli v2711 c17_i32_1314
  let v2781 : Index := Scalar.indexCast v2780
  let c0_1315 : Index := 0#32
  ![v2781.toNat, 0]

def k0_chk340 (v2711 : BitVec 32) : Prop :=
  (∀ a, (k0_off678 v2711) a + S16x128.size a ≤ S26136x128.size a) ∧
  (∀ a, (k0_off686 v2711) a + S16x128.size a ≤ S26136x128.size a)
theorem k0_off678_inb : ∀ (v2711 : BitVec 32) (k0_hw340 : k0_chk340 v2711), ∀ a, (k0_off678 v2711) a + S16x128.size a ≤ S26136x128.size a := fun v2711 k0_hw340 => k0_hw340.1
theorem k0_off686_inb : ∀ (v2711 : BitVec 32) (k0_hw340 : k0_chk340 v2711), ∀ a, (k0_off686 v2711) a + S16x128.size a ≤ S26136x128.size a := fun v2711 k0_hw340 => k0_hw340.2

def k0_off687 (v2715 : BitVec 32) : Fin 2 → Nat :=
  let c17_i32_1316 : BitVec 32 := 17#32
  let v2785 : BitVec 32 := Scalar.muli v2715 c17_i32_1316
  let v2786 : Index := Scalar.indexCast v2785
  let c0_1317 : Index := 0#32
  ![v2786.toNat, 0]

def k0_chk341 (v2715 : BitVec 32) : Prop :=
  (∀ a, (k0_off679 v2715) a + S16x128.size a ≤ S26136x128.size a) ∧
  (∀ a, (k0_off687 v2715) a + S16x128.size a ≤ S26136x128.size a)
theorem k0_off679_inb : ∀ (v2715 : BitVec 32) (k0_hw341 : k0_chk341 v2715), ∀ a, (k0_off679 v2715) a + S16x128.size a ≤ S26136x128.size a := fun v2715 k0_hw341 => k0_hw341.1
theorem k0_off687_inb : ∀ (v2715 : BitVec 32) (k0_hw341 : k0_chk341 v2715), ∀ a, (k0_off687 v2715) a + S16x128.size a ≤ S26136x128.size a := fun v2715 k0_hw341 => k0_hw341.2

def k0_off688 (v2719 : BitVec 32) : Fin 2 → Nat :=
  let c17_i32_1318 : BitVec 32 := 17#32
  let v2790 : BitVec 32 := Scalar.muli v2719 c17_i32_1318
  let v2791 : Index := Scalar.indexCast v2790
  let c0_1319 : Index := 0#32
  ![v2791.toNat, 0]

def k0_chk342 (v2719 : BitVec 32) : Prop :=
  (∀ a, (k0_off680 v2719) a + S16x128.size a ≤ S26136x128.size a) ∧
  (∀ a, (k0_off688 v2719) a + S16x128.size a ≤ S26136x128.size a)
theorem k0_off680_inb : ∀ (v2719 : BitVec 32) (k0_hw342 : k0_chk342 v2719), ∀ a, (k0_off680 v2719) a + S16x128.size a ≤ S26136x128.size a := fun v2719 k0_hw342 => k0_hw342.1
theorem k0_off688_inb : ∀ (v2719 : BitVec 32) (k0_hw342 : k0_chk342 v2719), ∀ a, (k0_off688 v2719) a + S16x128.size a ≤ S26136x128.size a := fun v2719 k0_hw342 => k0_hw342.2

def k0_off689 (v2723 : BitVec 32) : Fin 2 → Nat :=
  let c17_i32_1320 : BitVec 32 := 17#32
  let v2795 : BitVec 32 := Scalar.muli v2723 c17_i32_1320
  let v2796 : Index := Scalar.indexCast v2795
  let c0_1321 : Index := 0#32
  ![v2796.toNat, 0]

def k0_chk343 (v2723 : BitVec 32) : Prop :=
  (∀ a, (k0_off681 v2723) a + S16x128.size a ≤ S26136x128.size a) ∧
  (∀ a, (k0_off689 v2723) a + S16x128.size a ≤ S26136x128.size a)
theorem k0_off681_inb : ∀ (v2723 : BitVec 32) (k0_hw343 : k0_chk343 v2723), ∀ a, (k0_off681 v2723) a + S16x128.size a ≤ S26136x128.size a := fun v2723 k0_hw343 => k0_hw343.1
theorem k0_off689_inb : ∀ (v2723 : BitVec 32) (k0_hw343 : k0_chk343 v2723), ∀ a, (k0_off689 v2723) a + S16x128.size a ≤ S26136x128.size a := fun v2723 k0_hw343 => k0_hw343.2

def k0_off690 (v2727 : BitVec 32) : Fin 2 → Nat :=
  let c17_i32_1322 : BitVec 32 := 17#32
  let v2800 : BitVec 32 := Scalar.muli v2727 c17_i32_1322
  let v2801 : Index := Scalar.indexCast v2800
  let c0_1323 : Index := 0#32
  ![v2801.toNat, 0]

def k0_chk344 (v2727 : BitVec 32) : Prop :=
  (∀ a, (k0_off682 v2727) a + S16x128.size a ≤ S26136x128.size a) ∧
  (∀ a, (k0_off690 v2727) a + S16x128.size a ≤ S26136x128.size a)
theorem k0_off682_inb : ∀ (v2727 : BitVec 32) (k0_hw344 : k0_chk344 v2727), ∀ a, (k0_off682 v2727) a + S16x128.size a ≤ S26136x128.size a := fun v2727 k0_hw344 => k0_hw344.1
theorem k0_off690_inb : ∀ (v2727 : BitVec 32) (k0_hw344 : k0_chk344 v2727), ∀ a, (k0_off690 v2727) a + S16x128.size a ≤ S26136x128.size a := fun v2727 k0_hw344 => k0_hw344.2

def k0_off691 (v2731 : BitVec 32) : Fin 2 → Nat :=
  let c17_i32_1324 : BitVec 32 := 17#32
  let v2805 : BitVec 32 := Scalar.muli v2731 c17_i32_1324
  let v2806 : Index := Scalar.indexCast v2805
  let c0_1325 : Index := 0#32
  ![v2806.toNat, 0]

def k0_chk345 (v2731 : BitVec 32) : Prop :=
  (∀ a, (k0_off683 v2731) a + S16x128.size a ≤ S26136x128.size a) ∧
  (∀ a, (k0_off691 v2731) a + S16x128.size a ≤ S26136x128.size a)
theorem k0_off683_inb : ∀ (v2731 : BitVec 32) (k0_hw345 : k0_chk345 v2731), ∀ a, (k0_off683 v2731) a + S16x128.size a ≤ S26136x128.size a := fun v2731 k0_hw345 => k0_hw345.1
theorem k0_off691_inb : ∀ (v2731 : BitVec 32) (k0_hw345 : k0_chk345 v2731), ∀ a, (k0_off691 v2731) a + S16x128.size a ≤ S26136x128.size a := fun v2731 k0_hw345 => k0_hw345.2

def k0_off692 (v2735 : BitVec 32) : Fin 2 → Nat :=
  let c17_i32_1326 : BitVec 32 := 17#32
  let v2810 : BitVec 32 := Scalar.muli v2735 c17_i32_1326
  let v2811 : Index := Scalar.indexCast v2810
  let c0_1327 : Index := 0#32
  ![v2811.toNat, 0]

def k0_chk346 (v2735 : BitVec 32) : Prop :=
  (∀ a, (k0_off684 v2735) a + S16x128.size a ≤ S26136x128.size a) ∧
  (∀ a, (k0_off692 v2735) a + S16x128.size a ≤ S26136x128.size a)
theorem k0_off684_inb : ∀ (v2735 : BitVec 32) (k0_hw346 : k0_chk346 v2735), ∀ a, (k0_off684 v2735) a + S16x128.size a ≤ S26136x128.size a := fun v2735 k0_hw346 => k0_hw346.1
theorem k0_off692_inb : ∀ (v2735 : BitVec 32) (k0_hw346 : k0_chk346 v2735), ∀ a, (k0_off692 v2735) a + S16x128.size a ≤ S26136x128.size a := fun v2735 k0_hw346 => k0_hw346.2

def k0_off693 (v5 : BitVec 32) (k0_t3 : Fin (k0_t3_loop v5).trips) (v36 : BitVec 32) (c0_i32_1331 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c88_i32_1330 : BitVec 32 := 88#32
  let v2820 : BitVec 32 := Scalar.addi v38 c88_i32_1330
  let v2821 : BitVec 32 := Scalar.addi v2820 c0_i32_1331
  let v2822 : Index := Scalar.indexCast v2821
  ![v2822.toNat]
def k0_off694 (v2823 : BitVec 32) : Fin 2 → Nat :=
  let c17_i32_1346 : BitVec 32 := 17#32
  let v2852 : BitVec 32 := Scalar.muli v2823 c17_i32_1346
  let v2853 : Index := Scalar.indexCast v2852
  let c0_1347 : Index := 0#32
  ![v2853.toNat, 0]

def k0_off695 (v2827 : BitVec 32) : Fin 2 → Nat :=
  let c17_i32_1350 : BitVec 32 := 17#32
  let v2857 : BitVec 32 := Scalar.muli v2827 c17_i32_1350
  let v2858 : Index := Scalar.indexCast v2857
  let c0_1351 : Index := 0#32
  ![v2858.toNat, 0]

def k0_off696 (v2831 : BitVec 32) : Fin 2 → Nat :=
  let c17_i32_1354 : BitVec 32 := 17#32
  let v2862 : BitVec 32 := Scalar.muli v2831 c17_i32_1354
  let v2863 : Index := Scalar.indexCast v2862
  let c0_1355 : Index := 0#32
  ![v2863.toNat, 0]

def k0_off697 (v2835 : BitVec 32) : Fin 2 → Nat :=
  let c17_i32_1358 : BitVec 32 := 17#32
  let v2867 : BitVec 32 := Scalar.muli v2835 c17_i32_1358
  let v2868 : Index := Scalar.indexCast v2867
  let c0_1359 : Index := 0#32
  ![v2868.toNat, 0]

def k0_off698 (v2839 : BitVec 32) : Fin 2 → Nat :=
  let c17_i32_1362 : BitVec 32 := 17#32
  let v2872 : BitVec 32 := Scalar.muli v2839 c17_i32_1362
  let v2873 : Index := Scalar.indexCast v2872
  let c0_1363 : Index := 0#32
  ![v2873.toNat, 0]

def k0_off699 (v2843 : BitVec 32) : Fin 2 → Nat :=
  let c17_i32_1366 : BitVec 32 := 17#32
  let v2877 : BitVec 32 := Scalar.muli v2843 c17_i32_1366
  let v2878 : Index := Scalar.indexCast v2877
  let c0_1367 : Index := 0#32
  ![v2878.toNat, 0]

def k0_off700 (v2847 : BitVec 32) : Fin 2 → Nat :=
  let c17_i32_1370 : BitVec 32 := 17#32
  let v2882 : BitVec 32 := Scalar.muli v2847 c17_i32_1370
  let v2883 : Index := Scalar.indexCast v2882
  let c0_1371 : Index := 0#32
  ![v2883.toNat, 0]

def k0_off701 (v2851 : BitVec 32) : Fin 2 → Nat :=
  let c17_i32_1374 : BitVec 32 := 17#32
  let v2887 : BitVec 32 := Scalar.muli v2851 c17_i32_1374
  let v2888 : Index := Scalar.indexCast v2887
  let c0_1375 : Index := 0#32
  ![v2888.toNat, 0]

def k0_chk355 (v2851 : BitVec 32) : Prop :=
  (∀ a, (k0_off701 v2851) a + S16x128.size a ≤ S26136x128.size a)
theorem k0_off701_inb : ∀ (v2851 : BitVec 32) (k0_hw355 : k0_chk355 v2851), ∀ a, (k0_off701 v2851) a + S16x128.size a ≤ S26136x128.size a := fun v2851 k0_hw355 => k0_hw355

def k0_off702 (v2823 : BitVec 32) : Fin 2 → Nat :=
  let c17_i32_1378 : BitVec 32 := 17#32
  let v2892 : BitVec 32 := Scalar.muli v2823 c17_i32_1378
  let v2893 : Index := Scalar.indexCast v2892
  let c0_1379 : Index := 0#32
  ![v2893.toNat, 0]

def k0_chk348 (v2823 : BitVec 32) : Prop :=
  (∀ a, (k0_off694 v2823) a + S16x128.size a ≤ S26136x128.size a) ∧
  (∀ a, (k0_off702 v2823) a + S16x128.size a ≤ S26136x128.size a)
theorem k0_off694_inb : ∀ (v2823 : BitVec 32) (k0_hw348 : k0_chk348 v2823), ∀ a, (k0_off694 v2823) a + S16x128.size a ≤ S26136x128.size a := fun v2823 k0_hw348 => k0_hw348.1
theorem k0_off702_inb : ∀ (v2823 : BitVec 32) (k0_hw348 : k0_chk348 v2823), ∀ a, (k0_off702 v2823) a + S16x128.size a ≤ S26136x128.size a := fun v2823 k0_hw348 => k0_hw348.2

def k0_off703 (v2827 : BitVec 32) : Fin 2 → Nat :=
  let c17_i32_1380 : BitVec 32 := 17#32
  let v2897 : BitVec 32 := Scalar.muli v2827 c17_i32_1380
  let v2898 : Index := Scalar.indexCast v2897
  let c0_1381 : Index := 0#32
  ![v2898.toNat, 0]

def k0_chk349 (v2827 : BitVec 32) : Prop :=
  (∀ a, (k0_off695 v2827) a + S16x128.size a ≤ S26136x128.size a) ∧
  (∀ a, (k0_off703 v2827) a + S16x128.size a ≤ S26136x128.size a)
theorem k0_off695_inb : ∀ (v2827 : BitVec 32) (k0_hw349 : k0_chk349 v2827), ∀ a, (k0_off695 v2827) a + S16x128.size a ≤ S26136x128.size a := fun v2827 k0_hw349 => k0_hw349.1
theorem k0_off703_inb : ∀ (v2827 : BitVec 32) (k0_hw349 : k0_chk349 v2827), ∀ a, (k0_off703 v2827) a + S16x128.size a ≤ S26136x128.size a := fun v2827 k0_hw349 => k0_hw349.2

def k0_off704 (v2831 : BitVec 32) : Fin 2 → Nat :=
  let c17_i32_1382 : BitVec 32 := 17#32
  let v2902 : BitVec 32 := Scalar.muli v2831 c17_i32_1382
  let v2903 : Index := Scalar.indexCast v2902
  let c0_1383 : Index := 0#32
  ![v2903.toNat, 0]

def k0_chk350 (v2831 : BitVec 32) : Prop :=
  (∀ a, (k0_off696 v2831) a + S16x128.size a ≤ S26136x128.size a) ∧
  (∀ a, (k0_off704 v2831) a + S16x128.size a ≤ S26136x128.size a)
theorem k0_off696_inb : ∀ (v2831 : BitVec 32) (k0_hw350 : k0_chk350 v2831), ∀ a, (k0_off696 v2831) a + S16x128.size a ≤ S26136x128.size a := fun v2831 k0_hw350 => k0_hw350.1
theorem k0_off704_inb : ∀ (v2831 : BitVec 32) (k0_hw350 : k0_chk350 v2831), ∀ a, (k0_off704 v2831) a + S16x128.size a ≤ S26136x128.size a := fun v2831 k0_hw350 => k0_hw350.2

def k0_off705 (v2835 : BitVec 32) : Fin 2 → Nat :=
  let c17_i32_1384 : BitVec 32 := 17#32
  let v2907 : BitVec 32 := Scalar.muli v2835 c17_i32_1384
  let v2908 : Index := Scalar.indexCast v2907
  let c0_1385 : Index := 0#32
  ![v2908.toNat, 0]

def k0_chk351 (v2835 : BitVec 32) : Prop :=
  (∀ a, (k0_off697 v2835) a + S16x128.size a ≤ S26136x128.size a) ∧
  (∀ a, (k0_off705 v2835) a + S16x128.size a ≤ S26136x128.size a)
theorem k0_off697_inb : ∀ (v2835 : BitVec 32) (k0_hw351 : k0_chk351 v2835), ∀ a, (k0_off697 v2835) a + S16x128.size a ≤ S26136x128.size a := fun v2835 k0_hw351 => k0_hw351.1
theorem k0_off705_inb : ∀ (v2835 : BitVec 32) (k0_hw351 : k0_chk351 v2835), ∀ a, (k0_off705 v2835) a + S16x128.size a ≤ S26136x128.size a := fun v2835 k0_hw351 => k0_hw351.2

def k0_off706 (v2839 : BitVec 32) : Fin 2 → Nat :=
  let c17_i32_1386 : BitVec 32 := 17#32
  let v2912 : BitVec 32 := Scalar.muli v2839 c17_i32_1386
  let v2913 : Index := Scalar.indexCast v2912
  let c0_1387 : Index := 0#32
  ![v2913.toNat, 0]

def k0_chk352 (v2839 : BitVec 32) : Prop :=
  (∀ a, (k0_off698 v2839) a + S16x128.size a ≤ S26136x128.size a) ∧
  (∀ a, (k0_off706 v2839) a + S16x128.size a ≤ S26136x128.size a)
theorem k0_off698_inb : ∀ (v2839 : BitVec 32) (k0_hw352 : k0_chk352 v2839), ∀ a, (k0_off698 v2839) a + S16x128.size a ≤ S26136x128.size a := fun v2839 k0_hw352 => k0_hw352.1
theorem k0_off706_inb : ∀ (v2839 : BitVec 32) (k0_hw352 : k0_chk352 v2839), ∀ a, (k0_off706 v2839) a + S16x128.size a ≤ S26136x128.size a := fun v2839 k0_hw352 => k0_hw352.2

def k0_off707 (v2843 : BitVec 32) : Fin 2 → Nat :=
  let c17_i32_1388 : BitVec 32 := 17#32
  let v2917 : BitVec 32 := Scalar.muli v2843 c17_i32_1388
  let v2918 : Index := Scalar.indexCast v2917
  let c0_1389 : Index := 0#32
  ![v2918.toNat, 0]

def k0_chk353 (v2843 : BitVec 32) : Prop :=
  (∀ a, (k0_off699 v2843) a + S16x128.size a ≤ S26136x128.size a) ∧
  (∀ a, (k0_off707 v2843) a + S16x128.size a ≤ S26136x128.size a)
theorem k0_off699_inb : ∀ (v2843 : BitVec 32) (k0_hw353 : k0_chk353 v2843), ∀ a, (k0_off699 v2843) a + S16x128.size a ≤ S26136x128.size a := fun v2843 k0_hw353 => k0_hw353.1
theorem k0_off707_inb : ∀ (v2843 : BitVec 32) (k0_hw353 : k0_chk353 v2843), ∀ a, (k0_off707 v2843) a + S16x128.size a ≤ S26136x128.size a := fun v2843 k0_hw353 => k0_hw353.2

def k0_off708 (v2847 : BitVec 32) : Fin 2 → Nat :=
  let c17_i32_1390 : BitVec 32 := 17#32
  let v2922 : BitVec 32 := Scalar.muli v2847 c17_i32_1390
  let v2923 : Index := Scalar.indexCast v2922
  let c0_1391 : Index := 0#32
  ![v2923.toNat, 0]

def k0_chk354 (v2847 : BitVec 32) : Prop :=
  (∀ a, (k0_off700 v2847) a + S16x128.size a ≤ S26136x128.size a) ∧
  (∀ a, (k0_off708 v2847) a + S16x128.size a ≤ S26136x128.size a)
theorem k0_off700_inb : ∀ (v2847 : BitVec 32) (k0_hw354 : k0_chk354 v2847), ∀ a, (k0_off700 v2847) a + S16x128.size a ≤ S26136x128.size a := fun v2847 k0_hw354 => k0_hw354.1
theorem k0_off708_inb : ∀ (v2847 : BitVec 32) (k0_hw354 : k0_chk354 v2847), ∀ a, (k0_off708 v2847) a + S16x128.size a ≤ S26136x128.size a := fun v2847 k0_hw354 => k0_hw354.2

def k0_off709 (v5 : BitVec 32) (k0_t3 : Fin (k0_t3_loop v5).trips) (v36 : BitVec 32) (c0_i32_1395 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c96_i32_1394 : BitVec 32 := 96#32
  let v2932 : BitVec 32 := Scalar.addi v38 c96_i32_1394
  let v2933 : BitVec 32 := Scalar.addi v2932 c0_i32_1395
  let v2934 : Index := Scalar.indexCast v2933
  ![v2934.toNat]
def k0_off710 (v2935 : BitVec 32) : Fin 2 → Nat :=
  let c17_i32_1410 : BitVec 32 := 17#32
  let v2964 : BitVec 32 := Scalar.muli v2935 c17_i32_1410
  let v2965 : Index := Scalar.indexCast v2964
  let c0_1411 : Index := 0#32
  ![v2965.toNat, 0]

def k0_off711 (v2939 : BitVec 32) : Fin 2 → Nat :=
  let c17_i32_1414 : BitVec 32 := 17#32
  let v2969 : BitVec 32 := Scalar.muli v2939 c17_i32_1414
  let v2970 : Index := Scalar.indexCast v2969
  let c0_1415 : Index := 0#32
  ![v2970.toNat, 0]

def k0_off712 (v2943 : BitVec 32) : Fin 2 → Nat :=
  let c17_i32_1418 : BitVec 32 := 17#32
  let v2974 : BitVec 32 := Scalar.muli v2943 c17_i32_1418
  let v2975 : Index := Scalar.indexCast v2974
  let c0_1419 : Index := 0#32
  ![v2975.toNat, 0]

def k0_off713 (v2947 : BitVec 32) : Fin 2 → Nat :=
  let c17_i32_1422 : BitVec 32 := 17#32
  let v2979 : BitVec 32 := Scalar.muli v2947 c17_i32_1422
  let v2980 : Index := Scalar.indexCast v2979
  let c0_1423 : Index := 0#32
  ![v2980.toNat, 0]

def k0_off714 (v2951 : BitVec 32) : Fin 2 → Nat :=
  let c17_i32_1426 : BitVec 32 := 17#32
  let v2984 : BitVec 32 := Scalar.muli v2951 c17_i32_1426
  let v2985 : Index := Scalar.indexCast v2984
  let c0_1427 : Index := 0#32
  ![v2985.toNat, 0]

def k0_off715 (v2955 : BitVec 32) : Fin 2 → Nat :=
  let c17_i32_1430 : BitVec 32 := 17#32
  let v2989 : BitVec 32 := Scalar.muli v2955 c17_i32_1430
  let v2990 : Index := Scalar.indexCast v2989
  let c0_1431 : Index := 0#32
  ![v2990.toNat, 0]

def k0_off716 (v2959 : BitVec 32) : Fin 2 → Nat :=
  let c17_i32_1434 : BitVec 32 := 17#32
  let v2994 : BitVec 32 := Scalar.muli v2959 c17_i32_1434
  let v2995 : Index := Scalar.indexCast v2994
  let c0_1435 : Index := 0#32
  ![v2995.toNat, 0]

def k0_off717 (v2963 : BitVec 32) : Fin 2 → Nat :=
  let c17_i32_1438 : BitVec 32 := 17#32
  let v2999 : BitVec 32 := Scalar.muli v2963 c17_i32_1438
  let v3000 : Index := Scalar.indexCast v2999
  let c0_1439 : Index := 0#32
  ![v3000.toNat, 0]

def k0_chk363 (v2963 : BitVec 32) : Prop :=
  (∀ a, (k0_off717 v2963) a + S16x128.size a ≤ S26136x128.size a)
theorem k0_off717_inb : ∀ (v2963 : BitVec 32) (k0_hw363 : k0_chk363 v2963), ∀ a, (k0_off717 v2963) a + S16x128.size a ≤ S26136x128.size a := fun v2963 k0_hw363 => k0_hw363

def k0_off718 (v2935 : BitVec 32) : Fin 2 → Nat :=
  let c17_i32_1442 : BitVec 32 := 17#32
  let v3004 : BitVec 32 := Scalar.muli v2935 c17_i32_1442
  let v3005 : Index := Scalar.indexCast v3004
  let c0_1443 : Index := 0#32
  ![v3005.toNat, 0]

def k0_chk356 (v2935 : BitVec 32) : Prop :=
  (∀ a, (k0_off710 v2935) a + S16x128.size a ≤ S26136x128.size a) ∧
  (∀ a, (k0_off718 v2935) a + S16x128.size a ≤ S26136x128.size a)
theorem k0_off710_inb : ∀ (v2935 : BitVec 32) (k0_hw356 : k0_chk356 v2935), ∀ a, (k0_off710 v2935) a + S16x128.size a ≤ S26136x128.size a := fun v2935 k0_hw356 => k0_hw356.1
theorem k0_off718_inb : ∀ (v2935 : BitVec 32) (k0_hw356 : k0_chk356 v2935), ∀ a, (k0_off718 v2935) a + S16x128.size a ≤ S26136x128.size a := fun v2935 k0_hw356 => k0_hw356.2

def k0_off719 (v2939 : BitVec 32) : Fin 2 → Nat :=
  let c17_i32_1444 : BitVec 32 := 17#32
  let v3009 : BitVec 32 := Scalar.muli v2939 c17_i32_1444
  let v3010 : Index := Scalar.indexCast v3009
  let c0_1445 : Index := 0#32
  ![v3010.toNat, 0]

def k0_chk357 (v2939 : BitVec 32) : Prop :=
  (∀ a, (k0_off711 v2939) a + S16x128.size a ≤ S26136x128.size a) ∧
  (∀ a, (k0_off719 v2939) a + S16x128.size a ≤ S26136x128.size a)
theorem k0_off711_inb : ∀ (v2939 : BitVec 32) (k0_hw357 : k0_chk357 v2939), ∀ a, (k0_off711 v2939) a + S16x128.size a ≤ S26136x128.size a := fun v2939 k0_hw357 => k0_hw357.1
theorem k0_off719_inb : ∀ (v2939 : BitVec 32) (k0_hw357 : k0_chk357 v2939), ∀ a, (k0_off719 v2939) a + S16x128.size a ≤ S26136x128.size a := fun v2939 k0_hw357 => k0_hw357.2

def k0_off720 (v2943 : BitVec 32) : Fin 2 → Nat :=
  let c17_i32_1446 : BitVec 32 := 17#32
  let v3014 : BitVec 32 := Scalar.muli v2943 c17_i32_1446
  let v3015 : Index := Scalar.indexCast v3014
  let c0_1447 : Index := 0#32
  ![v3015.toNat, 0]

def k0_chk358 (v2943 : BitVec 32) : Prop :=
  (∀ a, (k0_off712 v2943) a + S16x128.size a ≤ S26136x128.size a) ∧
  (∀ a, (k0_off720 v2943) a + S16x128.size a ≤ S26136x128.size a)
theorem k0_off712_inb : ∀ (v2943 : BitVec 32) (k0_hw358 : k0_chk358 v2943), ∀ a, (k0_off712 v2943) a + S16x128.size a ≤ S26136x128.size a := fun v2943 k0_hw358 => k0_hw358.1
theorem k0_off720_inb : ∀ (v2943 : BitVec 32) (k0_hw358 : k0_chk358 v2943), ∀ a, (k0_off720 v2943) a + S16x128.size a ≤ S26136x128.size a := fun v2943 k0_hw358 => k0_hw358.2

def k0_off721 (v2947 : BitVec 32) : Fin 2 → Nat :=
  let c17_i32_1448 : BitVec 32 := 17#32
  let v3019 : BitVec 32 := Scalar.muli v2947 c17_i32_1448
  let v3020 : Index := Scalar.indexCast v3019
  let c0_1449 : Index := 0#32
  ![v3020.toNat, 0]

def k0_chk359 (v2947 : BitVec 32) : Prop :=
  (∀ a, (k0_off713 v2947) a + S16x128.size a ≤ S26136x128.size a) ∧
  (∀ a, (k0_off721 v2947) a + S16x128.size a ≤ S26136x128.size a)
theorem k0_off713_inb : ∀ (v2947 : BitVec 32) (k0_hw359 : k0_chk359 v2947), ∀ a, (k0_off713 v2947) a + S16x128.size a ≤ S26136x128.size a := fun v2947 k0_hw359 => k0_hw359.1
theorem k0_off721_inb : ∀ (v2947 : BitVec 32) (k0_hw359 : k0_chk359 v2947), ∀ a, (k0_off721 v2947) a + S16x128.size a ≤ S26136x128.size a := fun v2947 k0_hw359 => k0_hw359.2

def k0_off722 (v2951 : BitVec 32) : Fin 2 → Nat :=
  let c17_i32_1450 : BitVec 32 := 17#32
  let v3024 : BitVec 32 := Scalar.muli v2951 c17_i32_1450
  let v3025 : Index := Scalar.indexCast v3024
  let c0_1451 : Index := 0#32
  ![v3025.toNat, 0]

def k0_chk360 (v2951 : BitVec 32) : Prop :=
  (∀ a, (k0_off714 v2951) a + S16x128.size a ≤ S26136x128.size a) ∧
  (∀ a, (k0_off722 v2951) a + S16x128.size a ≤ S26136x128.size a)
theorem k0_off714_inb : ∀ (v2951 : BitVec 32) (k0_hw360 : k0_chk360 v2951), ∀ a, (k0_off714 v2951) a + S16x128.size a ≤ S26136x128.size a := fun v2951 k0_hw360 => k0_hw360.1
theorem k0_off722_inb : ∀ (v2951 : BitVec 32) (k0_hw360 : k0_chk360 v2951), ∀ a, (k0_off722 v2951) a + S16x128.size a ≤ S26136x128.size a := fun v2951 k0_hw360 => k0_hw360.2

def k0_off723 (v2955 : BitVec 32) : Fin 2 → Nat :=
  let c17_i32_1452 : BitVec 32 := 17#32
  let v3029 : BitVec 32 := Scalar.muli v2955 c17_i32_1452
  let v3030 : Index := Scalar.indexCast v3029
  let c0_1453 : Index := 0#32
  ![v3030.toNat, 0]

def k0_chk361 (v2955 : BitVec 32) : Prop :=
  (∀ a, (k0_off715 v2955) a + S16x128.size a ≤ S26136x128.size a) ∧
  (∀ a, (k0_off723 v2955) a + S16x128.size a ≤ S26136x128.size a)
theorem k0_off715_inb : ∀ (v2955 : BitVec 32) (k0_hw361 : k0_chk361 v2955), ∀ a, (k0_off715 v2955) a + S16x128.size a ≤ S26136x128.size a := fun v2955 k0_hw361 => k0_hw361.1
theorem k0_off723_inb : ∀ (v2955 : BitVec 32) (k0_hw361 : k0_chk361 v2955), ∀ a, (k0_off723 v2955) a + S16x128.size a ≤ S26136x128.size a := fun v2955 k0_hw361 => k0_hw361.2

def k0_off724 (v2959 : BitVec 32) : Fin 2 → Nat :=
  let c17_i32_1454 : BitVec 32 := 17#32
  let v3034 : BitVec 32 := Scalar.muli v2959 c17_i32_1454
  let v3035 : Index := Scalar.indexCast v3034
  let c0_1455 : Index := 0#32
  ![v3035.toNat, 0]

def k0_chk362 (v2959 : BitVec 32) : Prop :=
  (∀ a, (k0_off716 v2959) a + S16x128.size a ≤ S26136x128.size a) ∧
  (∀ a, (k0_off724 v2959) a + S16x128.size a ≤ S26136x128.size a)
theorem k0_off716_inb : ∀ (v2959 : BitVec 32) (k0_hw362 : k0_chk362 v2959), ∀ a, (k0_off716 v2959) a + S16x128.size a ≤ S26136x128.size a := fun v2959 k0_hw362 => k0_hw362.1
theorem k0_off724_inb : ∀ (v2959 : BitVec 32) (k0_hw362 : k0_chk362 v2959), ∀ a, (k0_off724 v2959) a + S16x128.size a ≤ S26136x128.size a := fun v2959 k0_hw362 => k0_hw362.2

def k0_off725 (v5 : BitVec 32) (k0_t3 : Fin (k0_t3_loop v5).trips) (v36 : BitVec 32) (c0_i32_1459 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c104_i32_1458 : BitVec 32 := 104#32
  let v3044 : BitVec 32 := Scalar.addi v38 c104_i32_1458
  let v3045 : BitVec 32 := Scalar.addi v3044 c0_i32_1459
  let v3046 : Index := Scalar.indexCast v3045
  ![v3046.toNat]
def k0_off726 (v3047 : BitVec 32) : Fin 2 → Nat :=
  let c17_i32_1474 : BitVec 32 := 17#32
  let v3076 : BitVec 32 := Scalar.muli v3047 c17_i32_1474
  let v3077 : Index := Scalar.indexCast v3076
  let c0_1475 : Index := 0#32
  ![v3077.toNat, 0]

def k0_off727 (v3051 : BitVec 32) : Fin 2 → Nat :=
  let c17_i32_1478 : BitVec 32 := 17#32
  let v3081 : BitVec 32 := Scalar.muli v3051 c17_i32_1478
  let v3082 : Index := Scalar.indexCast v3081
  let c0_1479 : Index := 0#32
  ![v3082.toNat, 0]

def k0_off728 (v3055 : BitVec 32) : Fin 2 → Nat :=
  let c17_i32_1482 : BitVec 32 := 17#32
  let v3086 : BitVec 32 := Scalar.muli v3055 c17_i32_1482
  let v3087 : Index := Scalar.indexCast v3086
  let c0_1483 : Index := 0#32
  ![v3087.toNat, 0]

def k0_off729 (v3059 : BitVec 32) : Fin 2 → Nat :=
  let c17_i32_1486 : BitVec 32 := 17#32
  let v3091 : BitVec 32 := Scalar.muli v3059 c17_i32_1486
  let v3092 : Index := Scalar.indexCast v3091
  let c0_1487 : Index := 0#32
  ![v3092.toNat, 0]

def k0_off730 (v3063 : BitVec 32) : Fin 2 → Nat :=
  let c17_i32_1490 : BitVec 32 := 17#32
  let v3096 : BitVec 32 := Scalar.muli v3063 c17_i32_1490
  let v3097 : Index := Scalar.indexCast v3096
  let c0_1491 : Index := 0#32
  ![v3097.toNat, 0]

def k0_off731 (v3067 : BitVec 32) : Fin 2 → Nat :=
  let c17_i32_1494 : BitVec 32 := 17#32
  let v3101 : BitVec 32 := Scalar.muli v3067 c17_i32_1494
  let v3102 : Index := Scalar.indexCast v3101
  let c0_1495 : Index := 0#32
  ![v3102.toNat, 0]

def k0_off732 (v3071 : BitVec 32) : Fin 2 → Nat :=
  let c17_i32_1498 : BitVec 32 := 17#32
  let v3106 : BitVec 32 := Scalar.muli v3071 c17_i32_1498
  let v3107 : Index := Scalar.indexCast v3106
  let c0_1499 : Index := 0#32
  ![v3107.toNat, 0]

def k0_off733 (v3075 : BitVec 32) : Fin 2 → Nat :=
  let c17_i32_1502 : BitVec 32 := 17#32
  let v3111 : BitVec 32 := Scalar.muli v3075 c17_i32_1502
  let v3112 : Index := Scalar.indexCast v3111
  let c0_1503 : Index := 0#32
  ![v3112.toNat, 0]

def k0_chk371 (v3075 : BitVec 32) : Prop :=
  (∀ a, (k0_off733 v3075) a + S16x128.size a ≤ S26136x128.size a)
theorem k0_off733_inb : ∀ (v3075 : BitVec 32) (k0_hw371 : k0_chk371 v3075), ∀ a, (k0_off733 v3075) a + S16x128.size a ≤ S26136x128.size a := fun v3075 k0_hw371 => k0_hw371

def k0_off734 (v3047 : BitVec 32) : Fin 2 → Nat :=
  let c17_i32_1506 : BitVec 32 := 17#32
  let v3116 : BitVec 32 := Scalar.muli v3047 c17_i32_1506
  let v3117 : Index := Scalar.indexCast v3116
  let c0_1507 : Index := 0#32
  ![v3117.toNat, 0]

def k0_chk364 (v3047 : BitVec 32) : Prop :=
  (∀ a, (k0_off726 v3047) a + S16x128.size a ≤ S26136x128.size a) ∧
  (∀ a, (k0_off734 v3047) a + S16x128.size a ≤ S26136x128.size a)
theorem k0_off726_inb : ∀ (v3047 : BitVec 32) (k0_hw364 : k0_chk364 v3047), ∀ a, (k0_off726 v3047) a + S16x128.size a ≤ S26136x128.size a := fun v3047 k0_hw364 => k0_hw364.1
theorem k0_off734_inb : ∀ (v3047 : BitVec 32) (k0_hw364 : k0_chk364 v3047), ∀ a, (k0_off734 v3047) a + S16x128.size a ≤ S26136x128.size a := fun v3047 k0_hw364 => k0_hw364.2

def k0_off735 (v3051 : BitVec 32) : Fin 2 → Nat :=
  let c17_i32_1508 : BitVec 32 := 17#32
  let v3121 : BitVec 32 := Scalar.muli v3051 c17_i32_1508
  let v3122 : Index := Scalar.indexCast v3121
  let c0_1509 : Index := 0#32
  ![v3122.toNat, 0]

def k0_chk365 (v3051 : BitVec 32) : Prop :=
  (∀ a, (k0_off727 v3051) a + S16x128.size a ≤ S26136x128.size a) ∧
  (∀ a, (k0_off735 v3051) a + S16x128.size a ≤ S26136x128.size a)
theorem k0_off727_inb : ∀ (v3051 : BitVec 32) (k0_hw365 : k0_chk365 v3051), ∀ a, (k0_off727 v3051) a + S16x128.size a ≤ S26136x128.size a := fun v3051 k0_hw365 => k0_hw365.1
theorem k0_off735_inb : ∀ (v3051 : BitVec 32) (k0_hw365 : k0_chk365 v3051), ∀ a, (k0_off735 v3051) a + S16x128.size a ≤ S26136x128.size a := fun v3051 k0_hw365 => k0_hw365.2

def k0_off736 (v3055 : BitVec 32) : Fin 2 → Nat :=
  let c17_i32_1510 : BitVec 32 := 17#32
  let v3126 : BitVec 32 := Scalar.muli v3055 c17_i32_1510
  let v3127 : Index := Scalar.indexCast v3126
  let c0_1511 : Index := 0#32
  ![v3127.toNat, 0]

def k0_chk366 (v3055 : BitVec 32) : Prop :=
  (∀ a, (k0_off728 v3055) a + S16x128.size a ≤ S26136x128.size a) ∧
  (∀ a, (k0_off736 v3055) a + S16x128.size a ≤ S26136x128.size a)
theorem k0_off728_inb : ∀ (v3055 : BitVec 32) (k0_hw366 : k0_chk366 v3055), ∀ a, (k0_off728 v3055) a + S16x128.size a ≤ S26136x128.size a := fun v3055 k0_hw366 => k0_hw366.1
theorem k0_off736_inb : ∀ (v3055 : BitVec 32) (k0_hw366 : k0_chk366 v3055), ∀ a, (k0_off736 v3055) a + S16x128.size a ≤ S26136x128.size a := fun v3055 k0_hw366 => k0_hw366.2

def k0_off737 (v3059 : BitVec 32) : Fin 2 → Nat :=
  let c17_i32_1512 : BitVec 32 := 17#32
  let v3131 : BitVec 32 := Scalar.muli v3059 c17_i32_1512
  let v3132 : Index := Scalar.indexCast v3131
  let c0_1513 : Index := 0#32
  ![v3132.toNat, 0]

def k0_chk367 (v3059 : BitVec 32) : Prop :=
  (∀ a, (k0_off729 v3059) a + S16x128.size a ≤ S26136x128.size a) ∧
  (∀ a, (k0_off737 v3059) a + S16x128.size a ≤ S26136x128.size a)
theorem k0_off729_inb : ∀ (v3059 : BitVec 32) (k0_hw367 : k0_chk367 v3059), ∀ a, (k0_off729 v3059) a + S16x128.size a ≤ S26136x128.size a := fun v3059 k0_hw367 => k0_hw367.1
theorem k0_off737_inb : ∀ (v3059 : BitVec 32) (k0_hw367 : k0_chk367 v3059), ∀ a, (k0_off737 v3059) a + S16x128.size a ≤ S26136x128.size a := fun v3059 k0_hw367 => k0_hw367.2

def k0_off738 (v3063 : BitVec 32) : Fin 2 → Nat :=
  let c17_i32_1514 : BitVec 32 := 17#32
  let v3136 : BitVec 32 := Scalar.muli v3063 c17_i32_1514
  let v3137 : Index := Scalar.indexCast v3136
  let c0_1515 : Index := 0#32
  ![v3137.toNat, 0]

def k0_chk368 (v3063 : BitVec 32) : Prop :=
  (∀ a, (k0_off730 v3063) a + S16x128.size a ≤ S26136x128.size a) ∧
  (∀ a, (k0_off738 v3063) a + S16x128.size a ≤ S26136x128.size a)
theorem k0_off730_inb : ∀ (v3063 : BitVec 32) (k0_hw368 : k0_chk368 v3063), ∀ a, (k0_off730 v3063) a + S16x128.size a ≤ S26136x128.size a := fun v3063 k0_hw368 => k0_hw368.1
theorem k0_off738_inb : ∀ (v3063 : BitVec 32) (k0_hw368 : k0_chk368 v3063), ∀ a, (k0_off738 v3063) a + S16x128.size a ≤ S26136x128.size a := fun v3063 k0_hw368 => k0_hw368.2

def k0_off739 (v3067 : BitVec 32) : Fin 2 → Nat :=
  let c17_i32_1516 : BitVec 32 := 17#32
  let v3141 : BitVec 32 := Scalar.muli v3067 c17_i32_1516
  let v3142 : Index := Scalar.indexCast v3141
  let c0_1517 : Index := 0#32
  ![v3142.toNat, 0]

def k0_chk369 (v3067 : BitVec 32) : Prop :=
  (∀ a, (k0_off731 v3067) a + S16x128.size a ≤ S26136x128.size a) ∧
  (∀ a, (k0_off739 v3067) a + S16x128.size a ≤ S26136x128.size a)
theorem k0_off731_inb : ∀ (v3067 : BitVec 32) (k0_hw369 : k0_chk369 v3067), ∀ a, (k0_off731 v3067) a + S16x128.size a ≤ S26136x128.size a := fun v3067 k0_hw369 => k0_hw369.1
theorem k0_off739_inb : ∀ (v3067 : BitVec 32) (k0_hw369 : k0_chk369 v3067), ∀ a, (k0_off739 v3067) a + S16x128.size a ≤ S26136x128.size a := fun v3067 k0_hw369 => k0_hw369.2

def k0_off740 (v3071 : BitVec 32) : Fin 2 → Nat :=
  let c17_i32_1518 : BitVec 32 := 17#32
  let v3146 : BitVec 32 := Scalar.muli v3071 c17_i32_1518
  let v3147 : Index := Scalar.indexCast v3146
  let c0_1519 : Index := 0#32
  ![v3147.toNat, 0]

def k0_chk370 (v3071 : BitVec 32) : Prop :=
  (∀ a, (k0_off732 v3071) a + S16x128.size a ≤ S26136x128.size a) ∧
  (∀ a, (k0_off740 v3071) a + S16x128.size a ≤ S26136x128.size a)
theorem k0_off732_inb : ∀ (v3071 : BitVec 32) (k0_hw370 : k0_chk370 v3071), ∀ a, (k0_off732 v3071) a + S16x128.size a ≤ S26136x128.size a := fun v3071 k0_hw370 => k0_hw370.1
theorem k0_off740_inb : ∀ (v3071 : BitVec 32) (k0_hw370 : k0_chk370 v3071), ∀ a, (k0_off740 v3071) a + S16x128.size a ≤ S26136x128.size a := fun v3071 k0_hw370 => k0_hw370.2

def k0_off741 (v5 : BitVec 32) (k0_t3 : Fin (k0_t3_loop v5).trips) (v36 : BitVec 32) (c0_i32_1523 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c112_i32_1522 : BitVec 32 := 112#32
  let v3156 : BitVec 32 := Scalar.addi v38 c112_i32_1522
  let v3157 : BitVec 32 := Scalar.addi v3156 c0_i32_1523
  let v3158 : Index := Scalar.indexCast v3157
  ![v3158.toNat]
def k0_off742 (v3159 : BitVec 32) : Fin 2 → Nat :=
  let c17_i32_1538 : BitVec 32 := 17#32
  let v3188 : BitVec 32 := Scalar.muli v3159 c17_i32_1538
  let v3189 : Index := Scalar.indexCast v3188
  let c0_1539 : Index := 0#32
  ![v3189.toNat, 0]

def k0_off743 (v3163 : BitVec 32) : Fin 2 → Nat :=
  let c17_i32_1542 : BitVec 32 := 17#32
  let v3193 : BitVec 32 := Scalar.muli v3163 c17_i32_1542
  let v3194 : Index := Scalar.indexCast v3193
  let c0_1543 : Index := 0#32
  ![v3194.toNat, 0]

def k0_off744 (v3167 : BitVec 32) : Fin 2 → Nat :=
  let c17_i32_1546 : BitVec 32 := 17#32
  let v3198 : BitVec 32 := Scalar.muli v3167 c17_i32_1546
  let v3199 : Index := Scalar.indexCast v3198
  let c0_1547 : Index := 0#32
  ![v3199.toNat, 0]

def k0_off745 (v3171 : BitVec 32) : Fin 2 → Nat :=
  let c17_i32_1550 : BitVec 32 := 17#32
  let v3203 : BitVec 32 := Scalar.muli v3171 c17_i32_1550
  let v3204 : Index := Scalar.indexCast v3203
  let c0_1551 : Index := 0#32
  ![v3204.toNat, 0]

def k0_off746 (v3175 : BitVec 32) : Fin 2 → Nat :=
  let c17_i32_1554 : BitVec 32 := 17#32
  let v3208 : BitVec 32 := Scalar.muli v3175 c17_i32_1554
  let v3209 : Index := Scalar.indexCast v3208
  let c0_1555 : Index := 0#32
  ![v3209.toNat, 0]

def k0_off747 (v3179 : BitVec 32) : Fin 2 → Nat :=
  let c17_i32_1558 : BitVec 32 := 17#32
  let v3213 : BitVec 32 := Scalar.muli v3179 c17_i32_1558
  let v3214 : Index := Scalar.indexCast v3213
  let c0_1559 : Index := 0#32
  ![v3214.toNat, 0]

def k0_off748 (v3183 : BitVec 32) : Fin 2 → Nat :=
  let c17_i32_1562 : BitVec 32 := 17#32
  let v3218 : BitVec 32 := Scalar.muli v3183 c17_i32_1562
  let v3219 : Index := Scalar.indexCast v3218
  let c0_1563 : Index := 0#32
  ![v3219.toNat, 0]

def k0_off749 (v3187 : BitVec 32) : Fin 2 → Nat :=
  let c17_i32_1566 : BitVec 32 := 17#32
  let v3223 : BitVec 32 := Scalar.muli v3187 c17_i32_1566
  let v3224 : Index := Scalar.indexCast v3223
  let c0_1567 : Index := 0#32
  ![v3224.toNat, 0]

def k0_chk379 (v3187 : BitVec 32) : Prop :=
  (∀ a, (k0_off749 v3187) a + S16x128.size a ≤ S26136x128.size a)
theorem k0_off749_inb : ∀ (v3187 : BitVec 32) (k0_hw379 : k0_chk379 v3187), ∀ a, (k0_off749 v3187) a + S16x128.size a ≤ S26136x128.size a := fun v3187 k0_hw379 => k0_hw379

def k0_off750 (v3159 : BitVec 32) : Fin 2 → Nat :=
  let c17_i32_1570 : BitVec 32 := 17#32
  let v3228 : BitVec 32 := Scalar.muli v3159 c17_i32_1570
  let v3229 : Index := Scalar.indexCast v3228
  let c0_1571 : Index := 0#32
  ![v3229.toNat, 0]

def k0_chk372 (v3159 : BitVec 32) : Prop :=
  (∀ a, (k0_off742 v3159) a + S16x128.size a ≤ S26136x128.size a) ∧
  (∀ a, (k0_off750 v3159) a + S16x128.size a ≤ S26136x128.size a)
theorem k0_off742_inb : ∀ (v3159 : BitVec 32) (k0_hw372 : k0_chk372 v3159), ∀ a, (k0_off742 v3159) a + S16x128.size a ≤ S26136x128.size a := fun v3159 k0_hw372 => k0_hw372.1
theorem k0_off750_inb : ∀ (v3159 : BitVec 32) (k0_hw372 : k0_chk372 v3159), ∀ a, (k0_off750 v3159) a + S16x128.size a ≤ S26136x128.size a := fun v3159 k0_hw372 => k0_hw372.2

def k0_off751 (v3163 : BitVec 32) : Fin 2 → Nat :=
  let c17_i32_1572 : BitVec 32 := 17#32
  let v3233 : BitVec 32 := Scalar.muli v3163 c17_i32_1572
  let v3234 : Index := Scalar.indexCast v3233
  let c0_1573 : Index := 0#32
  ![v3234.toNat, 0]

def k0_chk373 (v3163 : BitVec 32) : Prop :=
  (∀ a, (k0_off743 v3163) a + S16x128.size a ≤ S26136x128.size a) ∧
  (∀ a, (k0_off751 v3163) a + S16x128.size a ≤ S26136x128.size a)
theorem k0_off743_inb : ∀ (v3163 : BitVec 32) (k0_hw373 : k0_chk373 v3163), ∀ a, (k0_off743 v3163) a + S16x128.size a ≤ S26136x128.size a := fun v3163 k0_hw373 => k0_hw373.1
theorem k0_off751_inb : ∀ (v3163 : BitVec 32) (k0_hw373 : k0_chk373 v3163), ∀ a, (k0_off751 v3163) a + S16x128.size a ≤ S26136x128.size a := fun v3163 k0_hw373 => k0_hw373.2

def k0_off752 (v3167 : BitVec 32) : Fin 2 → Nat :=
  let c17_i32_1574 : BitVec 32 := 17#32
  let v3238 : BitVec 32 := Scalar.muli v3167 c17_i32_1574
  let v3239 : Index := Scalar.indexCast v3238
  let c0_1575 : Index := 0#32
  ![v3239.toNat, 0]

def k0_chk374 (v3167 : BitVec 32) : Prop :=
  (∀ a, (k0_off744 v3167) a + S16x128.size a ≤ S26136x128.size a) ∧
  (∀ a, (k0_off752 v3167) a + S16x128.size a ≤ S26136x128.size a)
theorem k0_off744_inb : ∀ (v3167 : BitVec 32) (k0_hw374 : k0_chk374 v3167), ∀ a, (k0_off744 v3167) a + S16x128.size a ≤ S26136x128.size a := fun v3167 k0_hw374 => k0_hw374.1
theorem k0_off752_inb : ∀ (v3167 : BitVec 32) (k0_hw374 : k0_chk374 v3167), ∀ a, (k0_off752 v3167) a + S16x128.size a ≤ S26136x128.size a := fun v3167 k0_hw374 => k0_hw374.2

def k0_off753 (v3171 : BitVec 32) : Fin 2 → Nat :=
  let c17_i32_1576 : BitVec 32 := 17#32
  let v3243 : BitVec 32 := Scalar.muli v3171 c17_i32_1576
  let v3244 : Index := Scalar.indexCast v3243
  let c0_1577 : Index := 0#32
  ![v3244.toNat, 0]

def k0_chk375 (v3171 : BitVec 32) : Prop :=
  (∀ a, (k0_off745 v3171) a + S16x128.size a ≤ S26136x128.size a) ∧
  (∀ a, (k0_off753 v3171) a + S16x128.size a ≤ S26136x128.size a)
theorem k0_off745_inb : ∀ (v3171 : BitVec 32) (k0_hw375 : k0_chk375 v3171), ∀ a, (k0_off745 v3171) a + S16x128.size a ≤ S26136x128.size a := fun v3171 k0_hw375 => k0_hw375.1
theorem k0_off753_inb : ∀ (v3171 : BitVec 32) (k0_hw375 : k0_chk375 v3171), ∀ a, (k0_off753 v3171) a + S16x128.size a ≤ S26136x128.size a := fun v3171 k0_hw375 => k0_hw375.2

def k0_off754 (v3175 : BitVec 32) : Fin 2 → Nat :=
  let c17_i32_1578 : BitVec 32 := 17#32
  let v3248 : BitVec 32 := Scalar.muli v3175 c17_i32_1578
  let v3249 : Index := Scalar.indexCast v3248
  let c0_1579 : Index := 0#32
  ![v3249.toNat, 0]

def k0_chk376 (v3175 : BitVec 32) : Prop :=
  (∀ a, (k0_off746 v3175) a + S16x128.size a ≤ S26136x128.size a) ∧
  (∀ a, (k0_off754 v3175) a + S16x128.size a ≤ S26136x128.size a)
theorem k0_off746_inb : ∀ (v3175 : BitVec 32) (k0_hw376 : k0_chk376 v3175), ∀ a, (k0_off746 v3175) a + S16x128.size a ≤ S26136x128.size a := fun v3175 k0_hw376 => k0_hw376.1
theorem k0_off754_inb : ∀ (v3175 : BitVec 32) (k0_hw376 : k0_chk376 v3175), ∀ a, (k0_off754 v3175) a + S16x128.size a ≤ S26136x128.size a := fun v3175 k0_hw376 => k0_hw376.2

def k0_off755 (v3179 : BitVec 32) : Fin 2 → Nat :=
  let c17_i32_1580 : BitVec 32 := 17#32
  let v3253 : BitVec 32 := Scalar.muli v3179 c17_i32_1580
  let v3254 : Index := Scalar.indexCast v3253
  let c0_1581 : Index := 0#32
  ![v3254.toNat, 0]

def k0_chk377 (v3179 : BitVec 32) : Prop :=
  (∀ a, (k0_off747 v3179) a + S16x128.size a ≤ S26136x128.size a) ∧
  (∀ a, (k0_off755 v3179) a + S16x128.size a ≤ S26136x128.size a)
theorem k0_off747_inb : ∀ (v3179 : BitVec 32) (k0_hw377 : k0_chk377 v3179), ∀ a, (k0_off747 v3179) a + S16x128.size a ≤ S26136x128.size a := fun v3179 k0_hw377 => k0_hw377.1
theorem k0_off755_inb : ∀ (v3179 : BitVec 32) (k0_hw377 : k0_chk377 v3179), ∀ a, (k0_off755 v3179) a + S16x128.size a ≤ S26136x128.size a := fun v3179 k0_hw377 => k0_hw377.2

def k0_off756 (v3183 : BitVec 32) : Fin 2 → Nat :=
  let c17_i32_1582 : BitVec 32 := 17#32
  let v3258 : BitVec 32 := Scalar.muli v3183 c17_i32_1582
  let v3259 : Index := Scalar.indexCast v3258
  let c0_1583 : Index := 0#32
  ![v3259.toNat, 0]

def k0_chk378 (v3183 : BitVec 32) : Prop :=
  (∀ a, (k0_off748 v3183) a + S16x128.size a ≤ S26136x128.size a) ∧
  (∀ a, (k0_off756 v3183) a + S16x128.size a ≤ S26136x128.size a)
theorem k0_off748_inb : ∀ (v3183 : BitVec 32) (k0_hw378 : k0_chk378 v3183), ∀ a, (k0_off748 v3183) a + S16x128.size a ≤ S26136x128.size a := fun v3183 k0_hw378 => k0_hw378.1
theorem k0_off756_inb : ∀ (v3183 : BitVec 32) (k0_hw378 : k0_chk378 v3183), ∀ a, (k0_off756 v3183) a + S16x128.size a ≤ S26136x128.size a := fun v3183 k0_hw378 => k0_hw378.2

def k0_off757 (v5 : BitVec 32) (k0_t3 : Fin (k0_t3_loop v5).trips) (v36 : BitVec 32) (c0_i32_1587 : BitVec 32) : Fin 1 → Nat :=
  let c0_i32_6 : BitVec 32 := 0#32
  let c1_i32_9 : BitVec 32 := 1#32
  let arg16 : BitVec 32 := Scf.iv c0_i32_6 c1_i32_9 k0_t3
  let c128_i32_12 : BitVec 32 := 128#32
  let v37 : BitVec 32 := Scalar.muli arg16 c128_i32_12
  let v38 : BitVec 32 := Scalar.addi v36 v37
  let c120_i32_1586 : BitVec 32 := 120#32
  let v3268 : BitVec 32 := Scalar.addi v38 c120_i32_1586
  let v3269 : BitVec 32 := Scalar.addi v3268 c0_i32_1587
  let v3270 : Index := Scalar.indexCast v3269
  ![v3270.toNat]

def k0_chk131_0 (v5 : BitVec 32) (k0_t3 : Fin (k0_t3_loop v5).trips) (v36 : BitVec 32) : Prop :=
  (∀ a, (k0_off261 v5 k0_t3 v36) a + S1.size a ≤ S16512.size a) ∧
  (∀ a, (k0_off263 v5 k0_t3 v36) a + S1.size a ≤ S16512.size a) ∧
  (∀ a, (k0_off265 v5 k0_t3 v36) a + S1.size a ≤ S16512.size a) ∧
  (∀ a, (k0_off267 v5 k0_t3 v36) a + S1.size a ≤ S16512.size a) ∧
  (∀ a, (k0_off269 v5 k0_t3 v36) a + S1.size a ≤ S16512.size a) ∧
  (∀ a, (k0_off271 v5 k0_t3 v36) a + S1.size a ≤ S16512.size a) ∧
  (∀ a, (k0_off273 v5 k0_t3 v36) a + S1.size a ≤ S16512.size a) ∧
  (∀ a, (k0_off275 v5 k0_t3 v36) a + S1.size a ≤ S16512.size a) ∧
  (∀ a, (k0_off277 v5 k0_t3 v36) a + S1.size a ≤ S16512.size a) ∧
  (∀ a, (k0_off279 v5 k0_t3 v36) a + S1.size a ≤ S16512.size a) ∧
  (∀ a, (k0_off281 v5 k0_t3 v36) a + S1.size a ≤ S16512.size a) ∧
  (∀ a, (k0_off283 v5 k0_t3 v36) a + S1.size a ≤ S16512.size a) ∧
  (∀ a, (k0_off285 v5 k0_t3 v36) a + S1.size a ≤ S16512.size a) ∧
  (∀ a, (k0_off287 v5 k0_t3 v36) a + S1.size a ≤ S16512.size a) ∧
  (∀ a, (k0_off289 v5 k0_t3 v36) a + S1.size a ≤ S16512.size a) ∧
  (∀ a, (k0_off291 v5 k0_t3 v36) a + S1.size a ≤ S16512.size a) ∧
  (∀ a, (k0_off293 v5 k0_t3 v36) a + S1.size a ≤ S16512.size a) ∧
  (∀ a, (k0_off295 v5 k0_t3 v36) a + S1.size a ≤ S16512.size a) ∧
  (∀ a, (k0_off297 v5 k0_t3 v36) a + S1.size a ≤ S16512.size a) ∧
  (∀ a, (k0_off299 v5 k0_t3 v36) a + S1.size a ≤ S16512.size a) ∧
  (∀ a, (k0_off301 v5 k0_t3 v36) a + S1.size a ≤ S16512.size a) ∧
  (∀ a, (k0_off303 v5 k0_t3 v36) a + S1.size a ≤ S16512.size a) ∧
  (∀ a, (k0_off305 v5 k0_t3 v36) a + S1.size a ≤ S16512.size a) ∧
  (∀ a, (k0_off307 v5 k0_t3 v36) a + S1.size a ≤ S16512.size a) ∧
  (∀ a, (k0_off309 v5 k0_t3 v36) a + S1.size a ≤ S16512.size a) ∧
  (∀ a, (k0_off311 v5 k0_t3 v36) a + S1.size a ≤ S16512.size a) ∧
  (∀ a, (k0_off313 v5 k0_t3 v36) a + S1.size a ≤ S16512.size a) ∧
  (∀ a, (k0_off315 v5 k0_t3 v36) a + S1.size a ≤ S16512.size a) ∧
  (∀ a, (k0_off317 v5 k0_t3 v36) a + S1.size a ≤ S16512.size a) ∧
  (∀ a, (k0_off319 v5 k0_t3 v36) a + S1.size a ≤ S16512.size a) ∧
  (∀ a, (k0_off321 v5 k0_t3 v36) a + S1.size a ≤ S16512.size a) ∧
  (∀ a, (k0_off323 v5 k0_t3 v36) a + S1.size a ≤ S16512.size a)
def k0_chk131_1 (v5 : BitVec 32) (k0_t3 : Fin (k0_t3_loop v5).trips) (v36 : BitVec 32) : Prop :=
  (∀ a, (k0_off325 v5 k0_t3 v36) a + S1.size a ≤ S16512.size a) ∧
  (∀ a, (k0_off327 v5 k0_t3 v36) a + S1.size a ≤ S16512.size a) ∧
  (∀ a, (k0_off329 v5 k0_t3 v36) a + S1.size a ≤ S16512.size a) ∧
  (∀ a, (k0_off331 v5 k0_t3 v36) a + S1.size a ≤ S16512.size a) ∧
  (∀ a, (k0_off333 v5 k0_t3 v36) a + S1.size a ≤ S16512.size a) ∧
  (∀ a, (k0_off335 v5 k0_t3 v36) a + S1.size a ≤ S16512.size a) ∧
  (∀ a, (k0_off337 v5 k0_t3 v36) a + S1.size a ≤ S16512.size a) ∧
  (∀ a, (k0_off339 v5 k0_t3 v36) a + S1.size a ≤ S16512.size a) ∧
  (∀ a, (k0_off341 v5 k0_t3 v36) a + S1.size a ≤ S16512.size a) ∧
  (∀ a, (k0_off343 v5 k0_t3 v36) a + S1.size a ≤ S16512.size a) ∧
  (∀ a, (k0_off345 v5 k0_t3 v36) a + S1.size a ≤ S16512.size a) ∧
  (∀ a, (k0_off347 v5 k0_t3 v36) a + S1.size a ≤ S16512.size a) ∧
  (∀ a, (k0_off349 v5 k0_t3 v36) a + S1.size a ≤ S16512.size a) ∧
  (∀ a, (k0_off351 v5 k0_t3 v36) a + S1.size a ≤ S16512.size a) ∧
  (∀ a, (k0_off353 v5 k0_t3 v36) a + S1.size a ≤ S16512.size a) ∧
  (∀ a, (k0_off355 v5 k0_t3 v36) a + S1.size a ≤ S16512.size a) ∧
  (∀ a, (k0_off357 v5 k0_t3 v36) a + S1.size a ≤ S16512.size a) ∧
  (∀ a, (k0_off359 v5 k0_t3 v36) a + S1.size a ≤ S16512.size a) ∧
  (∀ a, (k0_off361 v5 k0_t3 v36) a + S1.size a ≤ S16512.size a) ∧
  (∀ a, (k0_off363 v5 k0_t3 v36) a + S1.size a ≤ S16512.size a) ∧
  (∀ a, (k0_off365 v5 k0_t3 v36) a + S1.size a ≤ S16512.size a) ∧
  (∀ a, (k0_off367 v5 k0_t3 v36) a + S1.size a ≤ S16512.size a) ∧
  (∀ a, (k0_off369 v5 k0_t3 v36) a + S1.size a ≤ S16512.size a) ∧
  (∀ a, (k0_off371 v5 k0_t3 v36) a + S1.size a ≤ S16512.size a) ∧
  (∀ a, (k0_off373 v5 k0_t3 v36) a + S1.size a ≤ S16512.size a) ∧
  (∀ a, (k0_off375 v5 k0_t3 v36) a + S1.size a ≤ S16512.size a) ∧
  (∀ a, (k0_off377 v5 k0_t3 v36) a + S1.size a ≤ S16512.size a) ∧
  (∀ a, (k0_off379 v5 k0_t3 v36) a + S1.size a ≤ S16512.size a) ∧
  (∀ a, (k0_off381 v5 k0_t3 v36) a + S1.size a ≤ S16512.size a) ∧
  (∀ a, (k0_off383 v5 k0_t3 v36) a + S1.size a ≤ S16512.size a) ∧
  (∀ a, (k0_off385 v5 k0_t3 v36) a + S1.size a ≤ S16512.size a) ∧
  (∀ a, (k0_off387 v5 k0_t3 v36) a + S1.size a ≤ S16512.size a)
def k0_chk131_2 (v5 : BitVec 32) (k0_t3 : Fin (k0_t3_loop v5).trips) (v36 : BitVec 32) : Prop :=
  (∀ a, (k0_off389 v5 k0_t3 v36) a + S1.size a ≤ S16512.size a) ∧
  (∀ a, (k0_off391 v5 k0_t3 v36) a + S1.size a ≤ S16512.size a) ∧
  (∀ a, (k0_off393 v5 k0_t3 v36) a + S1.size a ≤ S16512.size a) ∧
  (∀ a, (k0_off395 v5 k0_t3 v36) a + S1.size a ≤ S16512.size a) ∧
  (∀ a, (k0_off397 v5 k0_t3 v36) a + S1.size a ≤ S16512.size a) ∧
  (∀ a, (k0_off399 v5 k0_t3 v36) a + S1.size a ≤ S16512.size a) ∧
  (∀ a, (k0_off401 v5 k0_t3 v36) a + S1.size a ≤ S16512.size a) ∧
  (∀ a, (k0_off403 v5 k0_t3 v36) a + S1.size a ≤ S16512.size a) ∧
  (∀ a, (k0_off405 v5 k0_t3 v36) a + S1.size a ≤ S16512.size a) ∧
  (∀ a, (k0_off407 v5 k0_t3 v36) a + S1.size a ≤ S16512.size a) ∧
  (∀ a, (k0_off409 v5 k0_t3 v36) a + S1.size a ≤ S16512.size a) ∧
  (∀ a, (k0_off411 v5 k0_t3 v36) a + S1.size a ≤ S16512.size a) ∧
  (∀ a, (k0_off413 v5 k0_t3 v36) a + S1.size a ≤ S16512.size a) ∧
  (∀ a, (k0_off415 v5 k0_t3 v36) a + S1.size a ≤ S16512.size a) ∧
  (∀ a, (k0_off417 v5 k0_t3 v36) a + S1.size a ≤ S16512.size a) ∧
  (∀ a, (k0_off419 v5 k0_t3 v36) a + S1.size a ≤ S16512.size a) ∧
  (∀ a, (k0_off421 v5 k0_t3 v36) a + S1.size a ≤ S16512.size a) ∧
  (∀ a, (k0_off423 v5 k0_t3 v36) a + S1.size a ≤ S16512.size a) ∧
  (∀ a, (k0_off425 v5 k0_t3 v36) a + S1.size a ≤ S16512.size a) ∧
  (∀ a, (k0_off427 v5 k0_t3 v36) a + S1.size a ≤ S16512.size a) ∧
  (∀ a, (k0_off429 v5 k0_t3 v36) a + S1.size a ≤ S16512.size a) ∧
  (∀ a, (k0_off431 v5 k0_t3 v36) a + S1.size a ≤ S16512.size a) ∧
  (∀ a, (k0_off433 v5 k0_t3 v36) a + S1.size a ≤ S16512.size a) ∧
  (∀ a, (k0_off435 v5 k0_t3 v36) a + S1.size a ≤ S16512.size a) ∧
  (∀ a, (k0_off437 v5 k0_t3 v36) a + S1.size a ≤ S16512.size a) ∧
  (∀ a, (k0_off439 v5 k0_t3 v36) a + S1.size a ≤ S16512.size a) ∧
  (∀ a, (k0_off441 v5 k0_t3 v36) a + S1.size a ≤ S16512.size a) ∧
  (∀ a, (k0_off443 v5 k0_t3 v36) a + S1.size a ≤ S16512.size a) ∧
  (∀ a, (k0_off445 v5 k0_t3 v36) a + S1.size a ≤ S16512.size a) ∧
  (∀ a, (k0_off447 v5 k0_t3 v36) a + S1.size a ≤ S16512.size a) ∧
  (∀ a, (k0_off449 v5 k0_t3 v36) a + S1.size a ≤ S16512.size a) ∧
  (∀ a, (k0_off451 v5 k0_t3 v36) a + S1.size a ≤ S16512.size a)
def k0_chk131_3 (v5 : BitVec 32) (k0_t3 : Fin (k0_t3_loop v5).trips) (v36 : BitVec 32) : Prop :=
  (∀ a, (k0_off453 v5 k0_t3 v36) a + S1.size a ≤ S16512.size a) ∧
  (∀ a, (k0_off455 v5 k0_t3 v36) a + S1.size a ≤ S16512.size a) ∧
  (∀ a, (k0_off457 v5 k0_t3 v36) a + S1.size a ≤ S16512.size a) ∧
  (∀ a, (k0_off459 v5 k0_t3 v36) a + S1.size a ≤ S16512.size a) ∧
  (∀ a, (k0_off461 v5 k0_t3 v36) a + S1.size a ≤ S16512.size a) ∧
  (∀ a, (k0_off463 v5 k0_t3 v36) a + S1.size a ≤ S16512.size a) ∧
  (∀ a, (k0_off465 v5 k0_t3 v36) a + S1.size a ≤ S16512.size a) ∧
  (∀ a, (k0_off467 v5 k0_t3 v36) a + S1.size a ≤ S16512.size a) ∧
  (∀ a, (k0_off469 v5 k0_t3 v36) a + S1.size a ≤ S16512.size a) ∧
  (∀ a, (k0_off471 v5 k0_t3 v36) a + S1.size a ≤ S16512.size a) ∧
  (∀ a, (k0_off473 v5 k0_t3 v36) a + S1.size a ≤ S16512.size a) ∧
  (∀ a, (k0_off475 v5 k0_t3 v36) a + S1.size a ≤ S16512.size a) ∧
  (∀ a, (k0_off477 v5 k0_t3 v36) a + S1.size a ≤ S16512.size a) ∧
  (∀ a, (k0_off479 v5 k0_t3 v36) a + S1.size a ≤ S16512.size a) ∧
  (∀ a, (k0_off481 v5 k0_t3 v36) a + S1.size a ≤ S16512.size a) ∧
  (∀ a, (k0_off483 v5 k0_t3 v36) a + S1.size a ≤ S16512.size a) ∧
  (∀ a, (k0_off485 v5 k0_t3 v36) a + S1.size a ≤ S16512.size a) ∧
  (∀ a, (k0_off487 v5 k0_t3 v36) a + S1.size a ≤ S16512.size a) ∧
  (∀ a, (k0_off489 v5 k0_t3 v36) a + S1.size a ≤ S16512.size a) ∧
  (∀ a, (k0_off491 v5 k0_t3 v36) a + S1.size a ≤ S16512.size a) ∧
  (∀ a, (k0_off493 v5 k0_t3 v36) a + S1.size a ≤ S16512.size a) ∧
  (∀ a, (k0_off495 v5 k0_t3 v36) a + S1.size a ≤ S16512.size a) ∧
  (∀ a, (k0_off497 v5 k0_t3 v36) a + S1.size a ≤ S16512.size a) ∧
  (∀ a, (k0_off499 v5 k0_t3 v36) a + S1.size a ≤ S16512.size a) ∧
  (∀ a, (k0_off501 v5 k0_t3 v36) a + S1.size a ≤ S16512.size a) ∧
  (∀ a, (k0_off503 v5 k0_t3 v36) a + S1.size a ≤ S16512.size a) ∧
  (∀ a, (k0_off505 v5 k0_t3 v36) a + S1.size a ≤ S16512.size a) ∧
  (∀ a, (k0_off507 v5 k0_t3 v36) a + S1.size a ≤ S16512.size a) ∧
  (∀ a, (k0_off509 v5 k0_t3 v36) a + S1.size a ≤ S16512.size a) ∧
  (∀ a, (k0_off511 v5 k0_t3 v36) a + S1.size a ≤ S16512.size a) ∧
  (∀ a, (k0_off513 v5 k0_t3 v36) a + S1.size a ≤ S16512.size a) ∧
  (∀ a, (k0_off515 v5 k0_t3 v36) a + S1.size a ≤ S16512.size a)
def k0_chk131_4 (v5 : BitVec 32) (k0_t3 : Fin (k0_t3_loop v5).trips) (v36 : BitVec 32) : Prop :=
  (∀ (r : Fin 8), ∀ a, (k0_off517 v5 k0_t3 v36 (BitVec.ofNat 32 r.val)) a + S1.size a ≤ S16512.size a) ∧
  (∀ (r : Fin 8), ∀ a, (k0_off533 v5 k0_t3 v36 (BitVec.ofNat 32 r.val)) a + S1.size a ≤ S16512.size a) ∧
  (∀ (r : Fin 8), ∀ a, (k0_off549 v5 k0_t3 v36 (BitVec.ofNat 32 r.val)) a + S1.size a ≤ S16512.size a) ∧
  (∀ (r : Fin 8), ∀ a, (k0_off565 v5 k0_t3 v36 (BitVec.ofNat 32 r.val)) a + S1.size a ≤ S16512.size a) ∧
  (∀ (r : Fin 8), ∀ a, (k0_off581 v5 k0_t3 v36 (BitVec.ofNat 32 r.val)) a + S1.size a ≤ S16512.size a) ∧
  (∀ (r : Fin 8), ∀ a, (k0_off597 v5 k0_t3 v36 (BitVec.ofNat 32 r.val)) a + S1.size a ≤ S16512.size a) ∧
  (∀ (r : Fin 8), ∀ a, (k0_off613 v5 k0_t3 v36 (BitVec.ofNat 32 r.val)) a + S1.size a ≤ S16512.size a) ∧
  (∀ (r : Fin 8), ∀ a, (k0_off629 v5 k0_t3 v36 (BitVec.ofNat 32 r.val)) a + S1.size a ≤ S16512.size a) ∧
  (∀ (r : Fin 8), ∀ a, (k0_off645 v5 k0_t3 v36 (BitVec.ofNat 32 r.val)) a + S1.size a ≤ S16512.size a) ∧
  (∀ (r : Fin 8), ∀ a, (k0_off661 v5 k0_t3 v36 (BitVec.ofNat 32 r.val)) a + S1.size a ≤ S16512.size a) ∧
  (∀ (r : Fin 8), ∀ a, (k0_off677 v5 k0_t3 v36 (BitVec.ofNat 32 r.val)) a + S1.size a ≤ S16512.size a) ∧
  (∀ (r : Fin 8), ∀ a, (k0_off693 v5 k0_t3 v36 (BitVec.ofNat 32 r.val)) a + S1.size a ≤ S16512.size a) ∧
  (∀ (r : Fin 8), ∀ a, (k0_off709 v5 k0_t3 v36 (BitVec.ofNat 32 r.val)) a + S1.size a ≤ S16512.size a) ∧
  (∀ (r : Fin 8), ∀ a, (k0_off725 v5 k0_t3 v36 (BitVec.ofNat 32 r.val)) a + S1.size a ≤ S16512.size a) ∧
  (∀ (r : Fin 8), ∀ a, (k0_off741 v5 k0_t3 v36 (BitVec.ofNat 32 r.val)) a + S1.size a ≤ S16512.size a) ∧
  (∀ (r : Fin 8), ∀ a, (k0_off757 v5 k0_t3 v36 (BitVec.ofNat 32 r.val)) a + S1.size a ≤ S16512.size a)
def k0_chk131 (v5 : BitVec 32) (k0_t3 : Fin (k0_t3_loop v5).trips) (v36 : BitVec 32) : Prop :=
  k0_chk131_0 v5 k0_t3 v36 ∧
  k0_chk131_1 v5 k0_t3 v36 ∧
  k0_chk131_2 v5 k0_t3 v36 ∧
  k0_chk131_3 v5 k0_t3 v36 ∧
  k0_chk131_4 v5 k0_t3 v36
theorem k0_off261_inb : ∀ (v5 : BitVec 32) (k0_t3 : Fin (k0_t3_loop v5).trips) (v36 : BitVec 32) (k0_hw131 : k0_chk131 v5 k0_t3 v36), ∀ a, (k0_off261 v5 k0_t3 v36) a + S1.size a ≤ S16512.size a := fun v5 k0_t3 v36 k0_hw131 => k0_hw131.1.1
theorem k0_off263_inb : ∀ (v5 : BitVec 32) (k0_t3 : Fin (k0_t3_loop v5).trips) (v36 : BitVec 32) (k0_hw131 : k0_chk131 v5 k0_t3 v36), ∀ a, (k0_off263 v5 k0_t3 v36) a + S1.size a ≤ S16512.size a := fun v5 k0_t3 v36 k0_hw131 => k0_hw131.1.2.1
theorem k0_off265_inb : ∀ (v5 : BitVec 32) (k0_t3 : Fin (k0_t3_loop v5).trips) (v36 : BitVec 32) (k0_hw131 : k0_chk131 v5 k0_t3 v36), ∀ a, (k0_off265 v5 k0_t3 v36) a + S1.size a ≤ S16512.size a := fun v5 k0_t3 v36 k0_hw131 => k0_hw131.1.2.2.1
theorem k0_off267_inb : ∀ (v5 : BitVec 32) (k0_t3 : Fin (k0_t3_loop v5).trips) (v36 : BitVec 32) (k0_hw131 : k0_chk131 v5 k0_t3 v36), ∀ a, (k0_off267 v5 k0_t3 v36) a + S1.size a ≤ S16512.size a := fun v5 k0_t3 v36 k0_hw131 => k0_hw131.1.2.2.2.1
theorem k0_off269_inb : ∀ (v5 : BitVec 32) (k0_t3 : Fin (k0_t3_loop v5).trips) (v36 : BitVec 32) (k0_hw131 : k0_chk131 v5 k0_t3 v36), ∀ a, (k0_off269 v5 k0_t3 v36) a + S1.size a ≤ S16512.size a := fun v5 k0_t3 v36 k0_hw131 => k0_hw131.1.2.2.2.2.1
theorem k0_off271_inb : ∀ (v5 : BitVec 32) (k0_t3 : Fin (k0_t3_loop v5).trips) (v36 : BitVec 32) (k0_hw131 : k0_chk131 v5 k0_t3 v36), ∀ a, (k0_off271 v5 k0_t3 v36) a + S1.size a ≤ S16512.size a := fun v5 k0_t3 v36 k0_hw131 => k0_hw131.1.2.2.2.2.2.1
theorem k0_off273_inb : ∀ (v5 : BitVec 32) (k0_t3 : Fin (k0_t3_loop v5).trips) (v36 : BitVec 32) (k0_hw131 : k0_chk131 v5 k0_t3 v36), ∀ a, (k0_off273 v5 k0_t3 v36) a + S1.size a ≤ S16512.size a := fun v5 k0_t3 v36 k0_hw131 => k0_hw131.1.2.2.2.2.2.2.1
theorem k0_off275_inb : ∀ (v5 : BitVec 32) (k0_t3 : Fin (k0_t3_loop v5).trips) (v36 : BitVec 32) (k0_hw131 : k0_chk131 v5 k0_t3 v36), ∀ a, (k0_off275 v5 k0_t3 v36) a + S1.size a ≤ S16512.size a := fun v5 k0_t3 v36 k0_hw131 => k0_hw131.1.2.2.2.2.2.2.2.1
theorem k0_off277_inb : ∀ (v5 : BitVec 32) (k0_t3 : Fin (k0_t3_loop v5).trips) (v36 : BitVec 32) (k0_hw131 : k0_chk131 v5 k0_t3 v36), ∀ a, (k0_off277 v5 k0_t3 v36) a + S1.size a ≤ S16512.size a := fun v5 k0_t3 v36 k0_hw131 => k0_hw131.1.2.2.2.2.2.2.2.2.1
theorem k0_off279_inb : ∀ (v5 : BitVec 32) (k0_t3 : Fin (k0_t3_loop v5).trips) (v36 : BitVec 32) (k0_hw131 : k0_chk131 v5 k0_t3 v36), ∀ a, (k0_off279 v5 k0_t3 v36) a + S1.size a ≤ S16512.size a := fun v5 k0_t3 v36 k0_hw131 => k0_hw131.1.2.2.2.2.2.2.2.2.2.1
theorem k0_off281_inb : ∀ (v5 : BitVec 32) (k0_t3 : Fin (k0_t3_loop v5).trips) (v36 : BitVec 32) (k0_hw131 : k0_chk131 v5 k0_t3 v36), ∀ a, (k0_off281 v5 k0_t3 v36) a + S1.size a ≤ S16512.size a := fun v5 k0_t3 v36 k0_hw131 => k0_hw131.1.2.2.2.2.2.2.2.2.2.2.1
theorem k0_off283_inb : ∀ (v5 : BitVec 32) (k0_t3 : Fin (k0_t3_loop v5).trips) (v36 : BitVec 32) (k0_hw131 : k0_chk131 v5 k0_t3 v36), ∀ a, (k0_off283 v5 k0_t3 v36) a + S1.size a ≤ S16512.size a := fun v5 k0_t3 v36 k0_hw131 => k0_hw131.1.2.2.2.2.2.2.2.2.2.2.2.1
theorem k0_off285_inb : ∀ (v5 : BitVec 32) (k0_t3 : Fin (k0_t3_loop v5).trips) (v36 : BitVec 32) (k0_hw131 : k0_chk131 v5 k0_t3 v36), ∀ a, (k0_off285 v5 k0_t3 v36) a + S1.size a ≤ S16512.size a := fun v5 k0_t3 v36 k0_hw131 => k0_hw131.1.2.2.2.2.2.2.2.2.2.2.2.2.1
theorem k0_off287_inb : ∀ (v5 : BitVec 32) (k0_t3 : Fin (k0_t3_loop v5).trips) (v36 : BitVec 32) (k0_hw131 : k0_chk131 v5 k0_t3 v36), ∀ a, (k0_off287 v5 k0_t3 v36) a + S1.size a ≤ S16512.size a := fun v5 k0_t3 v36 k0_hw131 => k0_hw131.1.2.2.2.2.2.2.2.2.2.2.2.2.2.1
theorem k0_off289_inb : ∀ (v5 : BitVec 32) (k0_t3 : Fin (k0_t3_loop v5).trips) (v36 : BitVec 32) (k0_hw131 : k0_chk131 v5 k0_t3 v36), ∀ a, (k0_off289 v5 k0_t3 v36) a + S1.size a ≤ S16512.size a := fun v5 k0_t3 v36 k0_hw131 => k0_hw131.1.2.2.2.2.2.2.2.2.2.2.2.2.2.2.1
theorem k0_off291_inb : ∀ (v5 : BitVec 32) (k0_t3 : Fin (k0_t3_loop v5).trips) (v36 : BitVec 32) (k0_hw131 : k0_chk131 v5 k0_t3 v36), ∀ a, (k0_off291 v5 k0_t3 v36) a + S1.size a ≤ S16512.size a := fun v5 k0_t3 v36 k0_hw131 => k0_hw131.1.2.2.2.2.2.2.2.2.2.2.2.2.2.2.2.1
theorem k0_off293_inb : ∀ (v5 : BitVec 32) (k0_t3 : Fin (k0_t3_loop v5).trips) (v36 : BitVec 32) (k0_hw131 : k0_chk131 v5 k0_t3 v36), ∀ a, (k0_off293 v5 k0_t3 v36) a + S1.size a ≤ S16512.size a := fun v5 k0_t3 v36 k0_hw131 => k0_hw131.1.2.2.2.2.2.2.2.2.2.2.2.2.2.2.2.2.1
theorem k0_off295_inb : ∀ (v5 : BitVec 32) (k0_t3 : Fin (k0_t3_loop v5).trips) (v36 : BitVec 32) (k0_hw131 : k0_chk131 v5 k0_t3 v36), ∀ a, (k0_off295 v5 k0_t3 v36) a + S1.size a ≤ S16512.size a := fun v5 k0_t3 v36 k0_hw131 => k0_hw131.1.2.2.2.2.2.2.2.2.2.2.2.2.2.2.2.2.2.1
theorem k0_off297_inb : ∀ (v5 : BitVec 32) (k0_t3 : Fin (k0_t3_loop v5).trips) (v36 : BitVec 32) (k0_hw131 : k0_chk131 v5 k0_t3 v36), ∀ a, (k0_off297 v5 k0_t3 v36) a + S1.size a ≤ S16512.size a := fun v5 k0_t3 v36 k0_hw131 => k0_hw131.1.2.2.2.2.2.2.2.2.2.2.2.2.2.2.2.2.2.2.1
theorem k0_off299_inb : ∀ (v5 : BitVec 32) (k0_t3 : Fin (k0_t3_loop v5).trips) (v36 : BitVec 32) (k0_hw131 : k0_chk131 v5 k0_t3 v36), ∀ a, (k0_off299 v5 k0_t3 v36) a + S1.size a ≤ S16512.size a := fun v5 k0_t3 v36 k0_hw131 => k0_hw131.1.2.2.2.2.2.2.2.2.2.2.2.2.2.2.2.2.2.2.2.1
theorem k0_off301_inb : ∀ (v5 : BitVec 32) (k0_t3 : Fin (k0_t3_loop v5).trips) (v36 : BitVec 32) (k0_hw131 : k0_chk131 v5 k0_t3 v36), ∀ a, (k0_off301 v5 k0_t3 v36) a + S1.size a ≤ S16512.size a := fun v5 k0_t3 v36 k0_hw131 => k0_hw131.1.2.2.2.2.2.2.2.2.2.2.2.2.2.2.2.2.2.2.2.2.1
theorem k0_off303_inb : ∀ (v5 : BitVec 32) (k0_t3 : Fin (k0_t3_loop v5).trips) (v36 : BitVec 32) (k0_hw131 : k0_chk131 v5 k0_t3 v36), ∀ a, (k0_off303 v5 k0_t3 v36) a + S1.size a ≤ S16512.size a := fun v5 k0_t3 v36 k0_hw131 => k0_hw131.1.2.2.2.2.2.2.2.2.2.2.2.2.2.2.2.2.2.2.2.2.2.1
theorem k0_off305_inb : ∀ (v5 : BitVec 32) (k0_t3 : Fin (k0_t3_loop v5).trips) (v36 : BitVec 32) (k0_hw131 : k0_chk131 v5 k0_t3 v36), ∀ a, (k0_off305 v5 k0_t3 v36) a + S1.size a ≤ S16512.size a := fun v5 k0_t3 v36 k0_hw131 => k0_hw131.1.2.2.2.2.2.2.2.2.2.2.2.2.2.2.2.2.2.2.2.2.2.2.1
theorem k0_off307_inb : ∀ (v5 : BitVec 32) (k0_t3 : Fin (k0_t3_loop v5).trips) (v36 : BitVec 32) (k0_hw131 : k0_chk131 v5 k0_t3 v36), ∀ a, (k0_off307 v5 k0_t3 v36) a + S1.size a ≤ S16512.size a := fun v5 k0_t3 v36 k0_hw131 => k0_hw131.1.2.2.2.2.2.2.2.2.2.2.2.2.2.2.2.2.2.2.2.2.2.2.2.1
theorem k0_off309_inb : ∀ (v5 : BitVec 32) (k0_t3 : Fin (k0_t3_loop v5).trips) (v36 : BitVec 32) (k0_hw131 : k0_chk131 v5 k0_t3 v36), ∀ a, (k0_off309 v5 k0_t3 v36) a + S1.size a ≤ S16512.size a := fun v5 k0_t3 v36 k0_hw131 => k0_hw131.1.2.2.2.2.2.2.2.2.2.2.2.2.2.2.2.2.2.2.2.2.2.2.2.2.1
theorem k0_off311_inb : ∀ (v5 : BitVec 32) (k0_t3 : Fin (k0_t3_loop v5).trips) (v36 : BitVec 32) (k0_hw131 : k0_chk131 v5 k0_t3 v36), ∀ a, (k0_off311 v5 k0_t3 v36) a + S1.size a ≤ S16512.size a := fun v5 k0_t3 v36 k0_hw131 => k0_hw131.1.2.2.2.2.2.2.2.2.2.2.2.2.2.2.2.2.2.2.2.2.2.2.2.2.2.1
theorem k0_off313_inb : ∀ (v5 : BitVec 32) (k0_t3 : Fin (k0_t3_loop v5).trips) (v36 : BitVec 32) (k0_hw131 : k0_chk131 v5 k0_t3 v36), ∀ a, (k0_off313 v5 k0_t3 v36) a + S1.size a ≤ S16512.size a := fun v5 k0_t3 v36 k0_hw131 => k0_hw131.1.2.2.2.2.2.2.2.2.2.2.2.2.2.2.2.2.2.2.2.2.2.2.2.2.2.2.1
theorem k0_off315_inb : ∀ (v5 : BitVec 32) (k0_t3 : Fin (k0_t3_loop v5).trips) (v36 : BitVec 32) (k0_hw131 : k0_chk131 v5 k0_t3 v36), ∀ a, (k0_off315 v5 k0_t3 v36) a + S1.size a ≤ S16512.size a := fun v5 k0_t3 v36 k0_hw131 => k0_hw131.1.2.2.2.2.2.2.2.2.2.2.2.2.2.2.2.2.2.2.2.2.2.2.2.2.2.2.2.1
theorem k0_off317_inb : ∀ (v5 : BitVec 32) (k0_t3 : Fin (k0_t3_loop v5).trips) (v36 : BitVec 32) (k0_hw131 : k0_chk131 v5 k0_t3 v36), ∀ a, (k0_off317 v5 k0_t3 v36) a + S1.size a ≤ S16512.size a := fun v5 k0_t3 v36 k0_hw131 => k0_hw131.1.2.2.2.2.2.2.2.2.2.2.2.2.2.2.2.2.2.2.2.2.2.2.2.2.2.2.2.2.1
theorem k0_off319_inb : ∀ (v5 : BitVec 32) (k0_t3 : Fin (k0_t3_loop v5).trips) (v36 : BitVec 32) (k0_hw131 : k0_chk131 v5 k0_t3 v36), ∀ a, (k0_off319 v5 k0_t3 v36) a + S1.size a ≤ S16512.size a := fun v5 k0_t3 v36 k0_hw131 => k0_hw131.1.2.2.2.2.2.2.2.2.2.2.2.2.2.2.2.2.2.2.2.2.2.2.2.2.2.2.2.2.2.1
theorem k0_off321_inb : ∀ (v5 : BitVec 32) (k0_t3 : Fin (k0_t3_loop v5).trips) (v36 : BitVec 32) (k0_hw131 : k0_chk131 v5 k0_t3 v36), ∀ a, (k0_off321 v5 k0_t3 v36) a + S1.size a ≤ S16512.size a := fun v5 k0_t3 v36 k0_hw131 => k0_hw131.1.2.2.2.2.2.2.2.2.2.2.2.2.2.2.2.2.2.2.2.2.2.2.2.2.2.2.2.2.2.2.1
theorem k0_off323_inb : ∀ (v5 : BitVec 32) (k0_t3 : Fin (k0_t3_loop v5).trips) (v36 : BitVec 32) (k0_hw131 : k0_chk131 v5 k0_t3 v36), ∀ a, (k0_off323 v5 k0_t3 v36) a + S1.size a ≤ S16512.size a := fun v5 k0_t3 v36 k0_hw131 => k0_hw131.1.2.2.2.2.2.2.2.2.2.2.2.2.2.2.2.2.2.2.2.2.2.2.2.2.2.2.2.2.2.2.2
theorem k0_off325_inb : ∀ (v5 : BitVec 32) (k0_t3 : Fin (k0_t3_loop v5).trips) (v36 : BitVec 32) (k0_hw131 : k0_chk131 v5 k0_t3 v36), ∀ a, (k0_off325 v5 k0_t3 v36) a + S1.size a ≤ S16512.size a := fun v5 k0_t3 v36 k0_hw131 => k0_hw131.2.1.1
theorem k0_off327_inb : ∀ (v5 : BitVec 32) (k0_t3 : Fin (k0_t3_loop v5).trips) (v36 : BitVec 32) (k0_hw131 : k0_chk131 v5 k0_t3 v36), ∀ a, (k0_off327 v5 k0_t3 v36) a + S1.size a ≤ S16512.size a := fun v5 k0_t3 v36 k0_hw131 => k0_hw131.2.1.2.1
theorem k0_off329_inb : ∀ (v5 : BitVec 32) (k0_t3 : Fin (k0_t3_loop v5).trips) (v36 : BitVec 32) (k0_hw131 : k0_chk131 v5 k0_t3 v36), ∀ a, (k0_off329 v5 k0_t3 v36) a + S1.size a ≤ S16512.size a := fun v5 k0_t3 v36 k0_hw131 => k0_hw131.2.1.2.2.1
theorem k0_off331_inb : ∀ (v5 : BitVec 32) (k0_t3 : Fin (k0_t3_loop v5).trips) (v36 : BitVec 32) (k0_hw131 : k0_chk131 v5 k0_t3 v36), ∀ a, (k0_off331 v5 k0_t3 v36) a + S1.size a ≤ S16512.size a := fun v5 k0_t3 v36 k0_hw131 => k0_hw131.2.1.2.2.2.1
theorem k0_off333_inb : ∀ (v5 : BitVec 32) (k0_t3 : Fin (k0_t3_loop v5).trips) (v36 : BitVec 32) (k0_hw131 : k0_chk131 v5 k0_t3 v36), ∀ a, (k0_off333 v5 k0_t3 v36) a + S1.size a ≤ S16512.size a := fun v5 k0_t3 v36 k0_hw131 => k0_hw131.2.1.2.2.2.2.1
theorem k0_off335_inb : ∀ (v5 : BitVec 32) (k0_t3 : Fin (k0_t3_loop v5).trips) (v36 : BitVec 32) (k0_hw131 : k0_chk131 v5 k0_t3 v36), ∀ a, (k0_off335 v5 k0_t3 v36) a + S1.size a ≤ S16512.size a := fun v5 k0_t3 v36 k0_hw131 => k0_hw131.2.1.2.2.2.2.2.1
theorem k0_off337_inb : ∀ (v5 : BitVec 32) (k0_t3 : Fin (k0_t3_loop v5).trips) (v36 : BitVec 32) (k0_hw131 : k0_chk131 v5 k0_t3 v36), ∀ a, (k0_off337 v5 k0_t3 v36) a + S1.size a ≤ S16512.size a := fun v5 k0_t3 v36 k0_hw131 => k0_hw131.2.1.2.2.2.2.2.2.1
theorem k0_off339_inb : ∀ (v5 : BitVec 32) (k0_t3 : Fin (k0_t3_loop v5).trips) (v36 : BitVec 32) (k0_hw131 : k0_chk131 v5 k0_t3 v36), ∀ a, (k0_off339 v5 k0_t3 v36) a + S1.size a ≤ S16512.size a := fun v5 k0_t3 v36 k0_hw131 => k0_hw131.2.1.2.2.2.2.2.2.2.1
theorem k0_off341_inb : ∀ (v5 : BitVec 32) (k0_t3 : Fin (k0_t3_loop v5).trips) (v36 : BitVec 32) (k0_hw131 : k0_chk131 v5 k0_t3 v36), ∀ a, (k0_off341 v5 k0_t3 v36) a + S1.size a ≤ S16512.size a := fun v5 k0_t3 v36 k0_hw131 => k0_hw131.2.1.2.2.2.2.2.2.2.2.1
theorem k0_off343_inb : ∀ (v5 : BitVec 32) (k0_t3 : Fin (k0_t3_loop v5).trips) (v36 : BitVec 32) (k0_hw131 : k0_chk131 v5 k0_t3 v36), ∀ a, (k0_off343 v5 k0_t3 v36) a + S1.size a ≤ S16512.size a := fun v5 k0_t3 v36 k0_hw131 => k0_hw131.2.1.2.2.2.2.2.2.2.2.2.1
theorem k0_off345_inb : ∀ (v5 : BitVec 32) (k0_t3 : Fin (k0_t3_loop v5).trips) (v36 : BitVec 32) (k0_hw131 : k0_chk131 v5 k0_t3 v36), ∀ a, (k0_off345 v5 k0_t3 v36) a + S1.size a ≤ S16512.size a := fun v5 k0_t3 v36 k0_hw131 => k0_hw131.2.1.2.2.2.2.2.2.2.2.2.2.1
theorem k0_off347_inb : ∀ (v5 : BitVec 32) (k0_t3 : Fin (k0_t3_loop v5).trips) (v36 : BitVec 32) (k0_hw131 : k0_chk131 v5 k0_t3 v36), ∀ a, (k0_off347 v5 k0_t3 v36) a + S1.size a ≤ S16512.size a := fun v5 k0_t3 v36 k0_hw131 => k0_hw131.2.1.2.2.2.2.2.2.2.2.2.2.2.1
theorem k0_off349_inb : ∀ (v5 : BitVec 32) (k0_t3 : Fin (k0_t3_loop v5).trips) (v36 : BitVec 32) (k0_hw131 : k0_chk131 v5 k0_t3 v36), ∀ a, (k0_off349 v5 k0_t3 v36) a + S1.size a ≤ S16512.size a := fun v5 k0_t3 v36 k0_hw131 => k0_hw131.2.1.2.2.2.2.2.2.2.2.2.2.2.2.1
theorem k0_off351_inb : ∀ (v5 : BitVec 32) (k0_t3 : Fin (k0_t3_loop v5).trips) (v36 : BitVec 32) (k0_hw131 : k0_chk131 v5 k0_t3 v36), ∀ a, (k0_off351 v5 k0_t3 v36) a + S1.size a ≤ S16512.size a := fun v5 k0_t3 v36 k0_hw131 => k0_hw131.2.1.2.2.2.2.2.2.2.2.2.2.2.2.2.1
theorem k0_off353_inb : ∀ (v5 : BitVec 32) (k0_t3 : Fin (k0_t3_loop v5).trips) (v36 : BitVec 32) (k0_hw131 : k0_chk131 v5 k0_t3 v36), ∀ a, (k0_off353 v5 k0_t3 v36) a + S1.size a ≤ S16512.size a := fun v5 k0_t3 v36 k0_hw131 => k0_hw131.2.1.2.2.2.2.2.2.2.2.2.2.2.2.2.2.1
theorem k0_off355_inb : ∀ (v5 : BitVec 32) (k0_t3 : Fin (k0_t3_loop v5).trips) (v36 : BitVec 32) (k0_hw131 : k0_chk131 v5 k0_t3 v36), ∀ a, (k0_off355 v5 k0_t3 v36) a + S1.size a ≤ S16512.size a := fun v5 k0_t3 v36 k0_hw131 => k0_hw131.2.1.2.2.2.2.2.2.2.2.2.2.2.2.2.2.2.1
theorem k0_off357_inb : ∀ (v5 : BitVec 32) (k0_t3 : Fin (k0_t3_loop v5).trips) (v36 : BitVec 32) (k0_hw131 : k0_chk131 v5 k0_t3 v36), ∀ a, (k0_off357 v5 k0_t3 v36) a + S1.size a ≤ S16512.size a := fun v5 k0_t3 v36 k0_hw131 => k0_hw131.2.1.2.2.2.2.2.2.2.2.2.2.2.2.2.2.2.2.1
theorem k0_off359_inb : ∀ (v5 : BitVec 32) (k0_t3 : Fin (k0_t3_loop v5).trips) (v36 : BitVec 32) (k0_hw131 : k0_chk131 v5 k0_t3 v36), ∀ a, (k0_off359 v5 k0_t3 v36) a + S1.size a ≤ S16512.size a := fun v5 k0_t3 v36 k0_hw131 => k0_hw131.2.1.2.2.2.2.2.2.2.2.2.2.2.2.2.2.2.2.2.1
theorem k0_off361_inb : ∀ (v5 : BitVec 32) (k0_t3 : Fin (k0_t3_loop v5).trips) (v36 : BitVec 32) (k0_hw131 : k0_chk131 v5 k0_t3 v36), ∀ a, (k0_off361 v5 k0_t3 v36) a + S1.size a ≤ S16512.size a := fun v5 k0_t3 v36 k0_hw131 => k0_hw131.2.1.2.2.2.2.2.2.2.2.2.2.2.2.2.2.2.2.2.2.1
theorem k0_off363_inb : ∀ (v5 : BitVec 32) (k0_t3 : Fin (k0_t3_loop v5).trips) (v36 : BitVec 32) (k0_hw131 : k0_chk131 v5 k0_t3 v36), ∀ a, (k0_off363 v5 k0_t3 v36) a + S1.size a ≤ S16512.size a := fun v5 k0_t3 v36 k0_hw131 => k0_hw131.2.1.2.2.2.2.2.2.2.2.2.2.2.2.2.2.2.2.2.2.2.1
theorem k0_off365_inb : ∀ (v5 : BitVec 32) (k0_t3 : Fin (k0_t3_loop v5).trips) (v36 : BitVec 32) (k0_hw131 : k0_chk131 v5 k0_t3 v36), ∀ a, (k0_off365 v5 k0_t3 v36) a + S1.size a ≤ S16512.size a := fun v5 k0_t3 v36 k0_hw131 => k0_hw131.2.1.2.2.2.2.2.2.2.2.2.2.2.2.2.2.2.2.2.2.2.2.1
theorem k0_off367_inb : ∀ (v5 : BitVec 32) (k0_t3 : Fin (k0_t3_loop v5).trips) (v36 : BitVec 32) (k0_hw131 : k0_chk131 v5 k0_t3 v36), ∀ a, (k0_off367 v5 k0_t3 v36) a + S1.size a ≤ S16512.size a := fun v5 k0_t3 v36 k0_hw131 => k0_hw131.2.1.2.2.2.2.2.2.2.2.2.2.2.2.2.2.2.2.2.2.2.2.2.1
theorem k0_off369_inb : ∀ (v5 : BitVec 32) (k0_t3 : Fin (k0_t3_loop v5).trips) (v36 : BitVec 32) (k0_hw131 : k0_chk131 v5 k0_t3 v36), ∀ a, (k0_off369 v5 k0_t3 v36) a + S1.size a ≤ S16512.size a := fun v5 k0_t3 v36 k0_hw131 => k0_hw131.2.1.2.2.2.2.2.2.2.2.2.2.2.2.2.2.2.2.2.2.2.2.2.2.1
theorem k0_off371_inb : ∀ (v5 : BitVec 32) (k0_t3 : Fin (k0_t3_loop v5).trips) (v36 : BitVec 32) (k0_hw131 : k0_chk131 v5 k0_t3 v36), ∀ a, (k0_off371 v5 k0_t3 v36) a + S1.size a ≤ S16512.size a := fun v5 k0_t3 v36 k0_hw131 => k0_hw131.2.1.2.2.2.2.2.2.2.2.2.2.2.2.2.2.2.2.2.2.2.2.2.2.2.1
theorem k0_off373_inb : ∀ (v5 : BitVec 32) (k0_t3 : Fin (k0_t3_loop v5).trips) (v36 : BitVec 32) (k0_hw131 : k0_chk131 v5 k0_t3 v36), ∀ a, (k0_off373 v5 k0_t3 v36) a + S1.size a ≤ S16512.size a := fun v5 k0_t3 v36 k0_hw131 => k0_hw131.2.1.2.2.2.2.2.2.2.2.2.2.2.2.2.2.2.2.2.2.2.2.2.2.2.2.1
theorem k0_off375_inb : ∀ (v5 : BitVec 32) (k0_t3 : Fin (k0_t3_loop v5).trips) (v36 : BitVec 32) (k0_hw131 : k0_chk131 v5 k0_t3 v36), ∀ a, (k0_off375 v5 k0_t3 v36) a + S1.size a ≤ S16512.size a := fun v5 k0_t3 v36 k0_hw131 => k0_hw131.2.1.2.2.2.2.2.2.2.2.2.2.2.2.2.2.2.2.2.2.2.2.2.2.2.2.2.1
theorem k0_off377_inb : ∀ (v5 : BitVec 32) (k0_t3 : Fin (k0_t3_loop v5).trips) (v36 : BitVec 32) (k0_hw131 : k0_chk131 v5 k0_t3 v36), ∀ a, (k0_off377 v5 k0_t3 v36) a + S1.size a ≤ S16512.size a := fun v5 k0_t3 v36 k0_hw131 => k0_hw131.2.1.2.2.2.2.2.2.2.2.2.2.2.2.2.2.2.2.2.2.2.2.2.2.2.2.2.2.1
theorem k0_off379_inb : ∀ (v5 : BitVec 32) (k0_t3 : Fin (k0_t3_loop v5).trips) (v36 : BitVec 32) (k0_hw131 : k0_chk131 v5 k0_t3 v36), ∀ a, (k0_off379 v5 k0_t3 v36) a + S1.size a ≤ S16512.size a := fun v5 k0_t3 v36 k0_hw131 => k0_hw131.2.1.2.2.2.2.2.2.2.2.2.2.2.2.2.2.2.2.2.2.2.2.2.2.2.2.2.2.2.1
theorem k0_off381_inb : ∀ (v5 : BitVec 32) (k0_t3 : Fin (k0_t3_loop v5).trips) (v36 : BitVec 32) (k0_hw131 : k0_chk131 v5 k0_t3 v36), ∀ a, (k0_off381 v5 k0_t3 v36) a + S1.size a ≤ S16512.size a := fun v5 k0_t3 v36 k0_hw131 => k0_hw131.2.1.2.2.2.2.2.2.2.2.2.2.2.2.2.2.2.2.2.2.2.2.2.2.2.2.2.2.2.2.1
theorem k0_off383_inb : ∀ (v5 : BitVec 32) (k0_t3 : Fin (k0_t3_loop v5).trips) (v36 : BitVec 32) (k0_hw131 : k0_chk131 v5 k0_t3 v36), ∀ a, (k0_off383 v5 k0_t3 v36) a + S1.size a ≤ S16512.size a := fun v5 k0_t3 v36 k0_hw131 => k0_hw131.2.1.2.2.2.2.2.2.2.2.2.2.2.2.2.2.2.2.2.2.2.2.2.2.2.2.2.2.2.2.2.1
theorem k0_off385_inb : ∀ (v5 : BitVec 32) (k0_t3 : Fin (k0_t3_loop v5).trips) (v36 : BitVec 32) (k0_hw131 : k0_chk131 v5 k0_t3 v36), ∀ a, (k0_off385 v5 k0_t3 v36) a + S1.size a ≤ S16512.size a := fun v5 k0_t3 v36 k0_hw131 => k0_hw131.2.1.2.2.2.2.2.2.2.2.2.2.2.2.2.2.2.2.2.2.2.2.2.2.2.2.2.2.2.2.2.2.1
theorem k0_off387_inb : ∀ (v5 : BitVec 32) (k0_t3 : Fin (k0_t3_loop v5).trips) (v36 : BitVec 32) (k0_hw131 : k0_chk131 v5 k0_t3 v36), ∀ a, (k0_off387 v5 k0_t3 v36) a + S1.size a ≤ S16512.size a := fun v5 k0_t3 v36 k0_hw131 => k0_hw131.2.1.2.2.2.2.2.2.2.2.2.2.2.2.2.2.2.2.2.2.2.2.2.2.2.2.2.2.2.2.2.2.2
theorem k0_off389_inb : ∀ (v5 : BitVec 32) (k0_t3 : Fin (k0_t3_loop v5).trips) (v36 : BitVec 32) (k0_hw131 : k0_chk131 v5 k0_t3 v36), ∀ a, (k0_off389 v5 k0_t3 v36) a + S1.size a ≤ S16512.size a := fun v5 k0_t3 v36 k0_hw131 => k0_hw131.2.2.1.1
theorem k0_off391_inb : ∀ (v5 : BitVec 32) (k0_t3 : Fin (k0_t3_loop v5).trips) (v36 : BitVec 32) (k0_hw131 : k0_chk131 v5 k0_t3 v36), ∀ a, (k0_off391 v5 k0_t3 v36) a + S1.size a ≤ S16512.size a := fun v5 k0_t3 v36 k0_hw131 => k0_hw131.2.2.1.2.1
theorem k0_off393_inb : ∀ (v5 : BitVec 32) (k0_t3 : Fin (k0_t3_loop v5).trips) (v36 : BitVec 32) (k0_hw131 : k0_chk131 v5 k0_t3 v36), ∀ a, (k0_off393 v5 k0_t3 v36) a + S1.size a ≤ S16512.size a := fun v5 k0_t3 v36 k0_hw131 => k0_hw131.2.2.1.2.2.1
theorem k0_off395_inb : ∀ (v5 : BitVec 32) (k0_t3 : Fin (k0_t3_loop v5).trips) (v36 : BitVec 32) (k0_hw131 : k0_chk131 v5 k0_t3 v36), ∀ a, (k0_off395 v5 k0_t3 v36) a + S1.size a ≤ S16512.size a := fun v5 k0_t3 v36 k0_hw131 => k0_hw131.2.2.1.2.2.2.1
theorem k0_off397_inb : ∀ (v5 : BitVec 32) (k0_t3 : Fin (k0_t3_loop v5).trips) (v36 : BitVec 32) (k0_hw131 : k0_chk131 v5 k0_t3 v36), ∀ a, (k0_off397 v5 k0_t3 v36) a + S1.size a ≤ S16512.size a := fun v5 k0_t3 v36 k0_hw131 => k0_hw131.2.2.1.2.2.2.2.1
theorem k0_off399_inb : ∀ (v5 : BitVec 32) (k0_t3 : Fin (k0_t3_loop v5).trips) (v36 : BitVec 32) (k0_hw131 : k0_chk131 v5 k0_t3 v36), ∀ a, (k0_off399 v5 k0_t3 v36) a + S1.size a ≤ S16512.size a := fun v5 k0_t3 v36 k0_hw131 => k0_hw131.2.2.1.2.2.2.2.2.1
theorem k0_off401_inb : ∀ (v5 : BitVec 32) (k0_t3 : Fin (k0_t3_loop v5).trips) (v36 : BitVec 32) (k0_hw131 : k0_chk131 v5 k0_t3 v36), ∀ a, (k0_off401 v5 k0_t3 v36) a + S1.size a ≤ S16512.size a := fun v5 k0_t3 v36 k0_hw131 => k0_hw131.2.2.1.2.2.2.2.2.2.1
theorem k0_off403_inb : ∀ (v5 : BitVec 32) (k0_t3 : Fin (k0_t3_loop v5).trips) (v36 : BitVec 32) (k0_hw131 : k0_chk131 v5 k0_t3 v36), ∀ a, (k0_off403 v5 k0_t3 v36) a + S1.size a ≤ S16512.size a := fun v5 k0_t3 v36 k0_hw131 => k0_hw131.2.2.1.2.2.2.2.2.2.2.1
theorem k0_off405_inb : ∀ (v5 : BitVec 32) (k0_t3 : Fin (k0_t3_loop v5).trips) (v36 : BitVec 32) (k0_hw131 : k0_chk131 v5 k0_t3 v36), ∀ a, (k0_off405 v5 k0_t3 v36) a + S1.size a ≤ S16512.size a := fun v5 k0_t3 v36 k0_hw131 => k0_hw131.2.2.1.2.2.2.2.2.2.2.2.1
theorem k0_off407_inb : ∀ (v5 : BitVec 32) (k0_t3 : Fin (k0_t3_loop v5).trips) (v36 : BitVec 32) (k0_hw131 : k0_chk131 v5 k0_t3 v36), ∀ a, (k0_off407 v5 k0_t3 v36) a + S1.size a ≤ S16512.size a := fun v5 k0_t3 v36 k0_hw131 => k0_hw131.2.2.1.2.2.2.2.2.2.2.2.2.1
theorem k0_off409_inb : ∀ (v5 : BitVec 32) (k0_t3 : Fin (k0_t3_loop v5).trips) (v36 : BitVec 32) (k0_hw131 : k0_chk131 v5 k0_t3 v36), ∀ a, (k0_off409 v5 k0_t3 v36) a + S1.size a ≤ S16512.size a := fun v5 k0_t3 v36 k0_hw131 => k0_hw131.2.2.1.2.2.2.2.2.2.2.2.2.2.1
theorem k0_off411_inb : ∀ (v5 : BitVec 32) (k0_t3 : Fin (k0_t3_loop v5).trips) (v36 : BitVec 32) (k0_hw131 : k0_chk131 v5 k0_t3 v36), ∀ a, (k0_off411 v5 k0_t3 v36) a + S1.size a ≤ S16512.size a := fun v5 k0_t3 v36 k0_hw131 => k0_hw131.2.2.1.2.2.2.2.2.2.2.2.2.2.2.1
theorem k0_off413_inb : ∀ (v5 : BitVec 32) (k0_t3 : Fin (k0_t3_loop v5).trips) (v36 : BitVec 32) (k0_hw131 : k0_chk131 v5 k0_t3 v36), ∀ a, (k0_off413 v5 k0_t3 v36) a + S1.size a ≤ S16512.size a := fun v5 k0_t3 v36 k0_hw131 => k0_hw131.2.2.1.2.2.2.2.2.2.2.2.2.2.2.2.1
theorem k0_off415_inb : ∀ (v5 : BitVec 32) (k0_t3 : Fin (k0_t3_loop v5).trips) (v36 : BitVec 32) (k0_hw131 : k0_chk131 v5 k0_t3 v36), ∀ a, (k0_off415 v5 k0_t3 v36) a + S1.size a ≤ S16512.size a := fun v5 k0_t3 v36 k0_hw131 => k0_hw131.2.2.1.2.2.2.2.2.2.2.2.2.2.2.2.2.1
theorem k0_off417_inb : ∀ (v5 : BitVec 32) (k0_t3 : Fin (k0_t3_loop v5).trips) (v36 : BitVec 32) (k0_hw131 : k0_chk131 v5 k0_t3 v36), ∀ a, (k0_off417 v5 k0_t3 v36) a + S1.size a ≤ S16512.size a := fun v5 k0_t3 v36 k0_hw131 => k0_hw131.2.2.1.2.2.2.2.2.2.2.2.2.2.2.2.2.2.1
theorem k0_off419_inb : ∀ (v5 : BitVec 32) (k0_t3 : Fin (k0_t3_loop v5).trips) (v36 : BitVec 32) (k0_hw131 : k0_chk131 v5 k0_t3 v36), ∀ a, (k0_off419 v5 k0_t3 v36) a + S1.size a ≤ S16512.size a := fun v5 k0_t3 v36 k0_hw131 => k0_hw131.2.2.1.2.2.2.2.2.2.2.2.2.2.2.2.2.2.2.1
theorem k0_off421_inb : ∀ (v5 : BitVec 32) (k0_t3 : Fin (k0_t3_loop v5).trips) (v36 : BitVec 32) (k0_hw131 : k0_chk131 v5 k0_t3 v36), ∀ a, (k0_off421 v5 k0_t3 v36) a + S1.size a ≤ S16512.size a := fun v5 k0_t3 v36 k0_hw131 => k0_hw131.2.2.1.2.2.2.2.2.2.2.2.2.2.2.2.2.2.2.2.1
theorem k0_off423_inb : ∀ (v5 : BitVec 32) (k0_t3 : Fin (k0_t3_loop v5).trips) (v36 : BitVec 32) (k0_hw131 : k0_chk131 v5 k0_t3 v36), ∀ a, (k0_off423 v5 k0_t3 v36) a + S1.size a ≤ S16512.size a := fun v5 k0_t3 v36 k0_hw131 => k0_hw131.2.2.1.2.2.2.2.2.2.2.2.2.2.2.2.2.2.2.2.2.1
theorem k0_off425_inb : ∀ (v5 : BitVec 32) (k0_t3 : Fin (k0_t3_loop v5).trips) (v36 : BitVec 32) (k0_hw131 : k0_chk131 v5 k0_t3 v36), ∀ a, (k0_off425 v5 k0_t3 v36) a + S1.size a ≤ S16512.size a := fun v5 k0_t3 v36 k0_hw131 => k0_hw131.2.2.1.2.2.2.2.2.2.2.2.2.2.2.2.2.2.2.2.2.2.1
theorem k0_off427_inb : ∀ (v5 : BitVec 32) (k0_t3 : Fin (k0_t3_loop v5).trips) (v36 : BitVec 32) (k0_hw131 : k0_chk131 v5 k0_t3 v36), ∀ a, (k0_off427 v5 k0_t3 v36) a + S1.size a ≤ S16512.size a := fun v5 k0_t3 v36 k0_hw131 => k0_hw131.2.2.1.2.2.2.2.2.2.2.2.2.2.2.2.2.2.2.2.2.2.2.1
theorem k0_off429_inb : ∀ (v5 : BitVec 32) (k0_t3 : Fin (k0_t3_loop v5).trips) (v36 : BitVec 32) (k0_hw131 : k0_chk131 v5 k0_t3 v36), ∀ a, (k0_off429 v5 k0_t3 v36) a + S1.size a ≤ S16512.size a := fun v5 k0_t3 v36 k0_hw131 => k0_hw131.2.2.1.2.2.2.2.2.2.2.2.2.2.2.2.2.2.2.2.2.2.2.2.1
theorem k0_off431_inb : ∀ (v5 : BitVec 32) (k0_t3 : Fin (k0_t3_loop v5).trips) (v36 : BitVec 32) (k0_hw131 : k0_chk131 v5 k0_t3 v36), ∀ a, (k0_off431 v5 k0_t3 v36) a + S1.size a ≤ S16512.size a := fun v5 k0_t3 v36 k0_hw131 => k0_hw131.2.2.1.2.2.2.2.2.2.2.2.2.2.2.2.2.2.2.2.2.2.2.2.2.1
theorem k0_off433_inb : ∀ (v5 : BitVec 32) (k0_t3 : Fin (k0_t3_loop v5).trips) (v36 : BitVec 32) (k0_hw131 : k0_chk131 v5 k0_t3 v36), ∀ a, (k0_off433 v5 k0_t3 v36) a + S1.size a ≤ S16512.size a := fun v5 k0_t3 v36 k0_hw131 => k0_hw131.2.2.1.2.2.2.2.2.2.2.2.2.2.2.2.2.2.2.2.2.2.2.2.2.2.1
theorem k0_off435_inb : ∀ (v5 : BitVec 32) (k0_t3 : Fin (k0_t3_loop v5).trips) (v36 : BitVec 32) (k0_hw131 : k0_chk131 v5 k0_t3 v36), ∀ a, (k0_off435 v5 k0_t3 v36) a + S1.size a ≤ S16512.size a := fun v5 k0_t3 v36 k0_hw131 => k0_hw131.2.2.1.2.2.2.2.2.2.2.2.2.2.2.2.2.2.2.2.2.2.2.2.2.2.2.1
theorem k0_off437_inb : ∀ (v5 : BitVec 32) (k0_t3 : Fin (k0_t3_loop v5).trips) (v36 : BitVec 32) (k0_hw131 : k0_chk131 v5 k0_t3 v36), ∀ a, (k0_off437 v5 k0_t3 v36) a + S1.size a ≤ S16512.size a := fun v5 k0_t3 v36 k0_hw131 => k0_hw131.2.2.1.2.2.2.2.2.2.2.2.2.2.2.2.2.2.2.2.2.2.2.2.2.2.2.2.1
theorem k0_off439_inb : ∀ (v5 : BitVec 32) (k0_t3 : Fin (k0_t3_loop v5).trips) (v36 : BitVec 32) (k0_hw131 : k0_chk131 v5 k0_t3 v36), ∀ a, (k0_off439 v5 k0_t3 v36) a + S1.size a ≤ S16512.size a := fun v5 k0_t3 v36 k0_hw131 => k0_hw131.2.2.1.2.2.2.2.2.2.2.2.2.2.2.2.2.2.2.2.2.2.2.2.2.2.2.2.2.1
theorem k0_off441_inb : ∀ (v5 : BitVec 32) (k0_t3 : Fin (k0_t3_loop v5).trips) (v36 : BitVec 32) (k0_hw131 : k0_chk131 v5 k0_t3 v36), ∀ a, (k0_off441 v5 k0_t3 v36) a + S1.size a ≤ S16512.size a := fun v5 k0_t3 v36 k0_hw131 => k0_hw131.2.2.1.2.2.2.2.2.2.2.2.2.2.2.2.2.2.2.2.2.2.2.2.2.2.2.2.2.2.1
theorem k0_off443_inb : ∀ (v5 : BitVec 32) (k0_t3 : Fin (k0_t3_loop v5).trips) (v36 : BitVec 32) (k0_hw131 : k0_chk131 v5 k0_t3 v36), ∀ a, (k0_off443 v5 k0_t3 v36) a + S1.size a ≤ S16512.size a := fun v5 k0_t3 v36 k0_hw131 => k0_hw131.2.2.1.2.2.2.2.2.2.2.2.2.2.2.2.2.2.2.2.2.2.2.2.2.2.2.2.2.2.2.1
theorem k0_off445_inb : ∀ (v5 : BitVec 32) (k0_t3 : Fin (k0_t3_loop v5).trips) (v36 : BitVec 32) (k0_hw131 : k0_chk131 v5 k0_t3 v36), ∀ a, (k0_off445 v5 k0_t3 v36) a + S1.size a ≤ S16512.size a := fun v5 k0_t3 v36 k0_hw131 => k0_hw131.2.2.1.2.2.2.2.2.2.2.2.2.2.2.2.2.2.2.2.2.2.2.2.2.2.2.2.2.2.2.2.1
theorem k0_off447_inb : ∀ (v5 : BitVec 32) (k0_t3 : Fin (k0_t3_loop v5).trips) (v36 : BitVec 32) (k0_hw131 : k0_chk131 v5 k0_t3 v36), ∀ a, (k0_off447 v5 k0_t3 v36) a + S1.size a ≤ S16512.size a := fun v5 k0_t3 v36 k0_hw131 => k0_hw131.2.2.1.2.2.2.2.2.2.2.2.2.2.2.2.2.2.2.2.2.2.2.2.2.2.2.2.2.2.2.2.2.1
theorem k0_off449_inb : ∀ (v5 : BitVec 32) (k0_t3 : Fin (k0_t3_loop v5).trips) (v36 : BitVec 32) (k0_hw131 : k0_chk131 v5 k0_t3 v36), ∀ a, (k0_off449 v5 k0_t3 v36) a + S1.size a ≤ S16512.size a := fun v5 k0_t3 v36 k0_hw131 => k0_hw131.2.2.1.2.2.2.2.2.2.2.2.2.2.2.2.2.2.2.2.2.2.2.2.2.2.2.2.2.2.2.2.2.2.1
theorem k0_off451_inb : ∀ (v5 : BitVec 32) (k0_t3 : Fin (k0_t3_loop v5).trips) (v36 : BitVec 32) (k0_hw131 : k0_chk131 v5 k0_t3 v36), ∀ a, (k0_off451 v5 k0_t3 v36) a + S1.size a ≤ S16512.size a := fun v5 k0_t3 v36 k0_hw131 => k0_hw131.2.2.1.2.2.2.2.2.2.2.2.2.2.2.2.2.2.2.2.2.2.2.2.2.2.2.2.2.2.2.2.2.2.2
theorem k0_off453_inb : ∀ (v5 : BitVec 32) (k0_t3 : Fin (k0_t3_loop v5).trips) (v36 : BitVec 32) (k0_hw131 : k0_chk131 v5 k0_t3 v36), ∀ a, (k0_off453 v5 k0_t3 v36) a + S1.size a ≤ S16512.size a := fun v5 k0_t3 v36 k0_hw131 => k0_hw131.2.2.2.1.1
theorem k0_off455_inb : ∀ (v5 : BitVec 32) (k0_t3 : Fin (k0_t3_loop v5).trips) (v36 : BitVec 32) (k0_hw131 : k0_chk131 v5 k0_t3 v36), ∀ a, (k0_off455 v5 k0_t3 v36) a + S1.size a ≤ S16512.size a := fun v5 k0_t3 v36 k0_hw131 => k0_hw131.2.2.2.1.2.1
theorem k0_off457_inb : ∀ (v5 : BitVec 32) (k0_t3 : Fin (k0_t3_loop v5).trips) (v36 : BitVec 32) (k0_hw131 : k0_chk131 v5 k0_t3 v36), ∀ a, (k0_off457 v5 k0_t3 v36) a + S1.size a ≤ S16512.size a := fun v5 k0_t3 v36 k0_hw131 => k0_hw131.2.2.2.1.2.2.1
theorem k0_off459_inb : ∀ (v5 : BitVec 32) (k0_t3 : Fin (k0_t3_loop v5).trips) (v36 : BitVec 32) (k0_hw131 : k0_chk131 v5 k0_t3 v36), ∀ a, (k0_off459 v5 k0_t3 v36) a + S1.size a ≤ S16512.size a := fun v5 k0_t3 v36 k0_hw131 => k0_hw131.2.2.2.1.2.2.2.1
theorem k0_off461_inb : ∀ (v5 : BitVec 32) (k0_t3 : Fin (k0_t3_loop v5).trips) (v36 : BitVec 32) (k0_hw131 : k0_chk131 v5 k0_t3 v36), ∀ a, (k0_off461 v5 k0_t3 v36) a + S1.size a ≤ S16512.size a := fun v5 k0_t3 v36 k0_hw131 => k0_hw131.2.2.2.1.2.2.2.2.1
theorem k0_off463_inb : ∀ (v5 : BitVec 32) (k0_t3 : Fin (k0_t3_loop v5).trips) (v36 : BitVec 32) (k0_hw131 : k0_chk131 v5 k0_t3 v36), ∀ a, (k0_off463 v5 k0_t3 v36) a + S1.size a ≤ S16512.size a := fun v5 k0_t3 v36 k0_hw131 => k0_hw131.2.2.2.1.2.2.2.2.2.1
theorem k0_off465_inb : ∀ (v5 : BitVec 32) (k0_t3 : Fin (k0_t3_loop v5).trips) (v36 : BitVec 32) (k0_hw131 : k0_chk131 v5 k0_t3 v36), ∀ a, (k0_off465 v5 k0_t3 v36) a + S1.size a ≤ S16512.size a := fun v5 k0_t3 v36 k0_hw131 => k0_hw131.2.2.2.1.2.2.2.2.2.2.1
theorem k0_off467_inb : ∀ (v5 : BitVec 32) (k0_t3 : Fin (k0_t3_loop v5).trips) (v36 : BitVec 32) (k0_hw131 : k0_chk131 v5 k0_t3 v36), ∀ a, (k0_off467 v5 k0_t3 v36) a + S1.size a ≤ S16512.size a := fun v5 k0_t3 v36 k0_hw131 => k0_hw131.2.2.2.1.2.2.2.2.2.2.2.1
theorem k0_off469_inb : ∀ (v5 : BitVec 32) (k0_t3 : Fin (k0_t3_loop v5).trips) (v36 : BitVec 32) (k0_hw131 : k0_chk131 v5 k0_t3 v36), ∀ a, (k0_off469 v5 k0_t3 v36) a + S1.size a ≤ S16512.size a := fun v5 k0_t3 v36 k0_hw131 => k0_hw131.2.2.2.1.2.2.2.2.2.2.2.2.1
theorem k0_off471_inb : ∀ (v5 : BitVec 32) (k0_t3 : Fin (k0_t3_loop v5).trips) (v36 : BitVec 32) (k0_hw131 : k0_chk131 v5 k0_t3 v36), ∀ a, (k0_off471 v5 k0_t3 v36) a + S1.size a ≤ S16512.size a := fun v5 k0_t3 v36 k0_hw131 => k0_hw131.2.2.2.1.2.2.2.2.2.2.2.2.2.1
theorem k0_off473_inb : ∀ (v5 : BitVec 32) (k0_t3 : Fin (k0_t3_loop v5).trips) (v36 : BitVec 32) (k0_hw131 : k0_chk131 v5 k0_t3 v36), ∀ a, (k0_off473 v5 k0_t3 v36) a + S1.size a ≤ S16512.size a := fun v5 k0_t3 v36 k0_hw131 => k0_hw131.2.2.2.1.2.2.2.2.2.2.2.2.2.2.1
theorem k0_off475_inb : ∀ (v5 : BitVec 32) (k0_t3 : Fin (k0_t3_loop v5).trips) (v36 : BitVec 32) (k0_hw131 : k0_chk131 v5 k0_t3 v36), ∀ a, (k0_off475 v5 k0_t3 v36) a + S1.size a ≤ S16512.size a := fun v5 k0_t3 v36 k0_hw131 => k0_hw131.2.2.2.1.2.2.2.2.2.2.2.2.2.2.2.1
theorem k0_off477_inb : ∀ (v5 : BitVec 32) (k0_t3 : Fin (k0_t3_loop v5).trips) (v36 : BitVec 32) (k0_hw131 : k0_chk131 v5 k0_t3 v36), ∀ a, (k0_off477 v5 k0_t3 v36) a + S1.size a ≤ S16512.size a := fun v5 k0_t3 v36 k0_hw131 => k0_hw131.2.2.2.1.2.2.2.2.2.2.2.2.2.2.2.2.1
theorem k0_off479_inb : ∀ (v5 : BitVec 32) (k0_t3 : Fin (k0_t3_loop v5).trips) (v36 : BitVec 32) (k0_hw131 : k0_chk131 v5 k0_t3 v36), ∀ a, (k0_off479 v5 k0_t3 v36) a + S1.size a ≤ S16512.size a := fun v5 k0_t3 v36 k0_hw131 => k0_hw131.2.2.2.1.2.2.2.2.2.2.2.2.2.2.2.2.2.1
theorem k0_off481_inb : ∀ (v5 : BitVec 32) (k0_t3 : Fin (k0_t3_loop v5).trips) (v36 : BitVec 32) (k0_hw131 : k0_chk131 v5 k0_t3 v36), ∀ a, (k0_off481 v5 k0_t3 v36) a + S1.size a ≤ S16512.size a := fun v5 k0_t3 v36 k0_hw131 => k0_hw131.2.2.2.1.2.2.2.2.2.2.2.2.2.2.2.2.2.2.1
theorem k0_off483_inb : ∀ (v5 : BitVec 32) (k0_t3 : Fin (k0_t3_loop v5).trips) (v36 : BitVec 32) (k0_hw131 : k0_chk131 v5 k0_t3 v36), ∀ a, (k0_off483 v5 k0_t3 v36) a + S1.size a ≤ S16512.size a := fun v5 k0_t3 v36 k0_hw131 => k0_hw131.2.2.2.1.2.2.2.2.2.2.2.2.2.2.2.2.2.2.2.1
theorem k0_off485_inb : ∀ (v5 : BitVec 32) (k0_t3 : Fin (k0_t3_loop v5).trips) (v36 : BitVec 32) (k0_hw131 : k0_chk131 v5 k0_t3 v36), ∀ a, (k0_off485 v5 k0_t3 v36) a + S1.size a ≤ S16512.size a := fun v5 k0_t3 v36 k0_hw131 => k0_hw131.2.2.2.1.2.2.2.2.2.2.2.2.2.2.2.2.2.2.2.2.1
theorem k0_off487_inb : ∀ (v5 : BitVec 32) (k0_t3 : Fin (k0_t3_loop v5).trips) (v36 : BitVec 32) (k0_hw131 : k0_chk131 v5 k0_t3 v36), ∀ a, (k0_off487 v5 k0_t3 v36) a + S1.size a ≤ S16512.size a := fun v5 k0_t3 v36 k0_hw131 => k0_hw131.2.2.2.1.2.2.2.2.2.2.2.2.2.2.2.2.2.2.2.2.2.1
theorem k0_off489_inb : ∀ (v5 : BitVec 32) (k0_t3 : Fin (k0_t3_loop v5).trips) (v36 : BitVec 32) (k0_hw131 : k0_chk131 v5 k0_t3 v36), ∀ a, (k0_off489 v5 k0_t3 v36) a + S1.size a ≤ S16512.size a := fun v5 k0_t3 v36 k0_hw131 => k0_hw131.2.2.2.1.2.2.2.2.2.2.2.2.2.2.2.2.2.2.2.2.2.2.1
theorem k0_off491_inb : ∀ (v5 : BitVec 32) (k0_t3 : Fin (k0_t3_loop v5).trips) (v36 : BitVec 32) (k0_hw131 : k0_chk131 v5 k0_t3 v36), ∀ a, (k0_off491 v5 k0_t3 v36) a + S1.size a ≤ S16512.size a := fun v5 k0_t3 v36 k0_hw131 => k0_hw131.2.2.2.1.2.2.2.2.2.2.2.2.2.2.2.2.2.2.2.2.2.2.2.1
theorem k0_off493_inb : ∀ (v5 : BitVec 32) (k0_t3 : Fin (k0_t3_loop v5).trips) (v36 : BitVec 32) (k0_hw131 : k0_chk131 v5 k0_t3 v36), ∀ a, (k0_off493 v5 k0_t3 v36) a + S1.size a ≤ S16512.size a := fun v5 k0_t3 v36 k0_hw131 => k0_hw131.2.2.2.1.2.2.2.2.2.2.2.2.2.2.2.2.2.2.2.2.2.2.2.2.1
theorem k0_off495_inb : ∀ (v5 : BitVec 32) (k0_t3 : Fin (k0_t3_loop v5).trips) (v36 : BitVec 32) (k0_hw131 : k0_chk131 v5 k0_t3 v36), ∀ a, (k0_off495 v5 k0_t3 v36) a + S1.size a ≤ S16512.size a := fun v5 k0_t3 v36 k0_hw131 => k0_hw131.2.2.2.1.2.2.2.2.2.2.2.2.2.2.2.2.2.2.2.2.2.2.2.2.2.1
theorem k0_off497_inb : ∀ (v5 : BitVec 32) (k0_t3 : Fin (k0_t3_loop v5).trips) (v36 : BitVec 32) (k0_hw131 : k0_chk131 v5 k0_t3 v36), ∀ a, (k0_off497 v5 k0_t3 v36) a + S1.size a ≤ S16512.size a := fun v5 k0_t3 v36 k0_hw131 => k0_hw131.2.2.2.1.2.2.2.2.2.2.2.2.2.2.2.2.2.2.2.2.2.2.2.2.2.2.1
theorem k0_off499_inb : ∀ (v5 : BitVec 32) (k0_t3 : Fin (k0_t3_loop v5).trips) (v36 : BitVec 32) (k0_hw131 : k0_chk131 v5 k0_t3 v36), ∀ a, (k0_off499 v5 k0_t3 v36) a + S1.size a ≤ S16512.size a := fun v5 k0_t3 v36 k0_hw131 => k0_hw131.2.2.2.1.2.2.2.2.2.2.2.2.2.2.2.2.2.2.2.2.2.2.2.2.2.2.2.1
theorem k0_off501_inb : ∀ (v5 : BitVec 32) (k0_t3 : Fin (k0_t3_loop v5).trips) (v36 : BitVec 32) (k0_hw131 : k0_chk131 v5 k0_t3 v36), ∀ a, (k0_off501 v5 k0_t3 v36) a + S1.size a ≤ S16512.size a := fun v5 k0_t3 v36 k0_hw131 => k0_hw131.2.2.2.1.2.2.2.2.2.2.2.2.2.2.2.2.2.2.2.2.2.2.2.2.2.2.2.2.1
theorem k0_off503_inb : ∀ (v5 : BitVec 32) (k0_t3 : Fin (k0_t3_loop v5).trips) (v36 : BitVec 32) (k0_hw131 : k0_chk131 v5 k0_t3 v36), ∀ a, (k0_off503 v5 k0_t3 v36) a + S1.size a ≤ S16512.size a := fun v5 k0_t3 v36 k0_hw131 => k0_hw131.2.2.2.1.2.2.2.2.2.2.2.2.2.2.2.2.2.2.2.2.2.2.2.2.2.2.2.2.2.1
theorem k0_off505_inb : ∀ (v5 : BitVec 32) (k0_t3 : Fin (k0_t3_loop v5).trips) (v36 : BitVec 32) (k0_hw131 : k0_chk131 v5 k0_t3 v36), ∀ a, (k0_off505 v5 k0_t3 v36) a + S1.size a ≤ S16512.size a := fun v5 k0_t3 v36 k0_hw131 => k0_hw131.2.2.2.1.2.2.2.2.2.2.2.2.2.2.2.2.2.2.2.2.2.2.2.2.2.2.2.2.2.2.1
theorem k0_off507_inb : ∀ (v5 : BitVec 32) (k0_t3 : Fin (k0_t3_loop v5).trips) (v36 : BitVec 32) (k0_hw131 : k0_chk131 v5 k0_t3 v36), ∀ a, (k0_off507 v5 k0_t3 v36) a + S1.size a ≤ S16512.size a := fun v5 k0_t3 v36 k0_hw131 => k0_hw131.2.2.2.1.2.2.2.2.2.2.2.2.2.2.2.2.2.2.2.2.2.2.2.2.2.2.2.2.2.2.2.1
theorem k0_off509_inb : ∀ (v5 : BitVec 32) (k0_t3 : Fin (k0_t3_loop v5).trips) (v36 : BitVec 32) (k0_hw131 : k0_chk131 v5 k0_t3 v36), ∀ a, (k0_off509 v5 k0_t3 v36) a + S1.size a ≤ S16512.size a := fun v5 k0_t3 v36 k0_hw131 => k0_hw131.2.2.2.1.2.2.2.2.2.2.2.2.2.2.2.2.2.2.2.2.2.2.2.2.2.2.2.2.2.2.2.2.1
theorem k0_off511_inb : ∀ (v5 : BitVec 32) (k0_t3 : Fin (k0_t3_loop v5).trips) (v36 : BitVec 32) (k0_hw131 : k0_chk131 v5 k0_t3 v36), ∀ a, (k0_off511 v5 k0_t3 v36) a + S1.size a ≤ S16512.size a := fun v5 k0_t3 v36 k0_hw131 => k0_hw131.2.2.2.1.2.2.2.2.2.2.2.2.2.2.2.2.2.2.2.2.2.2.2.2.2.2.2.2.2.2.2.2.2.1
theorem k0_off513_inb : ∀ (v5 : BitVec 32) (k0_t3 : Fin (k0_t3_loop v5).trips) (v36 : BitVec 32) (k0_hw131 : k0_chk131 v5 k0_t3 v36), ∀ a, (k0_off513 v5 k0_t3 v36) a + S1.size a ≤ S16512.size a := fun v5 k0_t3 v36 k0_hw131 => k0_hw131.2.2.2.1.2.2.2.2.2.2.2.2.2.2.2.2.2.2.2.2.2.2.2.2.2.2.2.2.2.2.2.2.2.2.1
theorem k0_off515_inb : ∀ (v5 : BitVec 32) (k0_t3 : Fin (k0_t3_loop v5).trips) (v36 : BitVec 32) (k0_hw131 : k0_chk131 v5 k0_t3 v36), ∀ a, (k0_off515 v5 k0_t3 v36) a + S1.size a ≤ S16512.size a := fun v5 k0_t3 v36 k0_hw131 => k0_hw131.2.2.2.1.2.2.2.2.2.2.2.2.2.2.2.2.2.2.2.2.2.2.2.2.2.2.2.2.2.2.2.2.2.2.2
theorem k0_off517_inb : ∀ (v5 : BitVec 32) (k0_t3 : Fin (k0_t3_loop v5).trips) (v36 : BitVec 32) (k0_hw131 : k0_chk131 v5 k0_t3 v36), ∀ (r : Fin 8), ∀ a, (k0_off517 v5 k0_t3 v36 (BitVec.ofNat 32 r.val)) a + S1.size a ≤ S16512.size a := fun v5 k0_t3 v36 k0_hw131 r => k0_hw131.2.2.2.2.1 r
theorem k0_off533_inb : ∀ (v5 : BitVec 32) (k0_t3 : Fin (k0_t3_loop v5).trips) (v36 : BitVec 32) (k0_hw131 : k0_chk131 v5 k0_t3 v36), ∀ (r : Fin 8), ∀ a, (k0_off533 v5 k0_t3 v36 (BitVec.ofNat 32 r.val)) a + S1.size a ≤ S16512.size a := fun v5 k0_t3 v36 k0_hw131 r => k0_hw131.2.2.2.2.2.1 r
theorem k0_off549_inb : ∀ (v5 : BitVec 32) (k0_t3 : Fin (k0_t3_loop v5).trips) (v36 : BitVec 32) (k0_hw131 : k0_chk131 v5 k0_t3 v36), ∀ (r : Fin 8), ∀ a, (k0_off549 v5 k0_t3 v36 (BitVec.ofNat 32 r.val)) a + S1.size a ≤ S16512.size a := fun v5 k0_t3 v36 k0_hw131 r => k0_hw131.2.2.2.2.2.2.1 r
theorem k0_off565_inb : ∀ (v5 : BitVec 32) (k0_t3 : Fin (k0_t3_loop v5).trips) (v36 : BitVec 32) (k0_hw131 : k0_chk131 v5 k0_t3 v36), ∀ (r : Fin 8), ∀ a, (k0_off565 v5 k0_t3 v36 (BitVec.ofNat 32 r.val)) a + S1.size a ≤ S16512.size a := fun v5 k0_t3 v36 k0_hw131 r => k0_hw131.2.2.2.2.2.2.2.1 r
theorem k0_off581_inb : ∀ (v5 : BitVec 32) (k0_t3 : Fin (k0_t3_loop v5).trips) (v36 : BitVec 32) (k0_hw131 : k0_chk131 v5 k0_t3 v36), ∀ (r : Fin 8), ∀ a, (k0_off581 v5 k0_t3 v36 (BitVec.ofNat 32 r.val)) a + S1.size a ≤ S16512.size a := fun v5 k0_t3 v36 k0_hw131 r => k0_hw131.2.2.2.2.2.2.2.2.1 r
theorem k0_off597_inb : ∀ (v5 : BitVec 32) (k0_t3 : Fin (k0_t3_loop v5).trips) (v36 : BitVec 32) (k0_hw131 : k0_chk131 v5 k0_t3 v36), ∀ (r : Fin 8), ∀ a, (k0_off597 v5 k0_t3 v36 (BitVec.ofNat 32 r.val)) a + S1.size a ≤ S16512.size a := fun v5 k0_t3 v36 k0_hw131 r => k0_hw131.2.2.2.2.2.2.2.2.2.1 r
theorem k0_off613_inb : ∀ (v5 : BitVec 32) (k0_t3 : Fin (k0_t3_loop v5).trips) (v36 : BitVec 32) (k0_hw131 : k0_chk131 v5 k0_t3 v36), ∀ (r : Fin 8), ∀ a, (k0_off613 v5 k0_t3 v36 (BitVec.ofNat 32 r.val)) a + S1.size a ≤ S16512.size a := fun v5 k0_t3 v36 k0_hw131 r => k0_hw131.2.2.2.2.2.2.2.2.2.2.1 r
theorem k0_off629_inb : ∀ (v5 : BitVec 32) (k0_t3 : Fin (k0_t3_loop v5).trips) (v36 : BitVec 32) (k0_hw131 : k0_chk131 v5 k0_t3 v36), ∀ (r : Fin 8), ∀ a, (k0_off629 v5 k0_t3 v36 (BitVec.ofNat 32 r.val)) a + S1.size a ≤ S16512.size a := fun v5 k0_t3 v36 k0_hw131 r => k0_hw131.2.2.2.2.2.2.2.2.2.2.2.1 r
theorem k0_off645_inb : ∀ (v5 : BitVec 32) (k0_t3 : Fin (k0_t3_loop v5).trips) (v36 : BitVec 32) (k0_hw131 : k0_chk131 v5 k0_t3 v36), ∀ (r : Fin 8), ∀ a, (k0_off645 v5 k0_t3 v36 (BitVec.ofNat 32 r.val)) a + S1.size a ≤ S16512.size a := fun v5 k0_t3 v36 k0_hw131 r => k0_hw131.2.2.2.2.2.2.2.2.2.2.2.2.1 r
theorem k0_off661_inb : ∀ (v5 : BitVec 32) (k0_t3 : Fin (k0_t3_loop v5).trips) (v36 : BitVec 32) (k0_hw131 : k0_chk131 v5 k0_t3 v36), ∀ (r : Fin 8), ∀ a, (k0_off661 v5 k0_t3 v36 (BitVec.ofNat 32 r.val)) a + S1.size a ≤ S16512.size a := fun v5 k0_t3 v36 k0_hw131 r => k0_hw131.2.2.2.2.2.2.2.2.2.2.2.2.2.1 r
theorem k0_off677_inb : ∀ (v5 : BitVec 32) (k0_t3 : Fin (k0_t3_loop v5).trips) (v36 : BitVec 32) (k0_hw131 : k0_chk131 v5 k0_t3 v36), ∀ (r : Fin 8), ∀ a, (k0_off677 v5 k0_t3 v36 (BitVec.ofNat 32 r.val)) a + S1.size a ≤ S16512.size a := fun v5 k0_t3 v36 k0_hw131 r => k0_hw131.2.2.2.2.2.2.2.2.2.2.2.2.2.2.1 r
theorem k0_off693_inb : ∀ (v5 : BitVec 32) (k0_t3 : Fin (k0_t3_loop v5).trips) (v36 : BitVec 32) (k0_hw131 : k0_chk131 v5 k0_t3 v36), ∀ (r : Fin 8), ∀ a, (k0_off693 v5 k0_t3 v36 (BitVec.ofNat 32 r.val)) a + S1.size a ≤ S16512.size a := fun v5 k0_t3 v36 k0_hw131 r => k0_hw131.2.2.2.2.2.2.2.2.2.2.2.2.2.2.2.1 r
theorem k0_off709_inb : ∀ (v5 : BitVec 32) (k0_t3 : Fin (k0_t3_loop v5).trips) (v36 : BitVec 32) (k0_hw131 : k0_chk131 v5 k0_t3 v36), ∀ (r : Fin 8), ∀ a, (k0_off709 v5 k0_t3 v36 (BitVec.ofNat 32 r.val)) a + S1.size a ≤ S16512.size a := fun v5 k0_t3 v36 k0_hw131 r => k0_hw131.2.2.2.2.2.2.2.2.2.2.2.2.2.2.2.2.1 r
theorem k0_off725_inb : ∀ (v5 : BitVec 32) (k0_t3 : Fin (k0_t3_loop v5).trips) (v36 : BitVec 32) (k0_hw131 : k0_chk131 v5 k0_t3 v36), ∀ (r : Fin 8), ∀ a, (k0_off725 v5 k0_t3 v36 (BitVec.ofNat 32 r.val)) a + S1.size a ≤ S16512.size a := fun v5 k0_t3 v36 k0_hw131 r => k0_hw131.2.2.2.2.2.2.2.2.2.2.2.2.2.2.2.2.2.1 r
theorem k0_off741_inb : ∀ (v5 : BitVec 32) (k0_t3 : Fin (k0_t3_loop v5).trips) (v36 : BitVec 32) (k0_hw131 : k0_chk131 v5 k0_t3 v36), ∀ (r : Fin 8), ∀ a, (k0_off741 v5 k0_t3 v36 (BitVec.ofNat 32 r.val)) a + S1.size a ≤ S16512.size a := fun v5 k0_t3 v36 k0_hw131 r => k0_hw131.2.2.2.2.2.2.2.2.2.2.2.2.2.2.2.2.2.2.1 r
theorem k0_off757_inb : ∀ (v5 : BitVec 32) (k0_t3 : Fin (k0_t3_loop v5).trips) (v36 : BitVec 32) (k0_hw131 : k0_chk131 v5 k0_t3 v36), ∀ (r : Fin 8), ∀ a, (k0_off757 v5 k0_t3 v36 (BitVec.ofNat 32 r.val)) a + S1.size a ≤ S16512.size a := fun v5 k0_t3 v36 k0_hw131 r => k0_hw131.2.2.2.2.2.2.2.2.2.2.2.2.2.2.2.2.2.2.2 r

def k0_off758 (v3271 : BitVec 32) : Fin 2 → Nat :=
  let c17_i32_1602 : BitVec 32 := 17#32
  let v3300 : BitVec 32 := Scalar.muli v3271 c17_i32_1602
  let v3301 : Index := Scalar.indexCast v3300
  let c0_1603 : Index := 0#32
  ![v3301.toNat, 0]

def k0_off759 (v3275 : BitVec 32) : Fin 2 → Nat :=
  let c17_i32_1606 : BitVec 32 := 17#32
  let v3305 : BitVec 32 := Scalar.muli v3275 c17_i32_1606
  let v3306 : Index := Scalar.indexCast v3305
  let c0_1607 : Index := 0#32
  ![v3306.toNat, 0]

def k0_off760 (v3279 : BitVec 32) : Fin 2 → Nat :=
  let c17_i32_1610 : BitVec 32 := 17#32
  let v3310 : BitVec 32 := Scalar.muli v3279 c17_i32_1610
  let v3311 : Index := Scalar.indexCast v3310
  let c0_1611 : Index := 0#32
  ![v3311.toNat, 0]

def k0_off761 (v3283 : BitVec 32) : Fin 2 → Nat :=
  let c17_i32_1614 : BitVec 32 := 17#32
  let v3315 : BitVec 32 := Scalar.muli v3283 c17_i32_1614
  let v3316 : Index := Scalar.indexCast v3315
  let c0_1615 : Index := 0#32
  ![v3316.toNat, 0]

def k0_off762 (v3287 : BitVec 32) : Fin 2 → Nat :=
  let c17_i32_1618 : BitVec 32 := 17#32
  let v3320 : BitVec 32 := Scalar.muli v3287 c17_i32_1618
  let v3321 : Index := Scalar.indexCast v3320
  let c0_1619 : Index := 0#32
  ![v3321.toNat, 0]

def k0_off763 (v3291 : BitVec 32) : Fin 2 → Nat :=
  let c17_i32_1622 : BitVec 32 := 17#32
  let v3325 : BitVec 32 := Scalar.muli v3291 c17_i32_1622
  let v3326 : Index := Scalar.indexCast v3325
  let c0_1623 : Index := 0#32
  ![v3326.toNat, 0]

def k0_off764 (v3295 : BitVec 32) : Fin 2 → Nat :=
  let c17_i32_1626 : BitVec 32 := 17#32
  let v3330 : BitVec 32 := Scalar.muli v3295 c17_i32_1626
  let v3331 : Index := Scalar.indexCast v3330
  let c0_1627 : Index := 0#32
  ![v3331.toNat, 0]

def k0_off765 (v3299 : BitVec 32) : Fin 2 → Nat :=
  let c17_i32_1630 : BitVec 32 := 17#32
  let v3335 : BitVec 32 := Scalar.muli v3299 c17_i32_1630
  let v3336 : Index := Scalar.indexCast v3335
  let c0_1631 : Index := 0#32
  ![v3336.toNat, 0]

def k0_chk387 (v3299 : BitVec 32) : Prop :=
  (∀ a, (k0_off765 v3299) a + S16x128.size a ≤ S26136x128.size a)
theorem k0_off765_inb : ∀ (v3299 : BitVec 32) (k0_hw387 : k0_chk387 v3299), ∀ a, (k0_off765 v3299) a + S16x128.size a ≤ S26136x128.size a := fun v3299 k0_hw387 => k0_hw387

def k0_off766 (v3271 : BitVec 32) : Fin 2 → Nat :=
  let c17_i32_1634 : BitVec 32 := 17#32
  let v3340 : BitVec 32 := Scalar.muli v3271 c17_i32_1634
  let v3341 : Index := Scalar.indexCast v3340
  let c0_1635 : Index := 0#32
  ![v3341.toNat, 0]

def k0_chk380 (v3271 : BitVec 32) : Prop :=
  (∀ a, (k0_off758 v3271) a + S16x128.size a ≤ S26136x128.size a) ∧
  (∀ a, (k0_off766 v3271) a + S16x128.size a ≤ S26136x128.size a)
theorem k0_off758_inb : ∀ (v3271 : BitVec 32) (k0_hw380 : k0_chk380 v3271), ∀ a, (k0_off758 v3271) a + S16x128.size a ≤ S26136x128.size a := fun v3271 k0_hw380 => k0_hw380.1
theorem k0_off766_inb : ∀ (v3271 : BitVec 32) (k0_hw380 : k0_chk380 v3271), ∀ a, (k0_off766 v3271) a + S16x128.size a ≤ S26136x128.size a := fun v3271 k0_hw380 => k0_hw380.2

def k0_off767 (v3275 : BitVec 32) : Fin 2 → Nat :=
  let c17_i32_1636 : BitVec 32 := 17#32
  let v3345 : BitVec 32 := Scalar.muli v3275 c17_i32_1636
  let v3346 : Index := Scalar.indexCast v3345
  let c0_1637 : Index := 0#32
  ![v3346.toNat, 0]

def k0_chk381 (v3275 : BitVec 32) : Prop :=
  (∀ a, (k0_off759 v3275) a + S16x128.size a ≤ S26136x128.size a) ∧
  (∀ a, (k0_off767 v3275) a + S16x128.size a ≤ S26136x128.size a)
theorem k0_off759_inb : ∀ (v3275 : BitVec 32) (k0_hw381 : k0_chk381 v3275), ∀ a, (k0_off759 v3275) a + S16x128.size a ≤ S26136x128.size a := fun v3275 k0_hw381 => k0_hw381.1
theorem k0_off767_inb : ∀ (v3275 : BitVec 32) (k0_hw381 : k0_chk381 v3275), ∀ a, (k0_off767 v3275) a + S16x128.size a ≤ S26136x128.size a := fun v3275 k0_hw381 => k0_hw381.2

def k0_off768 (v3279 : BitVec 32) : Fin 2 → Nat :=
  let c17_i32_1638 : BitVec 32 := 17#32
  let v3350 : BitVec 32 := Scalar.muli v3279 c17_i32_1638
  let v3351 : Index := Scalar.indexCast v3350
  let c0_1639 : Index := 0#32
  ![v3351.toNat, 0]

def k0_chk382 (v3279 : BitVec 32) : Prop :=
  (∀ a, (k0_off760 v3279) a + S16x128.size a ≤ S26136x128.size a) ∧
  (∀ a, (k0_off768 v3279) a + S16x128.size a ≤ S26136x128.size a)
theorem k0_off760_inb : ∀ (v3279 : BitVec 32) (k0_hw382 : k0_chk382 v3279), ∀ a, (k0_off760 v3279) a + S16x128.size a ≤ S26136x128.size a := fun v3279 k0_hw382 => k0_hw382.1
theorem k0_off768_inb : ∀ (v3279 : BitVec 32) (k0_hw382 : k0_chk382 v3279), ∀ a, (k0_off768 v3279) a + S16x128.size a ≤ S26136x128.size a := fun v3279 k0_hw382 => k0_hw382.2

def k0_off769 (v3283 : BitVec 32) : Fin 2 → Nat :=
  let c17_i32_1640 : BitVec 32 := 17#32
  let v3355 : BitVec 32 := Scalar.muli v3283 c17_i32_1640
  let v3356 : Index := Scalar.indexCast v3355
  let c0_1641 : Index := 0#32
  ![v3356.toNat, 0]

def k0_chk383 (v3283 : BitVec 32) : Prop :=
  (∀ a, (k0_off761 v3283) a + S16x128.size a ≤ S26136x128.size a) ∧
  (∀ a, (k0_off769 v3283) a + S16x128.size a ≤ S26136x128.size a)
theorem k0_off761_inb : ∀ (v3283 : BitVec 32) (k0_hw383 : k0_chk383 v3283), ∀ a, (k0_off761 v3283) a + S16x128.size a ≤ S26136x128.size a := fun v3283 k0_hw383 => k0_hw383.1
theorem k0_off769_inb : ∀ (v3283 : BitVec 32) (k0_hw383 : k0_chk383 v3283), ∀ a, (k0_off769 v3283) a + S16x128.size a ≤ S26136x128.size a := fun v3283 k0_hw383 => k0_hw383.2

def k0_off770 (v3287 : BitVec 32) : Fin 2 → Nat :=
  let c17_i32_1642 : BitVec 32 := 17#32
  let v3360 : BitVec 32 := Scalar.muli v3287 c17_i32_1642
  let v3361 : Index := Scalar.indexCast v3360
  let c0_1643 : Index := 0#32
  ![v3361.toNat, 0]

def k0_chk384 (v3287 : BitVec 32) : Prop :=
  (∀ a, (k0_off762 v3287) a + S16x128.size a ≤ S26136x128.size a) ∧
  (∀ a, (k0_off770 v3287) a + S16x128.size a ≤ S26136x128.size a)
theorem k0_off762_inb : ∀ (v3287 : BitVec 32) (k0_hw384 : k0_chk384 v3287), ∀ a, (k0_off762 v3287) a + S16x128.size a ≤ S26136x128.size a := fun v3287 k0_hw384 => k0_hw384.1
theorem k0_off770_inb : ∀ (v3287 : BitVec 32) (k0_hw384 : k0_chk384 v3287), ∀ a, (k0_off770 v3287) a + S16x128.size a ≤ S26136x128.size a := fun v3287 k0_hw384 => k0_hw384.2

def k0_off771 (v3291 : BitVec 32) : Fin 2 → Nat :=
  let c17_i32_1644 : BitVec 32 := 17#32
  let v3365 : BitVec 32 := Scalar.muli v3291 c17_i32_1644
  let v3366 : Index := Scalar.indexCast v3365
  let c0_1645 : Index := 0#32
  ![v3366.toNat, 0]

def k0_chk385 (v3291 : BitVec 32) : Prop :=
  (∀ a, (k0_off763 v3291) a + S16x128.size a ≤ S26136x128.size a) ∧
  (∀ a, (k0_off771 v3291) a + S16x128.size a ≤ S26136x128.size a)
theorem k0_off763_inb : ∀ (v3291 : BitVec 32) (k0_hw385 : k0_chk385 v3291), ∀ a, (k0_off763 v3291) a + S16x128.size a ≤ S26136x128.size a := fun v3291 k0_hw385 => k0_hw385.1
theorem k0_off771_inb : ∀ (v3291 : BitVec 32) (k0_hw385 : k0_chk385 v3291), ∀ a, (k0_off771 v3291) a + S16x128.size a ≤ S26136x128.size a := fun v3291 k0_hw385 => k0_hw385.2

def k0_off772 (v3295 : BitVec 32) : Fin 2 → Nat :=
  let c17_i32_1646 : BitVec 32 := 17#32
  let v3370 : BitVec 32 := Scalar.muli v3295 c17_i32_1646
  let v3371 : Index := Scalar.indexCast v3370
  let c0_1647 : Index := 0#32
  ![v3371.toNat, 0]

def k0_chk386 (v3295 : BitVec 32) : Prop :=
  (∀ a, (k0_off764 v3295) a + S16x128.size a ≤ S26136x128.size a) ∧
  (∀ a, (k0_off772 v3295) a + S16x128.size a ≤ S26136x128.size a)
theorem k0_off764_inb : ∀ (v3295 : BitVec 32) (k0_hw386 : k0_chk386 v3295), ∀ a, (k0_off764 v3295) a + S16x128.size a ≤ S26136x128.size a := fun v3295 k0_hw386 => k0_hw386.1
theorem k0_off772_inb : ∀ (v3295 : BitVec 32) (k0_hw386 : k0_chk386 v3295), ∀ a, (k0_off772 v3295) a + S16x128.size a ≤ S26136x128.size a := fun v3295 k0_hw386 => k0_hw386.2

@[reducible] def k0_t4_loop (v5 : BitVec 32) : Scf.Loop 32 :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let v25 : BitVec 32 := Scalar.addi c0_i32_6 v24
  let c1_i32_10 : BitVec 32 := 1#32
  ⟨v28, v25, c1_i32_10⟩

def k0_chk130 (v5 : BitVec 32) : Prop :=
  ((k0_t3_loop v5).OK) ∧
  ((k0_t4_loop v5).OK)
theorem k0_t3_ok : ∀ (v5 : BitVec 32) (k0_hw130 : k0_chk130 v5), (k0_t3_loop v5).OK := fun v5 k0_hw130 => k0_hw130.1
theorem k0_t4_ok : ∀ (v5 : BitVec 32) (k0_hw130 : k0_chk130 v5), (k0_t4_loop v5).OK := fun v5 k0_hw130 => k0_hw130.2

def k0_off773 (i : grid0.Coords) : Fin 2 → Nat :=
  let arg0 : BitVec 32 := BitVec.ofNat 32 (i 0).val
  let v34 : Index := Scalar.indexCast arg0
  let arg1 : BitVec 32 := BitVec.ofNat 32 (i 1).val
  let v35 : Index := Scalar.indexCast arg1
  ![v34.toNat, v35.toNat]
def k0_off774 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c0_i32_13 : BitVec 32 := 0#32
  let v39 : BitVec 32 := Scalar.addi v38 c0_i32_13
  let v40 : Index := Scalar.indexCast v39
  ![v40.toNat]

def k0_off775 (v41 : BitVec 32) : Fin 3 → Nat :=
  let c0 : Index := 0#32
  let c5_i32 : BitVec 32 := 5#32
  let v42 : BitVec 32 := Scalar.muli v41 c5_i32
  let v43 : Index := Scalar.indexCast v42
  let c0_14 : Index := 0#32
  ![0, v43.toNat, 0]

def k0_chk389 (v41 : BitVec 32) : Prop :=
  (∀ a, (k0_off775 v41) a + S1x5x128.size a ≤ S1x7720x128.size a)
theorem k0_off775_inb : ∀ (v41 : BitVec 32) (k0_hw389 : k0_chk389 v41), ∀ a, (k0_off775 v41) a + S1x5x128.size a ≤ S1x7720x128.size a := fun v41 k0_hw389 => k0_hw389

def k0_off776 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c1_i32_17 : BitVec 32 := 1#32
  let v49 : BitVec 32 := Scalar.addi v38 c1_i32_17
  let v50 : Index := Scalar.indexCast v49
  ![v50.toNat]
def k0_off777 (v51 : BitVec 32) : Fin 3 → Nat :=
  let c0_19 : Index := 0#32
  let c5_i32_18 : BitVec 32 := 5#32
  let v52 : BitVec 32 := Scalar.muli v51 c5_i32_18
  let v53 : Index := Scalar.indexCast v52
  let c0_20 : Index := 0#32
  ![0, v53.toNat, 0]

def k0_chk390 (v51 : BitVec 32) : Prop :=
  (∀ a, (k0_off777 v51) a + S1x5x128.size a ≤ S1x7720x128.size a)
theorem k0_off777_inb : ∀ (v51 : BitVec 32) (k0_hw390 : k0_chk390 v51), ∀ a, (k0_off777 v51) a + S1x5x128.size a ≤ S1x7720x128.size a := fun v51 k0_hw390 => k0_hw390

def k0_off778 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c2_i32 : BitVec 32 := 2#32
  let v59 : BitVec 32 := Scalar.addi v38 c2_i32
  let v60 : Index := Scalar.indexCast v59
  ![v60.toNat]
def k0_off779 (v61 : BitVec 32) : Fin 3 → Nat :=
  let c0_23 : Index := 0#32
  let c5_i32_22 : BitVec 32 := 5#32
  let v62 : BitVec 32 := Scalar.muli v61 c5_i32_22
  let v63 : Index := Scalar.indexCast v62
  let c0_24 : Index := 0#32
  ![0, v63.toNat, 0]

def k0_chk391 (v61 : BitVec 32) : Prop :=
  (∀ a, (k0_off779 v61) a + S1x5x128.size a ≤ S1x7720x128.size a)
theorem k0_off779_inb : ∀ (v61 : BitVec 32) (k0_hw391 : k0_chk391 v61), ∀ a, (k0_off779 v61) a + S1x5x128.size a ≤ S1x7720x128.size a := fun v61 k0_hw391 => k0_hw391

def k0_off780 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c3_i32 : BitVec 32 := 3#32
  let v69 : BitVec 32 := Scalar.addi v38 c3_i32
  let v70 : Index := Scalar.indexCast v69
  ![v70.toNat]
def k0_off781 (v71 : BitVec 32) : Fin 3 → Nat :=
  let c0_27 : Index := 0#32
  let c5_i32_26 : BitVec 32 := 5#32
  let v72 : BitVec 32 := Scalar.muli v71 c5_i32_26
  let v73 : Index := Scalar.indexCast v72
  let c0_28 : Index := 0#32
  ![0, v73.toNat, 0]

def k0_chk392 (v71 : BitVec 32) : Prop :=
  (∀ a, (k0_off781 v71) a + S1x5x128.size a ≤ S1x7720x128.size a)
theorem k0_off781_inb : ∀ (v71 : BitVec 32) (k0_hw392 : k0_chk392 v71), ∀ a, (k0_off781 v71) a + S1x5x128.size a ≤ S1x7720x128.size a := fun v71 k0_hw392 => k0_hw392

def k0_off782 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c4_i32 : BitVec 32 := 4#32
  let v79 : BitVec 32 := Scalar.addi v38 c4_i32
  let v80 : Index := Scalar.indexCast v79
  ![v80.toNat]
def k0_off783 (v81 : BitVec 32) : Fin 3 → Nat :=
  let c0_31 : Index := 0#32
  let c5_i32_30 : BitVec 32 := 5#32
  let v82 : BitVec 32 := Scalar.muli v81 c5_i32_30
  let v83 : Index := Scalar.indexCast v82
  let c0_32 : Index := 0#32
  ![0, v83.toNat, 0]

def k0_chk393 (v81 : BitVec 32) : Prop :=
  (∀ a, (k0_off783 v81) a + S1x5x128.size a ≤ S1x7720x128.size a)
theorem k0_off783_inb : ∀ (v81 : BitVec 32) (k0_hw393 : k0_chk393 v81), ∀ a, (k0_off783 v81) a + S1x5x128.size a ≤ S1x7720x128.size a := fun v81 k0_hw393 => k0_hw393

def k0_off784 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c5_i32_34 : BitVec 32 := 5#32
  let v89 : BitVec 32 := Scalar.addi v38 c5_i32_34
  let v90 : Index := Scalar.indexCast v89
  ![v90.toNat]
def k0_off785 (v91 : BitVec 32) : Fin 3 → Nat :=
  let c0_36 : Index := 0#32
  let c5_i32_35 : BitVec 32 := 5#32
  let v92 : BitVec 32 := Scalar.muli v91 c5_i32_35
  let v93 : Index := Scalar.indexCast v92
  let c0_37 : Index := 0#32
  ![0, v93.toNat, 0]

def k0_chk394 (v91 : BitVec 32) : Prop :=
  (∀ a, (k0_off785 v91) a + S1x5x128.size a ≤ S1x7720x128.size a)
theorem k0_off785_inb : ∀ (v91 : BitVec 32) (k0_hw394 : k0_chk394 v91), ∀ a, (k0_off785 v91) a + S1x5x128.size a ≤ S1x7720x128.size a := fun v91 k0_hw394 => k0_hw394

def k0_off786 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c6_i32 : BitVec 32 := 6#32
  let v99 : BitVec 32 := Scalar.addi v38 c6_i32
  let v100 : Index := Scalar.indexCast v99
  ![v100.toNat]
def k0_off787 (v101 : BitVec 32) : Fin 3 → Nat :=
  let c0_40 : Index := 0#32
  let c5_i32_39 : BitVec 32 := 5#32
  let v102 : BitVec 32 := Scalar.muli v101 c5_i32_39
  let v103 : Index := Scalar.indexCast v102
  let c0_41 : Index := 0#32
  ![0, v103.toNat, 0]

def k0_chk395 (v101 : BitVec 32) : Prop :=
  (∀ a, (k0_off787 v101) a + S1x5x128.size a ≤ S1x7720x128.size a)
theorem k0_off787_inb : ∀ (v101 : BitVec 32) (k0_hw395 : k0_chk395 v101), ∀ a, (k0_off787 v101) a + S1x5x128.size a ≤ S1x7720x128.size a := fun v101 k0_hw395 => k0_hw395

def k0_off788 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c7_i32 : BitVec 32 := 7#32
  let v109 : BitVec 32 := Scalar.addi v38 c7_i32
  let v110 : Index := Scalar.indexCast v109
  ![v110.toNat]
def k0_off789 (v111 : BitVec 32) : Fin 3 → Nat :=
  let c0_44 : Index := 0#32
  let c5_i32_43 : BitVec 32 := 5#32
  let v112 : BitVec 32 := Scalar.muli v111 c5_i32_43
  let v113 : Index := Scalar.indexCast v112
  let c0_45 : Index := 0#32
  ![0, v113.toNat, 0]

def k0_chk396 (v111 : BitVec 32) : Prop :=
  (∀ a, (k0_off789 v111) a + S1x5x128.size a ≤ S1x7720x128.size a)
theorem k0_off789_inb : ∀ (v111 : BitVec 32) (k0_hw396 : k0_chk396 v111), ∀ a, (k0_off789 v111) a + S1x5x128.size a ≤ S1x7720x128.size a := fun v111 k0_hw396 => k0_hw396

def k0_off790 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c8_i32 : BitVec 32 := 8#32
  let v119 : BitVec 32 := Scalar.addi v38 c8_i32
  let v120 : Index := Scalar.indexCast v119
  ![v120.toNat]
def k0_off791 (v121 : BitVec 32) : Fin 3 → Nat :=
  let c0_48 : Index := 0#32
  let c5_i32_47 : BitVec 32 := 5#32
  let v122 : BitVec 32 := Scalar.muli v121 c5_i32_47
  let v123 : Index := Scalar.indexCast v122
  let c0_49 : Index := 0#32
  ![0, v123.toNat, 0]

def k0_chk397 (v121 : BitVec 32) : Prop :=
  (∀ a, (k0_off791 v121) a + S1x5x128.size a ≤ S1x7720x128.size a)
theorem k0_off791_inb : ∀ (v121 : BitVec 32) (k0_hw397 : k0_chk397 v121), ∀ a, (k0_off791 v121) a + S1x5x128.size a ≤ S1x7720x128.size a := fun v121 k0_hw397 => k0_hw397

def k0_off792 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c9_i32 : BitVec 32 := 9#32
  let v129 : BitVec 32 := Scalar.addi v38 c9_i32
  let v130 : Index := Scalar.indexCast v129
  ![v130.toNat]
def k0_off793 (v131 : BitVec 32) : Fin 3 → Nat :=
  let c0_52 : Index := 0#32
  let c5_i32_51 : BitVec 32 := 5#32
  let v132 : BitVec 32 := Scalar.muli v131 c5_i32_51
  let v133 : Index := Scalar.indexCast v132
  let c0_53 : Index := 0#32
  ![0, v133.toNat, 0]

def k0_chk398 (v131 : BitVec 32) : Prop :=
  (∀ a, (k0_off793 v131) a + S1x5x128.size a ≤ S1x7720x128.size a)
theorem k0_off793_inb : ∀ (v131 : BitVec 32) (k0_hw398 : k0_chk398 v131), ∀ a, (k0_off793 v131) a + S1x5x128.size a ≤ S1x7720x128.size a := fun v131 k0_hw398 => k0_hw398

def k0_off794 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c10_i32 : BitVec 32 := 10#32
  let v139 : BitVec 32 := Scalar.addi v38 c10_i32
  let v140 : Index := Scalar.indexCast v139
  ![v140.toNat]
def k0_off795 (v141 : BitVec 32) : Fin 3 → Nat :=
  let c0_56 : Index := 0#32
  let c5_i32_55 : BitVec 32 := 5#32
  let v142 : BitVec 32 := Scalar.muli v141 c5_i32_55
  let v143 : Index := Scalar.indexCast v142
  let c0_57 : Index := 0#32
  ![0, v143.toNat, 0]

def k0_chk399 (v141 : BitVec 32) : Prop :=
  (∀ a, (k0_off795 v141) a + S1x5x128.size a ≤ S1x7720x128.size a)
theorem k0_off795_inb : ∀ (v141 : BitVec 32) (k0_hw399 : k0_chk399 v141), ∀ a, (k0_off795 v141) a + S1x5x128.size a ≤ S1x7720x128.size a := fun v141 k0_hw399 => k0_hw399

def k0_off796 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c11_i32 : BitVec 32 := 11#32
  let v149 : BitVec 32 := Scalar.addi v38 c11_i32
  let v150 : Index := Scalar.indexCast v149
  ![v150.toNat]
def k0_off797 (v151 : BitVec 32) : Fin 3 → Nat :=
  let c0_60 : Index := 0#32
  let c5_i32_59 : BitVec 32 := 5#32
  let v152 : BitVec 32 := Scalar.muli v151 c5_i32_59
  let v153 : Index := Scalar.indexCast v152
  let c0_61 : Index := 0#32
  ![0, v153.toNat, 0]

def k0_chk400 (v151 : BitVec 32) : Prop :=
  (∀ a, (k0_off797 v151) a + S1x5x128.size a ≤ S1x7720x128.size a)
theorem k0_off797_inb : ∀ (v151 : BitVec 32) (k0_hw400 : k0_chk400 v151), ∀ a, (k0_off797 v151) a + S1x5x128.size a ≤ S1x7720x128.size a := fun v151 k0_hw400 => k0_hw400

def k0_off798 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c12_i32 : BitVec 32 := 12#32
  let v159 : BitVec 32 := Scalar.addi v38 c12_i32
  let v160 : Index := Scalar.indexCast v159
  ![v160.toNat]
def k0_off799 (v161 : BitVec 32) : Fin 3 → Nat :=
  let c0_64 : Index := 0#32
  let c5_i32_63 : BitVec 32 := 5#32
  let v162 : BitVec 32 := Scalar.muli v161 c5_i32_63
  let v163 : Index := Scalar.indexCast v162
  let c0_65 : Index := 0#32
  ![0, v163.toNat, 0]

def k0_chk401 (v161 : BitVec 32) : Prop :=
  (∀ a, (k0_off799 v161) a + S1x5x128.size a ≤ S1x7720x128.size a)
theorem k0_off799_inb : ∀ (v161 : BitVec 32) (k0_hw401 : k0_chk401 v161), ∀ a, (k0_off799 v161) a + S1x5x128.size a ≤ S1x7720x128.size a := fun v161 k0_hw401 => k0_hw401

def k0_off800 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c13_i32 : BitVec 32 := 13#32
  let v169 : BitVec 32 := Scalar.addi v38 c13_i32
  let v170 : Index := Scalar.indexCast v169
  ![v170.toNat]
def k0_off801 (v171 : BitVec 32) : Fin 3 → Nat :=
  let c0_68 : Index := 0#32
  let c5_i32_67 : BitVec 32 := 5#32
  let v172 : BitVec 32 := Scalar.muli v171 c5_i32_67
  let v173 : Index := Scalar.indexCast v172
  let c0_69 : Index := 0#32
  ![0, v173.toNat, 0]

def k0_chk402 (v171 : BitVec 32) : Prop :=
  (∀ a, (k0_off801 v171) a + S1x5x128.size a ≤ S1x7720x128.size a)
theorem k0_off801_inb : ∀ (v171 : BitVec 32) (k0_hw402 : k0_chk402 v171), ∀ a, (k0_off801 v171) a + S1x5x128.size a ≤ S1x7720x128.size a := fun v171 k0_hw402 => k0_hw402

def k0_off802 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c14_i32 : BitVec 32 := 14#32
  let v179 : BitVec 32 := Scalar.addi v38 c14_i32
  let v180 : Index := Scalar.indexCast v179
  ![v180.toNat]
def k0_off803 (v181 : BitVec 32) : Fin 3 → Nat :=
  let c0_72 : Index := 0#32
  let c5_i32_71 : BitVec 32 := 5#32
  let v182 : BitVec 32 := Scalar.muli v181 c5_i32_71
  let v183 : Index := Scalar.indexCast v182
  let c0_73 : Index := 0#32
  ![0, v183.toNat, 0]

def k0_chk403 (v181 : BitVec 32) : Prop :=
  (∀ a, (k0_off803 v181) a + S1x5x128.size a ≤ S1x7720x128.size a)
theorem k0_off803_inb : ∀ (v181 : BitVec 32) (k0_hw403 : k0_chk403 v181), ∀ a, (k0_off803 v181) a + S1x5x128.size a ≤ S1x7720x128.size a := fun v181 k0_hw403 => k0_hw403

def k0_off804 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c15_i32 : BitVec 32 := 15#32
  let v189 : BitVec 32 := Scalar.addi v38 c15_i32
  let v190 : Index := Scalar.indexCast v189
  ![v190.toNat]
def k0_off805 (v191 : BitVec 32) : Fin 3 → Nat :=
  let c0_76 : Index := 0#32
  let c5_i32_75 : BitVec 32 := 5#32
  let v192 : BitVec 32 := Scalar.muli v191 c5_i32_75
  let v193 : Index := Scalar.indexCast v192
  let c0_77 : Index := 0#32
  ![0, v193.toNat, 0]

def k0_chk404 (v191 : BitVec 32) : Prop :=
  (∀ a, (k0_off805 v191) a + S1x5x128.size a ≤ S1x7720x128.size a)
theorem k0_off805_inb : ∀ (v191 : BitVec 32) (k0_hw404 : k0_chk404 v191), ∀ a, (k0_off805 v191) a + S1x5x128.size a ≤ S1x7720x128.size a := fun v191 k0_hw404 => k0_hw404

def k0_off806 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c16_i32 : BitVec 32 := 16#32
  let v199 : BitVec 32 := Scalar.addi v38 c16_i32
  let v200 : Index := Scalar.indexCast v199
  ![v200.toNat]
def k0_off807 (v201 : BitVec 32) : Fin 3 → Nat :=
  let c0_80 : Index := 0#32
  let c5_i32_79 : BitVec 32 := 5#32
  let v202 : BitVec 32 := Scalar.muli v201 c5_i32_79
  let v203 : Index := Scalar.indexCast v202
  let c0_81 : Index := 0#32
  ![0, v203.toNat, 0]

def k0_chk405 (v201 : BitVec 32) : Prop :=
  (∀ a, (k0_off807 v201) a + S1x5x128.size a ≤ S1x7720x128.size a)
theorem k0_off807_inb : ∀ (v201 : BitVec 32) (k0_hw405 : k0_chk405 v201), ∀ a, (k0_off807 v201) a + S1x5x128.size a ≤ S1x7720x128.size a := fun v201 k0_hw405 => k0_hw405

def k0_off808 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c17_i32 : BitVec 32 := 17#32
  let v209 : BitVec 32 := Scalar.addi v38 c17_i32
  let v210 : Index := Scalar.indexCast v209
  ![v210.toNat]
def k0_off809 (v211 : BitVec 32) : Fin 3 → Nat :=
  let c0_84 : Index := 0#32
  let c5_i32_83 : BitVec 32 := 5#32
  let v212 : BitVec 32 := Scalar.muli v211 c5_i32_83
  let v213 : Index := Scalar.indexCast v212
  let c0_85 : Index := 0#32
  ![0, v213.toNat, 0]

def k0_chk406 (v211 : BitVec 32) : Prop :=
  (∀ a, (k0_off809 v211) a + S1x5x128.size a ≤ S1x7720x128.size a)
theorem k0_off809_inb : ∀ (v211 : BitVec 32) (k0_hw406 : k0_chk406 v211), ∀ a, (k0_off809 v211) a + S1x5x128.size a ≤ S1x7720x128.size a := fun v211 k0_hw406 => k0_hw406

def k0_off810 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c18_i32 : BitVec 32 := 18#32
  let v219 : BitVec 32 := Scalar.addi v38 c18_i32
  let v220 : Index := Scalar.indexCast v219
  ![v220.toNat]
def k0_off811 (v221 : BitVec 32) : Fin 3 → Nat :=
  let c0_88 : Index := 0#32
  let c5_i32_87 : BitVec 32 := 5#32
  let v222 : BitVec 32 := Scalar.muli v221 c5_i32_87
  let v223 : Index := Scalar.indexCast v222
  let c0_89 : Index := 0#32
  ![0, v223.toNat, 0]

def k0_chk407 (v221 : BitVec 32) : Prop :=
  (∀ a, (k0_off811 v221) a + S1x5x128.size a ≤ S1x7720x128.size a)
theorem k0_off811_inb : ∀ (v221 : BitVec 32) (k0_hw407 : k0_chk407 v221), ∀ a, (k0_off811 v221) a + S1x5x128.size a ≤ S1x7720x128.size a := fun v221 k0_hw407 => k0_hw407

def k0_off812 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c19_i32 : BitVec 32 := 19#32
  let v229 : BitVec 32 := Scalar.addi v38 c19_i32
  let v230 : Index := Scalar.indexCast v229
  ![v230.toNat]
def k0_off813 (v231 : BitVec 32) : Fin 3 → Nat :=
  let c0_92 : Index := 0#32
  let c5_i32_91 : BitVec 32 := 5#32
  let v232 : BitVec 32 := Scalar.muli v231 c5_i32_91
  let v233 : Index := Scalar.indexCast v232
  let c0_93 : Index := 0#32
  ![0, v233.toNat, 0]

def k0_chk408 (v231 : BitVec 32) : Prop :=
  (∀ a, (k0_off813 v231) a + S1x5x128.size a ≤ S1x7720x128.size a)
theorem k0_off813_inb : ∀ (v231 : BitVec 32) (k0_hw408 : k0_chk408 v231), ∀ a, (k0_off813 v231) a + S1x5x128.size a ≤ S1x7720x128.size a := fun v231 k0_hw408 => k0_hw408

def k0_off814 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c20_i32 : BitVec 32 := 20#32
  let v239 : BitVec 32 := Scalar.addi v38 c20_i32
  let v240 : Index := Scalar.indexCast v239
  ![v240.toNat]
def k0_off815 (v241 : BitVec 32) : Fin 3 → Nat :=
  let c0_96 : Index := 0#32
  let c5_i32_95 : BitVec 32 := 5#32
  let v242 : BitVec 32 := Scalar.muli v241 c5_i32_95
  let v243 : Index := Scalar.indexCast v242
  let c0_97 : Index := 0#32
  ![0, v243.toNat, 0]

def k0_chk409 (v241 : BitVec 32) : Prop :=
  (∀ a, (k0_off815 v241) a + S1x5x128.size a ≤ S1x7720x128.size a)
theorem k0_off815_inb : ∀ (v241 : BitVec 32) (k0_hw409 : k0_chk409 v241), ∀ a, (k0_off815 v241) a + S1x5x128.size a ≤ S1x7720x128.size a := fun v241 k0_hw409 => k0_hw409

def k0_off816 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c21_i32 : BitVec 32 := 21#32
  let v249 : BitVec 32 := Scalar.addi v38 c21_i32
  let v250 : Index := Scalar.indexCast v249
  ![v250.toNat]
def k0_off817 (v251 : BitVec 32) : Fin 3 → Nat :=
  let c0_100 : Index := 0#32
  let c5_i32_99 : BitVec 32 := 5#32
  let v252 : BitVec 32 := Scalar.muli v251 c5_i32_99
  let v253 : Index := Scalar.indexCast v252
  let c0_101 : Index := 0#32
  ![0, v253.toNat, 0]

def k0_chk410 (v251 : BitVec 32) : Prop :=
  (∀ a, (k0_off817 v251) a + S1x5x128.size a ≤ S1x7720x128.size a)
theorem k0_off817_inb : ∀ (v251 : BitVec 32) (k0_hw410 : k0_chk410 v251), ∀ a, (k0_off817 v251) a + S1x5x128.size a ≤ S1x7720x128.size a := fun v251 k0_hw410 => k0_hw410

def k0_off818 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c22_i32 : BitVec 32 := 22#32
  let v259 : BitVec 32 := Scalar.addi v38 c22_i32
  let v260 : Index := Scalar.indexCast v259
  ![v260.toNat]
def k0_off819 (v261 : BitVec 32) : Fin 3 → Nat :=
  let c0_104 : Index := 0#32
  let c5_i32_103 : BitVec 32 := 5#32
  let v262 : BitVec 32 := Scalar.muli v261 c5_i32_103
  let v263 : Index := Scalar.indexCast v262
  let c0_105 : Index := 0#32
  ![0, v263.toNat, 0]

def k0_chk411 (v261 : BitVec 32) : Prop :=
  (∀ a, (k0_off819 v261) a + S1x5x128.size a ≤ S1x7720x128.size a)
theorem k0_off819_inb : ∀ (v261 : BitVec 32) (k0_hw411 : k0_chk411 v261), ∀ a, (k0_off819 v261) a + S1x5x128.size a ≤ S1x7720x128.size a := fun v261 k0_hw411 => k0_hw411

def k0_off820 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c23_i32 : BitVec 32 := 23#32
  let v269 : BitVec 32 := Scalar.addi v38 c23_i32
  let v270 : Index := Scalar.indexCast v269
  ![v270.toNat]
def k0_off821 (v271 : BitVec 32) : Fin 3 → Nat :=
  let c0_108 : Index := 0#32
  let c5_i32_107 : BitVec 32 := 5#32
  let v272 : BitVec 32 := Scalar.muli v271 c5_i32_107
  let v273 : Index := Scalar.indexCast v272
  let c0_109 : Index := 0#32
  ![0, v273.toNat, 0]

def k0_chk412 (v271 : BitVec 32) : Prop :=
  (∀ a, (k0_off821 v271) a + S1x5x128.size a ≤ S1x7720x128.size a)
theorem k0_off821_inb : ∀ (v271 : BitVec 32) (k0_hw412 : k0_chk412 v271), ∀ a, (k0_off821 v271) a + S1x5x128.size a ≤ S1x7720x128.size a := fun v271 k0_hw412 => k0_hw412

def k0_off822 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c24_i32 : BitVec 32 := 24#32
  let v279 : BitVec 32 := Scalar.addi v38 c24_i32
  let v280 : Index := Scalar.indexCast v279
  ![v280.toNat]
def k0_off823 (v281 : BitVec 32) : Fin 3 → Nat :=
  let c0_112 : Index := 0#32
  let c5_i32_111 : BitVec 32 := 5#32
  let v282 : BitVec 32 := Scalar.muli v281 c5_i32_111
  let v283 : Index := Scalar.indexCast v282
  let c0_113 : Index := 0#32
  ![0, v283.toNat, 0]

def k0_chk413 (v281 : BitVec 32) : Prop :=
  (∀ a, (k0_off823 v281) a + S1x5x128.size a ≤ S1x7720x128.size a)
theorem k0_off823_inb : ∀ (v281 : BitVec 32) (k0_hw413 : k0_chk413 v281), ∀ a, (k0_off823 v281) a + S1x5x128.size a ≤ S1x7720x128.size a := fun v281 k0_hw413 => k0_hw413

def k0_off824 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c25_i32 : BitVec 32 := 25#32
  let v289 : BitVec 32 := Scalar.addi v38 c25_i32
  let v290 : Index := Scalar.indexCast v289
  ![v290.toNat]
def k0_off825 (v291 : BitVec 32) : Fin 3 → Nat :=
  let c0_116 : Index := 0#32
  let c5_i32_115 : BitVec 32 := 5#32
  let v292 : BitVec 32 := Scalar.muli v291 c5_i32_115
  let v293 : Index := Scalar.indexCast v292
  let c0_117 : Index := 0#32
  ![0, v293.toNat, 0]

def k0_chk414 (v291 : BitVec 32) : Prop :=
  (∀ a, (k0_off825 v291) a + S1x5x128.size a ≤ S1x7720x128.size a)
theorem k0_off825_inb : ∀ (v291 : BitVec 32) (k0_hw414 : k0_chk414 v291), ∀ a, (k0_off825 v291) a + S1x5x128.size a ≤ S1x7720x128.size a := fun v291 k0_hw414 => k0_hw414

def k0_off826 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c26_i32 : BitVec 32 := 26#32
  let v299 : BitVec 32 := Scalar.addi v38 c26_i32
  let v300 : Index := Scalar.indexCast v299
  ![v300.toNat]
def k0_off827 (v301 : BitVec 32) : Fin 3 → Nat :=
  let c0_120 : Index := 0#32
  let c5_i32_119 : BitVec 32 := 5#32
  let v302 : BitVec 32 := Scalar.muli v301 c5_i32_119
  let v303 : Index := Scalar.indexCast v302
  let c0_121 : Index := 0#32
  ![0, v303.toNat, 0]

def k0_chk415 (v301 : BitVec 32) : Prop :=
  (∀ a, (k0_off827 v301) a + S1x5x128.size a ≤ S1x7720x128.size a)
theorem k0_off827_inb : ∀ (v301 : BitVec 32) (k0_hw415 : k0_chk415 v301), ∀ a, (k0_off827 v301) a + S1x5x128.size a ≤ S1x7720x128.size a := fun v301 k0_hw415 => k0_hw415

def k0_off828 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c27_i32 : BitVec 32 := 27#32
  let v309 : BitVec 32 := Scalar.addi v38 c27_i32
  let v310 : Index := Scalar.indexCast v309
  ![v310.toNat]
def k0_off829 (v311 : BitVec 32) : Fin 3 → Nat :=
  let c0_124 : Index := 0#32
  let c5_i32_123 : BitVec 32 := 5#32
  let v312 : BitVec 32 := Scalar.muli v311 c5_i32_123
  let v313 : Index := Scalar.indexCast v312
  let c0_125 : Index := 0#32
  ![0, v313.toNat, 0]

def k0_chk416 (v311 : BitVec 32) : Prop :=
  (∀ a, (k0_off829 v311) a + S1x5x128.size a ≤ S1x7720x128.size a)
theorem k0_off829_inb : ∀ (v311 : BitVec 32) (k0_hw416 : k0_chk416 v311), ∀ a, (k0_off829 v311) a + S1x5x128.size a ≤ S1x7720x128.size a := fun v311 k0_hw416 => k0_hw416

def k0_off830 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c28_i32 : BitVec 32 := 28#32
  let v319 : BitVec 32 := Scalar.addi v38 c28_i32
  let v320 : Index := Scalar.indexCast v319
  ![v320.toNat]
def k0_off831 (v321 : BitVec 32) : Fin 3 → Nat :=
  let c0_128 : Index := 0#32
  let c5_i32_127 : BitVec 32 := 5#32
  let v322 : BitVec 32 := Scalar.muli v321 c5_i32_127
  let v323 : Index := Scalar.indexCast v322
  let c0_129 : Index := 0#32
  ![0, v323.toNat, 0]

def k0_chk417 (v321 : BitVec 32) : Prop :=
  (∀ a, (k0_off831 v321) a + S1x5x128.size a ≤ S1x7720x128.size a)
theorem k0_off831_inb : ∀ (v321 : BitVec 32) (k0_hw417 : k0_chk417 v321), ∀ a, (k0_off831 v321) a + S1x5x128.size a ≤ S1x7720x128.size a := fun v321 k0_hw417 => k0_hw417

def k0_off832 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c29_i32 : BitVec 32 := 29#32
  let v329 : BitVec 32 := Scalar.addi v38 c29_i32
  let v330 : Index := Scalar.indexCast v329
  ![v330.toNat]
def k0_off833 (v331 : BitVec 32) : Fin 3 → Nat :=
  let c0_132 : Index := 0#32
  let c5_i32_131 : BitVec 32 := 5#32
  let v332 : BitVec 32 := Scalar.muli v331 c5_i32_131
  let v333 : Index := Scalar.indexCast v332
  let c0_133 : Index := 0#32
  ![0, v333.toNat, 0]

def k0_chk418 (v331 : BitVec 32) : Prop :=
  (∀ a, (k0_off833 v331) a + S1x5x128.size a ≤ S1x7720x128.size a)
theorem k0_off833_inb : ∀ (v331 : BitVec 32) (k0_hw418 : k0_chk418 v331), ∀ a, (k0_off833 v331) a + S1x5x128.size a ≤ S1x7720x128.size a := fun v331 k0_hw418 => k0_hw418

def k0_off834 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c30_i32 : BitVec 32 := 30#32
  let v339 : BitVec 32 := Scalar.addi v38 c30_i32
  let v340 : Index := Scalar.indexCast v339
  ![v340.toNat]
def k0_off835 (v341 : BitVec 32) : Fin 3 → Nat :=
  let c0_136 : Index := 0#32
  let c5_i32_135 : BitVec 32 := 5#32
  let v342 : BitVec 32 := Scalar.muli v341 c5_i32_135
  let v343 : Index := Scalar.indexCast v342
  let c0_137 : Index := 0#32
  ![0, v343.toNat, 0]

def k0_chk419 (v341 : BitVec 32) : Prop :=
  (∀ a, (k0_off835 v341) a + S1x5x128.size a ≤ S1x7720x128.size a)
theorem k0_off835_inb : ∀ (v341 : BitVec 32) (k0_hw419 : k0_chk419 v341), ∀ a, (k0_off835 v341) a + S1x5x128.size a ≤ S1x7720x128.size a := fun v341 k0_hw419 => k0_hw419

def k0_off836 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c31_i32_139 : BitVec 32 := 31#32
  let v349 : BitVec 32 := Scalar.addi v38 c31_i32_139
  let v350 : Index := Scalar.indexCast v349
  ![v350.toNat]
def k0_off837 (v351 : BitVec 32) : Fin 3 → Nat :=
  let c0_141 : Index := 0#32
  let c5_i32_140 : BitVec 32 := 5#32
  let v352 : BitVec 32 := Scalar.muli v351 c5_i32_140
  let v353 : Index := Scalar.indexCast v352
  let c0_142 : Index := 0#32
  ![0, v353.toNat, 0]

def k0_chk420 (v351 : BitVec 32) : Prop :=
  (∀ a, (k0_off837 v351) a + S1x5x128.size a ≤ S1x7720x128.size a)
theorem k0_off837_inb : ∀ (v351 : BitVec 32) (k0_hw420 : k0_chk420 v351), ∀ a, (k0_off837 v351) a + S1x5x128.size a ≤ S1x7720x128.size a := fun v351 k0_hw420 => k0_hw420

def k0_off838 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c32_i32 : BitVec 32 := 32#32
  let v359 : BitVec 32 := Scalar.addi v38 c32_i32
  let v360 : Index := Scalar.indexCast v359
  ![v360.toNat]
def k0_off839 (v361 : BitVec 32) : Fin 3 → Nat :=
  let c0_145 : Index := 0#32
  let c5_i32_144 : BitVec 32 := 5#32
  let v362 : BitVec 32 := Scalar.muli v361 c5_i32_144
  let v363 : Index := Scalar.indexCast v362
  let c0_146 : Index := 0#32
  ![0, v363.toNat, 0]

def k0_chk421 (v361 : BitVec 32) : Prop :=
  (∀ a, (k0_off839 v361) a + S1x5x128.size a ≤ S1x7720x128.size a)
theorem k0_off839_inb : ∀ (v361 : BitVec 32) (k0_hw421 : k0_chk421 v361), ∀ a, (k0_off839 v361) a + S1x5x128.size a ≤ S1x7720x128.size a := fun v361 k0_hw421 => k0_hw421

def k0_off840 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c33_i32 : BitVec 32 := 33#32
  let v369 : BitVec 32 := Scalar.addi v38 c33_i32
  let v370 : Index := Scalar.indexCast v369
  ![v370.toNat]
def k0_off841 (v371 : BitVec 32) : Fin 3 → Nat :=
  let c0_149 : Index := 0#32
  let c5_i32_148 : BitVec 32 := 5#32
  let v372 : BitVec 32 := Scalar.muli v371 c5_i32_148
  let v373 : Index := Scalar.indexCast v372
  let c0_150 : Index := 0#32
  ![0, v373.toNat, 0]

def k0_chk422 (v371 : BitVec 32) : Prop :=
  (∀ a, (k0_off841 v371) a + S1x5x128.size a ≤ S1x7720x128.size a)
theorem k0_off841_inb : ∀ (v371 : BitVec 32) (k0_hw422 : k0_chk422 v371), ∀ a, (k0_off841 v371) a + S1x5x128.size a ≤ S1x7720x128.size a := fun v371 k0_hw422 => k0_hw422

def k0_off842 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c34_i32 : BitVec 32 := 34#32
  let v379 : BitVec 32 := Scalar.addi v38 c34_i32
  let v380 : Index := Scalar.indexCast v379
  ![v380.toNat]
def k0_off843 (v381 : BitVec 32) : Fin 3 → Nat :=
  let c0_153 : Index := 0#32
  let c5_i32_152 : BitVec 32 := 5#32
  let v382 : BitVec 32 := Scalar.muli v381 c5_i32_152
  let v383 : Index := Scalar.indexCast v382
  let c0_154 : Index := 0#32
  ![0, v383.toNat, 0]

def k0_chk423 (v381 : BitVec 32) : Prop :=
  (∀ a, (k0_off843 v381) a + S1x5x128.size a ≤ S1x7720x128.size a)
theorem k0_off843_inb : ∀ (v381 : BitVec 32) (k0_hw423 : k0_chk423 v381), ∀ a, (k0_off843 v381) a + S1x5x128.size a ≤ S1x7720x128.size a := fun v381 k0_hw423 => k0_hw423

def k0_off844 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c35_i32 : BitVec 32 := 35#32
  let v389 : BitVec 32 := Scalar.addi v38 c35_i32
  let v390 : Index := Scalar.indexCast v389
  ![v390.toNat]
def k0_off845 (v391 : BitVec 32) : Fin 3 → Nat :=
  let c0_157 : Index := 0#32
  let c5_i32_156 : BitVec 32 := 5#32
  let v392 : BitVec 32 := Scalar.muli v391 c5_i32_156
  let v393 : Index := Scalar.indexCast v392
  let c0_158 : Index := 0#32
  ![0, v393.toNat, 0]

def k0_chk424 (v391 : BitVec 32) : Prop :=
  (∀ a, (k0_off845 v391) a + S1x5x128.size a ≤ S1x7720x128.size a)
theorem k0_off845_inb : ∀ (v391 : BitVec 32) (k0_hw424 : k0_chk424 v391), ∀ a, (k0_off845 v391) a + S1x5x128.size a ≤ S1x7720x128.size a := fun v391 k0_hw424 => k0_hw424

def k0_off846 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c36_i32 : BitVec 32 := 36#32
  let v399 : BitVec 32 := Scalar.addi v38 c36_i32
  let v400 : Index := Scalar.indexCast v399
  ![v400.toNat]
def k0_off847 (v401 : BitVec 32) : Fin 3 → Nat :=
  let c0_161 : Index := 0#32
  let c5_i32_160 : BitVec 32 := 5#32
  let v402 : BitVec 32 := Scalar.muli v401 c5_i32_160
  let v403 : Index := Scalar.indexCast v402
  let c0_162 : Index := 0#32
  ![0, v403.toNat, 0]

def k0_chk425 (v401 : BitVec 32) : Prop :=
  (∀ a, (k0_off847 v401) a + S1x5x128.size a ≤ S1x7720x128.size a)
theorem k0_off847_inb : ∀ (v401 : BitVec 32) (k0_hw425 : k0_chk425 v401), ∀ a, (k0_off847 v401) a + S1x5x128.size a ≤ S1x7720x128.size a := fun v401 k0_hw425 => k0_hw425

def k0_off848 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c37_i32 : BitVec 32 := 37#32
  let v409 : BitVec 32 := Scalar.addi v38 c37_i32
  let v410 : Index := Scalar.indexCast v409
  ![v410.toNat]
def k0_off849 (v411 : BitVec 32) : Fin 3 → Nat :=
  let c0_165 : Index := 0#32
  let c5_i32_164 : BitVec 32 := 5#32
  let v412 : BitVec 32 := Scalar.muli v411 c5_i32_164
  let v413 : Index := Scalar.indexCast v412
  let c0_166 : Index := 0#32
  ![0, v413.toNat, 0]

def k0_chk426 (v411 : BitVec 32) : Prop :=
  (∀ a, (k0_off849 v411) a + S1x5x128.size a ≤ S1x7720x128.size a)
theorem k0_off849_inb : ∀ (v411 : BitVec 32) (k0_hw426 : k0_chk426 v411), ∀ a, (k0_off849 v411) a + S1x5x128.size a ≤ S1x7720x128.size a := fun v411 k0_hw426 => k0_hw426

def k0_off850 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c38_i32 : BitVec 32 := 38#32
  let v419 : BitVec 32 := Scalar.addi v38 c38_i32
  let v420 : Index := Scalar.indexCast v419
  ![v420.toNat]
def k0_off851 (v421 : BitVec 32) : Fin 3 → Nat :=
  let c0_169 : Index := 0#32
  let c5_i32_168 : BitVec 32 := 5#32
  let v422 : BitVec 32 := Scalar.muli v421 c5_i32_168
  let v423 : Index := Scalar.indexCast v422
  let c0_170 : Index := 0#32
  ![0, v423.toNat, 0]

def k0_chk427 (v421 : BitVec 32) : Prop :=
  (∀ a, (k0_off851 v421) a + S1x5x128.size a ≤ S1x7720x128.size a)
theorem k0_off851_inb : ∀ (v421 : BitVec 32) (k0_hw427 : k0_chk427 v421), ∀ a, (k0_off851 v421) a + S1x5x128.size a ≤ S1x7720x128.size a := fun v421 k0_hw427 => k0_hw427

def k0_off852 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c39_i32 : BitVec 32 := 39#32
  let v429 : BitVec 32 := Scalar.addi v38 c39_i32
  let v430 : Index := Scalar.indexCast v429
  ![v430.toNat]
def k0_off853 (v431 : BitVec 32) : Fin 3 → Nat :=
  let c0_173 : Index := 0#32
  let c5_i32_172 : BitVec 32 := 5#32
  let v432 : BitVec 32 := Scalar.muli v431 c5_i32_172
  let v433 : Index := Scalar.indexCast v432
  let c0_174 : Index := 0#32
  ![0, v433.toNat, 0]

def k0_chk428 (v431 : BitVec 32) : Prop :=
  (∀ a, (k0_off853 v431) a + S1x5x128.size a ≤ S1x7720x128.size a)
theorem k0_off853_inb : ∀ (v431 : BitVec 32) (k0_hw428 : k0_chk428 v431), ∀ a, (k0_off853 v431) a + S1x5x128.size a ≤ S1x7720x128.size a := fun v431 k0_hw428 => k0_hw428

def k0_off854 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c40_i32 : BitVec 32 := 40#32
  let v439 : BitVec 32 := Scalar.addi v38 c40_i32
  let v440 : Index := Scalar.indexCast v439
  ![v440.toNat]
def k0_off855 (v441 : BitVec 32) : Fin 3 → Nat :=
  let c0_177 : Index := 0#32
  let c5_i32_176 : BitVec 32 := 5#32
  let v442 : BitVec 32 := Scalar.muli v441 c5_i32_176
  let v443 : Index := Scalar.indexCast v442
  let c0_178 : Index := 0#32
  ![0, v443.toNat, 0]

def k0_chk429 (v441 : BitVec 32) : Prop :=
  (∀ a, (k0_off855 v441) a + S1x5x128.size a ≤ S1x7720x128.size a)
theorem k0_off855_inb : ∀ (v441 : BitVec 32) (k0_hw429 : k0_chk429 v441), ∀ a, (k0_off855 v441) a + S1x5x128.size a ≤ S1x7720x128.size a := fun v441 k0_hw429 => k0_hw429

def k0_off856 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c41_i32 : BitVec 32 := 41#32
  let v449 : BitVec 32 := Scalar.addi v38 c41_i32
  let v450 : Index := Scalar.indexCast v449
  ![v450.toNat]
def k0_off857 (v451 : BitVec 32) : Fin 3 → Nat :=
  let c0_181 : Index := 0#32
  let c5_i32_180 : BitVec 32 := 5#32
  let v452 : BitVec 32 := Scalar.muli v451 c5_i32_180
  let v453 : Index := Scalar.indexCast v452
  let c0_182 : Index := 0#32
  ![0, v453.toNat, 0]

def k0_chk430 (v451 : BitVec 32) : Prop :=
  (∀ a, (k0_off857 v451) a + S1x5x128.size a ≤ S1x7720x128.size a)
theorem k0_off857_inb : ∀ (v451 : BitVec 32) (k0_hw430 : k0_chk430 v451), ∀ a, (k0_off857 v451) a + S1x5x128.size a ≤ S1x7720x128.size a := fun v451 k0_hw430 => k0_hw430

def k0_off858 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c42_i32 : BitVec 32 := 42#32
  let v459 : BitVec 32 := Scalar.addi v38 c42_i32
  let v460 : Index := Scalar.indexCast v459
  ![v460.toNat]
def k0_off859 (v461 : BitVec 32) : Fin 3 → Nat :=
  let c0_185 : Index := 0#32
  let c5_i32_184 : BitVec 32 := 5#32
  let v462 : BitVec 32 := Scalar.muli v461 c5_i32_184
  let v463 : Index := Scalar.indexCast v462
  let c0_186 : Index := 0#32
  ![0, v463.toNat, 0]

def k0_chk431 (v461 : BitVec 32) : Prop :=
  (∀ a, (k0_off859 v461) a + S1x5x128.size a ≤ S1x7720x128.size a)
theorem k0_off859_inb : ∀ (v461 : BitVec 32) (k0_hw431 : k0_chk431 v461), ∀ a, (k0_off859 v461) a + S1x5x128.size a ≤ S1x7720x128.size a := fun v461 k0_hw431 => k0_hw431

def k0_off860 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c43_i32 : BitVec 32 := 43#32
  let v469 : BitVec 32 := Scalar.addi v38 c43_i32
  let v470 : Index := Scalar.indexCast v469
  ![v470.toNat]
def k0_off861 (v471 : BitVec 32) : Fin 3 → Nat :=
  let c0_189 : Index := 0#32
  let c5_i32_188 : BitVec 32 := 5#32
  let v472 : BitVec 32 := Scalar.muli v471 c5_i32_188
  let v473 : Index := Scalar.indexCast v472
  let c0_190 : Index := 0#32
  ![0, v473.toNat, 0]

def k0_chk432 (v471 : BitVec 32) : Prop :=
  (∀ a, (k0_off861 v471) a + S1x5x128.size a ≤ S1x7720x128.size a)
theorem k0_off861_inb : ∀ (v471 : BitVec 32) (k0_hw432 : k0_chk432 v471), ∀ a, (k0_off861 v471) a + S1x5x128.size a ≤ S1x7720x128.size a := fun v471 k0_hw432 => k0_hw432

def k0_off862 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c44_i32 : BitVec 32 := 44#32
  let v479 : BitVec 32 := Scalar.addi v38 c44_i32
  let v480 : Index := Scalar.indexCast v479
  ![v480.toNat]
def k0_off863 (v481 : BitVec 32) : Fin 3 → Nat :=
  let c0_193 : Index := 0#32
  let c5_i32_192 : BitVec 32 := 5#32
  let v482 : BitVec 32 := Scalar.muli v481 c5_i32_192
  let v483 : Index := Scalar.indexCast v482
  let c0_194 : Index := 0#32
  ![0, v483.toNat, 0]

def k0_chk433 (v481 : BitVec 32) : Prop :=
  (∀ a, (k0_off863 v481) a + S1x5x128.size a ≤ S1x7720x128.size a)
theorem k0_off863_inb : ∀ (v481 : BitVec 32) (k0_hw433 : k0_chk433 v481), ∀ a, (k0_off863 v481) a + S1x5x128.size a ≤ S1x7720x128.size a := fun v481 k0_hw433 => k0_hw433

def k0_off864 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c45_i32 : BitVec 32 := 45#32
  let v489 : BitVec 32 := Scalar.addi v38 c45_i32
  let v490 : Index := Scalar.indexCast v489
  ![v490.toNat]
def k0_off865 (v491 : BitVec 32) : Fin 3 → Nat :=
  let c0_197 : Index := 0#32
  let c5_i32_196 : BitVec 32 := 5#32
  let v492 : BitVec 32 := Scalar.muli v491 c5_i32_196
  let v493 : Index := Scalar.indexCast v492
  let c0_198 : Index := 0#32
  ![0, v493.toNat, 0]

def k0_chk434 (v491 : BitVec 32) : Prop :=
  (∀ a, (k0_off865 v491) a + S1x5x128.size a ≤ S1x7720x128.size a)
theorem k0_off865_inb : ∀ (v491 : BitVec 32) (k0_hw434 : k0_chk434 v491), ∀ a, (k0_off865 v491) a + S1x5x128.size a ≤ S1x7720x128.size a := fun v491 k0_hw434 => k0_hw434

def k0_off866 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c46_i32 : BitVec 32 := 46#32
  let v499 : BitVec 32 := Scalar.addi v38 c46_i32
  let v500 : Index := Scalar.indexCast v499
  ![v500.toNat]
def k0_off867 (v501 : BitVec 32) : Fin 3 → Nat :=
  let c0_201 : Index := 0#32
  let c5_i32_200 : BitVec 32 := 5#32
  let v502 : BitVec 32 := Scalar.muli v501 c5_i32_200
  let v503 : Index := Scalar.indexCast v502
  let c0_202 : Index := 0#32
  ![0, v503.toNat, 0]

def k0_chk435 (v501 : BitVec 32) : Prop :=
  (∀ a, (k0_off867 v501) a + S1x5x128.size a ≤ S1x7720x128.size a)
theorem k0_off867_inb : ∀ (v501 : BitVec 32) (k0_hw435 : k0_chk435 v501), ∀ a, (k0_off867 v501) a + S1x5x128.size a ≤ S1x7720x128.size a := fun v501 k0_hw435 => k0_hw435

def k0_off868 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c47_i32 : BitVec 32 := 47#32
  let v509 : BitVec 32 := Scalar.addi v38 c47_i32
  let v510 : Index := Scalar.indexCast v509
  ![v510.toNat]
def k0_off869 (v511 : BitVec 32) : Fin 3 → Nat :=
  let c0_205 : Index := 0#32
  let c5_i32_204 : BitVec 32 := 5#32
  let v512 : BitVec 32 := Scalar.muli v511 c5_i32_204
  let v513 : Index := Scalar.indexCast v512
  let c0_206 : Index := 0#32
  ![0, v513.toNat, 0]

def k0_chk436 (v511 : BitVec 32) : Prop :=
  (∀ a, (k0_off869 v511) a + S1x5x128.size a ≤ S1x7720x128.size a)
theorem k0_off869_inb : ∀ (v511 : BitVec 32) (k0_hw436 : k0_chk436 v511), ∀ a, (k0_off869 v511) a + S1x5x128.size a ≤ S1x7720x128.size a := fun v511 k0_hw436 => k0_hw436

def k0_off870 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c48_i32 : BitVec 32 := 48#32
  let v519 : BitVec 32 := Scalar.addi v38 c48_i32
  let v520 : Index := Scalar.indexCast v519
  ![v520.toNat]
def k0_off871 (v521 : BitVec 32) : Fin 3 → Nat :=
  let c0_209 : Index := 0#32
  let c5_i32_208 : BitVec 32 := 5#32
  let v522 : BitVec 32 := Scalar.muli v521 c5_i32_208
  let v523 : Index := Scalar.indexCast v522
  let c0_210 : Index := 0#32
  ![0, v523.toNat, 0]

def k0_chk437 (v521 : BitVec 32) : Prop :=
  (∀ a, (k0_off871 v521) a + S1x5x128.size a ≤ S1x7720x128.size a)
theorem k0_off871_inb : ∀ (v521 : BitVec 32) (k0_hw437 : k0_chk437 v521), ∀ a, (k0_off871 v521) a + S1x5x128.size a ≤ S1x7720x128.size a := fun v521 k0_hw437 => k0_hw437

def k0_off872 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c49_i32 : BitVec 32 := 49#32
  let v529 : BitVec 32 := Scalar.addi v38 c49_i32
  let v530 : Index := Scalar.indexCast v529
  ![v530.toNat]
def k0_off873 (v531 : BitVec 32) : Fin 3 → Nat :=
  let c0_213 : Index := 0#32
  let c5_i32_212 : BitVec 32 := 5#32
  let v532 : BitVec 32 := Scalar.muli v531 c5_i32_212
  let v533 : Index := Scalar.indexCast v532
  let c0_214 : Index := 0#32
  ![0, v533.toNat, 0]

def k0_chk438 (v531 : BitVec 32) : Prop :=
  (∀ a, (k0_off873 v531) a + S1x5x128.size a ≤ S1x7720x128.size a)
theorem k0_off873_inb : ∀ (v531 : BitVec 32) (k0_hw438 : k0_chk438 v531), ∀ a, (k0_off873 v531) a + S1x5x128.size a ≤ S1x7720x128.size a := fun v531 k0_hw438 => k0_hw438

def k0_off874 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c50_i32 : BitVec 32 := 50#32
  let v539 : BitVec 32 := Scalar.addi v38 c50_i32
  let v540 : Index := Scalar.indexCast v539
  ![v540.toNat]
def k0_off875 (v541 : BitVec 32) : Fin 3 → Nat :=
  let c0_217 : Index := 0#32
  let c5_i32_216 : BitVec 32 := 5#32
  let v542 : BitVec 32 := Scalar.muli v541 c5_i32_216
  let v543 : Index := Scalar.indexCast v542
  let c0_218 : Index := 0#32
  ![0, v543.toNat, 0]

def k0_chk439 (v541 : BitVec 32) : Prop :=
  (∀ a, (k0_off875 v541) a + S1x5x128.size a ≤ S1x7720x128.size a)
theorem k0_off875_inb : ∀ (v541 : BitVec 32) (k0_hw439 : k0_chk439 v541), ∀ a, (k0_off875 v541) a + S1x5x128.size a ≤ S1x7720x128.size a := fun v541 k0_hw439 => k0_hw439

def k0_off876 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c51_i32 : BitVec 32 := 51#32
  let v549 : BitVec 32 := Scalar.addi v38 c51_i32
  let v550 : Index := Scalar.indexCast v549
  ![v550.toNat]
def k0_off877 (v551 : BitVec 32) : Fin 3 → Nat :=
  let c0_221 : Index := 0#32
  let c5_i32_220 : BitVec 32 := 5#32
  let v552 : BitVec 32 := Scalar.muli v551 c5_i32_220
  let v553 : Index := Scalar.indexCast v552
  let c0_222 : Index := 0#32
  ![0, v553.toNat, 0]

def k0_chk440 (v551 : BitVec 32) : Prop :=
  (∀ a, (k0_off877 v551) a + S1x5x128.size a ≤ S1x7720x128.size a)
theorem k0_off877_inb : ∀ (v551 : BitVec 32) (k0_hw440 : k0_chk440 v551), ∀ a, (k0_off877 v551) a + S1x5x128.size a ≤ S1x7720x128.size a := fun v551 k0_hw440 => k0_hw440

def k0_off878 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c52_i32 : BitVec 32 := 52#32
  let v559 : BitVec 32 := Scalar.addi v38 c52_i32
  let v560 : Index := Scalar.indexCast v559
  ![v560.toNat]
def k0_off879 (v561 : BitVec 32) : Fin 3 → Nat :=
  let c0_225 : Index := 0#32
  let c5_i32_224 : BitVec 32 := 5#32
  let v562 : BitVec 32 := Scalar.muli v561 c5_i32_224
  let v563 : Index := Scalar.indexCast v562
  let c0_226 : Index := 0#32
  ![0, v563.toNat, 0]

def k0_chk441 (v561 : BitVec 32) : Prop :=
  (∀ a, (k0_off879 v561) a + S1x5x128.size a ≤ S1x7720x128.size a)
theorem k0_off879_inb : ∀ (v561 : BitVec 32) (k0_hw441 : k0_chk441 v561), ∀ a, (k0_off879 v561) a + S1x5x128.size a ≤ S1x7720x128.size a := fun v561 k0_hw441 => k0_hw441

def k0_off880 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c53_i32 : BitVec 32 := 53#32
  let v569 : BitVec 32 := Scalar.addi v38 c53_i32
  let v570 : Index := Scalar.indexCast v569
  ![v570.toNat]
def k0_off881 (v571 : BitVec 32) : Fin 3 → Nat :=
  let c0_229 : Index := 0#32
  let c5_i32_228 : BitVec 32 := 5#32
  let v572 : BitVec 32 := Scalar.muli v571 c5_i32_228
  let v573 : Index := Scalar.indexCast v572
  let c0_230 : Index := 0#32
  ![0, v573.toNat, 0]

def k0_chk442 (v571 : BitVec 32) : Prop :=
  (∀ a, (k0_off881 v571) a + S1x5x128.size a ≤ S1x7720x128.size a)
theorem k0_off881_inb : ∀ (v571 : BitVec 32) (k0_hw442 : k0_chk442 v571), ∀ a, (k0_off881 v571) a + S1x5x128.size a ≤ S1x7720x128.size a := fun v571 k0_hw442 => k0_hw442

def k0_off882 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c54_i32 : BitVec 32 := 54#32
  let v579 : BitVec 32 := Scalar.addi v38 c54_i32
  let v580 : Index := Scalar.indexCast v579
  ![v580.toNat]
def k0_off883 (v581 : BitVec 32) : Fin 3 → Nat :=
  let c0_233 : Index := 0#32
  let c5_i32_232 : BitVec 32 := 5#32
  let v582 : BitVec 32 := Scalar.muli v581 c5_i32_232
  let v583 : Index := Scalar.indexCast v582
  let c0_234 : Index := 0#32
  ![0, v583.toNat, 0]

def k0_chk443 (v581 : BitVec 32) : Prop :=
  (∀ a, (k0_off883 v581) a + S1x5x128.size a ≤ S1x7720x128.size a)
theorem k0_off883_inb : ∀ (v581 : BitVec 32) (k0_hw443 : k0_chk443 v581), ∀ a, (k0_off883 v581) a + S1x5x128.size a ≤ S1x7720x128.size a := fun v581 k0_hw443 => k0_hw443

def k0_off884 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c55_i32 : BitVec 32 := 55#32
  let v589 : BitVec 32 := Scalar.addi v38 c55_i32
  let v590 : Index := Scalar.indexCast v589
  ![v590.toNat]
def k0_off885 (v591 : BitVec 32) : Fin 3 → Nat :=
  let c0_237 : Index := 0#32
  let c5_i32_236 : BitVec 32 := 5#32
  let v592 : BitVec 32 := Scalar.muli v591 c5_i32_236
  let v593 : Index := Scalar.indexCast v592
  let c0_238 : Index := 0#32
  ![0, v593.toNat, 0]

def k0_chk444 (v591 : BitVec 32) : Prop :=
  (∀ a, (k0_off885 v591) a + S1x5x128.size a ≤ S1x7720x128.size a)
theorem k0_off885_inb : ∀ (v591 : BitVec 32) (k0_hw444 : k0_chk444 v591), ∀ a, (k0_off885 v591) a + S1x5x128.size a ≤ S1x7720x128.size a := fun v591 k0_hw444 => k0_hw444

def k0_off886 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c56_i32 : BitVec 32 := 56#32
  let v599 : BitVec 32 := Scalar.addi v38 c56_i32
  let v600 : Index := Scalar.indexCast v599
  ![v600.toNat]
def k0_off887 (v601 : BitVec 32) : Fin 3 → Nat :=
  let c0_241 : Index := 0#32
  let c5_i32_240 : BitVec 32 := 5#32
  let v602 : BitVec 32 := Scalar.muli v601 c5_i32_240
  let v603 : Index := Scalar.indexCast v602
  let c0_242 : Index := 0#32
  ![0, v603.toNat, 0]

def k0_chk445 (v601 : BitVec 32) : Prop :=
  (∀ a, (k0_off887 v601) a + S1x5x128.size a ≤ S1x7720x128.size a)
theorem k0_off887_inb : ∀ (v601 : BitVec 32) (k0_hw445 : k0_chk445 v601), ∀ a, (k0_off887 v601) a + S1x5x128.size a ≤ S1x7720x128.size a := fun v601 k0_hw445 => k0_hw445

def k0_off888 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c57_i32 : BitVec 32 := 57#32
  let v609 : BitVec 32 := Scalar.addi v38 c57_i32
  let v610 : Index := Scalar.indexCast v609
  ![v610.toNat]
def k0_off889 (v611 : BitVec 32) : Fin 3 → Nat :=
  let c0_245 : Index := 0#32
  let c5_i32_244 : BitVec 32 := 5#32
  let v612 : BitVec 32 := Scalar.muli v611 c5_i32_244
  let v613 : Index := Scalar.indexCast v612
  let c0_246 : Index := 0#32
  ![0, v613.toNat, 0]

def k0_chk446 (v611 : BitVec 32) : Prop :=
  (∀ a, (k0_off889 v611) a + S1x5x128.size a ≤ S1x7720x128.size a)
theorem k0_off889_inb : ∀ (v611 : BitVec 32) (k0_hw446 : k0_chk446 v611), ∀ a, (k0_off889 v611) a + S1x5x128.size a ≤ S1x7720x128.size a := fun v611 k0_hw446 => k0_hw446

def k0_off890 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c58_i32 : BitVec 32 := 58#32
  let v619 : BitVec 32 := Scalar.addi v38 c58_i32
  let v620 : Index := Scalar.indexCast v619
  ![v620.toNat]
def k0_off891 (v621 : BitVec 32) : Fin 3 → Nat :=
  let c0_249 : Index := 0#32
  let c5_i32_248 : BitVec 32 := 5#32
  let v622 : BitVec 32 := Scalar.muli v621 c5_i32_248
  let v623 : Index := Scalar.indexCast v622
  let c0_250 : Index := 0#32
  ![0, v623.toNat, 0]

def k0_chk447 (v621 : BitVec 32) : Prop :=
  (∀ a, (k0_off891 v621) a + S1x5x128.size a ≤ S1x7720x128.size a)
theorem k0_off891_inb : ∀ (v621 : BitVec 32) (k0_hw447 : k0_chk447 v621), ∀ a, (k0_off891 v621) a + S1x5x128.size a ≤ S1x7720x128.size a := fun v621 k0_hw447 => k0_hw447

def k0_off892 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c59_i32 : BitVec 32 := 59#32
  let v629 : BitVec 32 := Scalar.addi v38 c59_i32
  let v630 : Index := Scalar.indexCast v629
  ![v630.toNat]
def k0_off893 (v631 : BitVec 32) : Fin 3 → Nat :=
  let c0_253 : Index := 0#32
  let c5_i32_252 : BitVec 32 := 5#32
  let v632 : BitVec 32 := Scalar.muli v631 c5_i32_252
  let v633 : Index := Scalar.indexCast v632
  let c0_254 : Index := 0#32
  ![0, v633.toNat, 0]

def k0_chk448 (v631 : BitVec 32) : Prop :=
  (∀ a, (k0_off893 v631) a + S1x5x128.size a ≤ S1x7720x128.size a)
theorem k0_off893_inb : ∀ (v631 : BitVec 32) (k0_hw448 : k0_chk448 v631), ∀ a, (k0_off893 v631) a + S1x5x128.size a ≤ S1x7720x128.size a := fun v631 k0_hw448 => k0_hw448

def k0_off894 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c60_i32 : BitVec 32 := 60#32
  let v639 : BitVec 32 := Scalar.addi v38 c60_i32
  let v640 : Index := Scalar.indexCast v639
  ![v640.toNat]
def k0_off895 (v641 : BitVec 32) : Fin 3 → Nat :=
  let c0_257 : Index := 0#32
  let c5_i32_256 : BitVec 32 := 5#32
  let v642 : BitVec 32 := Scalar.muli v641 c5_i32_256
  let v643 : Index := Scalar.indexCast v642
  let c0_258 : Index := 0#32
  ![0, v643.toNat, 0]

def k0_chk449 (v641 : BitVec 32) : Prop :=
  (∀ a, (k0_off895 v641) a + S1x5x128.size a ≤ S1x7720x128.size a)
theorem k0_off895_inb : ∀ (v641 : BitVec 32) (k0_hw449 : k0_chk449 v641), ∀ a, (k0_off895 v641) a + S1x5x128.size a ≤ S1x7720x128.size a := fun v641 k0_hw449 => k0_hw449

def k0_off896 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c61_i32 : BitVec 32 := 61#32
  let v649 : BitVec 32 := Scalar.addi v38 c61_i32
  let v650 : Index := Scalar.indexCast v649
  ![v650.toNat]
def k0_off897 (v651 : BitVec 32) : Fin 3 → Nat :=
  let c0_261 : Index := 0#32
  let c5_i32_260 : BitVec 32 := 5#32
  let v652 : BitVec 32 := Scalar.muli v651 c5_i32_260
  let v653 : Index := Scalar.indexCast v652
  let c0_262 : Index := 0#32
  ![0, v653.toNat, 0]

def k0_chk450 (v651 : BitVec 32) : Prop :=
  (∀ a, (k0_off897 v651) a + S1x5x128.size a ≤ S1x7720x128.size a)
theorem k0_off897_inb : ∀ (v651 : BitVec 32) (k0_hw450 : k0_chk450 v651), ∀ a, (k0_off897 v651) a + S1x5x128.size a ≤ S1x7720x128.size a := fun v651 k0_hw450 => k0_hw450

def k0_off898 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c62_i32 : BitVec 32 := 62#32
  let v659 : BitVec 32 := Scalar.addi v38 c62_i32
  let v660 : Index := Scalar.indexCast v659
  ![v660.toNat]
def k0_off899 (v661 : BitVec 32) : Fin 3 → Nat :=
  let c0_265 : Index := 0#32
  let c5_i32_264 : BitVec 32 := 5#32
  let v662 : BitVec 32 := Scalar.muli v661 c5_i32_264
  let v663 : Index := Scalar.indexCast v662
  let c0_266 : Index := 0#32
  ![0, v663.toNat, 0]

def k0_chk451 (v661 : BitVec 32) : Prop :=
  (∀ a, (k0_off899 v661) a + S1x5x128.size a ≤ S1x7720x128.size a)
theorem k0_off899_inb : ∀ (v661 : BitVec 32) (k0_hw451 : k0_chk451 v661), ∀ a, (k0_off899 v661) a + S1x5x128.size a ≤ S1x7720x128.size a := fun v661 k0_hw451 => k0_hw451

def k0_off900 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c63_i32 : BitVec 32 := 63#32
  let v669 : BitVec 32 := Scalar.addi v38 c63_i32
  let v670 : Index := Scalar.indexCast v669
  ![v670.toNat]
def k0_off901 (v671 : BitVec 32) : Fin 3 → Nat :=
  let c0_269 : Index := 0#32
  let c5_i32_268 : BitVec 32 := 5#32
  let v672 : BitVec 32 := Scalar.muli v671 c5_i32_268
  let v673 : Index := Scalar.indexCast v672
  let c0_270 : Index := 0#32
  ![0, v673.toNat, 0]

def k0_chk452 (v671 : BitVec 32) : Prop :=
  (∀ a, (k0_off901 v671) a + S1x5x128.size a ≤ S1x7720x128.size a)
theorem k0_off901_inb : ∀ (v671 : BitVec 32) (k0_hw452 : k0_chk452 v671), ∀ a, (k0_off901 v671) a + S1x5x128.size a ≤ S1x7720x128.size a := fun v671 k0_hw452 => k0_hw452

def k0_off902 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c64_i32 : BitVec 32 := 64#32
  let v679 : BitVec 32 := Scalar.addi v38 c64_i32
  let v680 : Index := Scalar.indexCast v679
  ![v680.toNat]
def k0_off903 (v681 : BitVec 32) : Fin 3 → Nat :=
  let c0_273 : Index := 0#32
  let c5_i32_272 : BitVec 32 := 5#32
  let v682 : BitVec 32 := Scalar.muli v681 c5_i32_272
  let v683 : Index := Scalar.indexCast v682
  let c0_274 : Index := 0#32
  ![0, v683.toNat, 0]

def k0_chk453 (v681 : BitVec 32) : Prop :=
  (∀ a, (k0_off903 v681) a + S1x5x128.size a ≤ S1x7720x128.size a)
theorem k0_off903_inb : ∀ (v681 : BitVec 32) (k0_hw453 : k0_chk453 v681), ∀ a, (k0_off903 v681) a + S1x5x128.size a ≤ S1x7720x128.size a := fun v681 k0_hw453 => k0_hw453

def k0_off904 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c65_i32 : BitVec 32 := 65#32
  let v689 : BitVec 32 := Scalar.addi v38 c65_i32
  let v690 : Index := Scalar.indexCast v689
  ![v690.toNat]
def k0_off905 (v691 : BitVec 32) : Fin 3 → Nat :=
  let c0_277 : Index := 0#32
  let c5_i32_276 : BitVec 32 := 5#32
  let v692 : BitVec 32 := Scalar.muli v691 c5_i32_276
  let v693 : Index := Scalar.indexCast v692
  let c0_278 : Index := 0#32
  ![0, v693.toNat, 0]

def k0_chk454 (v691 : BitVec 32) : Prop :=
  (∀ a, (k0_off905 v691) a + S1x5x128.size a ≤ S1x7720x128.size a)
theorem k0_off905_inb : ∀ (v691 : BitVec 32) (k0_hw454 : k0_chk454 v691), ∀ a, (k0_off905 v691) a + S1x5x128.size a ≤ S1x7720x128.size a := fun v691 k0_hw454 => k0_hw454

def k0_off906 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c66_i32 : BitVec 32 := 66#32
  let v699 : BitVec 32 := Scalar.addi v38 c66_i32
  let v700 : Index := Scalar.indexCast v699
  ![v700.toNat]
def k0_off907 (v701 : BitVec 32) : Fin 3 → Nat :=
  let c0_281 : Index := 0#32
  let c5_i32_280 : BitVec 32 := 5#32
  let v702 : BitVec 32 := Scalar.muli v701 c5_i32_280
  let v703 : Index := Scalar.indexCast v702
  let c0_282 : Index := 0#32
  ![0, v703.toNat, 0]

def k0_chk455 (v701 : BitVec 32) : Prop :=
  (∀ a, (k0_off907 v701) a + S1x5x128.size a ≤ S1x7720x128.size a)
theorem k0_off907_inb : ∀ (v701 : BitVec 32) (k0_hw455 : k0_chk455 v701), ∀ a, (k0_off907 v701) a + S1x5x128.size a ≤ S1x7720x128.size a := fun v701 k0_hw455 => k0_hw455

def k0_off908 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c67_i32 : BitVec 32 := 67#32
  let v709 : BitVec 32 := Scalar.addi v38 c67_i32
  let v710 : Index := Scalar.indexCast v709
  ![v710.toNat]
def k0_off909 (v711 : BitVec 32) : Fin 3 → Nat :=
  let c0_285 : Index := 0#32
  let c5_i32_284 : BitVec 32 := 5#32
  let v712 : BitVec 32 := Scalar.muli v711 c5_i32_284
  let v713 : Index := Scalar.indexCast v712
  let c0_286 : Index := 0#32
  ![0, v713.toNat, 0]

def k0_chk456 (v711 : BitVec 32) : Prop :=
  (∀ a, (k0_off909 v711) a + S1x5x128.size a ≤ S1x7720x128.size a)
theorem k0_off909_inb : ∀ (v711 : BitVec 32) (k0_hw456 : k0_chk456 v711), ∀ a, (k0_off909 v711) a + S1x5x128.size a ≤ S1x7720x128.size a := fun v711 k0_hw456 => k0_hw456

def k0_off910 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c68_i32 : BitVec 32 := 68#32
  let v719 : BitVec 32 := Scalar.addi v38 c68_i32
  let v720 : Index := Scalar.indexCast v719
  ![v720.toNat]
def k0_off911 (v721 : BitVec 32) : Fin 3 → Nat :=
  let c0_289 : Index := 0#32
  let c5_i32_288 : BitVec 32 := 5#32
  let v722 : BitVec 32 := Scalar.muli v721 c5_i32_288
  let v723 : Index := Scalar.indexCast v722
  let c0_290 : Index := 0#32
  ![0, v723.toNat, 0]

def k0_chk457 (v721 : BitVec 32) : Prop :=
  (∀ a, (k0_off911 v721) a + S1x5x128.size a ≤ S1x7720x128.size a)
theorem k0_off911_inb : ∀ (v721 : BitVec 32) (k0_hw457 : k0_chk457 v721), ∀ a, (k0_off911 v721) a + S1x5x128.size a ≤ S1x7720x128.size a := fun v721 k0_hw457 => k0_hw457

def k0_off912 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c69_i32 : BitVec 32 := 69#32
  let v729 : BitVec 32 := Scalar.addi v38 c69_i32
  let v730 : Index := Scalar.indexCast v729
  ![v730.toNat]
def k0_off913 (v731 : BitVec 32) : Fin 3 → Nat :=
  let c0_293 : Index := 0#32
  let c5_i32_292 : BitVec 32 := 5#32
  let v732 : BitVec 32 := Scalar.muli v731 c5_i32_292
  let v733 : Index := Scalar.indexCast v732
  let c0_294 : Index := 0#32
  ![0, v733.toNat, 0]

def k0_chk458 (v731 : BitVec 32) : Prop :=
  (∀ a, (k0_off913 v731) a + S1x5x128.size a ≤ S1x7720x128.size a)
theorem k0_off913_inb : ∀ (v731 : BitVec 32) (k0_hw458 : k0_chk458 v731), ∀ a, (k0_off913 v731) a + S1x5x128.size a ≤ S1x7720x128.size a := fun v731 k0_hw458 => k0_hw458

def k0_off914 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c70_i32 : BitVec 32 := 70#32
  let v739 : BitVec 32 := Scalar.addi v38 c70_i32
  let v740 : Index := Scalar.indexCast v739
  ![v740.toNat]
def k0_off915 (v741 : BitVec 32) : Fin 3 → Nat :=
  let c0_297 : Index := 0#32
  let c5_i32_296 : BitVec 32 := 5#32
  let v742 : BitVec 32 := Scalar.muli v741 c5_i32_296
  let v743 : Index := Scalar.indexCast v742
  let c0_298 : Index := 0#32
  ![0, v743.toNat, 0]

def k0_chk459 (v741 : BitVec 32) : Prop :=
  (∀ a, (k0_off915 v741) a + S1x5x128.size a ≤ S1x7720x128.size a)
theorem k0_off915_inb : ∀ (v741 : BitVec 32) (k0_hw459 : k0_chk459 v741), ∀ a, (k0_off915 v741) a + S1x5x128.size a ≤ S1x7720x128.size a := fun v741 k0_hw459 => k0_hw459

def k0_off916 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c71_i32 : BitVec 32 := 71#32
  let v749 : BitVec 32 := Scalar.addi v38 c71_i32
  let v750 : Index := Scalar.indexCast v749
  ![v750.toNat]
def k0_off917 (v751 : BitVec 32) : Fin 3 → Nat :=
  let c0_301 : Index := 0#32
  let c5_i32_300 : BitVec 32 := 5#32
  let v752 : BitVec 32 := Scalar.muli v751 c5_i32_300
  let v753 : Index := Scalar.indexCast v752
  let c0_302 : Index := 0#32
  ![0, v753.toNat, 0]

def k0_chk460 (v751 : BitVec 32) : Prop :=
  (∀ a, (k0_off917 v751) a + S1x5x128.size a ≤ S1x7720x128.size a)
theorem k0_off917_inb : ∀ (v751 : BitVec 32) (k0_hw460 : k0_chk460 v751), ∀ a, (k0_off917 v751) a + S1x5x128.size a ≤ S1x7720x128.size a := fun v751 k0_hw460 => k0_hw460

def k0_off918 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c72_i32 : BitVec 32 := 72#32
  let v759 : BitVec 32 := Scalar.addi v38 c72_i32
  let v760 : Index := Scalar.indexCast v759
  ![v760.toNat]
def k0_off919 (v761 : BitVec 32) : Fin 3 → Nat :=
  let c0_305 : Index := 0#32
  let c5_i32_304 : BitVec 32 := 5#32
  let v762 : BitVec 32 := Scalar.muli v761 c5_i32_304
  let v763 : Index := Scalar.indexCast v762
  let c0_306 : Index := 0#32
  ![0, v763.toNat, 0]

def k0_chk461 (v761 : BitVec 32) : Prop :=
  (∀ a, (k0_off919 v761) a + S1x5x128.size a ≤ S1x7720x128.size a)
theorem k0_off919_inb : ∀ (v761 : BitVec 32) (k0_hw461 : k0_chk461 v761), ∀ a, (k0_off919 v761) a + S1x5x128.size a ≤ S1x7720x128.size a := fun v761 k0_hw461 => k0_hw461

def k0_off920 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c73_i32 : BitVec 32 := 73#32
  let v769 : BitVec 32 := Scalar.addi v38 c73_i32
  let v770 : Index := Scalar.indexCast v769
  ![v770.toNat]
def k0_off921 (v771 : BitVec 32) : Fin 3 → Nat :=
  let c0_309 : Index := 0#32
  let c5_i32_308 : BitVec 32 := 5#32
  let v772 : BitVec 32 := Scalar.muli v771 c5_i32_308
  let v773 : Index := Scalar.indexCast v772
  let c0_310 : Index := 0#32
  ![0, v773.toNat, 0]

def k0_chk462 (v771 : BitVec 32) : Prop :=
  (∀ a, (k0_off921 v771) a + S1x5x128.size a ≤ S1x7720x128.size a)
theorem k0_off921_inb : ∀ (v771 : BitVec 32) (k0_hw462 : k0_chk462 v771), ∀ a, (k0_off921 v771) a + S1x5x128.size a ≤ S1x7720x128.size a := fun v771 k0_hw462 => k0_hw462

def k0_off922 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c74_i32 : BitVec 32 := 74#32
  let v779 : BitVec 32 := Scalar.addi v38 c74_i32
  let v780 : Index := Scalar.indexCast v779
  ![v780.toNat]
def k0_off923 (v781 : BitVec 32) : Fin 3 → Nat :=
  let c0_313 : Index := 0#32
  let c5_i32_312 : BitVec 32 := 5#32
  let v782 : BitVec 32 := Scalar.muli v781 c5_i32_312
  let v783 : Index := Scalar.indexCast v782
  let c0_314 : Index := 0#32
  ![0, v783.toNat, 0]

def k0_chk463 (v781 : BitVec 32) : Prop :=
  (∀ a, (k0_off923 v781) a + S1x5x128.size a ≤ S1x7720x128.size a)
theorem k0_off923_inb : ∀ (v781 : BitVec 32) (k0_hw463 : k0_chk463 v781), ∀ a, (k0_off923 v781) a + S1x5x128.size a ≤ S1x7720x128.size a := fun v781 k0_hw463 => k0_hw463

def k0_off924 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c75_i32 : BitVec 32 := 75#32
  let v789 : BitVec 32 := Scalar.addi v38 c75_i32
  let v790 : Index := Scalar.indexCast v789
  ![v790.toNat]
def k0_off925 (v791 : BitVec 32) : Fin 3 → Nat :=
  let c0_317 : Index := 0#32
  let c5_i32_316 : BitVec 32 := 5#32
  let v792 : BitVec 32 := Scalar.muli v791 c5_i32_316
  let v793 : Index := Scalar.indexCast v792
  let c0_318 : Index := 0#32
  ![0, v793.toNat, 0]

def k0_chk464 (v791 : BitVec 32) : Prop :=
  (∀ a, (k0_off925 v791) a + S1x5x128.size a ≤ S1x7720x128.size a)
theorem k0_off925_inb : ∀ (v791 : BitVec 32) (k0_hw464 : k0_chk464 v791), ∀ a, (k0_off925 v791) a + S1x5x128.size a ≤ S1x7720x128.size a := fun v791 k0_hw464 => k0_hw464

def k0_off926 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c76_i32 : BitVec 32 := 76#32
  let v799 : BitVec 32 := Scalar.addi v38 c76_i32
  let v800 : Index := Scalar.indexCast v799
  ![v800.toNat]
def k0_off927 (v801 : BitVec 32) : Fin 3 → Nat :=
  let c0_321 : Index := 0#32
  let c5_i32_320 : BitVec 32 := 5#32
  let v802 : BitVec 32 := Scalar.muli v801 c5_i32_320
  let v803 : Index := Scalar.indexCast v802
  let c0_322 : Index := 0#32
  ![0, v803.toNat, 0]

def k0_chk465 (v801 : BitVec 32) : Prop :=
  (∀ a, (k0_off927 v801) a + S1x5x128.size a ≤ S1x7720x128.size a)
theorem k0_off927_inb : ∀ (v801 : BitVec 32) (k0_hw465 : k0_chk465 v801), ∀ a, (k0_off927 v801) a + S1x5x128.size a ≤ S1x7720x128.size a := fun v801 k0_hw465 => k0_hw465

def k0_off928 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c77_i32 : BitVec 32 := 77#32
  let v809 : BitVec 32 := Scalar.addi v38 c77_i32
  let v810 : Index := Scalar.indexCast v809
  ![v810.toNat]
def k0_off929 (v811 : BitVec 32) : Fin 3 → Nat :=
  let c0_325 : Index := 0#32
  let c5_i32_324 : BitVec 32 := 5#32
  let v812 : BitVec 32 := Scalar.muli v811 c5_i32_324
  let v813 : Index := Scalar.indexCast v812
  let c0_326 : Index := 0#32
  ![0, v813.toNat, 0]

def k0_chk466 (v811 : BitVec 32) : Prop :=
  (∀ a, (k0_off929 v811) a + S1x5x128.size a ≤ S1x7720x128.size a)
theorem k0_off929_inb : ∀ (v811 : BitVec 32) (k0_hw466 : k0_chk466 v811), ∀ a, (k0_off929 v811) a + S1x5x128.size a ≤ S1x7720x128.size a := fun v811 k0_hw466 => k0_hw466

def k0_off930 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c78_i32 : BitVec 32 := 78#32
  let v819 : BitVec 32 := Scalar.addi v38 c78_i32
  let v820 : Index := Scalar.indexCast v819
  ![v820.toNat]
def k0_off931 (v821 : BitVec 32) : Fin 3 → Nat :=
  let c0_329 : Index := 0#32
  let c5_i32_328 : BitVec 32 := 5#32
  let v822 : BitVec 32 := Scalar.muli v821 c5_i32_328
  let v823 : Index := Scalar.indexCast v822
  let c0_330 : Index := 0#32
  ![0, v823.toNat, 0]

def k0_chk467 (v821 : BitVec 32) : Prop :=
  (∀ a, (k0_off931 v821) a + S1x5x128.size a ≤ S1x7720x128.size a)
theorem k0_off931_inb : ∀ (v821 : BitVec 32) (k0_hw467 : k0_chk467 v821), ∀ a, (k0_off931 v821) a + S1x5x128.size a ≤ S1x7720x128.size a := fun v821 k0_hw467 => k0_hw467

def k0_off932 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c79_i32 : BitVec 32 := 79#32
  let v829 : BitVec 32 := Scalar.addi v38 c79_i32
  let v830 : Index := Scalar.indexCast v829
  ![v830.toNat]
def k0_off933 (v831 : BitVec 32) : Fin 3 → Nat :=
  let c0_333 : Index := 0#32
  let c5_i32_332 : BitVec 32 := 5#32
  let v832 : BitVec 32 := Scalar.muli v831 c5_i32_332
  let v833 : Index := Scalar.indexCast v832
  let c0_334 : Index := 0#32
  ![0, v833.toNat, 0]

def k0_chk468 (v831 : BitVec 32) : Prop :=
  (∀ a, (k0_off933 v831) a + S1x5x128.size a ≤ S1x7720x128.size a)
theorem k0_off933_inb : ∀ (v831 : BitVec 32) (k0_hw468 : k0_chk468 v831), ∀ a, (k0_off933 v831) a + S1x5x128.size a ≤ S1x7720x128.size a := fun v831 k0_hw468 => k0_hw468

def k0_off934 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c80_i32 : BitVec 32 := 80#32
  let v839 : BitVec 32 := Scalar.addi v38 c80_i32
  let v840 : Index := Scalar.indexCast v839
  ![v840.toNat]
def k0_off935 (v841 : BitVec 32) : Fin 3 → Nat :=
  let c0_337 : Index := 0#32
  let c5_i32_336 : BitVec 32 := 5#32
  let v842 : BitVec 32 := Scalar.muli v841 c5_i32_336
  let v843 : Index := Scalar.indexCast v842
  let c0_338 : Index := 0#32
  ![0, v843.toNat, 0]

def k0_chk469 (v841 : BitVec 32) : Prop :=
  (∀ a, (k0_off935 v841) a + S1x5x128.size a ≤ S1x7720x128.size a)
theorem k0_off935_inb : ∀ (v841 : BitVec 32) (k0_hw469 : k0_chk469 v841), ∀ a, (k0_off935 v841) a + S1x5x128.size a ≤ S1x7720x128.size a := fun v841 k0_hw469 => k0_hw469

def k0_off936 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c81_i32 : BitVec 32 := 81#32
  let v849 : BitVec 32 := Scalar.addi v38 c81_i32
  let v850 : Index := Scalar.indexCast v849
  ![v850.toNat]
def k0_off937 (v851 : BitVec 32) : Fin 3 → Nat :=
  let c0_341 : Index := 0#32
  let c5_i32_340 : BitVec 32 := 5#32
  let v852 : BitVec 32 := Scalar.muli v851 c5_i32_340
  let v853 : Index := Scalar.indexCast v852
  let c0_342 : Index := 0#32
  ![0, v853.toNat, 0]

def k0_chk470 (v851 : BitVec 32) : Prop :=
  (∀ a, (k0_off937 v851) a + S1x5x128.size a ≤ S1x7720x128.size a)
theorem k0_off937_inb : ∀ (v851 : BitVec 32) (k0_hw470 : k0_chk470 v851), ∀ a, (k0_off937 v851) a + S1x5x128.size a ≤ S1x7720x128.size a := fun v851 k0_hw470 => k0_hw470

def k0_off938 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c82_i32 : BitVec 32 := 82#32
  let v859 : BitVec 32 := Scalar.addi v38 c82_i32
  let v860 : Index := Scalar.indexCast v859
  ![v860.toNat]
def k0_off939 (v861 : BitVec 32) : Fin 3 → Nat :=
  let c0_345 : Index := 0#32
  let c5_i32_344 : BitVec 32 := 5#32
  let v862 : BitVec 32 := Scalar.muli v861 c5_i32_344
  let v863 : Index := Scalar.indexCast v862
  let c0_346 : Index := 0#32
  ![0, v863.toNat, 0]

def k0_chk471 (v861 : BitVec 32) : Prop :=
  (∀ a, (k0_off939 v861) a + S1x5x128.size a ≤ S1x7720x128.size a)
theorem k0_off939_inb : ∀ (v861 : BitVec 32) (k0_hw471 : k0_chk471 v861), ∀ a, (k0_off939 v861) a + S1x5x128.size a ≤ S1x7720x128.size a := fun v861 k0_hw471 => k0_hw471

def k0_off940 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c83_i32 : BitVec 32 := 83#32
  let v869 : BitVec 32 := Scalar.addi v38 c83_i32
  let v870 : Index := Scalar.indexCast v869
  ![v870.toNat]
def k0_off941 (v871 : BitVec 32) : Fin 3 → Nat :=
  let c0_349 : Index := 0#32
  let c5_i32_348 : BitVec 32 := 5#32
  let v872 : BitVec 32 := Scalar.muli v871 c5_i32_348
  let v873 : Index := Scalar.indexCast v872
  let c0_350 : Index := 0#32
  ![0, v873.toNat, 0]

def k0_chk472 (v871 : BitVec 32) : Prop :=
  (∀ a, (k0_off941 v871) a + S1x5x128.size a ≤ S1x7720x128.size a)
theorem k0_off941_inb : ∀ (v871 : BitVec 32) (k0_hw472 : k0_chk472 v871), ∀ a, (k0_off941 v871) a + S1x5x128.size a ≤ S1x7720x128.size a := fun v871 k0_hw472 => k0_hw472

def k0_off942 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c84_i32 : BitVec 32 := 84#32
  let v879 : BitVec 32 := Scalar.addi v38 c84_i32
  let v880 : Index := Scalar.indexCast v879
  ![v880.toNat]
def k0_off943 (v881 : BitVec 32) : Fin 3 → Nat :=
  let c0_353 : Index := 0#32
  let c5_i32_352 : BitVec 32 := 5#32
  let v882 : BitVec 32 := Scalar.muli v881 c5_i32_352
  let v883 : Index := Scalar.indexCast v882
  let c0_354 : Index := 0#32
  ![0, v883.toNat, 0]

def k0_chk473 (v881 : BitVec 32) : Prop :=
  (∀ a, (k0_off943 v881) a + S1x5x128.size a ≤ S1x7720x128.size a)
theorem k0_off943_inb : ∀ (v881 : BitVec 32) (k0_hw473 : k0_chk473 v881), ∀ a, (k0_off943 v881) a + S1x5x128.size a ≤ S1x7720x128.size a := fun v881 k0_hw473 => k0_hw473

def k0_off944 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c85_i32 : BitVec 32 := 85#32
  let v889 : BitVec 32 := Scalar.addi v38 c85_i32
  let v890 : Index := Scalar.indexCast v889
  ![v890.toNat]
def k0_off945 (v891 : BitVec 32) : Fin 3 → Nat :=
  let c0_357 : Index := 0#32
  let c5_i32_356 : BitVec 32 := 5#32
  let v892 : BitVec 32 := Scalar.muli v891 c5_i32_356
  let v893 : Index := Scalar.indexCast v892
  let c0_358 : Index := 0#32
  ![0, v893.toNat, 0]

def k0_chk474 (v891 : BitVec 32) : Prop :=
  (∀ a, (k0_off945 v891) a + S1x5x128.size a ≤ S1x7720x128.size a)
theorem k0_off945_inb : ∀ (v891 : BitVec 32) (k0_hw474 : k0_chk474 v891), ∀ a, (k0_off945 v891) a + S1x5x128.size a ≤ S1x7720x128.size a := fun v891 k0_hw474 => k0_hw474

def k0_off946 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c86_i32 : BitVec 32 := 86#32
  let v899 : BitVec 32 := Scalar.addi v38 c86_i32
  let v900 : Index := Scalar.indexCast v899
  ![v900.toNat]
def k0_off947 (v901 : BitVec 32) : Fin 3 → Nat :=
  let c0_361 : Index := 0#32
  let c5_i32_360 : BitVec 32 := 5#32
  let v902 : BitVec 32 := Scalar.muli v901 c5_i32_360
  let v903 : Index := Scalar.indexCast v902
  let c0_362 : Index := 0#32
  ![0, v903.toNat, 0]

def k0_chk475 (v901 : BitVec 32) : Prop :=
  (∀ a, (k0_off947 v901) a + S1x5x128.size a ≤ S1x7720x128.size a)
theorem k0_off947_inb : ∀ (v901 : BitVec 32) (k0_hw475 : k0_chk475 v901), ∀ a, (k0_off947 v901) a + S1x5x128.size a ≤ S1x7720x128.size a := fun v901 k0_hw475 => k0_hw475

def k0_off948 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c87_i32 : BitVec 32 := 87#32
  let v909 : BitVec 32 := Scalar.addi v38 c87_i32
  let v910 : Index := Scalar.indexCast v909
  ![v910.toNat]
def k0_off949 (v911 : BitVec 32) : Fin 3 → Nat :=
  let c0_365 : Index := 0#32
  let c5_i32_364 : BitVec 32 := 5#32
  let v912 : BitVec 32 := Scalar.muli v911 c5_i32_364
  let v913 : Index := Scalar.indexCast v912
  let c0_366 : Index := 0#32
  ![0, v913.toNat, 0]

def k0_chk476 (v911 : BitVec 32) : Prop :=
  (∀ a, (k0_off949 v911) a + S1x5x128.size a ≤ S1x7720x128.size a)
theorem k0_off949_inb : ∀ (v911 : BitVec 32) (k0_hw476 : k0_chk476 v911), ∀ a, (k0_off949 v911) a + S1x5x128.size a ≤ S1x7720x128.size a := fun v911 k0_hw476 => k0_hw476

def k0_off950 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c88_i32 : BitVec 32 := 88#32
  let v919 : BitVec 32 := Scalar.addi v38 c88_i32
  let v920 : Index := Scalar.indexCast v919
  ![v920.toNat]
def k0_off951 (v921 : BitVec 32) : Fin 3 → Nat :=
  let c0_369 : Index := 0#32
  let c5_i32_368 : BitVec 32 := 5#32
  let v922 : BitVec 32 := Scalar.muli v921 c5_i32_368
  let v923 : Index := Scalar.indexCast v922
  let c0_370 : Index := 0#32
  ![0, v923.toNat, 0]

def k0_chk477 (v921 : BitVec 32) : Prop :=
  (∀ a, (k0_off951 v921) a + S1x5x128.size a ≤ S1x7720x128.size a)
theorem k0_off951_inb : ∀ (v921 : BitVec 32) (k0_hw477 : k0_chk477 v921), ∀ a, (k0_off951 v921) a + S1x5x128.size a ≤ S1x7720x128.size a := fun v921 k0_hw477 => k0_hw477

def k0_off952 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c89_i32 : BitVec 32 := 89#32
  let v929 : BitVec 32 := Scalar.addi v38 c89_i32
  let v930 : Index := Scalar.indexCast v929
  ![v930.toNat]
def k0_off953 (v931 : BitVec 32) : Fin 3 → Nat :=
  let c0_373 : Index := 0#32
  let c5_i32_372 : BitVec 32 := 5#32
  let v932 : BitVec 32 := Scalar.muli v931 c5_i32_372
  let v933 : Index := Scalar.indexCast v932
  let c0_374 : Index := 0#32
  ![0, v933.toNat, 0]

def k0_chk478 (v931 : BitVec 32) : Prop :=
  (∀ a, (k0_off953 v931) a + S1x5x128.size a ≤ S1x7720x128.size a)
theorem k0_off953_inb : ∀ (v931 : BitVec 32) (k0_hw478 : k0_chk478 v931), ∀ a, (k0_off953 v931) a + S1x5x128.size a ≤ S1x7720x128.size a := fun v931 k0_hw478 => k0_hw478

def k0_off954 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c90_i32 : BitVec 32 := 90#32
  let v939 : BitVec 32 := Scalar.addi v38 c90_i32
  let v940 : Index := Scalar.indexCast v939
  ![v940.toNat]
def k0_off955 (v941 : BitVec 32) : Fin 3 → Nat :=
  let c0_377 : Index := 0#32
  let c5_i32_376 : BitVec 32 := 5#32
  let v942 : BitVec 32 := Scalar.muli v941 c5_i32_376
  let v943 : Index := Scalar.indexCast v942
  let c0_378 : Index := 0#32
  ![0, v943.toNat, 0]

def k0_chk479 (v941 : BitVec 32) : Prop :=
  (∀ a, (k0_off955 v941) a + S1x5x128.size a ≤ S1x7720x128.size a)
theorem k0_off955_inb : ∀ (v941 : BitVec 32) (k0_hw479 : k0_chk479 v941), ∀ a, (k0_off955 v941) a + S1x5x128.size a ≤ S1x7720x128.size a := fun v941 k0_hw479 => k0_hw479

def k0_off956 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c91_i32 : BitVec 32 := 91#32
  let v949 : BitVec 32 := Scalar.addi v38 c91_i32
  let v950 : Index := Scalar.indexCast v949
  ![v950.toNat]
def k0_off957 (v951 : BitVec 32) : Fin 3 → Nat :=
  let c0_381 : Index := 0#32
  let c5_i32_380 : BitVec 32 := 5#32
  let v952 : BitVec 32 := Scalar.muli v951 c5_i32_380
  let v953 : Index := Scalar.indexCast v952
  let c0_382 : Index := 0#32
  ![0, v953.toNat, 0]

def k0_chk480 (v951 : BitVec 32) : Prop :=
  (∀ a, (k0_off957 v951) a + S1x5x128.size a ≤ S1x7720x128.size a)
theorem k0_off957_inb : ∀ (v951 : BitVec 32) (k0_hw480 : k0_chk480 v951), ∀ a, (k0_off957 v951) a + S1x5x128.size a ≤ S1x7720x128.size a := fun v951 k0_hw480 => k0_hw480

def k0_off958 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c92_i32 : BitVec 32 := 92#32
  let v959 : BitVec 32 := Scalar.addi v38 c92_i32
  let v960 : Index := Scalar.indexCast v959
  ![v960.toNat]
def k0_off959 (v961 : BitVec 32) : Fin 3 → Nat :=
  let c0_385 : Index := 0#32
  let c5_i32_384 : BitVec 32 := 5#32
  let v962 : BitVec 32 := Scalar.muli v961 c5_i32_384
  let v963 : Index := Scalar.indexCast v962
  let c0_386 : Index := 0#32
  ![0, v963.toNat, 0]

def k0_chk481 (v961 : BitVec 32) : Prop :=
  (∀ a, (k0_off959 v961) a + S1x5x128.size a ≤ S1x7720x128.size a)
theorem k0_off959_inb : ∀ (v961 : BitVec 32) (k0_hw481 : k0_chk481 v961), ∀ a, (k0_off959 v961) a + S1x5x128.size a ≤ S1x7720x128.size a := fun v961 k0_hw481 => k0_hw481

def k0_off960 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c93_i32 : BitVec 32 := 93#32
  let v969 : BitVec 32 := Scalar.addi v38 c93_i32
  let v970 : Index := Scalar.indexCast v969
  ![v970.toNat]
def k0_off961 (v971 : BitVec 32) : Fin 3 → Nat :=
  let c0_389 : Index := 0#32
  let c5_i32_388 : BitVec 32 := 5#32
  let v972 : BitVec 32 := Scalar.muli v971 c5_i32_388
  let v973 : Index := Scalar.indexCast v972
  let c0_390 : Index := 0#32
  ![0, v973.toNat, 0]

def k0_chk482 (v971 : BitVec 32) : Prop :=
  (∀ a, (k0_off961 v971) a + S1x5x128.size a ≤ S1x7720x128.size a)
theorem k0_off961_inb : ∀ (v971 : BitVec 32) (k0_hw482 : k0_chk482 v971), ∀ a, (k0_off961 v971) a + S1x5x128.size a ≤ S1x7720x128.size a := fun v971 k0_hw482 => k0_hw482

def k0_off962 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c94_i32 : BitVec 32 := 94#32
  let v979 : BitVec 32 := Scalar.addi v38 c94_i32
  let v980 : Index := Scalar.indexCast v979
  ![v980.toNat]
def k0_off963 (v981 : BitVec 32) : Fin 3 → Nat :=
  let c0_393 : Index := 0#32
  let c5_i32_392 : BitVec 32 := 5#32
  let v982 : BitVec 32 := Scalar.muli v981 c5_i32_392
  let v983 : Index := Scalar.indexCast v982
  let c0_394 : Index := 0#32
  ![0, v983.toNat, 0]

def k0_chk483 (v981 : BitVec 32) : Prop :=
  (∀ a, (k0_off963 v981) a + S1x5x128.size a ≤ S1x7720x128.size a)
theorem k0_off963_inb : ∀ (v981 : BitVec 32) (k0_hw483 : k0_chk483 v981), ∀ a, (k0_off963 v981) a + S1x5x128.size a ≤ S1x7720x128.size a := fun v981 k0_hw483 => k0_hw483

def k0_off964 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c95_i32 : BitVec 32 := 95#32
  let v989 : BitVec 32 := Scalar.addi v38 c95_i32
  let v990 : Index := Scalar.indexCast v989
  ![v990.toNat]
def k0_off965 (v991 : BitVec 32) : Fin 3 → Nat :=
  let c0_397 : Index := 0#32
  let c5_i32_396 : BitVec 32 := 5#32
  let v992 : BitVec 32 := Scalar.muli v991 c5_i32_396
  let v993 : Index := Scalar.indexCast v992
  let c0_398 : Index := 0#32
  ![0, v993.toNat, 0]

def k0_chk484 (v991 : BitVec 32) : Prop :=
  (∀ a, (k0_off965 v991) a + S1x5x128.size a ≤ S1x7720x128.size a)
theorem k0_off965_inb : ∀ (v991 : BitVec 32) (k0_hw484 : k0_chk484 v991), ∀ a, (k0_off965 v991) a + S1x5x128.size a ≤ S1x7720x128.size a := fun v991 k0_hw484 => k0_hw484

def k0_off966 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c96_i32 : BitVec 32 := 96#32
  let v999 : BitVec 32 := Scalar.addi v38 c96_i32
  let v1000 : Index := Scalar.indexCast v999
  ![v1000.toNat]
def k0_off967 (v1001 : BitVec 32) : Fin 3 → Nat :=
  let c0_401 : Index := 0#32
  let c5_i32_400 : BitVec 32 := 5#32
  let v1002 : BitVec 32 := Scalar.muli v1001 c5_i32_400
  let v1003 : Index := Scalar.indexCast v1002
  let c0_402 : Index := 0#32
  ![0, v1003.toNat, 0]

def k0_chk485 (v1001 : BitVec 32) : Prop :=
  (∀ a, (k0_off967 v1001) a + S1x5x128.size a ≤ S1x7720x128.size a)
theorem k0_off967_inb : ∀ (v1001 : BitVec 32) (k0_hw485 : k0_chk485 v1001), ∀ a, (k0_off967 v1001) a + S1x5x128.size a ≤ S1x7720x128.size a := fun v1001 k0_hw485 => k0_hw485

def k0_off968 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c97_i32 : BitVec 32 := 97#32
  let v1009 : BitVec 32 := Scalar.addi v38 c97_i32
  let v1010 : Index := Scalar.indexCast v1009
  ![v1010.toNat]
def k0_off969 (v1011 : BitVec 32) : Fin 3 → Nat :=
  let c0_405 : Index := 0#32
  let c5_i32_404 : BitVec 32 := 5#32
  let v1012 : BitVec 32 := Scalar.muli v1011 c5_i32_404
  let v1013 : Index := Scalar.indexCast v1012
  let c0_406 : Index := 0#32
  ![0, v1013.toNat, 0]

def k0_chk486 (v1011 : BitVec 32) : Prop :=
  (∀ a, (k0_off969 v1011) a + S1x5x128.size a ≤ S1x7720x128.size a)
theorem k0_off969_inb : ∀ (v1011 : BitVec 32) (k0_hw486 : k0_chk486 v1011), ∀ a, (k0_off969 v1011) a + S1x5x128.size a ≤ S1x7720x128.size a := fun v1011 k0_hw486 => k0_hw486

def k0_off970 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c98_i32 : BitVec 32 := 98#32
  let v1019 : BitVec 32 := Scalar.addi v38 c98_i32
  let v1020 : Index := Scalar.indexCast v1019
  ![v1020.toNat]
def k0_off971 (v1021 : BitVec 32) : Fin 3 → Nat :=
  let c0_409 : Index := 0#32
  let c5_i32_408 : BitVec 32 := 5#32
  let v1022 : BitVec 32 := Scalar.muli v1021 c5_i32_408
  let v1023 : Index := Scalar.indexCast v1022
  let c0_410 : Index := 0#32
  ![0, v1023.toNat, 0]

def k0_chk487 (v1021 : BitVec 32) : Prop :=
  (∀ a, (k0_off971 v1021) a + S1x5x128.size a ≤ S1x7720x128.size a)
theorem k0_off971_inb : ∀ (v1021 : BitVec 32) (k0_hw487 : k0_chk487 v1021), ∀ a, (k0_off971 v1021) a + S1x5x128.size a ≤ S1x7720x128.size a := fun v1021 k0_hw487 => k0_hw487

def k0_off972 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c99_i32 : BitVec 32 := 99#32
  let v1029 : BitVec 32 := Scalar.addi v38 c99_i32
  let v1030 : Index := Scalar.indexCast v1029
  ![v1030.toNat]
def k0_off973 (v1031 : BitVec 32) : Fin 3 → Nat :=
  let c0_413 : Index := 0#32
  let c5_i32_412 : BitVec 32 := 5#32
  let v1032 : BitVec 32 := Scalar.muli v1031 c5_i32_412
  let v1033 : Index := Scalar.indexCast v1032
  let c0_414 : Index := 0#32
  ![0, v1033.toNat, 0]

def k0_chk488 (v1031 : BitVec 32) : Prop :=
  (∀ a, (k0_off973 v1031) a + S1x5x128.size a ≤ S1x7720x128.size a)
theorem k0_off973_inb : ∀ (v1031 : BitVec 32) (k0_hw488 : k0_chk488 v1031), ∀ a, (k0_off973 v1031) a + S1x5x128.size a ≤ S1x7720x128.size a := fun v1031 k0_hw488 => k0_hw488

def k0_off974 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c100_i32 : BitVec 32 := 100#32
  let v1039 : BitVec 32 := Scalar.addi v38 c100_i32
  let v1040 : Index := Scalar.indexCast v1039
  ![v1040.toNat]
def k0_off975 (v1041 : BitVec 32) : Fin 3 → Nat :=
  let c0_417 : Index := 0#32
  let c5_i32_416 : BitVec 32 := 5#32
  let v1042 : BitVec 32 := Scalar.muli v1041 c5_i32_416
  let v1043 : Index := Scalar.indexCast v1042
  let c0_418 : Index := 0#32
  ![0, v1043.toNat, 0]

def k0_chk489 (v1041 : BitVec 32) : Prop :=
  (∀ a, (k0_off975 v1041) a + S1x5x128.size a ≤ S1x7720x128.size a)
theorem k0_off975_inb : ∀ (v1041 : BitVec 32) (k0_hw489 : k0_chk489 v1041), ∀ a, (k0_off975 v1041) a + S1x5x128.size a ≤ S1x7720x128.size a := fun v1041 k0_hw489 => k0_hw489

def k0_off976 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c101_i32 : BitVec 32 := 101#32
  let v1049 : BitVec 32 := Scalar.addi v38 c101_i32
  let v1050 : Index := Scalar.indexCast v1049
  ![v1050.toNat]
def k0_off977 (v1051 : BitVec 32) : Fin 3 → Nat :=
  let c0_421 : Index := 0#32
  let c5_i32_420 : BitVec 32 := 5#32
  let v1052 : BitVec 32 := Scalar.muli v1051 c5_i32_420
  let v1053 : Index := Scalar.indexCast v1052
  let c0_422 : Index := 0#32
  ![0, v1053.toNat, 0]

def k0_chk490 (v1051 : BitVec 32) : Prop :=
  (∀ a, (k0_off977 v1051) a + S1x5x128.size a ≤ S1x7720x128.size a)
theorem k0_off977_inb : ∀ (v1051 : BitVec 32) (k0_hw490 : k0_chk490 v1051), ∀ a, (k0_off977 v1051) a + S1x5x128.size a ≤ S1x7720x128.size a := fun v1051 k0_hw490 => k0_hw490

def k0_off978 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c102_i32 : BitVec 32 := 102#32
  let v1059 : BitVec 32 := Scalar.addi v38 c102_i32
  let v1060 : Index := Scalar.indexCast v1059
  ![v1060.toNat]
def k0_off979 (v1061 : BitVec 32) : Fin 3 → Nat :=
  let c0_425 : Index := 0#32
  let c5_i32_424 : BitVec 32 := 5#32
  let v1062 : BitVec 32 := Scalar.muli v1061 c5_i32_424
  let v1063 : Index := Scalar.indexCast v1062
  let c0_426 : Index := 0#32
  ![0, v1063.toNat, 0]

def k0_chk491 (v1061 : BitVec 32) : Prop :=
  (∀ a, (k0_off979 v1061) a + S1x5x128.size a ≤ S1x7720x128.size a)
theorem k0_off979_inb : ∀ (v1061 : BitVec 32) (k0_hw491 : k0_chk491 v1061), ∀ a, (k0_off979 v1061) a + S1x5x128.size a ≤ S1x7720x128.size a := fun v1061 k0_hw491 => k0_hw491

def k0_off980 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c103_i32 : BitVec 32 := 103#32
  let v1069 : BitVec 32 := Scalar.addi v38 c103_i32
  let v1070 : Index := Scalar.indexCast v1069
  ![v1070.toNat]
def k0_off981 (v1071 : BitVec 32) : Fin 3 → Nat :=
  let c0_429 : Index := 0#32
  let c5_i32_428 : BitVec 32 := 5#32
  let v1072 : BitVec 32 := Scalar.muli v1071 c5_i32_428
  let v1073 : Index := Scalar.indexCast v1072
  let c0_430 : Index := 0#32
  ![0, v1073.toNat, 0]

def k0_chk492 (v1071 : BitVec 32) : Prop :=
  (∀ a, (k0_off981 v1071) a + S1x5x128.size a ≤ S1x7720x128.size a)
theorem k0_off981_inb : ∀ (v1071 : BitVec 32) (k0_hw492 : k0_chk492 v1071), ∀ a, (k0_off981 v1071) a + S1x5x128.size a ≤ S1x7720x128.size a := fun v1071 k0_hw492 => k0_hw492

def k0_off982 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c104_i32 : BitVec 32 := 104#32
  let v1079 : BitVec 32 := Scalar.addi v38 c104_i32
  let v1080 : Index := Scalar.indexCast v1079
  ![v1080.toNat]
def k0_off983 (v1081 : BitVec 32) : Fin 3 → Nat :=
  let c0_433 : Index := 0#32
  let c5_i32_432 : BitVec 32 := 5#32
  let v1082 : BitVec 32 := Scalar.muli v1081 c5_i32_432
  let v1083 : Index := Scalar.indexCast v1082
  let c0_434 : Index := 0#32
  ![0, v1083.toNat, 0]

def k0_chk493 (v1081 : BitVec 32) : Prop :=
  (∀ a, (k0_off983 v1081) a + S1x5x128.size a ≤ S1x7720x128.size a)
theorem k0_off983_inb : ∀ (v1081 : BitVec 32) (k0_hw493 : k0_chk493 v1081), ∀ a, (k0_off983 v1081) a + S1x5x128.size a ≤ S1x7720x128.size a := fun v1081 k0_hw493 => k0_hw493

def k0_off984 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c105_i32 : BitVec 32 := 105#32
  let v1089 : BitVec 32 := Scalar.addi v38 c105_i32
  let v1090 : Index := Scalar.indexCast v1089
  ![v1090.toNat]
def k0_off985 (v1091 : BitVec 32) : Fin 3 → Nat :=
  let c0_437 : Index := 0#32
  let c5_i32_436 : BitVec 32 := 5#32
  let v1092 : BitVec 32 := Scalar.muli v1091 c5_i32_436
  let v1093 : Index := Scalar.indexCast v1092
  let c0_438 : Index := 0#32
  ![0, v1093.toNat, 0]

def k0_chk494 (v1091 : BitVec 32) : Prop :=
  (∀ a, (k0_off985 v1091) a + S1x5x128.size a ≤ S1x7720x128.size a)
theorem k0_off985_inb : ∀ (v1091 : BitVec 32) (k0_hw494 : k0_chk494 v1091), ∀ a, (k0_off985 v1091) a + S1x5x128.size a ≤ S1x7720x128.size a := fun v1091 k0_hw494 => k0_hw494

def k0_off986 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c106_i32 : BitVec 32 := 106#32
  let v1099 : BitVec 32 := Scalar.addi v38 c106_i32
  let v1100 : Index := Scalar.indexCast v1099
  ![v1100.toNat]
def k0_off987 (v1101 : BitVec 32) : Fin 3 → Nat :=
  let c0_441 : Index := 0#32
  let c5_i32_440 : BitVec 32 := 5#32
  let v1102 : BitVec 32 := Scalar.muli v1101 c5_i32_440
  let v1103 : Index := Scalar.indexCast v1102
  let c0_442 : Index := 0#32
  ![0, v1103.toNat, 0]

def k0_chk495 (v1101 : BitVec 32) : Prop :=
  (∀ a, (k0_off987 v1101) a + S1x5x128.size a ≤ S1x7720x128.size a)
theorem k0_off987_inb : ∀ (v1101 : BitVec 32) (k0_hw495 : k0_chk495 v1101), ∀ a, (k0_off987 v1101) a + S1x5x128.size a ≤ S1x7720x128.size a := fun v1101 k0_hw495 => k0_hw495

def k0_off988 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c107_i32 : BitVec 32 := 107#32
  let v1109 : BitVec 32 := Scalar.addi v38 c107_i32
  let v1110 : Index := Scalar.indexCast v1109
  ![v1110.toNat]
def k0_off989 (v1111 : BitVec 32) : Fin 3 → Nat :=
  let c0_445 : Index := 0#32
  let c5_i32_444 : BitVec 32 := 5#32
  let v1112 : BitVec 32 := Scalar.muli v1111 c5_i32_444
  let v1113 : Index := Scalar.indexCast v1112
  let c0_446 : Index := 0#32
  ![0, v1113.toNat, 0]

def k0_chk496 (v1111 : BitVec 32) : Prop :=
  (∀ a, (k0_off989 v1111) a + S1x5x128.size a ≤ S1x7720x128.size a)
theorem k0_off989_inb : ∀ (v1111 : BitVec 32) (k0_hw496 : k0_chk496 v1111), ∀ a, (k0_off989 v1111) a + S1x5x128.size a ≤ S1x7720x128.size a := fun v1111 k0_hw496 => k0_hw496

def k0_off990 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c108_i32 : BitVec 32 := 108#32
  let v1119 : BitVec 32 := Scalar.addi v38 c108_i32
  let v1120 : Index := Scalar.indexCast v1119
  ![v1120.toNat]
def k0_off991 (v1121 : BitVec 32) : Fin 3 → Nat :=
  let c0_449 : Index := 0#32
  let c5_i32_448 : BitVec 32 := 5#32
  let v1122 : BitVec 32 := Scalar.muli v1121 c5_i32_448
  let v1123 : Index := Scalar.indexCast v1122
  let c0_450 : Index := 0#32
  ![0, v1123.toNat, 0]

def k0_chk497 (v1121 : BitVec 32) : Prop :=
  (∀ a, (k0_off991 v1121) a + S1x5x128.size a ≤ S1x7720x128.size a)
theorem k0_off991_inb : ∀ (v1121 : BitVec 32) (k0_hw497 : k0_chk497 v1121), ∀ a, (k0_off991 v1121) a + S1x5x128.size a ≤ S1x7720x128.size a := fun v1121 k0_hw497 => k0_hw497

def k0_off992 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c109_i32 : BitVec 32 := 109#32
  let v1129 : BitVec 32 := Scalar.addi v38 c109_i32
  let v1130 : Index := Scalar.indexCast v1129
  ![v1130.toNat]
def k0_off993 (v1131 : BitVec 32) : Fin 3 → Nat :=
  let c0_453 : Index := 0#32
  let c5_i32_452 : BitVec 32 := 5#32
  let v1132 : BitVec 32 := Scalar.muli v1131 c5_i32_452
  let v1133 : Index := Scalar.indexCast v1132
  let c0_454 : Index := 0#32
  ![0, v1133.toNat, 0]

def k0_chk498 (v1131 : BitVec 32) : Prop :=
  (∀ a, (k0_off993 v1131) a + S1x5x128.size a ≤ S1x7720x128.size a)
theorem k0_off993_inb : ∀ (v1131 : BitVec 32) (k0_hw498 : k0_chk498 v1131), ∀ a, (k0_off993 v1131) a + S1x5x128.size a ≤ S1x7720x128.size a := fun v1131 k0_hw498 => k0_hw498

def k0_off994 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c110_i32 : BitVec 32 := 110#32
  let v1139 : BitVec 32 := Scalar.addi v38 c110_i32
  let v1140 : Index := Scalar.indexCast v1139
  ![v1140.toNat]
def k0_off995 (v1141 : BitVec 32) : Fin 3 → Nat :=
  let c0_457 : Index := 0#32
  let c5_i32_456 : BitVec 32 := 5#32
  let v1142 : BitVec 32 := Scalar.muli v1141 c5_i32_456
  let v1143 : Index := Scalar.indexCast v1142
  let c0_458 : Index := 0#32
  ![0, v1143.toNat, 0]

def k0_chk499 (v1141 : BitVec 32) : Prop :=
  (∀ a, (k0_off995 v1141) a + S1x5x128.size a ≤ S1x7720x128.size a)
theorem k0_off995_inb : ∀ (v1141 : BitVec 32) (k0_hw499 : k0_chk499 v1141), ∀ a, (k0_off995 v1141) a + S1x5x128.size a ≤ S1x7720x128.size a := fun v1141 k0_hw499 => k0_hw499

def k0_off996 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c111_i32 : BitVec 32 := 111#32
  let v1149 : BitVec 32 := Scalar.addi v38 c111_i32
  let v1150 : Index := Scalar.indexCast v1149
  ![v1150.toNat]
def k0_off997 (v1151 : BitVec 32) : Fin 3 → Nat :=
  let c0_461 : Index := 0#32
  let c5_i32_460 : BitVec 32 := 5#32
  let v1152 : BitVec 32 := Scalar.muli v1151 c5_i32_460
  let v1153 : Index := Scalar.indexCast v1152
  let c0_462 : Index := 0#32
  ![0, v1153.toNat, 0]

def k0_chk500 (v1151 : BitVec 32) : Prop :=
  (∀ a, (k0_off997 v1151) a + S1x5x128.size a ≤ S1x7720x128.size a)
theorem k0_off997_inb : ∀ (v1151 : BitVec 32) (k0_hw500 : k0_chk500 v1151), ∀ a, (k0_off997 v1151) a + S1x5x128.size a ≤ S1x7720x128.size a := fun v1151 k0_hw500 => k0_hw500

def k0_off998 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c112_i32 : BitVec 32 := 112#32
  let v1159 : BitVec 32 := Scalar.addi v38 c112_i32
  let v1160 : Index := Scalar.indexCast v1159
  ![v1160.toNat]
def k0_off999 (v1161 : BitVec 32) : Fin 3 → Nat :=
  let c0_465 : Index := 0#32
  let c5_i32_464 : BitVec 32 := 5#32
  let v1162 : BitVec 32 := Scalar.muli v1161 c5_i32_464
  let v1163 : Index := Scalar.indexCast v1162
  let c0_466 : Index := 0#32
  ![0, v1163.toNat, 0]

def k0_chk501 (v1161 : BitVec 32) : Prop :=
  (∀ a, (k0_off999 v1161) a + S1x5x128.size a ≤ S1x7720x128.size a)
theorem k0_off999_inb : ∀ (v1161 : BitVec 32) (k0_hw501 : k0_chk501 v1161), ∀ a, (k0_off999 v1161) a + S1x5x128.size a ≤ S1x7720x128.size a := fun v1161 k0_hw501 => k0_hw501

def k0_off1000 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c113_i32 : BitVec 32 := 113#32
  let v1169 : BitVec 32 := Scalar.addi v38 c113_i32
  let v1170 : Index := Scalar.indexCast v1169
  ![v1170.toNat]
def k0_off1001 (v1171 : BitVec 32) : Fin 3 → Nat :=
  let c0_469 : Index := 0#32
  let c5_i32_468 : BitVec 32 := 5#32
  let v1172 : BitVec 32 := Scalar.muli v1171 c5_i32_468
  let v1173 : Index := Scalar.indexCast v1172
  let c0_470 : Index := 0#32
  ![0, v1173.toNat, 0]

def k0_chk502 (v1171 : BitVec 32) : Prop :=
  (∀ a, (k0_off1001 v1171) a + S1x5x128.size a ≤ S1x7720x128.size a)
theorem k0_off1001_inb : ∀ (v1171 : BitVec 32) (k0_hw502 : k0_chk502 v1171), ∀ a, (k0_off1001 v1171) a + S1x5x128.size a ≤ S1x7720x128.size a := fun v1171 k0_hw502 => k0_hw502

def k0_off1002 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c114_i32 : BitVec 32 := 114#32
  let v1179 : BitVec 32 := Scalar.addi v38 c114_i32
  let v1180 : Index := Scalar.indexCast v1179
  ![v1180.toNat]
def k0_off1003 (v1181 : BitVec 32) : Fin 3 → Nat :=
  let c0_473 : Index := 0#32
  let c5_i32_472 : BitVec 32 := 5#32
  let v1182 : BitVec 32 := Scalar.muli v1181 c5_i32_472
  let v1183 : Index := Scalar.indexCast v1182
  let c0_474 : Index := 0#32
  ![0, v1183.toNat, 0]

def k0_chk503 (v1181 : BitVec 32) : Prop :=
  (∀ a, (k0_off1003 v1181) a + S1x5x128.size a ≤ S1x7720x128.size a)
theorem k0_off1003_inb : ∀ (v1181 : BitVec 32) (k0_hw503 : k0_chk503 v1181), ∀ a, (k0_off1003 v1181) a + S1x5x128.size a ≤ S1x7720x128.size a := fun v1181 k0_hw503 => k0_hw503

def k0_off1004 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c115_i32 : BitVec 32 := 115#32
  let v1189 : BitVec 32 := Scalar.addi v38 c115_i32
  let v1190 : Index := Scalar.indexCast v1189
  ![v1190.toNat]
def k0_off1005 (v1191 : BitVec 32) : Fin 3 → Nat :=
  let c0_477 : Index := 0#32
  let c5_i32_476 : BitVec 32 := 5#32
  let v1192 : BitVec 32 := Scalar.muli v1191 c5_i32_476
  let v1193 : Index := Scalar.indexCast v1192
  let c0_478 : Index := 0#32
  ![0, v1193.toNat, 0]

def k0_chk504 (v1191 : BitVec 32) : Prop :=
  (∀ a, (k0_off1005 v1191) a + S1x5x128.size a ≤ S1x7720x128.size a)
theorem k0_off1005_inb : ∀ (v1191 : BitVec 32) (k0_hw504 : k0_chk504 v1191), ∀ a, (k0_off1005 v1191) a + S1x5x128.size a ≤ S1x7720x128.size a := fun v1191 k0_hw504 => k0_hw504

def k0_off1006 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c116_i32 : BitVec 32 := 116#32
  let v1199 : BitVec 32 := Scalar.addi v38 c116_i32
  let v1200 : Index := Scalar.indexCast v1199
  ![v1200.toNat]
def k0_off1007 (v1201 : BitVec 32) : Fin 3 → Nat :=
  let c0_481 : Index := 0#32
  let c5_i32_480 : BitVec 32 := 5#32
  let v1202 : BitVec 32 := Scalar.muli v1201 c5_i32_480
  let v1203 : Index := Scalar.indexCast v1202
  let c0_482 : Index := 0#32
  ![0, v1203.toNat, 0]

def k0_chk505 (v1201 : BitVec 32) : Prop :=
  (∀ a, (k0_off1007 v1201) a + S1x5x128.size a ≤ S1x7720x128.size a)
theorem k0_off1007_inb : ∀ (v1201 : BitVec 32) (k0_hw505 : k0_chk505 v1201), ∀ a, (k0_off1007 v1201) a + S1x5x128.size a ≤ S1x7720x128.size a := fun v1201 k0_hw505 => k0_hw505

def k0_off1008 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c117_i32 : BitVec 32 := 117#32
  let v1209 : BitVec 32 := Scalar.addi v38 c117_i32
  let v1210 : Index := Scalar.indexCast v1209
  ![v1210.toNat]
def k0_off1009 (v1211 : BitVec 32) : Fin 3 → Nat :=
  let c0_485 : Index := 0#32
  let c5_i32_484 : BitVec 32 := 5#32
  let v1212 : BitVec 32 := Scalar.muli v1211 c5_i32_484
  let v1213 : Index := Scalar.indexCast v1212
  let c0_486 : Index := 0#32
  ![0, v1213.toNat, 0]

def k0_chk506 (v1211 : BitVec 32) : Prop :=
  (∀ a, (k0_off1009 v1211) a + S1x5x128.size a ≤ S1x7720x128.size a)
theorem k0_off1009_inb : ∀ (v1211 : BitVec 32) (k0_hw506 : k0_chk506 v1211), ∀ a, (k0_off1009 v1211) a + S1x5x128.size a ≤ S1x7720x128.size a := fun v1211 k0_hw506 => k0_hw506

def k0_off1010 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c118_i32 : BitVec 32 := 118#32
  let v1219 : BitVec 32 := Scalar.addi v38 c118_i32
  let v1220 : Index := Scalar.indexCast v1219
  ![v1220.toNat]
def k0_off1011 (v1221 : BitVec 32) : Fin 3 → Nat :=
  let c0_489 : Index := 0#32
  let c5_i32_488 : BitVec 32 := 5#32
  let v1222 : BitVec 32 := Scalar.muli v1221 c5_i32_488
  let v1223 : Index := Scalar.indexCast v1222
  let c0_490 : Index := 0#32
  ![0, v1223.toNat, 0]

def k0_chk507 (v1221 : BitVec 32) : Prop :=
  (∀ a, (k0_off1011 v1221) a + S1x5x128.size a ≤ S1x7720x128.size a)
theorem k0_off1011_inb : ∀ (v1221 : BitVec 32) (k0_hw507 : k0_chk507 v1221), ∀ a, (k0_off1011 v1221) a + S1x5x128.size a ≤ S1x7720x128.size a := fun v1221 k0_hw507 => k0_hw507

def k0_off1012 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c119_i32 : BitVec 32 := 119#32
  let v1229 : BitVec 32 := Scalar.addi v38 c119_i32
  let v1230 : Index := Scalar.indexCast v1229
  ![v1230.toNat]
def k0_off1013 (v1231 : BitVec 32) : Fin 3 → Nat :=
  let c0_493 : Index := 0#32
  let c5_i32_492 : BitVec 32 := 5#32
  let v1232 : BitVec 32 := Scalar.muli v1231 c5_i32_492
  let v1233 : Index := Scalar.indexCast v1232
  let c0_494 : Index := 0#32
  ![0, v1233.toNat, 0]

def k0_chk508 (v1231 : BitVec 32) : Prop :=
  (∀ a, (k0_off1013 v1231) a + S1x5x128.size a ≤ S1x7720x128.size a)
theorem k0_off1013_inb : ∀ (v1231 : BitVec 32) (k0_hw508 : k0_chk508 v1231), ∀ a, (k0_off1013 v1231) a + S1x5x128.size a ≤ S1x7720x128.size a := fun v1231 k0_hw508 => k0_hw508

def k0_off1014 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c120_i32 : BitVec 32 := 120#32
  let v1239 : BitVec 32 := Scalar.addi v38 c120_i32
  let v1240 : Index := Scalar.indexCast v1239
  ![v1240.toNat]
def k0_off1015 (v1241 : BitVec 32) : Fin 3 → Nat :=
  let c0_497 : Index := 0#32
  let c5_i32_496 : BitVec 32 := 5#32
  let v1242 : BitVec 32 := Scalar.muli v1241 c5_i32_496
  let v1243 : Index := Scalar.indexCast v1242
  let c0_498 : Index := 0#32
  ![0, v1243.toNat, 0]

def k0_chk509 (v1241 : BitVec 32) : Prop :=
  (∀ a, (k0_off1015 v1241) a + S1x5x128.size a ≤ S1x7720x128.size a)
theorem k0_off1015_inb : ∀ (v1241 : BitVec 32) (k0_hw509 : k0_chk509 v1241), ∀ a, (k0_off1015 v1241) a + S1x5x128.size a ≤ S1x7720x128.size a := fun v1241 k0_hw509 => k0_hw509

def k0_off1016 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c121_i32 : BitVec 32 := 121#32
  let v1249 : BitVec 32 := Scalar.addi v38 c121_i32
  let v1250 : Index := Scalar.indexCast v1249
  ![v1250.toNat]
def k0_off1017 (v1251 : BitVec 32) : Fin 3 → Nat :=
  let c0_501 : Index := 0#32
  let c5_i32_500 : BitVec 32 := 5#32
  let v1252 : BitVec 32 := Scalar.muli v1251 c5_i32_500
  let v1253 : Index := Scalar.indexCast v1252
  let c0_502 : Index := 0#32
  ![0, v1253.toNat, 0]

def k0_chk510 (v1251 : BitVec 32) : Prop :=
  (∀ a, (k0_off1017 v1251) a + S1x5x128.size a ≤ S1x7720x128.size a)
theorem k0_off1017_inb : ∀ (v1251 : BitVec 32) (k0_hw510 : k0_chk510 v1251), ∀ a, (k0_off1017 v1251) a + S1x5x128.size a ≤ S1x7720x128.size a := fun v1251 k0_hw510 => k0_hw510

def k0_off1018 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c122_i32 : BitVec 32 := 122#32
  let v1259 : BitVec 32 := Scalar.addi v38 c122_i32
  let v1260 : Index := Scalar.indexCast v1259
  ![v1260.toNat]
def k0_off1019 (v1261 : BitVec 32) : Fin 3 → Nat :=
  let c0_505 : Index := 0#32
  let c5_i32_504 : BitVec 32 := 5#32
  let v1262 : BitVec 32 := Scalar.muli v1261 c5_i32_504
  let v1263 : Index := Scalar.indexCast v1262
  let c0_506 : Index := 0#32
  ![0, v1263.toNat, 0]

def k0_chk511 (v1261 : BitVec 32) : Prop :=
  (∀ a, (k0_off1019 v1261) a + S1x5x128.size a ≤ S1x7720x128.size a)
theorem k0_off1019_inb : ∀ (v1261 : BitVec 32) (k0_hw511 : k0_chk511 v1261), ∀ a, (k0_off1019 v1261) a + S1x5x128.size a ≤ S1x7720x128.size a := fun v1261 k0_hw511 => k0_hw511

def k0_off1020 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c123_i32 : BitVec 32 := 123#32
  let v1269 : BitVec 32 := Scalar.addi v38 c123_i32
  let v1270 : Index := Scalar.indexCast v1269
  ![v1270.toNat]
def k0_off1021 (v1271 : BitVec 32) : Fin 3 → Nat :=
  let c0_509 : Index := 0#32
  let c5_i32_508 : BitVec 32 := 5#32
  let v1272 : BitVec 32 := Scalar.muli v1271 c5_i32_508
  let v1273 : Index := Scalar.indexCast v1272
  let c0_510 : Index := 0#32
  ![0, v1273.toNat, 0]

def k0_chk512 (v1271 : BitVec 32) : Prop :=
  (∀ a, (k0_off1021 v1271) a + S1x5x128.size a ≤ S1x7720x128.size a)
theorem k0_off1021_inb : ∀ (v1271 : BitVec 32) (k0_hw512 : k0_chk512 v1271), ∀ a, (k0_off1021 v1271) a + S1x5x128.size a ≤ S1x7720x128.size a := fun v1271 k0_hw512 => k0_hw512

def k0_off1022 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c124_i32 : BitVec 32 := 124#32
  let v1279 : BitVec 32 := Scalar.addi v38 c124_i32
  let v1280 : Index := Scalar.indexCast v1279
  ![v1280.toNat]
def k0_off1023 (v1281 : BitVec 32) : Fin 3 → Nat :=
  let c0_513 : Index := 0#32
  let c5_i32_512 : BitVec 32 := 5#32
  let v1282 : BitVec 32 := Scalar.muli v1281 c5_i32_512
  let v1283 : Index := Scalar.indexCast v1282
  let c0_514 : Index := 0#32
  ![0, v1283.toNat, 0]

def k0_chk513 (v1281 : BitVec 32) : Prop :=
  (∀ a, (k0_off1023 v1281) a + S1x5x128.size a ≤ S1x7720x128.size a)
theorem k0_off1023_inb : ∀ (v1281 : BitVec 32) (k0_hw513 : k0_chk513 v1281), ∀ a, (k0_off1023 v1281) a + S1x5x128.size a ≤ S1x7720x128.size a := fun v1281 k0_hw513 => k0_hw513

def k0_off1024 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c125_i32 : BitVec 32 := 125#32
  let v1289 : BitVec 32 := Scalar.addi v38 c125_i32
  let v1290 : Index := Scalar.indexCast v1289
  ![v1290.toNat]
def k0_off1025 (v1291 : BitVec 32) : Fin 3 → Nat :=
  let c0_517 : Index := 0#32
  let c5_i32_516 : BitVec 32 := 5#32
  let v1292 : BitVec 32 := Scalar.muli v1291 c5_i32_516
  let v1293 : Index := Scalar.indexCast v1292
  let c0_518 : Index := 0#32
  ![0, v1293.toNat, 0]

def k0_chk514 (v1291 : BitVec 32) : Prop :=
  (∀ a, (k0_off1025 v1291) a + S1x5x128.size a ≤ S1x7720x128.size a)
theorem k0_off1025_inb : ∀ (v1291 : BitVec 32) (k0_hw514 : k0_chk514 v1291), ∀ a, (k0_off1025 v1291) a + S1x5x128.size a ≤ S1x7720x128.size a := fun v1291 k0_hw514 => k0_hw514

def k0_off1026 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c126_i32 : BitVec 32 := 126#32
  let v1299 : BitVec 32 := Scalar.addi v38 c126_i32
  let v1300 : Index := Scalar.indexCast v1299
  ![v1300.toNat]
def k0_off1027 (v1301 : BitVec 32) : Fin 3 → Nat :=
  let c0_521 : Index := 0#32
  let c5_i32_520 : BitVec 32 := 5#32
  let v1302 : BitVec 32 := Scalar.muli v1301 c5_i32_520
  let v1303 : Index := Scalar.indexCast v1302
  let c0_522 : Index := 0#32
  ![0, v1303.toNat, 0]

def k0_chk515 (v1301 : BitVec 32) : Prop :=
  (∀ a, (k0_off1027 v1301) a + S1x5x128.size a ≤ S1x7720x128.size a)
theorem k0_off1027_inb : ∀ (v1301 : BitVec 32) (k0_hw515 : k0_chk515 v1301), ∀ a, (k0_off1027 v1301) a + S1x5x128.size a ≤ S1x7720x128.size a := fun v1301 k0_hw515 => k0_hw515

def k0_off1028 (v5 : BitVec 32) (k0_t4 : Fin (k0_t4_loop v5).trips) (v36 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c127_i32_524 : BitVec 32 := 127#32
  let v1309 : BitVec 32 := Scalar.addi v38 c127_i32_524
  let v1310 : Index := Scalar.indexCast v1309
  ![v1310.toNat]
def k0_off1029 (v1311 : BitVec 32) : Fin 3 → Nat :=
  let c0_526 : Index := 0#32
  let c5_i32_525 : BitVec 32 := 5#32
  let v1312 : BitVec 32 := Scalar.muli v1311 c5_i32_525
  let v1313 : Index := Scalar.indexCast v1312
  let c0_527 : Index := 0#32
  ![0, v1313.toNat, 0]

def k0_chk516 (v1311 : BitVec 32) : Prop :=
  (∀ a, (k0_off1029 v1311) a + S1x5x128.size a ≤ S1x7720x128.size a)
theorem k0_off1029_inb : ∀ (v1311 : BitVec 32) (k0_hw516 : k0_chk516 v1311), ∀ a, (k0_off1029 v1311) a + S1x5x128.size a ≤ S1x7720x128.size a := fun v1311 k0_hw516 => k0_hw516

def k0_off1030 (v5 : BitVec 32) (k0_t4 : Fin (k0_t4_loop v5).trips) (v36 : BitVec 32) (c0_i32_627 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c0_i32_626 : BitVec 32 := 0#32
  let v1588 : BitVec 32 := Scalar.addi v38 c0_i32_626
  let v1589 : BitVec 32 := Scalar.addi v1588 c0_i32_627
  let v1590 : Index := Scalar.indexCast v1589
  ![v1590.toNat]
def k0_off1031 (v1591 : BitVec 32) : Fin 2 → Nat :=
  let c17_i32_642 : BitVec 32 := 17#32
  let v1620 : BitVec 32 := Scalar.muli v1591 c17_i32_642
  let v1621 : Index := Scalar.indexCast v1620
  let c0_643 : Index := 0#32
  ![v1621.toNat, 0]

def k0_off1032 (v1595 : BitVec 32) : Fin 2 → Nat :=
  let c17_i32_646 : BitVec 32 := 17#32
  let v1625 : BitVec 32 := Scalar.muli v1595 c17_i32_646
  let v1626 : Index := Scalar.indexCast v1625
  let c0_647 : Index := 0#32
  ![v1626.toNat, 0]

def k0_off1033 (v1599 : BitVec 32) : Fin 2 → Nat :=
  let c17_i32_650 : BitVec 32 := 17#32
  let v1630 : BitVec 32 := Scalar.muli v1599 c17_i32_650
  let v1631 : Index := Scalar.indexCast v1630
  let c0_651 : Index := 0#32
  ![v1631.toNat, 0]

def k0_off1034 (v1603 : BitVec 32) : Fin 2 → Nat :=
  let c17_i32_654 : BitVec 32 := 17#32
  let v1635 : BitVec 32 := Scalar.muli v1603 c17_i32_654
  let v1636 : Index := Scalar.indexCast v1635
  let c0_655 : Index := 0#32
  ![v1636.toNat, 0]

def k0_off1035 (v1607 : BitVec 32) : Fin 2 → Nat :=
  let c17_i32_658 : BitVec 32 := 17#32
  let v1640 : BitVec 32 := Scalar.muli v1607 c17_i32_658
  let v1641 : Index := Scalar.indexCast v1640
  let c0_659 : Index := 0#32
  ![v1641.toNat, 0]

def k0_off1036 (v1611 : BitVec 32) : Fin 2 → Nat :=
  let c17_i32_662 : BitVec 32 := 17#32
  let v1645 : BitVec 32 := Scalar.muli v1611 c17_i32_662
  let v1646 : Index := Scalar.indexCast v1645
  let c0_663 : Index := 0#32
  ![v1646.toNat, 0]

def k0_off1037 (v1615 : BitVec 32) : Fin 2 → Nat :=
  let c17_i32_666 : BitVec 32 := 17#32
  let v1650 : BitVec 32 := Scalar.muli v1615 c17_i32_666
  let v1651 : Index := Scalar.indexCast v1650
  let c0_667 : Index := 0#32
  ![v1651.toNat, 0]

def k0_off1038 (v1619 : BitVec 32) : Fin 2 → Nat :=
  let c17_i32_670 : BitVec 32 := 17#32
  let v1655 : BitVec 32 := Scalar.muli v1619 c17_i32_670
  let v1656 : Index := Scalar.indexCast v1655
  let c0_671 : Index := 0#32
  ![v1656.toNat, 0]

def k0_chk524 (v1619 : BitVec 32) : Prop :=
  (∀ a, (k0_off1038 v1619) a + S16x128.size a ≤ S26136x128.size a)
theorem k0_off1038_inb : ∀ (v1619 : BitVec 32) (k0_hw524 : k0_chk524 v1619), ∀ a, (k0_off1038 v1619) a + S16x128.size a ≤ S26136x128.size a := fun v1619 k0_hw524 => k0_hw524

def k0_off1039 (v1591 : BitVec 32) : Fin 2 → Nat :=
  let c17_i32_674 : BitVec 32 := 17#32
  let v1660 : BitVec 32 := Scalar.muli v1591 c17_i32_674
  let v1661 : Index := Scalar.indexCast v1660
  let c0_675 : Index := 0#32
  ![v1661.toNat, 0]

def k0_chk517 (v1591 : BitVec 32) : Prop :=
  (∀ a, (k0_off1031 v1591) a + S16x128.size a ≤ S26136x128.size a) ∧
  (∀ a, (k0_off1039 v1591) a + S16x128.size a ≤ S26136x128.size a)
theorem k0_off1031_inb : ∀ (v1591 : BitVec 32) (k0_hw517 : k0_chk517 v1591), ∀ a, (k0_off1031 v1591) a + S16x128.size a ≤ S26136x128.size a := fun v1591 k0_hw517 => k0_hw517.1
theorem k0_off1039_inb : ∀ (v1591 : BitVec 32) (k0_hw517 : k0_chk517 v1591), ∀ a, (k0_off1039 v1591) a + S16x128.size a ≤ S26136x128.size a := fun v1591 k0_hw517 => k0_hw517.2

def k0_off1040 (v1595 : BitVec 32) : Fin 2 → Nat :=
  let c17_i32_676 : BitVec 32 := 17#32
  let v1665 : BitVec 32 := Scalar.muli v1595 c17_i32_676
  let v1666 : Index := Scalar.indexCast v1665
  let c0_677 : Index := 0#32
  ![v1666.toNat, 0]

def k0_chk518 (v1595 : BitVec 32) : Prop :=
  (∀ a, (k0_off1032 v1595) a + S16x128.size a ≤ S26136x128.size a) ∧
  (∀ a, (k0_off1040 v1595) a + S16x128.size a ≤ S26136x128.size a)
theorem k0_off1032_inb : ∀ (v1595 : BitVec 32) (k0_hw518 : k0_chk518 v1595), ∀ a, (k0_off1032 v1595) a + S16x128.size a ≤ S26136x128.size a := fun v1595 k0_hw518 => k0_hw518.1
theorem k0_off1040_inb : ∀ (v1595 : BitVec 32) (k0_hw518 : k0_chk518 v1595), ∀ a, (k0_off1040 v1595) a + S16x128.size a ≤ S26136x128.size a := fun v1595 k0_hw518 => k0_hw518.2

def k0_off1041 (v1599 : BitVec 32) : Fin 2 → Nat :=
  let c17_i32_678 : BitVec 32 := 17#32
  let v1670 : BitVec 32 := Scalar.muli v1599 c17_i32_678
  let v1671 : Index := Scalar.indexCast v1670
  let c0_679 : Index := 0#32
  ![v1671.toNat, 0]

def k0_chk519 (v1599 : BitVec 32) : Prop :=
  (∀ a, (k0_off1033 v1599) a + S16x128.size a ≤ S26136x128.size a) ∧
  (∀ a, (k0_off1041 v1599) a + S16x128.size a ≤ S26136x128.size a)
theorem k0_off1033_inb : ∀ (v1599 : BitVec 32) (k0_hw519 : k0_chk519 v1599), ∀ a, (k0_off1033 v1599) a + S16x128.size a ≤ S26136x128.size a := fun v1599 k0_hw519 => k0_hw519.1
theorem k0_off1041_inb : ∀ (v1599 : BitVec 32) (k0_hw519 : k0_chk519 v1599), ∀ a, (k0_off1041 v1599) a + S16x128.size a ≤ S26136x128.size a := fun v1599 k0_hw519 => k0_hw519.2

def k0_off1042 (v1603 : BitVec 32) : Fin 2 → Nat :=
  let c17_i32_680 : BitVec 32 := 17#32
  let v1675 : BitVec 32 := Scalar.muli v1603 c17_i32_680
  let v1676 : Index := Scalar.indexCast v1675
  let c0_681 : Index := 0#32
  ![v1676.toNat, 0]

def k0_chk520 (v1603 : BitVec 32) : Prop :=
  (∀ a, (k0_off1034 v1603) a + S16x128.size a ≤ S26136x128.size a) ∧
  (∀ a, (k0_off1042 v1603) a + S16x128.size a ≤ S26136x128.size a)
theorem k0_off1034_inb : ∀ (v1603 : BitVec 32) (k0_hw520 : k0_chk520 v1603), ∀ a, (k0_off1034 v1603) a + S16x128.size a ≤ S26136x128.size a := fun v1603 k0_hw520 => k0_hw520.1
theorem k0_off1042_inb : ∀ (v1603 : BitVec 32) (k0_hw520 : k0_chk520 v1603), ∀ a, (k0_off1042 v1603) a + S16x128.size a ≤ S26136x128.size a := fun v1603 k0_hw520 => k0_hw520.2

def k0_off1043 (v1607 : BitVec 32) : Fin 2 → Nat :=
  let c17_i32_682 : BitVec 32 := 17#32
  let v1680 : BitVec 32 := Scalar.muli v1607 c17_i32_682
  let v1681 : Index := Scalar.indexCast v1680
  let c0_683 : Index := 0#32
  ![v1681.toNat, 0]

def k0_chk521 (v1607 : BitVec 32) : Prop :=
  (∀ a, (k0_off1035 v1607) a + S16x128.size a ≤ S26136x128.size a) ∧
  (∀ a, (k0_off1043 v1607) a + S16x128.size a ≤ S26136x128.size a)
theorem k0_off1035_inb : ∀ (v1607 : BitVec 32) (k0_hw521 : k0_chk521 v1607), ∀ a, (k0_off1035 v1607) a + S16x128.size a ≤ S26136x128.size a := fun v1607 k0_hw521 => k0_hw521.1
theorem k0_off1043_inb : ∀ (v1607 : BitVec 32) (k0_hw521 : k0_chk521 v1607), ∀ a, (k0_off1043 v1607) a + S16x128.size a ≤ S26136x128.size a := fun v1607 k0_hw521 => k0_hw521.2

def k0_off1044 (v1611 : BitVec 32) : Fin 2 → Nat :=
  let c17_i32_684 : BitVec 32 := 17#32
  let v1685 : BitVec 32 := Scalar.muli v1611 c17_i32_684
  let v1686 : Index := Scalar.indexCast v1685
  let c0_685 : Index := 0#32
  ![v1686.toNat, 0]

def k0_chk522 (v1611 : BitVec 32) : Prop :=
  (∀ a, (k0_off1036 v1611) a + S16x128.size a ≤ S26136x128.size a) ∧
  (∀ a, (k0_off1044 v1611) a + S16x128.size a ≤ S26136x128.size a)
theorem k0_off1036_inb : ∀ (v1611 : BitVec 32) (k0_hw522 : k0_chk522 v1611), ∀ a, (k0_off1036 v1611) a + S16x128.size a ≤ S26136x128.size a := fun v1611 k0_hw522 => k0_hw522.1
theorem k0_off1044_inb : ∀ (v1611 : BitVec 32) (k0_hw522 : k0_chk522 v1611), ∀ a, (k0_off1044 v1611) a + S16x128.size a ≤ S26136x128.size a := fun v1611 k0_hw522 => k0_hw522.2

def k0_off1045 (v1615 : BitVec 32) : Fin 2 → Nat :=
  let c17_i32_686 : BitVec 32 := 17#32
  let v1690 : BitVec 32 := Scalar.muli v1615 c17_i32_686
  let v1691 : Index := Scalar.indexCast v1690
  let c0_687 : Index := 0#32
  ![v1691.toNat, 0]

def k0_chk523 (v1615 : BitVec 32) : Prop :=
  (∀ a, (k0_off1037 v1615) a + S16x128.size a ≤ S26136x128.size a) ∧
  (∀ a, (k0_off1045 v1615) a + S16x128.size a ≤ S26136x128.size a)
theorem k0_off1037_inb : ∀ (v1615 : BitVec 32) (k0_hw523 : k0_chk523 v1615), ∀ a, (k0_off1037 v1615) a + S16x128.size a ≤ S26136x128.size a := fun v1615 k0_hw523 => k0_hw523.1
theorem k0_off1045_inb : ∀ (v1615 : BitVec 32) (k0_hw523 : k0_chk523 v1615), ∀ a, (k0_off1045 v1615) a + S16x128.size a ≤ S26136x128.size a := fun v1615 k0_hw523 => k0_hw523.2

def k0_off1046 (v5 : BitVec 32) (k0_t4 : Fin (k0_t4_loop v5).trips) (v36 : BitVec 32) (c0_i32_691 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c8_i32_690 : BitVec 32 := 8#32
  let v1700 : BitVec 32 := Scalar.addi v38 c8_i32_690
  let v1701 : BitVec 32 := Scalar.addi v1700 c0_i32_691
  let v1702 : Index := Scalar.indexCast v1701
  ![v1702.toNat]
def k0_off1047 (v1703 : BitVec 32) : Fin 2 → Nat :=
  let c17_i32_706 : BitVec 32 := 17#32
  let v1732 : BitVec 32 := Scalar.muli v1703 c17_i32_706
  let v1733 : Index := Scalar.indexCast v1732
  let c0_707 : Index := 0#32
  ![v1733.toNat, 0]

def k0_off1048 (v1707 : BitVec 32) : Fin 2 → Nat :=
  let c17_i32_710 : BitVec 32 := 17#32
  let v1737 : BitVec 32 := Scalar.muli v1707 c17_i32_710
  let v1738 : Index := Scalar.indexCast v1737
  let c0_711 : Index := 0#32
  ![v1738.toNat, 0]

def k0_off1049 (v1711 : BitVec 32) : Fin 2 → Nat :=
  let c17_i32_714 : BitVec 32 := 17#32
  let v1742 : BitVec 32 := Scalar.muli v1711 c17_i32_714
  let v1743 : Index := Scalar.indexCast v1742
  let c0_715 : Index := 0#32
  ![v1743.toNat, 0]

def k0_off1050 (v1715 : BitVec 32) : Fin 2 → Nat :=
  let c17_i32_718 : BitVec 32 := 17#32
  let v1747 : BitVec 32 := Scalar.muli v1715 c17_i32_718
  let v1748 : Index := Scalar.indexCast v1747
  let c0_719 : Index := 0#32
  ![v1748.toNat, 0]

def k0_off1051 (v1719 : BitVec 32) : Fin 2 → Nat :=
  let c17_i32_722 : BitVec 32 := 17#32
  let v1752 : BitVec 32 := Scalar.muli v1719 c17_i32_722
  let v1753 : Index := Scalar.indexCast v1752
  let c0_723 : Index := 0#32
  ![v1753.toNat, 0]

def k0_off1052 (v1723 : BitVec 32) : Fin 2 → Nat :=
  let c17_i32_726 : BitVec 32 := 17#32
  let v1757 : BitVec 32 := Scalar.muli v1723 c17_i32_726
  let v1758 : Index := Scalar.indexCast v1757
  let c0_727 : Index := 0#32
  ![v1758.toNat, 0]

def k0_off1053 (v1727 : BitVec 32) : Fin 2 → Nat :=
  let c17_i32_730 : BitVec 32 := 17#32
  let v1762 : BitVec 32 := Scalar.muli v1727 c17_i32_730
  let v1763 : Index := Scalar.indexCast v1762
  let c0_731 : Index := 0#32
  ![v1763.toNat, 0]

def k0_off1054 (v1731 : BitVec 32) : Fin 2 → Nat :=
  let c17_i32_734 : BitVec 32 := 17#32
  let v1767 : BitVec 32 := Scalar.muli v1731 c17_i32_734
  let v1768 : Index := Scalar.indexCast v1767
  let c0_735 : Index := 0#32
  ![v1768.toNat, 0]

def k0_chk532 (v1731 : BitVec 32) : Prop :=
  (∀ a, (k0_off1054 v1731) a + S16x128.size a ≤ S26136x128.size a)
theorem k0_off1054_inb : ∀ (v1731 : BitVec 32) (k0_hw532 : k0_chk532 v1731), ∀ a, (k0_off1054 v1731) a + S16x128.size a ≤ S26136x128.size a := fun v1731 k0_hw532 => k0_hw532

def k0_off1055 (v1703 : BitVec 32) : Fin 2 → Nat :=
  let c17_i32_738 : BitVec 32 := 17#32
  let v1772 : BitVec 32 := Scalar.muli v1703 c17_i32_738
  let v1773 : Index := Scalar.indexCast v1772
  let c0_739 : Index := 0#32
  ![v1773.toNat, 0]

def k0_chk525 (v1703 : BitVec 32) : Prop :=
  (∀ a, (k0_off1047 v1703) a + S16x128.size a ≤ S26136x128.size a) ∧
  (∀ a, (k0_off1055 v1703) a + S16x128.size a ≤ S26136x128.size a)
theorem k0_off1047_inb : ∀ (v1703 : BitVec 32) (k0_hw525 : k0_chk525 v1703), ∀ a, (k0_off1047 v1703) a + S16x128.size a ≤ S26136x128.size a := fun v1703 k0_hw525 => k0_hw525.1
theorem k0_off1055_inb : ∀ (v1703 : BitVec 32) (k0_hw525 : k0_chk525 v1703), ∀ a, (k0_off1055 v1703) a + S16x128.size a ≤ S26136x128.size a := fun v1703 k0_hw525 => k0_hw525.2

def k0_off1056 (v1707 : BitVec 32) : Fin 2 → Nat :=
  let c17_i32_740 : BitVec 32 := 17#32
  let v1777 : BitVec 32 := Scalar.muli v1707 c17_i32_740
  let v1778 : Index := Scalar.indexCast v1777
  let c0_741 : Index := 0#32
  ![v1778.toNat, 0]

def k0_chk526 (v1707 : BitVec 32) : Prop :=
  (∀ a, (k0_off1048 v1707) a + S16x128.size a ≤ S26136x128.size a) ∧
  (∀ a, (k0_off1056 v1707) a + S16x128.size a ≤ S26136x128.size a)
theorem k0_off1048_inb : ∀ (v1707 : BitVec 32) (k0_hw526 : k0_chk526 v1707), ∀ a, (k0_off1048 v1707) a + S16x128.size a ≤ S26136x128.size a := fun v1707 k0_hw526 => k0_hw526.1
theorem k0_off1056_inb : ∀ (v1707 : BitVec 32) (k0_hw526 : k0_chk526 v1707), ∀ a, (k0_off1056 v1707) a + S16x128.size a ≤ S26136x128.size a := fun v1707 k0_hw526 => k0_hw526.2

def k0_off1057 (v1711 : BitVec 32) : Fin 2 → Nat :=
  let c17_i32_742 : BitVec 32 := 17#32
  let v1782 : BitVec 32 := Scalar.muli v1711 c17_i32_742
  let v1783 : Index := Scalar.indexCast v1782
  let c0_743 : Index := 0#32
  ![v1783.toNat, 0]

def k0_chk527 (v1711 : BitVec 32) : Prop :=
  (∀ a, (k0_off1049 v1711) a + S16x128.size a ≤ S26136x128.size a) ∧
  (∀ a, (k0_off1057 v1711) a + S16x128.size a ≤ S26136x128.size a)
theorem k0_off1049_inb : ∀ (v1711 : BitVec 32) (k0_hw527 : k0_chk527 v1711), ∀ a, (k0_off1049 v1711) a + S16x128.size a ≤ S26136x128.size a := fun v1711 k0_hw527 => k0_hw527.1
theorem k0_off1057_inb : ∀ (v1711 : BitVec 32) (k0_hw527 : k0_chk527 v1711), ∀ a, (k0_off1057 v1711) a + S16x128.size a ≤ S26136x128.size a := fun v1711 k0_hw527 => k0_hw527.2

def k0_off1058 (v1715 : BitVec 32) : Fin 2 → Nat :=
  let c17_i32_744 : BitVec 32 := 17#32
  let v1787 : BitVec 32 := Scalar.muli v1715 c17_i32_744
  let v1788 : Index := Scalar.indexCast v1787
  let c0_745 : Index := 0#32
  ![v1788.toNat, 0]

def k0_chk528 (v1715 : BitVec 32) : Prop :=
  (∀ a, (k0_off1050 v1715) a + S16x128.size a ≤ S26136x128.size a) ∧
  (∀ a, (k0_off1058 v1715) a + S16x128.size a ≤ S26136x128.size a)
theorem k0_off1050_inb : ∀ (v1715 : BitVec 32) (k0_hw528 : k0_chk528 v1715), ∀ a, (k0_off1050 v1715) a + S16x128.size a ≤ S26136x128.size a := fun v1715 k0_hw528 => k0_hw528.1
theorem k0_off1058_inb : ∀ (v1715 : BitVec 32) (k0_hw528 : k0_chk528 v1715), ∀ a, (k0_off1058 v1715) a + S16x128.size a ≤ S26136x128.size a := fun v1715 k0_hw528 => k0_hw528.2

def k0_off1059 (v1719 : BitVec 32) : Fin 2 → Nat :=
  let c17_i32_746 : BitVec 32 := 17#32
  let v1792 : BitVec 32 := Scalar.muli v1719 c17_i32_746
  let v1793 : Index := Scalar.indexCast v1792
  let c0_747 : Index := 0#32
  ![v1793.toNat, 0]

def k0_chk529 (v1719 : BitVec 32) : Prop :=
  (∀ a, (k0_off1051 v1719) a + S16x128.size a ≤ S26136x128.size a) ∧
  (∀ a, (k0_off1059 v1719) a + S16x128.size a ≤ S26136x128.size a)
theorem k0_off1051_inb : ∀ (v1719 : BitVec 32) (k0_hw529 : k0_chk529 v1719), ∀ a, (k0_off1051 v1719) a + S16x128.size a ≤ S26136x128.size a := fun v1719 k0_hw529 => k0_hw529.1
theorem k0_off1059_inb : ∀ (v1719 : BitVec 32) (k0_hw529 : k0_chk529 v1719), ∀ a, (k0_off1059 v1719) a + S16x128.size a ≤ S26136x128.size a := fun v1719 k0_hw529 => k0_hw529.2

def k0_off1060 (v1723 : BitVec 32) : Fin 2 → Nat :=
  let c17_i32_748 : BitVec 32 := 17#32
  let v1797 : BitVec 32 := Scalar.muli v1723 c17_i32_748
  let v1798 : Index := Scalar.indexCast v1797
  let c0_749 : Index := 0#32
  ![v1798.toNat, 0]

def k0_chk530 (v1723 : BitVec 32) : Prop :=
  (∀ a, (k0_off1052 v1723) a + S16x128.size a ≤ S26136x128.size a) ∧
  (∀ a, (k0_off1060 v1723) a + S16x128.size a ≤ S26136x128.size a)
theorem k0_off1052_inb : ∀ (v1723 : BitVec 32) (k0_hw530 : k0_chk530 v1723), ∀ a, (k0_off1052 v1723) a + S16x128.size a ≤ S26136x128.size a := fun v1723 k0_hw530 => k0_hw530.1
theorem k0_off1060_inb : ∀ (v1723 : BitVec 32) (k0_hw530 : k0_chk530 v1723), ∀ a, (k0_off1060 v1723) a + S16x128.size a ≤ S26136x128.size a := fun v1723 k0_hw530 => k0_hw530.2

def k0_off1061 (v1727 : BitVec 32) : Fin 2 → Nat :=
  let c17_i32_750 : BitVec 32 := 17#32
  let v1802 : BitVec 32 := Scalar.muli v1727 c17_i32_750
  let v1803 : Index := Scalar.indexCast v1802
  let c0_751 : Index := 0#32
  ![v1803.toNat, 0]

def k0_chk531 (v1727 : BitVec 32) : Prop :=
  (∀ a, (k0_off1053 v1727) a + S16x128.size a ≤ S26136x128.size a) ∧
  (∀ a, (k0_off1061 v1727) a + S16x128.size a ≤ S26136x128.size a)
theorem k0_off1053_inb : ∀ (v1727 : BitVec 32) (k0_hw531 : k0_chk531 v1727), ∀ a, (k0_off1053 v1727) a + S16x128.size a ≤ S26136x128.size a := fun v1727 k0_hw531 => k0_hw531.1
theorem k0_off1061_inb : ∀ (v1727 : BitVec 32) (k0_hw531 : k0_chk531 v1727), ∀ a, (k0_off1061 v1727) a + S16x128.size a ≤ S26136x128.size a := fun v1727 k0_hw531 => k0_hw531.2

def k0_off1062 (v5 : BitVec 32) (k0_t4 : Fin (k0_t4_loop v5).trips) (v36 : BitVec 32) (c0_i32_755 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c16_i32_754 : BitVec 32 := 16#32
  let v1812 : BitVec 32 := Scalar.addi v38 c16_i32_754
  let v1813 : BitVec 32 := Scalar.addi v1812 c0_i32_755
  let v1814 : Index := Scalar.indexCast v1813
  ![v1814.toNat]
def k0_off1063 (v1815 : BitVec 32) : Fin 2 → Nat :=
  let c17_i32_770 : BitVec 32 := 17#32
  let v1844 : BitVec 32 := Scalar.muli v1815 c17_i32_770
  let v1845 : Index := Scalar.indexCast v1844
  let c0_771 : Index := 0#32
  ![v1845.toNat, 0]

def k0_off1064 (v1819 : BitVec 32) : Fin 2 → Nat :=
  let c17_i32_774 : BitVec 32 := 17#32
  let v1849 : BitVec 32 := Scalar.muli v1819 c17_i32_774
  let v1850 : Index := Scalar.indexCast v1849
  let c0_775 : Index := 0#32
  ![v1850.toNat, 0]

def k0_off1065 (v1823 : BitVec 32) : Fin 2 → Nat :=
  let c17_i32_778 : BitVec 32 := 17#32
  let v1854 : BitVec 32 := Scalar.muli v1823 c17_i32_778
  let v1855 : Index := Scalar.indexCast v1854
  let c0_779 : Index := 0#32
  ![v1855.toNat, 0]

def k0_off1066 (v1827 : BitVec 32) : Fin 2 → Nat :=
  let c17_i32_782 : BitVec 32 := 17#32
  let v1859 : BitVec 32 := Scalar.muli v1827 c17_i32_782
  let v1860 : Index := Scalar.indexCast v1859
  let c0_783 : Index := 0#32
  ![v1860.toNat, 0]

def k0_off1067 (v1831 : BitVec 32) : Fin 2 → Nat :=
  let c17_i32_786 : BitVec 32 := 17#32
  let v1864 : BitVec 32 := Scalar.muli v1831 c17_i32_786
  let v1865 : Index := Scalar.indexCast v1864
  let c0_787 : Index := 0#32
  ![v1865.toNat, 0]

def k0_off1068 (v1835 : BitVec 32) : Fin 2 → Nat :=
  let c17_i32_790 : BitVec 32 := 17#32
  let v1869 : BitVec 32 := Scalar.muli v1835 c17_i32_790
  let v1870 : Index := Scalar.indexCast v1869
  let c0_791 : Index := 0#32
  ![v1870.toNat, 0]

def k0_off1069 (v1839 : BitVec 32) : Fin 2 → Nat :=
  let c17_i32_794 : BitVec 32 := 17#32
  let v1874 : BitVec 32 := Scalar.muli v1839 c17_i32_794
  let v1875 : Index := Scalar.indexCast v1874
  let c0_795 : Index := 0#32
  ![v1875.toNat, 0]

def k0_off1070 (v1843 : BitVec 32) : Fin 2 → Nat :=
  let c17_i32_798 : BitVec 32 := 17#32
  let v1879 : BitVec 32 := Scalar.muli v1843 c17_i32_798
  let v1880 : Index := Scalar.indexCast v1879
  let c0_799 : Index := 0#32
  ![v1880.toNat, 0]

def k0_chk540 (v1843 : BitVec 32) : Prop :=
  (∀ a, (k0_off1070 v1843) a + S16x128.size a ≤ S26136x128.size a)
theorem k0_off1070_inb : ∀ (v1843 : BitVec 32) (k0_hw540 : k0_chk540 v1843), ∀ a, (k0_off1070 v1843) a + S16x128.size a ≤ S26136x128.size a := fun v1843 k0_hw540 => k0_hw540

def k0_off1071 (v1815 : BitVec 32) : Fin 2 → Nat :=
  let c17_i32_802 : BitVec 32 := 17#32
  let v1884 : BitVec 32 := Scalar.muli v1815 c17_i32_802
  let v1885 : Index := Scalar.indexCast v1884
  let c0_803 : Index := 0#32
  ![v1885.toNat, 0]

def k0_chk533 (v1815 : BitVec 32) : Prop :=
  (∀ a, (k0_off1063 v1815) a + S16x128.size a ≤ S26136x128.size a) ∧
  (∀ a, (k0_off1071 v1815) a + S16x128.size a ≤ S26136x128.size a)
theorem k0_off1063_inb : ∀ (v1815 : BitVec 32) (k0_hw533 : k0_chk533 v1815), ∀ a, (k0_off1063 v1815) a + S16x128.size a ≤ S26136x128.size a := fun v1815 k0_hw533 => k0_hw533.1
theorem k0_off1071_inb : ∀ (v1815 : BitVec 32) (k0_hw533 : k0_chk533 v1815), ∀ a, (k0_off1071 v1815) a + S16x128.size a ≤ S26136x128.size a := fun v1815 k0_hw533 => k0_hw533.2

def k0_off1072 (v1819 : BitVec 32) : Fin 2 → Nat :=
  let c17_i32_804 : BitVec 32 := 17#32
  let v1889 : BitVec 32 := Scalar.muli v1819 c17_i32_804
  let v1890 : Index := Scalar.indexCast v1889
  let c0_805 : Index := 0#32
  ![v1890.toNat, 0]

def k0_chk534 (v1819 : BitVec 32) : Prop :=
  (∀ a, (k0_off1064 v1819) a + S16x128.size a ≤ S26136x128.size a) ∧
  (∀ a, (k0_off1072 v1819) a + S16x128.size a ≤ S26136x128.size a)
theorem k0_off1064_inb : ∀ (v1819 : BitVec 32) (k0_hw534 : k0_chk534 v1819), ∀ a, (k0_off1064 v1819) a + S16x128.size a ≤ S26136x128.size a := fun v1819 k0_hw534 => k0_hw534.1
theorem k0_off1072_inb : ∀ (v1819 : BitVec 32) (k0_hw534 : k0_chk534 v1819), ∀ a, (k0_off1072 v1819) a + S16x128.size a ≤ S26136x128.size a := fun v1819 k0_hw534 => k0_hw534.2

def k0_off1073 (v1823 : BitVec 32) : Fin 2 → Nat :=
  let c17_i32_806 : BitVec 32 := 17#32
  let v1894 : BitVec 32 := Scalar.muli v1823 c17_i32_806
  let v1895 : Index := Scalar.indexCast v1894
  let c0_807 : Index := 0#32
  ![v1895.toNat, 0]

def k0_chk535 (v1823 : BitVec 32) : Prop :=
  (∀ a, (k0_off1065 v1823) a + S16x128.size a ≤ S26136x128.size a) ∧
  (∀ a, (k0_off1073 v1823) a + S16x128.size a ≤ S26136x128.size a)
theorem k0_off1065_inb : ∀ (v1823 : BitVec 32) (k0_hw535 : k0_chk535 v1823), ∀ a, (k0_off1065 v1823) a + S16x128.size a ≤ S26136x128.size a := fun v1823 k0_hw535 => k0_hw535.1
theorem k0_off1073_inb : ∀ (v1823 : BitVec 32) (k0_hw535 : k0_chk535 v1823), ∀ a, (k0_off1073 v1823) a + S16x128.size a ≤ S26136x128.size a := fun v1823 k0_hw535 => k0_hw535.2

def k0_off1074 (v1827 : BitVec 32) : Fin 2 → Nat :=
  let c17_i32_808 : BitVec 32 := 17#32
  let v1899 : BitVec 32 := Scalar.muli v1827 c17_i32_808
  let v1900 : Index := Scalar.indexCast v1899
  let c0_809 : Index := 0#32
  ![v1900.toNat, 0]

def k0_chk536 (v1827 : BitVec 32) : Prop :=
  (∀ a, (k0_off1066 v1827) a + S16x128.size a ≤ S26136x128.size a) ∧
  (∀ a, (k0_off1074 v1827) a + S16x128.size a ≤ S26136x128.size a)
theorem k0_off1066_inb : ∀ (v1827 : BitVec 32) (k0_hw536 : k0_chk536 v1827), ∀ a, (k0_off1066 v1827) a + S16x128.size a ≤ S26136x128.size a := fun v1827 k0_hw536 => k0_hw536.1
theorem k0_off1074_inb : ∀ (v1827 : BitVec 32) (k0_hw536 : k0_chk536 v1827), ∀ a, (k0_off1074 v1827) a + S16x128.size a ≤ S26136x128.size a := fun v1827 k0_hw536 => k0_hw536.2

def k0_off1075 (v1831 : BitVec 32) : Fin 2 → Nat :=
  let c17_i32_810 : BitVec 32 := 17#32
  let v1904 : BitVec 32 := Scalar.muli v1831 c17_i32_810
  let v1905 : Index := Scalar.indexCast v1904
  let c0_811 : Index := 0#32
  ![v1905.toNat, 0]

def k0_chk537 (v1831 : BitVec 32) : Prop :=
  (∀ a, (k0_off1067 v1831) a + S16x128.size a ≤ S26136x128.size a) ∧
  (∀ a, (k0_off1075 v1831) a + S16x128.size a ≤ S26136x128.size a)
theorem k0_off1067_inb : ∀ (v1831 : BitVec 32) (k0_hw537 : k0_chk537 v1831), ∀ a, (k0_off1067 v1831) a + S16x128.size a ≤ S26136x128.size a := fun v1831 k0_hw537 => k0_hw537.1
theorem k0_off1075_inb : ∀ (v1831 : BitVec 32) (k0_hw537 : k0_chk537 v1831), ∀ a, (k0_off1075 v1831) a + S16x128.size a ≤ S26136x128.size a := fun v1831 k0_hw537 => k0_hw537.2

def k0_off1076 (v1835 : BitVec 32) : Fin 2 → Nat :=
  let c17_i32_812 : BitVec 32 := 17#32
  let v1909 : BitVec 32 := Scalar.muli v1835 c17_i32_812
  let v1910 : Index := Scalar.indexCast v1909
  let c0_813 : Index := 0#32
  ![v1910.toNat, 0]

def k0_chk538 (v1835 : BitVec 32) : Prop :=
  (∀ a, (k0_off1068 v1835) a + S16x128.size a ≤ S26136x128.size a) ∧
  (∀ a, (k0_off1076 v1835) a + S16x128.size a ≤ S26136x128.size a)
theorem k0_off1068_inb : ∀ (v1835 : BitVec 32) (k0_hw538 : k0_chk538 v1835), ∀ a, (k0_off1068 v1835) a + S16x128.size a ≤ S26136x128.size a := fun v1835 k0_hw538 => k0_hw538.1
theorem k0_off1076_inb : ∀ (v1835 : BitVec 32) (k0_hw538 : k0_chk538 v1835), ∀ a, (k0_off1076 v1835) a + S16x128.size a ≤ S26136x128.size a := fun v1835 k0_hw538 => k0_hw538.2

def k0_off1077 (v1839 : BitVec 32) : Fin 2 → Nat :=
  let c17_i32_814 : BitVec 32 := 17#32
  let v1914 : BitVec 32 := Scalar.muli v1839 c17_i32_814
  let v1915 : Index := Scalar.indexCast v1914
  let c0_815 : Index := 0#32
  ![v1915.toNat, 0]

def k0_chk539 (v1839 : BitVec 32) : Prop :=
  (∀ a, (k0_off1069 v1839) a + S16x128.size a ≤ S26136x128.size a) ∧
  (∀ a, (k0_off1077 v1839) a + S16x128.size a ≤ S26136x128.size a)
theorem k0_off1069_inb : ∀ (v1839 : BitVec 32) (k0_hw539 : k0_chk539 v1839), ∀ a, (k0_off1069 v1839) a + S16x128.size a ≤ S26136x128.size a := fun v1839 k0_hw539 => k0_hw539.1
theorem k0_off1077_inb : ∀ (v1839 : BitVec 32) (k0_hw539 : k0_chk539 v1839), ∀ a, (k0_off1077 v1839) a + S16x128.size a ≤ S26136x128.size a := fun v1839 k0_hw539 => k0_hw539.2

def k0_off1078 (v5 : BitVec 32) (k0_t4 : Fin (k0_t4_loop v5).trips) (v36 : BitVec 32) (c0_i32_819 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c24_i32_818 : BitVec 32 := 24#32
  let v1924 : BitVec 32 := Scalar.addi v38 c24_i32_818
  let v1925 : BitVec 32 := Scalar.addi v1924 c0_i32_819
  let v1926 : Index := Scalar.indexCast v1925
  ![v1926.toNat]
def k0_off1079 (v1927 : BitVec 32) : Fin 2 → Nat :=
  let c17_i32_834 : BitVec 32 := 17#32
  let v1956 : BitVec 32 := Scalar.muli v1927 c17_i32_834
  let v1957 : Index := Scalar.indexCast v1956
  let c0_835 : Index := 0#32
  ![v1957.toNat, 0]

def k0_off1080 (v1931 : BitVec 32) : Fin 2 → Nat :=
  let c17_i32_838 : BitVec 32 := 17#32
  let v1961 : BitVec 32 := Scalar.muli v1931 c17_i32_838
  let v1962 : Index := Scalar.indexCast v1961
  let c0_839 : Index := 0#32
  ![v1962.toNat, 0]

def k0_off1081 (v1935 : BitVec 32) : Fin 2 → Nat :=
  let c17_i32_842 : BitVec 32 := 17#32
  let v1966 : BitVec 32 := Scalar.muli v1935 c17_i32_842
  let v1967 : Index := Scalar.indexCast v1966
  let c0_843 : Index := 0#32
  ![v1967.toNat, 0]

def k0_off1082 (v1939 : BitVec 32) : Fin 2 → Nat :=
  let c17_i32_846 : BitVec 32 := 17#32
  let v1971 : BitVec 32 := Scalar.muli v1939 c17_i32_846
  let v1972 : Index := Scalar.indexCast v1971
  let c0_847 : Index := 0#32
  ![v1972.toNat, 0]

def k0_off1083 (v1943 : BitVec 32) : Fin 2 → Nat :=
  let c17_i32_850 : BitVec 32 := 17#32
  let v1976 : BitVec 32 := Scalar.muli v1943 c17_i32_850
  let v1977 : Index := Scalar.indexCast v1976
  let c0_851 : Index := 0#32
  ![v1977.toNat, 0]

def k0_off1084 (v1947 : BitVec 32) : Fin 2 → Nat :=
  let c17_i32_854 : BitVec 32 := 17#32
  let v1981 : BitVec 32 := Scalar.muli v1947 c17_i32_854
  let v1982 : Index := Scalar.indexCast v1981
  let c0_855 : Index := 0#32
  ![v1982.toNat, 0]

def k0_off1085 (v1951 : BitVec 32) : Fin 2 → Nat :=
  let c17_i32_858 : BitVec 32 := 17#32
  let v1986 : BitVec 32 := Scalar.muli v1951 c17_i32_858
  let v1987 : Index := Scalar.indexCast v1986
  let c0_859 : Index := 0#32
  ![v1987.toNat, 0]

def k0_off1086 (v1955 : BitVec 32) : Fin 2 → Nat :=
  let c17_i32_862 : BitVec 32 := 17#32
  let v1991 : BitVec 32 := Scalar.muli v1955 c17_i32_862
  let v1992 : Index := Scalar.indexCast v1991
  let c0_863 : Index := 0#32
  ![v1992.toNat, 0]

def k0_chk548 (v1955 : BitVec 32) : Prop :=
  (∀ a, (k0_off1086 v1955) a + S16x128.size a ≤ S26136x128.size a)
theorem k0_off1086_inb : ∀ (v1955 : BitVec 32) (k0_hw548 : k0_chk548 v1955), ∀ a, (k0_off1086 v1955) a + S16x128.size a ≤ S26136x128.size a := fun v1955 k0_hw548 => k0_hw548

def k0_off1087 (v1927 : BitVec 32) : Fin 2 → Nat :=
  let c17_i32_866 : BitVec 32 := 17#32
  let v1996 : BitVec 32 := Scalar.muli v1927 c17_i32_866
  let v1997 : Index := Scalar.indexCast v1996
  let c0_867 : Index := 0#32
  ![v1997.toNat, 0]

def k0_chk541 (v1927 : BitVec 32) : Prop :=
  (∀ a, (k0_off1079 v1927) a + S16x128.size a ≤ S26136x128.size a) ∧
  (∀ a, (k0_off1087 v1927) a + S16x128.size a ≤ S26136x128.size a)
theorem k0_off1079_inb : ∀ (v1927 : BitVec 32) (k0_hw541 : k0_chk541 v1927), ∀ a, (k0_off1079 v1927) a + S16x128.size a ≤ S26136x128.size a := fun v1927 k0_hw541 => k0_hw541.1
theorem k0_off1087_inb : ∀ (v1927 : BitVec 32) (k0_hw541 : k0_chk541 v1927), ∀ a, (k0_off1087 v1927) a + S16x128.size a ≤ S26136x128.size a := fun v1927 k0_hw541 => k0_hw541.2

def k0_off1088 (v1931 : BitVec 32) : Fin 2 → Nat :=
  let c17_i32_868 : BitVec 32 := 17#32
  let v2001 : BitVec 32 := Scalar.muli v1931 c17_i32_868
  let v2002 : Index := Scalar.indexCast v2001
  let c0_869 : Index := 0#32
  ![v2002.toNat, 0]

def k0_chk542 (v1931 : BitVec 32) : Prop :=
  (∀ a, (k0_off1080 v1931) a + S16x128.size a ≤ S26136x128.size a) ∧
  (∀ a, (k0_off1088 v1931) a + S16x128.size a ≤ S26136x128.size a)
theorem k0_off1080_inb : ∀ (v1931 : BitVec 32) (k0_hw542 : k0_chk542 v1931), ∀ a, (k0_off1080 v1931) a + S16x128.size a ≤ S26136x128.size a := fun v1931 k0_hw542 => k0_hw542.1
theorem k0_off1088_inb : ∀ (v1931 : BitVec 32) (k0_hw542 : k0_chk542 v1931), ∀ a, (k0_off1088 v1931) a + S16x128.size a ≤ S26136x128.size a := fun v1931 k0_hw542 => k0_hw542.2

def k0_off1089 (v1935 : BitVec 32) : Fin 2 → Nat :=
  let c17_i32_870 : BitVec 32 := 17#32
  let v2006 : BitVec 32 := Scalar.muli v1935 c17_i32_870
  let v2007 : Index := Scalar.indexCast v2006
  let c0_871 : Index := 0#32
  ![v2007.toNat, 0]

def k0_chk543 (v1935 : BitVec 32) : Prop :=
  (∀ a, (k0_off1081 v1935) a + S16x128.size a ≤ S26136x128.size a) ∧
  (∀ a, (k0_off1089 v1935) a + S16x128.size a ≤ S26136x128.size a)
theorem k0_off1081_inb : ∀ (v1935 : BitVec 32) (k0_hw543 : k0_chk543 v1935), ∀ a, (k0_off1081 v1935) a + S16x128.size a ≤ S26136x128.size a := fun v1935 k0_hw543 => k0_hw543.1
theorem k0_off1089_inb : ∀ (v1935 : BitVec 32) (k0_hw543 : k0_chk543 v1935), ∀ a, (k0_off1089 v1935) a + S16x128.size a ≤ S26136x128.size a := fun v1935 k0_hw543 => k0_hw543.2

def k0_off1090 (v1939 : BitVec 32) : Fin 2 → Nat :=
  let c17_i32_872 : BitVec 32 := 17#32
  let v2011 : BitVec 32 := Scalar.muli v1939 c17_i32_872
  let v2012 : Index := Scalar.indexCast v2011
  let c0_873 : Index := 0#32
  ![v2012.toNat, 0]

def k0_chk544 (v1939 : BitVec 32) : Prop :=
  (∀ a, (k0_off1082 v1939) a + S16x128.size a ≤ S26136x128.size a) ∧
  (∀ a, (k0_off1090 v1939) a + S16x128.size a ≤ S26136x128.size a)
theorem k0_off1082_inb : ∀ (v1939 : BitVec 32) (k0_hw544 : k0_chk544 v1939), ∀ a, (k0_off1082 v1939) a + S16x128.size a ≤ S26136x128.size a := fun v1939 k0_hw544 => k0_hw544.1
theorem k0_off1090_inb : ∀ (v1939 : BitVec 32) (k0_hw544 : k0_chk544 v1939), ∀ a, (k0_off1090 v1939) a + S16x128.size a ≤ S26136x128.size a := fun v1939 k0_hw544 => k0_hw544.2

def k0_off1091 (v1943 : BitVec 32) : Fin 2 → Nat :=
  let c17_i32_874 : BitVec 32 := 17#32
  let v2016 : BitVec 32 := Scalar.muli v1943 c17_i32_874
  let v2017 : Index := Scalar.indexCast v2016
  let c0_875 : Index := 0#32
  ![v2017.toNat, 0]

def k0_chk545 (v1943 : BitVec 32) : Prop :=
  (∀ a, (k0_off1083 v1943) a + S16x128.size a ≤ S26136x128.size a) ∧
  (∀ a, (k0_off1091 v1943) a + S16x128.size a ≤ S26136x128.size a)
theorem k0_off1083_inb : ∀ (v1943 : BitVec 32) (k0_hw545 : k0_chk545 v1943), ∀ a, (k0_off1083 v1943) a + S16x128.size a ≤ S26136x128.size a := fun v1943 k0_hw545 => k0_hw545.1
theorem k0_off1091_inb : ∀ (v1943 : BitVec 32) (k0_hw545 : k0_chk545 v1943), ∀ a, (k0_off1091 v1943) a + S16x128.size a ≤ S26136x128.size a := fun v1943 k0_hw545 => k0_hw545.2

def k0_off1092 (v1947 : BitVec 32) : Fin 2 → Nat :=
  let c17_i32_876 : BitVec 32 := 17#32
  let v2021 : BitVec 32 := Scalar.muli v1947 c17_i32_876
  let v2022 : Index := Scalar.indexCast v2021
  let c0_877 : Index := 0#32
  ![v2022.toNat, 0]

def k0_chk546 (v1947 : BitVec 32) : Prop :=
  (∀ a, (k0_off1084 v1947) a + S16x128.size a ≤ S26136x128.size a) ∧
  (∀ a, (k0_off1092 v1947) a + S16x128.size a ≤ S26136x128.size a)
theorem k0_off1084_inb : ∀ (v1947 : BitVec 32) (k0_hw546 : k0_chk546 v1947), ∀ a, (k0_off1084 v1947) a + S16x128.size a ≤ S26136x128.size a := fun v1947 k0_hw546 => k0_hw546.1
theorem k0_off1092_inb : ∀ (v1947 : BitVec 32) (k0_hw546 : k0_chk546 v1947), ∀ a, (k0_off1092 v1947) a + S16x128.size a ≤ S26136x128.size a := fun v1947 k0_hw546 => k0_hw546.2

def k0_off1093 (v1951 : BitVec 32) : Fin 2 → Nat :=
  let c17_i32_878 : BitVec 32 := 17#32
  let v2026 : BitVec 32 := Scalar.muli v1951 c17_i32_878
  let v2027 : Index := Scalar.indexCast v2026
  let c0_879 : Index := 0#32
  ![v2027.toNat, 0]

def k0_chk547 (v1951 : BitVec 32) : Prop :=
  (∀ a, (k0_off1085 v1951) a + S16x128.size a ≤ S26136x128.size a) ∧
  (∀ a, (k0_off1093 v1951) a + S16x128.size a ≤ S26136x128.size a)
theorem k0_off1085_inb : ∀ (v1951 : BitVec 32) (k0_hw547 : k0_chk547 v1951), ∀ a, (k0_off1085 v1951) a + S16x128.size a ≤ S26136x128.size a := fun v1951 k0_hw547 => k0_hw547.1
theorem k0_off1093_inb : ∀ (v1951 : BitVec 32) (k0_hw547 : k0_chk547 v1951), ∀ a, (k0_off1093 v1951) a + S16x128.size a ≤ S26136x128.size a := fun v1951 k0_hw547 => k0_hw547.2

def k0_off1094 (v5 : BitVec 32) (k0_t4 : Fin (k0_t4_loop v5).trips) (v36 : BitVec 32) (c0_i32_883 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c32_i32_882 : BitVec 32 := 32#32
  let v2036 : BitVec 32 := Scalar.addi v38 c32_i32_882
  let v2037 : BitVec 32 := Scalar.addi v2036 c0_i32_883
  let v2038 : Index := Scalar.indexCast v2037
  ![v2038.toNat]
def k0_off1095 (v2039 : BitVec 32) : Fin 2 → Nat :=
  let c17_i32_898 : BitVec 32 := 17#32
  let v2068 : BitVec 32 := Scalar.muli v2039 c17_i32_898
  let v2069 : Index := Scalar.indexCast v2068
  let c0_899 : Index := 0#32
  ![v2069.toNat, 0]

def k0_off1096 (v2043 : BitVec 32) : Fin 2 → Nat :=
  let c17_i32_902 : BitVec 32 := 17#32
  let v2073 : BitVec 32 := Scalar.muli v2043 c17_i32_902
  let v2074 : Index := Scalar.indexCast v2073
  let c0_903 : Index := 0#32
  ![v2074.toNat, 0]

def k0_off1097 (v2047 : BitVec 32) : Fin 2 → Nat :=
  let c17_i32_906 : BitVec 32 := 17#32
  let v2078 : BitVec 32 := Scalar.muli v2047 c17_i32_906
  let v2079 : Index := Scalar.indexCast v2078
  let c0_907 : Index := 0#32
  ![v2079.toNat, 0]

def k0_off1098 (v2051 : BitVec 32) : Fin 2 → Nat :=
  let c17_i32_910 : BitVec 32 := 17#32
  let v2083 : BitVec 32 := Scalar.muli v2051 c17_i32_910
  let v2084 : Index := Scalar.indexCast v2083
  let c0_911 : Index := 0#32
  ![v2084.toNat, 0]

def k0_off1099 (v2055 : BitVec 32) : Fin 2 → Nat :=
  let c17_i32_914 : BitVec 32 := 17#32
  let v2088 : BitVec 32 := Scalar.muli v2055 c17_i32_914
  let v2089 : Index := Scalar.indexCast v2088
  let c0_915 : Index := 0#32
  ![v2089.toNat, 0]

def k0_off1100 (v2059 : BitVec 32) : Fin 2 → Nat :=
  let c17_i32_918 : BitVec 32 := 17#32
  let v2093 : BitVec 32 := Scalar.muli v2059 c17_i32_918
  let v2094 : Index := Scalar.indexCast v2093
  let c0_919 : Index := 0#32
  ![v2094.toNat, 0]

def k0_off1101 (v2063 : BitVec 32) : Fin 2 → Nat :=
  let c17_i32_922 : BitVec 32 := 17#32
  let v2098 : BitVec 32 := Scalar.muli v2063 c17_i32_922
  let v2099 : Index := Scalar.indexCast v2098
  let c0_923 : Index := 0#32
  ![v2099.toNat, 0]

def k0_off1102 (v2067 : BitVec 32) : Fin 2 → Nat :=
  let c17_i32_926 : BitVec 32 := 17#32
  let v2103 : BitVec 32 := Scalar.muli v2067 c17_i32_926
  let v2104 : Index := Scalar.indexCast v2103
  let c0_927 : Index := 0#32
  ![v2104.toNat, 0]

def k0_chk556 (v2067 : BitVec 32) : Prop :=
  (∀ a, (k0_off1102 v2067) a + S16x128.size a ≤ S26136x128.size a)
theorem k0_off1102_inb : ∀ (v2067 : BitVec 32) (k0_hw556 : k0_chk556 v2067), ∀ a, (k0_off1102 v2067) a + S16x128.size a ≤ S26136x128.size a := fun v2067 k0_hw556 => k0_hw556

def k0_off1103 (v2039 : BitVec 32) : Fin 2 → Nat :=
  let c17_i32_930 : BitVec 32 := 17#32
  let v2108 : BitVec 32 := Scalar.muli v2039 c17_i32_930
  let v2109 : Index := Scalar.indexCast v2108
  let c0_931 : Index := 0#32
  ![v2109.toNat, 0]

def k0_chk549 (v2039 : BitVec 32) : Prop :=
  (∀ a, (k0_off1095 v2039) a + S16x128.size a ≤ S26136x128.size a) ∧
  (∀ a, (k0_off1103 v2039) a + S16x128.size a ≤ S26136x128.size a)
theorem k0_off1095_inb : ∀ (v2039 : BitVec 32) (k0_hw549 : k0_chk549 v2039), ∀ a, (k0_off1095 v2039) a + S16x128.size a ≤ S26136x128.size a := fun v2039 k0_hw549 => k0_hw549.1
theorem k0_off1103_inb : ∀ (v2039 : BitVec 32) (k0_hw549 : k0_chk549 v2039), ∀ a, (k0_off1103 v2039) a + S16x128.size a ≤ S26136x128.size a := fun v2039 k0_hw549 => k0_hw549.2

def k0_off1104 (v2043 : BitVec 32) : Fin 2 → Nat :=
  let c17_i32_932 : BitVec 32 := 17#32
  let v2113 : BitVec 32 := Scalar.muli v2043 c17_i32_932
  let v2114 : Index := Scalar.indexCast v2113
  let c0_933 : Index := 0#32
  ![v2114.toNat, 0]

def k0_chk550 (v2043 : BitVec 32) : Prop :=
  (∀ a, (k0_off1096 v2043) a + S16x128.size a ≤ S26136x128.size a) ∧
  (∀ a, (k0_off1104 v2043) a + S16x128.size a ≤ S26136x128.size a)
theorem k0_off1096_inb : ∀ (v2043 : BitVec 32) (k0_hw550 : k0_chk550 v2043), ∀ a, (k0_off1096 v2043) a + S16x128.size a ≤ S26136x128.size a := fun v2043 k0_hw550 => k0_hw550.1
theorem k0_off1104_inb : ∀ (v2043 : BitVec 32) (k0_hw550 : k0_chk550 v2043), ∀ a, (k0_off1104 v2043) a + S16x128.size a ≤ S26136x128.size a := fun v2043 k0_hw550 => k0_hw550.2

def k0_off1105 (v2047 : BitVec 32) : Fin 2 → Nat :=
  let c17_i32_934 : BitVec 32 := 17#32
  let v2118 : BitVec 32 := Scalar.muli v2047 c17_i32_934
  let v2119 : Index := Scalar.indexCast v2118
  let c0_935 : Index := 0#32
  ![v2119.toNat, 0]

def k0_chk551 (v2047 : BitVec 32) : Prop :=
  (∀ a, (k0_off1097 v2047) a + S16x128.size a ≤ S26136x128.size a) ∧
  (∀ a, (k0_off1105 v2047) a + S16x128.size a ≤ S26136x128.size a)
theorem k0_off1097_inb : ∀ (v2047 : BitVec 32) (k0_hw551 : k0_chk551 v2047), ∀ a, (k0_off1097 v2047) a + S16x128.size a ≤ S26136x128.size a := fun v2047 k0_hw551 => k0_hw551.1
theorem k0_off1105_inb : ∀ (v2047 : BitVec 32) (k0_hw551 : k0_chk551 v2047), ∀ a, (k0_off1105 v2047) a + S16x128.size a ≤ S26136x128.size a := fun v2047 k0_hw551 => k0_hw551.2

def k0_off1106 (v2051 : BitVec 32) : Fin 2 → Nat :=
  let c17_i32_936 : BitVec 32 := 17#32
  let v2123 : BitVec 32 := Scalar.muli v2051 c17_i32_936
  let v2124 : Index := Scalar.indexCast v2123
  let c0_937 : Index := 0#32
  ![v2124.toNat, 0]

def k0_chk552 (v2051 : BitVec 32) : Prop :=
  (∀ a, (k0_off1098 v2051) a + S16x128.size a ≤ S26136x128.size a) ∧
  (∀ a, (k0_off1106 v2051) a + S16x128.size a ≤ S26136x128.size a)
theorem k0_off1098_inb : ∀ (v2051 : BitVec 32) (k0_hw552 : k0_chk552 v2051), ∀ a, (k0_off1098 v2051) a + S16x128.size a ≤ S26136x128.size a := fun v2051 k0_hw552 => k0_hw552.1
theorem k0_off1106_inb : ∀ (v2051 : BitVec 32) (k0_hw552 : k0_chk552 v2051), ∀ a, (k0_off1106 v2051) a + S16x128.size a ≤ S26136x128.size a := fun v2051 k0_hw552 => k0_hw552.2

def k0_off1107 (v2055 : BitVec 32) : Fin 2 → Nat :=
  let c17_i32_938 : BitVec 32 := 17#32
  let v2128 : BitVec 32 := Scalar.muli v2055 c17_i32_938
  let v2129 : Index := Scalar.indexCast v2128
  let c0_939 : Index := 0#32
  ![v2129.toNat, 0]

def k0_chk553 (v2055 : BitVec 32) : Prop :=
  (∀ a, (k0_off1099 v2055) a + S16x128.size a ≤ S26136x128.size a) ∧
  (∀ a, (k0_off1107 v2055) a + S16x128.size a ≤ S26136x128.size a)
theorem k0_off1099_inb : ∀ (v2055 : BitVec 32) (k0_hw553 : k0_chk553 v2055), ∀ a, (k0_off1099 v2055) a + S16x128.size a ≤ S26136x128.size a := fun v2055 k0_hw553 => k0_hw553.1
theorem k0_off1107_inb : ∀ (v2055 : BitVec 32) (k0_hw553 : k0_chk553 v2055), ∀ a, (k0_off1107 v2055) a + S16x128.size a ≤ S26136x128.size a := fun v2055 k0_hw553 => k0_hw553.2

def k0_off1108 (v2059 : BitVec 32) : Fin 2 → Nat :=
  let c17_i32_940 : BitVec 32 := 17#32
  let v2133 : BitVec 32 := Scalar.muli v2059 c17_i32_940
  let v2134 : Index := Scalar.indexCast v2133
  let c0_941 : Index := 0#32
  ![v2134.toNat, 0]

def k0_chk554 (v2059 : BitVec 32) : Prop :=
  (∀ a, (k0_off1100 v2059) a + S16x128.size a ≤ S26136x128.size a) ∧
  (∀ a, (k0_off1108 v2059) a + S16x128.size a ≤ S26136x128.size a)
theorem k0_off1100_inb : ∀ (v2059 : BitVec 32) (k0_hw554 : k0_chk554 v2059), ∀ a, (k0_off1100 v2059) a + S16x128.size a ≤ S26136x128.size a := fun v2059 k0_hw554 => k0_hw554.1
theorem k0_off1108_inb : ∀ (v2059 : BitVec 32) (k0_hw554 : k0_chk554 v2059), ∀ a, (k0_off1108 v2059) a + S16x128.size a ≤ S26136x128.size a := fun v2059 k0_hw554 => k0_hw554.2

def k0_off1109 (v2063 : BitVec 32) : Fin 2 → Nat :=
  let c17_i32_942 : BitVec 32 := 17#32
  let v2138 : BitVec 32 := Scalar.muli v2063 c17_i32_942
  let v2139 : Index := Scalar.indexCast v2138
  let c0_943 : Index := 0#32
  ![v2139.toNat, 0]

def k0_chk555 (v2063 : BitVec 32) : Prop :=
  (∀ a, (k0_off1101 v2063) a + S16x128.size a ≤ S26136x128.size a) ∧
  (∀ a, (k0_off1109 v2063) a + S16x128.size a ≤ S26136x128.size a)
theorem k0_off1101_inb : ∀ (v2063 : BitVec 32) (k0_hw555 : k0_chk555 v2063), ∀ a, (k0_off1101 v2063) a + S16x128.size a ≤ S26136x128.size a := fun v2063 k0_hw555 => k0_hw555.1
theorem k0_off1109_inb : ∀ (v2063 : BitVec 32) (k0_hw555 : k0_chk555 v2063), ∀ a, (k0_off1109 v2063) a + S16x128.size a ≤ S26136x128.size a := fun v2063 k0_hw555 => k0_hw555.2

def k0_off1110 (v5 : BitVec 32) (k0_t4 : Fin (k0_t4_loop v5).trips) (v36 : BitVec 32) (c0_i32_947 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c40_i32_946 : BitVec 32 := 40#32
  let v2148 : BitVec 32 := Scalar.addi v38 c40_i32_946
  let v2149 : BitVec 32 := Scalar.addi v2148 c0_i32_947
  let v2150 : Index := Scalar.indexCast v2149
  ![v2150.toNat]
def k0_off1111 (v2151 : BitVec 32) : Fin 2 → Nat :=
  let c17_i32_962 : BitVec 32 := 17#32
  let v2180 : BitVec 32 := Scalar.muli v2151 c17_i32_962
  let v2181 : Index := Scalar.indexCast v2180
  let c0_963 : Index := 0#32
  ![v2181.toNat, 0]

def k0_off1112 (v2155 : BitVec 32) : Fin 2 → Nat :=
  let c17_i32_966 : BitVec 32 := 17#32
  let v2185 : BitVec 32 := Scalar.muli v2155 c17_i32_966
  let v2186 : Index := Scalar.indexCast v2185
  let c0_967 : Index := 0#32
  ![v2186.toNat, 0]

def k0_off1113 (v2159 : BitVec 32) : Fin 2 → Nat :=
  let c17_i32_970 : BitVec 32 := 17#32
  let v2190 : BitVec 32 := Scalar.muli v2159 c17_i32_970
  let v2191 : Index := Scalar.indexCast v2190
  let c0_971 : Index := 0#32
  ![v2191.toNat, 0]

def k0_off1114 (v2163 : BitVec 32) : Fin 2 → Nat :=
  let c17_i32_974 : BitVec 32 := 17#32
  let v2195 : BitVec 32 := Scalar.muli v2163 c17_i32_974
  let v2196 : Index := Scalar.indexCast v2195
  let c0_975 : Index := 0#32
  ![v2196.toNat, 0]

def k0_off1115 (v2167 : BitVec 32) : Fin 2 → Nat :=
  let c17_i32_978 : BitVec 32 := 17#32
  let v2200 : BitVec 32 := Scalar.muli v2167 c17_i32_978
  let v2201 : Index := Scalar.indexCast v2200
  let c0_979 : Index := 0#32
  ![v2201.toNat, 0]

def k0_off1116 (v2171 : BitVec 32) : Fin 2 → Nat :=
  let c17_i32_982 : BitVec 32 := 17#32
  let v2205 : BitVec 32 := Scalar.muli v2171 c17_i32_982
  let v2206 : Index := Scalar.indexCast v2205
  let c0_983 : Index := 0#32
  ![v2206.toNat, 0]

def k0_off1117 (v2175 : BitVec 32) : Fin 2 → Nat :=
  let c17_i32_986 : BitVec 32 := 17#32
  let v2210 : BitVec 32 := Scalar.muli v2175 c17_i32_986
  let v2211 : Index := Scalar.indexCast v2210
  let c0_987 : Index := 0#32
  ![v2211.toNat, 0]

def k0_off1118 (v2179 : BitVec 32) : Fin 2 → Nat :=
  let c17_i32_990 : BitVec 32 := 17#32
  let v2215 : BitVec 32 := Scalar.muli v2179 c17_i32_990
  let v2216 : Index := Scalar.indexCast v2215
  let c0_991 : Index := 0#32
  ![v2216.toNat, 0]

def k0_chk564 (v2179 : BitVec 32) : Prop :=
  (∀ a, (k0_off1118 v2179) a + S16x128.size a ≤ S26136x128.size a)
theorem k0_off1118_inb : ∀ (v2179 : BitVec 32) (k0_hw564 : k0_chk564 v2179), ∀ a, (k0_off1118 v2179) a + S16x128.size a ≤ S26136x128.size a := fun v2179 k0_hw564 => k0_hw564

def k0_off1119 (v2151 : BitVec 32) : Fin 2 → Nat :=
  let c17_i32_994 : BitVec 32 := 17#32
  let v2220 : BitVec 32 := Scalar.muli v2151 c17_i32_994
  let v2221 : Index := Scalar.indexCast v2220
  let c0_995 : Index := 0#32
  ![v2221.toNat, 0]

def k0_chk557 (v2151 : BitVec 32) : Prop :=
  (∀ a, (k0_off1111 v2151) a + S16x128.size a ≤ S26136x128.size a) ∧
  (∀ a, (k0_off1119 v2151) a + S16x128.size a ≤ S26136x128.size a)
theorem k0_off1111_inb : ∀ (v2151 : BitVec 32) (k0_hw557 : k0_chk557 v2151), ∀ a, (k0_off1111 v2151) a + S16x128.size a ≤ S26136x128.size a := fun v2151 k0_hw557 => k0_hw557.1
theorem k0_off1119_inb : ∀ (v2151 : BitVec 32) (k0_hw557 : k0_chk557 v2151), ∀ a, (k0_off1119 v2151) a + S16x128.size a ≤ S26136x128.size a := fun v2151 k0_hw557 => k0_hw557.2

def k0_off1120 (v2155 : BitVec 32) : Fin 2 → Nat :=
  let c17_i32_996 : BitVec 32 := 17#32
  let v2225 : BitVec 32 := Scalar.muli v2155 c17_i32_996
  let v2226 : Index := Scalar.indexCast v2225
  let c0_997 : Index := 0#32
  ![v2226.toNat, 0]

def k0_chk558 (v2155 : BitVec 32) : Prop :=
  (∀ a, (k0_off1112 v2155) a + S16x128.size a ≤ S26136x128.size a) ∧
  (∀ a, (k0_off1120 v2155) a + S16x128.size a ≤ S26136x128.size a)
theorem k0_off1112_inb : ∀ (v2155 : BitVec 32) (k0_hw558 : k0_chk558 v2155), ∀ a, (k0_off1112 v2155) a + S16x128.size a ≤ S26136x128.size a := fun v2155 k0_hw558 => k0_hw558.1
theorem k0_off1120_inb : ∀ (v2155 : BitVec 32) (k0_hw558 : k0_chk558 v2155), ∀ a, (k0_off1120 v2155) a + S16x128.size a ≤ S26136x128.size a := fun v2155 k0_hw558 => k0_hw558.2

def k0_off1121 (v2159 : BitVec 32) : Fin 2 → Nat :=
  let c17_i32_998 : BitVec 32 := 17#32
  let v2230 : BitVec 32 := Scalar.muli v2159 c17_i32_998
  let v2231 : Index := Scalar.indexCast v2230
  let c0_999 : Index := 0#32
  ![v2231.toNat, 0]

def k0_chk559 (v2159 : BitVec 32) : Prop :=
  (∀ a, (k0_off1113 v2159) a + S16x128.size a ≤ S26136x128.size a) ∧
  (∀ a, (k0_off1121 v2159) a + S16x128.size a ≤ S26136x128.size a)
theorem k0_off1113_inb : ∀ (v2159 : BitVec 32) (k0_hw559 : k0_chk559 v2159), ∀ a, (k0_off1113 v2159) a + S16x128.size a ≤ S26136x128.size a := fun v2159 k0_hw559 => k0_hw559.1
theorem k0_off1121_inb : ∀ (v2159 : BitVec 32) (k0_hw559 : k0_chk559 v2159), ∀ a, (k0_off1121 v2159) a + S16x128.size a ≤ S26136x128.size a := fun v2159 k0_hw559 => k0_hw559.2

def k0_off1122 (v2163 : BitVec 32) : Fin 2 → Nat :=
  let c17_i32_1000 : BitVec 32 := 17#32
  let v2235 : BitVec 32 := Scalar.muli v2163 c17_i32_1000
  let v2236 : Index := Scalar.indexCast v2235
  let c0_1001 : Index := 0#32
  ![v2236.toNat, 0]

def k0_chk560 (v2163 : BitVec 32) : Prop :=
  (∀ a, (k0_off1114 v2163) a + S16x128.size a ≤ S26136x128.size a) ∧
  (∀ a, (k0_off1122 v2163) a + S16x128.size a ≤ S26136x128.size a)
theorem k0_off1114_inb : ∀ (v2163 : BitVec 32) (k0_hw560 : k0_chk560 v2163), ∀ a, (k0_off1114 v2163) a + S16x128.size a ≤ S26136x128.size a := fun v2163 k0_hw560 => k0_hw560.1
theorem k0_off1122_inb : ∀ (v2163 : BitVec 32) (k0_hw560 : k0_chk560 v2163), ∀ a, (k0_off1122 v2163) a + S16x128.size a ≤ S26136x128.size a := fun v2163 k0_hw560 => k0_hw560.2

def k0_off1123 (v2167 : BitVec 32) : Fin 2 → Nat :=
  let c17_i32_1002 : BitVec 32 := 17#32
  let v2240 : BitVec 32 := Scalar.muli v2167 c17_i32_1002
  let v2241 : Index := Scalar.indexCast v2240
  let c0_1003 : Index := 0#32
  ![v2241.toNat, 0]

def k0_chk561 (v2167 : BitVec 32) : Prop :=
  (∀ a, (k0_off1115 v2167) a + S16x128.size a ≤ S26136x128.size a) ∧
  (∀ a, (k0_off1123 v2167) a + S16x128.size a ≤ S26136x128.size a)
theorem k0_off1115_inb : ∀ (v2167 : BitVec 32) (k0_hw561 : k0_chk561 v2167), ∀ a, (k0_off1115 v2167) a + S16x128.size a ≤ S26136x128.size a := fun v2167 k0_hw561 => k0_hw561.1
theorem k0_off1123_inb : ∀ (v2167 : BitVec 32) (k0_hw561 : k0_chk561 v2167), ∀ a, (k0_off1123 v2167) a + S16x128.size a ≤ S26136x128.size a := fun v2167 k0_hw561 => k0_hw561.2

def k0_off1124 (v2171 : BitVec 32) : Fin 2 → Nat :=
  let c17_i32_1004 : BitVec 32 := 17#32
  let v2245 : BitVec 32 := Scalar.muli v2171 c17_i32_1004
  let v2246 : Index := Scalar.indexCast v2245
  let c0_1005 : Index := 0#32
  ![v2246.toNat, 0]

def k0_chk562 (v2171 : BitVec 32) : Prop :=
  (∀ a, (k0_off1116 v2171) a + S16x128.size a ≤ S26136x128.size a) ∧
  (∀ a, (k0_off1124 v2171) a + S16x128.size a ≤ S26136x128.size a)
theorem k0_off1116_inb : ∀ (v2171 : BitVec 32) (k0_hw562 : k0_chk562 v2171), ∀ a, (k0_off1116 v2171) a + S16x128.size a ≤ S26136x128.size a := fun v2171 k0_hw562 => k0_hw562.1
theorem k0_off1124_inb : ∀ (v2171 : BitVec 32) (k0_hw562 : k0_chk562 v2171), ∀ a, (k0_off1124 v2171) a + S16x128.size a ≤ S26136x128.size a := fun v2171 k0_hw562 => k0_hw562.2

def k0_off1125 (v2175 : BitVec 32) : Fin 2 → Nat :=
  let c17_i32_1006 : BitVec 32 := 17#32
  let v2250 : BitVec 32 := Scalar.muli v2175 c17_i32_1006
  let v2251 : Index := Scalar.indexCast v2250
  let c0_1007 : Index := 0#32
  ![v2251.toNat, 0]

def k0_chk563 (v2175 : BitVec 32) : Prop :=
  (∀ a, (k0_off1117 v2175) a + S16x128.size a ≤ S26136x128.size a) ∧
  (∀ a, (k0_off1125 v2175) a + S16x128.size a ≤ S26136x128.size a)
theorem k0_off1117_inb : ∀ (v2175 : BitVec 32) (k0_hw563 : k0_chk563 v2175), ∀ a, (k0_off1117 v2175) a + S16x128.size a ≤ S26136x128.size a := fun v2175 k0_hw563 => k0_hw563.1
theorem k0_off1125_inb : ∀ (v2175 : BitVec 32) (k0_hw563 : k0_chk563 v2175), ∀ a, (k0_off1125 v2175) a + S16x128.size a ≤ S26136x128.size a := fun v2175 k0_hw563 => k0_hw563.2

def k0_off1126 (v5 : BitVec 32) (k0_t4 : Fin (k0_t4_loop v5).trips) (v36 : BitVec 32) (c0_i32_1011 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c48_i32_1010 : BitVec 32 := 48#32
  let v2260 : BitVec 32 := Scalar.addi v38 c48_i32_1010
  let v2261 : BitVec 32 := Scalar.addi v2260 c0_i32_1011
  let v2262 : Index := Scalar.indexCast v2261
  ![v2262.toNat]
def k0_off1127 (v2263 : BitVec 32) : Fin 2 → Nat :=
  let c17_i32_1026 : BitVec 32 := 17#32
  let v2292 : BitVec 32 := Scalar.muli v2263 c17_i32_1026
  let v2293 : Index := Scalar.indexCast v2292
  let c0_1027 : Index := 0#32
  ![v2293.toNat, 0]

def k0_off1128 (v2267 : BitVec 32) : Fin 2 → Nat :=
  let c17_i32_1030 : BitVec 32 := 17#32
  let v2297 : BitVec 32 := Scalar.muli v2267 c17_i32_1030
  let v2298 : Index := Scalar.indexCast v2297
  let c0_1031 : Index := 0#32
  ![v2298.toNat, 0]

def k0_off1129 (v2271 : BitVec 32) : Fin 2 → Nat :=
  let c17_i32_1034 : BitVec 32 := 17#32
  let v2302 : BitVec 32 := Scalar.muli v2271 c17_i32_1034
  let v2303 : Index := Scalar.indexCast v2302
  let c0_1035 : Index := 0#32
  ![v2303.toNat, 0]

def k0_off1130 (v2275 : BitVec 32) : Fin 2 → Nat :=
  let c17_i32_1038 : BitVec 32 := 17#32
  let v2307 : BitVec 32 := Scalar.muli v2275 c17_i32_1038
  let v2308 : Index := Scalar.indexCast v2307
  let c0_1039 : Index := 0#32
  ![v2308.toNat, 0]

def k0_off1131 (v2279 : BitVec 32) : Fin 2 → Nat :=
  let c17_i32_1042 : BitVec 32 := 17#32
  let v2312 : BitVec 32 := Scalar.muli v2279 c17_i32_1042
  let v2313 : Index := Scalar.indexCast v2312
  let c0_1043 : Index := 0#32
  ![v2313.toNat, 0]

def k0_off1132 (v2283 : BitVec 32) : Fin 2 → Nat :=
  let c17_i32_1046 : BitVec 32 := 17#32
  let v2317 : BitVec 32 := Scalar.muli v2283 c17_i32_1046
  let v2318 : Index := Scalar.indexCast v2317
  let c0_1047 : Index := 0#32
  ![v2318.toNat, 0]

def k0_off1133 (v2287 : BitVec 32) : Fin 2 → Nat :=
  let c17_i32_1050 : BitVec 32 := 17#32
  let v2322 : BitVec 32 := Scalar.muli v2287 c17_i32_1050
  let v2323 : Index := Scalar.indexCast v2322
  let c0_1051 : Index := 0#32
  ![v2323.toNat, 0]

def k0_off1134 (v2291 : BitVec 32) : Fin 2 → Nat :=
  let c17_i32_1054 : BitVec 32 := 17#32
  let v2327 : BitVec 32 := Scalar.muli v2291 c17_i32_1054
  let v2328 : Index := Scalar.indexCast v2327
  let c0_1055 : Index := 0#32
  ![v2328.toNat, 0]

def k0_chk572 (v2291 : BitVec 32) : Prop :=
  (∀ a, (k0_off1134 v2291) a + S16x128.size a ≤ S26136x128.size a)
theorem k0_off1134_inb : ∀ (v2291 : BitVec 32) (k0_hw572 : k0_chk572 v2291), ∀ a, (k0_off1134 v2291) a + S16x128.size a ≤ S26136x128.size a := fun v2291 k0_hw572 => k0_hw572

def k0_off1135 (v2263 : BitVec 32) : Fin 2 → Nat :=
  let c17_i32_1058 : BitVec 32 := 17#32
  let v2332 : BitVec 32 := Scalar.muli v2263 c17_i32_1058
  let v2333 : Index := Scalar.indexCast v2332
  let c0_1059 : Index := 0#32
  ![v2333.toNat, 0]

def k0_chk565 (v2263 : BitVec 32) : Prop :=
  (∀ a, (k0_off1127 v2263) a + S16x128.size a ≤ S26136x128.size a) ∧
  (∀ a, (k0_off1135 v2263) a + S16x128.size a ≤ S26136x128.size a)
theorem k0_off1127_inb : ∀ (v2263 : BitVec 32) (k0_hw565 : k0_chk565 v2263), ∀ a, (k0_off1127 v2263) a + S16x128.size a ≤ S26136x128.size a := fun v2263 k0_hw565 => k0_hw565.1
theorem k0_off1135_inb : ∀ (v2263 : BitVec 32) (k0_hw565 : k0_chk565 v2263), ∀ a, (k0_off1135 v2263) a + S16x128.size a ≤ S26136x128.size a := fun v2263 k0_hw565 => k0_hw565.2

def k0_off1136 (v2267 : BitVec 32) : Fin 2 → Nat :=
  let c17_i32_1060 : BitVec 32 := 17#32
  let v2337 : BitVec 32 := Scalar.muli v2267 c17_i32_1060
  let v2338 : Index := Scalar.indexCast v2337
  let c0_1061 : Index := 0#32
  ![v2338.toNat, 0]

def k0_chk566 (v2267 : BitVec 32) : Prop :=
  (∀ a, (k0_off1128 v2267) a + S16x128.size a ≤ S26136x128.size a) ∧
  (∀ a, (k0_off1136 v2267) a + S16x128.size a ≤ S26136x128.size a)
theorem k0_off1128_inb : ∀ (v2267 : BitVec 32) (k0_hw566 : k0_chk566 v2267), ∀ a, (k0_off1128 v2267) a + S16x128.size a ≤ S26136x128.size a := fun v2267 k0_hw566 => k0_hw566.1
theorem k0_off1136_inb : ∀ (v2267 : BitVec 32) (k0_hw566 : k0_chk566 v2267), ∀ a, (k0_off1136 v2267) a + S16x128.size a ≤ S26136x128.size a := fun v2267 k0_hw566 => k0_hw566.2

def k0_off1137 (v2271 : BitVec 32) : Fin 2 → Nat :=
  let c17_i32_1062 : BitVec 32 := 17#32
  let v2342 : BitVec 32 := Scalar.muli v2271 c17_i32_1062
  let v2343 : Index := Scalar.indexCast v2342
  let c0_1063 : Index := 0#32
  ![v2343.toNat, 0]

def k0_chk567 (v2271 : BitVec 32) : Prop :=
  (∀ a, (k0_off1129 v2271) a + S16x128.size a ≤ S26136x128.size a) ∧
  (∀ a, (k0_off1137 v2271) a + S16x128.size a ≤ S26136x128.size a)
theorem k0_off1129_inb : ∀ (v2271 : BitVec 32) (k0_hw567 : k0_chk567 v2271), ∀ a, (k0_off1129 v2271) a + S16x128.size a ≤ S26136x128.size a := fun v2271 k0_hw567 => k0_hw567.1
theorem k0_off1137_inb : ∀ (v2271 : BitVec 32) (k0_hw567 : k0_chk567 v2271), ∀ a, (k0_off1137 v2271) a + S16x128.size a ≤ S26136x128.size a := fun v2271 k0_hw567 => k0_hw567.2

def k0_off1138 (v2275 : BitVec 32) : Fin 2 → Nat :=
  let c17_i32_1064 : BitVec 32 := 17#32
  let v2347 : BitVec 32 := Scalar.muli v2275 c17_i32_1064
  let v2348 : Index := Scalar.indexCast v2347
  let c0_1065 : Index := 0#32
  ![v2348.toNat, 0]

def k0_chk568 (v2275 : BitVec 32) : Prop :=
  (∀ a, (k0_off1130 v2275) a + S16x128.size a ≤ S26136x128.size a) ∧
  (∀ a, (k0_off1138 v2275) a + S16x128.size a ≤ S26136x128.size a)
theorem k0_off1130_inb : ∀ (v2275 : BitVec 32) (k0_hw568 : k0_chk568 v2275), ∀ a, (k0_off1130 v2275) a + S16x128.size a ≤ S26136x128.size a := fun v2275 k0_hw568 => k0_hw568.1
theorem k0_off1138_inb : ∀ (v2275 : BitVec 32) (k0_hw568 : k0_chk568 v2275), ∀ a, (k0_off1138 v2275) a + S16x128.size a ≤ S26136x128.size a := fun v2275 k0_hw568 => k0_hw568.2

def k0_off1139 (v2279 : BitVec 32) : Fin 2 → Nat :=
  let c17_i32_1066 : BitVec 32 := 17#32
  let v2352 : BitVec 32 := Scalar.muli v2279 c17_i32_1066
  let v2353 : Index := Scalar.indexCast v2352
  let c0_1067 : Index := 0#32
  ![v2353.toNat, 0]

def k0_chk569 (v2279 : BitVec 32) : Prop :=
  (∀ a, (k0_off1131 v2279) a + S16x128.size a ≤ S26136x128.size a) ∧
  (∀ a, (k0_off1139 v2279) a + S16x128.size a ≤ S26136x128.size a)
theorem k0_off1131_inb : ∀ (v2279 : BitVec 32) (k0_hw569 : k0_chk569 v2279), ∀ a, (k0_off1131 v2279) a + S16x128.size a ≤ S26136x128.size a := fun v2279 k0_hw569 => k0_hw569.1
theorem k0_off1139_inb : ∀ (v2279 : BitVec 32) (k0_hw569 : k0_chk569 v2279), ∀ a, (k0_off1139 v2279) a + S16x128.size a ≤ S26136x128.size a := fun v2279 k0_hw569 => k0_hw569.2

def k0_off1140 (v2283 : BitVec 32) : Fin 2 → Nat :=
  let c17_i32_1068 : BitVec 32 := 17#32
  let v2357 : BitVec 32 := Scalar.muli v2283 c17_i32_1068
  let v2358 : Index := Scalar.indexCast v2357
  let c0_1069 : Index := 0#32
  ![v2358.toNat, 0]

def k0_chk570 (v2283 : BitVec 32) : Prop :=
  (∀ a, (k0_off1132 v2283) a + S16x128.size a ≤ S26136x128.size a) ∧
  (∀ a, (k0_off1140 v2283) a + S16x128.size a ≤ S26136x128.size a)
theorem k0_off1132_inb : ∀ (v2283 : BitVec 32) (k0_hw570 : k0_chk570 v2283), ∀ a, (k0_off1132 v2283) a + S16x128.size a ≤ S26136x128.size a := fun v2283 k0_hw570 => k0_hw570.1
theorem k0_off1140_inb : ∀ (v2283 : BitVec 32) (k0_hw570 : k0_chk570 v2283), ∀ a, (k0_off1140 v2283) a + S16x128.size a ≤ S26136x128.size a := fun v2283 k0_hw570 => k0_hw570.2

def k0_off1141 (v2287 : BitVec 32) : Fin 2 → Nat :=
  let c17_i32_1070 : BitVec 32 := 17#32
  let v2362 : BitVec 32 := Scalar.muli v2287 c17_i32_1070
  let v2363 : Index := Scalar.indexCast v2362
  let c0_1071 : Index := 0#32
  ![v2363.toNat, 0]

def k0_chk571 (v2287 : BitVec 32) : Prop :=
  (∀ a, (k0_off1133 v2287) a + S16x128.size a ≤ S26136x128.size a) ∧
  (∀ a, (k0_off1141 v2287) a + S16x128.size a ≤ S26136x128.size a)
theorem k0_off1133_inb : ∀ (v2287 : BitVec 32) (k0_hw571 : k0_chk571 v2287), ∀ a, (k0_off1133 v2287) a + S16x128.size a ≤ S26136x128.size a := fun v2287 k0_hw571 => k0_hw571.1
theorem k0_off1141_inb : ∀ (v2287 : BitVec 32) (k0_hw571 : k0_chk571 v2287), ∀ a, (k0_off1141 v2287) a + S16x128.size a ≤ S26136x128.size a := fun v2287 k0_hw571 => k0_hw571.2

def k0_off1142 (v5 : BitVec 32) (k0_t4 : Fin (k0_t4_loop v5).trips) (v36 : BitVec 32) (c0_i32_1075 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c56_i32_1074 : BitVec 32 := 56#32
  let v2372 : BitVec 32 := Scalar.addi v38 c56_i32_1074
  let v2373 : BitVec 32 := Scalar.addi v2372 c0_i32_1075
  let v2374 : Index := Scalar.indexCast v2373
  ![v2374.toNat]
def k0_off1143 (v2375 : BitVec 32) : Fin 2 → Nat :=
  let c17_i32_1090 : BitVec 32 := 17#32
  let v2404 : BitVec 32 := Scalar.muli v2375 c17_i32_1090
  let v2405 : Index := Scalar.indexCast v2404
  let c0_1091 : Index := 0#32
  ![v2405.toNat, 0]

def k0_off1144 (v2379 : BitVec 32) : Fin 2 → Nat :=
  let c17_i32_1094 : BitVec 32 := 17#32
  let v2409 : BitVec 32 := Scalar.muli v2379 c17_i32_1094
  let v2410 : Index := Scalar.indexCast v2409
  let c0_1095 : Index := 0#32
  ![v2410.toNat, 0]

def k0_off1145 (v2383 : BitVec 32) : Fin 2 → Nat :=
  let c17_i32_1098 : BitVec 32 := 17#32
  let v2414 : BitVec 32 := Scalar.muli v2383 c17_i32_1098
  let v2415 : Index := Scalar.indexCast v2414
  let c0_1099 : Index := 0#32
  ![v2415.toNat, 0]

def k0_off1146 (v2387 : BitVec 32) : Fin 2 → Nat :=
  let c17_i32_1102 : BitVec 32 := 17#32
  let v2419 : BitVec 32 := Scalar.muli v2387 c17_i32_1102
  let v2420 : Index := Scalar.indexCast v2419
  let c0_1103 : Index := 0#32
  ![v2420.toNat, 0]

def k0_off1147 (v2391 : BitVec 32) : Fin 2 → Nat :=
  let c17_i32_1106 : BitVec 32 := 17#32
  let v2424 : BitVec 32 := Scalar.muli v2391 c17_i32_1106
  let v2425 : Index := Scalar.indexCast v2424
  let c0_1107 : Index := 0#32
  ![v2425.toNat, 0]

def k0_off1148 (v2395 : BitVec 32) : Fin 2 → Nat :=
  let c17_i32_1110 : BitVec 32 := 17#32
  let v2429 : BitVec 32 := Scalar.muli v2395 c17_i32_1110
  let v2430 : Index := Scalar.indexCast v2429
  let c0_1111 : Index := 0#32
  ![v2430.toNat, 0]

def k0_off1149 (v2399 : BitVec 32) : Fin 2 → Nat :=
  let c17_i32_1114 : BitVec 32 := 17#32
  let v2434 : BitVec 32 := Scalar.muli v2399 c17_i32_1114
  let v2435 : Index := Scalar.indexCast v2434
  let c0_1115 : Index := 0#32
  ![v2435.toNat, 0]

def k0_off1150 (v2403 : BitVec 32) : Fin 2 → Nat :=
  let c17_i32_1118 : BitVec 32 := 17#32
  let v2439 : BitVec 32 := Scalar.muli v2403 c17_i32_1118
  let v2440 : Index := Scalar.indexCast v2439
  let c0_1119 : Index := 0#32
  ![v2440.toNat, 0]

def k0_chk580 (v2403 : BitVec 32) : Prop :=
  (∀ a, (k0_off1150 v2403) a + S16x128.size a ≤ S26136x128.size a)
theorem k0_off1150_inb : ∀ (v2403 : BitVec 32) (k0_hw580 : k0_chk580 v2403), ∀ a, (k0_off1150 v2403) a + S16x128.size a ≤ S26136x128.size a := fun v2403 k0_hw580 => k0_hw580

def k0_off1151 (v2375 : BitVec 32) : Fin 2 → Nat :=
  let c17_i32_1122 : BitVec 32 := 17#32
  let v2444 : BitVec 32 := Scalar.muli v2375 c17_i32_1122
  let v2445 : Index := Scalar.indexCast v2444
  let c0_1123 : Index := 0#32
  ![v2445.toNat, 0]

def k0_chk573 (v2375 : BitVec 32) : Prop :=
  (∀ a, (k0_off1143 v2375) a + S16x128.size a ≤ S26136x128.size a) ∧
  (∀ a, (k0_off1151 v2375) a + S16x128.size a ≤ S26136x128.size a)
theorem k0_off1143_inb : ∀ (v2375 : BitVec 32) (k0_hw573 : k0_chk573 v2375), ∀ a, (k0_off1143 v2375) a + S16x128.size a ≤ S26136x128.size a := fun v2375 k0_hw573 => k0_hw573.1
theorem k0_off1151_inb : ∀ (v2375 : BitVec 32) (k0_hw573 : k0_chk573 v2375), ∀ a, (k0_off1151 v2375) a + S16x128.size a ≤ S26136x128.size a := fun v2375 k0_hw573 => k0_hw573.2

def k0_off1152 (v2379 : BitVec 32) : Fin 2 → Nat :=
  let c17_i32_1124 : BitVec 32 := 17#32
  let v2449 : BitVec 32 := Scalar.muli v2379 c17_i32_1124
  let v2450 : Index := Scalar.indexCast v2449
  let c0_1125 : Index := 0#32
  ![v2450.toNat, 0]

def k0_chk574 (v2379 : BitVec 32) : Prop :=
  (∀ a, (k0_off1144 v2379) a + S16x128.size a ≤ S26136x128.size a) ∧
  (∀ a, (k0_off1152 v2379) a + S16x128.size a ≤ S26136x128.size a)
theorem k0_off1144_inb : ∀ (v2379 : BitVec 32) (k0_hw574 : k0_chk574 v2379), ∀ a, (k0_off1144 v2379) a + S16x128.size a ≤ S26136x128.size a := fun v2379 k0_hw574 => k0_hw574.1
theorem k0_off1152_inb : ∀ (v2379 : BitVec 32) (k0_hw574 : k0_chk574 v2379), ∀ a, (k0_off1152 v2379) a + S16x128.size a ≤ S26136x128.size a := fun v2379 k0_hw574 => k0_hw574.2

def k0_off1153 (v2383 : BitVec 32) : Fin 2 → Nat :=
  let c17_i32_1126 : BitVec 32 := 17#32
  let v2454 : BitVec 32 := Scalar.muli v2383 c17_i32_1126
  let v2455 : Index := Scalar.indexCast v2454
  let c0_1127 : Index := 0#32
  ![v2455.toNat, 0]

def k0_chk575 (v2383 : BitVec 32) : Prop :=
  (∀ a, (k0_off1145 v2383) a + S16x128.size a ≤ S26136x128.size a) ∧
  (∀ a, (k0_off1153 v2383) a + S16x128.size a ≤ S26136x128.size a)
theorem k0_off1145_inb : ∀ (v2383 : BitVec 32) (k0_hw575 : k0_chk575 v2383), ∀ a, (k0_off1145 v2383) a + S16x128.size a ≤ S26136x128.size a := fun v2383 k0_hw575 => k0_hw575.1
theorem k0_off1153_inb : ∀ (v2383 : BitVec 32) (k0_hw575 : k0_chk575 v2383), ∀ a, (k0_off1153 v2383) a + S16x128.size a ≤ S26136x128.size a := fun v2383 k0_hw575 => k0_hw575.2

def k0_off1154 (v2387 : BitVec 32) : Fin 2 → Nat :=
  let c17_i32_1128 : BitVec 32 := 17#32
  let v2459 : BitVec 32 := Scalar.muli v2387 c17_i32_1128
  let v2460 : Index := Scalar.indexCast v2459
  let c0_1129 : Index := 0#32
  ![v2460.toNat, 0]

def k0_chk576 (v2387 : BitVec 32) : Prop :=
  (∀ a, (k0_off1146 v2387) a + S16x128.size a ≤ S26136x128.size a) ∧
  (∀ a, (k0_off1154 v2387) a + S16x128.size a ≤ S26136x128.size a)
theorem k0_off1146_inb : ∀ (v2387 : BitVec 32) (k0_hw576 : k0_chk576 v2387), ∀ a, (k0_off1146 v2387) a + S16x128.size a ≤ S26136x128.size a := fun v2387 k0_hw576 => k0_hw576.1
theorem k0_off1154_inb : ∀ (v2387 : BitVec 32) (k0_hw576 : k0_chk576 v2387), ∀ a, (k0_off1154 v2387) a + S16x128.size a ≤ S26136x128.size a := fun v2387 k0_hw576 => k0_hw576.2

def k0_off1155 (v2391 : BitVec 32) : Fin 2 → Nat :=
  let c17_i32_1130 : BitVec 32 := 17#32
  let v2464 : BitVec 32 := Scalar.muli v2391 c17_i32_1130
  let v2465 : Index := Scalar.indexCast v2464
  let c0_1131 : Index := 0#32
  ![v2465.toNat, 0]

def k0_chk577 (v2391 : BitVec 32) : Prop :=
  (∀ a, (k0_off1147 v2391) a + S16x128.size a ≤ S26136x128.size a) ∧
  (∀ a, (k0_off1155 v2391) a + S16x128.size a ≤ S26136x128.size a)
theorem k0_off1147_inb : ∀ (v2391 : BitVec 32) (k0_hw577 : k0_chk577 v2391), ∀ a, (k0_off1147 v2391) a + S16x128.size a ≤ S26136x128.size a := fun v2391 k0_hw577 => k0_hw577.1
theorem k0_off1155_inb : ∀ (v2391 : BitVec 32) (k0_hw577 : k0_chk577 v2391), ∀ a, (k0_off1155 v2391) a + S16x128.size a ≤ S26136x128.size a := fun v2391 k0_hw577 => k0_hw577.2

def k0_off1156 (v2395 : BitVec 32) : Fin 2 → Nat :=
  let c17_i32_1132 : BitVec 32 := 17#32
  let v2469 : BitVec 32 := Scalar.muli v2395 c17_i32_1132
  let v2470 : Index := Scalar.indexCast v2469
  let c0_1133 : Index := 0#32
  ![v2470.toNat, 0]

def k0_chk578 (v2395 : BitVec 32) : Prop :=
  (∀ a, (k0_off1148 v2395) a + S16x128.size a ≤ S26136x128.size a) ∧
  (∀ a, (k0_off1156 v2395) a + S16x128.size a ≤ S26136x128.size a)
theorem k0_off1148_inb : ∀ (v2395 : BitVec 32) (k0_hw578 : k0_chk578 v2395), ∀ a, (k0_off1148 v2395) a + S16x128.size a ≤ S26136x128.size a := fun v2395 k0_hw578 => k0_hw578.1
theorem k0_off1156_inb : ∀ (v2395 : BitVec 32) (k0_hw578 : k0_chk578 v2395), ∀ a, (k0_off1156 v2395) a + S16x128.size a ≤ S26136x128.size a := fun v2395 k0_hw578 => k0_hw578.2

def k0_off1157 (v2399 : BitVec 32) : Fin 2 → Nat :=
  let c17_i32_1134 : BitVec 32 := 17#32
  let v2474 : BitVec 32 := Scalar.muli v2399 c17_i32_1134
  let v2475 : Index := Scalar.indexCast v2474
  let c0_1135 : Index := 0#32
  ![v2475.toNat, 0]

def k0_chk579 (v2399 : BitVec 32) : Prop :=
  (∀ a, (k0_off1149 v2399) a + S16x128.size a ≤ S26136x128.size a) ∧
  (∀ a, (k0_off1157 v2399) a + S16x128.size a ≤ S26136x128.size a)
theorem k0_off1149_inb : ∀ (v2399 : BitVec 32) (k0_hw579 : k0_chk579 v2399), ∀ a, (k0_off1149 v2399) a + S16x128.size a ≤ S26136x128.size a := fun v2399 k0_hw579 => k0_hw579.1
theorem k0_off1157_inb : ∀ (v2399 : BitVec 32) (k0_hw579 : k0_chk579 v2399), ∀ a, (k0_off1157 v2399) a + S16x128.size a ≤ S26136x128.size a := fun v2399 k0_hw579 => k0_hw579.2

def k0_off1158 (v5 : BitVec 32) (k0_t4 : Fin (k0_t4_loop v5).trips) (v36 : BitVec 32) (c0_i32_1139 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c64_i32_1138 : BitVec 32 := 64#32
  let v2484 : BitVec 32 := Scalar.addi v38 c64_i32_1138
  let v2485 : BitVec 32 := Scalar.addi v2484 c0_i32_1139
  let v2486 : Index := Scalar.indexCast v2485
  ![v2486.toNat]
def k0_off1159 (v2487 : BitVec 32) : Fin 2 → Nat :=
  let c17_i32_1154 : BitVec 32 := 17#32
  let v2516 : BitVec 32 := Scalar.muli v2487 c17_i32_1154
  let v2517 : Index := Scalar.indexCast v2516
  let c0_1155 : Index := 0#32
  ![v2517.toNat, 0]

def k0_off1160 (v2491 : BitVec 32) : Fin 2 → Nat :=
  let c17_i32_1158 : BitVec 32 := 17#32
  let v2521 : BitVec 32 := Scalar.muli v2491 c17_i32_1158
  let v2522 : Index := Scalar.indexCast v2521
  let c0_1159 : Index := 0#32
  ![v2522.toNat, 0]

def k0_off1161 (v2495 : BitVec 32) : Fin 2 → Nat :=
  let c17_i32_1162 : BitVec 32 := 17#32
  let v2526 : BitVec 32 := Scalar.muli v2495 c17_i32_1162
  let v2527 : Index := Scalar.indexCast v2526
  let c0_1163 : Index := 0#32
  ![v2527.toNat, 0]

def k0_off1162 (v2499 : BitVec 32) : Fin 2 → Nat :=
  let c17_i32_1166 : BitVec 32 := 17#32
  let v2531 : BitVec 32 := Scalar.muli v2499 c17_i32_1166
  let v2532 : Index := Scalar.indexCast v2531
  let c0_1167 : Index := 0#32
  ![v2532.toNat, 0]

def k0_off1163 (v2503 : BitVec 32) : Fin 2 → Nat :=
  let c17_i32_1170 : BitVec 32 := 17#32
  let v2536 : BitVec 32 := Scalar.muli v2503 c17_i32_1170
  let v2537 : Index := Scalar.indexCast v2536
  let c0_1171 : Index := 0#32
  ![v2537.toNat, 0]

def k0_off1164 (v2507 : BitVec 32) : Fin 2 → Nat :=
  let c17_i32_1174 : BitVec 32 := 17#32
  let v2541 : BitVec 32 := Scalar.muli v2507 c17_i32_1174
  let v2542 : Index := Scalar.indexCast v2541
  let c0_1175 : Index := 0#32
  ![v2542.toNat, 0]

def k0_off1165 (v2511 : BitVec 32) : Fin 2 → Nat :=
  let c17_i32_1178 : BitVec 32 := 17#32
  let v2546 : BitVec 32 := Scalar.muli v2511 c17_i32_1178
  let v2547 : Index := Scalar.indexCast v2546
  let c0_1179 : Index := 0#32
  ![v2547.toNat, 0]

def k0_off1166 (v2515 : BitVec 32) : Fin 2 → Nat :=
  let c17_i32_1182 : BitVec 32 := 17#32
  let v2551 : BitVec 32 := Scalar.muli v2515 c17_i32_1182
  let v2552 : Index := Scalar.indexCast v2551
  let c0_1183 : Index := 0#32
  ![v2552.toNat, 0]

def k0_chk588 (v2515 : BitVec 32) : Prop :=
  (∀ a, (k0_off1166 v2515) a + S16x128.size a ≤ S26136x128.size a)
theorem k0_off1166_inb : ∀ (v2515 : BitVec 32) (k0_hw588 : k0_chk588 v2515), ∀ a, (k0_off1166 v2515) a + S16x128.size a ≤ S26136x128.size a := fun v2515 k0_hw588 => k0_hw588

def k0_off1167 (v2487 : BitVec 32) : Fin 2 → Nat :=
  let c17_i32_1186 : BitVec 32 := 17#32
  let v2556 : BitVec 32 := Scalar.muli v2487 c17_i32_1186
  let v2557 : Index := Scalar.indexCast v2556
  let c0_1187 : Index := 0#32
  ![v2557.toNat, 0]

def k0_chk581 (v2487 : BitVec 32) : Prop :=
  (∀ a, (k0_off1159 v2487) a + S16x128.size a ≤ S26136x128.size a) ∧
  (∀ a, (k0_off1167 v2487) a + S16x128.size a ≤ S26136x128.size a)
theorem k0_off1159_inb : ∀ (v2487 : BitVec 32) (k0_hw581 : k0_chk581 v2487), ∀ a, (k0_off1159 v2487) a + S16x128.size a ≤ S26136x128.size a := fun v2487 k0_hw581 => k0_hw581.1
theorem k0_off1167_inb : ∀ (v2487 : BitVec 32) (k0_hw581 : k0_chk581 v2487), ∀ a, (k0_off1167 v2487) a + S16x128.size a ≤ S26136x128.size a := fun v2487 k0_hw581 => k0_hw581.2

def k0_off1168 (v2491 : BitVec 32) : Fin 2 → Nat :=
  let c17_i32_1188 : BitVec 32 := 17#32
  let v2561 : BitVec 32 := Scalar.muli v2491 c17_i32_1188
  let v2562 : Index := Scalar.indexCast v2561
  let c0_1189 : Index := 0#32
  ![v2562.toNat, 0]

def k0_chk582 (v2491 : BitVec 32) : Prop :=
  (∀ a, (k0_off1160 v2491) a + S16x128.size a ≤ S26136x128.size a) ∧
  (∀ a, (k0_off1168 v2491) a + S16x128.size a ≤ S26136x128.size a)
theorem k0_off1160_inb : ∀ (v2491 : BitVec 32) (k0_hw582 : k0_chk582 v2491), ∀ a, (k0_off1160 v2491) a + S16x128.size a ≤ S26136x128.size a := fun v2491 k0_hw582 => k0_hw582.1
theorem k0_off1168_inb : ∀ (v2491 : BitVec 32) (k0_hw582 : k0_chk582 v2491), ∀ a, (k0_off1168 v2491) a + S16x128.size a ≤ S26136x128.size a := fun v2491 k0_hw582 => k0_hw582.2

def k0_off1169 (v2495 : BitVec 32) : Fin 2 → Nat :=
  let c17_i32_1190 : BitVec 32 := 17#32
  let v2566 : BitVec 32 := Scalar.muli v2495 c17_i32_1190
  let v2567 : Index := Scalar.indexCast v2566
  let c0_1191 : Index := 0#32
  ![v2567.toNat, 0]

def k0_chk583 (v2495 : BitVec 32) : Prop :=
  (∀ a, (k0_off1161 v2495) a + S16x128.size a ≤ S26136x128.size a) ∧
  (∀ a, (k0_off1169 v2495) a + S16x128.size a ≤ S26136x128.size a)
theorem k0_off1161_inb : ∀ (v2495 : BitVec 32) (k0_hw583 : k0_chk583 v2495), ∀ a, (k0_off1161 v2495) a + S16x128.size a ≤ S26136x128.size a := fun v2495 k0_hw583 => k0_hw583.1
theorem k0_off1169_inb : ∀ (v2495 : BitVec 32) (k0_hw583 : k0_chk583 v2495), ∀ a, (k0_off1169 v2495) a + S16x128.size a ≤ S26136x128.size a := fun v2495 k0_hw583 => k0_hw583.2

def k0_off1170 (v2499 : BitVec 32) : Fin 2 → Nat :=
  let c17_i32_1192 : BitVec 32 := 17#32
  let v2571 : BitVec 32 := Scalar.muli v2499 c17_i32_1192
  let v2572 : Index := Scalar.indexCast v2571
  let c0_1193 : Index := 0#32
  ![v2572.toNat, 0]

def k0_chk584 (v2499 : BitVec 32) : Prop :=
  (∀ a, (k0_off1162 v2499) a + S16x128.size a ≤ S26136x128.size a) ∧
  (∀ a, (k0_off1170 v2499) a + S16x128.size a ≤ S26136x128.size a)
theorem k0_off1162_inb : ∀ (v2499 : BitVec 32) (k0_hw584 : k0_chk584 v2499), ∀ a, (k0_off1162 v2499) a + S16x128.size a ≤ S26136x128.size a := fun v2499 k0_hw584 => k0_hw584.1
theorem k0_off1170_inb : ∀ (v2499 : BitVec 32) (k0_hw584 : k0_chk584 v2499), ∀ a, (k0_off1170 v2499) a + S16x128.size a ≤ S26136x128.size a := fun v2499 k0_hw584 => k0_hw584.2

def k0_off1171 (v2503 : BitVec 32) : Fin 2 → Nat :=
  let c17_i32_1194 : BitVec 32 := 17#32
  let v2576 : BitVec 32 := Scalar.muli v2503 c17_i32_1194
  let v2577 : Index := Scalar.indexCast v2576
  let c0_1195 : Index := 0#32
  ![v2577.toNat, 0]

def k0_chk585 (v2503 : BitVec 32) : Prop :=
  (∀ a, (k0_off1163 v2503) a + S16x128.size a ≤ S26136x128.size a) ∧
  (∀ a, (k0_off1171 v2503) a + S16x128.size a ≤ S26136x128.size a)
theorem k0_off1163_inb : ∀ (v2503 : BitVec 32) (k0_hw585 : k0_chk585 v2503), ∀ a, (k0_off1163 v2503) a + S16x128.size a ≤ S26136x128.size a := fun v2503 k0_hw585 => k0_hw585.1
theorem k0_off1171_inb : ∀ (v2503 : BitVec 32) (k0_hw585 : k0_chk585 v2503), ∀ a, (k0_off1171 v2503) a + S16x128.size a ≤ S26136x128.size a := fun v2503 k0_hw585 => k0_hw585.2

def k0_off1172 (v2507 : BitVec 32) : Fin 2 → Nat :=
  let c17_i32_1196 : BitVec 32 := 17#32
  let v2581 : BitVec 32 := Scalar.muli v2507 c17_i32_1196
  let v2582 : Index := Scalar.indexCast v2581
  let c0_1197 : Index := 0#32
  ![v2582.toNat, 0]

def k0_chk586 (v2507 : BitVec 32) : Prop :=
  (∀ a, (k0_off1164 v2507) a + S16x128.size a ≤ S26136x128.size a) ∧
  (∀ a, (k0_off1172 v2507) a + S16x128.size a ≤ S26136x128.size a)
theorem k0_off1164_inb : ∀ (v2507 : BitVec 32) (k0_hw586 : k0_chk586 v2507), ∀ a, (k0_off1164 v2507) a + S16x128.size a ≤ S26136x128.size a := fun v2507 k0_hw586 => k0_hw586.1
theorem k0_off1172_inb : ∀ (v2507 : BitVec 32) (k0_hw586 : k0_chk586 v2507), ∀ a, (k0_off1172 v2507) a + S16x128.size a ≤ S26136x128.size a := fun v2507 k0_hw586 => k0_hw586.2

def k0_off1173 (v2511 : BitVec 32) : Fin 2 → Nat :=
  let c17_i32_1198 : BitVec 32 := 17#32
  let v2586 : BitVec 32 := Scalar.muli v2511 c17_i32_1198
  let v2587 : Index := Scalar.indexCast v2586
  let c0_1199 : Index := 0#32
  ![v2587.toNat, 0]

def k0_chk587 (v2511 : BitVec 32) : Prop :=
  (∀ a, (k0_off1165 v2511) a + S16x128.size a ≤ S26136x128.size a) ∧
  (∀ a, (k0_off1173 v2511) a + S16x128.size a ≤ S26136x128.size a)
theorem k0_off1165_inb : ∀ (v2511 : BitVec 32) (k0_hw587 : k0_chk587 v2511), ∀ a, (k0_off1165 v2511) a + S16x128.size a ≤ S26136x128.size a := fun v2511 k0_hw587 => k0_hw587.1
theorem k0_off1173_inb : ∀ (v2511 : BitVec 32) (k0_hw587 : k0_chk587 v2511), ∀ a, (k0_off1173 v2511) a + S16x128.size a ≤ S26136x128.size a := fun v2511 k0_hw587 => k0_hw587.2

def k0_off1174 (v5 : BitVec 32) (k0_t4 : Fin (k0_t4_loop v5).trips) (v36 : BitVec 32) (c0_i32_1203 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c72_i32_1202 : BitVec 32 := 72#32
  let v2596 : BitVec 32 := Scalar.addi v38 c72_i32_1202
  let v2597 : BitVec 32 := Scalar.addi v2596 c0_i32_1203
  let v2598 : Index := Scalar.indexCast v2597
  ![v2598.toNat]
def k0_off1175 (v2599 : BitVec 32) : Fin 2 → Nat :=
  let c17_i32_1218 : BitVec 32 := 17#32
  let v2628 : BitVec 32 := Scalar.muli v2599 c17_i32_1218
  let v2629 : Index := Scalar.indexCast v2628
  let c0_1219 : Index := 0#32
  ![v2629.toNat, 0]

def k0_off1176 (v2603 : BitVec 32) : Fin 2 → Nat :=
  let c17_i32_1222 : BitVec 32 := 17#32
  let v2633 : BitVec 32 := Scalar.muli v2603 c17_i32_1222
  let v2634 : Index := Scalar.indexCast v2633
  let c0_1223 : Index := 0#32
  ![v2634.toNat, 0]

def k0_off1177 (v2607 : BitVec 32) : Fin 2 → Nat :=
  let c17_i32_1226 : BitVec 32 := 17#32
  let v2638 : BitVec 32 := Scalar.muli v2607 c17_i32_1226
  let v2639 : Index := Scalar.indexCast v2638
  let c0_1227 : Index := 0#32
  ![v2639.toNat, 0]

def k0_off1178 (v2611 : BitVec 32) : Fin 2 → Nat :=
  let c17_i32_1230 : BitVec 32 := 17#32
  let v2643 : BitVec 32 := Scalar.muli v2611 c17_i32_1230
  let v2644 : Index := Scalar.indexCast v2643
  let c0_1231 : Index := 0#32
  ![v2644.toNat, 0]

def k0_off1179 (v2615 : BitVec 32) : Fin 2 → Nat :=
  let c17_i32_1234 : BitVec 32 := 17#32
  let v2648 : BitVec 32 := Scalar.muli v2615 c17_i32_1234
  let v2649 : Index := Scalar.indexCast v2648
  let c0_1235 : Index := 0#32
  ![v2649.toNat, 0]

def k0_off1180 (v2619 : BitVec 32) : Fin 2 → Nat :=
  let c17_i32_1238 : BitVec 32 := 17#32
  let v2653 : BitVec 32 := Scalar.muli v2619 c17_i32_1238
  let v2654 : Index := Scalar.indexCast v2653
  let c0_1239 : Index := 0#32
  ![v2654.toNat, 0]

def k0_off1181 (v2623 : BitVec 32) : Fin 2 → Nat :=
  let c17_i32_1242 : BitVec 32 := 17#32
  let v2658 : BitVec 32 := Scalar.muli v2623 c17_i32_1242
  let v2659 : Index := Scalar.indexCast v2658
  let c0_1243 : Index := 0#32
  ![v2659.toNat, 0]

def k0_off1182 (v2627 : BitVec 32) : Fin 2 → Nat :=
  let c17_i32_1246 : BitVec 32 := 17#32
  let v2663 : BitVec 32 := Scalar.muli v2627 c17_i32_1246
  let v2664 : Index := Scalar.indexCast v2663
  let c0_1247 : Index := 0#32
  ![v2664.toNat, 0]

def k0_chk596 (v2627 : BitVec 32) : Prop :=
  (∀ a, (k0_off1182 v2627) a + S16x128.size a ≤ S26136x128.size a)
theorem k0_off1182_inb : ∀ (v2627 : BitVec 32) (k0_hw596 : k0_chk596 v2627), ∀ a, (k0_off1182 v2627) a + S16x128.size a ≤ S26136x128.size a := fun v2627 k0_hw596 => k0_hw596

def k0_off1183 (v2599 : BitVec 32) : Fin 2 → Nat :=
  let c17_i32_1250 : BitVec 32 := 17#32
  let v2668 : BitVec 32 := Scalar.muli v2599 c17_i32_1250
  let v2669 : Index := Scalar.indexCast v2668
  let c0_1251 : Index := 0#32
  ![v2669.toNat, 0]

def k0_chk589 (v2599 : BitVec 32) : Prop :=
  (∀ a, (k0_off1175 v2599) a + S16x128.size a ≤ S26136x128.size a) ∧
  (∀ a, (k0_off1183 v2599) a + S16x128.size a ≤ S26136x128.size a)
theorem k0_off1175_inb : ∀ (v2599 : BitVec 32) (k0_hw589 : k0_chk589 v2599), ∀ a, (k0_off1175 v2599) a + S16x128.size a ≤ S26136x128.size a := fun v2599 k0_hw589 => k0_hw589.1
theorem k0_off1183_inb : ∀ (v2599 : BitVec 32) (k0_hw589 : k0_chk589 v2599), ∀ a, (k0_off1183 v2599) a + S16x128.size a ≤ S26136x128.size a := fun v2599 k0_hw589 => k0_hw589.2

def k0_off1184 (v2603 : BitVec 32) : Fin 2 → Nat :=
  let c17_i32_1252 : BitVec 32 := 17#32
  let v2673 : BitVec 32 := Scalar.muli v2603 c17_i32_1252
  let v2674 : Index := Scalar.indexCast v2673
  let c0_1253 : Index := 0#32
  ![v2674.toNat, 0]

def k0_chk590 (v2603 : BitVec 32) : Prop :=
  (∀ a, (k0_off1176 v2603) a + S16x128.size a ≤ S26136x128.size a) ∧
  (∀ a, (k0_off1184 v2603) a + S16x128.size a ≤ S26136x128.size a)
theorem k0_off1176_inb : ∀ (v2603 : BitVec 32) (k0_hw590 : k0_chk590 v2603), ∀ a, (k0_off1176 v2603) a + S16x128.size a ≤ S26136x128.size a := fun v2603 k0_hw590 => k0_hw590.1
theorem k0_off1184_inb : ∀ (v2603 : BitVec 32) (k0_hw590 : k0_chk590 v2603), ∀ a, (k0_off1184 v2603) a + S16x128.size a ≤ S26136x128.size a := fun v2603 k0_hw590 => k0_hw590.2

def k0_off1185 (v2607 : BitVec 32) : Fin 2 → Nat :=
  let c17_i32_1254 : BitVec 32 := 17#32
  let v2678 : BitVec 32 := Scalar.muli v2607 c17_i32_1254
  let v2679 : Index := Scalar.indexCast v2678
  let c0_1255 : Index := 0#32
  ![v2679.toNat, 0]

def k0_chk591 (v2607 : BitVec 32) : Prop :=
  (∀ a, (k0_off1177 v2607) a + S16x128.size a ≤ S26136x128.size a) ∧
  (∀ a, (k0_off1185 v2607) a + S16x128.size a ≤ S26136x128.size a)
theorem k0_off1177_inb : ∀ (v2607 : BitVec 32) (k0_hw591 : k0_chk591 v2607), ∀ a, (k0_off1177 v2607) a + S16x128.size a ≤ S26136x128.size a := fun v2607 k0_hw591 => k0_hw591.1
theorem k0_off1185_inb : ∀ (v2607 : BitVec 32) (k0_hw591 : k0_chk591 v2607), ∀ a, (k0_off1185 v2607) a + S16x128.size a ≤ S26136x128.size a := fun v2607 k0_hw591 => k0_hw591.2

def k0_off1186 (v2611 : BitVec 32) : Fin 2 → Nat :=
  let c17_i32_1256 : BitVec 32 := 17#32
  let v2683 : BitVec 32 := Scalar.muli v2611 c17_i32_1256
  let v2684 : Index := Scalar.indexCast v2683
  let c0_1257 : Index := 0#32
  ![v2684.toNat, 0]

def k0_chk592 (v2611 : BitVec 32) : Prop :=
  (∀ a, (k0_off1178 v2611) a + S16x128.size a ≤ S26136x128.size a) ∧
  (∀ a, (k0_off1186 v2611) a + S16x128.size a ≤ S26136x128.size a)
theorem k0_off1178_inb : ∀ (v2611 : BitVec 32) (k0_hw592 : k0_chk592 v2611), ∀ a, (k0_off1178 v2611) a + S16x128.size a ≤ S26136x128.size a := fun v2611 k0_hw592 => k0_hw592.1
theorem k0_off1186_inb : ∀ (v2611 : BitVec 32) (k0_hw592 : k0_chk592 v2611), ∀ a, (k0_off1186 v2611) a + S16x128.size a ≤ S26136x128.size a := fun v2611 k0_hw592 => k0_hw592.2

def k0_off1187 (v2615 : BitVec 32) : Fin 2 → Nat :=
  let c17_i32_1258 : BitVec 32 := 17#32
  let v2688 : BitVec 32 := Scalar.muli v2615 c17_i32_1258
  let v2689 : Index := Scalar.indexCast v2688
  let c0_1259 : Index := 0#32
  ![v2689.toNat, 0]

def k0_chk593 (v2615 : BitVec 32) : Prop :=
  (∀ a, (k0_off1179 v2615) a + S16x128.size a ≤ S26136x128.size a) ∧
  (∀ a, (k0_off1187 v2615) a + S16x128.size a ≤ S26136x128.size a)
theorem k0_off1179_inb : ∀ (v2615 : BitVec 32) (k0_hw593 : k0_chk593 v2615), ∀ a, (k0_off1179 v2615) a + S16x128.size a ≤ S26136x128.size a := fun v2615 k0_hw593 => k0_hw593.1
theorem k0_off1187_inb : ∀ (v2615 : BitVec 32) (k0_hw593 : k0_chk593 v2615), ∀ a, (k0_off1187 v2615) a + S16x128.size a ≤ S26136x128.size a := fun v2615 k0_hw593 => k0_hw593.2

def k0_off1188 (v2619 : BitVec 32) : Fin 2 → Nat :=
  let c17_i32_1260 : BitVec 32 := 17#32
  let v2693 : BitVec 32 := Scalar.muli v2619 c17_i32_1260
  let v2694 : Index := Scalar.indexCast v2693
  let c0_1261 : Index := 0#32
  ![v2694.toNat, 0]

def k0_chk594 (v2619 : BitVec 32) : Prop :=
  (∀ a, (k0_off1180 v2619) a + S16x128.size a ≤ S26136x128.size a) ∧
  (∀ a, (k0_off1188 v2619) a + S16x128.size a ≤ S26136x128.size a)
theorem k0_off1180_inb : ∀ (v2619 : BitVec 32) (k0_hw594 : k0_chk594 v2619), ∀ a, (k0_off1180 v2619) a + S16x128.size a ≤ S26136x128.size a := fun v2619 k0_hw594 => k0_hw594.1
theorem k0_off1188_inb : ∀ (v2619 : BitVec 32) (k0_hw594 : k0_chk594 v2619), ∀ a, (k0_off1188 v2619) a + S16x128.size a ≤ S26136x128.size a := fun v2619 k0_hw594 => k0_hw594.2

def k0_off1189 (v2623 : BitVec 32) : Fin 2 → Nat :=
  let c17_i32_1262 : BitVec 32 := 17#32
  let v2698 : BitVec 32 := Scalar.muli v2623 c17_i32_1262
  let v2699 : Index := Scalar.indexCast v2698
  let c0_1263 : Index := 0#32
  ![v2699.toNat, 0]

def k0_chk595 (v2623 : BitVec 32) : Prop :=
  (∀ a, (k0_off1181 v2623) a + S16x128.size a ≤ S26136x128.size a) ∧
  (∀ a, (k0_off1189 v2623) a + S16x128.size a ≤ S26136x128.size a)
theorem k0_off1181_inb : ∀ (v2623 : BitVec 32) (k0_hw595 : k0_chk595 v2623), ∀ a, (k0_off1181 v2623) a + S16x128.size a ≤ S26136x128.size a := fun v2623 k0_hw595 => k0_hw595.1
theorem k0_off1189_inb : ∀ (v2623 : BitVec 32) (k0_hw595 : k0_chk595 v2623), ∀ a, (k0_off1189 v2623) a + S16x128.size a ≤ S26136x128.size a := fun v2623 k0_hw595 => k0_hw595.2

def k0_off1190 (v5 : BitVec 32) (k0_t4 : Fin (k0_t4_loop v5).trips) (v36 : BitVec 32) (c0_i32_1267 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c80_i32_1266 : BitVec 32 := 80#32
  let v2708 : BitVec 32 := Scalar.addi v38 c80_i32_1266
  let v2709 : BitVec 32 := Scalar.addi v2708 c0_i32_1267
  let v2710 : Index := Scalar.indexCast v2709
  ![v2710.toNat]
def k0_off1191 (v2711 : BitVec 32) : Fin 2 → Nat :=
  let c17_i32_1282 : BitVec 32 := 17#32
  let v2740 : BitVec 32 := Scalar.muli v2711 c17_i32_1282
  let v2741 : Index := Scalar.indexCast v2740
  let c0_1283 : Index := 0#32
  ![v2741.toNat, 0]

def k0_off1192 (v2715 : BitVec 32) : Fin 2 → Nat :=
  let c17_i32_1286 : BitVec 32 := 17#32
  let v2745 : BitVec 32 := Scalar.muli v2715 c17_i32_1286
  let v2746 : Index := Scalar.indexCast v2745
  let c0_1287 : Index := 0#32
  ![v2746.toNat, 0]

def k0_off1193 (v2719 : BitVec 32) : Fin 2 → Nat :=
  let c17_i32_1290 : BitVec 32 := 17#32
  let v2750 : BitVec 32 := Scalar.muli v2719 c17_i32_1290
  let v2751 : Index := Scalar.indexCast v2750
  let c0_1291 : Index := 0#32
  ![v2751.toNat, 0]

def k0_off1194 (v2723 : BitVec 32) : Fin 2 → Nat :=
  let c17_i32_1294 : BitVec 32 := 17#32
  let v2755 : BitVec 32 := Scalar.muli v2723 c17_i32_1294
  let v2756 : Index := Scalar.indexCast v2755
  let c0_1295 : Index := 0#32
  ![v2756.toNat, 0]

def k0_off1195 (v2727 : BitVec 32) : Fin 2 → Nat :=
  let c17_i32_1298 : BitVec 32 := 17#32
  let v2760 : BitVec 32 := Scalar.muli v2727 c17_i32_1298
  let v2761 : Index := Scalar.indexCast v2760
  let c0_1299 : Index := 0#32
  ![v2761.toNat, 0]

def k0_off1196 (v2731 : BitVec 32) : Fin 2 → Nat :=
  let c17_i32_1302 : BitVec 32 := 17#32
  let v2765 : BitVec 32 := Scalar.muli v2731 c17_i32_1302
  let v2766 : Index := Scalar.indexCast v2765
  let c0_1303 : Index := 0#32
  ![v2766.toNat, 0]

def k0_off1197 (v2735 : BitVec 32) : Fin 2 → Nat :=
  let c17_i32_1306 : BitVec 32 := 17#32
  let v2770 : BitVec 32 := Scalar.muli v2735 c17_i32_1306
  let v2771 : Index := Scalar.indexCast v2770
  let c0_1307 : Index := 0#32
  ![v2771.toNat, 0]

def k0_off1198 (v2739 : BitVec 32) : Fin 2 → Nat :=
  let c17_i32_1310 : BitVec 32 := 17#32
  let v2775 : BitVec 32 := Scalar.muli v2739 c17_i32_1310
  let v2776 : Index := Scalar.indexCast v2775
  let c0_1311 : Index := 0#32
  ![v2776.toNat, 0]

def k0_chk604 (v2739 : BitVec 32) : Prop :=
  (∀ a, (k0_off1198 v2739) a + S16x128.size a ≤ S26136x128.size a)
theorem k0_off1198_inb : ∀ (v2739 : BitVec 32) (k0_hw604 : k0_chk604 v2739), ∀ a, (k0_off1198 v2739) a + S16x128.size a ≤ S26136x128.size a := fun v2739 k0_hw604 => k0_hw604

def k0_off1199 (v2711 : BitVec 32) : Fin 2 → Nat :=
  let c17_i32_1314 : BitVec 32 := 17#32
  let v2780 : BitVec 32 := Scalar.muli v2711 c17_i32_1314
  let v2781 : Index := Scalar.indexCast v2780
  let c0_1315 : Index := 0#32
  ![v2781.toNat, 0]

def k0_chk597 (v2711 : BitVec 32) : Prop :=
  (∀ a, (k0_off1191 v2711) a + S16x128.size a ≤ S26136x128.size a) ∧
  (∀ a, (k0_off1199 v2711) a + S16x128.size a ≤ S26136x128.size a)
theorem k0_off1191_inb : ∀ (v2711 : BitVec 32) (k0_hw597 : k0_chk597 v2711), ∀ a, (k0_off1191 v2711) a + S16x128.size a ≤ S26136x128.size a := fun v2711 k0_hw597 => k0_hw597.1
theorem k0_off1199_inb : ∀ (v2711 : BitVec 32) (k0_hw597 : k0_chk597 v2711), ∀ a, (k0_off1199 v2711) a + S16x128.size a ≤ S26136x128.size a := fun v2711 k0_hw597 => k0_hw597.2

def k0_off1200 (v2715 : BitVec 32) : Fin 2 → Nat :=
  let c17_i32_1316 : BitVec 32 := 17#32
  let v2785 : BitVec 32 := Scalar.muli v2715 c17_i32_1316
  let v2786 : Index := Scalar.indexCast v2785
  let c0_1317 : Index := 0#32
  ![v2786.toNat, 0]

def k0_chk598 (v2715 : BitVec 32) : Prop :=
  (∀ a, (k0_off1192 v2715) a + S16x128.size a ≤ S26136x128.size a) ∧
  (∀ a, (k0_off1200 v2715) a + S16x128.size a ≤ S26136x128.size a)
theorem k0_off1192_inb : ∀ (v2715 : BitVec 32) (k0_hw598 : k0_chk598 v2715), ∀ a, (k0_off1192 v2715) a + S16x128.size a ≤ S26136x128.size a := fun v2715 k0_hw598 => k0_hw598.1
theorem k0_off1200_inb : ∀ (v2715 : BitVec 32) (k0_hw598 : k0_chk598 v2715), ∀ a, (k0_off1200 v2715) a + S16x128.size a ≤ S26136x128.size a := fun v2715 k0_hw598 => k0_hw598.2

def k0_off1201 (v2719 : BitVec 32) : Fin 2 → Nat :=
  let c17_i32_1318 : BitVec 32 := 17#32
  let v2790 : BitVec 32 := Scalar.muli v2719 c17_i32_1318
  let v2791 : Index := Scalar.indexCast v2790
  let c0_1319 : Index := 0#32
  ![v2791.toNat, 0]

def k0_chk599 (v2719 : BitVec 32) : Prop :=
  (∀ a, (k0_off1193 v2719) a + S16x128.size a ≤ S26136x128.size a) ∧
  (∀ a, (k0_off1201 v2719) a + S16x128.size a ≤ S26136x128.size a)
theorem k0_off1193_inb : ∀ (v2719 : BitVec 32) (k0_hw599 : k0_chk599 v2719), ∀ a, (k0_off1193 v2719) a + S16x128.size a ≤ S26136x128.size a := fun v2719 k0_hw599 => k0_hw599.1
theorem k0_off1201_inb : ∀ (v2719 : BitVec 32) (k0_hw599 : k0_chk599 v2719), ∀ a, (k0_off1201 v2719) a + S16x128.size a ≤ S26136x128.size a := fun v2719 k0_hw599 => k0_hw599.2

def k0_off1202 (v2723 : BitVec 32) : Fin 2 → Nat :=
  let c17_i32_1320 : BitVec 32 := 17#32
  let v2795 : BitVec 32 := Scalar.muli v2723 c17_i32_1320
  let v2796 : Index := Scalar.indexCast v2795
  let c0_1321 : Index := 0#32
  ![v2796.toNat, 0]

def k0_chk600 (v2723 : BitVec 32) : Prop :=
  (∀ a, (k0_off1194 v2723) a + S16x128.size a ≤ S26136x128.size a) ∧
  (∀ a, (k0_off1202 v2723) a + S16x128.size a ≤ S26136x128.size a)
theorem k0_off1194_inb : ∀ (v2723 : BitVec 32) (k0_hw600 : k0_chk600 v2723), ∀ a, (k0_off1194 v2723) a + S16x128.size a ≤ S26136x128.size a := fun v2723 k0_hw600 => k0_hw600.1
theorem k0_off1202_inb : ∀ (v2723 : BitVec 32) (k0_hw600 : k0_chk600 v2723), ∀ a, (k0_off1202 v2723) a + S16x128.size a ≤ S26136x128.size a := fun v2723 k0_hw600 => k0_hw600.2

def k0_off1203 (v2727 : BitVec 32) : Fin 2 → Nat :=
  let c17_i32_1322 : BitVec 32 := 17#32
  let v2800 : BitVec 32 := Scalar.muli v2727 c17_i32_1322
  let v2801 : Index := Scalar.indexCast v2800
  let c0_1323 : Index := 0#32
  ![v2801.toNat, 0]

def k0_chk601 (v2727 : BitVec 32) : Prop :=
  (∀ a, (k0_off1195 v2727) a + S16x128.size a ≤ S26136x128.size a) ∧
  (∀ a, (k0_off1203 v2727) a + S16x128.size a ≤ S26136x128.size a)
theorem k0_off1195_inb : ∀ (v2727 : BitVec 32) (k0_hw601 : k0_chk601 v2727), ∀ a, (k0_off1195 v2727) a + S16x128.size a ≤ S26136x128.size a := fun v2727 k0_hw601 => k0_hw601.1
theorem k0_off1203_inb : ∀ (v2727 : BitVec 32) (k0_hw601 : k0_chk601 v2727), ∀ a, (k0_off1203 v2727) a + S16x128.size a ≤ S26136x128.size a := fun v2727 k0_hw601 => k0_hw601.2

def k0_off1204 (v2731 : BitVec 32) : Fin 2 → Nat :=
  let c17_i32_1324 : BitVec 32 := 17#32
  let v2805 : BitVec 32 := Scalar.muli v2731 c17_i32_1324
  let v2806 : Index := Scalar.indexCast v2805
  let c0_1325 : Index := 0#32
  ![v2806.toNat, 0]

def k0_chk602 (v2731 : BitVec 32) : Prop :=
  (∀ a, (k0_off1196 v2731) a + S16x128.size a ≤ S26136x128.size a) ∧
  (∀ a, (k0_off1204 v2731) a + S16x128.size a ≤ S26136x128.size a)
theorem k0_off1196_inb : ∀ (v2731 : BitVec 32) (k0_hw602 : k0_chk602 v2731), ∀ a, (k0_off1196 v2731) a + S16x128.size a ≤ S26136x128.size a := fun v2731 k0_hw602 => k0_hw602.1
theorem k0_off1204_inb : ∀ (v2731 : BitVec 32) (k0_hw602 : k0_chk602 v2731), ∀ a, (k0_off1204 v2731) a + S16x128.size a ≤ S26136x128.size a := fun v2731 k0_hw602 => k0_hw602.2

def k0_off1205 (v2735 : BitVec 32) : Fin 2 → Nat :=
  let c17_i32_1326 : BitVec 32 := 17#32
  let v2810 : BitVec 32 := Scalar.muli v2735 c17_i32_1326
  let v2811 : Index := Scalar.indexCast v2810
  let c0_1327 : Index := 0#32
  ![v2811.toNat, 0]

def k0_chk603 (v2735 : BitVec 32) : Prop :=
  (∀ a, (k0_off1197 v2735) a + S16x128.size a ≤ S26136x128.size a) ∧
  (∀ a, (k0_off1205 v2735) a + S16x128.size a ≤ S26136x128.size a)
theorem k0_off1197_inb : ∀ (v2735 : BitVec 32) (k0_hw603 : k0_chk603 v2735), ∀ a, (k0_off1197 v2735) a + S16x128.size a ≤ S26136x128.size a := fun v2735 k0_hw603 => k0_hw603.1
theorem k0_off1205_inb : ∀ (v2735 : BitVec 32) (k0_hw603 : k0_chk603 v2735), ∀ a, (k0_off1205 v2735) a + S16x128.size a ≤ S26136x128.size a := fun v2735 k0_hw603 => k0_hw603.2

def k0_off1206 (v5 : BitVec 32) (k0_t4 : Fin (k0_t4_loop v5).trips) (v36 : BitVec 32) (c0_i32_1331 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c88_i32_1330 : BitVec 32 := 88#32
  let v2820 : BitVec 32 := Scalar.addi v38 c88_i32_1330
  let v2821 : BitVec 32 := Scalar.addi v2820 c0_i32_1331
  let v2822 : Index := Scalar.indexCast v2821
  ![v2822.toNat]
def k0_off1207 (v2823 : BitVec 32) : Fin 2 → Nat :=
  let c17_i32_1346 : BitVec 32 := 17#32
  let v2852 : BitVec 32 := Scalar.muli v2823 c17_i32_1346
  let v2853 : Index := Scalar.indexCast v2852
  let c0_1347 : Index := 0#32
  ![v2853.toNat, 0]

def k0_off1208 (v2827 : BitVec 32) : Fin 2 → Nat :=
  let c17_i32_1350 : BitVec 32 := 17#32
  let v2857 : BitVec 32 := Scalar.muli v2827 c17_i32_1350
  let v2858 : Index := Scalar.indexCast v2857
  let c0_1351 : Index := 0#32
  ![v2858.toNat, 0]

def k0_off1209 (v2831 : BitVec 32) : Fin 2 → Nat :=
  let c17_i32_1354 : BitVec 32 := 17#32
  let v2862 : BitVec 32 := Scalar.muli v2831 c17_i32_1354
  let v2863 : Index := Scalar.indexCast v2862
  let c0_1355 : Index := 0#32
  ![v2863.toNat, 0]

def k0_off1210 (v2835 : BitVec 32) : Fin 2 → Nat :=
  let c17_i32_1358 : BitVec 32 := 17#32
  let v2867 : BitVec 32 := Scalar.muli v2835 c17_i32_1358
  let v2868 : Index := Scalar.indexCast v2867
  let c0_1359 : Index := 0#32
  ![v2868.toNat, 0]

def k0_off1211 (v2839 : BitVec 32) : Fin 2 → Nat :=
  let c17_i32_1362 : BitVec 32 := 17#32
  let v2872 : BitVec 32 := Scalar.muli v2839 c17_i32_1362
  let v2873 : Index := Scalar.indexCast v2872
  let c0_1363 : Index := 0#32
  ![v2873.toNat, 0]

def k0_off1212 (v2843 : BitVec 32) : Fin 2 → Nat :=
  let c17_i32_1366 : BitVec 32 := 17#32
  let v2877 : BitVec 32 := Scalar.muli v2843 c17_i32_1366
  let v2878 : Index := Scalar.indexCast v2877
  let c0_1367 : Index := 0#32
  ![v2878.toNat, 0]

def k0_off1213 (v2847 : BitVec 32) : Fin 2 → Nat :=
  let c17_i32_1370 : BitVec 32 := 17#32
  let v2882 : BitVec 32 := Scalar.muli v2847 c17_i32_1370
  let v2883 : Index := Scalar.indexCast v2882
  let c0_1371 : Index := 0#32
  ![v2883.toNat, 0]

def k0_off1214 (v2851 : BitVec 32) : Fin 2 → Nat :=
  let c17_i32_1374 : BitVec 32 := 17#32
  let v2887 : BitVec 32 := Scalar.muli v2851 c17_i32_1374
  let v2888 : Index := Scalar.indexCast v2887
  let c0_1375 : Index := 0#32
  ![v2888.toNat, 0]

def k0_chk612 (v2851 : BitVec 32) : Prop :=
  (∀ a, (k0_off1214 v2851) a + S16x128.size a ≤ S26136x128.size a)
theorem k0_off1214_inb : ∀ (v2851 : BitVec 32) (k0_hw612 : k0_chk612 v2851), ∀ a, (k0_off1214 v2851) a + S16x128.size a ≤ S26136x128.size a := fun v2851 k0_hw612 => k0_hw612

def k0_off1215 (v2823 : BitVec 32) : Fin 2 → Nat :=
  let c17_i32_1378 : BitVec 32 := 17#32
  let v2892 : BitVec 32 := Scalar.muli v2823 c17_i32_1378
  let v2893 : Index := Scalar.indexCast v2892
  let c0_1379 : Index := 0#32
  ![v2893.toNat, 0]

def k0_chk605 (v2823 : BitVec 32) : Prop :=
  (∀ a, (k0_off1207 v2823) a + S16x128.size a ≤ S26136x128.size a) ∧
  (∀ a, (k0_off1215 v2823) a + S16x128.size a ≤ S26136x128.size a)
theorem k0_off1207_inb : ∀ (v2823 : BitVec 32) (k0_hw605 : k0_chk605 v2823), ∀ a, (k0_off1207 v2823) a + S16x128.size a ≤ S26136x128.size a := fun v2823 k0_hw605 => k0_hw605.1
theorem k0_off1215_inb : ∀ (v2823 : BitVec 32) (k0_hw605 : k0_chk605 v2823), ∀ a, (k0_off1215 v2823) a + S16x128.size a ≤ S26136x128.size a := fun v2823 k0_hw605 => k0_hw605.2

def k0_off1216 (v2827 : BitVec 32) : Fin 2 → Nat :=
  let c17_i32_1380 : BitVec 32 := 17#32
  let v2897 : BitVec 32 := Scalar.muli v2827 c17_i32_1380
  let v2898 : Index := Scalar.indexCast v2897
  let c0_1381 : Index := 0#32
  ![v2898.toNat, 0]

def k0_chk606 (v2827 : BitVec 32) : Prop :=
  (∀ a, (k0_off1208 v2827) a + S16x128.size a ≤ S26136x128.size a) ∧
  (∀ a, (k0_off1216 v2827) a + S16x128.size a ≤ S26136x128.size a)
theorem k0_off1208_inb : ∀ (v2827 : BitVec 32) (k0_hw606 : k0_chk606 v2827), ∀ a, (k0_off1208 v2827) a + S16x128.size a ≤ S26136x128.size a := fun v2827 k0_hw606 => k0_hw606.1
theorem k0_off1216_inb : ∀ (v2827 : BitVec 32) (k0_hw606 : k0_chk606 v2827), ∀ a, (k0_off1216 v2827) a + S16x128.size a ≤ S26136x128.size a := fun v2827 k0_hw606 => k0_hw606.2

def k0_off1217 (v2831 : BitVec 32) : Fin 2 → Nat :=
  let c17_i32_1382 : BitVec 32 := 17#32
  let v2902 : BitVec 32 := Scalar.muli v2831 c17_i32_1382
  let v2903 : Index := Scalar.indexCast v2902
  let c0_1383 : Index := 0#32
  ![v2903.toNat, 0]

def k0_chk607 (v2831 : BitVec 32) : Prop :=
  (∀ a, (k0_off1209 v2831) a + S16x128.size a ≤ S26136x128.size a) ∧
  (∀ a, (k0_off1217 v2831) a + S16x128.size a ≤ S26136x128.size a)
theorem k0_off1209_inb : ∀ (v2831 : BitVec 32) (k0_hw607 : k0_chk607 v2831), ∀ a, (k0_off1209 v2831) a + S16x128.size a ≤ S26136x128.size a := fun v2831 k0_hw607 => k0_hw607.1
theorem k0_off1217_inb : ∀ (v2831 : BitVec 32) (k0_hw607 : k0_chk607 v2831), ∀ a, (k0_off1217 v2831) a + S16x128.size a ≤ S26136x128.size a := fun v2831 k0_hw607 => k0_hw607.2

def k0_off1218 (v2835 : BitVec 32) : Fin 2 → Nat :=
  let c17_i32_1384 : BitVec 32 := 17#32
  let v2907 : BitVec 32 := Scalar.muli v2835 c17_i32_1384
  let v2908 : Index := Scalar.indexCast v2907
  let c0_1385 : Index := 0#32
  ![v2908.toNat, 0]

def k0_chk608 (v2835 : BitVec 32) : Prop :=
  (∀ a, (k0_off1210 v2835) a + S16x128.size a ≤ S26136x128.size a) ∧
  (∀ a, (k0_off1218 v2835) a + S16x128.size a ≤ S26136x128.size a)
theorem k0_off1210_inb : ∀ (v2835 : BitVec 32) (k0_hw608 : k0_chk608 v2835), ∀ a, (k0_off1210 v2835) a + S16x128.size a ≤ S26136x128.size a := fun v2835 k0_hw608 => k0_hw608.1
theorem k0_off1218_inb : ∀ (v2835 : BitVec 32) (k0_hw608 : k0_chk608 v2835), ∀ a, (k0_off1218 v2835) a + S16x128.size a ≤ S26136x128.size a := fun v2835 k0_hw608 => k0_hw608.2

def k0_off1219 (v2839 : BitVec 32) : Fin 2 → Nat :=
  let c17_i32_1386 : BitVec 32 := 17#32
  let v2912 : BitVec 32 := Scalar.muli v2839 c17_i32_1386
  let v2913 : Index := Scalar.indexCast v2912
  let c0_1387 : Index := 0#32
  ![v2913.toNat, 0]

def k0_chk609 (v2839 : BitVec 32) : Prop :=
  (∀ a, (k0_off1211 v2839) a + S16x128.size a ≤ S26136x128.size a) ∧
  (∀ a, (k0_off1219 v2839) a + S16x128.size a ≤ S26136x128.size a)
theorem k0_off1211_inb : ∀ (v2839 : BitVec 32) (k0_hw609 : k0_chk609 v2839), ∀ a, (k0_off1211 v2839) a + S16x128.size a ≤ S26136x128.size a := fun v2839 k0_hw609 => k0_hw609.1
theorem k0_off1219_inb : ∀ (v2839 : BitVec 32) (k0_hw609 : k0_chk609 v2839), ∀ a, (k0_off1219 v2839) a + S16x128.size a ≤ S26136x128.size a := fun v2839 k0_hw609 => k0_hw609.2

def k0_off1220 (v2843 : BitVec 32) : Fin 2 → Nat :=
  let c17_i32_1388 : BitVec 32 := 17#32
  let v2917 : BitVec 32 := Scalar.muli v2843 c17_i32_1388
  let v2918 : Index := Scalar.indexCast v2917
  let c0_1389 : Index := 0#32
  ![v2918.toNat, 0]

def k0_chk610 (v2843 : BitVec 32) : Prop :=
  (∀ a, (k0_off1212 v2843) a + S16x128.size a ≤ S26136x128.size a) ∧
  (∀ a, (k0_off1220 v2843) a + S16x128.size a ≤ S26136x128.size a)
theorem k0_off1212_inb : ∀ (v2843 : BitVec 32) (k0_hw610 : k0_chk610 v2843), ∀ a, (k0_off1212 v2843) a + S16x128.size a ≤ S26136x128.size a := fun v2843 k0_hw610 => k0_hw610.1
theorem k0_off1220_inb : ∀ (v2843 : BitVec 32) (k0_hw610 : k0_chk610 v2843), ∀ a, (k0_off1220 v2843) a + S16x128.size a ≤ S26136x128.size a := fun v2843 k0_hw610 => k0_hw610.2

def k0_off1221 (v2847 : BitVec 32) : Fin 2 → Nat :=
  let c17_i32_1390 : BitVec 32 := 17#32
  let v2922 : BitVec 32 := Scalar.muli v2847 c17_i32_1390
  let v2923 : Index := Scalar.indexCast v2922
  let c0_1391 : Index := 0#32
  ![v2923.toNat, 0]

def k0_chk611 (v2847 : BitVec 32) : Prop :=
  (∀ a, (k0_off1213 v2847) a + S16x128.size a ≤ S26136x128.size a) ∧
  (∀ a, (k0_off1221 v2847) a + S16x128.size a ≤ S26136x128.size a)
theorem k0_off1213_inb : ∀ (v2847 : BitVec 32) (k0_hw611 : k0_chk611 v2847), ∀ a, (k0_off1213 v2847) a + S16x128.size a ≤ S26136x128.size a := fun v2847 k0_hw611 => k0_hw611.1
theorem k0_off1221_inb : ∀ (v2847 : BitVec 32) (k0_hw611 : k0_chk611 v2847), ∀ a, (k0_off1221 v2847) a + S16x128.size a ≤ S26136x128.size a := fun v2847 k0_hw611 => k0_hw611.2

def k0_off1222 (v5 : BitVec 32) (k0_t4 : Fin (k0_t4_loop v5).trips) (v36 : BitVec 32) (c0_i32_1395 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c96_i32_1394 : BitVec 32 := 96#32
  let v2932 : BitVec 32 := Scalar.addi v38 c96_i32_1394
  let v2933 : BitVec 32 := Scalar.addi v2932 c0_i32_1395
  let v2934 : Index := Scalar.indexCast v2933
  ![v2934.toNat]
def k0_off1223 (v2935 : BitVec 32) : Fin 2 → Nat :=
  let c17_i32_1410 : BitVec 32 := 17#32
  let v2964 : BitVec 32 := Scalar.muli v2935 c17_i32_1410
  let v2965 : Index := Scalar.indexCast v2964
  let c0_1411 : Index := 0#32
  ![v2965.toNat, 0]

def k0_off1224 (v2939 : BitVec 32) : Fin 2 → Nat :=
  let c17_i32_1414 : BitVec 32 := 17#32
  let v2969 : BitVec 32 := Scalar.muli v2939 c17_i32_1414
  let v2970 : Index := Scalar.indexCast v2969
  let c0_1415 : Index := 0#32
  ![v2970.toNat, 0]

def k0_off1225 (v2943 : BitVec 32) : Fin 2 → Nat :=
  let c17_i32_1418 : BitVec 32 := 17#32
  let v2974 : BitVec 32 := Scalar.muli v2943 c17_i32_1418
  let v2975 : Index := Scalar.indexCast v2974
  let c0_1419 : Index := 0#32
  ![v2975.toNat, 0]

def k0_off1226 (v2947 : BitVec 32) : Fin 2 → Nat :=
  let c17_i32_1422 : BitVec 32 := 17#32
  let v2979 : BitVec 32 := Scalar.muli v2947 c17_i32_1422
  let v2980 : Index := Scalar.indexCast v2979
  let c0_1423 : Index := 0#32
  ![v2980.toNat, 0]

def k0_off1227 (v2951 : BitVec 32) : Fin 2 → Nat :=
  let c17_i32_1426 : BitVec 32 := 17#32
  let v2984 : BitVec 32 := Scalar.muli v2951 c17_i32_1426
  let v2985 : Index := Scalar.indexCast v2984
  let c0_1427 : Index := 0#32
  ![v2985.toNat, 0]

def k0_off1228 (v2955 : BitVec 32) : Fin 2 → Nat :=
  let c17_i32_1430 : BitVec 32 := 17#32
  let v2989 : BitVec 32 := Scalar.muli v2955 c17_i32_1430
  let v2990 : Index := Scalar.indexCast v2989
  let c0_1431 : Index := 0#32
  ![v2990.toNat, 0]

def k0_off1229 (v2959 : BitVec 32) : Fin 2 → Nat :=
  let c17_i32_1434 : BitVec 32 := 17#32
  let v2994 : BitVec 32 := Scalar.muli v2959 c17_i32_1434
  let v2995 : Index := Scalar.indexCast v2994
  let c0_1435 : Index := 0#32
  ![v2995.toNat, 0]

def k0_off1230 (v2963 : BitVec 32) : Fin 2 → Nat :=
  let c17_i32_1438 : BitVec 32 := 17#32
  let v2999 : BitVec 32 := Scalar.muli v2963 c17_i32_1438
  let v3000 : Index := Scalar.indexCast v2999
  let c0_1439 : Index := 0#32
  ![v3000.toNat, 0]

def k0_chk620 (v2963 : BitVec 32) : Prop :=
  (∀ a, (k0_off1230 v2963) a + S16x128.size a ≤ S26136x128.size a)
theorem k0_off1230_inb : ∀ (v2963 : BitVec 32) (k0_hw620 : k0_chk620 v2963), ∀ a, (k0_off1230 v2963) a + S16x128.size a ≤ S26136x128.size a := fun v2963 k0_hw620 => k0_hw620

def k0_off1231 (v2935 : BitVec 32) : Fin 2 → Nat :=
  let c17_i32_1442 : BitVec 32 := 17#32
  let v3004 : BitVec 32 := Scalar.muli v2935 c17_i32_1442
  let v3005 : Index := Scalar.indexCast v3004
  let c0_1443 : Index := 0#32
  ![v3005.toNat, 0]

def k0_chk613 (v2935 : BitVec 32) : Prop :=
  (∀ a, (k0_off1223 v2935) a + S16x128.size a ≤ S26136x128.size a) ∧
  (∀ a, (k0_off1231 v2935) a + S16x128.size a ≤ S26136x128.size a)
theorem k0_off1223_inb : ∀ (v2935 : BitVec 32) (k0_hw613 : k0_chk613 v2935), ∀ a, (k0_off1223 v2935) a + S16x128.size a ≤ S26136x128.size a := fun v2935 k0_hw613 => k0_hw613.1
theorem k0_off1231_inb : ∀ (v2935 : BitVec 32) (k0_hw613 : k0_chk613 v2935), ∀ a, (k0_off1231 v2935) a + S16x128.size a ≤ S26136x128.size a := fun v2935 k0_hw613 => k0_hw613.2

def k0_off1232 (v2939 : BitVec 32) : Fin 2 → Nat :=
  let c17_i32_1444 : BitVec 32 := 17#32
  let v3009 : BitVec 32 := Scalar.muli v2939 c17_i32_1444
  let v3010 : Index := Scalar.indexCast v3009
  let c0_1445 : Index := 0#32
  ![v3010.toNat, 0]

def k0_chk614 (v2939 : BitVec 32) : Prop :=
  (∀ a, (k0_off1224 v2939) a + S16x128.size a ≤ S26136x128.size a) ∧
  (∀ a, (k0_off1232 v2939) a + S16x128.size a ≤ S26136x128.size a)
theorem k0_off1224_inb : ∀ (v2939 : BitVec 32) (k0_hw614 : k0_chk614 v2939), ∀ a, (k0_off1224 v2939) a + S16x128.size a ≤ S26136x128.size a := fun v2939 k0_hw614 => k0_hw614.1
theorem k0_off1232_inb : ∀ (v2939 : BitVec 32) (k0_hw614 : k0_chk614 v2939), ∀ a, (k0_off1232 v2939) a + S16x128.size a ≤ S26136x128.size a := fun v2939 k0_hw614 => k0_hw614.2

def k0_off1233 (v2943 : BitVec 32) : Fin 2 → Nat :=
  let c17_i32_1446 : BitVec 32 := 17#32
  let v3014 : BitVec 32 := Scalar.muli v2943 c17_i32_1446
  let v3015 : Index := Scalar.indexCast v3014
  let c0_1447 : Index := 0#32
  ![v3015.toNat, 0]

def k0_chk615 (v2943 : BitVec 32) : Prop :=
  (∀ a, (k0_off1225 v2943) a + S16x128.size a ≤ S26136x128.size a) ∧
  (∀ a, (k0_off1233 v2943) a + S16x128.size a ≤ S26136x128.size a)
theorem k0_off1225_inb : ∀ (v2943 : BitVec 32) (k0_hw615 : k0_chk615 v2943), ∀ a, (k0_off1225 v2943) a + S16x128.size a ≤ S26136x128.size a := fun v2943 k0_hw615 => k0_hw615.1
theorem k0_off1233_inb : ∀ (v2943 : BitVec 32) (k0_hw615 : k0_chk615 v2943), ∀ a, (k0_off1233 v2943) a + S16x128.size a ≤ S26136x128.size a := fun v2943 k0_hw615 => k0_hw615.2

def k0_off1234 (v2947 : BitVec 32) : Fin 2 → Nat :=
  let c17_i32_1448 : BitVec 32 := 17#32
  let v3019 : BitVec 32 := Scalar.muli v2947 c17_i32_1448
  let v3020 : Index := Scalar.indexCast v3019
  let c0_1449 : Index := 0#32
  ![v3020.toNat, 0]

def k0_chk616 (v2947 : BitVec 32) : Prop :=
  (∀ a, (k0_off1226 v2947) a + S16x128.size a ≤ S26136x128.size a) ∧
  (∀ a, (k0_off1234 v2947) a + S16x128.size a ≤ S26136x128.size a)
theorem k0_off1226_inb : ∀ (v2947 : BitVec 32) (k0_hw616 : k0_chk616 v2947), ∀ a, (k0_off1226 v2947) a + S16x128.size a ≤ S26136x128.size a := fun v2947 k0_hw616 => k0_hw616.1
theorem k0_off1234_inb : ∀ (v2947 : BitVec 32) (k0_hw616 : k0_chk616 v2947), ∀ a, (k0_off1234 v2947) a + S16x128.size a ≤ S26136x128.size a := fun v2947 k0_hw616 => k0_hw616.2

def k0_off1235 (v2951 : BitVec 32) : Fin 2 → Nat :=
  let c17_i32_1450 : BitVec 32 := 17#32
  let v3024 : BitVec 32 := Scalar.muli v2951 c17_i32_1450
  let v3025 : Index := Scalar.indexCast v3024
  let c0_1451 : Index := 0#32
  ![v3025.toNat, 0]

def k0_chk617 (v2951 : BitVec 32) : Prop :=
  (∀ a, (k0_off1227 v2951) a + S16x128.size a ≤ S26136x128.size a) ∧
  (∀ a, (k0_off1235 v2951) a + S16x128.size a ≤ S26136x128.size a)
theorem k0_off1227_inb : ∀ (v2951 : BitVec 32) (k0_hw617 : k0_chk617 v2951), ∀ a, (k0_off1227 v2951) a + S16x128.size a ≤ S26136x128.size a := fun v2951 k0_hw617 => k0_hw617.1
theorem k0_off1235_inb : ∀ (v2951 : BitVec 32) (k0_hw617 : k0_chk617 v2951), ∀ a, (k0_off1235 v2951) a + S16x128.size a ≤ S26136x128.size a := fun v2951 k0_hw617 => k0_hw617.2

def k0_off1236 (v2955 : BitVec 32) : Fin 2 → Nat :=
  let c17_i32_1452 : BitVec 32 := 17#32
  let v3029 : BitVec 32 := Scalar.muli v2955 c17_i32_1452
  let v3030 : Index := Scalar.indexCast v3029
  let c0_1453 : Index := 0#32
  ![v3030.toNat, 0]

def k0_chk618 (v2955 : BitVec 32) : Prop :=
  (∀ a, (k0_off1228 v2955) a + S16x128.size a ≤ S26136x128.size a) ∧
  (∀ a, (k0_off1236 v2955) a + S16x128.size a ≤ S26136x128.size a)
theorem k0_off1228_inb : ∀ (v2955 : BitVec 32) (k0_hw618 : k0_chk618 v2955), ∀ a, (k0_off1228 v2955) a + S16x128.size a ≤ S26136x128.size a := fun v2955 k0_hw618 => k0_hw618.1
theorem k0_off1236_inb : ∀ (v2955 : BitVec 32) (k0_hw618 : k0_chk618 v2955), ∀ a, (k0_off1236 v2955) a + S16x128.size a ≤ S26136x128.size a := fun v2955 k0_hw618 => k0_hw618.2

def k0_off1237 (v2959 : BitVec 32) : Fin 2 → Nat :=
  let c17_i32_1454 : BitVec 32 := 17#32
  let v3034 : BitVec 32 := Scalar.muli v2959 c17_i32_1454
  let v3035 : Index := Scalar.indexCast v3034
  let c0_1455 : Index := 0#32
  ![v3035.toNat, 0]

def k0_chk619 (v2959 : BitVec 32) : Prop :=
  (∀ a, (k0_off1229 v2959) a + S16x128.size a ≤ S26136x128.size a) ∧
  (∀ a, (k0_off1237 v2959) a + S16x128.size a ≤ S26136x128.size a)
theorem k0_off1229_inb : ∀ (v2959 : BitVec 32) (k0_hw619 : k0_chk619 v2959), ∀ a, (k0_off1229 v2959) a + S16x128.size a ≤ S26136x128.size a := fun v2959 k0_hw619 => k0_hw619.1
theorem k0_off1237_inb : ∀ (v2959 : BitVec 32) (k0_hw619 : k0_chk619 v2959), ∀ a, (k0_off1237 v2959) a + S16x128.size a ≤ S26136x128.size a := fun v2959 k0_hw619 => k0_hw619.2

def k0_off1238 (v5 : BitVec 32) (k0_t4 : Fin (k0_t4_loop v5).trips) (v36 : BitVec 32) (c0_i32_1459 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c104_i32_1458 : BitVec 32 := 104#32
  let v3044 : BitVec 32 := Scalar.addi v38 c104_i32_1458
  let v3045 : BitVec 32 := Scalar.addi v3044 c0_i32_1459
  let v3046 : Index := Scalar.indexCast v3045
  ![v3046.toNat]
def k0_off1239 (v3047 : BitVec 32) : Fin 2 → Nat :=
  let c17_i32_1474 : BitVec 32 := 17#32
  let v3076 : BitVec 32 := Scalar.muli v3047 c17_i32_1474
  let v3077 : Index := Scalar.indexCast v3076
  let c0_1475 : Index := 0#32
  ![v3077.toNat, 0]

def k0_off1240 (v3051 : BitVec 32) : Fin 2 → Nat :=
  let c17_i32_1478 : BitVec 32 := 17#32
  let v3081 : BitVec 32 := Scalar.muli v3051 c17_i32_1478
  let v3082 : Index := Scalar.indexCast v3081
  let c0_1479 : Index := 0#32
  ![v3082.toNat, 0]

def k0_off1241 (v3055 : BitVec 32) : Fin 2 → Nat :=
  let c17_i32_1482 : BitVec 32 := 17#32
  let v3086 : BitVec 32 := Scalar.muli v3055 c17_i32_1482
  let v3087 : Index := Scalar.indexCast v3086
  let c0_1483 : Index := 0#32
  ![v3087.toNat, 0]

def k0_off1242 (v3059 : BitVec 32) : Fin 2 → Nat :=
  let c17_i32_1486 : BitVec 32 := 17#32
  let v3091 : BitVec 32 := Scalar.muli v3059 c17_i32_1486
  let v3092 : Index := Scalar.indexCast v3091
  let c0_1487 : Index := 0#32
  ![v3092.toNat, 0]

def k0_off1243 (v3063 : BitVec 32) : Fin 2 → Nat :=
  let c17_i32_1490 : BitVec 32 := 17#32
  let v3096 : BitVec 32 := Scalar.muli v3063 c17_i32_1490
  let v3097 : Index := Scalar.indexCast v3096
  let c0_1491 : Index := 0#32
  ![v3097.toNat, 0]

def k0_off1244 (v3067 : BitVec 32) : Fin 2 → Nat :=
  let c17_i32_1494 : BitVec 32 := 17#32
  let v3101 : BitVec 32 := Scalar.muli v3067 c17_i32_1494
  let v3102 : Index := Scalar.indexCast v3101
  let c0_1495 : Index := 0#32
  ![v3102.toNat, 0]

def k0_off1245 (v3071 : BitVec 32) : Fin 2 → Nat :=
  let c17_i32_1498 : BitVec 32 := 17#32
  let v3106 : BitVec 32 := Scalar.muli v3071 c17_i32_1498
  let v3107 : Index := Scalar.indexCast v3106
  let c0_1499 : Index := 0#32
  ![v3107.toNat, 0]

def k0_off1246 (v3075 : BitVec 32) : Fin 2 → Nat :=
  let c17_i32_1502 : BitVec 32 := 17#32
  let v3111 : BitVec 32 := Scalar.muli v3075 c17_i32_1502
  let v3112 : Index := Scalar.indexCast v3111
  let c0_1503 : Index := 0#32
  ![v3112.toNat, 0]

def k0_chk628 (v3075 : BitVec 32) : Prop :=
  (∀ a, (k0_off1246 v3075) a + S16x128.size a ≤ S26136x128.size a)
theorem k0_off1246_inb : ∀ (v3075 : BitVec 32) (k0_hw628 : k0_chk628 v3075), ∀ a, (k0_off1246 v3075) a + S16x128.size a ≤ S26136x128.size a := fun v3075 k0_hw628 => k0_hw628

def k0_off1247 (v3047 : BitVec 32) : Fin 2 → Nat :=
  let c17_i32_1506 : BitVec 32 := 17#32
  let v3116 : BitVec 32 := Scalar.muli v3047 c17_i32_1506
  let v3117 : Index := Scalar.indexCast v3116
  let c0_1507 : Index := 0#32
  ![v3117.toNat, 0]

def k0_chk621 (v3047 : BitVec 32) : Prop :=
  (∀ a, (k0_off1239 v3047) a + S16x128.size a ≤ S26136x128.size a) ∧
  (∀ a, (k0_off1247 v3047) a + S16x128.size a ≤ S26136x128.size a)
theorem k0_off1239_inb : ∀ (v3047 : BitVec 32) (k0_hw621 : k0_chk621 v3047), ∀ a, (k0_off1239 v3047) a + S16x128.size a ≤ S26136x128.size a := fun v3047 k0_hw621 => k0_hw621.1
theorem k0_off1247_inb : ∀ (v3047 : BitVec 32) (k0_hw621 : k0_chk621 v3047), ∀ a, (k0_off1247 v3047) a + S16x128.size a ≤ S26136x128.size a := fun v3047 k0_hw621 => k0_hw621.2

def k0_off1248 (v3051 : BitVec 32) : Fin 2 → Nat :=
  let c17_i32_1508 : BitVec 32 := 17#32
  let v3121 : BitVec 32 := Scalar.muli v3051 c17_i32_1508
  let v3122 : Index := Scalar.indexCast v3121
  let c0_1509 : Index := 0#32
  ![v3122.toNat, 0]

def k0_chk622 (v3051 : BitVec 32) : Prop :=
  (∀ a, (k0_off1240 v3051) a + S16x128.size a ≤ S26136x128.size a) ∧
  (∀ a, (k0_off1248 v3051) a + S16x128.size a ≤ S26136x128.size a)
theorem k0_off1240_inb : ∀ (v3051 : BitVec 32) (k0_hw622 : k0_chk622 v3051), ∀ a, (k0_off1240 v3051) a + S16x128.size a ≤ S26136x128.size a := fun v3051 k0_hw622 => k0_hw622.1
theorem k0_off1248_inb : ∀ (v3051 : BitVec 32) (k0_hw622 : k0_chk622 v3051), ∀ a, (k0_off1248 v3051) a + S16x128.size a ≤ S26136x128.size a := fun v3051 k0_hw622 => k0_hw622.2

def k0_off1249 (v3055 : BitVec 32) : Fin 2 → Nat :=
  let c17_i32_1510 : BitVec 32 := 17#32
  let v3126 : BitVec 32 := Scalar.muli v3055 c17_i32_1510
  let v3127 : Index := Scalar.indexCast v3126
  let c0_1511 : Index := 0#32
  ![v3127.toNat, 0]

def k0_chk623 (v3055 : BitVec 32) : Prop :=
  (∀ a, (k0_off1241 v3055) a + S16x128.size a ≤ S26136x128.size a) ∧
  (∀ a, (k0_off1249 v3055) a + S16x128.size a ≤ S26136x128.size a)
theorem k0_off1241_inb : ∀ (v3055 : BitVec 32) (k0_hw623 : k0_chk623 v3055), ∀ a, (k0_off1241 v3055) a + S16x128.size a ≤ S26136x128.size a := fun v3055 k0_hw623 => k0_hw623.1
theorem k0_off1249_inb : ∀ (v3055 : BitVec 32) (k0_hw623 : k0_chk623 v3055), ∀ a, (k0_off1249 v3055) a + S16x128.size a ≤ S26136x128.size a := fun v3055 k0_hw623 => k0_hw623.2

def k0_off1250 (v3059 : BitVec 32) : Fin 2 → Nat :=
  let c17_i32_1512 : BitVec 32 := 17#32
  let v3131 : BitVec 32 := Scalar.muli v3059 c17_i32_1512
  let v3132 : Index := Scalar.indexCast v3131
  let c0_1513 : Index := 0#32
  ![v3132.toNat, 0]

def k0_chk624 (v3059 : BitVec 32) : Prop :=
  (∀ a, (k0_off1242 v3059) a + S16x128.size a ≤ S26136x128.size a) ∧
  (∀ a, (k0_off1250 v3059) a + S16x128.size a ≤ S26136x128.size a)
theorem k0_off1242_inb : ∀ (v3059 : BitVec 32) (k0_hw624 : k0_chk624 v3059), ∀ a, (k0_off1242 v3059) a + S16x128.size a ≤ S26136x128.size a := fun v3059 k0_hw624 => k0_hw624.1
theorem k0_off1250_inb : ∀ (v3059 : BitVec 32) (k0_hw624 : k0_chk624 v3059), ∀ a, (k0_off1250 v3059) a + S16x128.size a ≤ S26136x128.size a := fun v3059 k0_hw624 => k0_hw624.2

def k0_off1251 (v3063 : BitVec 32) : Fin 2 → Nat :=
  let c17_i32_1514 : BitVec 32 := 17#32
  let v3136 : BitVec 32 := Scalar.muli v3063 c17_i32_1514
  let v3137 : Index := Scalar.indexCast v3136
  let c0_1515 : Index := 0#32
  ![v3137.toNat, 0]

def k0_chk625 (v3063 : BitVec 32) : Prop :=
  (∀ a, (k0_off1243 v3063) a + S16x128.size a ≤ S26136x128.size a) ∧
  (∀ a, (k0_off1251 v3063) a + S16x128.size a ≤ S26136x128.size a)
theorem k0_off1243_inb : ∀ (v3063 : BitVec 32) (k0_hw625 : k0_chk625 v3063), ∀ a, (k0_off1243 v3063) a + S16x128.size a ≤ S26136x128.size a := fun v3063 k0_hw625 => k0_hw625.1
theorem k0_off1251_inb : ∀ (v3063 : BitVec 32) (k0_hw625 : k0_chk625 v3063), ∀ a, (k0_off1251 v3063) a + S16x128.size a ≤ S26136x128.size a := fun v3063 k0_hw625 => k0_hw625.2

def k0_off1252 (v3067 : BitVec 32) : Fin 2 → Nat :=
  let c17_i32_1516 : BitVec 32 := 17#32
  let v3141 : BitVec 32 := Scalar.muli v3067 c17_i32_1516
  let v3142 : Index := Scalar.indexCast v3141
  let c0_1517 : Index := 0#32
  ![v3142.toNat, 0]

def k0_chk626 (v3067 : BitVec 32) : Prop :=
  (∀ a, (k0_off1244 v3067) a + S16x128.size a ≤ S26136x128.size a) ∧
  (∀ a, (k0_off1252 v3067) a + S16x128.size a ≤ S26136x128.size a)
theorem k0_off1244_inb : ∀ (v3067 : BitVec 32) (k0_hw626 : k0_chk626 v3067), ∀ a, (k0_off1244 v3067) a + S16x128.size a ≤ S26136x128.size a := fun v3067 k0_hw626 => k0_hw626.1
theorem k0_off1252_inb : ∀ (v3067 : BitVec 32) (k0_hw626 : k0_chk626 v3067), ∀ a, (k0_off1252 v3067) a + S16x128.size a ≤ S26136x128.size a := fun v3067 k0_hw626 => k0_hw626.2

def k0_off1253 (v3071 : BitVec 32) : Fin 2 → Nat :=
  let c17_i32_1518 : BitVec 32 := 17#32
  let v3146 : BitVec 32 := Scalar.muli v3071 c17_i32_1518
  let v3147 : Index := Scalar.indexCast v3146
  let c0_1519 : Index := 0#32
  ![v3147.toNat, 0]

def k0_chk627 (v3071 : BitVec 32) : Prop :=
  (∀ a, (k0_off1245 v3071) a + S16x128.size a ≤ S26136x128.size a) ∧
  (∀ a, (k0_off1253 v3071) a + S16x128.size a ≤ S26136x128.size a)
theorem k0_off1245_inb : ∀ (v3071 : BitVec 32) (k0_hw627 : k0_chk627 v3071), ∀ a, (k0_off1245 v3071) a + S16x128.size a ≤ S26136x128.size a := fun v3071 k0_hw627 => k0_hw627.1
theorem k0_off1253_inb : ∀ (v3071 : BitVec 32) (k0_hw627 : k0_chk627 v3071), ∀ a, (k0_off1253 v3071) a + S16x128.size a ≤ S26136x128.size a := fun v3071 k0_hw627 => k0_hw627.2

def k0_off1254 (v5 : BitVec 32) (k0_t4 : Fin (k0_t4_loop v5).trips) (v36 : BitVec 32) (c0_i32_1523 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c112_i32_1522 : BitVec 32 := 112#32
  let v3156 : BitVec 32 := Scalar.addi v38 c112_i32_1522
  let v3157 : BitVec 32 := Scalar.addi v3156 c0_i32_1523
  let v3158 : Index := Scalar.indexCast v3157
  ![v3158.toNat]
def k0_off1255 (v3159 : BitVec 32) : Fin 2 → Nat :=
  let c17_i32_1538 : BitVec 32 := 17#32
  let v3188 : BitVec 32 := Scalar.muli v3159 c17_i32_1538
  let v3189 : Index := Scalar.indexCast v3188
  let c0_1539 : Index := 0#32
  ![v3189.toNat, 0]

def k0_off1256 (v3163 : BitVec 32) : Fin 2 → Nat :=
  let c17_i32_1542 : BitVec 32 := 17#32
  let v3193 : BitVec 32 := Scalar.muli v3163 c17_i32_1542
  let v3194 : Index := Scalar.indexCast v3193
  let c0_1543 : Index := 0#32
  ![v3194.toNat, 0]

def k0_off1257 (v3167 : BitVec 32) : Fin 2 → Nat :=
  let c17_i32_1546 : BitVec 32 := 17#32
  let v3198 : BitVec 32 := Scalar.muli v3167 c17_i32_1546
  let v3199 : Index := Scalar.indexCast v3198
  let c0_1547 : Index := 0#32
  ![v3199.toNat, 0]

def k0_off1258 (v3171 : BitVec 32) : Fin 2 → Nat :=
  let c17_i32_1550 : BitVec 32 := 17#32
  let v3203 : BitVec 32 := Scalar.muli v3171 c17_i32_1550
  let v3204 : Index := Scalar.indexCast v3203
  let c0_1551 : Index := 0#32
  ![v3204.toNat, 0]

def k0_off1259 (v3175 : BitVec 32) : Fin 2 → Nat :=
  let c17_i32_1554 : BitVec 32 := 17#32
  let v3208 : BitVec 32 := Scalar.muli v3175 c17_i32_1554
  let v3209 : Index := Scalar.indexCast v3208
  let c0_1555 : Index := 0#32
  ![v3209.toNat, 0]

def k0_off1260 (v3179 : BitVec 32) : Fin 2 → Nat :=
  let c17_i32_1558 : BitVec 32 := 17#32
  let v3213 : BitVec 32 := Scalar.muli v3179 c17_i32_1558
  let v3214 : Index := Scalar.indexCast v3213
  let c0_1559 : Index := 0#32
  ![v3214.toNat, 0]

def k0_off1261 (v3183 : BitVec 32) : Fin 2 → Nat :=
  let c17_i32_1562 : BitVec 32 := 17#32
  let v3218 : BitVec 32 := Scalar.muli v3183 c17_i32_1562
  let v3219 : Index := Scalar.indexCast v3218
  let c0_1563 : Index := 0#32
  ![v3219.toNat, 0]

def k0_off1262 (v3187 : BitVec 32) : Fin 2 → Nat :=
  let c17_i32_1566 : BitVec 32 := 17#32
  let v3223 : BitVec 32 := Scalar.muli v3187 c17_i32_1566
  let v3224 : Index := Scalar.indexCast v3223
  let c0_1567 : Index := 0#32
  ![v3224.toNat, 0]

def k0_chk636 (v3187 : BitVec 32) : Prop :=
  (∀ a, (k0_off1262 v3187) a + S16x128.size a ≤ S26136x128.size a)
theorem k0_off1262_inb : ∀ (v3187 : BitVec 32) (k0_hw636 : k0_chk636 v3187), ∀ a, (k0_off1262 v3187) a + S16x128.size a ≤ S26136x128.size a := fun v3187 k0_hw636 => k0_hw636

def k0_off1263 (v3159 : BitVec 32) : Fin 2 → Nat :=
  let c17_i32_1570 : BitVec 32 := 17#32
  let v3228 : BitVec 32 := Scalar.muli v3159 c17_i32_1570
  let v3229 : Index := Scalar.indexCast v3228
  let c0_1571 : Index := 0#32
  ![v3229.toNat, 0]

def k0_chk629 (v3159 : BitVec 32) : Prop :=
  (∀ a, (k0_off1255 v3159) a + S16x128.size a ≤ S26136x128.size a) ∧
  (∀ a, (k0_off1263 v3159) a + S16x128.size a ≤ S26136x128.size a)
theorem k0_off1255_inb : ∀ (v3159 : BitVec 32) (k0_hw629 : k0_chk629 v3159), ∀ a, (k0_off1255 v3159) a + S16x128.size a ≤ S26136x128.size a := fun v3159 k0_hw629 => k0_hw629.1
theorem k0_off1263_inb : ∀ (v3159 : BitVec 32) (k0_hw629 : k0_chk629 v3159), ∀ a, (k0_off1263 v3159) a + S16x128.size a ≤ S26136x128.size a := fun v3159 k0_hw629 => k0_hw629.2

def k0_off1264 (v3163 : BitVec 32) : Fin 2 → Nat :=
  let c17_i32_1572 : BitVec 32 := 17#32
  let v3233 : BitVec 32 := Scalar.muli v3163 c17_i32_1572
  let v3234 : Index := Scalar.indexCast v3233
  let c0_1573 : Index := 0#32
  ![v3234.toNat, 0]

def k0_chk630 (v3163 : BitVec 32) : Prop :=
  (∀ a, (k0_off1256 v3163) a + S16x128.size a ≤ S26136x128.size a) ∧
  (∀ a, (k0_off1264 v3163) a + S16x128.size a ≤ S26136x128.size a)
theorem k0_off1256_inb : ∀ (v3163 : BitVec 32) (k0_hw630 : k0_chk630 v3163), ∀ a, (k0_off1256 v3163) a + S16x128.size a ≤ S26136x128.size a := fun v3163 k0_hw630 => k0_hw630.1
theorem k0_off1264_inb : ∀ (v3163 : BitVec 32) (k0_hw630 : k0_chk630 v3163), ∀ a, (k0_off1264 v3163) a + S16x128.size a ≤ S26136x128.size a := fun v3163 k0_hw630 => k0_hw630.2

def k0_off1265 (v3167 : BitVec 32) : Fin 2 → Nat :=
  let c17_i32_1574 : BitVec 32 := 17#32
  let v3238 : BitVec 32 := Scalar.muli v3167 c17_i32_1574
  let v3239 : Index := Scalar.indexCast v3238
  let c0_1575 : Index := 0#32
  ![v3239.toNat, 0]

def k0_chk631 (v3167 : BitVec 32) : Prop :=
  (∀ a, (k0_off1257 v3167) a + S16x128.size a ≤ S26136x128.size a) ∧
  (∀ a, (k0_off1265 v3167) a + S16x128.size a ≤ S26136x128.size a)
theorem k0_off1257_inb : ∀ (v3167 : BitVec 32) (k0_hw631 : k0_chk631 v3167), ∀ a, (k0_off1257 v3167) a + S16x128.size a ≤ S26136x128.size a := fun v3167 k0_hw631 => k0_hw631.1
theorem k0_off1265_inb : ∀ (v3167 : BitVec 32) (k0_hw631 : k0_chk631 v3167), ∀ a, (k0_off1265 v3167) a + S16x128.size a ≤ S26136x128.size a := fun v3167 k0_hw631 => k0_hw631.2

def k0_off1266 (v3171 : BitVec 32) : Fin 2 → Nat :=
  let c17_i32_1576 : BitVec 32 := 17#32
  let v3243 : BitVec 32 := Scalar.muli v3171 c17_i32_1576
  let v3244 : Index := Scalar.indexCast v3243
  let c0_1577 : Index := 0#32
  ![v3244.toNat, 0]

def k0_chk632 (v3171 : BitVec 32) : Prop :=
  (∀ a, (k0_off1258 v3171) a + S16x128.size a ≤ S26136x128.size a) ∧
  (∀ a, (k0_off1266 v3171) a + S16x128.size a ≤ S26136x128.size a)
theorem k0_off1258_inb : ∀ (v3171 : BitVec 32) (k0_hw632 : k0_chk632 v3171), ∀ a, (k0_off1258 v3171) a + S16x128.size a ≤ S26136x128.size a := fun v3171 k0_hw632 => k0_hw632.1
theorem k0_off1266_inb : ∀ (v3171 : BitVec 32) (k0_hw632 : k0_chk632 v3171), ∀ a, (k0_off1266 v3171) a + S16x128.size a ≤ S26136x128.size a := fun v3171 k0_hw632 => k0_hw632.2

def k0_off1267 (v3175 : BitVec 32) : Fin 2 → Nat :=
  let c17_i32_1578 : BitVec 32 := 17#32
  let v3248 : BitVec 32 := Scalar.muli v3175 c17_i32_1578
  let v3249 : Index := Scalar.indexCast v3248
  let c0_1579 : Index := 0#32
  ![v3249.toNat, 0]

def k0_chk633 (v3175 : BitVec 32) : Prop :=
  (∀ a, (k0_off1259 v3175) a + S16x128.size a ≤ S26136x128.size a) ∧
  (∀ a, (k0_off1267 v3175) a + S16x128.size a ≤ S26136x128.size a)
theorem k0_off1259_inb : ∀ (v3175 : BitVec 32) (k0_hw633 : k0_chk633 v3175), ∀ a, (k0_off1259 v3175) a + S16x128.size a ≤ S26136x128.size a := fun v3175 k0_hw633 => k0_hw633.1
theorem k0_off1267_inb : ∀ (v3175 : BitVec 32) (k0_hw633 : k0_chk633 v3175), ∀ a, (k0_off1267 v3175) a + S16x128.size a ≤ S26136x128.size a := fun v3175 k0_hw633 => k0_hw633.2

def k0_off1268 (v3179 : BitVec 32) : Fin 2 → Nat :=
  let c17_i32_1580 : BitVec 32 := 17#32
  let v3253 : BitVec 32 := Scalar.muli v3179 c17_i32_1580
  let v3254 : Index := Scalar.indexCast v3253
  let c0_1581 : Index := 0#32
  ![v3254.toNat, 0]

def k0_chk634 (v3179 : BitVec 32) : Prop :=
  (∀ a, (k0_off1260 v3179) a + S16x128.size a ≤ S26136x128.size a) ∧
  (∀ a, (k0_off1268 v3179) a + S16x128.size a ≤ S26136x128.size a)
theorem k0_off1260_inb : ∀ (v3179 : BitVec 32) (k0_hw634 : k0_chk634 v3179), ∀ a, (k0_off1260 v3179) a + S16x128.size a ≤ S26136x128.size a := fun v3179 k0_hw634 => k0_hw634.1
theorem k0_off1268_inb : ∀ (v3179 : BitVec 32) (k0_hw634 : k0_chk634 v3179), ∀ a, (k0_off1268 v3179) a + S16x128.size a ≤ S26136x128.size a := fun v3179 k0_hw634 => k0_hw634.2

def k0_off1269 (v3183 : BitVec 32) : Fin 2 → Nat :=
  let c17_i32_1582 : BitVec 32 := 17#32
  let v3258 : BitVec 32 := Scalar.muli v3183 c17_i32_1582
  let v3259 : Index := Scalar.indexCast v3258
  let c0_1583 : Index := 0#32
  ![v3259.toNat, 0]

def k0_chk635 (v3183 : BitVec 32) : Prop :=
  (∀ a, (k0_off1261 v3183) a + S16x128.size a ≤ S26136x128.size a) ∧
  (∀ a, (k0_off1269 v3183) a + S16x128.size a ≤ S26136x128.size a)
theorem k0_off1261_inb : ∀ (v3183 : BitVec 32) (k0_hw635 : k0_chk635 v3183), ∀ a, (k0_off1261 v3183) a + S16x128.size a ≤ S26136x128.size a := fun v3183 k0_hw635 => k0_hw635.1
theorem k0_off1269_inb : ∀ (v3183 : BitVec 32) (k0_hw635 : k0_chk635 v3183), ∀ a, (k0_off1269 v3183) a + S16x128.size a ≤ S26136x128.size a := fun v3183 k0_hw635 => k0_hw635.2

def k0_off1270 (v5 : BitVec 32) (k0_t4 : Fin (k0_t4_loop v5).trips) (v36 : BitVec 32) (c0_i32_1587 : BitVec 32) : Fin 1 → Nat :=
  let c0_i32_6 : BitVec 32 := 0#32
  let c127_i32 : BitVec 32 := 127#32
  let v6 : BitVec 32 := Scalar.addi v5 c127_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c128_i32 : BitVec 32 := 128#32
  let c0_i32_3 : BitVec 32 := 0#32
  let v13 : BitVec 1 := Scalar.cmpi .sgt c128_i32 c0_i32_3
  let v14 : BitVec 32 := Scalar.extui v13
  let c0_i32_4 : BitVec 32 := 0#32
  let v15 : BitVec 1 := Scalar.cmpi .slt c128_i32 c0_i32_4
  let v16 : BitVec 32 := Scalar.extui v15
  let v17 : BitVec 32 := Scalar.subi v14 v16
  let v18 : BitVec 1 := Scalar.cmpi .ne v12 v17
  let v19 : BitVec 32 := Scalar.remsi v6 c128_i32
  let c0_i32_5 : BitVec 32 := 0#32
  let v20 : BitVec 1 := Scalar.cmpi .ne v19 c0_i32_5
  let v21 : BitVec 1 := Scalar.andi v18 v20
  let v7 : BitVec 32 := Scalar.divsi v6 c128_i32
  let c1_i32 : BitVec 32 := 1#32
  let v22 : BitVec 32 := Scalar.subi v7 c1_i32
  let v23 : BitVec 32 := Scalar.select v21 v22 v7
  let v24 : BitVec 32 := Scalar.subi v23 c0_i32_6
  let c1_i32_8 : BitVec 32 := 1#32
  let v26 : BitVec 32 := Scalar.divsi v24 c1_i32_8
  let v27 : BitVec 32 := Scalar.muli v26 c1_i32_8
  let v28 : BitVec 32 := Scalar.addi c0_i32_6 v27
  let c1_i32_10 : BitVec 32 := 1#32
  let arg16 : BitVec 32 := Scf.iv v28 c1_i32_10 k0_t4
  let c128_i32_12 : BitVec 32 := 128#32
  let v37 : BitVec 32 := Scalar.muli arg16 c128_i32_12
  let v38 : BitVec 32 := Scalar.addi v36 v37
  let c120_i32_1586 : BitVec 32 := 120#32
  let v3268 : BitVec 32 := Scalar.addi v38 c120_i32_1586
  let v3269 : BitVec 32 := Scalar.addi v3268 c0_i32_1587
  let v3270 : Index := Scalar.indexCast v3269
  ![v3270.toNat]

def k0_chk388_0 (v5 : BitVec 32) (k0_t4 : Fin (k0_t4_loop v5).trips) (v36 : BitVec 32) : Prop :=
  (∀ a, (k0_off774 v5 k0_t4 v36) a + S1.size a ≤ S16512.size a) ∧
  (∀ a, (k0_off776 v5 k0_t4 v36) a + S1.size a ≤ S16512.size a) ∧
  (∀ a, (k0_off778 v5 k0_t4 v36) a + S1.size a ≤ S16512.size a) ∧
  (∀ a, (k0_off780 v5 k0_t4 v36) a + S1.size a ≤ S16512.size a) ∧
  (∀ a, (k0_off782 v5 k0_t4 v36) a + S1.size a ≤ S16512.size a) ∧
  (∀ a, (k0_off784 v5 k0_t4 v36) a + S1.size a ≤ S16512.size a) ∧
  (∀ a, (k0_off786 v5 k0_t4 v36) a + S1.size a ≤ S16512.size a) ∧
  (∀ a, (k0_off788 v5 k0_t4 v36) a + S1.size a ≤ S16512.size a) ∧
  (∀ a, (k0_off790 v5 k0_t4 v36) a + S1.size a ≤ S16512.size a) ∧
  (∀ a, (k0_off792 v5 k0_t4 v36) a + S1.size a ≤ S16512.size a) ∧
  (∀ a, (k0_off794 v5 k0_t4 v36) a + S1.size a ≤ S16512.size a) ∧
  (∀ a, (k0_off796 v5 k0_t4 v36) a + S1.size a ≤ S16512.size a) ∧
  (∀ a, (k0_off798 v5 k0_t4 v36) a + S1.size a ≤ S16512.size a) ∧
  (∀ a, (k0_off800 v5 k0_t4 v36) a + S1.size a ≤ S16512.size a) ∧
  (∀ a, (k0_off802 v5 k0_t4 v36) a + S1.size a ≤ S16512.size a) ∧
  (∀ a, (k0_off804 v5 k0_t4 v36) a + S1.size a ≤ S16512.size a) ∧
  (∀ a, (k0_off806 v5 k0_t4 v36) a + S1.size a ≤ S16512.size a) ∧
  (∀ a, (k0_off808 v5 k0_t4 v36) a + S1.size a ≤ S16512.size a) ∧
  (∀ a, (k0_off810 v5 k0_t4 v36) a + S1.size a ≤ S16512.size a) ∧
  (∀ a, (k0_off812 v5 k0_t4 v36) a + S1.size a ≤ S16512.size a) ∧
  (∀ a, (k0_off814 v5 k0_t4 v36) a + S1.size a ≤ S16512.size a) ∧
  (∀ a, (k0_off816 v5 k0_t4 v36) a + S1.size a ≤ S16512.size a) ∧
  (∀ a, (k0_off818 v5 k0_t4 v36) a + S1.size a ≤ S16512.size a) ∧
  (∀ a, (k0_off820 v5 k0_t4 v36) a + S1.size a ≤ S16512.size a) ∧
  (∀ a, (k0_off822 v5 k0_t4 v36) a + S1.size a ≤ S16512.size a) ∧
  (∀ a, (k0_off824 v5 k0_t4 v36) a + S1.size a ≤ S16512.size a) ∧
  (∀ a, (k0_off826 v5 k0_t4 v36) a + S1.size a ≤ S16512.size a) ∧
  (∀ a, (k0_off828 v5 k0_t4 v36) a + S1.size a ≤ S16512.size a) ∧
  (∀ a, (k0_off830 v5 k0_t4 v36) a + S1.size a ≤ S16512.size a) ∧
  (∀ a, (k0_off832 v5 k0_t4 v36) a + S1.size a ≤ S16512.size a) ∧
  (∀ a, (k0_off834 v5 k0_t4 v36) a + S1.size a ≤ S16512.size a) ∧
  (∀ a, (k0_off836 v5 k0_t4 v36) a + S1.size a ≤ S16512.size a)
def k0_chk388_1 (v5 : BitVec 32) (k0_t4 : Fin (k0_t4_loop v5).trips) (v36 : BitVec 32) : Prop :=
  (∀ a, (k0_off838 v5 k0_t4 v36) a + S1.size a ≤ S16512.size a) ∧
  (∀ a, (k0_off840 v5 k0_t4 v36) a + S1.size a ≤ S16512.size a) ∧
  (∀ a, (k0_off842 v5 k0_t4 v36) a + S1.size a ≤ S16512.size a) ∧
  (∀ a, (k0_off844 v5 k0_t4 v36) a + S1.size a ≤ S16512.size a) ∧
  (∀ a, (k0_off846 v5 k0_t4 v36) a + S1.size a ≤ S16512.size a) ∧
  (∀ a, (k0_off848 v5 k0_t4 v36) a + S1.size a ≤ S16512.size a) ∧
  (∀ a, (k0_off850 v5 k0_t4 v36) a + S1.size a ≤ S16512.size a) ∧
  (∀ a, (k0_off852 v5 k0_t4 v36) a + S1.size a ≤ S16512.size a) ∧
  (∀ a, (k0_off854 v5 k0_t4 v36) a + S1.size a ≤ S16512.size a) ∧
  (∀ a, (k0_off856 v5 k0_t4 v36) a + S1.size a ≤ S16512.size a) ∧
  (∀ a, (k0_off858 v5 k0_t4 v36) a + S1.size a ≤ S16512.size a) ∧
  (∀ a, (k0_off860 v5 k0_t4 v36) a + S1.size a ≤ S16512.size a) ∧
  (∀ a, (k0_off862 v5 k0_t4 v36) a + S1.size a ≤ S16512.size a) ∧
  (∀ a, (k0_off864 v5 k0_t4 v36) a + S1.size a ≤ S16512.size a) ∧
  (∀ a, (k0_off866 v5 k0_t4 v36) a + S1.size a ≤ S16512.size a) ∧
  (∀ a, (k0_off868 v5 k0_t4 v36) a + S1.size a ≤ S16512.size a) ∧
  (∀ a, (k0_off870 v5 k0_t4 v36) a + S1.size a ≤ S16512.size a) ∧
  (∀ a, (k0_off872 v5 k0_t4 v36) a + S1.size a ≤ S16512.size a) ∧
  (∀ a, (k0_off874 v5 k0_t4 v36) a + S1.size a ≤ S16512.size a) ∧
  (∀ a, (k0_off876 v5 k0_t4 v36) a + S1.size a ≤ S16512.size a) ∧
  (∀ a, (k0_off878 v5 k0_t4 v36) a + S1.size a ≤ S16512.size a) ∧
  (∀ a, (k0_off880 v5 k0_t4 v36) a + S1.size a ≤ S16512.size a) ∧
  (∀ a, (k0_off882 v5 k0_t4 v36) a + S1.size a ≤ S16512.size a) ∧
  (∀ a, (k0_off884 v5 k0_t4 v36) a + S1.size a ≤ S16512.size a) ∧
  (∀ a, (k0_off886 v5 k0_t4 v36) a + S1.size a ≤ S16512.size a) ∧
  (∀ a, (k0_off888 v5 k0_t4 v36) a + S1.size a ≤ S16512.size a) ∧
  (∀ a, (k0_off890 v5 k0_t4 v36) a + S1.size a ≤ S16512.size a) ∧
  (∀ a, (k0_off892 v5 k0_t4 v36) a + S1.size a ≤ S16512.size a) ∧
  (∀ a, (k0_off894 v5 k0_t4 v36) a + S1.size a ≤ S16512.size a) ∧
  (∀ a, (k0_off896 v5 k0_t4 v36) a + S1.size a ≤ S16512.size a) ∧
  (∀ a, (k0_off898 v5 k0_t4 v36) a + S1.size a ≤ S16512.size a) ∧
  (∀ a, (k0_off900 v5 k0_t4 v36) a + S1.size a ≤ S16512.size a)
def k0_chk388_2 (v5 : BitVec 32) (k0_t4 : Fin (k0_t4_loop v5).trips) (v36 : BitVec 32) : Prop :=
  (∀ a, (k0_off902 v5 k0_t4 v36) a + S1.size a ≤ S16512.size a) ∧
  (∀ a, (k0_off904 v5 k0_t4 v36) a + S1.size a ≤ S16512.size a) ∧
  (∀ a, (k0_off906 v5 k0_t4 v36) a + S1.size a ≤ S16512.size a) ∧
  (∀ a, (k0_off908 v5 k0_t4 v36) a + S1.size a ≤ S16512.size a) ∧
  (∀ a, (k0_off910 v5 k0_t4 v36) a + S1.size a ≤ S16512.size a) ∧
  (∀ a, (k0_off912 v5 k0_t4 v36) a + S1.size a ≤ S16512.size a) ∧
  (∀ a, (k0_off914 v5 k0_t4 v36) a + S1.size a ≤ S16512.size a) ∧
  (∀ a, (k0_off916 v5 k0_t4 v36) a + S1.size a ≤ S16512.size a) ∧
  (∀ a, (k0_off918 v5 k0_t4 v36) a + S1.size a ≤ S16512.size a) ∧
  (∀ a, (k0_off920 v5 k0_t4 v36) a + S1.size a ≤ S16512.size a) ∧
  (∀ a, (k0_off922 v5 k0_t4 v36) a + S1.size a ≤ S16512.size a) ∧
  (∀ a, (k0_off924 v5 k0_t4 v36) a + S1.size a ≤ S16512.size a) ∧
  (∀ a, (k0_off926 v5 k0_t4 v36) a + S1.size a ≤ S16512.size a) ∧
  (∀ a, (k0_off928 v5 k0_t4 v36) a + S1.size a ≤ S16512.size a) ∧
  (∀ a, (k0_off930 v5 k0_t4 v36) a + S1.size a ≤ S16512.size a) ∧
  (∀ a, (k0_off932 v5 k0_t4 v36) a + S1.size a ≤ S16512.size a) ∧
  (∀ a, (k0_off934 v5 k0_t4 v36) a + S1.size a ≤ S16512.size a) ∧
  (∀ a, (k0_off936 v5 k0_t4 v36) a + S1.size a ≤ S16512.size a) ∧
  (∀ a, (k0_off938 v5 k0_t4 v36) a + S1.size a ≤ S16512.size a) ∧
  (∀ a, (k0_off940 v5 k0_t4 v36) a + S1.size a ≤ S16512.size a) ∧
  (∀ a, (k0_off942 v5 k0_t4 v36) a + S1.size a ≤ S16512.size a) ∧
  (∀ a, (k0_off944 v5 k0_t4 v36) a + S1.size a ≤ S16512.size a) ∧
  (∀ a, (k0_off946 v5 k0_t4 v36) a + S1.size a ≤ S16512.size a) ∧
  (∀ a, (k0_off948 v5 k0_t4 v36) a + S1.size a ≤ S16512.size a) ∧
  (∀ a, (k0_off950 v5 k0_t4 v36) a + S1.size a ≤ S16512.size a) ∧
  (∀ a, (k0_off952 v5 k0_t4 v36) a + S1.size a ≤ S16512.size a) ∧
  (∀ a, (k0_off954 v5 k0_t4 v36) a + S1.size a ≤ S16512.size a) ∧
  (∀ a, (k0_off956 v5 k0_t4 v36) a + S1.size a ≤ S16512.size a) ∧
  (∀ a, (k0_off958 v5 k0_t4 v36) a + S1.size a ≤ S16512.size a) ∧
  (∀ a, (k0_off960 v5 k0_t4 v36) a + S1.size a ≤ S16512.size a) ∧
  (∀ a, (k0_off962 v5 k0_t4 v36) a + S1.size a ≤ S16512.size a) ∧
  (∀ a, (k0_off964 v5 k0_t4 v36) a + S1.size a ≤ S16512.size a)
def k0_chk388_3 (v5 : BitVec 32) (k0_t4 : Fin (k0_t4_loop v5).trips) (v36 : BitVec 32) : Prop :=
  (∀ a, (k0_off966 v5 k0_t4 v36) a + S1.size a ≤ S16512.size a) ∧
  (∀ a, (k0_off968 v5 k0_t4 v36) a + S1.size a ≤ S16512.size a) ∧
  (∀ a, (k0_off970 v5 k0_t4 v36) a + S1.size a ≤ S16512.size a) ∧
  (∀ a, (k0_off972 v5 k0_t4 v36) a + S1.size a ≤ S16512.size a) ∧
  (∀ a, (k0_off974 v5 k0_t4 v36) a + S1.size a ≤ S16512.size a) ∧
  (∀ a, (k0_off976 v5 k0_t4 v36) a + S1.size a ≤ S16512.size a) ∧
  (∀ a, (k0_off978 v5 k0_t4 v36) a + S1.size a ≤ S16512.size a) ∧
  (∀ a, (k0_off980 v5 k0_t4 v36) a + S1.size a ≤ S16512.size a) ∧
  (∀ a, (k0_off982 v5 k0_t4 v36) a + S1.size a ≤ S16512.size a) ∧
  (∀ a, (k0_off984 v5 k0_t4 v36) a + S1.size a ≤ S16512.size a) ∧
  (∀ a, (k0_off986 v5 k0_t4 v36) a + S1.size a ≤ S16512.size a) ∧
  (∀ a, (k0_off988 v5 k0_t4 v36) a + S1.size a ≤ S16512.size a) ∧
  (∀ a, (k0_off990 v5 k0_t4 v36) a + S1.size a ≤ S16512.size a) ∧
  (∀ a, (k0_off992 v5 k0_t4 v36) a + S1.size a ≤ S16512.size a) ∧
  (∀ a, (k0_off994 v5 k0_t4 v36) a + S1.size a ≤ S16512.size a) ∧
  (∀ a, (k0_off996 v5 k0_t4 v36) a + S1.size a ≤ S16512.size a) ∧
  (∀ a, (k0_off998 v5 k0_t4 v36) a + S1.size a ≤ S16512.size a) ∧
  (∀ a, (k0_off1000 v5 k0_t4 v36) a + S1.size a ≤ S16512.size a) ∧
  (∀ a, (k0_off1002 v5 k0_t4 v36) a + S1.size a ≤ S16512.size a) ∧
  (∀ a, (k0_off1004 v5 k0_t4 v36) a + S1.size a ≤ S16512.size a) ∧
  (∀ a, (k0_off1006 v5 k0_t4 v36) a + S1.size a ≤ S16512.size a) ∧
  (∀ a, (k0_off1008 v5 k0_t4 v36) a + S1.size a ≤ S16512.size a) ∧
  (∀ a, (k0_off1010 v5 k0_t4 v36) a + S1.size a ≤ S16512.size a) ∧
  (∀ a, (k0_off1012 v5 k0_t4 v36) a + S1.size a ≤ S16512.size a) ∧
  (∀ a, (k0_off1014 v5 k0_t4 v36) a + S1.size a ≤ S16512.size a) ∧
  (∀ a, (k0_off1016 v5 k0_t4 v36) a + S1.size a ≤ S16512.size a) ∧
  (∀ a, (k0_off1018 v5 k0_t4 v36) a + S1.size a ≤ S16512.size a) ∧
  (∀ a, (k0_off1020 v5 k0_t4 v36) a + S1.size a ≤ S16512.size a) ∧
  (∀ a, (k0_off1022 v5 k0_t4 v36) a + S1.size a ≤ S16512.size a) ∧
  (∀ a, (k0_off1024 v5 k0_t4 v36) a + S1.size a ≤ S16512.size a) ∧
  (∀ a, (k0_off1026 v5 k0_t4 v36) a + S1.size a ≤ S16512.size a) ∧
  (∀ a, (k0_off1028 v5 k0_t4 v36) a + S1.size a ≤ S16512.size a)
def k0_chk388_4 (v5 : BitVec 32) (k0_t4 : Fin (k0_t4_loop v5).trips) (v36 : BitVec 32) : Prop :=
  (∀ (r : Fin 8), ∀ a, (k0_off1030 v5 k0_t4 v36 (BitVec.ofNat 32 r.val)) a + S1.size a ≤ S16512.size a) ∧
  (∀ (r : Fin 8), ∀ a, (k0_off1046 v5 k0_t4 v36 (BitVec.ofNat 32 r.val)) a + S1.size a ≤ S16512.size a) ∧
  (∀ (r : Fin 8), ∀ a, (k0_off1062 v5 k0_t4 v36 (BitVec.ofNat 32 r.val)) a + S1.size a ≤ S16512.size a) ∧
  (∀ (r : Fin 8), ∀ a, (k0_off1078 v5 k0_t4 v36 (BitVec.ofNat 32 r.val)) a + S1.size a ≤ S16512.size a) ∧
  (∀ (r : Fin 8), ∀ a, (k0_off1094 v5 k0_t4 v36 (BitVec.ofNat 32 r.val)) a + S1.size a ≤ S16512.size a) ∧
  (∀ (r : Fin 8), ∀ a, (k0_off1110 v5 k0_t4 v36 (BitVec.ofNat 32 r.val)) a + S1.size a ≤ S16512.size a) ∧
  (∀ (r : Fin 8), ∀ a, (k0_off1126 v5 k0_t4 v36 (BitVec.ofNat 32 r.val)) a + S1.size a ≤ S16512.size a) ∧
  (∀ (r : Fin 8), ∀ a, (k0_off1142 v5 k0_t4 v36 (BitVec.ofNat 32 r.val)) a + S1.size a ≤ S16512.size a) ∧
  (∀ (r : Fin 8), ∀ a, (k0_off1158 v5 k0_t4 v36 (BitVec.ofNat 32 r.val)) a + S1.size a ≤ S16512.size a) ∧
  (∀ (r : Fin 8), ∀ a, (k0_off1174 v5 k0_t4 v36 (BitVec.ofNat 32 r.val)) a + S1.size a ≤ S16512.size a) ∧
  (∀ (r : Fin 8), ∀ a, (k0_off1190 v5 k0_t4 v36 (BitVec.ofNat 32 r.val)) a + S1.size a ≤ S16512.size a) ∧
  (∀ (r : Fin 8), ∀ a, (k0_off1206 v5 k0_t4 v36 (BitVec.ofNat 32 r.val)) a + S1.size a ≤ S16512.size a) ∧
  (∀ (r : Fin 8), ∀ a, (k0_off1222 v5 k0_t4 v36 (BitVec.ofNat 32 r.val)) a + S1.size a ≤ S16512.size a) ∧
  (∀ (r : Fin 8), ∀ a, (k0_off1238 v5 k0_t4 v36 (BitVec.ofNat 32 r.val)) a + S1.size a ≤ S16512.size a) ∧
  (∀ (r : Fin 8), ∀ a, (k0_off1254 v5 k0_t4 v36 (BitVec.ofNat 32 r.val)) a + S1.size a ≤ S16512.size a) ∧
  (∀ (r : Fin 8), ∀ a, (k0_off1270 v5 k0_t4 v36 (BitVec.ofNat 32 r.val)) a + S1.size a ≤ S16512.size a)
def k0_chk388 (v5 : BitVec 32) (k0_t4 : Fin (k0_t4_loop v5).trips) (v36 : BitVec 32) : Prop :=
  k0_chk388_0 v5 k0_t4 v36 ∧
  k0_chk388_1 v5 k0_t4 v36 ∧
  k0_chk388_2 v5 k0_t4 v36 ∧
  k0_chk388_3 v5 k0_t4 v36 ∧
  k0_chk388_4 v5 k0_t4 v36
theorem k0_off774_inb : ∀ (v5 : BitVec 32) (k0_t4 : Fin (k0_t4_loop v5).trips) (v36 : BitVec 32) (k0_hw388 : k0_chk388 v5 k0_t4 v36), ∀ a, (k0_off774 v5 k0_t4 v36) a + S1.size a ≤ S16512.size a := fun v5 k0_t4 v36 k0_hw388 => k0_hw388.1.1
theorem k0_off776_inb : ∀ (v5 : BitVec 32) (k0_t4 : Fin (k0_t4_loop v5).trips) (v36 : BitVec 32) (k0_hw388 : k0_chk388 v5 k0_t4 v36), ∀ a, (k0_off776 v5 k0_t4 v36) a + S1.size a ≤ S16512.size a := fun v5 k0_t4 v36 k0_hw388 => k0_hw388.1.2.1
theorem k0_off778_inb : ∀ (v5 : BitVec 32) (k0_t4 : Fin (k0_t4_loop v5).trips) (v36 : BitVec 32) (k0_hw388 : k0_chk388 v5 k0_t4 v36), ∀ a, (k0_off778 v5 k0_t4 v36) a + S1.size a ≤ S16512.size a := fun v5 k0_t4 v36 k0_hw388 => k0_hw388.1.2.2.1
theorem k0_off780_inb : ∀ (v5 : BitVec 32) (k0_t4 : Fin (k0_t4_loop v5).trips) (v36 : BitVec 32) (k0_hw388 : k0_chk388 v5 k0_t4 v36), ∀ a, (k0_off780 v5 k0_t4 v36) a + S1.size a ≤ S16512.size a := fun v5 k0_t4 v36 k0_hw388 => k0_hw388.1.2.2.2.1
theorem k0_off782_inb : ∀ (v5 : BitVec 32) (k0_t4 : Fin (k0_t4_loop v5).trips) (v36 : BitVec 32) (k0_hw388 : k0_chk388 v5 k0_t4 v36), ∀ a, (k0_off782 v5 k0_t4 v36) a + S1.size a ≤ S16512.size a := fun v5 k0_t4 v36 k0_hw388 => k0_hw388.1.2.2.2.2.1
theorem k0_off784_inb : ∀ (v5 : BitVec 32) (k0_t4 : Fin (k0_t4_loop v5).trips) (v36 : BitVec 32) (k0_hw388 : k0_chk388 v5 k0_t4 v36), ∀ a, (k0_off784 v5 k0_t4 v36) a + S1.size a ≤ S16512.size a := fun v5 k0_t4 v36 k0_hw388 => k0_hw388.1.2.2.2.2.2.1
theorem k0_off786_inb : ∀ (v5 : BitVec 32) (k0_t4 : Fin (k0_t4_loop v5).trips) (v36 : BitVec 32) (k0_hw388 : k0_chk388 v5 k0_t4 v36), ∀ a, (k0_off786 v5 k0_t4 v36) a + S1.size a ≤ S16512.size a := fun v5 k0_t4 v36 k0_hw388 => k0_hw388.1.2.2.2.2.2.2.1
theorem k0_off788_inb : ∀ (v5 : BitVec 32) (k0_t4 : Fin (k0_t4_loop v5).trips) (v36 : BitVec 32) (k0_hw388 : k0_chk388 v5 k0_t4 v36), ∀ a, (k0_off788 v5 k0_t4 v36) a + S1.size a ≤ S16512.size a := fun v5 k0_t4 v36 k0_hw388 => k0_hw388.1.2.2.2.2.2.2.2.1
theorem k0_off790_inb : ∀ (v5 : BitVec 32) (k0_t4 : Fin (k0_t4_loop v5).trips) (v36 : BitVec 32) (k0_hw388 : k0_chk388 v5 k0_t4 v36), ∀ a, (k0_off790 v5 k0_t4 v36) a + S1.size a ≤ S16512.size a := fun v5 k0_t4 v36 k0_hw388 => k0_hw388.1.2.2.2.2.2.2.2.2.1
theorem k0_off792_inb : ∀ (v5 : BitVec 32) (k0_t4 : Fin (k0_t4_loop v5).trips) (v36 : BitVec 32) (k0_hw388 : k0_chk388 v5 k0_t4 v36), ∀ a, (k0_off792 v5 k0_t4 v36) a + S1.size a ≤ S16512.size a := fun v5 k0_t4 v36 k0_hw388 => k0_hw388.1.2.2.2.2.2.2.2.2.2.1
theorem k0_off794_inb : ∀ (v5 : BitVec 32) (k0_t4 : Fin (k0_t4_loop v5).trips) (v36 : BitVec 32) (k0_hw388 : k0_chk388 v5 k0_t4 v36), ∀ a, (k0_off794 v5 k0_t4 v36) a + S1.size a ≤ S16512.size a := fun v5 k0_t4 v36 k0_hw388 => k0_hw388.1.2.2.2.2.2.2.2.2.2.2.1
theorem k0_off796_inb : ∀ (v5 : BitVec 32) (k0_t4 : Fin (k0_t4_loop v5).trips) (v36 : BitVec 32) (k0_hw388 : k0_chk388 v5 k0_t4 v36), ∀ a, (k0_off796 v5 k0_t4 v36) a + S1.size a ≤ S16512.size a := fun v5 k0_t4 v36 k0_hw388 => k0_hw388.1.2.2.2.2.2.2.2.2.2.2.2.1
theorem k0_off798_inb : ∀ (v5 : BitVec 32) (k0_t4 : Fin (k0_t4_loop v5).trips) (v36 : BitVec 32) (k0_hw388 : k0_chk388 v5 k0_t4 v36), ∀ a, (k0_off798 v5 k0_t4 v36) a + S1.size a ≤ S16512.size a := fun v5 k0_t4 v36 k0_hw388 => k0_hw388.1.2.2.2.2.2.2.2.2.2.2.2.2.1
theorem k0_off800_inb : ∀ (v5 : BitVec 32) (k0_t4 : Fin (k0_t4_loop v5).trips) (v36 : BitVec 32) (k0_hw388 : k0_chk388 v5 k0_t4 v36), ∀ a, (k0_off800 v5 k0_t4 v36) a + S1.size a ≤ S16512.size a := fun v5 k0_t4 v36 k0_hw388 => k0_hw388.1.2.2.2.2.2.2.2.2.2.2.2.2.2.1
theorem k0_off802_inb : ∀ (v5 : BitVec 32) (k0_t4 : Fin (k0_t4_loop v5).trips) (v36 : BitVec 32) (k0_hw388 : k0_chk388 v5 k0_t4 v36), ∀ a, (k0_off802 v5 k0_t4 v36) a + S1.size a ≤ S16512.size a := fun v5 k0_t4 v36 k0_hw388 => k0_hw388.1.2.2.2.2.2.2.2.2.2.2.2.2.2.2.1
theorem k0_off804_inb : ∀ (v5 : BitVec 32) (k0_t4 : Fin (k0_t4_loop v5).trips) (v36 : BitVec 32) (k0_hw388 : k0_chk388 v5 k0_t4 v36), ∀ a, (k0_off804 v5 k0_t4 v36) a + S1.size a ≤ S16512.size a := fun v5 k0_t4 v36 k0_hw388 => k0_hw388.1.2.2.2.2.2.2.2.2.2.2.2.2.2.2.2.1
theorem k0_off806_inb : ∀ (v5 : BitVec 32) (k0_t4 : Fin (k0_t4_loop v5).trips) (v36 : BitVec 32) (k0_hw388 : k0_chk388 v5 k0_t4 v36), ∀ a, (k0_off806 v5 k0_t4 v36) a + S1.size a ≤ S16512.size a := fun v5 k0_t4 v36 k0_hw388 => k0_hw388.1.2.2.2.2.2.2.2.2.2.2.2.2.2.2.2.2.1
theorem k0_off808_inb : ∀ (v5 : BitVec 32) (k0_t4 : Fin (k0_t4_loop v5).trips) (v36 : BitVec 32) (k0_hw388 : k0_chk388 v5 k0_t4 v36), ∀ a, (k0_off808 v5 k0_t4 v36) a + S1.size a ≤ S16512.size a := fun v5 k0_t4 v36 k0_hw388 => k0_hw388.1.2.2.2.2.2.2.2.2.2.2.2.2.2.2.2.2.2.1
theorem k0_off810_inb : ∀ (v5 : BitVec 32) (k0_t4 : Fin (k0_t4_loop v5).trips) (v36 : BitVec 32) (k0_hw388 : k0_chk388 v5 k0_t4 v36), ∀ a, (k0_off810 v5 k0_t4 v36) a + S1.size a ≤ S16512.size a := fun v5 k0_t4 v36 k0_hw388 => k0_hw388.1.2.2.2.2.2.2.2.2.2.2.2.2.2.2.2.2.2.2.1
theorem k0_off812_inb : ∀ (v5 : BitVec 32) (k0_t4 : Fin (k0_t4_loop v5).trips) (v36 : BitVec 32) (k0_hw388 : k0_chk388 v5 k0_t4 v36), ∀ a, (k0_off812 v5 k0_t4 v36) a + S1.size a ≤ S16512.size a := fun v5 k0_t4 v36 k0_hw388 => k0_hw388.1.2.2.2.2.2.2.2.2.2.2.2.2.2.2.2.2.2.2.2.1
theorem k0_off814_inb : ∀ (v5 : BitVec 32) (k0_t4 : Fin (k0_t4_loop v5).trips) (v36 : BitVec 32) (k0_hw388 : k0_chk388 v5 k0_t4 v36), ∀ a, (k0_off814 v5 k0_t4 v36) a + S1.size a ≤ S16512.size a := fun v5 k0_t4 v36 k0_hw388 => k0_hw388.1.2.2.2.2.2.2.2.2.2.2.2.2.2.2.2.2.2.2.2.2.1
theorem k0_off816_inb : ∀ (v5 : BitVec 32) (k0_t4 : Fin (k0_t4_loop v5).trips) (v36 : BitVec 32) (k0_hw388 : k0_chk388 v5 k0_t4 v36), ∀ a, (k0_off816 v5 k0_t4 v36) a + S1.size a ≤ S16512.size a := fun v5 k0_t4 v36 k0_hw388 => k0_hw388.1.2.2.2.2.2.2.2.2.2.2.2.2.2.2.2.2.2.2.2.2.2.1
theorem k0_off818_inb : ∀ (v5 : BitVec 32) (k0_t4 : Fin (k0_t4_loop v5).trips) (v36 : BitVec 32) (k0_hw388 : k0_chk388 v5 k0_t4 v36), ∀ a, (k0_off818 v5 k0_t4 v36) a + S1.size a ≤ S16512.size a := fun v5 k0_t4 v36 k0_hw388 => k0_hw388.1.2.2.2.2.2.2.2.2.2.2.2.2.2.2.2.2.2.2.2.2.2.2.1
theorem k0_off820_inb : ∀ (v5 : BitVec 32) (k0_t4 : Fin (k0_t4_loop v5).trips) (v36 : BitVec 32) (k0_hw388 : k0_chk388 v5 k0_t4 v36), ∀ a, (k0_off820 v5 k0_t4 v36) a + S1.size a ≤ S16512.size a := fun v5 k0_t4 v36 k0_hw388 => k0_hw388.1.2.2.2.2.2.2.2.2.2.2.2.2.2.2.2.2.2.2.2.2.2.2.2.1
theorem k0_off822_inb : ∀ (v5 : BitVec 32) (k0_t4 : Fin (k0_t4_loop v5).trips) (v36 : BitVec 32) (k0_hw388 : k0_chk388 v5 k0_t4 v36), ∀ a, (k0_off822 v5 k0_t4 v36) a + S1.size a ≤ S16512.size a := fun v5 k0_t4 v36 k0_hw388 => k0_hw388.1.2.2.2.2.2.2.2.2.2.2.2.2.2.2.2.2.2.2.2.2.2.2.2.2.1
theorem k0_off824_inb : ∀ (v5 : BitVec 32) (k0_t4 : Fin (k0_t4_loop v5).trips) (v36 : BitVec 32) (k0_hw388 : k0_chk388 v5 k0_t4 v36), ∀ a, (k0_off824 v5 k0_t4 v36) a + S1.size a ≤ S16512.size a := fun v5 k0_t4 v36 k0_hw388 => k0_hw388.1.2.2.2.2.2.2.2.2.2.2.2.2.2.2.2.2.2.2.2.2.2.2.2.2.2.1
theorem k0_off826_inb : ∀ (v5 : BitVec 32) (k0_t4 : Fin (k0_t4_loop v5).trips) (v36 : BitVec 32) (k0_hw388 : k0_chk388 v5 k0_t4 v36), ∀ a, (k0_off826 v5 k0_t4 v36) a + S1.size a ≤ S16512.size a := fun v5 k0_t4 v36 k0_hw388 => k0_hw388.1.2.2.2.2.2.2.2.2.2.2.2.2.2.2.2.2.2.2.2.2.2.2.2.2.2.2.1
theorem k0_off828_inb : ∀ (v5 : BitVec 32) (k0_t4 : Fin (k0_t4_loop v5).trips) (v36 : BitVec 32) (k0_hw388 : k0_chk388 v5 k0_t4 v36), ∀ a, (k0_off828 v5 k0_t4 v36) a + S1.size a ≤ S16512.size a := fun v5 k0_t4 v36 k0_hw388 => k0_hw388.1.2.2.2.2.2.2.2.2.2.2.2.2.2.2.2.2.2.2.2.2.2.2.2.2.2.2.2.1
theorem k0_off830_inb : ∀ (v5 : BitVec 32) (k0_t4 : Fin (k0_t4_loop v5).trips) (v36 : BitVec 32) (k0_hw388 : k0_chk388 v5 k0_t4 v36), ∀ a, (k0_off830 v5 k0_t4 v36) a + S1.size a ≤ S16512.size a := fun v5 k0_t4 v36 k0_hw388 => k0_hw388.1.2.2.2.2.2.2.2.2.2.2.2.2.2.2.2.2.2.2.2.2.2.2.2.2.2.2.2.2.1
theorem k0_off832_inb : ∀ (v5 : BitVec 32) (k0_t4 : Fin (k0_t4_loop v5).trips) (v36 : BitVec 32) (k0_hw388 : k0_chk388 v5 k0_t4 v36), ∀ a, (k0_off832 v5 k0_t4 v36) a + S1.size a ≤ S16512.size a := fun v5 k0_t4 v36 k0_hw388 => k0_hw388.1.2.2.2.2.2.2.2.2.2.2.2.2.2.2.2.2.2.2.2.2.2.2.2.2.2.2.2.2.2.1
theorem k0_off834_inb : ∀ (v5 : BitVec 32) (k0_t4 : Fin (k0_t4_loop v5).trips) (v36 : BitVec 32) (k0_hw388 : k0_chk388 v5 k0_t4 v36), ∀ a, (k0_off834 v5 k0_t4 v36) a + S1.size a ≤ S16512.size a := fun v5 k0_t4 v36 k0_hw388 => k0_hw388.1.2.2.2.2.2.2.2.2.2.2.2.2.2.2.2.2.2.2.2.2.2.2.2.2.2.2.2.2.2.2.1
theorem k0_off836_inb : ∀ (v5 : BitVec 32) (k0_t4 : Fin (k0_t4_loop v5).trips) (v36 : BitVec 32) (k0_hw388 : k0_chk388 v5 k0_t4 v36), ∀ a, (k0_off836 v5 k0_t4 v36) a + S1.size a ≤ S16512.size a := fun v5 k0_t4 v36 k0_hw388 => k0_hw388.1.2.2.2.2.2.2.2.2.2.2.2.2.2.2.2.2.2.2.2.2.2.2.2.2.2.2.2.2.2.2.2
theorem k0_off838_inb : ∀ (v5 : BitVec 32) (k0_t4 : Fin (k0_t4_loop v5).trips) (v36 : BitVec 32) (k0_hw388 : k0_chk388 v5 k0_t4 v36), ∀ a, (k0_off838 v5 k0_t4 v36) a + S1.size a ≤ S16512.size a := fun v5 k0_t4 v36 k0_hw388 => k0_hw388.2.1.1
theorem k0_off840_inb : ∀ (v5 : BitVec 32) (k0_t4 : Fin (k0_t4_loop v5).trips) (v36 : BitVec 32) (k0_hw388 : k0_chk388 v5 k0_t4 v36), ∀ a, (k0_off840 v5 k0_t4 v36) a + S1.size a ≤ S16512.size a := fun v5 k0_t4 v36 k0_hw388 => k0_hw388.2.1.2.1
theorem k0_off842_inb : ∀ (v5 : BitVec 32) (k0_t4 : Fin (k0_t4_loop v5).trips) (v36 : BitVec 32) (k0_hw388 : k0_chk388 v5 k0_t4 v36), ∀ a, (k0_off842 v5 k0_t4 v36) a + S1.size a ≤ S16512.size a := fun v5 k0_t4 v36 k0_hw388 => k0_hw388.2.1.2.2.1
theorem k0_off844_inb : ∀ (v5 : BitVec 32) (k0_t4 : Fin (k0_t4_loop v5).trips) (v36 : BitVec 32) (k0_hw388 : k0_chk388 v5 k0_t4 v36), ∀ a, (k0_off844 v5 k0_t4 v36) a + S1.size a ≤ S16512.size a := fun v5 k0_t4 v36 k0_hw388 => k0_hw388.2.1.2.2.2.1
theorem k0_off846_inb : ∀ (v5 : BitVec 32) (k0_t4 : Fin (k0_t4_loop v5).trips) (v36 : BitVec 32) (k0_hw388 : k0_chk388 v5 k0_t4 v36), ∀ a, (k0_off846 v5 k0_t4 v36) a + S1.size a ≤ S16512.size a := fun v5 k0_t4 v36 k0_hw388 => k0_hw388.2.1.2.2.2.2.1
theorem k0_off848_inb : ∀ (v5 : BitVec 32) (k0_t4 : Fin (k0_t4_loop v5).trips) (v36 : BitVec 32) (k0_hw388 : k0_chk388 v5 k0_t4 v36), ∀ a, (k0_off848 v5 k0_t4 v36) a + S1.size a ≤ S16512.size a := fun v5 k0_t4 v36 k0_hw388 => k0_hw388.2.1.2.2.2.2.2.1
theorem k0_off850_inb : ∀ (v5 : BitVec 32) (k0_t4 : Fin (k0_t4_loop v5).trips) (v36 : BitVec 32) (k0_hw388 : k0_chk388 v5 k0_t4 v36), ∀ a, (k0_off850 v5 k0_t4 v36) a + S1.size a ≤ S16512.size a := fun v5 k0_t4 v36 k0_hw388 => k0_hw388.2.1.2.2.2.2.2.2.1
theorem k0_off852_inb : ∀ (v5 : BitVec 32) (k0_t4 : Fin (k0_t4_loop v5).trips) (v36 : BitVec 32) (k0_hw388 : k0_chk388 v5 k0_t4 v36), ∀ a, (k0_off852 v5 k0_t4 v36) a + S1.size a ≤ S16512.size a := fun v5 k0_t4 v36 k0_hw388 => k0_hw388.2.1.2.2.2.2.2.2.2.1
theorem k0_off854_inb : ∀ (v5 : BitVec 32) (k0_t4 : Fin (k0_t4_loop v5).trips) (v36 : BitVec 32) (k0_hw388 : k0_chk388 v5 k0_t4 v36), ∀ a, (k0_off854 v5 k0_t4 v36) a + S1.size a ≤ S16512.size a := fun v5 k0_t4 v36 k0_hw388 => k0_hw388.2.1.2.2.2.2.2.2.2.2.1
theorem k0_off856_inb : ∀ (v5 : BitVec 32) (k0_t4 : Fin (k0_t4_loop v5).trips) (v36 : BitVec 32) (k0_hw388 : k0_chk388 v5 k0_t4 v36), ∀ a, (k0_off856 v5 k0_t4 v36) a + S1.size a ≤ S16512.size a := fun v5 k0_t4 v36 k0_hw388 => k0_hw388.2.1.2.2.2.2.2.2.2.2.2.1
theorem k0_off858_inb : ∀ (v5 : BitVec 32) (k0_t4 : Fin (k0_t4_loop v5).trips) (v36 : BitVec 32) (k0_hw388 : k0_chk388 v5 k0_t4 v36), ∀ a, (k0_off858 v5 k0_t4 v36) a + S1.size a ≤ S16512.size a := fun v5 k0_t4 v36 k0_hw388 => k0_hw388.2.1.2.2.2.2.2.2.2.2.2.2.1
theorem k0_off860_inb : ∀ (v5 : BitVec 32) (k0_t4 : Fin (k0_t4_loop v5).trips) (v36 : BitVec 32) (k0_hw388 : k0_chk388 v5 k0_t4 v36), ∀ a, (k0_off860 v5 k0_t4 v36) a + S1.size a ≤ S16512.size a := fun v5 k0_t4 v36 k0_hw388 => k0_hw388.2.1.2.2.2.2.2.2.2.2.2.2.2.1
theorem k0_off862_inb : ∀ (v5 : BitVec 32) (k0_t4 : Fin (k0_t4_loop v5).trips) (v36 : BitVec 32) (k0_hw388 : k0_chk388 v5 k0_t4 v36), ∀ a, (k0_off862 v5 k0_t4 v36) a + S1.size a ≤ S16512.size a := fun v5 k0_t4 v36 k0_hw388 => k0_hw388.2.1.2.2.2.2.2.2.2.2.2.2.2.2.1
theorem k0_off864_inb : ∀ (v5 : BitVec 32) (k0_t4 : Fin (k0_t4_loop v5).trips) (v36 : BitVec 32) (k0_hw388 : k0_chk388 v5 k0_t4 v36), ∀ a, (k0_off864 v5 k0_t4 v36) a + S1.size a ≤ S16512.size a := fun v5 k0_t4 v36 k0_hw388 => k0_hw388.2.1.2.2.2.2.2.2.2.2.2.2.2.2.2.1
theorem k0_off866_inb : ∀ (v5 : BitVec 32) (k0_t4 : Fin (k0_t4_loop v5).trips) (v36 : BitVec 32) (k0_hw388 : k0_chk388 v5 k0_t4 v36), ∀ a, (k0_off866 v5 k0_t4 v36) a + S1.size a ≤ S16512.size a := fun v5 k0_t4 v36 k0_hw388 => k0_hw388.2.1.2.2.2.2.2.2.2.2.2.2.2.2.2.2.1
theorem k0_off868_inb : ∀ (v5 : BitVec 32) (k0_t4 : Fin (k0_t4_loop v5).trips) (v36 : BitVec 32) (k0_hw388 : k0_chk388 v5 k0_t4 v36), ∀ a, (k0_off868 v5 k0_t4 v36) a + S1.size a ≤ S16512.size a := fun v5 k0_t4 v36 k0_hw388 => k0_hw388.2.1.2.2.2.2.2.2.2.2.2.2.2.2.2.2.2.1
theorem k0_off870_inb : ∀ (v5 : BitVec 32) (k0_t4 : Fin (k0_t4_loop v5).trips) (v36 : BitVec 32) (k0_hw388 : k0_chk388 v5 k0_t4 v36), ∀ a, (k0_off870 v5 k0_t4 v36) a + S1.size a ≤ S16512.size a := fun v5 k0_t4 v36 k0_hw388 => k0_hw388.2.1.2.2.2.2.2.2.2.2.2.2.2.2.2.2.2.2.1
theorem k0_off872_inb : ∀ (v5 : BitVec 32) (k0_t4 : Fin (k0_t4_loop v5).trips) (v36 : BitVec 32) (k0_hw388 : k0_chk388 v5 k0_t4 v36), ∀ a, (k0_off872 v5 k0_t4 v36) a + S1.size a ≤ S16512.size a := fun v5 k0_t4 v36 k0_hw388 => k0_hw388.2.1.2.2.2.2.2.2.2.2.2.2.2.2.2.2.2.2.2.1
theorem k0_off874_inb : ∀ (v5 : BitVec 32) (k0_t4 : Fin (k0_t4_loop v5).trips) (v36 : BitVec 32) (k0_hw388 : k0_chk388 v5 k0_t4 v36), ∀ a, (k0_off874 v5 k0_t4 v36) a + S1.size a ≤ S16512.size a := fun v5 k0_t4 v36 k0_hw388 => k0_hw388.2.1.2.2.2.2.2.2.2.2.2.2.2.2.2.2.2.2.2.2.1
theorem k0_off876_inb : ∀ (v5 : BitVec 32) (k0_t4 : Fin (k0_t4_loop v5).trips) (v36 : BitVec 32) (k0_hw388 : k0_chk388 v5 k0_t4 v36), ∀ a, (k0_off876 v5 k0_t4 v36) a + S1.size a ≤ S16512.size a := fun v5 k0_t4 v36 k0_hw388 => k0_hw388.2.1.2.2.2.2.2.2.2.2.2.2.2.2.2.2.2.2.2.2.2.1
theorem k0_off878_inb : ∀ (v5 : BitVec 32) (k0_t4 : Fin (k0_t4_loop v5).trips) (v36 : BitVec 32) (k0_hw388 : k0_chk388 v5 k0_t4 v36), ∀ a, (k0_off878 v5 k0_t4 v36) a + S1.size a ≤ S16512.size a := fun v5 k0_t4 v36 k0_hw388 => k0_hw388.2.1.2.2.2.2.2.2.2.2.2.2.2.2.2.2.2.2.2.2.2.2.1
theorem k0_off880_inb : ∀ (v5 : BitVec 32) (k0_t4 : Fin (k0_t4_loop v5).trips) (v36 : BitVec 32) (k0_hw388 : k0_chk388 v5 k0_t4 v36), ∀ a, (k0_off880 v5 k0_t4 v36) a + S1.size a ≤ S16512.size a := fun v5 k0_t4 v36 k0_hw388 => k0_hw388.2.1.2.2.2.2.2.2.2.2.2.2.2.2.2.2.2.2.2.2.2.2.2.1
theorem k0_off882_inb : ∀ (v5 : BitVec 32) (k0_t4 : Fin (k0_t4_loop v5).trips) (v36 : BitVec 32) (k0_hw388 : k0_chk388 v5 k0_t4 v36), ∀ a, (k0_off882 v5 k0_t4 v36) a + S1.size a ≤ S16512.size a := fun v5 k0_t4 v36 k0_hw388 => k0_hw388.2.1.2.2.2.2.2.2.2.2.2.2.2.2.2.2.2.2.2.2.2.2.2.2.1
theorem k0_off884_inb : ∀ (v5 : BitVec 32) (k0_t4 : Fin (k0_t4_loop v5).trips) (v36 : BitVec 32) (k0_hw388 : k0_chk388 v5 k0_t4 v36), ∀ a, (k0_off884 v5 k0_t4 v36) a + S1.size a ≤ S16512.size a := fun v5 k0_t4 v36 k0_hw388 => k0_hw388.2.1.2.2.2.2.2.2.2.2.2.2.2.2.2.2.2.2.2.2.2.2.2.2.2.1
theorem k0_off886_inb : ∀ (v5 : BitVec 32) (k0_t4 : Fin (k0_t4_loop v5).trips) (v36 : BitVec 32) (k0_hw388 : k0_chk388 v5 k0_t4 v36), ∀ a, (k0_off886 v5 k0_t4 v36) a + S1.size a ≤ S16512.size a := fun v5 k0_t4 v36 k0_hw388 => k0_hw388.2.1.2.2.2.2.2.2.2.2.2.2.2.2.2.2.2.2.2.2.2.2.2.2.2.2.1
theorem k0_off888_inb : ∀ (v5 : BitVec 32) (k0_t4 : Fin (k0_t4_loop v5).trips) (v36 : BitVec 32) (k0_hw388 : k0_chk388 v5 k0_t4 v36), ∀ a, (k0_off888 v5 k0_t4 v36) a + S1.size a ≤ S16512.size a := fun v5 k0_t4 v36 k0_hw388 => k0_hw388.2.1.2.2.2.2.2.2.2.2.2.2.2.2.2.2.2.2.2.2.2.2.2.2.2.2.2.1
theorem k0_off890_inb : ∀ (v5 : BitVec 32) (k0_t4 : Fin (k0_t4_loop v5).trips) (v36 : BitVec 32) (k0_hw388 : k0_chk388 v5 k0_t4 v36), ∀ a, (k0_off890 v5 k0_t4 v36) a + S1.size a ≤ S16512.size a := fun v5 k0_t4 v36 k0_hw388 => k0_hw388.2.1.2.2.2.2.2.2.2.2.2.2.2.2.2.2.2.2.2.2.2.2.2.2.2.2.2.2.1
theorem k0_off892_inb : ∀ (v5 : BitVec 32) (k0_t4 : Fin (k0_t4_loop v5).trips) (v36 : BitVec 32) (k0_hw388 : k0_chk388 v5 k0_t4 v36), ∀ a, (k0_off892 v5 k0_t4 v36) a + S1.size a ≤ S16512.size a := fun v5 k0_t4 v36 k0_hw388 => k0_hw388.2.1.2.2.2.2.2.2.2.2.2.2.2.2.2.2.2.2.2.2.2.2.2.2.2.2.2.2.2.1
theorem k0_off894_inb : ∀ (v5 : BitVec 32) (k0_t4 : Fin (k0_t4_loop v5).trips) (v36 : BitVec 32) (k0_hw388 : k0_chk388 v5 k0_t4 v36), ∀ a, (k0_off894 v5 k0_t4 v36) a + S1.size a ≤ S16512.size a := fun v5 k0_t4 v36 k0_hw388 => k0_hw388.2.1.2.2.2.2.2.2.2.2.2.2.2.2.2.2.2.2.2.2.2.2.2.2.2.2.2.2.2.2.1
theorem k0_off896_inb : ∀ (v5 : BitVec 32) (k0_t4 : Fin (k0_t4_loop v5).trips) (v36 : BitVec 32) (k0_hw388 : k0_chk388 v5 k0_t4 v36), ∀ a, (k0_off896 v5 k0_t4 v36) a + S1.size a ≤ S16512.size a := fun v5 k0_t4 v36 k0_hw388 => k0_hw388.2.1.2.2.2.2.2.2.2.2.2.2.2.2.2.2.2.2.2.2.2.2.2.2.2.2.2.2.2.2.2.1
theorem k0_off898_inb : ∀ (v5 : BitVec 32) (k0_t4 : Fin (k0_t4_loop v5).trips) (v36 : BitVec 32) (k0_hw388 : k0_chk388 v5 k0_t4 v36), ∀ a, (k0_off898 v5 k0_t4 v36) a + S1.size a ≤ S16512.size a := fun v5 k0_t4 v36 k0_hw388 => k0_hw388.2.1.2.2.2.2.2.2.2.2.2.2.2.2.2.2.2.2.2.2.2.2.2.2.2.2.2.2.2.2.2.2.1
theorem k0_off900_inb : ∀ (v5 : BitVec 32) (k0_t4 : Fin (k0_t4_loop v5).trips) (v36 : BitVec 32) (k0_hw388 : k0_chk388 v5 k0_t4 v36), ∀ a, (k0_off900 v5 k0_t4 v36) a + S1.size a ≤ S16512.size a := fun v5 k0_t4 v36 k0_hw388 => k0_hw388.2.1.2.2.2.2.2.2.2.2.2.2.2.2.2.2.2.2.2.2.2.2.2.2.2.2.2.2.2.2.2.2.2
theorem k0_off902_inb : ∀ (v5 : BitVec 32) (k0_t4 : Fin (k0_t4_loop v5).trips) (v36 : BitVec 32) (k0_hw388 : k0_chk388 v5 k0_t4 v36), ∀ a, (k0_off902 v5 k0_t4 v36) a + S1.size a ≤ S16512.size a := fun v5 k0_t4 v36 k0_hw388 => k0_hw388.2.2.1.1
theorem k0_off904_inb : ∀ (v5 : BitVec 32) (k0_t4 : Fin (k0_t4_loop v5).trips) (v36 : BitVec 32) (k0_hw388 : k0_chk388 v5 k0_t4 v36), ∀ a, (k0_off904 v5 k0_t4 v36) a + S1.size a ≤ S16512.size a := fun v5 k0_t4 v36 k0_hw388 => k0_hw388.2.2.1.2.1
theorem k0_off906_inb : ∀ (v5 : BitVec 32) (k0_t4 : Fin (k0_t4_loop v5).trips) (v36 : BitVec 32) (k0_hw388 : k0_chk388 v5 k0_t4 v36), ∀ a, (k0_off906 v5 k0_t4 v36) a + S1.size a ≤ S16512.size a := fun v5 k0_t4 v36 k0_hw388 => k0_hw388.2.2.1.2.2.1
theorem k0_off908_inb : ∀ (v5 : BitVec 32) (k0_t4 : Fin (k0_t4_loop v5).trips) (v36 : BitVec 32) (k0_hw388 : k0_chk388 v5 k0_t4 v36), ∀ a, (k0_off908 v5 k0_t4 v36) a + S1.size a ≤ S16512.size a := fun v5 k0_t4 v36 k0_hw388 => k0_hw388.2.2.1.2.2.2.1
theorem k0_off910_inb : ∀ (v5 : BitVec 32) (k0_t4 : Fin (k0_t4_loop v5).trips) (v36 : BitVec 32) (k0_hw388 : k0_chk388 v5 k0_t4 v36), ∀ a, (k0_off910 v5 k0_t4 v36) a + S1.size a ≤ S16512.size a := fun v5 k0_t4 v36 k0_hw388 => k0_hw388.2.2.1.2.2.2.2.1
theorem k0_off912_inb : ∀ (v5 : BitVec 32) (k0_t4 : Fin (k0_t4_loop v5).trips) (v36 : BitVec 32) (k0_hw388 : k0_chk388 v5 k0_t4 v36), ∀ a, (k0_off912 v5 k0_t4 v36) a + S1.size a ≤ S16512.size a := fun v5 k0_t4 v36 k0_hw388 => k0_hw388.2.2.1.2.2.2.2.2.1
theorem k0_off914_inb : ∀ (v5 : BitVec 32) (k0_t4 : Fin (k0_t4_loop v5).trips) (v36 : BitVec 32) (k0_hw388 : k0_chk388 v5 k0_t4 v36), ∀ a, (k0_off914 v5 k0_t4 v36) a + S1.size a ≤ S16512.size a := fun v5 k0_t4 v36 k0_hw388 => k0_hw388.2.2.1.2.2.2.2.2.2.1
theorem k0_off916_inb : ∀ (v5 : BitVec 32) (k0_t4 : Fin (k0_t4_loop v5).trips) (v36 : BitVec 32) (k0_hw388 : k0_chk388 v5 k0_t4 v36), ∀ a, (k0_off916 v5 k0_t4 v36) a + S1.size a ≤ S16512.size a := fun v5 k0_t4 v36 k0_hw388 => k0_hw388.2.2.1.2.2.2.2.2.2.2.1
theorem k0_off918_inb : ∀ (v5 : BitVec 32) (k0_t4 : Fin (k0_t4_loop v5).trips) (v36 : BitVec 32) (k0_hw388 : k0_chk388 v5 k0_t4 v36), ∀ a, (k0_off918 v5 k0_t4 v36) a + S1.size a ≤ S16512.size a := fun v5 k0_t4 v36 k0_hw388 => k0_hw388.2.2.1.2.2.2.2.2.2.2.2.1
theorem k0_off920_inb : ∀ (v5 : BitVec 32) (k0_t4 : Fin (k0_t4_loop v5).trips) (v36 : BitVec 32) (k0_hw388 : k0_chk388 v5 k0_t4 v36), ∀ a, (k0_off920 v5 k0_t4 v36) a + S1.size a ≤ S16512.size a := fun v5 k0_t4 v36 k0_hw388 => k0_hw388.2.2.1.2.2.2.2.2.2.2.2.2.1
theorem k0_off922_inb : ∀ (v5 : BitVec 32) (k0_t4 : Fin (k0_t4_loop v5).trips) (v36 : BitVec 32) (k0_hw388 : k0_chk388 v5 k0_t4 v36), ∀ a, (k0_off922 v5 k0_t4 v36) a + S1.size a ≤ S16512.size a := fun v5 k0_t4 v36 k0_hw388 => k0_hw388.2.2.1.2.2.2.2.2.2.2.2.2.2.1
theorem k0_off924_inb : ∀ (v5 : BitVec 32) (k0_t4 : Fin (k0_t4_loop v5).trips) (v36 : BitVec 32) (k0_hw388 : k0_chk388 v5 k0_t4 v36), ∀ a, (k0_off924 v5 k0_t4 v36) a + S1.size a ≤ S16512.size a := fun v5 k0_t4 v36 k0_hw388 => k0_hw388.2.2.1.2.2.2.2.2.2.2.2.2.2.2.1
theorem k0_off926_inb : ∀ (v5 : BitVec 32) (k0_t4 : Fin (k0_t4_loop v5).trips) (v36 : BitVec 32) (k0_hw388 : k0_chk388 v5 k0_t4 v36), ∀ a, (k0_off926 v5 k0_t4 v36) a + S1.size a ≤ S16512.size a := fun v5 k0_t4 v36 k0_hw388 => k0_hw388.2.2.1.2.2.2.2.2.2.2.2.2.2.2.2.1
theorem k0_off928_inb : ∀ (v5 : BitVec 32) (k0_t4 : Fin (k0_t4_loop v5).trips) (v36 : BitVec 32) (k0_hw388 : k0_chk388 v5 k0_t4 v36), ∀ a, (k0_off928 v5 k0_t4 v36) a + S1.size a ≤ S16512.size a := fun v5 k0_t4 v36 k0_hw388 => k0_hw388.2.2.1.2.2.2.2.2.2.2.2.2.2.2.2.2.1
theorem k0_off930_inb : ∀ (v5 : BitVec 32) (k0_t4 : Fin (k0_t4_loop v5).trips) (v36 : BitVec 32) (k0_hw388 : k0_chk388 v5 k0_t4 v36), ∀ a, (k0_off930 v5 k0_t4 v36) a + S1.size a ≤ S16512.size a := fun v5 k0_t4 v36 k0_hw388 => k0_hw388.2.2.1.2.2.2.2.2.2.2.2.2.2.2.2.2.2.1
theorem k0_off932_inb : ∀ (v5 : BitVec 32) (k0_t4 : Fin (k0_t4_loop v5).trips) (v36 : BitVec 32) (k0_hw388 : k0_chk388 v5 k0_t4 v36), ∀ a, (k0_off932 v5 k0_t4 v36) a + S1.size a ≤ S16512.size a := fun v5 k0_t4 v36 k0_hw388 => k0_hw388.2.2.1.2.2.2.2.2.2.2.2.2.2.2.2.2.2.2.1
theorem k0_off934_inb : ∀ (v5 : BitVec 32) (k0_t4 : Fin (k0_t4_loop v5).trips) (v36 : BitVec 32) (k0_hw388 : k0_chk388 v5 k0_t4 v36), ∀ a, (k0_off934 v5 k0_t4 v36) a + S1.size a ≤ S16512.size a := fun v5 k0_t4 v36 k0_hw388 => k0_hw388.2.2.1.2.2.2.2.2.2.2.2.2.2.2.2.2.2.2.2.1
theorem k0_off936_inb : ∀ (v5 : BitVec 32) (k0_t4 : Fin (k0_t4_loop v5).trips) (v36 : BitVec 32) (k0_hw388 : k0_chk388 v5 k0_t4 v36), ∀ a, (k0_off936 v5 k0_t4 v36) a + S1.size a ≤ S16512.size a := fun v5 k0_t4 v36 k0_hw388 => k0_hw388.2.2.1.2.2.2.2.2.2.2.2.2.2.2.2.2.2.2.2.2.1
theorem k0_off938_inb : ∀ (v5 : BitVec 32) (k0_t4 : Fin (k0_t4_loop v5).trips) (v36 : BitVec 32) (k0_hw388 : k0_chk388 v5 k0_t4 v36), ∀ a, (k0_off938 v5 k0_t4 v36) a + S1.size a ≤ S16512.size a := fun v5 k0_t4 v36 k0_hw388 => k0_hw388.2.2.1.2.2.2.2.2.2.2.2.2.2.2.2.2.2.2.2.2.2.1
theorem k0_off940_inb : ∀ (v5 : BitVec 32) (k0_t4 : Fin (k0_t4_loop v5).trips) (v36 : BitVec 32) (k0_hw388 : k0_chk388 v5 k0_t4 v36), ∀ a, (k0_off940 v5 k0_t4 v36) a + S1.size a ≤ S16512.size a := fun v5 k0_t4 v36 k0_hw388 => k0_hw388.2.2.1.2.2.2.2.2.2.2.2.2.2.2.2.2.2.2.2.2.2.2.1
theorem k0_off942_inb : ∀ (v5 : BitVec 32) (k0_t4 : Fin (k0_t4_loop v5).trips) (v36 : BitVec 32) (k0_hw388 : k0_chk388 v5 k0_t4 v36), ∀ a, (k0_off942 v5 k0_t4 v36) a + S1.size a ≤ S16512.size a := fun v5 k0_t4 v36 k0_hw388 => k0_hw388.2.2.1.2.2.2.2.2.2.2.2.2.2.2.2.2.2.2.2.2.2.2.2.1
theorem k0_off944_inb : ∀ (v5 : BitVec 32) (k0_t4 : Fin (k0_t4_loop v5).trips) (v36 : BitVec 32) (k0_hw388 : k0_chk388 v5 k0_t4 v36), ∀ a, (k0_off944 v5 k0_t4 v36) a + S1.size a ≤ S16512.size a := fun v5 k0_t4 v36 k0_hw388 => k0_hw388.2.2.1.2.2.2.2.2.2.2.2.2.2.2.2.2.2.2.2.2.2.2.2.2.1
theorem k0_off946_inb : ∀ (v5 : BitVec 32) (k0_t4 : Fin (k0_t4_loop v5).trips) (v36 : BitVec 32) (k0_hw388 : k0_chk388 v5 k0_t4 v36), ∀ a, (k0_off946 v5 k0_t4 v36) a + S1.size a ≤ S16512.size a := fun v5 k0_t4 v36 k0_hw388 => k0_hw388.2.2.1.2.2.2.2.2.2.2.2.2.2.2.2.2.2.2.2.2.2.2.2.2.2.1
theorem k0_off948_inb : ∀ (v5 : BitVec 32) (k0_t4 : Fin (k0_t4_loop v5).trips) (v36 : BitVec 32) (k0_hw388 : k0_chk388 v5 k0_t4 v36), ∀ a, (k0_off948 v5 k0_t4 v36) a + S1.size a ≤ S16512.size a := fun v5 k0_t4 v36 k0_hw388 => k0_hw388.2.2.1.2.2.2.2.2.2.2.2.2.2.2.2.2.2.2.2.2.2.2.2.2.2.2.1
theorem k0_off950_inb : ∀ (v5 : BitVec 32) (k0_t4 : Fin (k0_t4_loop v5).trips) (v36 : BitVec 32) (k0_hw388 : k0_chk388 v5 k0_t4 v36), ∀ a, (k0_off950 v5 k0_t4 v36) a + S1.size a ≤ S16512.size a := fun v5 k0_t4 v36 k0_hw388 => k0_hw388.2.2.1.2.2.2.2.2.2.2.2.2.2.2.2.2.2.2.2.2.2.2.2.2.2.2.2.1
theorem k0_off952_inb : ∀ (v5 : BitVec 32) (k0_t4 : Fin (k0_t4_loop v5).trips) (v36 : BitVec 32) (k0_hw388 : k0_chk388 v5 k0_t4 v36), ∀ a, (k0_off952 v5 k0_t4 v36) a + S1.size a ≤ S16512.size a := fun v5 k0_t4 v36 k0_hw388 => k0_hw388.2.2.1.2.2.2.2.2.2.2.2.2.2.2.2.2.2.2.2.2.2.2.2.2.2.2.2.2.1
theorem k0_off954_inb : ∀ (v5 : BitVec 32) (k0_t4 : Fin (k0_t4_loop v5).trips) (v36 : BitVec 32) (k0_hw388 : k0_chk388 v5 k0_t4 v36), ∀ a, (k0_off954 v5 k0_t4 v36) a + S1.size a ≤ S16512.size a := fun v5 k0_t4 v36 k0_hw388 => k0_hw388.2.2.1.2.2.2.2.2.2.2.2.2.2.2.2.2.2.2.2.2.2.2.2.2.2.2.2.2.2.1
theorem k0_off956_inb : ∀ (v5 : BitVec 32) (k0_t4 : Fin (k0_t4_loop v5).trips) (v36 : BitVec 32) (k0_hw388 : k0_chk388 v5 k0_t4 v36), ∀ a, (k0_off956 v5 k0_t4 v36) a + S1.size a ≤ S16512.size a := fun v5 k0_t4 v36 k0_hw388 => k0_hw388.2.2.1.2.2.2.2.2.2.2.2.2.2.2.2.2.2.2.2.2.2.2.2.2.2.2.2.2.2.2.1
theorem k0_off958_inb : ∀ (v5 : BitVec 32) (k0_t4 : Fin (k0_t4_loop v5).trips) (v36 : BitVec 32) (k0_hw388 : k0_chk388 v5 k0_t4 v36), ∀ a, (k0_off958 v5 k0_t4 v36) a + S1.size a ≤ S16512.size a := fun v5 k0_t4 v36 k0_hw388 => k0_hw388.2.2.1.2.2.2.2.2.2.2.2.2.2.2.2.2.2.2.2.2.2.2.2.2.2.2.2.2.2.2.2.1
theorem k0_off960_inb : ∀ (v5 : BitVec 32) (k0_t4 : Fin (k0_t4_loop v5).trips) (v36 : BitVec 32) (k0_hw388 : k0_chk388 v5 k0_t4 v36), ∀ a, (k0_off960 v5 k0_t4 v36) a + S1.size a ≤ S16512.size a := fun v5 k0_t4 v36 k0_hw388 => k0_hw388.2.2.1.2.2.2.2.2.2.2.2.2.2.2.2.2.2.2.2.2.2.2.2.2.2.2.2.2.2.2.2.2.1
theorem k0_off962_inb : ∀ (v5 : BitVec 32) (k0_t4 : Fin (k0_t4_loop v5).trips) (v36 : BitVec 32) (k0_hw388 : k0_chk388 v5 k0_t4 v36), ∀ a, (k0_off962 v5 k0_t4 v36) a + S1.size a ≤ S16512.size a := fun v5 k0_t4 v36 k0_hw388 => k0_hw388.2.2.1.2.2.2.2.2.2.2.2.2.2.2.2.2.2.2.2.2.2.2.2.2.2.2.2.2.2.2.2.2.2.1
theorem k0_off964_inb : ∀ (v5 : BitVec 32) (k0_t4 : Fin (k0_t4_loop v5).trips) (v36 : BitVec 32) (k0_hw388 : k0_chk388 v5 k0_t4 v36), ∀ a, (k0_off964 v5 k0_t4 v36) a + S1.size a ≤ S16512.size a := fun v5 k0_t4 v36 k0_hw388 => k0_hw388.2.2.1.2.2.2.2.2.2.2.2.2.2.2.2.2.2.2.2.2.2.2.2.2.2.2.2.2.2.2.2.2.2.2
theorem k0_off966_inb : ∀ (v5 : BitVec 32) (k0_t4 : Fin (k0_t4_loop v5).trips) (v36 : BitVec 32) (k0_hw388 : k0_chk388 v5 k0_t4 v36), ∀ a, (k0_off966 v5 k0_t4 v36) a + S1.size a ≤ S16512.size a := fun v5 k0_t4 v36 k0_hw388 => k0_hw388.2.2.2.1.1
theorem k0_off968_inb : ∀ (v5 : BitVec 32) (k0_t4 : Fin (k0_t4_loop v5).trips) (v36 : BitVec 32) (k0_hw388 : k0_chk388 v5 k0_t4 v36), ∀ a, (k0_off968 v5 k0_t4 v36) a + S1.size a ≤ S16512.size a := fun v5 k0_t4 v36 k0_hw388 => k0_hw388.2.2.2.1.2.1
theorem k0_off970_inb : ∀ (v5 : BitVec 32) (k0_t4 : Fin (k0_t4_loop v5).trips) (v36 : BitVec 32) (k0_hw388 : k0_chk388 v5 k0_t4 v36), ∀ a, (k0_off970 v5 k0_t4 v36) a + S1.size a ≤ S16512.size a := fun v5 k0_t4 v36 k0_hw388 => k0_hw388.2.2.2.1.2.2.1
theorem k0_off972_inb : ∀ (v5 : BitVec 32) (k0_t4 : Fin (k0_t4_loop v5).trips) (v36 : BitVec 32) (k0_hw388 : k0_chk388 v5 k0_t4 v36), ∀ a, (k0_off972 v5 k0_t4 v36) a + S1.size a ≤ S16512.size a := fun v5 k0_t4 v36 k0_hw388 => k0_hw388.2.2.2.1.2.2.2.1
theorem k0_off974_inb : ∀ (v5 : BitVec 32) (k0_t4 : Fin (k0_t4_loop v5).trips) (v36 : BitVec 32) (k0_hw388 : k0_chk388 v5 k0_t4 v36), ∀ a, (k0_off974 v5 k0_t4 v36) a + S1.size a ≤ S16512.size a := fun v5 k0_t4 v36 k0_hw388 => k0_hw388.2.2.2.1.2.2.2.2.1
theorem k0_off976_inb : ∀ (v5 : BitVec 32) (k0_t4 : Fin (k0_t4_loop v5).trips) (v36 : BitVec 32) (k0_hw388 : k0_chk388 v5 k0_t4 v36), ∀ a, (k0_off976 v5 k0_t4 v36) a + S1.size a ≤ S16512.size a := fun v5 k0_t4 v36 k0_hw388 => k0_hw388.2.2.2.1.2.2.2.2.2.1
theorem k0_off978_inb : ∀ (v5 : BitVec 32) (k0_t4 : Fin (k0_t4_loop v5).trips) (v36 : BitVec 32) (k0_hw388 : k0_chk388 v5 k0_t4 v36), ∀ a, (k0_off978 v5 k0_t4 v36) a + S1.size a ≤ S16512.size a := fun v5 k0_t4 v36 k0_hw388 => k0_hw388.2.2.2.1.2.2.2.2.2.2.1
theorem k0_off980_inb : ∀ (v5 : BitVec 32) (k0_t4 : Fin (k0_t4_loop v5).trips) (v36 : BitVec 32) (k0_hw388 : k0_chk388 v5 k0_t4 v36), ∀ a, (k0_off980 v5 k0_t4 v36) a + S1.size a ≤ S16512.size a := fun v5 k0_t4 v36 k0_hw388 => k0_hw388.2.2.2.1.2.2.2.2.2.2.2.1
theorem k0_off982_inb : ∀ (v5 : BitVec 32) (k0_t4 : Fin (k0_t4_loop v5).trips) (v36 : BitVec 32) (k0_hw388 : k0_chk388 v5 k0_t4 v36), ∀ a, (k0_off982 v5 k0_t4 v36) a + S1.size a ≤ S16512.size a := fun v5 k0_t4 v36 k0_hw388 => k0_hw388.2.2.2.1.2.2.2.2.2.2.2.2.1
theorem k0_off984_inb : ∀ (v5 : BitVec 32) (k0_t4 : Fin (k0_t4_loop v5).trips) (v36 : BitVec 32) (k0_hw388 : k0_chk388 v5 k0_t4 v36), ∀ a, (k0_off984 v5 k0_t4 v36) a + S1.size a ≤ S16512.size a := fun v5 k0_t4 v36 k0_hw388 => k0_hw388.2.2.2.1.2.2.2.2.2.2.2.2.2.1
theorem k0_off986_inb : ∀ (v5 : BitVec 32) (k0_t4 : Fin (k0_t4_loop v5).trips) (v36 : BitVec 32) (k0_hw388 : k0_chk388 v5 k0_t4 v36), ∀ a, (k0_off986 v5 k0_t4 v36) a + S1.size a ≤ S16512.size a := fun v5 k0_t4 v36 k0_hw388 => k0_hw388.2.2.2.1.2.2.2.2.2.2.2.2.2.2.1
theorem k0_off988_inb : ∀ (v5 : BitVec 32) (k0_t4 : Fin (k0_t4_loop v5).trips) (v36 : BitVec 32) (k0_hw388 : k0_chk388 v5 k0_t4 v36), ∀ a, (k0_off988 v5 k0_t4 v36) a + S1.size a ≤ S16512.size a := fun v5 k0_t4 v36 k0_hw388 => k0_hw388.2.2.2.1.2.2.2.2.2.2.2.2.2.2.2.1
theorem k0_off990_inb : ∀ (v5 : BitVec 32) (k0_t4 : Fin (k0_t4_loop v5).trips) (v36 : BitVec 32) (k0_hw388 : k0_chk388 v5 k0_t4 v36), ∀ a, (k0_off990 v5 k0_t4 v36) a + S1.size a ≤ S16512.size a := fun v5 k0_t4 v36 k0_hw388 => k0_hw388.2.2.2.1.2.2.2.2.2.2.2.2.2.2.2.2.1
theorem k0_off992_inb : ∀ (v5 : BitVec 32) (k0_t4 : Fin (k0_t4_loop v5).trips) (v36 : BitVec 32) (k0_hw388 : k0_chk388 v5 k0_t4 v36), ∀ a, (k0_off992 v5 k0_t4 v36) a + S1.size a ≤ S16512.size a := fun v5 k0_t4 v36 k0_hw388 => k0_hw388.2.2.2.1.2.2.2.2.2.2.2.2.2.2.2.2.2.1
theorem k0_off994_inb : ∀ (v5 : BitVec 32) (k0_t4 : Fin (k0_t4_loop v5).trips) (v36 : BitVec 32) (k0_hw388 : k0_chk388 v5 k0_t4 v36), ∀ a, (k0_off994 v5 k0_t4 v36) a + S1.size a ≤ S16512.size a := fun v5 k0_t4 v36 k0_hw388 => k0_hw388.2.2.2.1.2.2.2.2.2.2.2.2.2.2.2.2.2.2.1
theorem k0_off996_inb : ∀ (v5 : BitVec 32) (k0_t4 : Fin (k0_t4_loop v5).trips) (v36 : BitVec 32) (k0_hw388 : k0_chk388 v5 k0_t4 v36), ∀ a, (k0_off996 v5 k0_t4 v36) a + S1.size a ≤ S16512.size a := fun v5 k0_t4 v36 k0_hw388 => k0_hw388.2.2.2.1.2.2.2.2.2.2.2.2.2.2.2.2.2.2.2.1
theorem k0_off998_inb : ∀ (v5 : BitVec 32) (k0_t4 : Fin (k0_t4_loop v5).trips) (v36 : BitVec 32) (k0_hw388 : k0_chk388 v5 k0_t4 v36), ∀ a, (k0_off998 v5 k0_t4 v36) a + S1.size a ≤ S16512.size a := fun v5 k0_t4 v36 k0_hw388 => k0_hw388.2.2.2.1.2.2.2.2.2.2.2.2.2.2.2.2.2.2.2.2.1
theorem k0_off1000_inb : ∀ (v5 : BitVec 32) (k0_t4 : Fin (k0_t4_loop v5).trips) (v36 : BitVec 32) (k0_hw388 : k0_chk388 v5 k0_t4 v36), ∀ a, (k0_off1000 v5 k0_t4 v36) a + S1.size a ≤ S16512.size a := fun v5 k0_t4 v36 k0_hw388 => k0_hw388.2.2.2.1.2.2.2.2.2.2.2.2.2.2.2.2.2.2.2.2.2.1
theorem k0_off1002_inb : ∀ (v5 : BitVec 32) (k0_t4 : Fin (k0_t4_loop v5).trips) (v36 : BitVec 32) (k0_hw388 : k0_chk388 v5 k0_t4 v36), ∀ a, (k0_off1002 v5 k0_t4 v36) a + S1.size a ≤ S16512.size a := fun v5 k0_t4 v36 k0_hw388 => k0_hw388.2.2.2.1.2.2.2.2.2.2.2.2.2.2.2.2.2.2.2.2.2.2.1
theorem k0_off1004_inb : ∀ (v5 : BitVec 32) (k0_t4 : Fin (k0_t4_loop v5).trips) (v36 : BitVec 32) (k0_hw388 : k0_chk388 v5 k0_t4 v36), ∀ a, (k0_off1004 v5 k0_t4 v36) a + S1.size a ≤ S16512.size a := fun v5 k0_t4 v36 k0_hw388 => k0_hw388.2.2.2.1.2.2.2.2.2.2.2.2.2.2.2.2.2.2.2.2.2.2.2.1
theorem k0_off1006_inb : ∀ (v5 : BitVec 32) (k0_t4 : Fin (k0_t4_loop v5).trips) (v36 : BitVec 32) (k0_hw388 : k0_chk388 v5 k0_t4 v36), ∀ a, (k0_off1006 v5 k0_t4 v36) a + S1.size a ≤ S16512.size a := fun v5 k0_t4 v36 k0_hw388 => k0_hw388.2.2.2.1.2.2.2.2.2.2.2.2.2.2.2.2.2.2.2.2.2.2.2.2.1
theorem k0_off1008_inb : ∀ (v5 : BitVec 32) (k0_t4 : Fin (k0_t4_loop v5).trips) (v36 : BitVec 32) (k0_hw388 : k0_chk388 v5 k0_t4 v36), ∀ a, (k0_off1008 v5 k0_t4 v36) a + S1.size a ≤ S16512.size a := fun v5 k0_t4 v36 k0_hw388 => k0_hw388.2.2.2.1.2.2.2.2.2.2.2.2.2.2.2.2.2.2.2.2.2.2.2.2.2.1
theorem k0_off1010_inb : ∀ (v5 : BitVec 32) (k0_t4 : Fin (k0_t4_loop v5).trips) (v36 : BitVec 32) (k0_hw388 : k0_chk388 v5 k0_t4 v36), ∀ a, (k0_off1010 v5 k0_t4 v36) a + S1.size a ≤ S16512.size a := fun v5 k0_t4 v36 k0_hw388 => k0_hw388.2.2.2.1.2.2.2.2.2.2.2.2.2.2.2.2.2.2.2.2.2.2.2.2.2.2.1
theorem k0_off1012_inb : ∀ (v5 : BitVec 32) (k0_t4 : Fin (k0_t4_loop v5).trips) (v36 : BitVec 32) (k0_hw388 : k0_chk388 v5 k0_t4 v36), ∀ a, (k0_off1012 v5 k0_t4 v36) a + S1.size a ≤ S16512.size a := fun v5 k0_t4 v36 k0_hw388 => k0_hw388.2.2.2.1.2.2.2.2.2.2.2.2.2.2.2.2.2.2.2.2.2.2.2.2.2.2.2.1
theorem k0_off1014_inb : ∀ (v5 : BitVec 32) (k0_t4 : Fin (k0_t4_loop v5).trips) (v36 : BitVec 32) (k0_hw388 : k0_chk388 v5 k0_t4 v36), ∀ a, (k0_off1014 v5 k0_t4 v36) a + S1.size a ≤ S16512.size a := fun v5 k0_t4 v36 k0_hw388 => k0_hw388.2.2.2.1.2.2.2.2.2.2.2.2.2.2.2.2.2.2.2.2.2.2.2.2.2.2.2.2.1
theorem k0_off1016_inb : ∀ (v5 : BitVec 32) (k0_t4 : Fin (k0_t4_loop v5).trips) (v36 : BitVec 32) (k0_hw388 : k0_chk388 v5 k0_t4 v36), ∀ a, (k0_off1016 v5 k0_t4 v36) a + S1.size a ≤ S16512.size a := fun v5 k0_t4 v36 k0_hw388 => k0_hw388.2.2.2.1.2.2.2.2.2.2.2.2.2.2.2.2.2.2.2.2.2.2.2.2.2.2.2.2.2.1
theorem k0_off1018_inb : ∀ (v5 : BitVec 32) (k0_t4 : Fin (k0_t4_loop v5).trips) (v36 : BitVec 32) (k0_hw388 : k0_chk388 v5 k0_t4 v36), ∀ a, (k0_off1018 v5 k0_t4 v36) a + S1.size a ≤ S16512.size a := fun v5 k0_t4 v36 k0_hw388 => k0_hw388.2.2.2.1.2.2.2.2.2.2.2.2.2.2.2.2.2.2.2.2.2.2.2.2.2.2.2.2.2.2.1
theorem k0_off1020_inb : ∀ (v5 : BitVec 32) (k0_t4 : Fin (k0_t4_loop v5).trips) (v36 : BitVec 32) (k0_hw388 : k0_chk388 v5 k0_t4 v36), ∀ a, (k0_off1020 v5 k0_t4 v36) a + S1.size a ≤ S16512.size a := fun v5 k0_t4 v36 k0_hw388 => k0_hw388.2.2.2.1.2.2.2.2.2.2.2.2.2.2.2.2.2.2.2.2.2.2.2.2.2.2.2.2.2.2.2.1
theorem k0_off1022_inb : ∀ (v5 : BitVec 32) (k0_t4 : Fin (k0_t4_loop v5).trips) (v36 : BitVec 32) (k0_hw388 : k0_chk388 v5 k0_t4 v36), ∀ a, (k0_off1022 v5 k0_t4 v36) a + S1.size a ≤ S16512.size a := fun v5 k0_t4 v36 k0_hw388 => k0_hw388.2.2.2.1.2.2.2.2.2.2.2.2.2.2.2.2.2.2.2.2.2.2.2.2.2.2.2.2.2.2.2.2.1
theorem k0_off1024_inb : ∀ (v5 : BitVec 32) (k0_t4 : Fin (k0_t4_loop v5).trips) (v36 : BitVec 32) (k0_hw388 : k0_chk388 v5 k0_t4 v36), ∀ a, (k0_off1024 v5 k0_t4 v36) a + S1.size a ≤ S16512.size a := fun v5 k0_t4 v36 k0_hw388 => k0_hw388.2.2.2.1.2.2.2.2.2.2.2.2.2.2.2.2.2.2.2.2.2.2.2.2.2.2.2.2.2.2.2.2.2.1
theorem k0_off1026_inb : ∀ (v5 : BitVec 32) (k0_t4 : Fin (k0_t4_loop v5).trips) (v36 : BitVec 32) (k0_hw388 : k0_chk388 v5 k0_t4 v36), ∀ a, (k0_off1026 v5 k0_t4 v36) a + S1.size a ≤ S16512.size a := fun v5 k0_t4 v36 k0_hw388 => k0_hw388.2.2.2.1.2.2.2.2.2.2.2.2.2.2.2.2.2.2.2.2.2.2.2.2.2.2.2.2.2.2.2.2.2.2.1
theorem k0_off1028_inb : ∀ (v5 : BitVec 32) (k0_t4 : Fin (k0_t4_loop v5).trips) (v36 : BitVec 32) (k0_hw388 : k0_chk388 v5 k0_t4 v36), ∀ a, (k0_off1028 v5 k0_t4 v36) a + S1.size a ≤ S16512.size a := fun v5 k0_t4 v36 k0_hw388 => k0_hw388.2.2.2.1.2.2.2.2.2.2.2.2.2.2.2.2.2.2.2.2.2.2.2.2.2.2.2.2.2.2.2.2.2.2.2
theorem k0_off1030_inb : ∀ (v5 : BitVec 32) (k0_t4 : Fin (k0_t4_loop v5).trips) (v36 : BitVec 32) (k0_hw388 : k0_chk388 v5 k0_t4 v36), ∀ (r : Fin 8), ∀ a, (k0_off1030 v5 k0_t4 v36 (BitVec.ofNat 32 r.val)) a + S1.size a ≤ S16512.size a := fun v5 k0_t4 v36 k0_hw388 r => k0_hw388.2.2.2.2.1 r
theorem k0_off1046_inb : ∀ (v5 : BitVec 32) (k0_t4 : Fin (k0_t4_loop v5).trips) (v36 : BitVec 32) (k0_hw388 : k0_chk388 v5 k0_t4 v36), ∀ (r : Fin 8), ∀ a, (k0_off1046 v5 k0_t4 v36 (BitVec.ofNat 32 r.val)) a + S1.size a ≤ S16512.size a := fun v5 k0_t4 v36 k0_hw388 r => k0_hw388.2.2.2.2.2.1 r
theorem k0_off1062_inb : ∀ (v5 : BitVec 32) (k0_t4 : Fin (k0_t4_loop v5).trips) (v36 : BitVec 32) (k0_hw388 : k0_chk388 v5 k0_t4 v36), ∀ (r : Fin 8), ∀ a, (k0_off1062 v5 k0_t4 v36 (BitVec.ofNat 32 r.val)) a + S1.size a ≤ S16512.size a := fun v5 k0_t4 v36 k0_hw388 r => k0_hw388.2.2.2.2.2.2.1 r
theorem k0_off1078_inb : ∀ (v5 : BitVec 32) (k0_t4 : Fin (k0_t4_loop v5).trips) (v36 : BitVec 32) (k0_hw388 : k0_chk388 v5 k0_t4 v36), ∀ (r : Fin 8), ∀ a, (k0_off1078 v5 k0_t4 v36 (BitVec.ofNat 32 r.val)) a + S1.size a ≤ S16512.size a := fun v5 k0_t4 v36 k0_hw388 r => k0_hw388.2.2.2.2.2.2.2.1 r
theorem k0_off1094_inb : ∀ (v5 : BitVec 32) (k0_t4 : Fin (k0_t4_loop v5).trips) (v36 : BitVec 32) (k0_hw388 : k0_chk388 v5 k0_t4 v36), ∀ (r : Fin 8), ∀ a, (k0_off1094 v5 k0_t4 v36 (BitVec.ofNat 32 r.val)) a + S1.size a ≤ S16512.size a := fun v5 k0_t4 v36 k0_hw388 r => k0_hw388.2.2.2.2.2.2.2.2.1 r
theorem k0_off1110_inb : ∀ (v5 : BitVec 32) (k0_t4 : Fin (k0_t4_loop v5).trips) (v36 : BitVec 32) (k0_hw388 : k0_chk388 v5 k0_t4 v36), ∀ (r : Fin 8), ∀ a, (k0_off1110 v5 k0_t4 v36 (BitVec.ofNat 32 r.val)) a + S1.size a ≤ S16512.size a := fun v5 k0_t4 v36 k0_hw388 r => k0_hw388.2.2.2.2.2.2.2.2.2.1 r
theorem k0_off1126_inb : ∀ (v5 : BitVec 32) (k0_t4 : Fin (k0_t4_loop v5).trips) (v36 : BitVec 32) (k0_hw388 : k0_chk388 v5 k0_t4 v36), ∀ (r : Fin 8), ∀ a, (k0_off1126 v5 k0_t4 v36 (BitVec.ofNat 32 r.val)) a + S1.size a ≤ S16512.size a := fun v5 k0_t4 v36 k0_hw388 r => k0_hw388.2.2.2.2.2.2.2.2.2.2.1 r
theorem k0_off1142_inb : ∀ (v5 : BitVec 32) (k0_t4 : Fin (k0_t4_loop v5).trips) (v36 : BitVec 32) (k0_hw388 : k0_chk388 v5 k0_t4 v36), ∀ (r : Fin 8), ∀ a, (k0_off1142 v5 k0_t4 v36 (BitVec.ofNat 32 r.val)) a + S1.size a ≤ S16512.size a := fun v5 k0_t4 v36 k0_hw388 r => k0_hw388.2.2.2.2.2.2.2.2.2.2.2.1 r
theorem k0_off1158_inb : ∀ (v5 : BitVec 32) (k0_t4 : Fin (k0_t4_loop v5).trips) (v36 : BitVec 32) (k0_hw388 : k0_chk388 v5 k0_t4 v36), ∀ (r : Fin 8), ∀ a, (k0_off1158 v5 k0_t4 v36 (BitVec.ofNat 32 r.val)) a + S1.size a ≤ S16512.size a := fun v5 k0_t4 v36 k0_hw388 r => k0_hw388.2.2.2.2.2.2.2.2.2.2.2.2.1 r
theorem k0_off1174_inb : ∀ (v5 : BitVec 32) (k0_t4 : Fin (k0_t4_loop v5).trips) (v36 : BitVec 32) (k0_hw388 : k0_chk388 v5 k0_t4 v36), ∀ (r : Fin 8), ∀ a, (k0_off1174 v5 k0_t4 v36 (BitVec.ofNat 32 r.val)) a + S1.size a ≤ S16512.size a := fun v5 k0_t4 v36 k0_hw388 r => k0_hw388.2.2.2.2.2.2.2.2.2.2.2.2.2.1 r
theorem k0_off1190_inb : ∀ (v5 : BitVec 32) (k0_t4 : Fin (k0_t4_loop v5).trips) (v36 : BitVec 32) (k0_hw388 : k0_chk388 v5 k0_t4 v36), ∀ (r : Fin 8), ∀ a, (k0_off1190 v5 k0_t4 v36 (BitVec.ofNat 32 r.val)) a + S1.size a ≤ S16512.size a := fun v5 k0_t4 v36 k0_hw388 r => k0_hw388.2.2.2.2.2.2.2.2.2.2.2.2.2.2.1 r
theorem k0_off1206_inb : ∀ (v5 : BitVec 32) (k0_t4 : Fin (k0_t4_loop v5).trips) (v36 : BitVec 32) (k0_hw388 : k0_chk388 v5 k0_t4 v36), ∀ (r : Fin 8), ∀ a, (k0_off1206 v5 k0_t4 v36 (BitVec.ofNat 32 r.val)) a + S1.size a ≤ S16512.size a := fun v5 k0_t4 v36 k0_hw388 r => k0_hw388.2.2.2.2.2.2.2.2.2.2.2.2.2.2.2.1 r
theorem k0_off1222_inb : ∀ (v5 : BitVec 32) (k0_t4 : Fin (k0_t4_loop v5).trips) (v36 : BitVec 32) (k0_hw388 : k0_chk388 v5 k0_t4 v36), ∀ (r : Fin 8), ∀ a, (k0_off1222 v5 k0_t4 v36 (BitVec.ofNat 32 r.val)) a + S1.size a ≤ S16512.size a := fun v5 k0_t4 v36 k0_hw388 r => k0_hw388.2.2.2.2.2.2.2.2.2.2.2.2.2.2.2.2.1 r
theorem k0_off1238_inb : ∀ (v5 : BitVec 32) (k0_t4 : Fin (k0_t4_loop v5).trips) (v36 : BitVec 32) (k0_hw388 : k0_chk388 v5 k0_t4 v36), ∀ (r : Fin 8), ∀ a, (k0_off1238 v5 k0_t4 v36 (BitVec.ofNat 32 r.val)) a + S1.size a ≤ S16512.size a := fun v5 k0_t4 v36 k0_hw388 r => k0_hw388.2.2.2.2.2.2.2.2.2.2.2.2.2.2.2.2.2.1 r
theorem k0_off1254_inb : ∀ (v5 : BitVec 32) (k0_t4 : Fin (k0_t4_loop v5).trips) (v36 : BitVec 32) (k0_hw388 : k0_chk388 v5 k0_t4 v36), ∀ (r : Fin 8), ∀ a, (k0_off1254 v5 k0_t4 v36 (BitVec.ofNat 32 r.val)) a + S1.size a ≤ S16512.size a := fun v5 k0_t4 v36 k0_hw388 r => k0_hw388.2.2.2.2.2.2.2.2.2.2.2.2.2.2.2.2.2.2.1 r
theorem k0_off1270_inb : ∀ (v5 : BitVec 32) (k0_t4 : Fin (k0_t4_loop v5).trips) (v36 : BitVec 32) (k0_hw388 : k0_chk388 v5 k0_t4 v36), ∀ (r : Fin 8), ∀ a, (k0_off1270 v5 k0_t4 v36 (BitVec.ofNat 32 r.val)) a + S1.size a ≤ S16512.size a := fun v5 k0_t4 v36 k0_hw388 r => k0_hw388.2.2.2.2.2.2.2.2.2.2.2.2.2.2.2.2.2.2.2 r

def k0_off1271 (v3271 : BitVec 32) : Fin 2 → Nat :=
  let c17_i32_1602 : BitVec 32 := 17#32
  let v3300 : BitVec 32 := Scalar.muli v3271 c17_i32_1602
  let v3301 : Index := Scalar.indexCast v3300
  let c0_1603 : Index := 0#32
  ![v3301.toNat, 0]

def k0_off1272 (v3275 : BitVec 32) : Fin 2 → Nat :=
  let c17_i32_1606 : BitVec 32 := 17#32
  let v3305 : BitVec 32 := Scalar.muli v3275 c17_i32_1606
  let v3306 : Index := Scalar.indexCast v3305
  let c0_1607 : Index := 0#32
  ![v3306.toNat, 0]

def k0_off1273 (v3279 : BitVec 32) : Fin 2 → Nat :=
  let c17_i32_1610 : BitVec 32 := 17#32
  let v3310 : BitVec 32 := Scalar.muli v3279 c17_i32_1610
  let v3311 : Index := Scalar.indexCast v3310
  let c0_1611 : Index := 0#32
  ![v3311.toNat, 0]

def k0_off1274 (v3283 : BitVec 32) : Fin 2 → Nat :=
  let c17_i32_1614 : BitVec 32 := 17#32
  let v3315 : BitVec 32 := Scalar.muli v3283 c17_i32_1614
  let v3316 : Index := Scalar.indexCast v3315
  let c0_1615 : Index := 0#32
  ![v3316.toNat, 0]

def k0_off1275 (v3287 : BitVec 32) : Fin 2 → Nat :=
  let c17_i32_1618 : BitVec 32 := 17#32
  let v3320 : BitVec 32 := Scalar.muli v3287 c17_i32_1618
  let v3321 : Index := Scalar.indexCast v3320
  let c0_1619 : Index := 0#32
  ![v3321.toNat, 0]

def k0_off1276 (v3291 : BitVec 32) : Fin 2 → Nat :=
  let c17_i32_1622 : BitVec 32 := 17#32
  let v3325 : BitVec 32 := Scalar.muli v3291 c17_i32_1622
  let v3326 : Index := Scalar.indexCast v3325
  let c0_1623 : Index := 0#32
  ![v3326.toNat, 0]

def k0_off1277 (v3295 : BitVec 32) : Fin 2 → Nat :=
  let c17_i32_1626 : BitVec 32 := 17#32
  let v3330 : BitVec 32 := Scalar.muli v3295 c17_i32_1626
  let v3331 : Index := Scalar.indexCast v3330
  let c0_1627 : Index := 0#32
  ![v3331.toNat, 0]

def k0_off1278 (v3299 : BitVec 32) : Fin 2 → Nat :=
  let c17_i32_1630 : BitVec 32 := 17#32
  let v3335 : BitVec 32 := Scalar.muli v3299 c17_i32_1630
  let v3336 : Index := Scalar.indexCast v3335
  let c0_1631 : Index := 0#32
  ![v3336.toNat, 0]

def k0_chk644 (v3299 : BitVec 32) : Prop :=
  (∀ a, (k0_off1278 v3299) a + S16x128.size a ≤ S26136x128.size a)
theorem k0_off1278_inb : ∀ (v3299 : BitVec 32) (k0_hw644 : k0_chk644 v3299), ∀ a, (k0_off1278 v3299) a + S16x128.size a ≤ S26136x128.size a := fun v3299 k0_hw644 => k0_hw644

def k0_off1279 (v3271 : BitVec 32) : Fin 2 → Nat :=
  let c17_i32_1634 : BitVec 32 := 17#32
  let v3340 : BitVec 32 := Scalar.muli v3271 c17_i32_1634
  let v3341 : Index := Scalar.indexCast v3340
  let c0_1635 : Index := 0#32
  ![v3341.toNat, 0]

def k0_chk637 (v3271 : BitVec 32) : Prop :=
  (∀ a, (k0_off1271 v3271) a + S16x128.size a ≤ S26136x128.size a) ∧
  (∀ a, (k0_off1279 v3271) a + S16x128.size a ≤ S26136x128.size a)
theorem k0_off1271_inb : ∀ (v3271 : BitVec 32) (k0_hw637 : k0_chk637 v3271), ∀ a, (k0_off1271 v3271) a + S16x128.size a ≤ S26136x128.size a := fun v3271 k0_hw637 => k0_hw637.1
theorem k0_off1279_inb : ∀ (v3271 : BitVec 32) (k0_hw637 : k0_chk637 v3271), ∀ a, (k0_off1279 v3271) a + S16x128.size a ≤ S26136x128.size a := fun v3271 k0_hw637 => k0_hw637.2

def k0_off1280 (v3275 : BitVec 32) : Fin 2 → Nat :=
  let c17_i32_1636 : BitVec 32 := 17#32
  let v3345 : BitVec 32 := Scalar.muli v3275 c17_i32_1636
  let v3346 : Index := Scalar.indexCast v3345
  let c0_1637 : Index := 0#32
  ![v3346.toNat, 0]

def k0_chk638 (v3275 : BitVec 32) : Prop :=
  (∀ a, (k0_off1272 v3275) a + S16x128.size a ≤ S26136x128.size a) ∧
  (∀ a, (k0_off1280 v3275) a + S16x128.size a ≤ S26136x128.size a)
theorem k0_off1272_inb : ∀ (v3275 : BitVec 32) (k0_hw638 : k0_chk638 v3275), ∀ a, (k0_off1272 v3275) a + S16x128.size a ≤ S26136x128.size a := fun v3275 k0_hw638 => k0_hw638.1
theorem k0_off1280_inb : ∀ (v3275 : BitVec 32) (k0_hw638 : k0_chk638 v3275), ∀ a, (k0_off1280 v3275) a + S16x128.size a ≤ S26136x128.size a := fun v3275 k0_hw638 => k0_hw638.2

def k0_off1281 (v3279 : BitVec 32) : Fin 2 → Nat :=
  let c17_i32_1638 : BitVec 32 := 17#32
  let v3350 : BitVec 32 := Scalar.muli v3279 c17_i32_1638
  let v3351 : Index := Scalar.indexCast v3350
  let c0_1639 : Index := 0#32
  ![v3351.toNat, 0]

def k0_chk639 (v3279 : BitVec 32) : Prop :=
  (∀ a, (k0_off1273 v3279) a + S16x128.size a ≤ S26136x128.size a) ∧
  (∀ a, (k0_off1281 v3279) a + S16x128.size a ≤ S26136x128.size a)
theorem k0_off1273_inb : ∀ (v3279 : BitVec 32) (k0_hw639 : k0_chk639 v3279), ∀ a, (k0_off1273 v3279) a + S16x128.size a ≤ S26136x128.size a := fun v3279 k0_hw639 => k0_hw639.1
theorem k0_off1281_inb : ∀ (v3279 : BitVec 32) (k0_hw639 : k0_chk639 v3279), ∀ a, (k0_off1281 v3279) a + S16x128.size a ≤ S26136x128.size a := fun v3279 k0_hw639 => k0_hw639.2

def k0_off1282 (v3283 : BitVec 32) : Fin 2 → Nat :=
  let c17_i32_1640 : BitVec 32 := 17#32
  let v3355 : BitVec 32 := Scalar.muli v3283 c17_i32_1640
  let v3356 : Index := Scalar.indexCast v3355
  let c0_1641 : Index := 0#32
  ![v3356.toNat, 0]

def k0_chk640 (v3283 : BitVec 32) : Prop :=
  (∀ a, (k0_off1274 v3283) a + S16x128.size a ≤ S26136x128.size a) ∧
  (∀ a, (k0_off1282 v3283) a + S16x128.size a ≤ S26136x128.size a)
theorem k0_off1274_inb : ∀ (v3283 : BitVec 32) (k0_hw640 : k0_chk640 v3283), ∀ a, (k0_off1274 v3283) a + S16x128.size a ≤ S26136x128.size a := fun v3283 k0_hw640 => k0_hw640.1
theorem k0_off1282_inb : ∀ (v3283 : BitVec 32) (k0_hw640 : k0_chk640 v3283), ∀ a, (k0_off1282 v3283) a + S16x128.size a ≤ S26136x128.size a := fun v3283 k0_hw640 => k0_hw640.2

def k0_off1283 (v3287 : BitVec 32) : Fin 2 → Nat :=
  let c17_i32_1642 : BitVec 32 := 17#32
  let v3360 : BitVec 32 := Scalar.muli v3287 c17_i32_1642
  let v3361 : Index := Scalar.indexCast v3360
  let c0_1643 : Index := 0#32
  ![v3361.toNat, 0]

def k0_chk641 (v3287 : BitVec 32) : Prop :=
  (∀ a, (k0_off1275 v3287) a + S16x128.size a ≤ S26136x128.size a) ∧
  (∀ a, (k0_off1283 v3287) a + S16x128.size a ≤ S26136x128.size a)
theorem k0_off1275_inb : ∀ (v3287 : BitVec 32) (k0_hw641 : k0_chk641 v3287), ∀ a, (k0_off1275 v3287) a + S16x128.size a ≤ S26136x128.size a := fun v3287 k0_hw641 => k0_hw641.1
theorem k0_off1283_inb : ∀ (v3287 : BitVec 32) (k0_hw641 : k0_chk641 v3287), ∀ a, (k0_off1283 v3287) a + S16x128.size a ≤ S26136x128.size a := fun v3287 k0_hw641 => k0_hw641.2

def k0_off1284 (v3291 : BitVec 32) : Fin 2 → Nat :=
  let c17_i32_1644 : BitVec 32 := 17#32
  let v3365 : BitVec 32 := Scalar.muli v3291 c17_i32_1644
  let v3366 : Index := Scalar.indexCast v3365
  let c0_1645 : Index := 0#32
  ![v3366.toNat, 0]

def k0_chk642 (v3291 : BitVec 32) : Prop :=
  (∀ a, (k0_off1276 v3291) a + S16x128.size a ≤ S26136x128.size a) ∧
  (∀ a, (k0_off1284 v3291) a + S16x128.size a ≤ S26136x128.size a)
theorem k0_off1276_inb : ∀ (v3291 : BitVec 32) (k0_hw642 : k0_chk642 v3291), ∀ a, (k0_off1276 v3291) a + S16x128.size a ≤ S26136x128.size a := fun v3291 k0_hw642 => k0_hw642.1
theorem k0_off1284_inb : ∀ (v3291 : BitVec 32) (k0_hw642 : k0_chk642 v3291), ∀ a, (k0_off1284 v3291) a + S16x128.size a ≤ S26136x128.size a := fun v3291 k0_hw642 => k0_hw642.2

def k0_off1285 (v3295 : BitVec 32) : Fin 2 → Nat :=
  let c17_i32_1646 : BitVec 32 := 17#32
  let v3370 : BitVec 32 := Scalar.muli v3295 c17_i32_1646
  let v3371 : Index := Scalar.indexCast v3370
  let c0_1647 : Index := 0#32
  ![v3371.toNat, 0]

def k0_chk643 (v3295 : BitVec 32) : Prop :=
  (∀ a, (k0_off1277 v3295) a + S16x128.size a ≤ S26136x128.size a) ∧
  (∀ a, (k0_off1285 v3295) a + S16x128.size a ≤ S26136x128.size a)
theorem k0_off1277_inb : ∀ (v3295 : BitVec 32) (k0_hw643 : k0_chk643 v3295), ∀ a, (k0_off1277 v3295) a + S16x128.size a ≤ S26136x128.size a := fun v3295 k0_hw643 => k0_hw643.1
theorem k0_off1285_inb : ∀ (v3295 : BitVec 32) (k0_hw643 : k0_chk643 v3295), ∀ a, (k0_off1285 v3295) a + S16x128.size a ≤ S26136x128.size a := fun v3295 k0_hw643 => k0_hw643.2

def k0_cond2 (i : grid0.Coords) : BitVec 1 :=
  let arg1 : BitVec 32 := BitVec.ofNat 32 (i 1).val
  let c31_i32 : BitVec 32 := 31#32
  let v31 : BitVec 1 := Scalar.cmpi .eq arg1 c31_i32
  let v32 : BitVec 32 := Scalar.extui v31
  let c0_i32_11 : BitVec 32 := 0#32
  let v33 : BitVec 1 := Scalar.cmpi .ne v32 c0_i32_11
  v33

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .smem S1x8x1536 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x7720x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1536 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x768x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1536x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S8x32 : Shape := ⟨2, ![8, 32]⟩
abbrev S8x8x1536 : Shape := ⟨3, ![8, 8, 1536]⟩
abbrev S8x7720x128 : Shape := ⟨3, ![8, 7720, 128]⟩
abbrev S32x2048x1536 : Shape := ⟨3, ![32, 2048, 1536]⟩
abbrev S32x1x1536 : Shape := ⟨3, ![32, 1, 1536]⟩
abbrev S32x768x2048 : Shape := ⟨3, ![32, 768, 2048]⟩
abbrev S32x1x2048 : Shape := ⟨3, ![32, 1, 2048]⟩
abbrev S252 : Shape := ⟨1, ![252]⟩
abbrev S8x1x8x1536 : Shape := ⟨4, ![8, 1, 8, 1536]⟩
abbrev S8x32x1x1 : Shape := ⟨4, ![8, 32, 1, 1]⟩
abbrev S8x32x8x1536 : Shape := ⟨4, ![8, 32, 8, 1536]⟩
abbrev S_ : Shape := ⟨0, ![]⟩
abbrev S8x32x1536 : Shape := ⟨3, ![8, 32, 1536]⟩
abbrev S32x8x1536 : Shape := ⟨3, ![32, 8, 1536]⟩
abbrev S32x12288x1 : Shape := ⟨3, ![32, 12288, 1]⟩
abbrev S8x1544x5x128 : Shape := ⟨4, ![8, 1544, 5, 128]⟩
abbrev S8x1536x5x128 : Shape := ⟨4, ![8, 1536, 5, 128]⟩
abbrev S12288x5x128 : Shape := ⟨3, ![12288, 5, 128]⟩
abbrev S12288x4x128 : Shape := ⟨3, ![12288, 4, 128]⟩
abbrev S12288x512 : Shape := ⟨2, ![12288, 512]⟩
abbrev S12288x2048 : Shape := ⟨2, ![12288, 2048]⟩
abbrev S12288x1x128 : Shape := ⟨3, ![12288, 1, 128]⟩
abbrev S12288x128 : Shape := ⟨2, ![12288, 128]⟩
abbrev S12288x1 : Shape := ⟨2, ![12288, 1]⟩
abbrev S1x12288x1 : Shape := ⟨3, ![1, 12288, 1]⟩
abbrev S12288x32 : Shape := ⟨2, ![12288, 32]⟩
abbrev S32x12288 : Shape := ⟨2, ![32, 12288]⟩
abbrev S1x1x252 : Shape := ⟨3, ![1, 1, 252]⟩
abbrev S1x12288x2048 : Shape := ⟨3, ![1, 12288, 2048]⟩
abbrev S32x12288x2048 : Shape := ⟨3, ![32, 12288, 2048]⟩
abbrev S32x12288x1536 : Shape := ⟨3, ![32, 12288, 1536]⟩
abbrev S32x12288x768 : Shape := ⟨3, ![32, 12288, 768]⟩
abbrev S32x12288x252 : Shape := ⟨3, ![32, 12288, 252]⟩

abbrev nBuf : Space → Nat
  | .hbm => 63
  | .vmem => 10
  | .smem => 0
  | _ => 0

abbrev bufTy : (tb : Table) → Fin (tcTables nBuf tb) → BufTy
  | .hbm, ⟨0, _⟩ => ⟨S8x32, .i32⟩
  | .hbm, ⟨1, _⟩ => ⟨S8x32, .i32⟩
  | .hbm, ⟨2, _⟩ => ⟨S8x8x1536, .i32⟩
  | .hbm, ⟨3, _⟩ => ⟨S8x7720x128, .i32⟩
  | .hbm, ⟨4, _⟩ => ⟨S32x2048x1536, .fp8e4m3⟩
  | .hbm, ⟨5, _⟩ => ⟨S32x1x1536, .f32⟩
  | .hbm, ⟨6, _⟩ => ⟨S32x768x2048, .fp8e4m3⟩
  | .hbm, ⟨7, _⟩ => ⟨S32x1x2048, .f32⟩
  | .hbm, ⟨8, _⟩ => ⟨S252, .f32⟩
  | .hbm, ⟨9, _⟩ => ⟨S8x1x8x1536, .i32⟩
  | .hbm, ⟨10, _⟩ => ⟨S8x32x1x1, .i32⟩
  | .hbm, ⟨11, _⟩ => ⟨S8x32x8x1536, .i32⟩
  | .hbm, ⟨12, _⟩ => ⟨S8x32x8x1536, .i32⟩
  | .hbm, ⟨13, _⟩ => ⟨S8x32x8x1536, .i1⟩
  | .hbm, ⟨14, _⟩ => ⟨S8x32x1x1, .i32⟩
  | .hbm, ⟨15, _⟩ => ⟨S8x32x1x1, .i32⟩
  | .hbm, ⟨16, _⟩ => ⟨S8x32x8x1536, .i32⟩
  | .hbm, ⟨17, _⟩ => ⟨S8x32x8x1536, .i32⟩
  | .hbm, ⟨18, _⟩ => ⟨S8x32x8x1536, .i1⟩
  | .hbm, ⟨19, _⟩ => ⟨S8x32x8x1536, .i1⟩
  | .hbm, ⟨20, _⟩ => ⟨S_, .i1⟩
  | .hbm, ⟨21, _⟩ => ⟨S8x32x1536, .i1⟩
  | .hbm, ⟨22, _⟩ => ⟨S32x8x1536, .i1⟩
  | .hbm, ⟨23, _⟩ => ⟨S32x12288x1, .i1⟩
  | .hbm, ⟨24, _⟩ => ⟨S32x12288x1, .i32⟩
  | .hbm, ⟨25, _⟩ => ⟨S8x1544x5x128, .i32⟩
  | .hbm, ⟨26, _⟩ => ⟨S8x1536x5x128, .i32⟩
  | .hbm, ⟨27, _⟩ => ⟨S12288x5x128, .i32⟩
  | .hbm, ⟨28, _⟩ => ⟨S12288x4x128, .i32⟩
  | .hbm, ⟨29, _⟩ => ⟨S_, .i32⟩
  | .hbm, ⟨30, _⟩ => ⟨S12288x4x128, .i32⟩
  | .hbm, ⟨31, _⟩ => ⟨S12288x4x128, .i32⟩
  | .hbm, ⟨32, _⟩ => ⟨S12288x4x128, .i8⟩
  | .hbm, ⟨33, _⟩ => ⟨S12288x512, .i8⟩
  | .hbm, ⟨34, _⟩ => ⟨S12288x4x128, .i32⟩
  | .hbm, ⟨35, _⟩ => ⟨S_, .i32⟩
  | .hbm, ⟨36, _⟩ => ⟨S12288x4x128, .i32⟩
  | .hbm, ⟨37, _⟩ => ⟨S12288x4x128, .i32⟩
  | .hbm, ⟨38, _⟩ => ⟨S12288x4x128, .i8⟩
  | .hbm, ⟨39, _⟩ => ⟨S12288x512, .i8⟩
  | .hbm, ⟨40, _⟩ => ⟨S12288x4x128, .i32⟩
  | .hbm, ⟨41, _⟩ => ⟨S_, .i32⟩
  | .hbm, ⟨42, _⟩ => ⟨S12288x4x128, .i32⟩
  | .hbm, ⟨43, _⟩ => ⟨S12288x4x128, .i32⟩
  | .hbm, ⟨44, _⟩ => ⟨S12288x4x128, .i8⟩
  | .hbm, ⟨45, _⟩ => ⟨S12288x512, .i8⟩
  | .hbm, ⟨46, _⟩ => ⟨S12288x4x128, .i32⟩
  | .hbm, ⟨47, _⟩ => ⟨S_, .i32⟩
  | .hbm, ⟨48, _⟩ => ⟨S12288x4x128, .i32⟩
  | .hbm, ⟨49, _⟩ => ⟨S12288x4x128, .i32⟩
  | .hbm, ⟨50, _⟩ => ⟨S12288x4x128, .i8⟩
  | .hbm, ⟨51, _⟩ => ⟨S12288x512, .i8⟩
  | .hbm, ⟨52, _⟩ => ⟨S12288x2048, .i8⟩
  | .hbm, ⟨53, _⟩ => ⟨S12288x1x128, .i32⟩
  | .hbm, ⟨54, _⟩ => ⟨S12288x128, .i32⟩
  | .hbm, ⟨55, _⟩ => ⟨S12288x128, .f32⟩
  | .hbm, ⟨56, _⟩ => ⟨S12288x1, .f32⟩
  | .hbm, ⟨57, _⟩ => ⟨S1x12288x1, .f32⟩
  | .hbm, ⟨58, _⟩ => ⟨S12288x32, .f32⟩
  | .hbm, ⟨59, _⟩ => ⟨S32x12288, .f32⟩
  | .hbm, ⟨60, _⟩ => ⟨S32x12288x1, .f32⟩
  | .hbm, ⟨61, _⟩ => ⟨S1x1x252, .f32⟩
  | .hbm, ⟨62, _⟩ => ⟨S12288x2048, .bf16⟩
  | .local _ .vmem, ⟨0, _⟩ => ⟨S12288x2048, .i8⟩
  | .local _ .vmem, ⟨1, _⟩ => ⟨S1x12288x1, .f32⟩
  | .local _ .vmem, ⟨2, _⟩ => ⟨S32x12288x1, .f32⟩
  | .local _ .vmem, ⟨3, _⟩ => ⟨S32x12288x1, .i32⟩
  | .local _ .vmem, ⟨4, _⟩ => ⟨S1x1x252, .f32⟩
  | .local _ .vmem, ⟨5, _⟩ => ⟨S32x2048x1536, .fp8e4m3⟩
  | .local _ .vmem, ⟨6, _⟩ => ⟨S32x1x1536, .f32⟩
  | .local _ .vmem, ⟨7, _⟩ => ⟨S32x768x2048, .fp8e4m3⟩
  | .local _ .vmem, ⟨8, _⟩ => ⟨S32x1x2048, .f32⟩
  | .local _ .vmem, ⟨9, _⟩ => ⟨S12288x2048, .bf16⟩
  | _, _ => ⟨S8x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_1 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_c_2 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_3 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S12288x2048 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x12288x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x12288x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x12288x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1x252 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x2048x1536 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x768x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S12288x2048 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.Plan.lean ====
/-
  The slot tables of one block, as a plan: each expert has a range of slots, each choice of a token a slot of its own, and
  the list that the kernel makes of them names, for every slot of an expert's tiles, either the token whose slot it is or
  the row after the last token. Nothing here speaks of the machine.
-/
module

public import Idealize.ShloMosaic.PureOps
public import Mathlib.Tactic.IntervalCases

@[expose] public section

noncomputable section

namespace Cert.Proof.Plan

/-- What the precondition says of one block's tables: `cnt` and `off` are the experts' ranges, `pos k u` is the slot of
    choice `k` of token `u`. -/
structure Valid (cnt off : Fin 32 → BitVec 32) (pos : Fin 8 → Fin 1536 → BitVec 32) : Prop where
  cnt_le : ∀ e, (cnt e).toNat ≤ 12288
  end_le : ∀ e, (off e).toNat + (cnt e).toNat ≤ 16384
  pos_lt : ∀ k u, (pos k u).toNat < 16512
  unfilled : ∀ e k u, (pos k u).toNat < (off e).toNat + (cnt e).toNat
    ∨ (off e).toNat + ((cnt e).toNat + 127) / 128 * 128 ≤ (pos k u).toNat
  apart : ∀ k u k' u', (pos k u).toNat = (pos k' u').toNat → k = k' ∧ u = u'
  once : ∀ e k k' u, (off e).toNat ≤ (pos k u).toNat → (pos k u).toNat < (off e).toNat + (cnt e).toNat →
    (off e).toNat ≤ (pos k' u).toNat → (pos k' u).toNat < (off e).toNat + (cnt e).toNat → k = k'
  covered : ∀ e s, (off e).toNat ≤ s → s < (off e).toNat + (cnt e).toNat → ∃ k u, (pos k u).toNat = s

variable {cnt off : Fin 32 → BitVec 32} {pos : Fin 8 → Fin 1536 → BitVec 32}

/-- The list before fill `n` of expert `t`: the 128 slots after each earlier range hold the row after the last token. -/
def Filled (cnt off : Fin 32 → BitVec 32) (t n : Nat) (L : Nat → BitVec 32) : Prop :=
  ∀ (e : Fin 32) (r : Nat), r < 128 → (e.val < t ∨ (e.val = t ∧ r < n)) → L ((off e).toNat + (cnt e).toNat + r) = 1536#32

theorem Filled.zero (L : Nat → BitVec 32) : Filled cnt off 0 0 L := by
  intro e r _ h; omega

theorem Filled.next {t n : Nat} {L L' : Nat → BitVec 32} {p : Nat} (h : Filled cnt off t n L) (ht : t < 32)
    (hp : p = (off ⟨t, ht⟩).toNat + (cnt ⟨t, ht⟩).toNat + n) (hL : ∀ s, L' s = if s = p then 1536#32 else L s) :
    Filled cnt off t (n + 1) L' := by
  intro e r hr he
  rw [hL]
  split
  · rfl
  · rename_i hne
    refine h e r hr ?_
    rcases he with he | ⟨he, hr'⟩
    · exact .inl he
    · right
      refine ⟨he, ?_⟩
      rcases Nat.lt_succ_iff_lt_or_eq.mp hr' with h1 | h1
      · exact h1
      · exfalso; apply hne; subst h1; subst hp; subst he; rfl

theorem Filled.trip {t : Nat} {L : Nat → BitVec 32} (h : Filled cnt off t 128 L) : Filled cnt off (t + 1) 0 L := by
  intro e r hr he
  exact h e r hr (by omega)

/-- The list before step `n` of trip `t` of the inversion: what the fills left, where nobody's slot is, and the tokens
    put so far. -/
def Inverted (cnt off : Fin 32 → BitVec 32) (pos : Fin 8 → Fin 1536 → BitVec 32) (t n : Nat) (L : Nat → BitVec 32) : Prop :=
  (∀ (e : Fin 32) (r : Nat), r < 128 → (∀ k u, (pos k u).toNat ≠ (off e).toNat + (cnt e).toNat + r) →
      L ((off e).toNat + (cnt e).toNat + r) = 1536#32) ∧
  ∀ (k : Fin 8) (u : Fin 1536), (u.val < 16 * t ∨ (u.val / 16 = t ∧ k.val * 16 + u.val % 16 < n)) →
    L (pos k u).toNat = BitVec.ofNat 32 u.val

theorem Inverted.zero {L : Nat → BitVec 32} (h : Filled cnt off 32 0 L) : Inverted cnt off pos 0 0 L :=
  ⟨fun e r hr _ => h e r hr (.inl e.isLt), fun k u h => by omega⟩

theorem Inverted.next (hv : Valid cnt off pos) {t n : Nat} {L L' : Nat → BitVec 32} {p : Nat} {k₀ : Fin 8} {u₀ : Fin 1536}
    (h : Inverted cnt off pos t n L) (hk : k₀.val = n / 16) (hu : u₀.val = t * 16 + n % 16) (hp : p = (pos k₀ u₀).toNat)
    (hL : ∀ s, L' s = if s = p then BitVec.ofNat 32 u₀.val else L s) : Inverted cnt off pos t (n + 1) L' := by
  refine ⟨fun e r hr hf => ?_, fun k u hd => ?_⟩
  · rw [hL, if_neg]
    · exact h.1 e r hr hf
    · subst hp; exact fun hh => hf k₀ u₀ hh.symm
  · rw [hL]
    split
    · rename_i heq
      subst hp
      rw [(hv.apart _ _ _ _ heq).2]
    · rename_i hne
      refine h.2 k u ?_
      rcases hd with hd | ⟨hd, hn⟩
      · exact .inl hd
      · right
        refine ⟨hd, ?_⟩
        rcases Nat.lt_succ_iff_lt_or_eq.mp hn with h1 | h1
        · exact h1
        · exfalso; apply hne; subst hp
          have e1 : k = k₀ := Fin.ext (by omega)
          have e2 : u = u₀ := Fin.ext (by omega)
          rw [e1, e2]

theorem Inverted.trip {t : Nat} {L : Nat → BitVec 32} (h : Inverted cnt off pos t 128 L) : Inverted cnt off pos (t + 1) 0 L :=
  ⟨h.1, fun k u hd => h.2 k u (by have := k.isLt; omega)⟩

/-- The finished list. -/
def Listed (cnt off : Fin 32 → BitVec 32) (pos : Fin 8 → Fin 1536 → BitVec 32) (L : Nat → BitVec 32) : Prop :=
  Inverted cnt off pos 96 0 L

/-- Every slot of an expert's tiles is a token's, inside the range, or holds the row after the last token. -/
theorem Listed.slot (hv : Valid cnt off pos) {L : Nat → BitVec 32} (h : Listed cnt off pos L) (e : Fin 32) (s : Nat)
    (h1 : (off e).toNat ≤ s) (h2 : s < (off e).toNat + ((cnt e).toNat + 127) / 128 * 128) :
    (s < (off e).toNat + (cnt e).toNat ∧ ∃ k u, (pos k u).toNat = s ∧ L s = BitVec.ofNat 32 u.val)
      ∨ ((off e).toNat + (cnt e).toNat ≤ s ∧ L s = 1536#32) := by
  rcases Nat.lt_or_ge s ((off e).toNat + (cnt e).toNat) with h3 | h3
  · left
    obtain ⟨k, u, hs⟩ := hv.covered e s h1 h3
    refine ⟨h3, k, u, hs, ?_⟩
    rw [← hs]
    exact h.2 k u (.inl (by have := u.isLt; omega))
  · right
    refine ⟨h3, ?_⟩
    have := h.1 e (s - ((off e).toNat + (cnt e).toNat)) (by omega) (fun k u hu => by
      have := hv.unfilled e k u; omega)
    rwa [show (off e).toNat + (cnt e).toNat + (s - ((off e).toNat + (cnt e).toNat)) = s by omega] at this

/-- A slot's token is at most the row after the last. -/
theorem Listed.le (hv : Valid cnt off pos) {L : Nat → BitVec 32} (h : Listed cnt off pos L) (e : Fin 32) (s : Nat)
    (h1 : (off e).toNat ≤ s) (h2 : s < (off e).toNat + ((cnt e).toNat + 127) / 128 * 128) : (L s).toNat ≤ 1536 := by
  rcases h.slot hv e s h1 h2 with ⟨-, k, u, -, hu⟩ | ⟨-, hu⟩
  · rw [hu, BitVec.toNat_ofNat]; have := u.isLt; omega
  · rw [hu]; decide

/-- A token chose an expert: one of its slots lies in the expert's range. -/
def Chosen (cnt off : Fin 32 → BitVec 32) (pos : Fin 8 → Fin 1536 → BitVec 32) (e : Fin 32) (u : Fin 1536) : Prop :=
  ∃ k, (off e).toNat ≤ (pos k u).toNat ∧ (pos k u).toNat < (off e).toNat + (cnt e).toNat

/-- … and that slot is among the range's first `m`. -/
def Done (cnt off : Fin 32 → BitVec 32) (pos : Fin 8 → Fin 1536 → BitVec 32) (e : Fin 32) (m : Nat) (u : Fin 1536) : Prop :=
  ∃ k, (off e).toNat ≤ (pos k u).toNat ∧ (pos k u).toNat < (off e).toNat + (cnt e).toNat ∧ (pos k u).toNat < (off e).toNat + m

theorem not_done_zero (e : Fin 32) (u : Fin 1536) : ¬Done cnt off pos e 0 u := by
  rintro ⟨k, h1, h2, h3⟩; omega

theorem done_all {e : Fin 32} {m : Nat} (hm : (cnt e).toNat ≤ m) (u : Fin 1536) :
    Done cnt off pos e m u ↔ Chosen cnt off pos e u :=
  ⟨fun ⟨k, h1, h2, _⟩ => ⟨k, h1, h2⟩, fun ⟨k, h1, h2⟩ => ⟨k, h1, h2, by omega⟩⟩

theorem done_pad {e : Fin 32} {m : Nat} (hm : (cnt e).toNat ≤ m) (u : Fin 1536) :
    Done cnt off pos e (m + 1) u ↔ Done cnt off pos e m u := by
  rw [done_all hm, done_all (Nat.le_succ_of_le hm)]

theorem done_real (hv : Valid cnt off pos) {e : Fin 32} {m : Nat} (hm : m < (cnt e).toNat) {k : Fin 8} {u₀ : Fin 1536}
    (hs : (pos k u₀).toNat = (off e).toNat + m) :
    ¬Done cnt off pos e m u₀ ∧ Chosen cnt off pos e u₀
      ∧ ∀ u, Done cnt off pos e (m + 1) u ↔ (Done cnt off pos e m u ∨ u = u₀) := by
  refine ⟨?_, ⟨k, by omega, by omega⟩, fun u => ⟨?_, ?_⟩⟩
  · rintro ⟨k', h1, h2, h3⟩
    have := hv.once e k k' u₀ (by omega) (by omega) h1 h2
    subst this; omega
  · rintro ⟨k', h1, h2, h3⟩
    rcases Nat.lt_or_ge (pos k' u).toNat ((off e).toNat + m) with h4 | h4
    · exact .inl ⟨k', h1, h2, h4⟩
    · right; exact (hv.apart k' u k u₀ (by omega)).2
  · rintro (⟨k', h1, h2, h3⟩ | rfl)
    · exact ⟨k', h1, h2, by omega⟩
    · exact ⟨k, by omega, by omega, by omega⟩

end Cert.Proof.Plan

end
-- ==== Proof.PreValid.lean ====
/-
  The precondition's six arrays of bits, all ones, say of every block's tables what the proof takes of them: ranges inside the slot
  list, the unfilled places, the slots apart, and every slot of a range covered.
-/
module

public import proofs.«01_k».proof.Pre_valid_plan
public import proofs.«01_k».proof.Proof.Plan
public import Idealize.ShloMosaic.Lib.StableHlo.Predicate
public import Idealize.ShloMosaic.Lib.Routing.OpsOrder
public import Idealize.ShloMosaic.Lib.ValueIdx
public import Idealize.ShloMosaic.Lib.Pipeline.Value

@[expose] public section

noncomputable section

namespace Cert.Proof.PreValid

open Cert.Pre_valid_plan Idealize.ShloMosaic Idealize.ShloMosaic.ValueIdx Idealize.ShloMosaic.StableHlo.Predicate

/-! ## The broadcasts the predicate prints, at an index -/

variable {α : Type}

theorem bc_scalar {t : Shape} (h : S_.BroadcastsInDim t (![] : Fin 0 → Fin t.rank)) (v : BitVec 32) (j : t.Idx) :
    broadcastInDim t ![] h (constantI S_ 32 v) j = v := rfl

theorem bc_range (h : S8x32.BroadcastsInDim S8x32x8x1536 (![0, 1] : Fin 2 → Fin S8x32x8x1536.rank)) (x : S8x32.Idx → α)
    (b : Fin 8) (e : Fin 32) (k : Fin 8) (u : Fin 1536) :
    broadcastInDim S8x32x8x1536 ![0, 1] h x (ix4 b e k u) = x (ix2 b e) :=
  broadcastInDim_apply _ _ _ _ _ (fun a => by fin_cases a <;> rfl)

theorem bc_slot (h : S8x8x1536.BroadcastsInDim S8x32x8x1536 (![0, 2, 3] : Fin 3 → Fin S8x32x8x1536.rank)) (x : S8x8x1536.Idx → α)
    (b : Fin 8) (e : Fin 32) (k : Fin 8) (u : Fin 1536) :
    broadcastInDim S8x32x8x1536 ![0, 2, 3] h x (ix4 b e k u) = x (ix3 b k u) :=
  broadcastInDim_apply _ _ _ _ _ (fun a => by fin_cases a <;> rfl)

theorem bc_left (h : S8x8x1536.BroadcastsInDim S8x8x1536x8x1536 (![0, 1, 2] : Fin 3 → Fin S8x8x1536x8x1536.rank))
    (x : S8x8x1536.Idx → α) (b k : Fin 8) (u : Fin 1536) (k' : Fin 8) (u' : Fin 1536) :
    broadcastInDim S8x8x1536x8x1536 ![0, 1, 2] h x (ix5 b k u k' u') = x (ix3 b k u) :=
  broadcastInDim_apply _ _ _ _ _ (fun a => by fin_cases a <;> rfl)

theorem bc_right (h : S8x8x1536.BroadcastsInDim S8x8x1536x8x1536 (![0, 3, 4] : Fin 3 → Fin S8x8x1536x8x1536.rank))
    (x : S8x8x1536.Idx → α) (b k : Fin 8) (u : Fin 1536) (k' : Fin 8) (u' : Fin 1536) :
    broadcastInDim S8x8x1536x8x1536 ![0, 3, 4] h x (ix5 b k u k' u') = x (ix3 b k' u') :=
  broadcastInDim_apply _ _ _ _ _ (fun a => by fin_cases a <;> rfl)

theorem bc_first (h : S8x32x8x1536.BroadcastsInDim S8x32x8x8x1536 (![0, 1, 2, 4] : Fin 4 → Fin S8x32x8x8x1536.rank))
    (x : S8x32x8x1536.Idx → α) (b : Fin 8) (e : Fin 32) (k k' : Fin 8) (u : Fin 1536) :
    broadcastInDim S8x32x8x8x1536 ![0, 1, 2, 4] h x (ix5 b e k k' u) = x (ix4 b e k u) :=
  broadcastInDim_apply _ _ _ _ _ (fun a => by fin_cases a <;> rfl)

theorem bc_second (h : S8x32x8x1536.BroadcastsInDim S8x32x8x8x1536 (![0, 1, 3, 4] : Fin 4 → Fin S8x32x8x8x1536.rank))
    (x : S8x32x8x1536.Idx → α) (b : Fin 8) (e : Fin 32) (k k' : Fin 8) (u : Fin 1536) :
    broadcastInDim S8x32x8x8x1536 ![0, 1, 3, 4] h x (ix5 b e k k' u) = x (ix4 b e k' u) :=
  broadcastInDim_apply _ _ _ _ _ (fun a => by fin_cases a <;> rfl)

theorem bc_number (h : S8x8x1536.BroadcastsInDim S8x16512x8x1536 (![0, 2, 3] : Fin 3 → Fin S8x16512x8x1536.rank))
    (x : S8x8x1536.Idx → α) (b : Fin 8) (s : Fin 16512) (k : Fin 8) (u : Fin 1536) :
    broadcastInDim S8x16512x8x1536 ![0, 2, 3] h x (ix4 b s k u) = x (ix3 b k u) :=
  broadcastInDim_apply _ _ _ _ _ (fun a => by fin_cases a <;> rfl)

theorem bc_used (h : S8x16512.BroadcastsInDim S8x32x16512 (![0, 2] : Fin 2 → Fin S8x32x16512.rank)) (x : S8x16512.Idx → α)
    (b : Fin 8) (e : Fin 32) (s : Fin 16512) : broadcastInDim S8x32x16512 ![0, 2] h x (ix3 b e s) = x (ix2 b s) :=
  broadcastInDim_apply _ _ _ _ _ (fun a => by fin_cases a <;> rfl)

theorem bc_expert (h : S8x32.BroadcastsInDim S8x32x16512 (![0, 1] : Fin 2 → Fin S8x32x16512.rank)) (x : S8x32.Idx → α)
    (b : Fin 8) (e : Fin 32) (s : Fin 16512) : broadcastInDim S8x32x16512 ![0, 1] h x (ix3 b e s) = x (ix2 b e) :=
  broadcastInDim_apply _ _ _ _ _ (fun a => by fin_cases a <;> rfl)

/-- A slot is used exactly when some choice of some token of its block names it. -/
theorem used_iff (h : S8x16512x8x1536.ReducesTo [2, 3] S8x16512) (hu : 0 < S_.numel) (x : IVec S8x16512x8x1536 1)
    (b : Fin 8) (s : Fin 16512) (hx : Host.reduce IntOp.ori x (constantI S_ 1 0#1) h hu (ix2 b s) = 1#1) :
    ∃ k u, x (ix4 b s k u) = 1#1 := by
  rw [Host.reduce_eq_fold] at hx
  obtain ⟨i, hi, e⟩ := (Routing.fold_ori _ _).mp hx
  have hd := (Finset.mem_filter.mp hi).2
  have h0 : (i 0).val = b.val := by
    have := congrArg Fin.val (congrFun hd 0)
    rw [Shape.ReducesTo.drop_apply_val_of_eq h i 0 0 (by decide) (by decide)] at this
    exact this
  have h1 : (i 1).val = s.val := by
    have := congrArg Fin.val (congrFun hd 1)
    rw [Shape.ReducesTo.drop_apply_val_of_eq h i 1 1 (by decide) (by decide)] at this
    exact this
  obtain ⟨a0, a1, a2, a3, rfl⟩ : ∃ a0 a1 a2 a3, i = ix4 (n0 := 8) (n1 := 16512) (n2 := 8) (n3 := 1536) a0 a1 a2 a3 := ⟨_, _, _, _, eq_ix4 i⟩
  obtain rfl : a0 = b := Fin.ext h0
  obtain rfl : a1 = s := Fin.ext h1
  exact ⟨a2, a3, e⟩

/-! ## Bits -/

theorem and_one {a b : BitVec 1} : IntOp.andi a b = 1#1 ↔ a = 1#1 ∧ b = 1#1 := by
  unfold IntOp.andi; revert a b; decide

theorem or_one {a b : BitVec 1} : IntOp.ori a b = 1#1 ↔ a = 1#1 ∨ b = 1#1 := by
  unfold IntOp.ori; revert a b; decide

theorem not_one {a : BitVec 1} : ~~~a = 1#1 ↔ ¬ a = 1#1 := by
  revert a; decide

theorem ne_one {a b : BitVec 32} : IntOp.cmpi .ne a b = 1#1 ↔ a ≠ b := by
  simp only [IntOp.cmpi, ofBool_eq_one_iff, bne_iff_ne]

theorem sge_int {a b : BitVec 32} : IntOp.cmpi .sge a b = 1#1 ↔ b.toInt ≤ a.toInt := by
  rw [WordCmp.cmpi_sge_eq, ofBool_eq_one_iff, decide_eq_true_iff]

theorem sle_int {a b : BitVec 32} : IntOp.cmpi .sle a b = 1#1 ↔ a.toInt ≤ b.toInt := by
  rw [WordCmp.cmpi_sle_eq, ofBool_eq_one_iff, decide_eq_true_iff]

theorem slt_int {a b : BitVec 32} : IntOp.cmpi .slt a b = 1#1 ↔ a.toInt < b.toInt := by
  rw [WordCmp.cmpi_slt_eq, ofBool_eq_one_iff, decide_eq_true_iff]

/-- A signed word between zero and a small bound is its natural number. -/
theorem small {a : BitVec 32} {n : Nat} (h0 : 0 ≤ a.toInt) (h1 : a.toInt ≤ n) : a.toNat ≤ n := by
  rw [BitVec.toInt_eq_toNat_cond] at h0 h1; split at h0 <;> omega

theorem int_nat {a : BitVec 32} (h : a.toNat < 2 ^ 31) : a.toInt = a.toNat := toInt_eq_toNat_of_lt h

/-- The list of a range rounded up to whole tiles of 128. -/
theorem round_up {c : BitVec 32} (hc : c.toNat ≤ 12288) :
    (IntOp.shli .host (IntOp.shrsi .host (IntOp.addi c 127#32) 7#32) 7#32).toNat = (c.toNat + 127) / 128 * 128 := by
  have h1 : (IntOp.addi c 127#32).toNat = c.toNat + 127 := by
    show (c + 127#32).toNat = _
    rw [BitVec.toNat_add, show (127#32).toNat = 127 from rfl]; omega
  have h2 : (IntOp.shrsi .host (IntOp.addi c 127#32) 7#32).toNat = (c.toNat + 127) / 128 := by
    show (if (7#32).toNat < 32 then _ else _ : BitVec 32).toNat = _
    rw [if_pos (by decide)]
    show ((IntOp.addi c 127#32).sshiftRight 7).toNat = _
    rw [BitVec.sshiftRight_eq_of_msb_false (by rw [BitVec.msb_eq_false_iff_two_mul_lt, h1]; omega), BitVec.toNat_ushiftRight, h1,
      Nat.shiftRight_eq_div_pow]
  show (if (7#32).toNat < 32 then _ else _ : BitVec 32).toNat = _
  rw [if_pos (by decide)]
  show ((IntOp.shrsi .host (IntOp.addi c 127#32) 7#32) <<< 7).toNat = _
  rw [BitVec.toNat_shiftLeft, h2, Nat.shiftLeft_eq]; omega

/-! ## The precondition -/

/-- The last array's bit of a slot in a range: some choice of some token names the slot. -/
theorem cover_at [Facts] {cnt off : IVec S8x32 32} {pos : IVec S8x8x1536 32}
    (h5 : ori (ori (broadcastInDim S8x32x16512 ![0, 2] Facts.bcast_S8x16512_S8x32x16512_0_2
          (Host.reduce IntOp.ori (cmpi .eq (broadcastInDim S8x16512x8x1536 ![0, 2, 3] Facts.bcast_S8x8x1536_S8x16512x8x1536_0_2_3 pos)
            (iotaInDim S8x16512x8x1536 32 1)) (constantI S_ 1 0#1) Facts.reducesTo_S8x16512x8x1536_S8x16512_d2_3 Facts.h_S_))
        (cmpi .slt (iotaInDim S8x32x16512 32 2) (broadcastInDim S8x32x16512 ![0, 1] Facts.bcast_S8x32_S8x32x16512_0_1 off)))
      (cmpi .sge (iotaInDim S8x32x16512 32 2) (broadcastInDim S8x32x16512 ![0, 1] Facts.bcast_S8x32_S8x32x16512_0_1 (addi off cnt)))
      = fun _ => 1#1)
    (b : Fin 8) (e : Fin 32) (s : Fin 16512) (a1 : (off (ix2 b e)).toInt ≤ (s.val : Int))
    (a2 : (s.val : Int) < (IntOp.addi (off (ix2 b e)) (cnt (ix2 b e))).toInt) :
    ∃ k u, pos (ix3 b k u) = BitVec.ofNat 32 s.val := by
  have g := congrFun h5 (ix3 b e s)
  have es : (BitVec.ofNat 32 s.val).toInt = (s.val : Int) := toInt_ofNat_small s.val (by have := s.isLt; omega)
  rcases or_one.mp g with g | g
  · rcases or_one.mp g with g | g
    · rw [bc_used] at g
      obtain ⟨k, u, g⟩ := used_iff _ _ _ _ _ g
      refine ⟨k, u, ?_⟩
      have g := cmpi_eq_iff.mp g
      rw [bc_number] at g
      exact g
    · have g := slt_int.mp g
      rw [bc_expert] at g
      have g : (BitVec.ofNat 32 s.val).toInt < (off (ix2 b e)).toInt := g
      omega
  · have g := sge_int.mp g
    rw [bc_expert] at g
    have g : (IntOp.addi (off (ix2 b e)) (cnt (ix2 b e))).toInt ≤ (BitVec.ofNat 32 s.val).toInt := g
    omega

/-- The predicate's six arrays of one block's tables, all ones. -/
theorem valid {F : FTy → Type} [FloatOps F] [Facts] (cnt off : IVec S8x32 32) (pos : IVec S8x8x1536 32)
    (h0 : (fn_valid_plan (F := F) cnt off pos).1 = fun _ => 1#1) (h1 : (fn_valid_plan (F := F) cnt off pos).2.1 = fun _ => 1#1)
    (h2 : (fn_valid_plan (F := F) cnt off pos).2.2.1 = fun _ => 1#1)
    (h3 : (fn_valid_plan (F := F) cnt off pos).2.2.2.1 = fun _ => 1#1)
    (h4 : (fn_valid_plan (F := F) cnt off pos).2.2.2.2.1 = fun _ => 1#1)
    (h5 : (fn_valid_plan (F := F) cnt off pos).2.2.2.2.2 = fun _ => 1#1) (b : Fin 8) :
    Plan.Valid (fun e => cnt (ix2 b e)) (fun e => off (ix2 b e)) (fun k u => pos (ix3 b k u)) := by
  simp only [fn_valid_plan, fn_valid_plan_part1, fn_valid_plan_part2, fn_valid_plan_part3] at h0 h1 h2 h3 h4 h5
  have r : ∀ e, (cnt (ix2 b e)).toNat ≤ 12288 ∧ (off (ix2 b e)).toNat + (cnt (ix2 b e)).toNat ≤ 16384 := fun e => by
    have g := congrFun h0 (ix2 b e)
    obtain ⟨g, g5⟩ := and_one.mp g
    obtain ⟨g, g4⟩ := and_one.mp g
    obtain ⟨g, g3⟩ := and_one.mp g
    obtain ⟨g1, g2⟩ := and_one.mp g
    have g1 : 0 ≤ (cnt (ix2 b e)).toInt := sge_int.mp g1
    have g2 : (cnt (ix2 b e)).toInt ≤ 12288 := sle_int.mp g2
    have g3 : 0 ≤ (off (ix2 b e)).toInt := sge_int.mp g3
    have g4 : (off (ix2 b e)).toInt ≤ 16384 := sle_int.mp g4
    have g5 : (IntOp.addi (off (ix2 b e)) (cnt (ix2 b e))).toInt ≤ 16384 := sle_int.mp g5
    have c0 := small (n := 12288) g1 g2
    have o0 := small (n := 16384) g3 g4
    refine ⟨c0, ?_⟩
    have e1 : (IntOp.addi (off (ix2 b e)) (cnt (ix2 b e))).toNat = (off (ix2 b e)).toNat + (cnt (ix2 b e)).toNat := by
      show (off (ix2 b e) + cnt (ix2 b e)).toNat = _
      rw [BitVec.toNat_add]; omega
    rw [int_nat (by omega), e1] at g5
    exact_mod_cast (show ((off (ix2 b e)).toNat + (cnt (ix2 b e)).toNat : Int) ≤ 16384 from g5)
  have e1 : ∀ e, (IntOp.addi (off (ix2 b e)) (cnt (ix2 b e))).toNat = (off (ix2 b e)).toNat + (cnt (ix2 b e)).toNat := fun e => by
    have := r e
    show (off (ix2 b e) + cnt (ix2 b e)).toNat = _
    rw [BitVec.toNat_add]; omega
  have p : ∀ k u, (pos (ix3 b k u)).toNat < 16512 := fun k u => by
    obtain ⟨g1, g2⟩ := and_one.mp (congrFun h1 (ix3 b k u))
    have g1 : 0 ≤ (pos (ix3 b k u)).toInt := sge_int.mp g1
    have g2 : (pos (ix3 b k u)).toInt < 16512 := slt_int.mp g2
    have := small (n := 16511) g1 (by omega)
    omega
  refine ⟨fun e => (r e).1, fun e => (r e).2, p, fun e k u => ?_, fun k u k' u' hp => ?_, fun e k k' u a1 a2 a3 a4 => ?_,
    fun e s a1 a2 => ?_⟩
  · have g := or_one.mp (congrFun h2 (ix4 b e k u))
    have g : (pos (ix3 b k u)).toInt < (IntOp.addi (off (ix2 b e)) (cnt (ix2 b e))).toInt
        ∨ (IntOp.addi (off (ix2 b e)) (IntOp.shli .host (IntOp.shrsi .host (IntOp.addi (cnt (ix2 b e)) 127#32) 7#32) 7#32)).toInt
          ≤ (pos (ix3 b k u)).toInt := by
      rcases g with g | g
      · have g := slt_int.mp g
        rw [bc_slot, bc_range] at g
        exact .inl g
      · have g := sge_int.mp g
        rw [bc_slot, bc_range] at g
        exact .inr g
    have hr := r e
    have hp := p k u
    have e2 := round_up hr.1
    have e3 : ∀ x : BitVec 32, x.toNat ≤ 12415 → (IntOp.addi (off (ix2 b e)) x).toNat = (off (ix2 b e)).toNat + x.toNat := fun x hx => by
      show (off (ix2 b e) + x).toNat = _
      rw [BitVec.toNat_add]; omega
    have e4 := e3 _ (by rw [e2]; omega)
    rw [e2] at e4
    rw [int_nat (a := pos (ix3 b k u)) (by omega), int_nat (a := IntOp.addi (off (ix2 b e)) (cnt (ix2 b e))) (by rw [e1]; omega),
      e1, int_nat (by rw [e4]; omega), e4] at g
    exact_mod_cast g
  · rcases or_one.mp (congrFun h3 (ix5 b k u k' u')) with g | g
    · obtain ⟨g1, g2⟩ := and_one.mp g
      have g1 := cmpi_eq_iff.mp g1
      have g2 := cmpi_eq_iff.mp g2
      refine ⟨Fin.ext ?_, Fin.ext ?_⟩
      · have := congrArg BitVec.toNat g1
        have a := k.isLt; have b := k'.isLt
        exact (Nat.mod_eq_of_lt (by omega : k.val < 2 ^ 32)).symm.trans (this.trans (Nat.mod_eq_of_lt (by omega : k'.val < 2 ^ 32)))
      · have := congrArg BitVec.toNat g2
        have a := u.isLt; have b := u'.isLt
        exact (Nat.mod_eq_of_lt (by omega : u.val < 2 ^ 32)).symm.trans (this.trans (Nat.mod_eq_of_lt (by omega : u'.val < 2 ^ 32)))
    · have g := ne_one.mp g
      rw [bc_left, bc_right] at g
      exact absurd (BitVec.eq_of_toNat_eq hp) g
  · have hr := r e
    have inside : ∀ k, (off (ix2 b e)).toNat ≤ (pos (ix3 b k u)).toNat →
        (pos (ix3 b k u)).toNat < (off (ix2 b e)).toNat + (cnt (ix2 b e)).toNat →
        andi (cmpi .sle (broadcastInDim S8x32x8x1536 ![0, 1] Facts.bcast_S8x32_S8x32x8x1536_0_1 off)
            (broadcastInDim S8x32x8x1536 ![0, 2, 3] Facts.bcast_S8x8x1536_S8x32x8x1536_0_2_3 pos))
          (cmpi .slt (broadcastInDim S8x32x8x1536 ![0, 2, 3] Facts.bcast_S8x8x1536_S8x32x8x1536_0_2_3 pos)
            (broadcastInDim S8x32x8x1536 ![0, 1] Facts.bcast_S8x32_S8x32x8x1536_0_1 (addi off cnt))) (ix4 b e k u) = 1#1 := by
      intro k b1 b2
      have hp := p k u
      refine and_one.mpr ⟨sle_int.mpr ?_, slt_int.mpr ?_⟩
      · rw [bc_range, bc_slot, int_nat (a := off (ix2 b e)) (by omega), int_nat (a := pos (ix3 b k u)) (by omega)]
        exact_mod_cast b1
      · rw [bc_range, bc_slot]
        show (pos (ix3 b k u)).toInt < (IntOp.addi (off (ix2 b e)) (cnt (ix2 b e))).toInt
        rw [int_nat (a := pos (ix3 b k u)) (by omega), int_nat (a := IntOp.addi (off (ix2 b e)) (cnt (ix2 b e))) (by rw [e1]; omega), e1]
        exact_mod_cast b2
    rcases or_one.mp (congrFun h4 (ix5 b e k k' u)) with g1 | g
    · refine Fin.ext ?_
      have := congrArg BitVec.toNat (cmpi_eq_iff.mp g1)
      have a := k.isLt; have b := k'.isLt
      exact (Nat.mod_eq_of_lt (by omega : k.val < 2 ^ 32)).symm.trans (this.trans (Nat.mod_eq_of_lt (by omega : k'.val < 2 ^ 32)))
    · refine absurd (and_one.mpr ⟨?_, ?_⟩) (not_one.mp g)
      · rw [bc_first]; exact inside k a1 a2
      · rw [bc_second]; exact inside k' a3 a4
  · have hr := r e
    obtain ⟨k, u, g⟩ := cover_at h5 b e ⟨s, by omega⟩
      (by rw [int_nat (a := off (ix2 b e)) (by omega)]; exact_mod_cast a1)
      (by rw [int_nat (a := IntOp.addi (off (ix2 b e)) (cnt (ix2 b e))) (by rw [e1]; omega), e1]; exact_mod_cast a2)
    refine ⟨k, u, ?_⟩
    show (pos (ix3 b k u)).toNat = s
    rw [g, BitVec.toNat_ofNat]; exact Nat.mod_eq_of_lt (by omega)

end Cert.Proof.PreValid
-- ==== Proof.Hoare.lean ====
/-
  A small Hoare logic for straight-line kernels over a record of buffer contents. A state `s : σ` names what every buffer
  of interest holds; `I s` is the resource that says so. `W I s p Q`: run from `I s`, the program `p` ends with some
  value `a` and some state `s'` with `Q a s'`, and `I s'` holds again. A memref is tied to a field of the record once
  (`RCell`, `Cell`); after that loads, stores, checks and loops are rules about `s` alone.
-/
module

public import Idealize.ShloMosaic.Lib.Exec.Context
public import Idealize.ShloMosaic.Lib.Memref

@[expose] public section

noncomputable section

namespace Cert.Proof.Hoare

open Idealize.ShloMosaic Idealize.ShloMosaic.TcCoe
open Idealize.SL Idealize.SL.RA Idealize.SL.Sem Idealize.SL.ProofMode
open Idealize.SL.BI (sProp bigSep)
open scoped Idealize.SL.BI
open Idealize.SL.BI.BIBase Idealize.SL.BI.Laws

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {𝒱 : Variants} {c : Thread nD τ} {bd : Option 𝒱.V} {E : Set Name}
variable {σ α β : Type}

local notation "𝕄" => MT nD τ sig Ix Val Name U Lvl

/-- What a rectangle store of `w` leaves of contents `X`: `w` on the rectangle, `X` off it. -/
def wrAt {s : Shape} {T : Type} (r : Rect s) (w : r.shape.Idx → T) (X : s.Idx → T) : s.Idx → T :=
  fun i => open Classical in if h : ∃ j, r.emb j = i then w h.choose else X i

theorem wrAt_emb {s : Shape} {T : Type} (r : Rect s) (w : r.shape.Idx → T) (X : s.Idx → T) (j : r.shape.Idx) :
    wrAt r w X (r.emb j) = w j := by
  have h : ∃ j', r.emb j' = r.emb j := ⟨j, rfl⟩
  unfold wrAt
  rw [dif_pos h]
  exact congrArg w (r.emb.injective h.choose_spec)

theorem wrAt_of_ne {s : Shape} {T : Type} (r : Rect s) (w : r.shape.Idx → T) (X : s.Idx → T) (i : s.Idx)
    (h : ∀ j, r.emb j ≠ i) : wrAt r w X i = X i := by
  unfold wrAt
  rw [dif_neg]
  rintro ⟨j, hj⟩
  exact h j hj

/-- A store through a memref, read back through it. -/
theorem read_write_access {cs : CoreSpace} {κ : Kind} {s : Shape} {e : EltTy} (m : Memref sig κ cs s e) (r : Rect s)
    (f : m.view.ty.Contents Val) (w : r.shape.Idx → Val e) :
    m.view.read Val ((m.access r).write Val f w Finset.univ) = wrAt r w (m.view.read Val f) := by
  funext i
  by_cases h : ∃ j, r.emb j = i
  · obtain ⟨j, rfl⟩ := h
    rw [wrAt_emb]
    exact View.read_slice_write_emb r f w (Finset.mem_univ j)
  · rw [wrAt_of_ne r w _ i fun j hj => h ⟨j, hj⟩]
    refine View.read_slice_write_of_not_mem r f w _ fun hm => h ?_
    obtain ⟨j, -, hj⟩ := Finset.mem_map.mp hm
    exact ⟨j, hj⟩

section Rules

variable (defs 𝒱 c bd E)

/-- From `I s` the program ends with a value and a state that `Q` relates, `I` holding of that state. -/
def W (I : σ → sProp 𝕄) (s : σ) (p : Prog (TpuEff nD τ sig Val Λ c.2) α) (Q : α → σ → Prop) : Prop :=
  I s ⊢ wp frame (wpE defs 𝒱 c bd) E p (fun a => iprop(∃ s', ⌜Q a s'⌝ ∗ I s'))

variable {defs 𝒱 c bd E}

variable {I : σ → sProp (MT nD τ sig Ix Val Name U Lvl)} {s : σ} {Q : α → σ → Prop}

theorem W.entails {p : Prog (TpuEff nD τ sig Val Λ c.2) α} (h : W defs 𝒱 c bd E I s p Q) :
    I s ⊢ wp frame (wpE defs 𝒱 c bd) E p (fun a => iprop(∃ s', ⌜Q a s'⌝ ∗ I s')) := h

theorem W.mono {p : Prog (TpuEff nD τ sig Val Λ c.2) α} {Q' : α → σ → Prop} (h : W defs 𝒱 c bd E I s p Q)
    (hQ : ∀ a s', Q a s' → Q' a s') : W defs 𝒱 c bd E I s p Q' := by
  refine h.trans (wp_mono _ _ _ fun a => ?_)
  iintro ⟨%s', %hq, H⟩
  iexists s'
  isplitr
  · ipureintro; exact hQ a s' hq
  · iexact H

theorem W.ret {a : α} (h : Q a s) : W defs 𝒱 c bd E I s (.ret a) Q := by
  refine Entails.trans ?_ (le_wp_ret _ _ _ a _)
  show I s ⊢ iprop(∃ s', ⌜Q a s'⌝ ∗ I s')
  iintro H
  iexists s
  isplitr
  · ipureintro; exact h
  · iexact H

theorem W.bind {p : Prog (TpuEff nD τ sig Val Λ c.2) β} {k : β → Prog (TpuEff nD τ sig Val Λ c.2) α}
    (h : W defs 𝒱 c bd E I s p fun b s' => W defs 𝒱 c bd E I s' (k b) Q) : W defs 𝒱 c bd E I s (p >>= k) Q := by
  unfold W
  rw [wp_bind]
  refine h.trans (wp_mono _ _ _ fun b => ?_)
  iintro ⟨%s', %hq, H⟩
  iapply (W.entails hq)
  iexact H

theorem W.seq {p : Prog (TpuEff nD τ sig Val Λ c.2) β} {k : β → Prog (TpuEff nD τ sig Val Λ c.2) α} {R : β → σ → Prop}
    (h : W defs 𝒱 c bd E I s p R) (hk : ∀ b s', R b s' → W defs 𝒱 c bd E I s' (k b) Q) :
    W defs 𝒱 c bd E I s (p >>= k) Q :=
  W.bind (h.mono hk)

theorem W.assume {P : Prop} {d : Decidable P} {k : PLift P → Prog (TpuEff nD τ sig Val Λ c.2) α} (hP : P)
    (h : W defs 𝒱 c bd E I s (k ⟨hP⟩) Q) : W defs 𝒱 c bd E I s (.op (.assume P d) k) Q :=
  exec_assume 𝒱 c bd E d k hP h

/-- A memref that the program only reads: it holds `get s`, at some share. -/
def RCell (I : σ → sProp 𝕄) {sp : Space} {sh : Shape} {e : EltTy} (m : Memref sig c.2.kind sp sh e)
    (get : σ → sh.Idx → Val e) : Prop :=
  ∃ q : PosShare TreeShare, ∀ s, I s ⊢ iprop(owns c m q (get s) ∗ (owns c m q (get s) -∗ I s))

/-- A memref that the program reads and writes: it holds `get s`, and holding `X` instead is the state `set s X`. -/
structure Cell (I : σ → sProp 𝕄) {sp : Space} {sh : Shape} {e : EltTy} (m : Memref sig c.2.kind sp sh e)
    (get : σ → sh.Idx → Val e) (set : σ → (sh.Idx → Val e) → σ) : Prop where
  acc : ∀ s, I s ⊢ iprop(owns c m fullShare (get s) ∗ (∀ X, owns c m fullShare X -∗ I (set s X)))
  set_get : ∀ s, set s (get s) = s

theorem Cell.rcell {sp : Space} {sh : Shape} {e : EltTy} {m : Memref sig c.2.kind sp sh e}
    {get : σ → sh.Idx → Val e} {set : σ → (sh.Idx → Val e) → σ} (h : Cell (c := c) I m get set) : RCell (c := c) I m get := by
  refine ⟨fullShare, fun s => (h.acc s).trans ?_⟩
  iintro ⟨H, K⟩
  isplitl [H]
  · iexact H
  iintro H
  ihave K := K $$ %(get s) H
  rw [h.set_get]
  iexact K

theorem W.load {cs : CoreSpace} {sh : Shape} {e : EltTy} {m : Memref sig c.2.kind cs sh e} {get : σ → sh.Idx → Val e}
    (hc : RCell (c := c) I m get) {r : LoadRect sh} {hl : m.view.LoadsAt r}
    {k : (r.shape.Idx → Val e) → Prog (TpuEff nD τ sig Val Λ c.2) α}
    (h : W defs 𝒱 c bd E I s (k fun x => get s (r.idx x)) Q) : W defs 𝒱 c bd E I s (.op (.load m r hl) k) Q := by
  obtain ⟨q, hq⟩ := hc
  refine (hq s).trans ?_
  unfold owns
  iintro ⟨⟨%f, %hf, H⟩, K⟩
  iapply (wp_load 𝒱 c bd E (hl := hl) (k := k) (f := f) (q := q) (View.setOn_subset_set _ _)) $$ H
  iintro H
  have hr : m.view.readAt Val r f = fun x => get s (r.idx x) := by
    funext x; rw [View.readAt_apply, hf]
  rw [hr]
  iapply (W.entails h)
  iapply K
  iexists f
  isplitr
  · ipureintro; exact hf
  · iexact H

theorem W.store {cs : CoreSpace} {sh : Shape} {e : EltTy} {m : Memref sig c.2.kind cs sh e} {get : σ → sh.Idx → Val e}
    {set : σ → (sh.Idx → Val e) → σ} (hc : Cell (c := c) I m get set) {r : Rect sh} {w : r.shape.Idx → Val e}
    {hx : (m.access r).Stores Finset.univ} {hm : Finset.univ = Finset.univ ∨ ∀ a, r.stride a = 1}
    {k : PUnit → Prog (TpuEff nD τ sig Val Λ c.2) α}
    (h : W defs 𝒱 c bd E I (set s (wrAt r w (get s))) (k ⟨⟩) Q) :
    W defs 𝒱 c bd E I s (.op (.store m r w Finset.univ hx hm) k) Q := by
  refine (hc.acc s).trans ?_
  unfold owns
  iintro ⟨⟨%f, %hf, H⟩, K⟩
  iapply (wp_store 𝒱 c bd E (hx := hx) (hm := hm) (k := k) (f := f)
    (show (m.access r).setOn Finset.univ ⊆ m.view.set by rw [View.setOn_univ]; exact View.set_slice_subset _ _)) $$ H
  iintro H
  iapply (W.entails h)
  iapply K
  iexists _
  isplitr
  swap
  · iexact H
  · ipureintro; rw [← hf]; exact read_write_access m r f w

/-- A counted loop, by an invariant that says what the carried value and the state are before each trip. -/
theorem W.loop {w : Nat} (lb ub st : BitVec w) (hok : Scf.OK lb ub st) (init : α)
    (body : Fin (Scf.trips lb ub st) → α → Prog (TpuEff nD τ sig Val Λ c.2) α) (inv : Nat → α → σ → Prop)
    (h0 : inv 0 init s)
    (hstep : ∀ (n : Fin (Scf.trips lb ub st)) a s, inv n.val a s → W defs 𝒱 c bd E I s (body n a) (inv (n.val + 1)))
    (hQ : ∀ a s, inv (Scf.trips lb ub st) a s → Q a s) :
    W defs 𝒱 c bd E I s (Scf.for lb ub st hok init body) Q := by
  refine W.mono ?_ hQ
  unfold W
  have L := Scf.wp_for (M := 𝕄) frame (wpE defs 𝒱 c bd) E lb ub st hok init body
    (fun n a => iprop(∃ s', ⌜inv n a s'⌝ ∗ I s')) (fun n a => by
      iintro ⟨%s', %hi, H⟩
      iapply (W.entails (hstep n a s' hi))
      iexact H) (Q := fun a => iprop(∃ s', ⌜inv (Scf.trips lb ub st) a s'⌝ ∗ I s'))
  iintro H
  iapply L
  isplitl [H]
  · iexists s
    isplitr
    · ipureintro; exact h0
    · iexact H
  · iintro %a H
    iexact H

end Rules

end Cert.Proof.Hoare

end
-- ==== Proof.Chain.lean ====
/-
  A run of `m` steps, numbered upwards from `n`: what the printed body of a trip is, once its unrolled steps are seen to
  be one step at consecutive numbers.
-/
module

public import proofs.«01_k».proof.Proof.Hoare

@[expose] public section

noncomputable section

namespace Cert.Proof.Hoare

open Idealize.ShloMosaic Idealize.ShloMosaic.TcCoe
open Idealize.SL Idealize.SL.RA Idealize.SL.Sem Idealize.SL.ProofMode
open Idealize.SL.BI (sProp bigSep)

/-- The steps `f n`, `f (n + 1)`, …, `m` of them, one after the other. -/
def chain {E : Type → Type} (f : Nat → Prog E PUnit) (m : Nat) : Nat → Prog E PUnit :=
  Nat.rec (motive := fun _ => Nat → Prog E PUnit) (fun _ => .ret ⟨⟩) (fun _ ih n => f n >>= fun _ => ih (n + 1)) m

theorem chain_zero {E : Type → Type} (f : Nat → Prog E PUnit) (n : Nat) : chain f 0 n = .ret ⟨⟩ := rfl
theorem chain_succ {E : Type → Type} (f : Nat → Prog E PUnit) (m n : Nat) :
    chain f (m + 1) n = (f n >>= fun _ => chain f m (n + 1)) := rfl

/-- `P n ∧ P (n + 1) ∧ … ∧ P (n + m)`, nested to the right. -/
def conj (P : Nat → Prop) (m : Nat) : Nat → Prop :=
  Nat.rec (motive := fun _ => Nat → Prop) (fun n => P n) (fun _ ih n => P n ∧ ih (n + 1)) m

theorem conj_iff (P : Nat → Prop) (m n : Nat) : conj P m n ↔ ∀ k, n ≤ k → k ≤ n + m → P k := by
  induction m generalizing n with
  | zero =>
    refine ⟨fun h k h1 h2 => ?_, fun h => h n le_rfl le_rfl⟩
    obtain rfl : k = n := by omega
    exact h
  | succ m ih =>
    show (P n ∧ conj P m (n + 1)) ↔ _
    rw [ih]
    refine ⟨fun h k h1 h2 => ?_, fun h => ⟨h n le_rfl (by omega), fun k h1 h2 => h k (by omega) (by omega)⟩⟩
    rcases Nat.eq_or_lt_of_le h1 with rfl | h1
    · exact h.1
    · exact h.2 k h1 (by omega)

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {𝒱 : Variants} {c : Thread nD τ} {bd : Option 𝒱.V} {E : Set Name}
variable {σ : Type} {I : σ → sProp (MT nD τ sig Ix Val Name U Lvl)}

/-- A run of steps, by what holds before each. -/
theorem W.chain {f : Nat → Prog (TpuEff nD τ sig Val Λ c.2) PUnit} (inv : Nat → σ → Prop) (m : Nat) :
    ∀ (n : Nat) (s : σ), inv n s →
      (∀ k s, n ≤ k → k < n + m → inv k s → W defs 𝒱 c bd E I s (f k) fun _ s' => inv (k + 1) s') →
      W defs 𝒱 c bd E I s (Hoare.chain f m n) fun _ s' => inv (n + m) s' := by
  induction m with
  | zero => intro n s h _; exact W.ret h
  | succ m ih =>
    intro n s h hstep
    rw [chain_succ]
    refine W.seq (hstep n s le_rfl (by omega) h) fun _ s' h' => ?_
    have := ih (n + 1) s' h' fun k s h1 h2 => hstep k s (by omega) (by omega)
    rwa [show n + 1 + m = n + (m + 1) by omega] at this

end Cert.Proof.Hoare

end
-- ==== Proof.Rules.lean ====
/-
  The rules of `Hoare` in the shape the programs have: an operation followed by the rest, a scalar load, a run of steps
  whose results are kept; and what a store leaves, read at an index.
-/
module

public import proofs.«01_k».proof.Proof.Chain
public import Idealize.ShloMosaic.Lib.ValueIdx

@[expose] public section

noncomputable section

namespace Cert.Proof.Hoare

open Idealize.ShloMosaic Idealize.ShloMosaic.TcCoe
open Idealize.SL Idealize.SL.RA Idealize.SL.Sem Idealize.SL.ProofMode
open Idealize.SL.BI (sProp bigSep)

/-- The steps `f n`, `f (n + 1)`, … below `N`, `m` of them, what each returns kept: `vals` are those of the steps before `n`. -/
def chainAcc {E : Type → Type} {A : Type} (f : Nat → Prog E A) (N : Nat) (m : Nat) :
    (n : Nat) → n + m = N → (∀ k, k < n → A) → Prog E (∀ k, k < N → A) :=
  Nat.rec (motive := fun m => (n : Nat) → n + m = N → (∀ k, k < n → A) → Prog E (∀ k, k < N → A))
    (fun _ h vals => .ret fun k hk => vals k (Nat.lt_of_lt_of_eq hk h.symm))
    (fun m ih n h vals => f n >>= fun a => ih (n + 1) ((Nat.succ_add_eq_add_succ n m).trans h) fun k hk =>
      if h' : k = n then a else vals k (Nat.lt_of_le_of_ne (Nat.le_of_lt_succ hk) h')) m

theorem wrAt_eq {s : Shape} {T : Type} (r : Rect s) (w : r.shape.Idx → T) (X : s.Idx → T) (i : s.Idx) (j : r.shape.Idx)
    (h : r.emb j = i) : wrAt r w X i = w j := h ▸ wrAt_emb r w X j

/-- A store of one word into a rank-1 buffer. -/
theorem wrAt_one {n : Nat} {T : Type} (o : Fin 1 → Nat) (h : ∀ a, o a + (![1] : Fin 1 → Nat) a ≤ (⟨1, ![n]⟩ : Shape).size a) (v : T)
    (X : (⟨1, ![n]⟩ : Shape).Idx → T) (i : Fin n) :
    wrAt (Rect.unit (s := ⟨1, ![n]⟩) o ![1] h) (fun _ => v) X (ValueIdx.ix1 i) = if i.val = o 0 then v else X (ValueIdx.ix1 i) := by
  split
  · rename_i hi
    refine wrAt_eq _ _ _ _ (ValueIdx.ix1 (0 : Fin 1)) ?_
    funext a
    match a with
    | 0 => apply Fin.ext; show o 0 + 1 * 0 = i.val; omega
  · rename_i hi
    refine wrAt_of_ne _ _ _ _ fun j hj => hi ?_
    have h0 : o 0 + 1 * (j 0).val = i.val := congrArg (fun x : (⟨1, ![n]⟩ : Shape).Idx => (x 0).val) hj
    have h1 : (j 0).val < 1 := (j 0).isLt
    omega

/-- A store of the whole buffer. -/
theorem wrAt_whole {s : Shape} {T : Type} (o : Fin s.rank → Nat) (h : ∀ a, o a + s.size a ≤ s.size a)
    (w : s.Idx → T) (X : s.Idx → T) : wrAt (Rect.unit (s := s) o s.size h) w X = w := by
  funext i
  refine wrAt_eq (Rect.unit (s := s) o s.size h) w X i i ?_
  funext a
  apply Fin.ext
  have := h a
  show o a + 1 * (i a).val = (i a).val
  omega

variable {nD : Nat} {τ : Topo} {sig : RefSig} {Val : EltTy → Type}
variable {Ix : Type} [DecidableEq Ix] {Name : Type} [DecidableEq Name] {U : Type} [URA U] {Lvl : Type} [Preorder Lvl]
variable {Λ : Labels} {defs : Defs nD τ sig Val Λ} {𝒱 : Variants} {c : Thread nD τ} {bd : Option 𝒱.V} {E : Set Name}
variable {σ α β : Type} {I : σ → sProp (MT nD τ sig Ix Val Name U Lvl)} {s : σ} {Q : α → σ → Prop}

theorem W.loadB {cs : CoreSpace} {sh : Shape} {e : EltTy} {m : Memref sig c.2.kind cs sh e} {get : σ → sh.Idx → Val e}
    (hc : RCell (c := c) I m get) {r : LoadRect sh} {hl : m.view.LoadsAt r}
    {k : (r.shape.Idx → Val e) → Prog (TpuEff nD τ sig Val Λ c.2) α}
    (h : W defs 𝒱 c bd E I s (k fun x => get s (r.idx x)) Q) :
    W defs 𝒱 c bd E I s (Prog.lift (.load m r hl) >>= k) Q := W.load hc h

theorem W.storeB {cs : CoreSpace} {sh : Shape} {e : EltTy} {m : Memref sig c.2.kind cs sh e} {get : σ → sh.Idx → Val e}
    {set : σ → (sh.Idx → Val e) → σ} (hc : Cell (c := c) I m get set) {r : Rect sh} {w : r.shape.Idx → Val e}
    {hx : (m.access r).Stores Finset.univ} {hm : Finset.univ = Finset.univ ∨ ∀ a, r.stride a = 1}
    {k : PUnit → Prog (TpuEff nD τ sig Val Λ c.2) α}
    (h : W defs 𝒱 c bd E I (set s (wrAt r w (get s))) (k ⟨⟩) Q) :
    W defs 𝒱 c bd E I s (Prog.lift (.store m r w Finset.univ hx hm) >>= k) Q := W.store hc h

theorem W.storeT {cs : CoreSpace} {sh : Shape} {e : EltTy} {m : Memref sig c.2.kind cs sh e} {get : σ → sh.Idx → Val e}
    {set : σ → (sh.Idx → Val e) → σ} (hc : Cell (c := c) I m get set) {r : Rect sh} {w : r.shape.Idx → Val e}
    {hx : (m.access r).Stores Finset.univ} {hm : Finset.univ = Finset.univ ∨ ∀ a, r.stride a = 1} {Q : PUnit → σ → Prop}
    (h : Q ⟨⟩ (set s (wrAt r w (get s)))) :
    W defs 𝒱 c bd E I s (Prog.lift (.store m r w Finset.univ hx hm)) Q := W.store hc (W.ret h)

theorem W.assumeB {P : Prop} {d : Decidable P} {k : PLift P → Prog (TpuEff nD τ sig Val Λ c.2) α} (hP : P)
    (h : W defs 𝒱 c bd E I s (k ⟨hP⟩) Q) : W defs 𝒱 c bd E I s (Prog.lift (.assume P d) >>= k) Q := W.assume hP h

theorem W.sloadB {sh : Shape} {e : EltTy} {m : Memref sig c.2.kind .smem sh e} {get : σ → sh.Idx → Val e}
    (hc : RCell (c := c) I m get) {r : Rect sh} {h1 : r.shape.numel = 1} {hp : e.packing = 1}
    {k : Val e → Prog (TpuEff nD τ sig Val Λ c.2) α}
    (h : W defs 𝒱 c bd E I s (k (get s (r.idx (Shape.Idx.first (h1.symm ▸ Nat.one_pos))))) Q) :
    W defs 𝒱 c bd E I s (smemLoad m r h1 hp >>= k) Q := W.load hc h

/-- A run of steps that change nothing, what each returns kept. -/
theorem W.chainAcc {A : Type} {f : Nat → Prog (TpuEff nD τ sig Val Λ c.2) A} {N : Nat} (P : Nat → A → Prop) (m : Nat) :
    ∀ (n : Nat) (hn : n + m = N) (vals : ∀ k, k < n → A), (∀ k hk, P k (vals k hk)) →
      (∀ k, k < N → W defs 𝒱 c bd E I s (f k) fun a s' => s' = s ∧ P k a) →
      W defs 𝒱 c bd E I s (Hoare.chainAcc f N m n hn vals) fun vals s' => s' = s ∧ ∀ k hk, P k (vals k hk) := by
  induction m with
  | zero => intro n hn vals hv _; exact W.ret ⟨rfl, fun k hk => hv k _⟩
  | succ m ih =>
    intro n hn vals hv hf
    refine W.seq (hf n (by omega)) fun a s' ha => ?_
    obtain ⟨rfl, ha⟩ := ha
    refine ih (n + 1) (by omega) _ (fun k hk => ?_) hf
    split
    · rename_i h; subst h; exact ha
    · exact hv k _

end Cert.Proof.Hoare

end
-- ==== Proof.FormFill.lean ====
/-
  The kernel's two list loops, each trip as a run of one step: `fillStep` writes the dummy row's number past an expert's
  slots, `invertStep` enters a token at one of the slots that its table names.
-/
module

public import proofs.«01_k».proof.Proof.Rules
public import Idealize.ShloMosaic.Lib.Tactic
public import proofs.«01_k».proof.Proof.Gen.KernelIdeal.Skeleton

@[expose] public section

set_option maxRecDepth 100000

noncomputable section

namespace Cert.KernelIdeal.Body

open Cert.KernelIdeal Cert.KernelIdeal.Gen Cert.Proof.Hoare
open Idealize.ShloMosaic Idealize.SL.Sem

variable {F : FTy → Type} [FloatOps F]

/-- Step `n` of a fill: the dummy row's number goes into slot `v42 + v45 + n`. -/
def fillStep (i : grid0.Coords) (arg11 : Memref sig .tc .smem S16512 .i32) (k0_h1 : k0_cond1 i = 1#1)
    (v42 v45 : BitVec 32) (hw : k0_chk1 i v42 v45) (n : Nat) : Prog (TpuEff nD τ sig (Elt F) Λ₀ .tc) PUnit := do
  let _ : Elt F .i32 ← smemLoad arg11 (Rect.unit (s := S16512) (k0_off2 v42 v45 (BitVec.ofNat 32 (Fin.ofNat 128 n).val)) S1.size (k0_off2_inb i v42 v45 hw k0_h1 (Fin.ofNat 128 n))) numel1_S1 rfl
  Prog.lift (.store arg11 (Rect.unit (s := S16512) (k0_off2 v42 v45 (BitVec.ofNat 32 (Fin.ofNat 128 n).val)) S1.size (k0_off2_inb i v42 v45 hw k0_h1 (Fin.ofNat 128 n))) (fun _ => 1536#32) Finset.univ (View.stores_smem_one rfl numel1_S1) (.inl rfl))

theorem fill_eq (i : grid0.Coords) (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole) (arg0 : BitVec 32) (k0_h1 : k0_cond1 i = 1#1) (t : Fin k0_t1_loop.trips) :
    Gen.k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 k0_h1 t ()
      = (do
        let v42 : Elt F .i32 ← smemLoad arg3 (Rect.unit (s := S8x32) (k0_off1 i t) S1x1.size (k0_off1_inb i t k0_h1)) numel1_S1x1 rfl
        let v45 : Elt F .i32 ← smemLoad arg2 (Rect.unit (s := S8x32) (k0_off1 i t) S1x1.size (k0_off1_inb i t k0_h1)) numel1_S1x1 rfl
        let hw ← Prog.lift (TpuEff.assume (k0_chk1 i v42 v45) (k0_chk1.dec i v42 v45))
        chain (fillStep i arg11 k0_h1 v42 v45 hw.down) 128 0) := by
  sl_kernel_rfl

/-- Where step `n` of an inversion reads its token's slot: the token's place `t * 16 + n % 16` in row `n / 16`. -/
def invOff (t : Fin k0_t2_loop.trips) (n : Fin 128) : Fin 3 → Nat :=
  ![0, n.val / 16, (Scalar.indexCast (Scalar.addi (Scalar.muli (Scf.iv 0#32 1#32 t) 16#32) (BitVec.ofNat 32 (n.val % 16)))).toNat]

/-- A slot as an index of the list. -/
def slotAt (v : BitVec 32) : Fin 1 → Nat := ![(Scalar.indexCast v).toNat]

theorem trips_t2 : k0_t2_loop.trips = 96 := by decide

theorem invTok_toNat (t : Fin k0_t2_loop.trips) (n : Fin 128) :
    (Scalar.indexCast (Scalar.addi (Scalar.muli (Scf.iv 0#32 1#32 t) 16#32) (BitVec.ofNat 32 (n.val % 16)))).toNat = t.val * 16 + n.val % 16 := by
  have ht : t.val < 96 := trips_t2 ▸ t.isLt
  have hn : n.val % 16 < 16 := Nat.mod_lt _ (by decide)
  show ((0#32 + BitVec.ofNat 32 t.val * 1#32) * 16#32 + BitVec.ofNat 32 (n.val % 16)).toNat = _
  simp only [BitVec.toNat_add, BitVec.toNat_mul, BitVec.toNat_ofNat]
  omega

theorem invOff_inb (t : Fin k0_t2_loop.trips) (n : Fin 128) : ∀ a, invOff t n a + S1x1x1.size a ≤ S1x8x1536.size a := by
  have ht : t.val < 96 := trips_t2 ▸ t.isLt
  have hn := n.isLt
  intro a
  unfold invOff
  rw [invTok_toNat]
  match a with
  | 0 => exact Nat.le_refl 1
  | 1 => show n.val / 16 + 1 ≤ 8; omega
  | 2 => show t.val * 16 + n.val % 16 + 1 ≤ 1536; omega

/-- Step `n` of an inversion: the token's number goes into the slot that its table names. -/
def invertStep (i : grid0.Coords) (arg4 : Memref sig .tc .smem S1x8x1536 .i32) (arg11 : Memref sig .tc .smem S16512 .i32) (k0_h1 : k0_cond1 i = 1#1)
    (t : Fin k0_t2_loop.trips) (n : Nat) : Prog (TpuEff nD τ sig (Elt F) Λ₀ .tc) PUnit := do
  let v : Elt F .i32 ← smemLoad arg4 (Rect.unit (s := S1x8x1536) (invOff t (Fin.ofNat 128 n)) S1x1x1.size (invOff_inb t _)) numel1_S1x1x1 rfl
  let hw ← Prog.lift (TpuEff.assume (∀ (_ : k0_cond1 i = 1#1), ∀ a, slotAt v a + S1.size a ≤ S16512.size a) (decidable_of_iff' _ (Iff.of_eq rfl)))
  let _ : Elt F .i32 ← smemLoad arg11 (Rect.unit (s := S16512) (slotAt v) S1.size (hw.down k0_h1)) numel1_S1 rfl
  Prog.lift (.store arg11 (Rect.unit (s := S16512) (slotAt v) S1.size (hw.down k0_h1)) (fun _ => Scalar.addi (Scalar.muli (Scf.iv 0#32 1#32 t) 16#32) (BitVec.ofNat 32 ((Fin.ofNat 128 n).val % 16))) Finset.univ (View.stores_smem_one rfl numel1_S1) (.inl rfl))

theorem invert_eq (i : grid0.Coords) (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole) (k0_h1 : k0_cond1 i = 1#1) (t : Fin k0_t2_loop.trips) :
    Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 k0_h1 t ()
      = chain (invertStep i arg4 arg11 k0_h1 t) 128 0 := by
  sl_kernel_rfl

end Cert.KernelIdeal.Body

end
-- ==== Proof.FormTile.lean ====
/-
  One trip of the tile loop as runs of steps: 128 gathers, sixteen columns decoded, the two products, sixteen columns of
  rows laid out, and sixteen groups of eight rows added into the accumulator.
-/
module

public import proofs.«01_k».proof.Proof.FormFill

@[expose] public section

set_option maxRecDepth 100000

noncomputable section

namespace Cert.KernelIdeal.Body

open Cert.KernelIdeal Cert.KernelIdeal.Gen Cert.Proof.Hoare
open Idealize.ShloMosaic Idealize.SL.Sem

variable {F : FTy → Type} [FloatOps F]

section Pure

/-- Of 128 words read as floats, row by row, the one at `lane`: the sum over the lanes, the others left out. -/
def laneOf (lane : BitVec 32) (v1435 : Vec F S128x128 .i32) : FVec F S128x1 .f32 :=
  shapeCast S128x1 (multiReduction .add [1] S128 (select (cmpi .eq (iota .tc S128x128 32 [1] iota_S128x128_d1_w32) (broadcast S128x128 lane)) (bitcastToFloat .f32 v1435 : FVec F S128x128 .f32) (broadcast S128x128 (Scalar.ofBits .f32 0x00000000#32 : F .f32))) 0x00000000#32 reduces_S128x128_S128 (.inl rfl) rfl) shapeCasts_S128_S128x1

/-- The activations of a tile: the first product, scaled, and its two halves combined. -/
def actOf (v1443 : FVec F S128x1 .f32) (v1450 : Vec F S128x2048 .fp8e4m3) (v1451 : Vec F S1x2048x1536 .fp8e4m3) (v1456 : Vec F S1x1x1536 .f32) : FVec F S128x768 .f32 :=
  have v1452 : FVec F S2048x1536 .fp8e4m3 := shapeCast S2048x1536 v1451 shapeCasts_S1x2048x1536_S2048x1536
  have cst_577 : FVec F S128x1536 .f32 := constant S128x1536 .f32 0x00000000#32
  have v1453 : FVec F S128x1536 .f32 := matmul dot_S128x2048_S2048x1536_S128x1536_1_0_0_1_n_n none v1450 v1452 cst_577
  have v1454 : FVec F S128x1536 .f32 := broadcastTo S128x1536 v1443 broadcasts_S128x1_S128x1536
  have v1455 : FVec F S128x1536 .f32 := mulf v1453 v1454
  have v1457 : FVec F S1x1536 .f32 := shapeCast S1x1536 v1456 shapeCasts_S1x1x1536_S1x1536
  have v1458 : FVec F S128x1536 .f32 := broadcastTo S128x1536 v1457 broadcasts_S1x1536_S128x1536
  have v1459 : FVec F S128x1536 .f32 := mulf v1455 v1458
  have v1460 : FVec F S128x768 .f32 := extractStridedSlice S128x768 ![0, 0] v1459 slices_S128x1536_o0_0_S128x768
  have v1461 : FVec F S128x768 .f32 := logistic v1460
  have v1462 : FVec F S128x768 .f32 := mulf v1460 v1461
  have v1463 : FVec F S128x768 .f32 := extractStridedSlice S128x768 ![0, 768] v1459 slices_S128x1536_o0_768_S128x768
  mulf v1462 v1463

/-- Each row's largest magnitude over the format's largest. -/
def quotOf (v1464 : FVec F S128x768 .f32) : FVec F S128x1 .f32 :=
  mulf (shapeCast S128x1 (multiReduction .maximumf [1] S128 (absf v1464) 0xFF800000#32 reduces_S128x768_S128 (.inl rfl) rfl) shapeCasts_S128_S128x1) (broadcast S128x1 (Scalar.ofBits .f32 0x3B124925#32 : F .f32))

/-- How many of the 255 normal powers of two and infinity each quotient reaches: its exponent field. -/
def fieldOf (v1469 : FVec F S128x1 .f32) : IVec S128x1 32 :=
  have v1470 : IVec S128x256 32 := iota .tc S128x256 32 [1] iota_S128x256_d1_w32
  have v1471 : IVec S128x256 32 := broadcast S128x256 252#32
  have v1472 : IVec S128x256 1 := cmpi .sgt v1470 v1471
  have v1473 : IVec S128x256 32 := broadcast S128x256 255#32
  have v1474 : IVec S128x256 32 := select v1472 v1473 v1470
  have v1475 : IVec S128x256 32 := broadcast S128x256 23#32
  have v1476 : IVec S128x256 32 := shli v1474 v1475
  have v1477 : FVec F S128x256 .f32 := bitcastToFloat .f32 v1476
  have v1478 : IVec S128x256 32 := broadcast S128x256 0#32
  have v1479 : IVec S128x256 1 := cmpi .sgt v1470 v1478
  have v1480 : FVec F S128x256 .f32 := broadcastTo S128x256 v1469 broadcasts_S128x1_S128x256
  have v1481 : IVec S128x256 1 := cmpf .oge v1480 v1477
  have v1482 : IVec S128x256 1 := andi v1479 v1481
  have v1483 : IVec S128x256 32 := broadcast S128x256 1#32
  have v1484 : IVec S128x256 32 := broadcast S128x256 0#32
  have v1485 : IVec S128x256 32 := select v1482 v1483 v1484
  have v1486 : IVec S128 32 := multiReductionI .add [1] S128 v1485 0#32 reduces_S128x256_S128 rfl
  shapeCast S128x1 v1486 shapeCasts_S128_S128x1

/-- The exponent of the power of two that the field rounds up to, 0 where there is none. -/
def expOf (v1487 : IVec S128x1 32) : IVec S128x1 32 :=
  have v1488 : IVec S128x1 32 := broadcast S128x1 0#32
  have v1489 : IVec S128x1 1 := cmpi .eq v1487 v1488
  have v1490 : IVec S128x1 32 := broadcast S128x1 255#32
  have v1491 : IVec S128x1 1 := cmpi .eq v1487 v1490
  have v1492 : IVec S128x1 1 := ori v1489 v1491
  have v1493 : IVec S128x1 32 := broadcast S128x1 126#32
  have v1494 : IVec S128x1 32 := subi v1487 v1493
  have v1495 : IVec S128x1 32 := broadcast S128x1 0#32
  select v1492 v1495 v1494

/-- The power of two of an exponent, as a float's bits. -/
def powOf (v1496 : IVec S128x1 32) : FVec F S128x1 .f32 :=
  have v1497 : IVec S128x1 32 := broadcast S128x1 127#32
  have v1498 : IVec S128x1 32 := addi v1497 v1496
  have v1499 : IVec S128x1 32 := broadcast S128x1 23#32
  bitcastToFloat .f32 (shli v1498 v1499)

/-- The inverse power of two. -/
def invPowOf (v1496 : IVec S128x1 32) : FVec F S128x1 .f32 :=
  have v1502 : IVec S128x1 32 := broadcast S128x1 127#32
  have v1503 : IVec S128x1 32 := subi v1502 v1496
  have v1504 : IVec S128x1 32 := broadcast S128x1 23#32
  bitcastToFloat .f32 (shli v1503 v1504)

/-- The activations' codes: scaled, clipped and rounded. -/
def codesOf (v1464 : FVec F S128x768 .f32) (v1506 : FVec F S128x1 .f32) : FVec F S128x768 .fp8e4m3 :=
  have v1507 : FVec F S128x768 .f32 := broadcastTo S128x768 v1506 broadcasts_S128x1_S128x768
  have v1508 : FVec F S128x768 .f32 := mulf v1464 v1507
  have v1509 : FVec F S128x768 .f32 := broadcast S128x768 (Scalar.ofBits .f32 0xC3E00000#32 : F .f32)
  have v1510 : FVec F S128x768 .f32 := maximumf v1509 v1508
  have v1511 : FVec F S128x768 .f32 := broadcast S128x768 (Scalar.ofBits .f32 0x43E00000#32 : F .f32)
  have v1512 : FVec F S128x768 .f32 := minimumf v1511 v1510
  truncf .fp8e4m3 v1512 bitsLt_fp8e4m3_f32

/-- The rows a tile contributes: the second product, scaled by the activations' scale, the gate and the columns' scales. -/
def downOf (v1513 : FVec F S128x768 .fp8e4m3) (v1501 v1449 : FVec F S128x1 .f32) (v1514 : Vec F S1x768x2048 .fp8e4m3) (v1520 : Vec F S1x1x2048 .f32) : FVec F S128x2048 .f32 :=
  have v1515 : FVec F S768x2048 .fp8e4m3 := shapeCast S768x2048 v1514 shapeCasts_S1x768x2048_S768x2048
  have cst_601 : FVec F S128x2048 .f32 := constant S128x2048 .f32 0x00000000#32
  have v1516 : FVec F S128x2048 .f32 := matmul dot_S128x768_S768x2048_S128x2048_1_0_0_1_n_n none v1513 v1515 cst_601
  have v1517 : FVec F S128x1 .f32 := mulf v1501 v1449
  have v1518 : FVec F S128x2048 .f32 := broadcastTo S128x2048 v1517 broadcasts_S128x1_S128x2048
  have v1519 : FVec F S128x2048 .f32 := mulf v1516 v1518
  have v1521 : FVec F S1x2048 .f32 := shapeCast S1x2048 v1520 shapeCasts_S1x1x2048_S1x2048
  have v1522 : FVec F S128x2048 .f32 := broadcastTo S128x2048 v1521 broadcasts_S1x2048_S128x2048
  mulf v1519 v1522

/-- The rows of a tile, from its words of scales and gates, its decoded rows, and the expert's weights and scales. -/
def rowsOf (arg1 : BitVec 32) (row : Vec F S128x128 .i32) (lhs : Vec F S128x2048 .fp8e4m3) (wgu : Vec F S1x2048x1536 .fp8e4m3)
    (wgus : Vec F S1x1x1536 .f32) (wd : Vec F S1x768x2048 .fp8e4m3) (wds : Vec F S1x1x2048 .f32) : FVec F S128x2048 .f32 :=
  have act : FVec F S128x768 .f32 := actOf (laneOf 32#32 row) lhs wgu wgus
  have e : IVec S128x1 32 := expOf (fieldOf (quotOf act))
  downOf (codesOf act (invPowOf e)) (powOf e) (laneOf arg1 row) wd wds

/-- Four byte planes of a tile's words: byte `j` of each, read as an fp8 number. -/
def planeOf (j : Fin 4) (w : Vec F S128x128 .i32) : FVec F S128x128 .fp8e4m3 :=
  shapeCast S128x128 (bitcastToFloat .fp8e4m3 (trunci 8 (shrsi w (broadcast S128x128 (BitVec.ofNat 32 (8 * j.val)))) natLt_8_32) : FVec F S128x128 .fp8e4m3) shapeCasts_S128x128_S128x128

end Pure

/-! ### The slots of a tile -/

/-- The first slot of tile `t` of an expert whose slots begin at `v36`. -/
def tileBase (v5 : BitVec 32) (t : Fin (k0_t3_loop v5).trips) (v36 : BitVec 32) : BitVec 32 :=
  Scalar.addi v36 (Scalar.muli (Scf.iv 0#32 1#32 t) 128#32)

/-- Row `n`'s slot. -/
def gSlot (v5 : BitVec 32) (t : Fin (k0_t3_loop v5).trips) (v36 : BitVec 32) (n : Nat) : Fin 1 → Nat :=
  ![(Scalar.indexCast (Scalar.addi (tileBase v5 t v36) (BitVec.ofNat 32 n))).toNat]

/-- Row `8 * g + u`'s slot, as the groups spell it. -/
def sSlot (v5 : BitVec 32) (t : Fin (k0_t3_loop v5).trips) (v36 : BitVec 32) (g : Nat) (u : Nat) : Fin 1 → Nat :=
  ![(Scalar.indexCast (Scalar.addi (Scalar.addi (tileBase v5 t v36) (BitVec.ofNat 32 (8 * g))) (BitVec.ofNat 32 u))).toNat]

theorem gSlot_inb {v5 : BitVec 32} {t : Fin (k0_t3_loop v5).trips} {v36 : BitVec 32} (h : k0_chk131 v5 t v36) (n : Fin 128) :
    ∀ a, gSlot v5 t v36 n.val a + S1.size a ≤ S16512.size a := by
  obtain ⟨h0, h1, h2, h3, -⟩ := h
  have h0 : conj (fun n => ∀ a, gSlot v5 t v36 n a + S1.size a ≤ S16512.size a) 31 0 := h0
  have h1 : conj (fun n => ∀ a, gSlot v5 t v36 n a + S1.size a ≤ S16512.size a) 31 32 := h1
  have h2 : conj (fun n => ∀ a, gSlot v5 t v36 n a + S1.size a ≤ S16512.size a) 31 64 := h2
  have h3 : conj (fun n => ∀ a, gSlot v5 t v36 n a + S1.size a ≤ S16512.size a) 31 96 := h3
  rw [conj_iff] at h0 h1 h2 h3
  have hn := n.isLt
  rcases lt_or_ge n.val 32 with c | c
  · exact h0 n.val (by omega) (by omega)
  rcases lt_or_ge n.val 64 with c | c
  · exact h1 n.val (by omega) (by omega)
  rcases lt_or_ge n.val 96 with c | c
  · exact h2 n.val (by omega) (by omega)
  exact h3 n.val (by omega) (by omega)

theorem sSlot_inb {v5 : BitVec 32} {t : Fin (k0_t3_loop v5).trips} {v36 : BitVec 32} (h : k0_chk131 v5 t v36) (g : Fin 16) (u : Fin 8) :
    ∀ a, sSlot v5 t v36 g.val u.val a + S1.size a ≤ S16512.size a := by
  obtain ⟨-, -, -, -, h⟩ := h
  have h : conj (fun g => ∀ r : Fin 8, ∀ a, sSlot v5 t v36 g r.val a + S1.size a ≤ S16512.size a) 15 0 := h
  rw [conj_iff] at h
  exact h g.val (by omega) (by omega) u

/-! ### The steps -/

/-- The first of a token's five rows of words. -/
def wordsAt (v : BitVec 32) : Fin 3 → Nat := ![0, (Scalar.indexCast (Scalar.muli v 5#32)).toNat, 0]

/-- The first of a token's sixteen accumulator rows. -/
def accAt (v : BitVec 32) : Fin 2 → Nat := ![(Scalar.indexCast (Scalar.muli v 17#32)).toNat, 0]

theorem xs_inb : ∀ n : Fin 128, ∀ a, S5x128.size a = 0 ∨ (![n.val, 0] : Fin 2 → Nat) a + (![129, 1] : Fin 2 → Nat) a * (S5x128.size a - 1) < S648x128.size a := by decide

theorem rs_inb : ∀ n : Fin 128, ∀ a, S16x128.size a = 0 ∨ (![n.val, 0] : Fin 2 → Nat) a + (![129, 1] : Fin 2 → Nat) a * (S16x128.size a - 1) < S2064x128.size a := by decide

/-- The rows of tile row `n` among the gathered words. -/
def xsRect (n : Fin 128) : Rect S648x128 := ⟨(⟨![n.val, 0], S5x128.size, ![129, 1], xs_inb n⟩ : LoadRect S648x128), spos_129_1⟩

/-- Step `n` of the gather: the words of the token in slot `n` of the tile. -/
def gatherStep (arg5 : Memref sig .tc .vmem S1x7720x128 .i32) (arg11 : Memref sig .tc .smem S16512 .i32) (arg13 : Memref sig .tc .vmem S648x128 .i32)
    (v5 : BitVec 32) (t : Fin (k0_t3_loop v5).trips) (v36 : BitVec 32) (hw : k0_chk131 v5 t v36) (n : Nat) : Prog (TpuEff nD τ sig (Elt F) Λ₀ .tc) PUnit := do
  let v41 : Elt F .i32 ← smemLoad arg11 (Rect.unit (s := S16512) (gSlot v5 t v36 (Fin.ofNat 128 n).val) S1.size (gSlot_inb hw (Fin.ofNat 128 n))) numel1_S1 rfl
  let h ← Prog.lift (TpuEff.assume (∀ a, wordsAt v41 a + S1x5x128.size a ≤ S1x7720x128.size a) (decidable_of_iff' _ (Iff.of_eq rfl)))
  let v44 : Vec F S1x5x128 .i32 ← Prog.lift (.load arg5 (Rect.unit (s := S1x7720x128) (wordsAt v41) S1x5x128.size h.down).toLoadRect (View.loadsAt_vmem h_S1x5x128))
  let _ : Vec F S5x128 .i32 ← Prog.lift (.load arg13 (xsRect (Fin.ofNat 128 n)).toLoadRect (View.loadsAt_vmem h_S5x128))
  Prog.lift (.store arg13 (xsRect (Fin.ofNat 128 n)) (shapeCast S5x128 (shapeCast S5x128 v44 shapeCasts_S1x5x128_S5x128) shapeCasts_S5x128_S5x128) Finset.univ (View.stores_vmem_bits_univ h_S5x128 rfl) (.inl rfl))

theorem words_inb : ∀ c : Fin 5, ∀ a, (![129 * c.val, 0] : Fin 2 → Nat) a + S128x128.size a ≤ S648x128.size a := by decide

/-- Word group `c` of every row of the tile. -/
def wordsRect (c : Fin 5) : Rect S648x128 := Rect.unit (s := S648x128) ![129 * c.val, 0] S128x128.size (words_inb c)

theorem col_inb : ∀ c j : Fin 4, ∀ a, (![0, 128 * (4 * j.val + c.val)] : Fin 2 → Nat) a + S128x128.size a ≤ S128x2048.size a := by decide

/-- The columns that byte `j` of word group `c` decodes to. -/
def colRect (c j : Fin 4) : Rect S128x2048 := Rect.unit (s := S128x2048) ![0, 128 * (4 * j.val + c.val)] S128x128.size (col_inb c j)

theorem col_packed : ∀ c j : Fin 4, (colRect c j).PackedRows (EltTy.packing .fp8e4m3) := by decide

/-- Byte `j` of word group `c` goes into its columns. -/
def planeStep (arg14 : Memref sig .tc .vmem S128x2048 .fp8e4m3) (harg14 : arg14.IsWhole) (c : Fin 4) (w : Vec F S128x128 .i32) (n : Nat) : Prog (TpuEff nD τ sig (Elt F) Λ₀ .tc) PUnit := do
  let _ : Vec F S128x128 .fp8e4m3 ← Prog.lift (.load arg14 (colRect c (Fin.ofNat 4 n)).toLoadRect (View.loadsAt_vmem h_S128x128))
  Prog.lift (.store arg14 (colRect c (Fin.ofNat 4 n)) (planeOf (Fin.ofNat 4 n) w) Finset.univ (View.stores_vmem h_S128x128 (harg14.storeExact_slice rfl _ (col_packed c (Fin.ofNat 4 n))) (fun _ => rfl)) (.inl rfl))

/-- Word group `n` of every row, decoded. -/
def decodeStep (arg13 : Memref sig .tc .vmem S648x128 .i32) (arg14 : Memref sig .tc .vmem S128x2048 .fp8e4m3) (harg14 : arg14.IsWhole) (n : Nat) : Prog (TpuEff nD τ sig (Elt F) Λ₀ .tc) PUnit := do
  let w : Vec F S128x128 .i32 ← Prog.lift (.load arg13 (wordsRect (Fin.castLE (by decide) (Fin.ofNat 4 n))).toLoadRect (View.loadsAt_vmem h_S128x128))
  chain (planeStep arg14 harg14 (Fin.ofNat 4 n) w) 4 0

theorem lay_inb : ∀ c : Fin 16, ∀ a, (![129 * c.val, 0] : Fin 2 → Nat) a + S128x128.size a ≤ S2064x128.size a := by decide

/-- Where column group `c` of the rows is laid out. -/
def layRect (c : Fin 16) : Rect S2064x128 := Rect.unit (s := S2064x128) ![129 * c.val, 0] S128x128.size (lay_inb c)

theorem lay_slices : ∀ c : Fin 16, S128x2048.Slices ![0, 128 * c.val] S128x128 := by decide

/-- Column group `n` of the rows laid out. -/
def layStep (arg15 : Memref sig .tc .vmem S2064x128 .f32) (rows : FVec F S128x2048 .f32) (n : Nat) : Prog (TpuEff nD τ sig (Elt F) Λ₀ .tc) PUnit := do
  let _ : Vec F S128x128 .f32 ← Prog.lift (.load arg15 (layRect (Fin.ofNat 16 n)).toLoadRect (View.loadsAt_vmem h_S128x128))
  Prog.lift (.store arg15 (layRect (Fin.ofNat 16 n)) (shapeCast S128x128 (extractStridedSlice S128x128 ![0, 128 * (Fin.ofNat 16 n).val] rows (lay_slices (Fin.ofNat 16 n))) shapeCasts_S128x128_S128x128) Finset.univ (View.stores_vmem_bits_univ h_S128x128 rfl) (.inl rfl))

/-- A token's accumulator rows lie inside the accumulator. -/
def AccIn (v : BitVec 32) : Prop := ∀ a, accAt v a + S16x128.size a ≤ S26136x128.size a

/-- The same as the kernel's checks say it: for the load and for the store, or once for the last row of a group. -/
def AccOk (v : BitVec 32) : Nat → Prop
  | 7 => AccIn v
  | _ => AccIn v ∧ AccIn v

/-- Each check can be decided. -/
def AccOk.dec (v : BitVec 32) : (n : Nat) → Decidable (AccOk v n)
  | 0 | 1 | 2 | 3 | 4 | 5 | 6 | (_ + 8) => decidable_of_iff' ((∀ a, accAt v a + S16x128.size a ≤ S26136x128.size a) ∧ (∀ a, accAt v a + S16x128.size a ≤ S26136x128.size a)) (Iff.of_eq rfl)
  | 7 => decidable_of_iff' (∀ a, accAt v a + S16x128.size a ≤ S26136x128.size a) (Iff.of_eq rfl)

theorem AccOk.inb {v : BitVec 32} {n : Nat} (h : AccOk v n) : AccIn v := by
  unfold AccOk at h
  split at h
  · exact h
  · exact h.1

theorem AccOk.of_inb {v : BitVec 32} {n : Nat} (h : AccIn v) : AccOk v n := by
  unfold AccOk
  split
  · exact h
  · exact ⟨h, h⟩

/-- A token whose accumulator rows lie inside. -/
abbrev Tok : Type := PSigma fun v : BitVec 32 => AccIn v

/-- The rows of a token's accumulator. -/
def accRect (v : Tok) : Rect S26136x128 := Rect.unit (s := S26136x128) (accAt v.1) S16x128.size v.2

/-- The sixteen laid-out pieces of tile row `n`. -/
def rsRect (n : Fin 128) : LoadRect S2064x128 := ⟨![n.val, 0], S16x128.size, ![129, 1], rs_inb n⟩

/-- The token in slot `8 * g + n` of the tile. -/
def tokStep (arg11 : Memref sig .tc .smem S16512 .i32)
    (v5 : BitVec 32) (t : Fin (k0_t3_loop v5).trips) (v36 : BitVec 32) (hw : k0_chk131 v5 t v36) (g : Fin 16) (n : Nat) : Prog (TpuEff nD τ sig (Elt F) Λ₀ .tc) Tok := do
  let v : Elt F .i32 ← smemLoad arg11 (Rect.unit (s := S16512) (sSlot v5 t v36 g.val (Fin.ofNat 8 n).val) S1.size (sSlot_inb hw g (Fin.ofNat 8 n))) numel1_S1 rfl
  let h ← Prog.lift (TpuEff.assume (AccOk v (Fin.ofNat 8 n).val) (AccOk.dec v _))
  pure ⟨v, h.down.inb⟩

/-- Row `8 * g + n` added to what its token has. -/
def sumStep (arg12 : Memref sig .tc .vmem S26136x128 .f32) (arg15 : Memref sig .tc .vmem S2064x128 .f32) (g : Fin 16)
    (toks : ∀ k, k < 8 → Tok) (n : Nat) : Prog (TpuEff nD τ sig (Elt F) Λ₀ .tc) (FVec F S16x128 .f32) := do
  let a : Vec F S16x128 .f32 ← Prog.lift (.load arg12 (accRect (toks (Fin.ofNat 8 n).val (Fin.ofNat 8 n).isLt)).toLoadRect (View.loadsAt_vmem h_S16x128))
  let b : Vec F S16x128 .f32 ← Prog.lift (.load arg15 (rsRect ⟨8 * g.val + (Fin.ofNat 8 n).val, by omega⟩) (View.loadsAt_vmem h_S16x128))
  pure (addf a b)

/-- The sum put back. -/
def putStep (arg12 : Memref sig .tc .vmem S26136x128 .f32) (toks : ∀ k, k < 8 → Tok) (sums : ∀ k, k < 8 → FVec F S16x128 .f32)
    (n : Nat) : Prog (TpuEff nD τ sig (Elt F) Λ₀ .tc) PUnit := do
  let _ : Vec F S16x128 .f32 ← Prog.lift (.load arg12 (accRect (toks (Fin.ofNat 8 n).val (Fin.ofNat 8 n).isLt)).toLoadRect (View.loadsAt_vmem h_S16x128))
  Prog.lift (.store arg12 (accRect (toks (Fin.ofNat 8 n).val (Fin.ofNat 8 n).isLt)) (shapeCast S16x128 (sums (Fin.ofNat 8 n).val (Fin.ofNat 8 n).isLt) shapeCasts_S16x128_S16x128) Finset.univ (View.stores_vmem_bits_univ h_S16x128 rfl) (.inl rfl))

/-- Group `n` of eight rows: their tokens read, the eight sums taken, then the eight sums put back. -/
def groupStep (arg11 : Memref sig .tc .smem S16512 .i32) (arg12 : Memref sig .tc .vmem S26136x128 .f32) (arg15 : Memref sig .tc .vmem S2064x128 .f32)
    (v5 : BitVec 32) (t : Fin (k0_t3_loop v5).trips) (v36 : BitVec 32) (hw : k0_chk131 v5 t v36) (n : Nat) : Prog (TpuEff nD τ sig (Elt F) Λ₀ .tc) PUnit := do
  let toks ← chainAcc (tokStep (F := F) arg11 v5 t v36 hw (Fin.ofNat 16 n)) 8 8 0 rfl (fun _ h => absurd h (Nat.not_lt_zero _))
  let sums ← chainAcc (sumStep arg12 arg15 (Fin.ofNat 16 n) toks) 8 8 0 rfl (fun _ h => absurd h (Nat.not_lt_zero _))
  chain (putStep arg12 toks sums) 8 0

theorem tile_eq (i : grid0.Coords) (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole) (arg0 arg1 : BitVec 32) (v5 : Elt F .i32) (hw130 : k0_chk130 v5) (t : Fin (k0_t3_loop v5).trips) (acc : BitVec 32) :
    Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg0 arg1 v5 hw130 t acc
      = (do
        let v36 : Elt F .i32 ← smemLoad arg3 (Rect.unit (s := S8x32) (k0_off260 i) S1x1.size (k0_off260_inb i)) numel1_S1x1 rfl
        let hw ← Prog.lift (TpuEff.assume (k0_chk131 v5 t v36) (k0_chk131.dec v5 t v36))
        chain (gatherStep arg5 arg11 arg13 v5 t v36 hw.down) 128 0
        chain (decodeStep arg13 arg14 harg14) 4 0
        let row : Vec F S128x128 .i32 ← Prog.lift (.load arg13 (wordsRect 4).toLoadRect (View.loadsAt_vmem h_S128x128))
        let lhs : Vec F S128x2048 .fp8e4m3 ← Prog.lift (.load arg14 (Rect.unit (s := S128x2048) ![0, 0] S128x2048.size inb_S128x2048_S128x2048_0_0).toLoadRect (View.loadsAt_vmem h_S128x2048))
        let wgu : Vec F S1x2048x1536 .fp8e4m3 ← Prog.lift (.load arg6 (Rect.unit (s := S1x2048x1536) ![0, 0, 0] S1x2048x1536.size inb_S1x2048x1536_S1x2048x1536_0_0_0).toLoadRect (View.loadsAt_vmem h_S1x2048x1536))
        let wgus : Vec F S1x1x1536 .f32 ← Prog.lift (.load arg7 (Rect.unit (s := S1x1x1536) ![0, 0, 0] S1x1x1536.size inb_S1x1x1536_S1x1x1536_0_0_0).toLoadRect (View.loadsAt_vmem h_S1x1x1536))
        let wd : Vec F S1x768x2048 .fp8e4m3 ← Prog.lift (.load arg8 (Rect.unit (s := S1x768x2048) ![0, 0, 0] S1x768x2048.size inb_S1x768x2048_S1x768x2048_0_0_0).toLoadRect (View.loadsAt_vmem h_S1x768x2048))
        let wds : Vec F S1x1x2048 .f32 ← Prog.lift (.load arg9 (Rect.unit (s := S1x1x2048) ![0, 0, 0] S1x1x2048.size inb_S1x1x2048_S1x1x2048_0_0_0).toLoadRect (View.loadsAt_vmem h_S1x1x2048))
        chain (layStep arg15 (rowsOf arg1 row lhs wgu wgus wd wds)) 16 0
        chain (groupStep arg11 arg12 arg15 v5 t v36 hw.down) 16 0
        pure 0#32) := by
  sl_kernel_rfl

end Cert.KernelIdeal.Body

end
-- ==== Proof.FormBody.lean ====
/-
  The whole body: at a block's first expert the accumulator is cleared and the list of tokens made, every expert's tiles are
  gone through, and at the last expert the accumulator's rows are written out.
-/
module

public import proofs.«01_k».proof.Proof.FormTile
public import Idealize.ShloMosaic.Lib.LoopRemainder

@[expose] public section

set_option maxRecDepth 100000

noncomputable section

namespace Cert.KernelIdeal.Body

open Cert.KernelIdeal Cert.KernelIdeal.Gen Cert.Proof.Hoare
open Idealize.ShloMosaic Idealize.SL.Sem

variable {F : FTy → Type} [FloatOps F]

theorem acc_inb : ∀ c : Fin 16, ∀ a, S1536x128.size a = 0 ∨ (![c.val, 0] : Fin 2 → Nat) a + (![17, 1] : Fin 2 → Nat) a * (S1536x128.size a - 1) < S26136x128.size a := by
  intro c a
  match a with
  | 0 => right; show c.val + 17 * 1535 < 26136; omega
  | 1 => right; exact (by decide : 0 + 1 * 127 < 128)

theorem out_inb : ∀ c : Fin 16, ∀ a, (![0, 128 * c.val] : Fin 2 → Nat) a + S1536x128.size a ≤ S1536x2048.size a := by
  intro c a
  match a with
  | 0 => exact Nat.le_refl _
  | 1 => show 128 * c.val + 128 ≤ 2048; omega

/-- Column group `c` of the result. -/
def outRect (c : Fin 16) : Rect S1536x2048 := Rect.unit (s := S1536x2048) ![0, 128 * c.val] S1536x128.size (out_inb c)

theorem out_packed : ∀ c : Fin 16, (outRect c).PackedRows (EltTy.packing .bf16) := by decide

/-- Column group `n` of every token's accumulated row, rounded into the result. -/
def outStep (arg10 : Memref sig .tc .vmem S1536x2048 .bf16) (harg10 : arg10.IsWhole) (arg12 : Memref sig .tc .vmem S26136x128 .f32) (n : Nat) : Prog (TpuEff nD τ sig (Elt F) Λ₀ .tc) PUnit := do
  let v : Vec F S1536x128 .f32 ← Prog.lift (.load arg12 (⟨![(Fin.ofNat 16 n).val, 0], S1536x128.size, ![17, 1], acc_inb (Fin.ofNat 16 n)⟩ : LoadRect S26136x128) (View.loadsAt_vmem h_S1536x128))
  let _ : Vec F S1536x128 .bf16 ← Prog.lift (.load arg10 (outRect (Fin.ofNat 16 n)).toLoadRect (View.loadsAt_vmem h_S1536x128))
  Prog.lift (.store arg10 (outRect (Fin.ofNat 16 n)) (truncf .bf16 v bitsLt_bf16_f32) Finset.univ (View.stores_vmem h_S1536x128 (harg10.storeExact_slice rfl _ (out_packed (Fin.ofNat 16 n))) (fun _ => rfl)) (.inl rfl))

/-- The first expert's part: the accumulator zeroed and the block's list made; then `k`. -/
def listsProg (i : grid0.Coords) (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole) (k0_h1 : k0_cond1 i = 1#1) (k : Prog (TpuEff nD τ sig (Elt F) Λ₀ .tc) PUnit) : Prog (TpuEff nD τ sig (Elt F) Λ₀ .tc) PUnit := do
  let _ : Vec F S26136x128 .f32 ← Prog.lift (.load arg12 (Rect.unit (s := S26136x128) ![0, 0] S26136x128.size inb_S26136x128_S26136x128_0_0).toLoadRect (View.loadsAt_vmem h_S26136x128))
  Prog.lift (.store arg12 (Rect.unit (s := S26136x128) ![0, 0] S26136x128.size inb_S26136x128_S26136x128_0_0) (shapeCast S26136x128 (broadcast S26136x128 (Scalar.ofBits .f32 0x00000000#32 : F .f32)) shapeCasts_S26136x128_S26136x128) Finset.univ (View.stores_vmem_bits_univ h_S26136x128 rfl) (.inl rfl))
  Scf.Loop.for k0_t1_loop (k0_t1_ok i k0_h1) ⟨⟩ (Gen.k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) k0_h1)
  Scf.Loop.for k0_t2_loop (k0_t2_ok i k0_h1) ⟨⟩ (Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 k0_h1)
  k

/-- Every expert's part: its tiles, and at the last expert the block's result. -/
def tilesProg (i : grid0.Coords) (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole) : Prog (TpuEff nD τ sig (Elt F) Λ₀ .tc) PUnit := do
  let v5 : Elt F .i32 ← smemLoad arg2 (Rect.unit (s := S8x32) (k0_off259 i) S1x1.size (k0_off259_inb i)) numel1_S1x1 rfl
  let hw ← Prog.lift (TpuEff.assume (k0_chk130 v5) (k0_chk130.dec v5))
  let v29 ← Scf.Loop.for (k0_t3_loop v5) (k0_t3_ok v5 hw.down) 0#32 (Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (BitVec.ofNat 32 (i 1).val) v5 hw.down)
  let _ ← Scf.Loop.for (k0_t4_loop v5) (k0_t4_ok v5 hw.down) v29 (Gen.k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 (BitVec.ofNat 32 (i 0).val) (BitVec.ofNat 32 (i 1).val) v5 hw.down (k0_t4_loop v5).lb)
  if k0_h2 : k0_cond2 i = 1#1 then do
    chain (outStep arg10 harg10 arg12) 16 0
    pure ⟨⟩
  else do
    pure ⟨⟩

theorem body_eq (i : grid0.Coords) (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole) :
    cc0_moe_experts (F := F) i arg2 harg2 arg3 harg3 arg4 harg4 arg5 harg5 arg6 harg6 arg7 harg7 arg8 harg8 arg9 harg9 arg10 harg10 arg11 harg11 arg12 harg12 arg13 harg13 arg14 harg14 arg15 harg15
      = (if k0_h1 : k0_cond1 i = 1#1 then listsProg (F := F) i arg2 harg2 arg3 harg3 arg4 harg4 arg5 harg5 arg6 harg6 arg7 harg7 arg8 harg8 arg9 harg9 arg10 harg10 arg11 harg11 arg12 harg12 arg13 harg13 arg14 harg14 arg15 harg15 k0_h1 (tilesProg (F := F) i arg2 harg2 arg3 harg3 arg4 harg4 arg5 harg5 arg6 harg6 arg7 harg7 arg8 harg8 arg9 harg9 arg10 harg10 arg11 harg11 arg12 harg12 arg13 harg13 arg14 harg14 arg15 harg15)
        else tilesProg (F := F) i arg2 harg2 arg3 harg3 arg4 harg4 arg5 harg5 arg6 harg6 arg7 harg7 arg8 harg8 arg9 harg9 arg10 harg10 arg11 harg11 arg12 harg12 arg13 harg13 arg14 harg14 arg15 harg15) := by
  sl_kernel_rfl

end Cert.KernelIdeal.Body

end
-- ==== Proof.State.lean ====
/-
  What the body's buffers hold, as one record, and the memrefs tied to its fields. Then the two loops that make a block's
  list of tokens: the fills and the inversion.
-/
module

public import proofs.«01_k».proof.Proof.FormBody
public import proofs.«01_k».proof.Proof.Plan
public import Idealize.ShloMosaic.Lib.Pipeline.Kit

@[expose] public section

set_option maxRecDepth 100000

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.Sem Idealize.ShloMosaic.Rounds
open Idealize.SL.BI (sProp)

variable {F : FTy → Type} [FloatOps F]

/-- What the kernel's own buffers and the result's block hold. -/
structure St (F : FTy → Type) where
  list : S16512.Idx → Elt F .i32
  acc : S26136x128.Idx → Elt F .f32
  xs : S648x128.Idx → Elt F .i32
  lhs : S128x2048.Idx → Elt F .fp8e4m3
  rs : S2064x128.Idx → Elt F .f32
  out : S1536x2048.Idx → Elt F .bf16

/-- What the inputs hold at a point: the tables of ranges whole, and the point's blocks of the rest. -/
structure Inp (F : FTy → Type) where
  cnt : S8x32.Idx → Elt F .i32
  off : S8x32.Idx → Elt F .i32
  pos : S1x8x1536.Idx → Elt F .i32
  xt : S1x7720x128.Idx → Elt F .i32
  wgu : S1x2048x1536.Idx → Elt F .fp8e4m3
  wgus : S1x1x1536.Idx → Elt F .f32
  wd : S1x768x2048.Idx → Elt F .fp8e4m3
  wds : S1x1x2048.Idx → Elt F .f32

/-- Expert `e`'s count in the block of point `i`. -/
def Inp.cntOf (x : Inp F) (i : grid0.Coords) (e : Fin 32) : BitVec 32 := x.cnt (ix2 (n0 := 8) (n1 := 32) (i 0) e)
/-- Where expert `e`'s slots begin in the block of point `i`. -/
def Inp.offOf (x : Inp F) (i : grid0.Coords) (e : Fin 32) : BitVec 32 := x.off (ix2 (n0 := 8) (n1 := 32) (i 0) e)
/-- The slot of choice `k` of token `u`. -/
def Inp.posOf (x : Inp F) (k : Fin 8) (u : Fin 1536) : BitVec 32 := x.pos (ix3 (n0 := 1) (n1 := 8) (n2 := 1536) 0 k u)

/-- The tables of the point's block are a plan. -/
abbrev Inp.Valid (x : Inp F) (i : grid0.Coords) : Prop := Plan.Valid (x.cntOf i) (x.offOf i) x.posOf

/-- The list, by slot number. -/
def St.listN (s : St F) (n : Nat) : BitVec 32 := if h : n < 16512 then s.list (ix1 (n := 16512) ⟨n, h⟩) else 0#32

theorem St.listN_of_lt (s : St F) {n : Nat} (h : n < 16512) : s.listN n = s.list (ix1 (n := 16512) ⟨n, h⟩) := dif_pos h

/-- A store of one word, by slot number. -/
theorem listN_store (s : St F) (o : Fin 1 → Nat) (h : ∀ a, o a + S1.size a ≤ S16512.size a) (v : BitVec 32) (n : Nat) :
    (({ s with list := wrAt (Rect.unit (s := S16512) o S1.size h) (fun _ => v) s.list } : St F)).listN n
      = if n = o 0 then v else s.listN n := by
  have h0 : o 0 + 1 ≤ 16512 := h 0
  unfold St.listN
  by_cases hn : n < 16512
  · rw [dif_pos hn, dif_pos hn]
    exact wrAt_one o h v s.list ⟨n, hn⟩
  · rw [dif_neg hn, dif_neg hn, if_neg (by omega)]

section Proofs

variable (I : St F → sProp (MT nD τ sig Unit (Elt F) ℕ (UR sig nD τ) ℕ)) (x : Inp F) (d : Dev nD)
variable (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole)

/-- The memrefs hold what the records say. -/
structure Cells : Prop where
  cnt : RCell (c := (d.tc : Thread nD τ)) I arg2 fun _ => x.cnt
  off : RCell (c := (d.tc : Thread nD τ)) I arg3 fun _ => x.off
  pos : RCell (c := (d.tc : Thread nD τ)) I arg4 fun _ => x.pos
  xt : RCell (c := (d.tc : Thread nD τ)) I arg5 fun _ => x.xt
  wgu : RCell (c := (d.tc : Thread nD τ)) I arg6 fun _ => x.wgu
  wgus : RCell (c := (d.tc : Thread nD τ)) I arg7 fun _ => x.wgus
  wd : RCell (c := (d.tc : Thread nD τ)) I arg8 fun _ => x.wd
  wds : RCell (c := (d.tc : Thread nD τ)) I arg9 fun _ => x.wds
  out : Cell (c := (d.tc : Thread nD τ)) I arg10 St.out fun s X => { s with out := X }
  list : Cell (c := (d.tc : Thread nD τ)) I arg11 St.list fun s X => { s with list := X }
  acc : Cell (c := (d.tc : Thread nD τ)) I arg12 St.acc fun s X => { s with acc := X }
  xs : Cell (c := (d.tc : Thread nD τ)) I arg13 St.xs fun s X => { s with xs := X }
  lhs : Cell (c := (d.tc : Thread nD τ)) I arg14 St.lhs fun s X => { s with lhs := X }
  rs : Cell (c := (d.tc : Thread nD τ)) I arg15 St.rs fun s X => { s with rs := X }

/-- A run of a program of this kernel on core `d`. -/
abbrev Run {α : Type} (s : St F) (p : Prog (TpuEff nD τ sig (Elt F) Λ₀ .tc) α) (Q : α → St F → Prop) : Prop :=
  W (defs₀ (F := F)) Variants.none (d.tc : Thread nD τ) none Set.univ I s p Q

variable {I x d arg2 harg2 arg3 harg3 arg4 harg4 arg5 harg5 arg6 harg6 arg7 harg7 arg8 harg8 arg9 harg9 arg10 harg10 arg11 harg11 arg12 harg12 arg13 harg13 arg14 harg14 arg15 harg15}
variable (C : Cells I x d arg2 arg3 arg4 arg5 arg6 arg7 arg8 arg9 arg10 arg11 arg12 arg13 arg14 arg15)
include C

omit C in
theorem trips_t1 : k0_t1_loop.trips = 32 := by decide

omit C in
theorem off2_val (v42 v45 : BitVec 32) (n : Nat) (hn : n < 128) (h : v42.toNat + v45.toNat ≤ 16384) :
    (k0_off2 v42 v45 (BitVec.ofNat 32 n)) 0 = v42.toNat + v45.toNat + n := by
  show (v42 + v45 + BitVec.ofNat 32 n).toNat = _
  simp only [BitVec.toNat_add, BitVec.toNat_ofNat]
  omega

omit C in
theorem fin128 {n : Nat} (h : n < 128) : (Fin.ofNat 128 n).val = n := Nat.mod_eq_of_lt h

/-- Trip `t` of the fills. -/
theorem fill_run (i : grid0.Coords) (hv : x.Valid i) (arg0 : BitVec 32) (h1 : k0_cond1 i = 1#1) (t : Fin k0_t1_loop.trips) (s : St F)
    {A : S26136x128.Idx → Elt F .f32} (h : Plan.Filled (x.cntOf i) (x.offOf i) t.val 0 s.listN ∧ s.acc = A) :
    Run I d s (Gen.k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg0 h1 t ())
      fun _ s' => Plan.Filled (x.cntOf i) (x.offOf i) (t.val + 1) 0 s'.listN ∧ s'.acc = A := by
  have ht : t.val < 32 := Nat.lt_of_lt_of_eq t.isLt trips_t1
  have hi0 := (i 0).isLt
  rw [fill_eq]
  have hidx : ∀ (hx : 0 < (Rect.unit (s := S8x32) (k0_off1 i t) S1x1.size (k0_off1_inb i t h1)).shape.numel),
      (Rect.unit (s := S8x32) (k0_off1 i t) S1x1.size (k0_off1_inb i t h1)).idx (Shape.Idx.first hx) = ix2 (n0 := 8) (n1 := 32) (i 0) ⟨t.val, ht⟩ := by
    intro hx
    funext a
    apply Fin.ext
    match a with
    | 0 =>
      have hi0 : (i 0).val < 8 := hi0
      show (BitVec.ofNat 32 (i 0).val).toNat + 1 * 0 = (i 0).val
      rw [BitVec.toNat_ofNat]; omega
    | 1 =>
      show (0#32 + BitVec.ofNat 32 t.val * 1#32).toNat + 1 * 0 = t.val
      simp only [BitVec.toNat_add, BitVec.toNat_mul, BitVec.toNat_ofNat]; omega
  refine W.sloadB C.off ?_
  refine W.sloadB C.cnt ?_
  rw [hidx]
  have hle := hv.end_le ⟨t.val, ht⟩
  have hle : (x.off (ix2 (n0 := 8) (n1 := 32) (i 0) ⟨t.val, ht⟩) : BitVec 32).toNat + (x.cnt (ix2 (n0 := 8) (n1 := 32) (i 0) ⟨t.val, ht⟩) : BitVec 32).toNat ≤ 16384 := hle
  refine W.assumeB ?_ ?_
  · intro _ r a
    match a with
    | 0 =>
      show _ + 1 ≤ 16512
      have := off2_val _ _ r.val r.isLt hle
      have hr := r.isLt
      omega
  refine W.mono (W.chain (inv := fun n s => Plan.Filled (x.cntOf i) (x.offOf i) t.val n s.listN ∧ s.acc = A) 128 0 s h ?_) fun _ s' h' => ⟨h'.1.trip, h'.2⟩
  intro n s _ hn hs
  have hn : n < 128 := by omega
  unfold fillStep
  refine W.sloadB C.list.rcell ?_
  refine W.storeT C.list ?_
  refine ⟨hs.1.next ht ?_ (listN_store s _ _ _), hs.2⟩
  rw [fin128 hn, off2_val _ _ n hn hle]
  rfl

omit C in
theorem slotAt_val (v : BitVec 32) : slotAt v 0 = v.toNat := rfl

/-- Trip `t` of the inversion. -/
theorem invert_run (i : grid0.Coords) (hv : x.Valid i) (h1 : k0_cond1 i = 1#1) (t : Fin k0_t2_loop.trips) (s : St F)
    {A : S26136x128.Idx → Elt F .f32} (h : Plan.Inverted (x.cntOf i) (x.offOf i) x.posOf t.val 0 s.listN ∧ s.acc = A) :
    Run I d s (Gen.k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 h1 t ())
      fun _ s' => Plan.Inverted (x.cntOf i) (x.offOf i) x.posOf (t.val + 1) 0 s'.listN ∧ s'.acc = A := by
  have ht : t.val < 96 := Nat.lt_of_lt_of_eq t.isLt trips_t2
  rw [invert_eq]
  refine W.mono (W.chain (inv := fun n s => Plan.Inverted (x.cntOf i) (x.offOf i) x.posOf t.val n s.listN ∧ s.acc = A) 128 0 s h ?_) fun _ s' h' => ⟨h'.1.trip, h'.2⟩
  intro n s _ hn hs
  have hn : n < 128 := by omega
  unfold invertStep
  refine W.sloadB C.pos ?_
  have hidx : ∀ (hx : 0 < (Rect.unit (s := S1x8x1536) (invOff t (Fin.ofNat 128 n)) S1x1x1.size (invOff_inb t (Fin.ofNat 128 n))).shape.numel),
      (Rect.unit (s := S1x8x1536) (invOff t (Fin.ofNat 128 n)) S1x1x1.size (invOff_inb t (Fin.ofNat 128 n))).idx (Shape.Idx.first hx)
        = ix3 (n0 := 1) (n1 := 8) (n2 := 1536) 0 ⟨n / 16, by omega⟩ ⟨t.val * 16 + n % 16, by omega⟩ := by
    intro hx
    funext a
    apply Fin.ext
    match a with
    | 0 => rfl
    | 1 => show (Fin.ofNat 128 n).val / 16 + 1 * 0 = n / 16; rw [fin128 hn]; omega
    | 2 =>
      show (Scalar.indexCast (Scalar.addi (Scalar.muli (Scf.iv 0#32 1#32 t) 16#32) (BitVec.ofNat 32 ((Fin.ofNat 128 n).val % 16)))).toNat + 1 * 0 = _
      rw [invTok_toNat, fin128 hn]; rfl
  rw [hidx]
  have hp := hv.pos_lt ⟨n / 16, by omega⟩ ⟨t.val * 16 + n % 16, by omega⟩
  refine W.assumeB ?_ ?_
  · intro _ a
    match a with
    | 0 => exact hp
  refine W.sloadB C.list.rcell ?_
  refine W.storeT C.list ?_
  refine ⟨hs.1.next hv (k₀ := ⟨n / 16, by omega⟩) (u₀ := ⟨t.val * 16 + n % 16, by omega⟩) rfl rfl rfl ?_, hs.2⟩
  intro m
  refine (listN_store s _ _ _ m).trans ?_
  have e : Scalar.addi (Scalar.muli (Scf.iv 0#32 1#32 t) 16#32) (BitVec.ofNat 32 ((Fin.ofNat 128 n).val % 16)) = BitVec.ofNat 32 (t.val * 16 + n % 16) := by
    apply BitVec.eq_of_toNat_eq
    refine (invTok_toNat t (Fin.ofNat 128 n)).trans ?_
    rw [fin128 hn, BitVec.toNat_ofNat]; omega
  rw [e]
  rfl

end Proofs

end Cert.KernelIdeal.Body

end
-- ==== Proof.TileLoad.lean ====
/-
  The first half of a tile: the gather of its tokens' words, their decoding into the left operand of the first product, and
  the laying out of the rows that the products give.
-/
module

public import proofs.«01_k».proof.Proof.State
public import Idealize.ShloMosaic.Lib.ValueLayout
public import Idealize.ShloMosaic.Lib.Pipeline.Value
public import Idealize.ShloMosaic.Lib.Routing.Words

@[expose] public section

set_option maxRecDepth 100000

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.Sem Idealize.ShloMosaic.Rounds
open Idealize.SL.BI (sProp)

variable {F : FTy → Type} [FloatOps F]

/-- Byte `j` of a word, read as an fp8 number. -/
def byteOf (j : Fin 4) (w : BitVec 32) : F .fp8e4m3 :=
  FloatOps.ofBits .fp8e4m3 ((IntOp.shrsi .vector w (BitVec.ofNat 32 (8 * j.val))).truncate 8)

theorem planeOf_apply (j : Fin 4) (w : Vec F S128x128 .i32) (y : S128x128.Idx) : planeOf (F := F) j w y = byteOf j (w y) := by
  unfold planeOf
  rw [shapeCast_self]
  rfl

/-- Word `c` of five of token `u`, at lane `l`. -/
def Inp.word (x : Inp F) (u : Nat) (c : Fin 5) (l : Fin 128) : BitVec 32 :=
  x.xt (ix3 (n0 := 1) (n1 := 7720) (n2 := 128) 0 (Fin.ofNat 7720 (u * 5 + c.val)) l)

/-- Row `n` of the gathered words of group `c`. -/
def xsIx (c : Fin 5) (n l : Fin 128) : S648x128.Idx := ix2 (n0 := 648) (n1 := 128) ⟨129 * c.val + n.val, by omega⟩ l

/-- Column `l` of word group `c`, byte `j`. -/
def colOf (c j : Fin 4) (l : Fin 128) : Fin 2048 := ⟨128 * (4 * j.val + c.val) + l.val, by omega⟩

/-- Column `l` of column group `c`. -/
def outCol (c : Fin 16) (l : Fin 128) : Fin 2048 := ⟨128 * c.val + l.val, by omega⟩

/-- Row `n` of the laid-out rows of column group `c`. -/
def rsIx (c : Fin 16) (n l : Fin 128) : S2064x128.Idx := ix2 (n0 := 2064) (n1 := 128) ⟨129 * c.val + n.val, by omega⟩ l

theorem wrAt_xs {T : Type} (m : Fin 128) (w : S5x128.Idx → T) (X : S648x128.Idx → T) (c : Fin 5) (n l : Fin 128) :
    wrAt (xsRect m) w X (xsIx c n l) = if n = m then w (ix2 (n0 := 5) (n1 := 128) c l) else X (xsIx c n l) := by
  split
  · rename_i h
    subst h
    refine wrAt_eq (xsRect n) w X _ (ix2 (n0 := 5) (n1 := 128) c l) ?_
    funext a
    apply Fin.ext
    match a with
    | 0 => show n.val + 129 * c.val = 129 * c.val + n.val; omega
    | 1 => show 0 + 1 * l.val = l.val; omega
  · rename_i h
    refine wrAt_of_ne _ _ _ _ fun j hj => h ?_
    have h0 : m.val + 129 * (j 0).val = 129 * c.val + n.val := congrArg Fin.val (congrFun hj 0)
    apply Fin.ext
    have := m.isLt
    have := n.isLt
    omega

theorem wrAt_col {T : Type} (c' j' : Fin 4) (w : S128x128.Idx → T) (X : S128x2048.Idx → T) (c j : Fin 4) (n l : Fin 128) :
    wrAt (colRect c' j') w X (ix2 (n0 := 128) (n1 := 2048) n (colOf c j l))
      = if c = c' ∧ j = j' then w (ix2 (n0 := 128) (n1 := 128) n l) else X (ix2 (n0 := 128) (n1 := 2048) n (colOf c j l)) := by
  split
  · rename_i h
    obtain ⟨rfl, rfl⟩ := h
    refine wrAt_eq (colRect c j) w X _ (ix2 (n0 := 128) (n1 := 128) n l) ?_
    funext a
    apply Fin.ext
    match a with
    | 0 => show 0 + 1 * n.val = n.val; omega
    | 1 => show 128 * (4 * j.val + c.val) + 1 * l.val = 128 * (4 * j.val + c.val) + l.val; omega
  · rename_i h
    refine wrAt_of_ne _ _ _ _ fun y hy => h ?_
    have h1 : 128 * (4 * j'.val + c'.val) + 1 * (y 1).val = 128 * (4 * j.val + c.val) + l.val := congrArg Fin.val (congrFun hy 1)
    have h2 : (y 1).val < 128 := (y 1).isLt
    have := l.isLt
    exact ⟨Fin.ext (by omega), Fin.ext (by omega)⟩

theorem wrAt_lay {T : Type} (c' : Fin 16) (w : S128x128.Idx → T) (X : S2064x128.Idx → T) (c : Fin 16) (n l : Fin 128) :
    wrAt (layRect c') w X (rsIx c n l) = if c = c' then w (ix2 (n0 := 128) (n1 := 128) n l) else X (rsIx c n l) := by
  split
  · rename_i h
    subst h
    refine wrAt_eq (layRect c) w X _ (ix2 (n0 := 128) (n1 := 128) n l) ?_
    funext a
    apply Fin.ext
    match a with
    | 0 => show 129 * c.val + 1 * n.val = 129 * c.val + n.val; omega
    | 1 => show 0 + 1 * l.val = l.val; omega
  · rename_i h
    refine wrAt_of_ne _ _ _ _ fun y hy => h ?_
    have h1 : 129 * c'.val + 1 * (y 0).val = 129 * c.val + n.val := congrArg Fin.val (congrFun hy 0)
    have h2 : (y 0).val < 128 := (y 0).isLt
    have := n.isLt
    exact Fin.ext (by omega)

/-- A load of a whole buffer reads what it holds. -/
theorem whole_idx {s : Shape} (o : Fin s.rank → Nat) (h : ∀ a, o a + s.size a ≤ s.size a) (y : s.Idx) :
    (Rect.unit (s := s) o s.size h).toLoadRect.idx y = y := by
  funext a
  apply Fin.ext
  have := h a
  show o a + 1 * (y a).val = (y a).val
  omega

section Proofs

variable (I : St F → sProp (MT nD τ sig Unit (Elt F) ℕ (UR sig nD τ) ℕ)) (x : Inp F) (d : Dev nD)
variable (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole)

variable {I x d arg2 harg2 arg3 harg3 arg4 harg4 arg5 harg5 arg6 harg6 arg7 harg7 arg8 harg8 arg9 harg9 arg10 harg10 arg11 harg11 arg12 harg12 arg13 harg13 arg14 harg14 arg15 harg15}
variable (C : Cells I x d arg2 arg3 arg4 arg5 arg6 arg7 arg8 arg9 arg10 arg11 arg12 arg13 arg14 arg15)

theorem gSlot_val {v5 : BitVec 32} (t : Fin (k0_t3_loop v5).trips) (ht : t.val < 97) (v36 : BitVec 32) (hv : v36.toNat ≤ 16384) (n : Nat)
    (hn : n < 128) : gSlot v5 t v36 n 0 = v36.toNat + 128 * t.val + n := by
  show (v36 + (0#32 + BitVec.ofNat 32 t.val * 1#32) * 128#32 + BitVec.ofNat 32 n).toNat = _
  simp only [BitVec.toNat_add, BitVec.toNat_mul, BitVec.toNat_ofNat]
  omega

theorem sSlot_val {v5 : BitVec 32} (t : Fin (k0_t3_loop v5).trips) (ht : t.val < 97) (v36 : BitVec 32) (hv : v36.toNat ≤ 16384) (g n : Nat)
    (hg : g < 16) (hn : n < 8) : sSlot v5 t v36 g n 0 = v36.toNat + 128 * t.val + (8 * g + n) := by
  show (v36 + (0#32 + BitVec.ofNat 32 t.val * 1#32) * 128#32 + BitVec.ofNat 32 (8 * g) + BitVec.ofNat 32 n).toNat = _
  simp only [BitVec.toNat_add, BitVec.toNat_mul, BitVec.toNat_ofNat]
  omega

/-- The word of the list that a read at one slot gives. -/
theorem list_read (s : St F) (o : Fin 1 → Nat) (h : ∀ a, o a + S1.size a ≤ S16512.size a)
    (hx : 0 < (Rect.unit (s := S16512) o S1.size h).shape.numel) :
    s.list ((Rect.unit (s := S16512) o S1.size h).idx (Shape.Idx.first hx)) = s.listN (o 0) := by
  have h0 : o 0 + 1 ≤ 16512 := h 0
  rw [St.listN_of_lt s (n := o 0) (by omega)]
  refine congrArg s.list ?_
  funext a
  apply Fin.ext
  match a with
  | 0 => show o 0 + 1 * 0 = o 0; omega

include C

/-- The gather. -/
theorem gather_run {v5 : BitVec 32} (t : Fin (k0_t3_loop v5).trips) (ht : t.val < 97) (v36 : BitVec 32) (hv : v36.toNat ≤ 16384) (hw : k0_chk131 v5 t v36)
    (s : St F) (hle : ∀ n, n < 128 → (s.listN (v36.toNat + 128 * t.val + n)).toNat ≤ 1536) :
    Run I d s (chain (gatherStep (F := F) arg5 arg11 arg13 v5 t v36 hw) 128 0) fun _ s' => s'.list = s.list ∧ s'.acc = s.acc ∧
      ∀ c n l, s'.xs (xsIx c n l) = x.word (s.listN (v36.toNat + 128 * t.val + n.val)).toNat c l := by
  refine W.mono (W.chain (inv := fun m s' => s'.list = s.list ∧ s'.acc = s.acc ∧
      ∀ c n l, n.val < m → s'.xs (xsIx c n l) = x.word (s.listN (v36.toNat + 128 * t.val + n.val)).toNat c l) 128 0 s
    ⟨rfl, rfl, fun _ _ _ h => absurd h (Nat.not_lt_zero _)⟩ ?_) fun _ s' h => ⟨h.1, h.2.1, fun c n l => h.2.2 c n l (by omega)⟩
  intro m s1 _ hm h1
  obtain ⟨h1, h2, h3⟩ := h1
  have hm : m < 128 := by omega
  have hsl : gSlot v5 t v36 (Fin.ofNat 128 m).val 0 = v36.toNat + 128 * t.val + m := by
    rw [fin128 hm]; exact gSlot_val t ht v36 hv m hm
  have hl : s1.listN (gSlot v5 t v36 (Fin.ofNat 128 m).val 0) = s.listN (v36.toNat + 128 * t.val + m) := by
    rw [hsl]; unfold St.listN; rw [h1]
  have hb := hle m hm
  unfold gatherStep
  refine W.sloadB C.list.rcell ?_
  rw [list_read, hl]
  generalize hu : s.listN (v36.toNat + 128 * t.val + m) = u at hb ⊢
  have hmul : (Scalar.indexCast (Scalar.muli u 5#32)).toNat = u.toNat * 5 := by
    show (u * 5#32).toNat = _
    rw [BitVec.toNat_mul, BitVec.toNat_ofNat]; omega
  have hin : ∀ a, wordsAt u a + S1x5x128.size a ≤ S1x7720x128.size a := by
    intro a
    match a with
    | 0 => exact Nat.le_refl _
    | 1 =>
      show (Scalar.indexCast (Scalar.muli u 5#32)).toNat + 5 ≤ 7720
      rw [hmul]; omega
    | 2 => exact Nat.le_refl _
  refine W.assumeB hin ?_
  refine W.loadB C.xt ?_
  refine W.loadB C.xs.rcell ?_
  refine W.storeT C.xs ?_
  refine ⟨h1, h2, fun c n l hn => ?_⟩
  refine (wrAt_xs _ _ _ c n l).trans ?_
  split
  · rename_i hnm
    have hnm : n.val = m := (congrArg Fin.val hnm).trans (fin128 hm)
    rw [shapeCast_self]
    refine (shapeCast_1ab_ab_apply (a := 5) (b := 128) _ _ c l).trans ?_
    rw [hnm, hu]
    unfold Inp.word
    refine congrArg x.xt ?_
    funext a
    apply Fin.ext
    match a with
    | 0 => rfl
    | 1 =>
      show (Scalar.indexCast (Scalar.muli u 5#32)).toNat + 1 * c.val = (u.toNat * 5 + c.val) % 7720
      rw [hmul]; omega
    | 2 => show 0 + 1 * l.val = l.val; omega
  · rename_i hnm
    refine h3 c n l ?_
    have : n.val ≠ m := fun h => hnm (Fin.ext (h.trans (fin128 hm).symm))
    omega

/-- The decoding. -/
theorem decode_run (s : St F) :
    Run I d s (chain (decodeStep (F := F) arg13 arg14 harg14) 4 0) fun _ s' => s'.list = s.list ∧ s'.acc = s.acc ∧ s'.xs = s.xs ∧
      ∀ c j n l, s'.lhs (ix2 (n0 := 128) (n1 := 2048) n (colOf c j l)) = byteOf j (s.xs (xsIx (Fin.castLE (by decide) c) n l)) := by
  refine W.mono (W.chain (inv := fun m s' => s'.list = s.list ∧ s'.acc = s.acc ∧ s'.xs = s.xs ∧
      ∀ c j n l, c.val < m → s'.lhs (ix2 (n0 := 128) (n1 := 2048) n (colOf c j l)) = byteOf j (s.xs (xsIx (Fin.castLE (by decide) c) n l))) 4 0 s
    ⟨rfl, rfl, rfl, fun _ _ _ _ h => absurd h (Nat.not_lt_zero _)⟩ ?_) fun _ s' h => ⟨h.1, h.2.1, h.2.2.1, fun c j n l => h.2.2.2 c j n l (by omega)⟩
  intro m s1 _ hm h1
  obtain ⟨h1, h2, h3, h4⟩ := h1
  have hm : m < 4 := by omega
  have hfm : (Fin.ofNat 4 m).val = m := Nat.mod_eq_of_lt hm
  unfold decodeStep
  refine W.loadB C.xs.rcell ?_
  refine W.mono (W.chain (inv := fun q s' => s'.list = s.list ∧ s'.acc = s.acc ∧ s'.xs = s.xs ∧
      ∀ c j n l, (c.val < m ∨ (c.val = m ∧ j.val < q)) → s'.lhs (ix2 (n0 := 128) (n1 := 2048) n (colOf c j l)) = byteOf j (s.xs (xsIx (Fin.castLE (by decide) c) n l))) 4 0 s1
    ⟨h1, h2, h3, fun c j n l h => h4 c j n l (by omega)⟩ ?_) fun _ s' h => ⟨h.1, h.2.1, h.2.2.1, fun c j n l hc => h.2.2.2 c j n l (by have := j.isLt; omega)⟩
  intro q s2 _ hq h5
  obtain ⟨h5, h6, h7, h8⟩ := h5
  have hq : q < 4 := by omega
  have hfq : (Fin.ofNat 4 q).val = q := Nat.mod_eq_of_lt hq
  unfold planeStep
  refine W.loadB C.lhs.rcell ?_
  refine W.storeT C.lhs ?_
  refine ⟨h5, h6, h7, fun c j n l hc => ?_⟩
  refine (wrAt_col _ _ _ _ c j n l).trans ?_
  split
  · rename_i hcj
    obtain ⟨hc1, hj1⟩ := hcj
    refine (planeOf_apply (F := F) (Fin.ofNat 4 q) _ (ix2 (n0 := 128) (n1 := 128) n l)).trans ?_
    rw [hj1]
    refine congrArg (byteOf (F := F) _) ?_
    rw [h3]
    refine congrArg s.xs ?_
    funext a
    apply Fin.ext
    match a with
    | 0 =>
      show 129 * (Fin.ofNat 4 m).val + 1 * n.val = 129 * c.val + n.val
      rw [hc1]; omega
    | 1 => show 0 + 1 * l.val = l.val; omega
  · rename_i hcj
    refine h8 c j n l ?_
    rcases hc with hc | ⟨hc, hj⟩
    · exact .inl hc
    · right
      refine ⟨hc, ?_⟩
      have : j.val ≠ q := fun h => hcj ⟨Fin.ext (hc.trans hfm.symm), Fin.ext (h.trans hfq.symm)⟩
      omega

/-- The laying out. -/
theorem lay_run (rows : FVec F S128x2048 .f32) (s : St F) :
    Run I d s (chain (layStep (F := F) arg15 rows) 16 0) fun _ s' => s'.list = s.list ∧ s'.acc = s.acc ∧
      ∀ c n l, s'.rs (rsIx c n l) = rows (ix2 (n0 := 128) (n1 := 2048) n (outCol c l)) := by
  refine W.mono (W.chain (inv := fun m s' => s'.list = s.list ∧ s'.acc = s.acc ∧
      ∀ c n l, c.val < m → s'.rs (rsIx c n l) = rows (ix2 (n0 := 128) (n1 := 2048) n (outCol c l))) 16 0 s
    ⟨rfl, rfl, fun _ _ _ h => absurd h (Nat.not_lt_zero _)⟩ ?_) fun _ s' h => ⟨h.1, h.2.1, fun c n l => h.2.2 c n l (by omega)⟩
  intro m s1 _ hm h1
  obtain ⟨h1, h2, h3⟩ := h1
  have hm : m < 16 := by omega
  have hfm : (Fin.ofNat 16 m).val = m := Nat.mod_eq_of_lt hm
  unfold layStep
  refine W.loadB C.rs.rcell ?_
  refine W.storeT C.rs ?_
  refine ⟨h1, h2, fun c n l hc => ?_⟩
  refine (wrAt_lay _ _ _ c n l).trans ?_
  split
  · rename_i hcm
    rw [shapeCast_self]
    refine slice2_axis1_apply (128 * (Fin.ofNat 16 m).val) rows _ n l (outCol c l) ?_
    show 128 * c.val + l.val = _
    rw [hcm]
  · rename_i hcm
    refine h3 c n l ?_
    have : c.val ≠ m := fun h => hcm (Fin.ext (h.trans hfm.symm))
    omega

end Proofs

end Cert.KernelIdeal.Body

end
-- ==== Proof.TileAdd.lean ====
/-
  The second half of a tile: sixteen groups of eight rows, each row added to what its token has. A predicate says what a
  token's accumulator row is before the expert's part and after it; the expert's slots take the tokens that chose it from
  the one to the other.
-/
module

public import proofs.«01_k».proof.Proof.TileLoad

@[expose] public section

set_option maxRecDepth 100000

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.Sem Idealize.ShloMosaic.Rounds
open Idealize.SL.BI (sProp)

variable {F : FTy → Type} [FloatOps F]

/-- The expert of a point. -/
def ex (i : grid0.Coords) : Fin 32 := i 1

/-- A token's row of sums, by column group and lane. -/
abbrev Row (F : FTy → Type) : Type := Fin 16 → Fin 128 → F .f32

/-- Token `u`'s row of the accumulator. -/
def accRow (A : S26136x128.Idx → Elt F .f32) (u : Fin 1536) : Row F :=
  fun c l => A (ix2 (n0 := 26136) (n1 := 128) ⟨17 * u.val + c.val, by omega⟩ l)

/-- Row `n` of a tile holds token `u`'s words and decoded bytes. -/
structure TileRow (x : Inp F) (u : Nat) (row : Vec F S128x128 .i32) (lhs : Vec F S128x2048 .fp8e4m3) (n : Fin 128) : Prop where
  words : ∀ l, row (ix2 (n0 := 128) (n1 := 128) n l) = x.word u 4 l
  bytes : ∀ c j l, lhs (ix2 (n0 := 128) (n1 := 2048) n (colOf c j l)) = byteOf j (x.word u (Fin.castLE (by decide) c) l)

/-- One expert's part of a token's sum: `P` before it, `P'` after it. -/
structure Part (x : Inp F) (i : grid0.Coords) (P P' : Fin 1536 → Row F → Prop) : Prop where
  skip : ∀ u v, ¬Plan.Chosen (x.cntOf i) (x.offOf i) x.posOf (ex i) u → P u v → P' u v
  add : ∀ u v, Plan.Chosen (x.cntOf i) (x.offOf i) x.posOf (ex i) u → P u v → ∀ row lhs n, TileRow x u.val row lhs n →
    P' u fun c l => FloatOps.addf (v c l) (rowsOf (BitVec.ofNat 32 (i 1).val) row lhs x.wgu x.wgus x.wd x.wds (ix2 (n0 := 128) (n1 := 2048) n (outCol c l)))

/-- The accumulator when `m` of the expert's slots are done. -/
def AccInv (x : Inp F) (i : grid0.Coords) (P P' : Fin 1536 → Row F → Prop) (m : Nat) (A : S26136x128.Idx → Elt F .f32) : Prop :=
  ∀ u, (Plan.Done (x.cntOf i) (x.offOf i) x.posOf (ex i) m u → P' u (accRow A u)) ∧
    (¬Plan.Done (x.cntOf i) (x.offOf i) x.posOf (ex i) m u → P u (accRow A u))

/-- The accumulator inside a group that began with `A₀`. -/
def PutInv (x : Inp F) (i : grid0.Coords) (P' : Fin 1536 → Row F → Prop) (m : Nat) (A₀ A : S26136x128.Idx → Elt F .f32) : Prop :=
  ∀ u, (Plan.Done (x.cntOf i) (x.offOf i) x.posOf (ex i) m u → P' u (accRow A u)) ∧
    (¬Plan.Done (x.cntOf i) (x.offOf i) x.posOf (ex i) m u → accRow A u = accRow A₀ u)

theorem tok_mul {v : BitVec 32} (h : v.toNat ≤ 1536) : (Scalar.indexCast (Scalar.muli v 17#32)).toNat = v.toNat * 17 := by
  show (v * 17#32).toNat = _
  rw [BitVec.toNat_mul, BitVec.toNat_ofNat]; omega

theorem accIn_of_le {v : BitVec 32} (h : v.toNat ≤ 1536) : AccIn v := by
  intro a
  match a with
  | 0 =>
    show (Scalar.indexCast (Scalar.muli v 17#32)).toNat + 16 ≤ 26136
    rw [tok_mul h]; omega
  | 1 => exact Nat.le_refl _

/-- A store of a token's rows, seen from token `u`. -/
theorem accRow_put (v : Tok) (h : v.1.toNat ≤ 1536) (w : S16x128.Idx → Elt F .f32) (A : S26136x128.Idx → Elt F .f32) (u : Fin 1536) :
    accRow (wrAt (accRect v) w A) u = if u.val = v.1.toNat then (fun c l => w (ix2 (n0 := 16) (n1 := 128) c l)) else accRow A u := by
  split
  · rename_i hu
    funext c l
    refine wrAt_eq (accRect v) w A _ (ix2 (n0 := 16) (n1 := 128) c l) ?_
    funext a
    apply Fin.ext
    match a with
    | 0 =>
      show (Scalar.indexCast (Scalar.muli v.1 17#32)).toNat + 1 * c.val = 17 * u.val + c.val
      rw [tok_mul h]; omega
    | 1 => show 0 + 1 * l.val = l.val; omega
  · rename_i hu
    funext c l
    refine wrAt_of_ne _ _ _ _ fun y hy => hu ?_
    have h1 : (Scalar.indexCast (Scalar.muli v.1 17#32)).toNat + 1 * (y 0).val = 17 * u.val + c.val := congrArg Fin.val (congrFun hy 0)
    have h2 : (y 0).val < 16 := (y 0).isLt
    have := c.isLt
    rw [tok_mul h] at h1
    omega

/-- One row put back: the invariant's step. -/
theorem PutInv.next {x : Inp F} {i : grid0.Coords} {P P' : Fin 1536 → Row F → Prop} (hp : Part x i P P') (hv : x.Valid i)
    {L : Nat → BitVec 32} (hL : Plan.Listed (x.cntOf i) (x.offOf i) x.posOf L) {m₀ m : Nat} (hm₀ : m₀ ≤ m)
    (hm : m < ((x.cntOf i (ex i)).toNat + 127) / 128 * 128) {A₀ A A' : S26136x128.Idx → Elt F .f32}
    (h0 : AccInv x i P P' m₀ A₀) (h : PutInv x i P' m A₀ A) {v : BitVec 32} (hvL : v = L ((x.offOf i (ex i)).toNat + m))
    {row : Vec F S128x128 .i32} {lhs : Vec F S128x2048 .fp8e4m3} {n : Fin 128} (hr : TileRow x v.toNat row lhs n) {w : Row F}
    (hA : ∀ u, accRow A' u = if u.val = v.toNat then w else accRow A u)
    (hw : ∀ u : Fin 1536, u.val = v.toNat → w = fun c l => FloatOps.addf (accRow A₀ u c l) (rowsOf (BitVec.ofNat 32 (i 1).val) row lhs x.wgu x.wgus x.wd x.wds (ix2 (n0 := 128) (n1 := 2048) n (outCol c l)))) :
    PutInv x i P' (m + 1) A₀ A' := by
  rcases hL.slot hv (ex i) ((x.offOf i (ex i)).toNat + m) (by omega) (by omega) with ⟨hs, k, u₀, hk, hu₀⟩ | ⟨hs, hu₀⟩
  · have hvu : v.toNat = u₀.val := by
      rw [hvL, hu₀, BitVec.toNat_ofNat]; have := u₀.isLt; omega
    obtain ⟨hd, hc, hn⟩ := Plan.done_real hv (e := ex i) (m := m) (by omega) hk
    intro u
    rw [hA u, hn u]
    by_cases hu : u = u₀
    · subst hu
      rw [if_pos hvu.symm]
      refine ⟨fun _ => ?_, fun hh => absurd (.inr rfl) hh⟩
      rw [hw u hvu.symm]
      refine hp.add u (accRow A₀ u) hc ?_ row lhs n (hvu ▸ hr)
      refine (h0 u).2 fun hh => hd ?_
      obtain ⟨k', h1, h2, h3⟩ := hh
      exact ⟨k', h1, h2, by omega⟩
    · have hne : ¬u.val = v.toNat := fun hh => hu (Fin.ext (hh.trans hvu))
      rw [if_neg hne]
      refine ⟨fun hh => (h u).1 ?_, fun hh => (h u).2 fun h2 => hh (.inl h2)⟩
      rcases hh with hh | hh
      · exact hh
      · exact absurd hh hu
  · intro u
    have hne : ¬u.val = v.toNat := by
      rw [hvL, hu₀]; have := u.isLt; show ¬u.val = 1536; omega
    rw [hA u, if_neg hne, Plan.done_pad (by omega)]
    exact h u

theorem AccInv.of_put {x : Inp F} {i : grid0.Coords} {P P' : Fin 1536 → Row F → Prop} {m₀ m : Nat} (hm : m₀ ≤ m)
    {A₀ A : S26136x128.Idx → Elt F .f32} (h0 : AccInv x i P P' m₀ A₀) (h : PutInv x i P' m A₀ A) : AccInv x i P P' m A := by
  intro u
  refine ⟨(h u).1, fun hn => ?_⟩
  rw [(h u).2 hn]
  refine (h0 u).2 fun hh => hn ?_
  obtain ⟨k', h1, h2, h3⟩ := hh
  exact ⟨k', h1, h2, by omega⟩

theorem PutInv.start {x : Inp F} {i : grid0.Coords} {P P' : Fin 1536 → Row F → Prop} {m : Nat}
    {A : S26136x128.Idx → Elt F .f32} (h : AccInv x i P P' m A) : PutInv x i P' m A A :=
  fun u => ⟨(h u).1, fun _ => rfl⟩

section Proofs

variable (I : St F → sProp (MT nD τ sig Unit (Elt F) ℕ (UR sig nD τ) ℕ)) (x : Inp F) (d : Dev nD)
variable (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole)

variable {I x d arg2 harg2 arg3 harg3 arg4 harg4 arg5 harg5 arg6 harg6 arg7 harg7 arg8 harg8 arg9 harg9 arg10 harg10 arg11 harg11 arg12 harg12 arg13 harg13 arg14 harg14 arg15 harg15}
variable (C : Cells I x d arg2 arg3 arg4 arg5 arg6 arg7 arg8 arg9 arg10 arg11 arg12 arg13 arg14 arg15)
include C

/-- A group of eight rows. -/
theorem group_run (i : grid0.Coords) (hv : x.Valid i) {P P' : Fin 1536 → Row F → Prop} (hp : Part x i P P')
    (t : Fin (k0_t3_loop (x.cntOf i (ex i))).trips) (ht : t.val < ((x.cntOf i (ex i)).toNat + 127) / 128)
    (hw : k0_chk131 (x.cntOf i (ex i)) t (x.offOf i (ex i))) (row : Vec F S128x128 .i32) (lhs : Vec F S128x2048 .fp8e4m3)
    (s : St F) (hL : Plan.Listed (x.cntOf i) (x.offOf i) x.posOf s.listN)
    (hr : ∀ n : Fin 128, TileRow x (s.listN ((x.offOf i (ex i)).toNat + 128 * t.val + n.val)).toNat row lhs n)
    (hrs : ∀ c n l, s.rs (rsIx c n l) = rowsOf (BitVec.ofNat 32 (i 1).val) row lhs x.wgu x.wgus x.wd x.wds (ix2 (n0 := 128) (n1 := 2048) n (outCol c l)))
    (g : Fin 16) (h0 : AccInv x i P P' (128 * t.val + 8 * g.val) s.acc) :
    Run I d s (groupStep (F := F) arg11 arg12 arg15 (x.cntOf i (ex i)) t (x.offOf i (ex i)) hw g.val) fun _ s' =>
      s'.list = s.list ∧ s'.rs = s.rs ∧ AccInv x i P P' (128 * t.val + 8 * (g.val + 1)) s'.acc := by
  have hcl := hv.cnt_le (ex i)
  have hel := hv.end_le (ex i)
  have hg := g.isLt
  have hfg : Fin.ofNat 16 g.val = g := Fin.ext (Nat.mod_eq_of_lt hg)
  have hsl : ∀ k, k < 8 → sSlot (x.cntOf i (ex i)) t (x.offOf i (ex i)) g.val k 0 = (x.offOf i (ex i)).toNat + (128 * t.val + 8 * g.val + k) := by
    intro k hk
    rw [sSlot_val t (by omega) _ (by omega) g.val k hg hk]; omega
  have hle : ∀ k, k < 8 → (s.listN ((x.offOf i (ex i)).toNat + (128 * t.val + 8 * g.val + k))).toNat ≤ 1536 :=
    fun k hk => hL.le hv (ex i) _ (by omega) (by omega)
  unfold groupStep
  rw [hfg]
  refine W.seq (W.chainAcc (fun k (v : Tok) => v.1 = s.listN ((x.offOf i (ex i)).toNat + (128 * t.val + 8 * g.val + k))) 8 0 rfl _
    (fun _ h => absurd h (Nat.not_lt_zero _)) fun k hk => ?_) fun toks s1 hs1 => ?_
  · unfold tokStep
    have hfk : (Fin.ofNat 8 k).val = k := Nat.mod_eq_of_lt hk
    refine W.sloadB C.list.rcell ?_
    rw [list_read]
    have e : s.listN (sSlot (x.cntOf i (ex i)) t (x.offOf i (ex i)) g.val (Fin.ofNat 8 k).val 0) = s.listN ((x.offOf i (ex i)).toNat + (128 * t.val + 8 * g.val + k)) := by
      rw [hfk, hsl k hk]
    generalize s.listN (sSlot (x.cntOf i (ex i)) t (x.offOf i (ex i)) g.val (Fin.ofNat 8 k).val 0) = v at e ⊢
    refine W.assumeB (AccOk.of_inb (accIn_of_le (by rw [e]; exact hle k hk))) ?_
    exact W.ret ⟨rfl, e⟩
  obtain ⟨rfl, htok⟩ := hs1
  have hfk : ∀ k (hk : k < 8), (toks (Fin.ofNat 8 k).val (Fin.ofNat 8 k).isLt).1 = s1.listN ((x.offOf i (ex i)).toNat + (128 * t.val + 8 * g.val + k)) := by
    intro k hk
    rw [htok, show (Fin.ofNat 8 k).val = k from Nat.mod_eq_of_lt hk]
  refine W.seq (W.chainAcc (fun k (w : FVec F S16x128 .f32) => ∀ u : Fin 1536, u.val = (s1.listN ((x.offOf i (ex i)).toNat + (128 * t.val + 8 * g.val + k))).toNat →
    ∀ c l, w (ix2 (n0 := 16) (n1 := 128) c l) = FloatOps.addf (accRow s1.acc u c l) (s1.rs (rsIx c (Fin.ofNat 128 (8 * g.val + k)) l))) 8 0 rfl _
    (fun _ h => absurd h (Nat.not_lt_zero _)) fun k hk => ?_) fun sums s2 hs2 => ?_
  · unfold sumStep
    refine W.loadB C.acc.rcell ?_
    refine W.loadB C.rs.rcell ?_
    refine W.ret ⟨rfl, fun u hu c l => ?_⟩
    refine congrArg₂ FloatOps.addf (congrArg s1.acc ?_) (congrArg s1.rs ?_)
    · funext a
      apply Fin.ext
      match a with
      | 0 =>
        show (Scalar.indexCast (Scalar.muli (toks (Fin.ofNat 8 k).val (Fin.ofNat 8 k).isLt).1 17#32)).toNat + 1 * c.val = 17 * u.val + c.val
        rw [hfk k hk, tok_mul (hle k hk), ← hu]; omega
      | 1 => show 0 + 1 * l.val = l.val; omega
    · funext a
      apply Fin.ext
      match a with
      | 0 =>
        show (8 * g.val + (Fin.ofNat 8 k).val) + 129 * c.val = 129 * c.val + (8 * g.val + k) % 128
        rw [show (Fin.ofNat 8 k).val = k from Nat.mod_eq_of_lt hk]; omega
      | 1 => show 0 + 1 * l.val = l.val; omega
  obtain ⟨rfl, hsum⟩ := hs2
  refine W.mono (W.chain (inv := fun k s' => s'.list = s2.list ∧ s'.rs = s2.rs ∧ PutInv x i P' (128 * t.val + 8 * g.val + k) s2.acc s'.acc) 8 0 s2
    ⟨rfl, rfl, PutInv.start h0⟩ ?_) fun _ s' h => ⟨h.1, h.2.1, by
      have := AccInv.of_put (m₀ := 128 * t.val + 8 * g.val) (m := 128 * t.val + 8 * g.val + (0 + 8)) (by omega) h0 h.2.2
      rwa [show 128 * t.val + 8 * g.val + (0 + 8) = 128 * t.val + 8 * (g.val + 1) by omega] at this⟩
  intro k s3 _ hk h3
  have hk : k < 8 := by omega
  obtain ⟨h1, h2, h3⟩ := h3
  have hf := hfk k hk
  have hsm := hsum (Fin.ofNat 8 k).val (Fin.ofNat 8 k).isLt
  have hkk : (Fin.ofNat 8 k).val = k := Nat.mod_eq_of_lt hk
  rw [show 128 * t.val + 8 * g.val + (Fin.ofNat 8 k).val = 128 * t.val + 8 * g.val + k by rw [hkk],
    show 8 * g.val + (Fin.ofNat 8 k).val = 8 * g.val + k by rw [hkk]] at hsm
  have hr' := hr (Fin.ofNat 128 (8 * g.val + k))
  rw [show (x.offOf i (ex i)).toNat + 128 * t.val + (Fin.ofNat 128 (8 * g.val + k)).val = (x.offOf i (ex i)).toNat + (128 * t.val + 8 * g.val + k) by
    show _ + (8 * g.val + k) % 128 = _; omega] at hr'
  have key : ∀ (tk : Tok) (sm : FVec F S16x128 .f32), tk.1 = s2.listN ((x.offOf i (ex i)).toNat + (128 * t.val + 8 * g.val + k)) →
      (∀ u : Fin 1536, u.val = (s2.listN ((x.offOf i (ex i)).toNat + (128 * t.val + 8 * g.val + k))).toNat →
        ∀ c l, sm (ix2 (n0 := 16) (n1 := 128) c l) = FloatOps.addf (accRow s2.acc u c l) (s2.rs (rsIx c (Fin.ofNat 128 (8 * g.val + k)) l))) →
      PutInv x i P' (128 * t.val + 8 * g.val + k + 1) s2.acc (wrAt (accRect tk) (shapeCast S16x128 sm shapeCasts_S16x128_S16x128) s3.acc) := by
    intro tk sm hf hsm
    have hlek := hle k hk
    rw [← hf] at hlek
    rw [shapeCast_self]
    refine PutInv.next (m := 128 * t.val + 8 * g.val + k) (v := tk.1) (n := Fin.ofNat 128 (8 * g.val + k)) (row := row) (lhs := lhs)
      (w := fun c l => sm (ix2 (n0 := 16) (n1 := 128) c l)) hp hv hL (by omega) (by omega) h0 h3 hf ?_ ?_ ?_
    · rw [hf]; exact hr'
    · exact fun u => accRow_put tk hlek sm s3.acc u
    · intro u hu
      funext c l
      rw [hsm u (by rw [← hf]; exact hu) c l, hrs]
  unfold putStep
  refine W.loadB C.acc.rcell ?_
  refine W.storeT C.acc ?_
  exact ⟨h1, h2, key _ _ hf hsm⟩

end Proofs

end Cert.KernelIdeal.Body

end
-- ==== Proof.TileRun.lean ====
/-
  An expert's tiles: how many trips their loop makes, that what a trip asks for lies in bounds, and what one trip makes of the accumulator.
-/
module

public import proofs.«01_k».proof.Proof.TileAdd
public import Idealize.ShloMosaic.Lib.LoopRemainder
public import Idealize.ShloMosaic.Lib.WordCmp

@[expose] public section

set_option maxRecDepth 100000

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.Sem Idealize.ShloMosaic.Rounds
open Idealize.SL.BI (sProp)

variable {F : FTy → Type} [FloatOps F]

/-! ### The tile loop's bounds -/

theorem t3_ub (v5 : BitVec 32) (h : v5.toNat ≤ 12288) : (k0_t3_loop v5).ub = BitVec.ofNat 32 ((v5.toNat + 127) / 128) := by
  have h6 : Scalar.addi v5 127#32 = BitVec.ofNat 32 (v5.toNat + 127) := by
    apply BitVec.eq_of_toNat_eq
    show (v5 + 127#32).toNat = _
    rw [BitVec.toNat_add, BitVec.toNat_ofNat, BitVec.toNat_ofNat]
  have h7 : Scalar.divsi (BitVec.ofNat 32 (v5.toNat + 127)) 128#32 = BitVec.ofNat 32 ((v5.toNat + 127) / 128) :=
    Routing.divsi_word .scalar (by omega) (by omega) (by omega)
  have h8 : Scalar.cmpi .sgt (BitVec.ofNat 32 (v5.toNat + 127)) 0#32 = 1#1 := by
    show IntOp.cmpi .sgt _ (BitVec.ofNat 32 0) = _
    rw [WordCmp.cmpi_sgt_ofNat (by show _ < 2 ^ 31; omega) (by decide), decide_eq_true (by omega)]; rfl
  have h10 : Scalar.cmpi .slt (BitVec.ofNat 32 (v5.toNat + 127)) 0#32 = 0#1 := by
    show IntOp.cmpi .slt _ (BitVec.ofNat 32 0) = _
    rw [WordCmp.cmpi_slt_ofNat (by show _ < 2 ^ 31; omega) (by decide), decide_eq_false (by omega)]; rfl
  show Scalar.addi 0#32 (Scalar.muli (Scalar.divsi _ 1#32) 1#32) = _
  rw [Scalar.muli_divsi_one, h6, h7, h8, h10]
  generalize Scalar.cmpi .ne (Scalar.remsi _ _) _ = b
  have h21 : Scalar.andi (Scalar.cmpi .ne (Scalar.subi (Scalar.extui 1#1) (Scalar.extui 0#1)) (Scalar.subi (Scalar.extui (Scalar.cmpi .sgt 128#32 0#32)) (Scalar.extui (Scalar.cmpi .slt 128#32 0#32)))) b = 0#1 := by
    revert b; decide
  rw [h21]
  generalize (v5.toNat + 127) / 128 = m
  show 0#32 + (BitVec.ofNat 32 m - 0#32) = BitVec.ofNat 32 m
  rw [BitVec.sub_zero, BitVec.zero_add]

theorem toInt_small {m : Nat} (h : m ≤ 97) : (BitVec.ofNat 32 m).toInt = m := by
  rw [BitVec.toInt_eq_toNat_cond, BitVec.toNat_ofNat]
  omega

theorem t3_trips (v5 : BitVec 32) (h : v5.toNat ≤ 12288) : (k0_t3_loop v5).trips = (v5.toNat + 127) / 128 := by
  have h1 : (1#32 : BitVec 32).toInt = 1 := by decide
  have h0 : (0#32 : BitVec 32).toInt = 0 := by decide
  unfold Scf.Loop.trips Scf.trips
  rw [t3_ub v5 h, toInt_small (by omega)]
  show (((((v5.toNat + 127) / 128 : Nat) : Int) - (0#32 : BitVec 32).toInt + (1#32 : BitVec 32).toInt - 1) / (1#32 : BitVec 32).toInt).toNat = _
  rw [h1, h0]
  omega

theorem chk130 (v5 : BitVec 32) (h : v5.toNat ≤ 12288) : k0_chk130 v5 := by
  refine ⟨?_, Scf.rem_ok _ _⟩
  have h1 : (1#32 : BitVec 32).toInt = 1 := by decide
  have h0 : (0#32 : BitVec 32).toInt = 0 := by decide
  have ht := t3_trips v5 h
  refine ⟨by show 0 < (1#32 : BitVec 32).toInt; decide, ?_⟩
  show (0#32 : BitVec 32).toInt + ((k0_t3_loop v5).trips : Int) * (1#32 : BitVec 32).toInt < 2 ^ 31
  rw [h0, h1, ht]
  omega

/-! ### The slots of a tile lie in the list -/

theorem chk131 {v5 : BitVec 32} (t : Fin (k0_t3_loop v5).trips) (v36 : BitVec 32) (h5 : v5.toNat ≤ 12288) (h : v36.toNat + v5.toNat ≤ 16384) :
    k0_chk131 v5 t v36 := by
  have ht : t.val < (v5.toNat + 127) / 128 := Nat.lt_of_lt_of_eq t.isLt (t3_trips v5 h5)
  have key : ∀ n, n < 128 → ∀ a, gSlot v5 t v36 n a + S1.size a ≤ S16512.size a := by
    intro n hn a
    match a with
    | 0 =>
      show _ + 1 ≤ 16512
      rw [gSlot_val t (by omega) v36 (by omega) n hn]; omega
  have key' : ∀ g, g < 16 → ∀ r : Fin 8, ∀ a, sSlot v5 t v36 g r.val a + S1.size a ≤ S16512.size a := by
    intro g hg r a
    match a with
    | 0 =>
      have := r.isLt
      show _ + 1 ≤ 16512
      rw [sSlot_val t (by omega) v36 (by omega) g r.val hg r.isLt]; omega
  have hc : ∀ n₀, n₀ + 31 < 128 → conj (fun n => ∀ a, gSlot v5 t v36 n a + S1.size a ≤ S16512.size a) 31 n₀ :=
    fun n₀ h0 => (conj_iff _ _ _).mpr fun n h1 h2 => key n (by omega)
  exact ⟨hc 0 (by decide), hc 32 (by decide), hc 64 (by decide), hc 96 (by decide),
    show conj (fun g => ∀ r : Fin 8, ∀ a, sSlot v5 t v36 g r.val a + S1.size a ≤ S16512.size a) 15 0 from
      (conj_iff _ _ _).mpr fun g _ h2 => key' g (by omega)⟩

/-- A read of a table at the point's block and expert. -/
theorem table_idx (i : grid0.Coords) (o : Fin 2 → Nat) (ho : o = ![(BitVec.ofNat 32 (i 0).val).toNat, (BitVec.ofNat 32 (i 1).val).toNat])
    (h : ∀ a, o a + S1x1.size a ≤ S8x32.size a) (hx : 0 < (Rect.unit (s := S8x32) o S1x1.size h).shape.numel) :
    (Rect.unit (s := S8x32) o S1x1.size h).idx (Shape.Idx.first hx) = ix2 (n0 := 8) (n1 := 32) (i 0) (ex i) := by
  subst ho
  have hi0 : (i 0).val < 8 := (i 0).isLt
  have hi1 : (i 1).val < 32 := (i 1).isLt
  funext a
  apply Fin.ext
  match a with
  | 0 =>
    show (BitVec.ofNat 32 (i 0).val).toNat + 1 * 0 = (i 0).val
    rw [BitVec.toNat_ofNat]; omega
  | 1 =>
    show (BitVec.ofNat 32 (i 1).val).toNat + 1 * 0 = (i 1).val
    rw [BitVec.toNat_ofNat]; omega

section Proofs

variable (I : St F → sProp (MT nD τ sig Unit (Elt F) ℕ (UR sig nD τ) ℕ)) (x : Inp F) (d : Dev nD)
variable (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole)

variable {I x d arg2 harg2 arg3 harg3 arg4 harg4 arg5 harg5 arg6 harg6 arg7 harg7 arg8 harg8 arg9 harg9 arg10 harg10 arg11 harg11 arg12 harg12 arg13 harg13 arg14 harg14 arg15 harg15}
variable (C : Cells I x d arg2 arg3 arg4 arg5 arg6 arg7 arg8 arg9 arg10 arg11 arg12 arg13 arg14 arg15)
include C

/-- One tile. -/
theorem tile_run (i : grid0.Coords) (hv : x.Valid i) {P P' : Fin 1536 → Row F → Prop} (hp : Part x i P P') (arg0 : BitVec 32)
    (hw130 : k0_chk130 (x.cntOf i (ex i))) (t : Fin (k0_t3_loop (x.cntOf i (ex i))).trips) (v : BitVec 32) (s : St F)
    (hL : Plan.Listed (x.cntOf i) (x.offOf i) x.posOf s.listN) (h0 : AccInv x i P P' (128 * t.val) s.acc) :
    Run I d s (Gen.k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg0 (BitVec.ofNat 32 (i 1).val) (x.cntOf i (ex i)) hw130 t v)
      fun _ s' => s'.list = s.list ∧ AccInv x i P P' (128 * (t.val + 1)) s'.acc := by
  have hcl := hv.cnt_le (ex i)
  have hel := hv.end_le (ex i)
  have ht : t.val < ((x.cntOf i (ex i)).toNat + 127) / 128 := Nat.lt_of_lt_of_eq t.isLt (t3_trips _ hcl)
  rw [tile_eq]
  refine W.sloadB C.off ?_
  have e36 : ∀ hx, x.off ((Rect.unit (s := S8x32) (k0_off260 i) S1x1.size (k0_off260_inb i)).idx (Shape.Idx.first hx)) = x.offOf i (ex i) :=
    fun hx => congrArg x.off (table_idx i (k0_off260 i) rfl (k0_off260_inb i) hx)
  rw [e36]
  refine W.assumeB (chk131 t _ hcl hel) ?_
  refine W.seq (gather_run C t (by omega) _ (by omega) _ s fun n hn => ?_) fun _ s1 h1 => ?_
  · rw [show (x.offOf i (ex i)).toNat + 128 * t.val + n = (x.offOf i (ex i)).toNat + (128 * t.val + n) by omega]
    exact hL.le hv (ex i) _ (by omega) (by omega)
  obtain ⟨h1l, h1a, h1x⟩ := h1
  refine W.seq (decode_run (harg14 := harg14) C s1) fun _ s2 h2 => ?_
  obtain ⟨h2l, h2a, h2x, h2b⟩ := h2
  refine W.loadB C.xs.rcell ?_
  refine W.loadB C.lhs.rcell ?_
  refine W.loadB C.wgu ?_
  refine W.loadB C.wgus ?_
  refine W.loadB C.wd ?_
  refine W.loadB C.wds ?_
  have e1 : (fun y => s2.lhs ((Rect.unit (s := S128x2048) ![0, 0] S128x2048.size inb_S128x2048_S128x2048_0_0).toLoadRect.idx y)) = s2.lhs :=
    funext fun y => congrArg s2.lhs (whole_idx _ _ y)
  have e2 : (fun y => x.wgu ((Rect.unit (s := S1x2048x1536) ![0, 0, 0] S1x2048x1536.size inb_S1x2048x1536_S1x2048x1536_0_0_0).toLoadRect.idx y)) = x.wgu :=
    funext fun y => congrArg x.wgu (whole_idx _ _ y)
  have e3 : (fun y => x.wgus ((Rect.unit (s := S1x1x1536) ![0, 0, 0] S1x1x1536.size inb_S1x1x1536_S1x1x1536_0_0_0).toLoadRect.idx y)) = x.wgus :=
    funext fun y => congrArg x.wgus (whole_idx _ _ y)
  have e4 : (fun y => x.wd ((Rect.unit (s := S1x768x2048) ![0, 0, 0] S1x768x2048.size inb_S1x768x2048_S1x768x2048_0_0_0).toLoadRect.idx y)) = x.wd :=
    funext fun y => congrArg x.wd (whole_idx _ _ y)
  have e5 : (fun y => x.wds ((Rect.unit (s := S1x1x2048) ![0, 0, 0] S1x1x2048.size inb_S1x1x2048_S1x1x2048_0_0_0).toLoadRect.idx y)) = x.wds :=
    funext fun y => congrArg x.wds (whole_idx _ _ y)
  rw [e1, e2, e3, e4, e5]
  generalize hrow : (fun y => s2.xs ((wordsRect 4).toLoadRect.idx y)) = row
  have hr : ∀ n : Fin 128, TileRow x (s.listN ((x.offOf i (ex i)).toNat + 128 * t.val + n.val)).toNat row s2.lhs n := by
    intro n
    refine ⟨fun l => ?_, fun c j l => ?_⟩
    · rw [← h1x 4 n l, ← h2x, ← hrow]
      refine congrArg s2.xs ?_
      funext a
      apply Fin.ext
      match a with
      | 0 => show 129 * 4 + 1 * n.val = 129 * 4 + n.val; omega
      | 1 => show 0 + 1 * l.val = l.val; omega
    · rw [h2b c j n l, h1x]
  refine W.seq (lay_run C _ s2) fun _ s3 h3 => ?_
  obtain ⟨h3l, h3a, h3r⟩ := h3
  have hl3 : s3.list = s.list := h3l.trans (h2l.trans h1l)
  have ha3 : s3.acc = s.acc := h3a.trans (h2a.trans h1a)
  refine W.seq (W.chain (inv := fun g s' => s'.list = s.list ∧ s'.rs = s3.rs ∧ AccInv x i P P' (128 * t.val + 8 * g) s'.acc) 16 0 s3
    ⟨hl3, rfl, by rw [ha3]; exact h0⟩ ?_) fun _ s4 h4 => W.ret ⟨h4.1, by
      have := h4.2.2
      rwa [show 128 * t.val + 8 * (0 + 16) = 128 * (t.val + 1) by omega] at this⟩
  intro g s4 _ hg h4
  obtain ⟨h4l, h4r, h4a⟩ := h4
  have hln : s4.listN = s.listN := by unfold St.listN; rw [h4l]
  refine W.mono (group_run C i hv hp t ht _ row s2.lhs s4 (by rw [hln]; exact hL) (fun n => by rw [hln]; exact hr n)
    (fun c n l => by rw [h4r]; exact h3r c n l) ⟨g, by omega⟩ h4a) fun _ s5 h5 => ⟨h5.1.trans h4l, h5.2.1.trans h4r, h5.2.2⟩

end Proofs

end Cert.KernelIdeal.Body

end
-- ==== Proof.BodyRun.lean ====
/-
  The body of the kernel at one point of its grid: what it makes of the list, of the accumulator and, at the last expert,
  of the result's block.
-/
module

public import proofs.«01_k».proof.Proof.TileRun

@[expose] public section

set_option maxRecDepth 100000

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.Sem Idealize.ShloMosaic.Rounds
open Idealize.SL.BI (sProp)

variable {F : FTy → Type} [FloatOps F]

/-- A row of zeros. -/
def zeroRow : Row F := fun _ _ => FloatOps.ofBits .f32 0x00000000#32

/-- A block's result from its accumulator: every token's row, rounded. -/
def OutOf (A : S26136x128.Idx → Elt F .f32) (O : S1536x2048.Idx → Elt F .bf16) : Prop :=
  ∀ u c l, O (ix2 (n0 := 1536) (n1 := 2048) u (outCol c l)) = FloatOps.truncf .bf16 bitsLt_bf16_f32 (accRow A u c l)

theorem wrAt_out {T : Type} (c' : Fin 16) (w : S1536x128.Idx → T) (X : S1536x2048.Idx → T) (u : Fin 1536) (c : Fin 16) (l : Fin 128) :
    wrAt (outRect c') w X (ix2 (n0 := 1536) (n1 := 2048) u (outCol c l))
      = if c = c' then w (ix2 (n0 := 1536) (n1 := 128) u l) else X (ix2 (n0 := 1536) (n1 := 2048) u (outCol c l)) := by
  split
  · rename_i h
    subst h
    refine wrAt_eq (outRect c) w X _ (ix2 (n0 := 1536) (n1 := 128) u l) ?_
    funext a
    apply Fin.ext
    match a with
    | 0 => show 0 + 1 * u.val = u.val; omega
    | 1 => show 128 * c.val + 1 * l.val = 128 * c.val + l.val; omega
  · rename_i h
    refine wrAt_of_ne _ _ _ _ fun y hy => h ?_
    have h1 : 128 * c'.val + 1 * (y 1).val = 128 * c.val + l.val := congrArg Fin.val (congrFun hy 1)
    have h2 : (y 1).val < 128 := (y 1).isLt
    have := l.isLt
    exact Fin.ext (by omega)

theorem cond1_iff (i : grid0.Coords) : k0_cond1 i = 1#1 ↔ ex i = 0 := by
  have key : ∀ e : Fin 32, Scalar.cmpi .ne (Scalar.extui (Scalar.cmpi .eq (BitVec.ofNat 32 e.val) 0#32)) 0#32 = 1#1 ↔ e = 0 := by decide
  exact key (ex i)

theorem cond2_iff (i : grid0.Coords) : k0_cond2 i = 1#1 ↔ ex i = 31 := by
  have key : ∀ e : Fin 32, Scalar.cmpi .ne (Scalar.extui (Scalar.cmpi .eq (BitVec.ofNat 32 e.val) 31#32)) 0#32 = 1#1 ↔ e = 31 := by decide
  exact key (ex i)

/-- The state of the list and the accumulator with the experts so far done: the block's list, and `P` of every token's row. -/
structure Ready (x : Inp F) (i : grid0.Coords) (P : Fin 1536 → Row F → Prop) (s : St F) : Prop where
  listed : Plan.Listed (x.cntOf i) (x.offOf i) x.posOf s.listN
  rows : ∀ u, P u (accRow s.acc u)

section Proofs

variable (I : St F → sProp (MT nD τ sig Unit (Elt F) ℕ (UR sig nD τ) ℕ)) (x : Inp F) (d : Dev nD)
variable (arg2 : Memref sig .tc .smem S8x32 .i32) (harg2 : arg2.IsWhole) (arg3 : Memref sig .tc .smem S8x32 .i32) (harg3 : arg3.IsWhole) (arg4 : Memref sig .tc .smem S1x8x1536 .i32) (harg4 : arg4.IsWhole) (arg5 : Memref sig .tc .vmem S1x7720x128 .i32) (harg5 : arg5.IsWhole) (arg6 : Memref sig .tc .vmem S1x2048x1536 .fp8e4m3) (harg6 : arg6.IsWhole) (arg7 : Memref sig .tc .vmem S1x1x1536 .f32) (harg7 : arg7.IsWhole) (arg8 : Memref sig .tc .vmem S1x768x2048 .fp8e4m3) (harg8 : arg8.IsWhole) (arg9 : Memref sig .tc .vmem S1x1x2048 .f32) (harg9 : arg9.IsWhole) (arg10 : Memref sig .tc .vmem S1536x2048 .bf16) (harg10 : arg10.IsWhole) (arg11 : Memref sig .tc .smem S16512 .i32) (harg11 : arg11.IsWhole) (arg12 : Memref sig .tc .vmem S26136x128 .f32) (harg12 : arg12.IsWhole) (arg13 : Memref sig .tc .vmem S648x128 .i32) (harg13 : arg13.IsWhole) (arg14 : Memref sig .tc .vmem S128x2048 .fp8e4m3) (harg14 : arg14.IsWhole) (arg15 : Memref sig .tc .vmem S2064x128 .f32) (harg15 : arg15.IsWhole)

variable {I x d arg2 harg2 arg3 harg3 arg4 harg4 arg5 harg5 arg6 harg6 arg7 harg7 arg8 harg8 arg9 harg9 arg10 harg10 arg11 harg11 arg12 harg12 arg13 harg13 arg14 harg14 arg15 harg15}
variable (C : Cells I x d arg2 arg3 arg4 arg5 arg6 arg7 arg8 arg9 arg10 arg11 arg12 arg13 arg14 arg15)
include C

set_option maxHeartbeats 1000000 in
/-- The result's block written. -/
theorem out_run (s : St F) :
    Run I d s (chain (outStep (F := F) arg10 harg10 arg12) 16 0) fun _ s' => s'.list = s.list ∧ s'.acc = s.acc ∧ OutOf s.acc s'.out := by
  refine W.mono (W.chain (inv := fun m s' => s'.list = s.list ∧ s'.acc = s.acc ∧
      ∀ u c l, c.val < m → s'.out (ix2 (n0 := 1536) (n1 := 2048) u (outCol c l)) = FloatOps.truncf .bf16 bitsLt_bf16_f32 (accRow s.acc u c l)) 16 0 s
    ⟨rfl, rfl, fun _ _ _ h => absurd h (Nat.not_lt_zero _)⟩ ?_) fun _ s' h => ⟨h.1, h.2.1, fun u c l => h.2.2 u c l (by omega)⟩
  intro m s1 _ hm h1
  obtain ⟨h1, h2, h3⟩ := h1
  have hm : m < 16 := by omega
  have hfm : (Fin.ofNat 16 m).val = m := Nat.mod_eq_of_lt hm
  unfold outStep
  refine W.loadB C.acc.rcell ?_
  refine W.loadB C.out.rcell ?_
  refine W.storeT C.out ?_
  refine ⟨h1, h2, fun u c l hc => ?_⟩
  refine (wrAt_out _ _ _ u c l).trans ?_
  split
  · rename_i hcm
    have e : s1.acc ((⟨![(Fin.ofNat 16 m).val, 0], S1536x128.size, ![17, 1], acc_inb (Fin.ofNat 16 m)⟩ : LoadRect S26136x128).idx (ix2 (n0 := 1536) (n1 := 128) u l)) = accRow s.acc u c l := by
      rw [h2]
      refine congrArg s.acc ?_
      funext a
      apply Fin.ext
      match a with
      | 0 =>
        show (Fin.ofNat 16 m).val + 17 * u.val = 17 * u.val + c.val
        rw [hcm]; omega
      | 1 => show 0 + 1 * l.val = l.val; omega
    exact congrArg (FloatOps.truncf .bf16 bitsLt_bf16_f32) e
  · rename_i hcm
    refine h3 u c l ?_
    have : c.val ≠ m := fun h => hcm (Fin.ext (h.trans hfm.symm))
    omega

/-- The first expert's part. -/
theorem lists_run (i : grid0.Coords) (hv : x.Valid i) {P : Fin 1536 → Row F → Prop} (h0 : ∀ u, P u zeroRow) (s : St F) (hc : k0_cond1 i = 1#1)
    {k : Prog (TpuEff nD τ sig (Elt F) Λ₀ .tc) PUnit} {Q : PUnit → St F → Prop} (hk : ∀ s', Ready x i P s' → Run I d s' k Q) :
    Run I d s (listsProg (F := F) i arg2 harg2 arg3 harg3 arg4 harg4 arg5 harg5 arg6 harg6 arg7 harg7 arg8 harg8 arg9 harg9 arg10 harg10 arg11 harg11 arg12 harg12 arg13 harg13 arg14 harg14 arg15 harg15 hc k) Q := by
  unfold listsProg
  refine W.loadB C.acc.rcell ?_
  refine W.storeB C.acc ?_
  have hz : ∀ u, accRow (wrAt (Rect.unit (s := S26136x128) ![0, 0] S26136x128.size inb_S26136x128_S26136x128_0_0) (shapeCast S26136x128 (broadcast S26136x128 (Scalar.ofBits .f32 0x00000000#32 : F .f32)) shapeCasts_S26136x128_S26136x128) s.acc) u = zeroRow := by
    intro u
    have e := wrAt_whole (s := S26136x128) ![0, 0] inb_S26136x128_S26136x128_0_0 (shapeCast S26136x128 (broadcast S26136x128 (Scalar.ofBits .f32 0x00000000#32 : F .f32)) shapeCasts_S26136x128_S26136x128) s.acc
    rw [e]
    rfl
  generalize wrAt (Rect.unit (s := S26136x128) ![0, 0] S26136x128.size inb_S26136x128_S26136x128_0_0) (shapeCast S26136x128 (broadcast S26136x128 (Scalar.ofBits .f32 0x00000000#32 : F .f32)) shapeCasts_S26136x128_S26136x128) s.acc = A at hz
  refine W.seq (R := fun _ s' => Plan.Filled (x.cntOf i) (x.offOf i) 32 0 s'.listN ∧ s'.acc = A) ?_ fun _ s1 h1 => ?_
  · refine W.loop _ _ _ _ _ _ (fun t _ s' => Plan.Filled (x.cntOf i) (x.offOf i) t 0 s'.listN ∧ s'.acc = A) ⟨Plan.Filled.zero _, rfl⟩ ?_ fun _ _ h => h
    exact fun t _ s' h => fill_run C i hv _ hc t s' h
  refine W.seq (R := fun _ s' => Plan.Listed (x.cntOf i) (x.offOf i) x.posOf s'.listN ∧ s'.acc = A) ?_ fun _ s2 h2 => ?_
  · refine W.loop _ _ _ _ _ _ (fun t _ s' => Plan.Inverted (x.cntOf i) (x.offOf i) x.posOf t 0 s'.listN ∧ s'.acc = A) ⟨Plan.Inverted.zero h1.1, h1.2⟩ ?_ fun _ _ h => h
    exact fun t _ s' h => invert_run C i hv hc t s' h
  exact hk s2 ⟨h2.1, fun u => by rw [h2.2, hz u]; exact h0 u⟩

/-- Every expert's part. -/
theorem tiles_run (i : grid0.Coords) (hv : x.Valid i) {P P' : Fin 1536 → Row F → Prop} (hp : Part x i P P') (s1 : St F) (h1 : Ready x i P s1) :
    Run I d s1 (tilesProg (F := F) i arg2 harg2 arg3 harg3 arg4 harg4 arg5 harg5 arg6 harg6 arg7 harg7 arg8 harg8 arg9 harg9 arg10 harg10 arg11 harg11 arg12 harg12 arg13 harg13 arg14 harg14 arg15 harg15)
      fun _ s' => Ready x i P' s' ∧ (ex i = 31 → OutOf s'.acc s'.out) := by
  have hcl := hv.cnt_le (ex i)
  have hel := hv.end_le (ex i)
  unfold tilesProg
  refine W.sloadB C.cnt ?_
  have e5 : ∀ hx, x.cnt ((Rect.unit (s := S8x32) (k0_off259 i) S1x1.size (k0_off259_inb i)).idx (Shape.Idx.first hx)) = x.cntOf i (ex i) :=
    fun hx => congrArg x.cnt (table_idx i (k0_off259 i) rfl (k0_off259_inb i) hx)
  rw [e5]
  refine W.assumeB (chk130 _ hcl) ?_
  refine W.seq (R := fun _ s' => Ready x i P' s') ?_ fun _ s2 h2 => ?_
  · refine W.loop _ _ _ _ _ _ (fun t _ s' => Plan.Listed (x.cntOf i) (x.offOf i) x.posOf s'.listN ∧ AccInv x i P P' (128 * t) s'.acc)
      ⟨h1.listed, fun u => ⟨fun h => absurd h (Plan.not_done_zero _ _), fun _ => h1.rows u⟩⟩ ?_ ?_
    · rintro t v s' ⟨hl, ha⟩
      refine W.mono (tile_run C i hv hp _ _ t v s' hl ha) fun _ s'' h => ⟨?_, h.2⟩
      have : s''.listN = s'.listN := by unfold St.listN; rw [h.1]
      rw [this]; exact hl
    · rintro v s' ⟨hl, ha⟩
      refine ⟨hl, fun u => ?_⟩
      have ht : Scf.trips (k0_t3_loop (x.cntOf i (ex i))).lb (k0_t3_loop (x.cntOf i (ex i))).ub (k0_t3_loop (x.cntOf i (ex i))).st = ((x.cntOf i (ex i)).toNat + 127) / 128 := t3_trips _ hcl
      rw [ht] at ha
      have hd := Plan.done_all (cnt := x.cntOf i) (off := x.offOf i) (pos := x.posOf) (e := ex i) (m := 128 * (((x.cntOf i (ex i)).toNat + 127) / 128)) (by omega) u
      by_cases hch : Plan.Chosen (x.cntOf i) (x.offOf i) x.posOf (ex i) u
      · exact (ha u).1 (hd.mpr hch)
      · exact hp.skip u _ hch ((ha u).2 fun h => hch (hd.mp h))
  refine W.seq (R := fun _ s' => s' = s2) ?_ fun _ s3 h3 => ?_
  · exact W.loop _ _ _ _ _ _ (fun _ _ s' => s' = s2) rfl (fun t => (Scf.rem_no_trip _ _ t).elim) fun _ _ h => h
  subst h3
  by_cases hc : k0_cond2 i = 1#1
  · rw [dif_pos hc]
    refine W.seq (out_run (harg10 := harg10) C s3) fun _ s4 h4 => W.ret ⟨⟨?_, ?_⟩, fun _ => ?_⟩
    · have : s4.listN = s3.listN := by unfold St.listN; rw [h4.1]
      rw [this]; exact h2.listed
    · rw [h4.2.1]; exact h2.rows
    · rw [h4.2.1]; exact h4.2.2
  · rw [dif_neg hc]
    exact W.ret ⟨h2, fun h => absurd ((cond2_iff i).mpr h) hc⟩

/-- The body. -/
theorem point_run (i : grid0.Coords) (hv : x.Valid i) {P P' : Fin 1536 → Row F → Prop} (hp : Part x i P P') (s : St F)
    (h0 : ex i = 0 → ∀ u, P u zeroRow) (hs : ex i ≠ 0 → Ready x i P s) :
    Run I d s (cc0_moe_experts (F := F) i arg2 harg2 arg3 harg3 arg4 harg4 arg5 harg5 arg6 harg6 arg7 harg7 arg8 harg8 arg9 harg9 arg10 harg10 arg11 harg11 arg12 harg12 arg13 harg13 arg14 harg14 arg15 harg15)
      fun _ s' => Ready x i P' s' ∧ (ex i = 31 → OutOf s'.acc s'.out) := by
  rw [body_eq]
  by_cases hc : k0_cond1 i = 1#1
  · rw [dif_pos hc]
    exact lists_run C i hv (h0 ((cond1_iff i).mp hc)) s hc fun s' h' => tiles_run C i hv hp s' h'
  · rw [dif_neg hc]
    exact tiles_run C i hv hp s (hs fun h => hc ((cond1_iff i).mpr h))

end Proofs

end Cert.KernelIdeal.Body

end
-- ==== Proof.Points.lean ====
/-
  The points of the kernel's grid: the block of tokens and the expert of each, and what the inputs' windows hold there.
-/
module

public import proofs.«01_k».proof.Proof.BodyRun
public import proofs.«01_k».proof.Proof.Gen.KernelIdeal.Launch

@[expose] public section

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.Sem Idealize.ShloMosaic.Rounds
open Idealize.SL.BI (sProp)
open Idealize.ShloMosaic.Pipeline (Dat RDat)

variable {F : FTy → Type} [FloatOps F]

/-- The block of a point. -/
theorem blk_val (t : Fin grid0.N) : (grid0.coords t 0).val = t.val / 32 := by
  have h := Pipeline.Grid.coords_val (G := grid0) t 0 (S := 32) (B := 8) (by decide) rfl
  have ht : t.val < 256 := Nat.lt_of_lt_of_eq t.isLt N_0
  omega

/-- The expert of a point. -/
theorem ex_val (t : Fin grid0.N) : (ex (grid0.coords t)).val = t.val % 32 := by
  have h := Pipeline.Grid.coords_val (G := grid0) t 1 (S := 1) (B := 32) (by decide) rfl
  rw [Nat.div_one] at h
  exact h

variable (m : (ℓ : Loc nD τ sig) → Buf (Elt F) ℓ)

/-- What the tables of counts and offsets hold when the kernel starts. -/
def tbl : pre0.Contents (Elt F) := fun j => m ((0 : Dev nD).tc.loc (pre0.ref j))

/-- The tables as contents the pipeline may be run at: it asks nothing of them. -/
abbrev adm : (pcfg0 (F := F)).Adm := ⟨tbl m, trivial⟩

/-- The pipeline at those tables. -/
abbrev cfgM : Pipeline.Cfg sig Λ₀ := cfg0 (adm m)

/-- A buffer's contents when the kernel starts. -/
def V (c : Dev nD) (b : Ref sig .tc) : Buf (Elt F) ((c.tc : Thread nD τ).loc b) := m ((c.tc : Thread nD τ).loc b)

/-- Window `w`'s block at point `t`. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- What the inputs hold at point `t`. -/
def inp (c : Dev nD) (t : Fin (cfgM m).N) : Inp F where
  cnt := m ((c.tc : Thread nD τ).loc main_arg0)
  off := m ((c.tc : Thread nD τ).loc main_arg1)
  pos := iblk m c 0 t
  xt := iblk m c 1 t
  wgu := iblk m c 2 t
  wgus := iblk m c 3 t
  wd := iblk m c 4 t
  wds := iblk m c 5 t

theorem inp_pos (c : Dev nD) (t : Fin (cfgM m).N) (b : Fin 8) (hb : b.val = t.val / 32) (k : Fin 8) (u : Fin 1536) :
    (inp m c t).pos (ix3 (n0 := 1) (n1 := 8) (n2 := 1536) 0 k u)
      = m ((c.tc : Thread nD τ).loc main_arg2) (ix3 (n0 := 8) (n1 := 8) (n2 := 1536) b k u) := by
  show m ((c.tc : Thread nD τ).loc main_arg2) (((cfgM m).win 0).blk t |>.view.emb _) = _
  congr 1
  have hB : (grid0.coords t 0).val = b.val := (blk_val t).trans hb.symm
  have h8 : b.val < 8 := b.isLt
  funext a
  apply Fin.ext
  fin_cases a
  · show (BitVec.ofNat 32 (grid0.coords t 0).val).toNat * 1 + 1 * 0 = b.val
    rw [hB, BitVec.toNat_ofNat]; omega
  · show 0 * 8 + 1 * k.val = k.val
    omega
  · show 0 * 1536 + 1 * u.val = u.val
    omega

end Cert.KernelIdeal.Body

end
-- ==== Proof.Held.lean ====
/-
  The memrefs the kernel's body is called with, all held at once: what each holds can be taken out and put back.
-/
module

public import proofs.«01_k».proof.Proof.State

@[expose] public section

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.BI Idealize.SL.Sem Idealize.ShloMosaic.Rounds
open scoped Idealize.SL.BI
open Idealize.SL.BI.BIBase Idealize.SL.BI.Laws Idealize.SL.ProofMode

/-- `B 0` can be taken out of `A` and `B t` put back in its place, which makes `A' t`. -/
def Focus {M : Type} [URA M] {T : Type} (A : sProp M) (B : sProp M) (B' A' : T → sProp M) : Prop :=
  A ⊢ iprop(B ∗ (∀ t, B' t -∗ A' t))

theorem Focus.last {M : Type} [URA M] {T : Type} {B : sProp M} {B' : T → sProp M} : Focus B B B' B' := by
  unfold Focus
  iintro H
  isplitl [H]; · iexact H
  iintro %t H; iexact H

theorem Focus.head {M : Type} [URA M] {T : Type} {B R : sProp M} {B' : T → sProp M} :
    Focus iprop(B ∗ R) B B' (fun t => iprop(B' t ∗ R)) := by
  unfold Focus
  iintro ⟨H, R⟩
  isplitl [H]; · iexact H
  iintro %t H
  isplitl [H]; · iexact H
  iexact R

theorem Focus.tail {M : Type} [URA M] {T : Type} {A R B : sProp M} {B' R' : T → sProp M} (h : Focus R B B' R') :
    Focus iprop(A ∗ R) B B' (fun t => iprop(A ∗ R' t)) := by
  unfold Focus at h ⊢
  refine (sep_mono .rfl h).trans ?_
  iintro ⟨HA, H, K⟩
  isplitl [H]; · iexact H
  iintro %t H
  isplitl [HA]; · iexact HA
  iapply K
  iexact H

/-- Taken out and put back as it was. -/
theorem Focus.back {M : Type} [URA M] {A B : sProp M} (h : Focus A B (fun _ : Unit => B) (fun _ => A)) : A ⊢ iprop(B ∗ (B -∗ A)) := by
  refine BIBase.Entails.trans h ?_
  iintro ⟨H, K⟩
  isplitl [H]; · iexact H
  iintro H
  iapply K $$ %()
  iexact H

variable {F : FTy → Type} [FloatOps F]

section Proofs

variable (q2 q3 : PosShare TreeShare) (x : Inp F) (d : Dev nD)
variable (arg2 : Memref sig .tc .smem S8x32 .i32) (arg3 : Memref sig .tc .smem S8x32 .i32) (arg4 : Memref sig .tc .smem S1x8x1536 .i32) (arg5 : Memref sig .tc .vmem S1x7720x128 .i32) (arg6 : Memref sig .tc .vmem S1x2048x1536 .fp8e4m3) (arg7 : Memref sig .tc .vmem S1x1x1536 .f32) (arg8 : Memref sig .tc .vmem S1x768x2048 .fp8e4m3) (arg9 : Memref sig .tc .vmem S1x1x2048 .f32) (arg10 : Memref sig .tc .vmem S1536x2048 .bf16) (arg11 : Memref sig .tc .smem S16512 .i32) (arg12 : Memref sig .tc .vmem S26136x128 .f32) (arg13 : Memref sig .tc .vmem S648x128 .i32) (arg14 : Memref sig .tc .vmem S128x2048 .fp8e4m3) (arg15 : Memref sig .tc .vmem S2064x128 .f32)

/-- Everything the body is called with, at the contents of the records. -/
def Held (s : St F) : sProp (MT nD τ sig Unit (Elt F) ℕ (UR sig nD τ) ℕ) :=
  iprop(owns (d.tc : Thread nD τ) arg2 q2 x.cnt ∗ owns (d.tc : Thread nD τ) arg3 q3 x.off ∗ owns (d.tc : Thread nD τ) arg4 fullShare x.pos ∗ owns (d.tc : Thread nD τ) arg5 fullShare x.xt ∗ owns (d.tc : Thread nD τ) arg6 fullShare x.wgu ∗ owns (d.tc : Thread nD τ) arg7 fullShare x.wgus ∗ owns (d.tc : Thread nD τ) arg8 fullShare x.wd ∗ owns (d.tc : Thread nD τ) arg9 fullShare x.wds ∗ owns (d.tc : Thread nD τ) arg10 fullShare s.out ∗ owns (d.tc : Thread nD τ) arg11 fullShare s.list ∗ owns (d.tc : Thread nD τ) arg12 fullShare s.acc ∗ owns (d.tc : Thread nD τ) arg13 fullShare s.xs ∗ owns (d.tc : Thread nD τ) arg14 fullShare s.lhs ∗ owns (d.tc : Thread nD τ) arg15 fullShare s.rs)

/-- Each of them can be taken out. -/
theorem held_cells : Cells (Held q2 q3 x d arg2 arg3 arg4 arg5 arg6 arg7 arg8 arg9 arg10 arg11 arg12 arg13 arg14 arg15) x d arg2 arg3 arg4 arg5 arg6 arg7 arg8 arg9 arg10 arg11 arg12 arg13 arg14 arg15 where
  cnt := ⟨q2, fun s => Focus.back (Focus.head)⟩
  off := ⟨q3, fun s => Focus.back (Focus.tail (Focus.head))⟩
  pos := ⟨fullShare, fun s => Focus.back (Focus.tail (Focus.tail (Focus.head)))⟩
  xt := ⟨fullShare, fun s => Focus.back (Focus.tail (Focus.tail (Focus.tail (Focus.head))))⟩
  wgu := ⟨fullShare, fun s => Focus.back (Focus.tail (Focus.tail (Focus.tail (Focus.tail (Focus.head)))))⟩
  wgus := ⟨fullShare, fun s => Focus.back (Focus.tail (Focus.tail (Focus.tail (Focus.tail (Focus.tail (Focus.head))))))⟩
  wd := ⟨fullShare, fun s => Focus.back (Focus.tail (Focus.tail (Focus.tail (Focus.tail (Focus.tail (Focus.tail (Focus.head)))))))⟩
  wds := ⟨fullShare, fun s => Focus.back (Focus.tail (Focus.tail (Focus.tail (Focus.tail (Focus.tail (Focus.tail (Focus.tail (Focus.head))))))))⟩
  out := ⟨fun s => Focus.tail (Focus.tail (Focus.tail (Focus.tail (Focus.tail (Focus.tail (Focus.tail (Focus.tail (Focus.head)))))))), fun _ => rfl⟩
  list := ⟨fun s => Focus.tail (Focus.tail (Focus.tail (Focus.tail (Focus.tail (Focus.tail (Focus.tail (Focus.tail (Focus.tail (Focus.head))))))))), fun _ => rfl⟩
  acc := ⟨fun s => Focus.tail (Focus.tail (Focus.tail (Focus.tail (Focus.tail (Focus.tail (Focus.tail (Focus.tail (Focus.tail (Focus.tail (Focus.head)))))))))), fun _ => rfl⟩
  xs := ⟨fun s => Focus.tail (Focus.tail (Focus.tail (Focus.tail (Focus.tail (Focus.tail (Focus.tail (Focus.tail (Focus.tail (Focus.tail (Focus.tail (Focus.head))))))))))), fun _ => rfl⟩
  lhs := ⟨fun s => Focus.tail (Focus.tail (Focus.tail (Focus.tail (Focus.tail (Focus.tail (Focus.tail (Focus.tail (Focus.tail (Focus.tail (Focus.tail (Focus.tail (Focus.head)))))))))))), fun _ => rfl⟩
  rs := ⟨fun s => Focus.tail (Focus.tail (Focus.tail (Focus.tail (Focus.tail (Focus.tail (Focus.tail (Focus.tail (Focus.tail (Focus.tail (Focus.tail (Focus.tail (Focus.tail (Focus.last))))))))))))), fun _ => rfl⟩

end Proofs

end Cert.KernelIdeal.Body

end
-- ==== Proof.Launch.lean ====
/-
  The run of the whole kernel: what is carried from one point of the grid to the next, the body's obligation at every point, and what
  every final state holds. `P c b e u v` is any predicate that the row `v` of token `u` of block `b` has after the first `e` experts.
-/
module

public import proofs.«01_k».proof.Proof.Points
public import proofs.«01_k».proof.Proof.Held
public import Idealize.ShloMosaic.Lib.Pipeline.Frame
public import Idealize.ShloMosaic.Lib.Pipeline.FrameBody
public import Idealize.ShloMosaic.Lib.Pipeline.DatRel
public import Idealize.ShloMosaic.Lib.Pipeline.ArrRel
public import Idealize.ShloMosaic.Lib.Pipeline.Value

@[expose] public section

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.BI Idealize.SL.Sem Idealize.ShloMosaic.Rounds
open scoped Idealize.SL.BI
open Idealize.SL.BI.BIBase Idealize.SL.BI.Laws Idealize.SL.ProofMode
open Idealize.ShloMosaic.Pipeline (Dat RDat)

variable {F : FTy → Type} [FloatOps F]

/-- The block of tokens of a point. -/
def bk (i : grid0.Coords) : Fin 8 := i 0

variable (m : (ℓ : Loc nD τ sig) → Buf (Elt F) ℓ)
variable (P : Dev nD → Fin 8 → Nat → Fin 1536 → Row F → Prop)

/-- What the scratch buffers hold before point `n`: unless the point begins a block of tokens, the block's list and its rows so far. -/
def Carried (c : Dev nD) (n : Nat) (s : St F) : Prop :=
  ∀ t : Fin grid0.N, t.val = n → ex (grid0.coords t) ≠ 0 →
    Ready (inp m c t) (grid0.coords t) (P c (bk (grid0.coords t)) (ex (grid0.coords t)).val) s

/-- The scratch buffers before point `n`. -/
def Scratch (c : Dev nD) (n : Nat) : sProp (MT nD τ sig Unit (Elt F) ℕ (UR sig nD τ) ℕ) :=
  iprop(∃ s : St F, ⌜Carried m P c n s⌝
    ∗ owns (c.tc : Thread nD τ) (Memref.whole cc0_scratch0) fullShare s.list
    ∗ owns (c.tc : Thread nD τ) (Memref.whole cc0_scratch1) fullShare s.acc
    ∗ owns (c.tc : Thread nD τ) (Memref.whole cc0_scratch2) fullShare s.xs
    ∗ owns (c.tc : Thread nD τ) (Memref.whole cc0_scratch3) fullShare s.lhs
    ∗ owns (c.tc : Thread nD τ) (Memref.whole cc0_scratch4) fullShare s.rs)

/-- What the pipeline keeps between points. -/
def Inv (c : Dev nD) (n : Nat) : sProp (MT nD τ sig Unit (Elt F) ℕ (UR sig nD τ) ℕ) :=
  iprop(owns (c.tc : Thread nD τ) (Memref.whole main_arg0) fullShare.right (m ((c.tc : Thread nD τ).loc main_arg0))
    ∗ owns (c.tc : Thread nD τ) (Memref.whole main_arg1) fullShare.right (m ((c.tc : Thread nD τ).loc main_arg1))
    ∗ Scratch m P c n ∗ ∃ r, prngReg c r)

/-- What the kernel's windows hold, the result's left open. -/
def dat (c : Dev nD) : Dat τ (Elt F) Unit ℕ (UR sig nD τ) ℕ (cfgM m) c where
  A := fun w => V m c (Pipeline.arrRef spec0 w)
  after := fun
    | 0 => fun t => iblk m c 0 t
    | 1 => fun t => iblk m c 1 t
    | 2 => fun t => iblk m c 2 t
    | 3 => fun t => iblk m c 3 t
    | 4 => fun t => iblk m c 4 t
    | 5 => fun t => iblk m c 5 t
    | 6 => fun _ _ => FloatOps.ofBits .bf16 0
    | ⟨_ + 7, h⟩ => absurd h (Nat.not_lt.2 (Nat.le_add_left _ _))
  Φ := fun n => Inv m P c n.val
  q := fun _ => fullShare
  owed := fun _ => 0

/-- The result's window is the one left open. -/
def open6 : Fin (cfgM m).W → Bool := fun
  | 0 => false | 1 => false | 2 => false | 3 => false | 4 => false | 5 => false | 6 => true
  | ⟨_ + 7, h⟩ => absurd h (Nat.not_lt.2 (Nat.le_add_left _ _))

/-- What is known of a block of the result after a point: at the block's last expert every row is a rounded row of the block. -/
def OutLeft (c : Dev nD) (t : Fin (cfgM m).N) (X : S1536x2048.Idx → Elt F .bf16) : Prop :=
  ex (grid0.coords t) = 31 → ∀ u : Fin 1536, ∃ v : Row F, P c (bk (grid0.coords t)) 32 u v
    ∧ ∀ (k : Fin 16) (l : Fin 128), X (ix2 (n0 := 1536) (n1 := 2048) u (outCol k l)) = FloatOps.truncf .bf16 bitsLt_bf16_f32 (v k l)

/-- What is known of a window left open after a point. -/
def Left (c : Dev nD) : (w : Fin (cfgM m).W) → (t : Fin (cfgM m).N) → (((cfgM m).win w).block.Idx → Elt F ((cfgM m).win w).elt) → Prop := fun
  | 0 => fun _ _ => True
  | 1 => fun _ _ => True
  | 2 => fun _ _ => True
  | 3 => fun _ _ => True
  | 4 => fun _ _ => True
  | 5 => fun _ _ => True
  | 6 => fun t X => OutLeft m P c t X
  | ⟨_ + 7, h⟩ => absurd h (Nat.not_lt.2 (Nat.le_add_left _ _))

/-- The kernel's relational data. -/
def rdat (c : Dev nD) : RDat τ (Elt F) Unit ℕ (UR sig nD τ) ℕ (cfgM m) c := (dat m P c).toRRel (open6 m) (Left m P c)

theorem val_castSucc {N : Nat} (t : Fin N) : (Fin.castSucc t).val = t.val := rfl
theorem val_succ {N : Nat} (t : Fin N) : (Fin.succ t).val = t.val + 1 := rfl

theorem inv_castSucc (c : Dev nD) (t : Fin (cfgM m).N) : (dat m P c).Φ t.castSucc = Inv m P c t.val := by
  dsimp only [dat]
  exact congrArg (Inv m P c) (val_castSucc t)

theorem inv_succ (c : Dev nD) (t : Fin (cfgM m).N) : (dat m P c).Φ t.succ = Inv m P c (t.val + 1) := by
  dsimp only [dat]
  exact congrArg (Inv m P c) (val_succ t)

theorem owes_succ (c : Dev nD) (t : Fin (cfgM m).N) : (dat m P c).owesAt () t.succ = (dat m P c).owesAt () t.castSucc := rfl

theorem before_in (c : Dev nD) (t : Fin (cfgM m).N) :
    (∀ d, (dat m P c).before 0 t d = iblk m c 0 t) ∧ (∀ d, (dat m P c).before 1 t d = iblk m c 1 t)
      ∧ (∀ d, (dat m P c).before 2 t d = iblk m c 2 t) ∧ (∀ d, (dat m P c).before 3 t d = iblk m c 3 t)
      ∧ (∀ d, (dat m P c).before 4 t d = iblk m c 4 t) ∧ (∀ d, (dat m P c).before 5 t d = iblk m c 5 t) :=
  ⟨fun d => ((dat m P c).before_in_eq_fetched 0 rfl (fun _ => rfl) (fun _ _ _ => rfl) (fun _ => rfl) t d).trans rfl,
   fun d => ((dat m P c).before_in_eq_fetched 1 rfl (fun _ => rfl) (fun _ _ _ => rfl) (fun _ => rfl) t d).trans rfl,
   fun d => ((dat m P c).before_in_eq_fetched 2 rfl (fun _ => rfl) (fun _ _ _ => rfl) (fun _ => rfl) t d).trans rfl,
   fun d => ((dat m P c).before_in_eq_fetched 3 rfl (fun _ => rfl) (fun _ _ _ => rfl) (fun _ => rfl) t d).trans rfl,
   fun d => ((dat m P c).before_in_eq_fetched 4 rfl (fun _ => rfl) (fun _ _ _ => rfl) (fun _ => rfl) t d).trans rfl,
   fun d => ((dat m P c).before_in_eq_fetched 5 rfl (fun _ => rfl) (fun _ _ _ => rfl) (fun _ => rfl) t d).trans rfl⟩

/-- After a point that does not end a block, the next point finds what it needs. -/
theorem Carried.next (c : Dev nD) (t : Fin grid0.N) (s : St F)
    (h : Ready (inp m c t) (grid0.coords t) (P c (bk (grid0.coords t)) ((ex (grid0.coords t)).val + 1)) s) :
    Carried m P c (t.val + 1) s := by
  intro t' ht' he
  have h0 := blk_val t
  have h0' := blk_val t'
  have h1 := ex_val t
  have h1' := ex_val t'
  have hne : (ex (grid0.coords t')).val ≠ 0 := fun e => he (Fin.ext e)
  have hb : (grid0.coords t' 0).val = (grid0.coords t 0).val := by omega
  have hbk : bk (grid0.coords t') = bk (grid0.coords t) := Fin.ext hb
  have hex : (ex (grid0.coords t')).val = (ex (grid0.coords t)).val + 1 := by omega
  have hcnt : (inp m c t').cntOf (grid0.coords t') = (inp m c t).cntOf (grid0.coords t) := by
    funext e; exact congrArg (fun b : Fin 8 => m ((c.tc : Thread nD τ).loc main_arg0) (ix2 (n0 := 8) (n1 := 32) b e)) hbk
  have hoff : (inp m c t').offOf (grid0.coords t') = (inp m c t).offOf (grid0.coords t) := by
    funext e; exact congrArg (fun b : Fin 8 => m ((c.tc : Thread nD τ).loc main_arg1) (ix2 (n0 := 8) (n1 := 32) b e)) hbk
  have hpos : (inp m c t').posOf = (inp m c t).posOf := by
    funext k u
    exact (inp_pos m c t' (bk (grid0.coords t')) h0' k u).trans
      ((congrArg (fun b : Fin 8 => m ((c.tc : Thread nD τ).loc main_arg2) (ix3 (n0 := 8) (n1 := 8) (n2 := 1536) b k u)) hbk).trans
        (inp_pos m c t (bk (grid0.coords t)) h0 k u).symm)
  refine ⟨?_, ?_⟩
  · rw [hcnt, hoff, hpos]; exact h.listed
  · rw [hbk, hex]; exact h.rows

variable (hV : ∀ c t, (inp m c t).Valid (grid0.coords t))
variable (h0 : ∀ c b u, P c b 0 u zeroRow)
variable (hP : ∀ c t, Part (inp m c t) (grid0.coords t) (P c (bk (grid0.coords t)) (ex (grid0.coords t)).val)
  (P c (bk (grid0.coords t)) ((ex (grid0.coords t)).val + 1)))

/-- What the body is called with at point `t`, the windows one by one. -/
def bodyPre (c : Dev nD) (t : Fin (cfgM m).N) : sProp (MT nD τ sig Unit (Elt F) ℕ (UR sig nD τ) ℕ) :=
  iprop((dat m P c).Φ t.castSucc ∗ (dat m P c).owesAt () t.castSucc
    ∗ (∃ d, owns (c : Thread nD τ) (((cfgM m).win 0).stage ((cfgM m).slots t 0)) fullShare ((dat m P c).before 0 t d))
    ∗ (∃ d, owns (c : Thread nD τ) (((cfgM m).win 1).stage ((cfgM m).slots t 1)) fullShare ((dat m P c).before 1 t d))
    ∗ (∃ d, owns (c : Thread nD τ) (((cfgM m).win 2).stage ((cfgM m).slots t 2)) fullShare ((dat m P c).before 2 t d))
    ∗ (∃ d, owns (c : Thread nD τ) (((cfgM m).win 3).stage ((cfgM m).slots t 3)) fullShare ((dat m P c).before 3 t d))
    ∗ (∃ d, owns (c : Thread nD τ) (((cfgM m).win 4).stage ((cfgM m).slots t 4)) fullShare ((dat m P c).before 4 t d))
    ∗ (∃ d, owns (c : Thread nD τ) (((cfgM m).win 5).stage ((cfgM m).slots t 5)) fullShare ((dat m P c).before 5 t d))
    ∗ (∃ Y, ⌜(rdat m P c).Finds 6 t Y⌝ ∗ owns (c : Thread nD τ) (((cfgM m).win 6).stage ((cfgM m).slots t 6)) fullShare Y))

/-- What the body returns. -/
def bodyPost (c : Dev nD) (t : Fin (cfgM m).N) : sProp (MT nD τ sig Unit (Elt F) ℕ (UR sig nD τ) ℕ) :=
  iprop((dat m P c).Φ t.succ ∗ (dat m P c).owesAt () t.succ
    ∗ owns (c : Thread nD τ) (((cfgM m).win 0).stage ((cfgM m).slots t 0)) fullShare (iblk m c 0 t)
    ∗ owns (c : Thread nD τ) (((cfgM m).win 1).stage ((cfgM m).slots t 1)) fullShare (iblk m c 1 t)
    ∗ owns (c : Thread nD τ) (((cfgM m).win 2).stage ((cfgM m).slots t 2)) fullShare (iblk m c 2 t)
    ∗ owns (c : Thread nD τ) (((cfgM m).win 3).stage ((cfgM m).slots t 3)) fullShare (iblk m c 3 t)
    ∗ owns (c : Thread nD τ) (((cfgM m).win 4).stage ((cfgM m).slots t 4)) fullShare (iblk m c 4 t)
    ∗ owns (c : Thread nD τ) (((cfgM m).win 5).stage ((cfgM m).slots t 5)) fullShare (iblk m c 5 t)
    ∗ (∃ X, ⌜OutLeft m P c t X⌝ ∗ owns (c : Thread nD τ) (((cfgM m).win 6).stage ((cfgM m).slots t 6)) fullShare X))

/-- The body as point `t` calls it. -/
abbrev bodyAt (t : Fin (cfgM m).N) : Prog (TpuEff nD τ sig (Elt F) Λ₀ .tc) PUnit :=
  cc0_moe_experts (grid0.coords t) (Memref.whole main_arg0) (Memref.isWhole_whole _) (Memref.whole main_arg1) (Memref.isWhole_whole _) (spec0_0.stage ((cfgM m).slots t 0)) (hstage0_0 (((cfgM m).slots t 0).cast nbuf0_0)) (spec0_1.stage ((cfgM m).slots t 1)) (hstage0_1 (((cfgM m).slots t 1).cast nbuf0_1)) (spec0_2.stage ((cfgM m).slots t 2)) (hstage0_2 (((cfgM m).slots t 2).cast nbuf0_2)) (spec0_3.stage ((cfgM m).slots t 3)) (hstage0_3 (((cfgM m).slots t 3).cast nbuf0_3)) (spec0_4.stage ((cfgM m).slots t 4)) (hstage0_4 (((cfgM m).slots t 4).cast nbuf0_4)) (spec0_5.stage ((cfgM m).slots t 5)) (hstage0_5 (((cfgM m).slots t 5).cast nbuf0_5)) (spec0_6.stage ((cfgM m).slots t 6)) (hstage0_6 (((cfgM m).slots t 6).cast nbuf0_6)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

/-- Everything the body is called with at point `t`. -/
def HeldAt (c : Dev nD) (t : Fin (cfgM m).N) (s : St F) : sProp (MT nD τ sig Unit (Elt F) ℕ (UR sig nD τ) ℕ) :=
  Held fullShare.right fullShare.right (inp m c t) c (Memref.whole main_arg0) (Memref.whole main_arg1) (spec0_0.stage ((cfgM m).slots t 0)) (spec0_1.stage ((cfgM m).slots t 1)) (spec0_2.stage ((cfgM m).slots t 2)) (spec0_3.stage ((cfgM m).slots t 3)) (spec0_4.stage ((cfgM m).slots t 4)) (spec0_5.stage ((cfgM m).slots t 5)) (spec0_6.stage ((cfgM m).slots t 6)) (Memref.whole cc0_scratch0) (Memref.whole cc0_scratch1) (Memref.whole cc0_scratch2) (Memref.whole cc0_scratch3) (Memref.whole cc0_scratch4) s

include hV h0 hP in
theorem sound_at (c : Dev nD) (t : Fin (cfgM m).N) (s : St F) (hs : Carried m P c t.val s) :
    HeldAt m c t s ⊢ wp frame (wpE (defs₀ (F := F)) Variants.none (c.tc : Thread nD τ) none) Set.univ (bodyAt m t)
      (fun _ => iprop(∃ s', ⌜Carried m P c (t.val + 1) s' ∧ OutLeft m P c t s'.out⌝ ∗ HeldAt m c t s')) := by
  have h : Run (HeldAt m c t) c s (bodyAt m t) fun _ s' => Ready (inp m c t) (grid0.coords t) (P c (bk (grid0.coords t)) ((ex (grid0.coords t)).val + 1)) s'
      ∧ (ex (grid0.coords t) = 31 → OutOf s'.acc s'.out) := point_run (I := HeldAt m c t) (d := c) (x := inp m c t)
    (held_cells fullShare.right fullShare.right (inp m c t) c (Memref.whole main_arg0) (Memref.whole main_arg1) (spec0_0.stage ((cfgM m).slots t 0)) (spec0_1.stage ((cfgM m).slots t 1)) (spec0_2.stage ((cfgM m).slots t 2)) (spec0_3.stage ((cfgM m).slots t 3)) (spec0_4.stage ((cfgM m).slots t 4)) (spec0_5.stage ((cfgM m).slots t 5)) (spec0_6.stage ((cfgM m).slots t 6)) (Memref.whole cc0_scratch0) (Memref.whole cc0_scratch1) (Memref.whole cc0_scratch2) (Memref.whole cc0_scratch3) (Memref.whole cc0_scratch4))
    (grid0.coords t) (hV c t) (hP c t) s (fun he u => by rw [he]; exact h0 c _ u) (fun he => hs t rfl he)
  refine h.entails.trans (wp_mono _ _ _ fun a => ?_)
  iintro ⟨%s', %hq, H⟩
  iexists s'
  isplitr
  · ipureintro
    refine ⟨Carried.next m P c t s' hq.1, fun he u => ⟨accRow s'.acc u, ?_, fun k l => hq.2 he u k l⟩⟩
    have := hq.1.rows u
    rwa [he] at this
  · iexact H

include hV h0 hP in
theorem sound_body (c : Dev nD) (t : Fin (cfgM m).N) :
    bodyPre m P c t ⊢ wp frame (wpE (defs₀ (F := F)) Variants.none (c.tc : Thread nD τ) none) Set.univ (bodyAt m t) (fun _ => bodyPost m P c t) := by
  have hpre : bodyPre m P c t ⊢ iprop(∃ s : St F, ⌜Carried m P c t.val s⌝ ∗ HeldAt m c t s ∗ ((dat m P c).owesAt () t.castSucc ∗ ∃ r, prngReg c r)) := by
    obtain ⟨b0, b1, b2, b3, b4, b5⟩ := before_in m P c t
    unfold bodyPre
    simp only [b0, b1, b2, b3, b4, b5]
    rw [inv_castSucc]
    unfold Inv Scratch
    iintro ⟨⟨H2, H3, ⟨%s, %hs, Hl, Ha, Hx, Hh, Hr⟩, Hg⟩, Ho, ⟨%d0, W0⟩, ⟨%d1, W1⟩, ⟨%d2, W2⟩, ⟨%d3, W3⟩, ⟨%d4, W4⟩, ⟨%d5, W5⟩, ⟨%Y, %hY, W6⟩⟩
    iexists ({ s with out := Y } : St F)
    isplitr
    · ipureintro; exact fun t' ht' he => ⟨(hs t' ht' he).listed, (hs t' ht' he).rows⟩
    isplitr [Ho Hg]
    · unfold HeldAt Held
      isplitl [H2]; · iexact H2
      isplitl [H3]; · iexact H3
      isplitl [W0]; · iexact W0
      isplitl [W1]; · iexact W1
      isplitl [W2]; · iexact W2
      isplitl [W3]; · iexact W3
      isplitl [W4]; · iexact W4
      isplitl [W5]; · iexact W5
      isplitl [W6]; · iexact W6
      isplitl [Hl]; · iexact Hl
      isplitl [Ha]; · iexact Ha
      isplitl [Hx]; · iexact Hx
      isplitl [Hh]; · iexact Hh
      iexact Hr
    · isplitl [Ho]; · iexact Ho
      iexact Hg
  have hpost : ∀ s' : St F, Carried m P c (t.val + 1) s' → OutLeft m P c t s'.out →
      iprop(HeldAt m c t s' ∗ ((dat m P c).owesAt () t.castSucc ∗ ∃ r, prngReg c r)) ⊢ bodyPost m P c t := by
    intro s' hs' ho
    unfold bodyPost
    rw [inv_succ, owes_succ]
    unfold Inv Scratch HeldAt Held
    iintro ⟨⟨H2, H3, W0, W1, W2, W3, W4, W5, W6, Hl, Ha, Hx, Hh, Hr⟩, Ho, Hg⟩
    isplitr [Ho W0 W1 W2 W3 W4 W5 W6]
    · isplitl [H2]; · iexact H2
      isplitl [H3]; · iexact H3
      isplitr [Hg]
      · iexists s'
        isplitr
        · ipureintro; exact hs'
        isplitl [Hl]; · iexact Hl
        isplitl [Ha]; · iexact Ha
        isplitl [Hx]; · iexact Hx
        isplitl [Hh]; · iexact Hh
        iexact Hr
      · iexact Hg
    isplitl [Ho]; · iexact Ho
    isplitl [W0]; · iexact W0
    isplitl [W1]; · iexact W1
    isplitl [W2]; · iexact W2
    isplitl [W3]; · iexact W3
    isplitl [W4]; · iexact W4
    isplitl [W5]; · iexact W5
    iexists s'.out
    isplitr
    · ipureintro; exact ho
    iexact W6
  have key : ∀ s : St F, Carried m P c t.val s →
      iprop(HeldAt m c t s ∗ ((dat m P c).owesAt () t.castSucc ∗ ∃ r, prngReg c r))
        ⊢ wp frame (wpE (defs₀ (F := F)) Variants.none (c.tc : Thread nD τ) none) Set.univ (bodyAt m t) (fun _ => bodyPost m P c t) := by
    intro s hs
    refine (sep_mono (sound_at m P hV h0 hP c t s hs) .rfl).trans ((wp_frame_r _ _ _).trans (wp_mono _ _ _ fun a => ?_))
    iintro ⟨⟨%s', %hq, H⟩, R⟩
    iapply (hpost s' hq.1 hq.2)
    isplitl [H]; · iexact H
    iexact R
  refine hpre.trans ?_
  iintro ⟨%s, %hs, H⟩
  iapply (key s hs) $$ H

include hV h0 hP in
/-- The body's obligation at every point. -/
theorem body_obligation (c : Dev nD) : (rdat m P c).BodyObligation (defs₀ (F := F)) Variants.none () Set.univ :=
  Pipeline.BodyObligationRel.toRRel (dat m P c) fun t => by
    rw [bigSep_W0, bigSep_W0]
    exact triple_restated (sound_body m P hV h0 hP c t) (by unfold bodyAt defs₀; rw [Defs.onTc_tc]) .rfl fun _ => .rfl

theorem phi_first (c : Dev nD) : (dat m P c).Φ 0 = Inv m P c 0 := rfl

/-- The tables' halves, table by table. -/
theorem tables_eq : (Pipeline.ΦT (U := UR sig nD τ) pre0 (tbl m) (0 : Dev nD) : sProp (MT nD τ sig Unit (Elt F) ℕ (UR sig nD τ) ℕ))
    = iprop((((0 : Dev nD).tc : Thread nD τ).loc main_arg0 ↦{fullShare.right} m (((0 : Dev nD).tc : Thread nD τ).loc main_arg0))
      ∗ (((0 : Dev nD).tc : Thread nD τ).loc main_arg1 ↦{fullShare.right} m (((0 : Dev nD).tc : Thread nD τ).loc main_arg1))) := by
  unfold Pipeline.ΦT Pipeline.prefHeld
  rw [show (Finset.univ : Finset (Fin pre0.K)) = insert (0 : Fin 2) {(1 : Fin 2)} from by decide, bigSep_insert (by decide), bigSep_singleton]
  rfl

/-- Before the first point the scratch buffers may hold anything. -/
theorem inv_start (c : Dev nD) : iprop(Pipeline.ΦA (U := UR sig nD τ) (Val := Elt F) spec0 c ∗ Pipeline.ΦT (U := UR sig nD τ) pre0 (tbl m) c) ⊢ Inv m P c 0 := by
  obtain rfl : c = 0 := Subsingleton.elim _ _
  rw [tables_eq]
  unfold Pipeline.ΦA
  rw [scopedRest0_eq]
  unfold Inv Scratch
  simp only [owns_whole]
  iintro ⟨⟨⟨⟨%f1, H1⟩, ⟨%f2, H2⟩, ⟨%f3, H3⟩, ⟨%f4, H4⟩, ⟨%f0, H0⟩⟩, Hg⟩, Ha, Hb⟩
  isplitl [Ha]; · iexact Ha
  isplitl [Hb]; · iexact Hb
  isplitr [Hg]
  · iexists (⟨f0, f1, f2, f3, f4, fun _ => FloatOps.ofBits .bf16 0⟩ : St F)
    isplitr
    · ipureintro
      intro t ht he
      refine absurd (Fin.ext ?_) he
      rw [ex_val, ht]; rfl
    isplitl [H0]; · iexact H0
    isplitl [H1]; · iexact H1
    isplitl [H2]; · iexact H2
    isplitl [H3]; · iexact H3
    iexact H4
  · iexact Hg

/-- After the last point the scratch buffers are given back, whatever they hold. -/
theorem inv_end (c : Dev nD) (n : Nat) : Inv m P c n ⊢ Pipeline.ΦA (U := UR sig nD τ) (Val := Elt F) spec0 c := by
  unfold Pipeline.ΦA
  rw [scopedRest0_eq]
  unfold Inv Scratch
  simp only [owns_whole]
  iintro ⟨Ha, Hb, ⟨%s, %hs, H0, H1, H2, H3, H4⟩, Hg⟩
  isplitr [Hg]
  · isplitl [H1]; · iexists s.acc; iexact H1
    isplitl [H2]; · iexists s.xs; iexact H2
    isplitl [H3]; · iexists s.lhs; iexact H3
    isplitl [H4]; · iexists s.rs; iexact H4
    iexists s.list; iexact H0
  · iexact Hg

variable (ρ : Dev nD → PrngReg)

include hV h0 hP in
-- the launch theorem's implicit arguments are found by unifying its conclusion with this one, which takes unfolding plain
-- definitions in a metavariable's type
set_option backward.isDefEq.respectTransparency.types false in
set_option maxHeartbeats 800000 in
/-- Every run ends, with the arrays as the relational data say and every counter at zero. -/
theorem run_main : θ_run defs (onTc (τ := τ) (main (F := F))) ⟨m, fun _ => 0, ρ⟩
    (fun r => RDat.FramePost (cfgM m) (rdat m P) (V m) r ∧ r.2.sem = fun _ => 0) :=
  Pipeline.RDat.θ_run_frameP_track (Q' := _) (pcfgs (F := F)) (fun _ => adm m) (0 : Fin 1) launch0 defs₀ Variants.none (rdat m P) m ρ main
    (hbody := fun c => body_obligation m P hV h0 hP c) (hshare := fun c => (dat m P c).share_full fun _ => rfl)
    (howed := fun _ _ => rfl) (V := V m)
    (hmain := Pipeline.hmainP_region (pcfgs (F := F)) 0 defs₀ Variants.none m main fun _ => rfl)
    (hA := fun _ _ => rfl) (hpf := fun c k => by obtain rfl : c = 0 := Subsingleton.elim _ _; rfl)
    (hin := fun c => inv_start m P c) (hout := fun c => inv_end m P c _) (hQ' := fun _ h => h)

end Cert.KernelIdeal.Body

end
-- ==== Proof.Final.lean ====
/-
  What every final state of the kernel's run holds: the arguments as they were, and in the result, under every index, an element of
  a rounded row of its token.
-/
module

public import proofs.«01_k».proof.Proof.Launch

@[expose] public section

noncomputable section

namespace Cert.KernelIdeal.Body

open Cert.KernelIdeal Cert.KernelIdeal.Gen Cert.Proof Cert.Proof.Hoare
open Idealize.ShloMosaic Idealize.ShloMosaic.ValueIdx Idealize.ShloMosaic.TcCoe
open Idealize.SL Idealize.SL.RA Idealize.SL.BI Idealize.SL.Sem Idealize.ShloMosaic.Rounds
open Idealize.ShloMosaic.Pipeline (Dat RDat)

variable {F : FTy → Type} [FloatOps F]
variable (m : (ℓ : Loc nD τ sig) → Buf (Elt F) ℓ)
variable (P : Dev nD → Fin 8 → Nat → Fin 1536 → Row F → Prop)

/-- The result's block is written back at its last expert. -/
theorem flush6 (t : Fin (cfgM m).N) : ((cfgM m).win 6).flush t = decide (t.val % 32 = 31) :=
  (by decide +kernel : ∀ t : Fin grid0.N, Pipeline.Window.flushOf grid0 true cc0_transform_6 t = decide (t.val % 32 = 31)) t

/-- An element of a rounded row of its token. -/
def ElemOk (c : Dev nD) (i : S12288x2048.Idx) (y : Elt F .bf16) : Prop :=
  ∀ (b : Fin 8) (u : Fin 1536) (k : Fin 16) (l : Fin 128), (i 0).val = 1536 * b.val + u.val → (i 1).val = 128 * k.val + l.val →
    ∃ v : Row F, P c b 32 u v ∧ y = FloatOps.truncf .bf16 bitsLt_bf16_f32 (v k l)

theorem emb6 (t : Fin (cfgM m).N) (y : S1536x2048.Idx) (a : Fin 2) :
    ((((cfgM m).win 6).blk t).view.emb y a).val = if a = 0 then 1536 * (t.val / 32) + (y 0).val else (y 1).val := by
  have hB := blk_val t
  have ht : t.val < 256 := Nat.lt_of_lt_of_eq t.isLt N_0
  fin_cases a
  · show (BitVec.ofNat 32 (grid0.coords t 0).val).toNat * 1536 + 1 * (y 0).val = 1536 * (t.val / 32) + (y 0).val
    rw [hB, BitVec.toNat_ofNat]; omega
  · show 0 * 2048 + 1 * (y 1).val = (y 1).val
    omega

theorem result_ok (c : Dev nD) (G : S12288x2048.Idx → Elt F .bf16)
    (h : (rdat m P c).ArrAt 6 (cfgM m).N G) (i : S12288x2048.Idx) : ElemOk P c i (G i) := by
  obtain ⟨X, hX, hA⟩ := h.exists_exact
  have e := hA (Function.update (fun _ _ _ => Classical.arbitrary _) 6 X) fun u _ _ => by rw [Function.update_self]
  rw [e]
  refine Dat.arrAt_forall_of_cover ((rdat m P c).withAfter (Function.update (fun _ _ _ => Classical.arbitrary _) 6 X)) 6 (fun i y => ElemOk P c i y) ?_ ?_ i
  · refine fun t hf (y : S1536x2048.Idx) b u k l h0 h1 => ?_
    have hL : OutLeft m P c t (X t) := Dat.toRRel_leaves _ rfl (hX t t.isLt hf)
    have h31 : t.val % 32 = 31 := by rw [flush6] at hf; exact of_decide_eq_true hf
    have hex : ex (grid0.coords t) = 31 := Fin.ext ((ex_val t).trans h31)
    have e0 := (emb6 m t y 0).symm.trans h0
    have e1 := (emb6 m t y 1).symm.trans h1
    rw [if_pos rfl] at e0
    rw [if_neg (by decide)] at e1
    have y0 : (y 0).val < 1536 := (y 0).isLt
    have hb := blk_val t
    have hu : u.val = (y 0).val := by omega
    have hbk : bk (grid0.coords t) = b := Fin.ext (by show (grid0.coords t 0).val = b.val; omega)
    obtain ⟨v, hv, hy⟩ := hL hex u
    refine ⟨v, by rw [← hbk]; exact hv, ?_⟩
    refine Eq.trans ?_ (hy k l)
    show (Function.update (fun _ _ _ => Classical.arbitrary _) (6 : Fin (cfgM m).W) X) (6 : Fin (cfgM m).W) t y = _
    rw [Function.update_self]
    congr 1
    funext a
    apply Fin.ext
    fin_cases a
    · exact hu.symm
    · show (y 1).val = 128 * k.val + l.val
      omega
  · refine fun (j : S12288x2048.Idx) => ?_
    have j0 : (j 0).val < 12288 := (j 0).isLt
    have j1 : (j 1).val < 2048 := (j 1).isLt
    refine ⟨⟨32 * ((j 0).val / 1536) + 31, ?_⟩, ?_, ?_⟩
    · exact Nat.lt_of_lt_of_eq (by omega) N_0.symm
    · rw [flush6]; exact decide_eq_true (by show (32 * ((j 0).val / 1536) + 31) % 32 = 31; omega)
    · refine Finset.mem_map.mpr ⟨ix2 (n0 := 1536) (n1 := 2048) ⟨(j 0).val % 1536, by omega⟩ ⟨(j 1).val, j1⟩, Finset.mem_univ _, ?_⟩
      funext a
      apply Fin.ext
      refine (emb6 m _ _ a).trans ?_
      fin_cases a
      · show 1536 * ((32 * ((j 0).val / 1536) + 31) / 32) + (j 0).val % 1536 = (j 0).val
        omega
      · rfl

/-- Every run ends with the arguments as they were, an element of a rounded row under every index of the result, and every counter
    at zero. -/
theorem run_rows (ρ : Dev nD → PrngReg) (hV : ∀ c t, (inp m c t).Valid (grid0.coords t)) (h0 : ∀ c b u, P c b 0 u zeroRow)
    (hP : ∀ c t, Part (inp m c t) (grid0.coords t) (P c (bk (grid0.coords t)) (ex (grid0.coords t)).val)
      (P c (bk (grid0.coords t)) ((ex (grid0.coords t)).val + 1))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = (fun _ => 0)
      ∧ ∀ (c : Dev nD) (i : S12288x2048.Idx), ElemOk P c i (r.2.mem ((c.tc : Thread nD τ).loc main_v0) i)) :=
  (θ_run defs _ _).mono (fun r (h : _ ∧ _) => ⟨fun c => ⟨(h.1 c).2 main_arg0 (by decide : main_arg0 ∈ Pipeline.restRefs sig spec0), (h.1 c).2 main_arg1 (by decide : main_arg1 ∈ Pipeline.restRefs sig spec0),
      h.1.arr_in c 0 rfl, h.1.arr_in c 1 rfl, h.1.arr_in c 2 rfl, h.1.arr_in c 3 rfl, h.1.arr_in c 4 rfl, h.1.arr_in c 5 rfl⟩,
      h.2, fun c i => result_ok m P c _ ((h.1 c).1 6) i⟩) (run_main m P hV h0 hP ρ)

end Cert.KernelIdeal.Body

end
-- ==== Proof.Frames.lean ====
/-
  The kernel as printed and the kernel as printed for reading at exact reals are one program: no rule rewrote an operation, so what
  is proved of the second at either reading holds of the first. The frames of both, from the run of the whole kernel.
-/
module

public import proofs.«01_k».proof.Defs
public import proofs.«01_k».proof.Proof.Gen.Kernel
public import proofs.«01_k».proof.Proof.Gen.KernelIdeal
public import proofs.«01_k».proof.Proof.PreValid
public import proofs.«01_k».proof.Proof.Gen.Pre_valid_plan
public import proofs.«01_k».proof.Proof.Final

@[expose] public section

noncomputable section

namespace Cert.Proof

open Idealize.ShloMosaic Idealize.ShloMosaic.ValueIdx Idealize.SL.Sem Idealize.ShloMosaic.TcCoe
open Cert.KernelIdeal Cert.KernelIdeal.Body

attribute [local instance] Cert.Kernel.Gen.facts Cert.KernelIdeal.Gen.facts Cert.Pre_valid_plan.Gen.facts

/-- The two programs run alike. -/
theorem run_same {F : FTy → Type} [FloatOps F] (s : MemSt nD τ sig (Elt F))
    (post : PUnit × MemSt nD τ sig (Elt F) → Prop) :
    θ_run (Cert.Kernel.defs (F := F)) (onTc (τ := Cert.Kernel.τ) (Cert.Kernel.main (F := F))) s post
      = θ_run (Cert.KernelIdeal.defs (F := F)) (onTc (τ := Cert.KernelIdeal.τ) (Cert.KernelIdeal.main (F := F))) s post := by
  sl_kernel_rfl

/-- The precondition says of every point's inputs what the proof takes of them. -/
theorem inp_valid {F : FTy → Type} [FloatOps F] (m : (ℓ : Loc nD τ sig) → Buf (Elt F) ℓ)
    (h0 : ∀ c : Dev nD, ∀ b : Fin 8, Plan.Valid (fun e => m ((c.tc : Thread nD τ).loc main_arg0) (ix2 b e))
      (fun e => m ((c.tc : Thread nD τ).loc main_arg1) (ix2 b e)) (fun k u => m ((c.tc : Thread nD τ).loc main_arg2) (ix3 b k u)))
    (c : Dev nD) (t : Fin (cfgM m).N) : (inp m c t).Valid (grid0.coords t) := by
  have h := h0 c (bk (grid0.coords t))
  have e : (inp m c t).posOf = fun k u => m ((c.tc : Thread nD τ).loc main_arg2) (ix3 (bk (grid0.coords t)) k u) :=
    funext fun k => funext fun u => inp_pos m c t (bk (grid0.coords t)) (blk_val t) k u
  show Plan.Valid _ _ _
  rw [e]
  exact h

/-- Nothing asked of the rows. -/
theorem part_true {F : FTy → Type} [FloatOps F] (x : Inp F) (i : grid0.Coords) : Part x i (fun _ _ => True) (fun _ _ => True) :=
  ⟨fun _ _ _ _ => trivial, fun _ _ _ _ _ _ _ _ => trivial⟩

/-- The kernel's frame, at either reading of the floats. -/
theorem frame_of_valid {F : FTy → Type} [FloatOps F] (m : (ℓ : Loc nD τ sig) → Buf (Elt F) ℓ) (ρ : Dev nD → PrngReg)
    (h0 : ∀ c : Dev nD, ∀ b : Fin 8, Plan.Valid (fun e => m ((c.tc : Thread nD τ).loc main_arg0) (ix2 b e))
      (fun e => m ((c.tc : Thread nD τ).loc main_arg1) (ix2 b e)) (fun k u => m ((c.tc : Thread nD τ).loc main_arg2) (ix3 b k u))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨h.1, h.2.1⟩)
    (run_rows m (fun _ _ _ _ _ => True) ρ (inp_valid m h0) (fun _ _ _ => trivial) (fun _ _ => part_true _ _))

/-- The kernel as printed runs to its end and leaves its arguments as they were, if the slot tables are a plan. -/
theorem quiescent_kernel : Cert.quiescent_Kernel := fun m ρ h =>
  (run_same (F := Bits) _ _).mpr (frame_of_valid (F := Bits) m ρ fun c b =>
    PreValid.valid (F := Bits) _ _ _ (h c).1 (h c).2.1 (h c).2.2.1 (h c).2.2.2.1 (h c).2.2.2.2.1 (h c).2.2.2.2.2 b)

/-- The same at exact reals. -/
theorem quiescent_kernelIdeal : Cert.quiescent_KernelIdeal := fun m ρ h =>
  frame_of_valid (F := Ideal) m ρ fun c b =>
    PreValid.valid (F := Ideal) _ _ _ (h c).1 (h c).2.1 (h c).2.2.1 (h c).2.2.2.1 (h c).2.2.2.2.1 (h c).2.2.2.2.2 b

end Cert.Proof
-- ==== Proof.Scale.lean ====
/-
  The activations' scale, a power of two, two ways, over the extended reals: from the exponent field that is counted and shifted
  into place, and from the greatest power of two that the quotient reaches. Both give one number, and its inverse.
-/
module

public import Idealize.ShloMosaic.PureOps.Ideal
public import Mathlib.Algebra.BigOperators.Fin
public import Mathlib.Data.Nat.Find
public import Mathlib.Data.BitVec

@[expose] public section

noncomputable section

namespace Cert.Proof.Scale

open Idealize.ShloMosaic

/-- The number whose word has exponent field `j` and nothing else. -/
def pow2 (j : ℕ) : EReal := Ideal.ofBits .f32 (BitVec.ofNat 32 j <<< 23)

theorem pow2_fields : ∀ j : Fin 256, (BitVec.extractLsb' 31 1 (BitVec.ofNat 32 j.val <<< 23) == 1#1) = false
    ∧ (BitVec.extractLsb' 23 8 (BitVec.ofNat 32 j.val <<< 23)).toNat = j.val
    ∧ (BitVec.extractLsb' 0 23 (BitVec.ofNat 32 j.val <<< 23)).toNat = 0 := by
  decide +kernel

theorem ofBits_f32 (w : BitVec 32) : Ideal.ofBits .f32 w = Ideal.ieee 8 23 w := rfl

theorem pow2_eq (j : ℕ) (h1 : 1 ≤ j) (h2 : j ≤ 254) : pow2 j = (((2 : ℝ) ^ ((j : ℤ) - 127) : ℝ) : EReal) := by
  obtain ⟨a, b, c⟩ := pow2_fields ⟨j, by omega⟩
  simp only at a b c
  unfold pow2
  rw [ofBits_f32]
  unfold Ideal.ieee
  simp only [Nat.reduceAdd, a, b, c]
  rw [if_neg (by omega), if_neg (by omega)]
  refine congrArg Real.toEReal ?_
  have e : ((j : ℤ) - 127) = 23 + ((j : ℤ) - (2 ^ (8 - 1) - 1) - (23 : ℕ)) := by norm_num
  rw [e, zpow_add₀ (by norm_num)]
  norm_num

theorem pow2_inf : pow2 255 = ⊤ := by
  obtain ⟨a, b, c⟩ := pow2_fields 255
  have h : ((255 : Fin 256).val) = 255 := rfl
  rw [h] at a b c
  unfold pow2
  rw [ofBits_f32]
  unfold Ideal.ieee
  simp only [Nat.reduceAdd, a, b, c]
  simp

theorem pow2_one : pow2 127 = 1 := by
  rw [pow2_eq 127 (by omega) (by omega)]; norm_num

theorem pow2_pos (j : ℕ) (h1 : 1 ≤ j) (h2 : j ≤ 254) : 0 < pow2 j := by
  rw [pow2_eq j h1 h2]
  exact_mod_cast zpow_pos (by norm_num : (0 : ℝ) < 2) _

theorem pow2_mono {i j : ℕ} (h1 : 1 ≤ i) (h : i ≤ j) (h2 : j ≤ 254) : pow2 i ≤ pow2 j := by
  rw [pow2_eq i h1 (by omega), pow2_eq j (by omega) h2, EReal.coe_le_coe_iff]
  exact zpow_le_zpow_right₀ (by norm_num) (by omega)

/-- The least quotient that counts at lane `l`. -/
def start (l : Fin 256) : EReal := pow2 (if 252 < l.val then 255 else l.val)

/-- How many of the lanes after the first a quotient reaches. -/
def field (q : EReal) : BitVec 32 := ∑ l : Fin 256, if 0 < l.val ∧ start l ≤ q then 1#32 else 0#32

/-- The exponent of the scale, from the field. -/
def expo (f : BitVec 32) : BitVec 32 := if f = 0#32 ∨ f = 255#32 then 0#32 else f - 126#32

/-- The greatest of the powers of two that a quotient reaches, 0 if it reaches none. -/
def below (q : EReal) : EReal :=
  (Finset.univ : Finset (Fin 252)).fold max ⊥ fun i => if pow2 (i.val + 1) ≤ q then pow2 (i.val + 1) else 0

/-- The scale: twice the greatest power of two below the quotient, 1 where there is none. -/
def scale (q : EReal) : EReal := if below q = 0 ∨ q = ⊤ then 1 else 2 * below q

/-- How many of the powers a quotient reaches. -/
def reach (q : EReal) : ℕ := Nat.findGreatest (fun j => pow2 j ≤ q) 252

theorem reach_le (q : EReal) : reach q ≤ 252 := Nat.findGreatest_le _

theorem le_reach_iff (q : EReal) (j : ℕ) (h1 : 1 ≤ j) (h2 : j ≤ 252) : pow2 j ≤ q ↔ j ≤ reach q := by
  constructor
  · exact fun h => Nat.le_findGreatest h2 h
  · intro h
    have h0 : reach q ≠ 0 := by omega
    exact (pow2_mono h1 h (by have := reach_le q; omega)).trans (Nat.findGreatest_of_ne_zero (P := fun j => pow2 j ≤ q) rfl h0)

theorem sum_upto (J : ℕ) : ∀ n : ℕ, J < n → (∑ l ∈ Finset.range n, if 0 < l ∧ l ≤ J then 1#32 else 0#32) = BitVec.ofNat 32 J := by
  have key : ∀ n : ℕ, (∑ l ∈ Finset.range n, if 0 < l ∧ l ≤ J then 1#32 else 0#32) = BitVec.ofNat 32 (min (n - 1) J) := by
    intro n
    induction n with
    | zero => simp
    | succ n ih =>
      rw [Finset.sum_range_succ, ih]
      split_ifs with h
      · rw [← BitVec.ofNat_add]; congr 1; omega
      · have e : BitVec.ofNat 32 (min (n - 1) J) + 0#32 = BitVec.ofNat 32 (min (n - 1) J) := by simp
        rw [e]; congr 1; omega
  intro n h
  rw [key]; congr 1; omega

theorem field_eq_of (q : EReal) (J : ℕ) (hJ : J < 256) (h : ∀ l : Fin 256, 0 < l.val → (start l ≤ q ↔ l.val ≤ J)) :
    field q = BitVec.ofNat 32 J := by
  rw [← sum_upto J 256 hJ, ← Fin.sum_univ_eq_sum_range (fun l => if 0 < l ∧ l ≤ J then 1#32 else 0#32) 256]
  refine Finset.sum_congr rfl fun l _ => ?_
  by_cases h0 : 0 < l.val
  · simp only [h0, true_and, h l h0]
  · simp only [h0, false_and]

theorem field_top : field ⊤ = 255#32 :=
  field_eq_of ⊤ 255 (by omega) fun l _ => by have := l.isLt; simp only [le_top, true_iff]; omega

theorem field_eq (q : EReal) (hq : q ≠ ⊤) : field q = BitVec.ofNat 32 (reach q) := by
  have hr := reach_le q
  refine field_eq_of q (reach q) (by omega) fun l h0 => ?_
  unfold start
  split_ifs with h
  · rw [pow2_inf, top_le_iff]
    simp only [hq, false_iff]; omega
  · exact le_reach_iff q l.val h0 (by omega)

theorem below_eq (q : EReal) : below q = if reach q = 0 then 0 else pow2 (reach q) := by
  have hr := reach_le q
  unfold below
  apply le_antisymm
  · rw [Finset.fold_max_le]
    refine ⟨bot_le, fun i _ => ?_⟩
    have hi := i.isLt
    simp only [le_reach_iff q (i.val + 1) (by omega) (by omega)]
    by_cases h : i.val + 1 ≤ reach q
    · rw [if_pos h, if_neg (by omega)]
      exact pow2_mono (by omega) h (by omega)
    · rw [if_neg h]
      split_ifs with h0
      · exact le_rfl
      · exact (pow2_pos _ (by omega) (by omega)).le
  · rw [Finset.le_fold_max]
    right
    by_cases h0 : reach q = 0
    · refine ⟨0, Finset.mem_univ _, ?_⟩
      rw [if_pos h0]
      split_ifs
      · exact (pow2_pos _ (by simp) (by simp)).le
      · exact le_rfl
    · refine ⟨⟨reach q - 1, by omega⟩, Finset.mem_univ _, ?_⟩
      have e : reach q - 1 + 1 = reach q := by omega
      simp only [e]
      rw [if_neg h0, if_pos ((le_reach_iff q _ (by omega) hr).2 le_rfl)]

theorem scale_top : scale ⊤ = 1 := if_pos (Or.inr rfl)

theorem scale_zero (q : EReal) (h0 : reach q = 0) : scale q = 1 :=
  if_pos (Or.inl (by rw [below_eq, if_pos h0]))

theorem scale_pow (q : EReal) (hq : q ≠ ⊤) (h0 : reach q ≠ 0) : scale q = pow2 (reach q + 1) := by
  have hr := reach_le q
  have hp := pow2_pos (reach q) (by omega) (by omega)
  unfold scale
  rw [below_eq, if_neg h0, if_neg (by rintro (h | h); · exact hp.ne' h
                                      · exact hq h),
    pow2_eq _ (by omega) (by omega), pow2_eq _ (by omega) (by omega)]
  have e : (2 : EReal) = ((2 : ℝ) : EReal) := rfl
  rw [e, ← EReal.coe_mul]
  congr 1
  have e' : (((reach q + 1 : ℕ) : ℤ) - 127) = ((reach q : ℤ) - 127) + 1 := by push_cast; ring
  rw [e', zpow_add₀ (by norm_num)]; norm_num; ring

/-- The exponent: 0 where the quotient reaches none of the powers or is infinite, else 126 less than the number it reaches. -/
theorem expo_pow (q : EReal) (hq : q ≠ ⊤) (h0 : reach q ≠ 0) : expo (field q) = BitVec.ofNat 32 (reach q) - 126#32 := by
  have hr := reach_le q
  rw [field_eq q hq]
  refine if_neg ?_
  rintro (h | h) <;> have := congrArg BitVec.toNat h <;> simp at this <;> omega

/-- The scale from the counted field is the scale. -/
theorem ofBits_expo (q : EReal) : Ideal.ofBits .f32 ((127#32 + expo (field q)) <<< 23) = scale q := by
  by_cases hq : q = ⊤
  · subst hq; rw [field_top, scale_top]; exact pow2_one
  by_cases h0 : reach q = 0
  · rw [field_eq q hq, h0, scale_zero q h0]; exact pow2_one
  · have hr := reach_le q
    rw [scale_pow q hq h0, expo_pow q hq h0]
    have e : 127#32 + (BitVec.ofNat 32 (reach q) - 126#32) = BitVec.ofNat 32 (reach q + 1) := by
      apply BitVec.eq_of_toNat_eq; simp [BitVec.toNat_add, BitVec.toNat_sub]; omega
    rw [e]; rfl

/-- The inverse from the counted field is the scale's inverse. -/
theorem ofBits_neg_expo (q : EReal) : Ideal.ofBits .f32 ((127#32 - expo (field q)) <<< 23) = Ideal.div 1 (scale q) := by
  have one : Ideal.div 1 1 = 1 := by simp [Ideal.div]
  by_cases hq : q = ⊤
  · subst hq; rw [field_top, scale_top, one]; exact pow2_one
  by_cases h0 : reach q = 0
  · rw [field_eq q hq, h0, scale_zero q h0, one]; exact pow2_one
  · have hr := reach_le q
    rw [scale_pow q hq h0, expo_pow q hq h0]
    have e : 127#32 - (BitVec.ofNat 32 (reach q) - 126#32) = BitVec.ofNat 32 (253 - reach q) := by
      apply BitVec.eq_of_toNat_eq; simp [BitVec.toNat_sub]; omega
    rw [e]
    show pow2 (253 - reach q) = _
    have hp := pow2_pos (reach q + 1) (by omega) (by omega)
    unfold Ideal.div
    rw [if_neg hp.ne', one_mul, pow2_eq _ (by omega) (by omega), pow2_eq _ (by omega) (by omega), ← EReal.coe_inv]
    congr 1
    rw [← zpow_neg]
    congr 1
    omega

end Cert.Proof.Scale

end
-- ==== Proof.RowSpec.lean ====
/-
  What one expert makes of one token, over the extended reals: two products, the gated activation between them and its
  quantisation by a power of two. Both programs' rows are this row.
-/
module

public import proofs.«01_k».proof.Proof.Scale

@[expose] public section

noncomputable section

namespace Cert.Proof.RowSpec

open Idealize.ShloMosaic

/-- The first product's columns, scaled. -/
def hid (x : Fin 2048 → EReal) (xs : EReal) (wgu : Fin 2048 → Fin 1536 → EReal) (wgus : Fin 1536 → EReal) (j : Fin 1536) : EReal :=
  (∑ k, x k * wgu k j) * xs * wgus j

/-- The gated activation of the two halves of the columns. -/
def act (h : Fin 1536 → EReal) (j : Fin 768) : EReal :=
  (h ⟨j.val, by omega⟩ * Ideal.logistic (h ⟨j.val, by omega⟩)) * h ⟨768 + j.val, by omega⟩

/-- The largest magnitude over the format's largest number. -/
def quot (a : Fin 768 → EReal) : EReal :=
  (Finset.univ : Finset (Fin 768)).fold max ⊥ (fun j => max (a j) (-a j)) * Ideal.ofBits .f32 0x3B124925#32

/-- An activation's code: scaled and clipped. -/
def code (a : Fin 768 → EReal) (inv : EReal) (j : Fin 768) : EReal :=
  min (Ideal.ofBits .f32 0x43E00000#32) (max (Ideal.ofBits .f32 0xC3E00000#32) (a j * inv))

/-- The second product's columns, scaled. -/
def out (v : Fin 768 → EReal) (s gate : EReal) (wd : Fin 768 → Fin 2048 → EReal) (wds : Fin 2048 → EReal) (c : Fin 2048) : EReal :=
  (∑ j, v j * wd j c) * (s * gate) * wds c

/-- The expert's row for the token. -/
def row (x : Fin 2048 → EReal) (xs gate : EReal) (wgu : Fin 2048 → Fin 1536 → EReal) (wgus : Fin 1536 → EReal)
    (wd : Fin 768 → Fin 2048 → EReal) (wds : Fin 2048 → EReal) : Fin 2048 → EReal :=
  let a := act (hid x xs wgu wgus)
  out (code a (Ideal.div 1 (Scale.scale (quot a)))) (Scale.scale (quot a)) gate wd wds

end Cert.Proof.RowSpec

end
-- ==== Proof.RowValue.lean ====
/-
  The rows of a tile over the extended reals: each is the expert's row for the token whose words and codes it was given.
-/
module

public import proofs.«01_k».proof.Proof.FormTile
public import proofs.«01_k».proof.Proof.RowSpec
public import Idealize.ShloMosaic.Lib.ValueIdx
public import Idealize.ShloMosaic.Lib.ValueLayout
public import Idealize.ShloMosaic.Lib.ValueLayoutCasts
public import Idealize.ShloMosaic.Lib.MatmulPlain
public import Idealize.ShloMosaic.Lib.Pipeline.Value
public import Idealize.ShloMosaic.PureOps.Ideal.Laws

@[expose] public section

set_option maxRecDepth 100000

noncomputable section

namespace Cert.KernelIdeal.Body

open Cert.KernelIdeal Cert.KernelIdeal.Gen Cert.Proof
open Idealize.ShloMosaic Idealize.ShloMosaic.ValueIdx

theorem ofBits_zero_f32 : Ideal.ofBits .f32 0#32 = 0 := by
  rw [Scale.ofBits_f32]; simp [Ideal.ieee]

theorem ofBits_ninf_f32 : Ideal.ofBits .f32 0xFF800000#32 = ⊥ := by
  rw [Scale.ofBits_f32]; simp [Ideal.ieee]

/-- A number kept at one lane and zero at the others. -/
theorem lane_select (k p : Fin 128) (a : EReal) :
    (if IntOp.cmpi .eq (BitVec.ofNat 32 k.val) (BitVec.ofNat 32 p.val) = 1#1 then a else Ideal.ofBits .f32 0x00000000#32) = if k = p then a else 0 := by
  have e : (IntOp.cmpi .eq (BitVec.ofNat 32 k.val) (BitVec.ofNat 32 p.val) = 1#1) ↔ k = p := by
    revert k p; decide +kernel
  rw [ofBits_zero_f32]
  simp only [e]

theorem laneOf_apply (p : Fin 128) (row : Vec Ideal S128x128 .i32) (n : Fin 128) :
    laneOf (F := Ideal) (BitVec.ofNat 32 p.val) row (ix2 (n0 := 128) (n1 := 1) n 0) = Ideal.ofBits .f32 (row (ix2 (n0 := 128) (n1 := 128) n p)) := by
  unfold laneOf
  refine (shapeCast_a_a1_apply (a := 128) _ _ n 0).trans ?_
  refine (Ideal.multiReduction_add_single _ _ _ _ _ _).trans ?_
  have hl : ∀ k : Fin 128, reduces_S128x128_S128.lift (ix1 (n := 128) n) k = ix2 (n0 := 128) (n1 := 128) n k := fun k => by
    funext a; fin_cases a <;> rfl
  have hs : ∀ k : Fin 128, (select (cmpi .eq (iota .tc S128x128 32 [1] iota_S128x128_d1_w32) (broadcast S128x128 (BitVec.ofNat 32 p.val))) (bitcastToFloat .f32 row : FVec Ideal S128x128 .f32) (broadcast S128x128 (Scalar.ofBits .f32 0x00000000#32 : Ideal .f32))) (ix2 (n0 := 128) (n1 := 128) n k)
      = if k = p then Ideal.ofBits .f32 (row (ix2 (n0 := 128) (n1 := 128) n k)) else 0 := fun k => by
    show (if IntOp.cmpi .eq (iota .tc S128x128 32 [1] iota_S128x128_d1_w32 (ix2 (n0 := 128) (n1 := 128) n k)) (BitVec.ofNat 32 p.val) = 1#1 then Ideal.ofBits .f32 (row (ix2 (n0 := 128) (n1 := 128) n k)) else Ideal.ofBits .f32 0x00000000#32) = _
    rw [iota_single_apply]
    exact lane_select k p _
  refine (Finset.sum_eq_single (p : Fin 128) (fun k _ hk => ?_) (fun h => absurd (Finset.mem_univ _) h)).trans ?_
  · rw [hl k]; exact (hs k).trans (if_neg hk)
  · rw [hl p]; exact (hs p).trans (if_pos rfl)

/-- The first product's columns of a tile, scaled. -/
def hidOf (xs : FVec Ideal S128x1 .f32) (lhs : FVec Ideal S128x2048 .fp8e4m3) (wgu : FVec Ideal S1x2048x1536 .fp8e4m3)
    (wgus : FVec Ideal S1x1x1536 .f32) : FVec Ideal S128x1536 .f32 :=
  mulf (mulf (matmul dot_S128x2048_S2048x1536_S128x1536_1_0_0_1_n_n none lhs (shapeCast S2048x1536 wgu shapeCasts_S1x2048x1536_S2048x1536 : FVec Ideal S2048x1536 .fp8e4m3) (constant S128x1536 .f32 0x00000000#32))
      (broadcastTo S128x1536 xs broadcasts_S128x1_S128x1536))
    (broadcastTo S128x1536 (shapeCast S1x1536 wgus shapeCasts_S1x1x1536_S1x1536 : FVec Ideal S1x1536 .f32) broadcasts_S1x1536_S128x1536)

theorem hidOf_apply (xs : FVec Ideal S128x1 .f32) (lhs : FVec Ideal S128x2048 .fp8e4m3) (wgu : FVec Ideal S1x2048x1536 .fp8e4m3)
    (wgus : FVec Ideal S1x1x1536 .f32) (n : Fin 128) (j : Fin 1536) :
    hidOf xs lhs wgu wgus (ix2 (n0 := 128) (n1 := 1536) n j)
      = RowSpec.hid (fun k => lhs (ix2 (n0 := 128) (n1 := 2048) n k)) (xs (ix2 (n0 := 128) (n1 := 1) n 0))
          (fun k c => wgu (ix3 (n0 := 1) (n1 := 2048) (n2 := 1536) 0 k c)) (fun c => wgus (ix3 (n0 := 1) (n1 := 1) (n2 := 1536) 0 0 c)) j := by
  unfold hidOf RowSpec.hid
  rw [mulf_apply, mulf_apply]
  refine congrArg₂ (· * ·) (congrArg₂ (· * ·) ?_ ?_) ?_
  · refine (Ideal.matmul_plain_apply (M := 128) (K := 2048) (N := 1536) none _ _ _ n j).trans ?_
    refine (congrArg (· + _) ofBits_zero_f32).trans ((zero_add _).trans (Finset.sum_congr rfl fun k _ => ?_))
    exact congrArg (lhs (ix2 (n0 := 128) (n1 := 2048) n k) * ·) (shapeCast_1ab_ab_apply (a := 2048) (b := 1536) wgu _ k j)
  · exact broadcastTo_apply xs _ _ _ fun a => by fin_cases a <;> rfl
  · refine (broadcastTo_1b_ab_apply (a := 128) (b := 1536) _ _ n j).trans ?_
    exact shapeCast_1ab_ab_apply (a := 1) (b := 1536) wgus _ 0 j

theorem actOf_apply (xs : FVec Ideal S128x1 .f32) (lhs : Vec Ideal S128x2048 .fp8e4m3) (wgu : Vec Ideal S1x2048x1536 .fp8e4m3)
    (wgus : Vec Ideal S1x1x1536 .f32) (n : Fin 128) (j : Fin 768) :
    actOf xs lhs wgu wgus (ix2 (n0 := 128) (n1 := 768) n j)
      = RowSpec.act (RowSpec.hid (fun k => lhs (ix2 (n0 := 128) (n1 := 2048) n k)) (xs (ix2 (n0 := 128) (n1 := 1) n 0))
          (fun k c => wgu (ix3 (n0 := 1) (n1 := 2048) (n2 := 1536) 0 k c)) (fun c => wgus (ix3 (n0 := 1) (n1 := 1) (n2 := 1536) 0 0 c))) j := by
  have h0 := slice2_axis1_apply (n0 := 128) (n1 := 1536) (m := 768) 0 (hidOf xs lhs wgu wgus)
    slices_S128x1536_o0_0_S128x768 n j ⟨j.val, by omega⟩ (by simp)
  have h1 := slice2_axis1_apply (n0 := 128) (n1 := 1536) (m := 768) 768 (hidOf xs lhs wgu wgus)
    slices_S128x1536_o0_768_S128x768 n j ⟨768 + j.val, by omega⟩ (by simp)
  have e0 := hidOf_apply xs lhs wgu wgus n ⟨j.val, by omega⟩
  have e1 := hidOf_apply xs lhs wgu wgus n ⟨768 + j.val, by omega⟩
  unfold RowSpec.act
  rw [← e0, ← e1, ← h0, ← h1]
  rfl

theorem quotOf_apply (a : FVec Ideal S128x768 .f32) (n : Fin 128) :
    quotOf a (ix2 (n0 := 128) (n1 := 1) n 0) = RowSpec.quot fun j => a (ix2 (n0 := 128) (n1 := 768) n j) := by
  unfold quotOf RowSpec.quot
  rw [mulf_apply]
  congr 1
  refine (shapeCast_a_a1_apply (a := 128) _ _ n 0).trans ?_
  refine (Ideal.multiReduction_maximumf_single _ _ _ _ _ _).trans ?_
  have hl : ∀ k : Fin 768, reduces_S128x768_S128.lift (ix1 (n := 128) n) k = ix2 (n0 := 128) (n1 := 768) n k := fun k => by
    funext a; fin_cases a <;> rfl
  refine (congrArg (fun z => Finset.fold max z _ _) ofBits_ninf_f32).trans ?_
  refine congrArg (fun f => Finset.fold max ⊥ f _) (funext fun k : Fin 768 => ?_)
  show (absf a : FVec Ideal S128x768 .f32) (reduces_S128x768_S128.lift (ix1 (n := 128) n) k) = _
  rw [hl k]; rfl

/-- One lane of the count. -/
theorem lane_count (l : Fin 256) (q : EReal) :
    (if IntOp.andi (IntOp.cmpi .sgt (BitVec.ofNat 32 l.val) 0#32)
        (Ideal.cmp .oge q (Ideal.ofBits .f32 (IntOp.shli .vector (if IntOp.cmpi .sgt (BitVec.ofNat 32 l.val) 252#32 = 1#1 then 255#32 else BitVec.ofNat 32 l.val) 23#32))) = 1#1 then 1#32 else 0#32)
      = if 0 < l.val ∧ Scale.start l ≤ q then 1#32 else 0#32 := by
  have e0 : ∀ l : Fin 256, (IntOp.cmpi .sgt (BitVec.ofNat 32 l.val) 0#32 = 1#1 ↔ 0 < l.val)
      ∧ IntOp.shli .vector (if IntOp.cmpi .sgt (BitVec.ofNat 32 l.val) 252#32 = 1#1 then 255#32 else BitVec.ofNat 32 l.val) 23#32
        = BitVec.ofNat 32 (if 252 < l.val then 255 else l.val) <<< 23 := by decide +kernel
  have e1 : ∀ a b : BitVec 1, IntOp.andi a b = 1#1 ↔ a = 1#1 ∧ b = 1#1 := by decide
  have e2 : ∀ x : EReal, Ideal.cmp .oge q x = 1#1 ↔ x ≤ q := fun x => by
    unfold Ideal.cmp; by_cases h : x ≤ q <;> simp [h]
  simp only [e1, e2, (e0 l).1, (e0 l).2]
  rfl

theorem fieldOf_apply (q : FVec Ideal S128x1 .f32) (n : Fin 128) :
    fieldOf q (ix2 (n0 := 128) (n1 := 1) n 0) = Scale.field (q (ix2 (n0 := 128) (n1 := 1) n 0)) := by
  unfold fieldOf Scale.field
  refine (shapeCast_a_a1_apply (a := 128) _ _ n 0).trans ?_
  have hl : ∀ k : Fin 256, reduces_S128x256_S128.lift (ix1 (n := 128) n) k = ix2 (n0 := 128) (n1 := 256) n k := fun k => by
    funext a; fin_cases a <;> rfl
  have hb : ∀ k : Fin 256, broadcastTo S128x256 q broadcasts_S128x1_S128x256 (ix2 (n0 := 128) (n1 := 256) n k) = q (ix2 (n0 := 128) (n1 := 1) n 0) := fun k =>
    broadcastTo_apply q _ _ _ fun a => by fin_cases a <;> rfl
  refine (multiReductionI_eq_fold _ _ _ _ _ _).trans ?_
  refine (Shape.Reduces.fold_filter_drop_single reduces_S128x256_S128 (· + · : BitVec 32 → BitVec 32 → BitVec 32) _ _ _).trans ?_
  refine Finset.sum_congr (M := BitVec 32) rfl fun (k : Fin 256) _ => ?_
  show (select _ _ _ : IVec S128x256 32) (reduces_S128x256_S128.lift (ix1 (n := 128) n) k) = _
  rw [hl k, ← lane_count k, ← hb k]
  have hi := iota_single_apply (s := S128x256) (w := 32) (κ := .tc) 1 iota_S128x256_d1_w32 (ix2 (n0 := 128) (n1 := 256) n k)
  show (if IntOp.andi (IntOp.cmpi .sgt (iota .tc S128x256 32 [1] iota_S128x256_d1_w32 (ix2 (n0 := 128) (n1 := 256) n k)) 0#32)
        (Ideal.cmp .oge _ (Ideal.ofBits .f32 (IntOp.shli .vector (if IntOp.cmpi .sgt (iota .tc S128x256 32 [1] iota_S128x256_d1_w32 (ix2 (n0 := 128) (n1 := 256) n k)) 252#32 = 1#1 then 255#32 else iota .tc S128x256 32 [1] iota_S128x256_d1_w32 (ix2 (n0 := 128) (n1 := 256) n k)) 23#32))) = 1#1 then 1#32 else 0#32) = _
  rw [hi]

/-- The exponent of a field, at a row. -/
theorem expOf_apply (f : IVec S128x1 32) (i : S128x1.Idx) : expOf f i = Scale.expo (f i) := by
  have e : ∀ a b : BitVec 1, (IntOp.ori a b = 1#1) ↔ (a = 1#1 ∨ b = 1#1) := by decide
  have e' : ∀ a b : BitVec 32, (IntOp.cmpi .eq a b = 1#1) ↔ a = b := fun a b => by
    show BitVec.ofBool (a == b) = 1#1 ↔ _
    by_cases h : a = b
    · simp [h]
    · rw [beq_eq_false_iff_ne.2 h]; simp [h]
  show (if IntOp.ori (IntOp.cmpi .eq (f i) 0#32) (IntOp.cmpi .eq (f i) 255#32) = 1#1 then 0#32 else f i - 126#32) = _
  simp only [e, e']
  rfl

theorem powOf_apply (e : IVec S128x1 32) (i : S128x1.Idx) : powOf (F := Ideal) e i = Ideal.ofBits .f32 ((127#32 + e i) <<< 23) := by
  rfl

theorem invPowOf_apply (e : IVec S128x1 32) (i : S128x1.Idx) : invPowOf (F := Ideal) e i = Ideal.ofBits .f32 ((127#32 - e i) <<< 23) := by
  rfl

theorem codesOf_apply (a : FVec Ideal S128x768 .f32) (inv : FVec Ideal S128x1 .f32) (n : Fin 128) (j : Fin 768) :
    codesOf a inv (ix2 (n0 := 128) (n1 := 768) n j)
      = RowSpec.code (fun j => a (ix2 (n0 := 128) (n1 := 768) n j)) (inv (ix2 (n0 := 128) (n1 := 1) n 0)) j := by
  have hb : broadcastTo S128x768 inv broadcasts_S128x1_S128x768 (ix2 (n0 := 128) (n1 := 768) n j) = inv (ix2 (n0 := 128) (n1 := 1) n 0) :=
    broadcastTo_apply inv _ _ _ fun a => by fin_cases a <;> rfl
  unfold RowSpec.code
  rw [← hb]
  rfl

theorem downOf_apply (v : FVec Ideal S128x768 .fp8e4m3) (s g : FVec Ideal S128x1 .f32) (wd : Vec Ideal S1x768x2048 .fp8e4m3)
    (wds : Vec Ideal S1x1x2048 .f32) (n : Fin 128) (c : Fin 2048) :
    downOf v s g wd wds (ix2 (n0 := 128) (n1 := 2048) n c)
      = RowSpec.out (fun j => v (ix2 (n0 := 128) (n1 := 768) n j)) (s (ix2 (n0 := 128) (n1 := 1) n 0)) (g (ix2 (n0 := 128) (n1 := 1) n 0))
          (fun k c => wd (ix3 (n0 := 1) (n1 := 768) (n2 := 2048) 0 k c)) (fun c => wds (ix3 (n0 := 1) (n1 := 1) (n2 := 2048) 0 0 c)) c := by
  unfold downOf RowSpec.out
  rw [mulf_apply, mulf_apply]
  refine congrArg₂ (· * ·) (congrArg₂ (· * ·) ?_ ?_) ?_
  · refine (Ideal.matmul_plain_apply (M := 128) (K := 768) (N := 2048) none _ _ _ n c).trans ?_
    refine (congrArg (· + _) ofBits_zero_f32).trans ((zero_add _).trans (Finset.sum_congr rfl fun k _ => ?_))
    exact congrArg (v (ix2 (n0 := 128) (n1 := 768) n k) * ·) (shapeCast_1ab_ab_apply (a := 768) (b := 2048) wd _ k c)
  · exact broadcastTo_apply (mulf s g) _ _ (ix2 (n0 := 128) (n1 := 1) n 0) fun a => by fin_cases a <;> rfl
  · refine (broadcastTo_1b_ab_apply (a := 128) (b := 2048) _ _ n c).trans ?_
    exact shapeCast_1ab_ab_apply (a := 1) (b := 2048) wds _ 0 c

/-- A row of a tile is the expert's row for its codes, its scale and its gate. -/
theorem rowsOf_apply (e : Fin 32) (row : Vec Ideal S128x128 .i32) (lhs : Vec Ideal S128x2048 .fp8e4m3) (wgu : Vec Ideal S1x2048x1536 .fp8e4m3)
    (wgus : Vec Ideal S1x1x1536 .f32) (wd : Vec Ideal S1x768x2048 .fp8e4m3) (wds : Vec Ideal S1x1x2048 .f32) (n : Fin 128) (c : Fin 2048) :
    rowsOf (BitVec.ofNat 32 e.val) row lhs wgu wgus wd wds (ix2 (n0 := 128) (n1 := 2048) n c)
      = RowSpec.row (fun k => lhs (ix2 (n0 := 128) (n1 := 2048) n k))
          (Ideal.ofBits .f32 (row (ix2 (n0 := 128) (n1 := 128) n 32))) (Ideal.ofBits .f32 (row (ix2 (n0 := 128) (n1 := 128) n ⟨e.val, by omega⟩)))
          (fun k c => wgu (ix3 (n0 := 1) (n1 := 2048) (n2 := 1536) 0 k c)) (fun c => wgus (ix3 (n0 := 1) (n1 := 1) (n2 := 1536) 0 0 c))
          (fun k c => wd (ix3 (n0 := 1) (n1 := 768) (n2 := 2048) 0 k c)) (fun c => wds (ix3 (n0 := 1) (n1 := 1) (n2 := 2048) 0 0 c)) c := by
  have hx := laneOf_apply 32 row n
  have hg := laneOf_apply ⟨e.val, by omega⟩ row n
  unfold rowsOf RowSpec.row
  refine (downOf_apply _ _ _ _ _ _ _).trans ?_
  simp only [codesOf_apply, powOf_apply, invPowOf_apply, expOf_apply, fieldOf_apply, quotOf_apply, actOf_apply,
    Scale.ofBits_expo, Scale.ofBits_neg_expo]
  have hx' : laneOf (F := Ideal) 32#32 row (ix2 (n0 := 128) (n1 := 1) n 0) = Ideal.ofBits .f32 (row (ix2 (n0 := 128) (n1 := 128) n 32)) := hx
  rw [hx', hg]

end Cert.KernelIdeal.Body

end
-- ==== Proof.Spec.lean ====
/-
  The result both programs compute: a token's row is the sum, over the experts chosen for it, of the expert's row for the token's
  codes, scale and gate, all read from the token's packed words.
-/
module

public import proofs.«01_k».proof.Proof.RowSpec
public import proofs.«01_k».proof.Proof.Plan

@[expose] public section

noncomputable section

namespace Cert.Proof.Spec

open Idealize.ShloMosaic

/-- A token's code in column `k`: byte `k / 512` of the word in row `k / 128 % 4`, lane `k % 128`, of the token's words. -/
def codeAt (w : Fin 7720 → Fin 128 → BitVec 32) (u : Fin 1536) (k : Fin 2048) : EReal :=
  Ideal.ofBits .fp8e4m3 ((IntOp.shrsi .vector (w ⟨u.val * 5 + k.val / 128 % 4, by omega⟩ ⟨k.val % 128, by omega⟩)
    (BitVec.ofNat 32 (8 * (k.val / 512)))).truncate 8)

/-- An expert's row for a token: the scale and the gates lie in the fifth row of its words. -/
def part (w : Fin 7720 → Fin 128 → BitVec 32) (u : Fin 1536) (e : Fin 32) (wgu : Fin 2048 → Fin 1536 → EReal) (wgus : Fin 1536 → EReal)
    (wd : Fin 768 → Fin 2048 → EReal) (wds : Fin 2048 → EReal) : Fin 2048 → EReal :=
  RowSpec.row (codeAt w u) (Ideal.ofBits .f32 (w ⟨u.val * 5 + 4, by omega⟩ 32)) (Ideal.ofBits .f32 (w ⟨u.val * 5 + 4, by omega⟩ ⟨e.val, by omega⟩))
    wgu wgus wd wds

open Classical in
/-- An expert's share of a token's row: nothing where it is not chosen. -/
def term (cnt off : Fin 32 → BitVec 32) (pos : Fin 8 → Fin 1536 → BitVec 32) (w : Fin 7720 → Fin 128 → BitVec 32)
    (wgu : Fin 32 → Fin 2048 → Fin 1536 → EReal) (wgus : Fin 32 → Fin 1536 → EReal) (wd : Fin 32 → Fin 768 → Fin 2048 → EReal)
    (wds : Fin 32 → Fin 2048 → EReal) (u : Fin 1536) (c : Fin 2048) (e : Fin 32) : EReal :=
  if Plan.Chosen cnt off pos e u then part w u e (wgu e) (wgus e) (wd e) (wds e) c else 0

/-- The sum over the experts before `n`. -/
def upto (f : Fin 32 → EReal) (n : Nat) : EReal := ∑ e ∈ Finset.univ.filter (fun e : Fin 32 => e.val < n), f e

theorem upto_zero (f : Fin 32 → EReal) : upto f 0 = 0 := by
  unfold upto; simp

theorem upto_succ (f : Fin 32 → EReal) (e : Fin 32) : upto f (e.val + 1) = upto f e.val + f e := by
  unfold upto
  have h : (Finset.univ.filter fun x : Fin 32 => x.val < e.val + 1) = insert e (Finset.univ.filter fun x : Fin 32 => x.val < e.val) := by
    ext x
    simp only [Finset.mem_filter, Finset.mem_univ, true_and, Finset.mem_insert, Fin.ext_iff]
    omega
  rw [h, Finset.sum_insert (by simp), add_comm]

theorem upto_all (f : Fin 32 → EReal) : upto f 32 = ∑ e, f e := by
  unfold upto
  rw [Finset.filter_true_of_mem fun e _ => e.isLt]

end Cert.Proof.Spec
-- ==== Proof.KerSpec.lean ====
/-
  The kernel's windows read off its arguments, and each grid point's addition as one more term of the specified sum.
-/
module

public import proofs.«01_k».proof.Proof.Launch
public import proofs.«01_k».proof.Proof.RowValue
public import proofs.«01_k».proof.Proof.Spec

@[expose] public section

noncomputable section

namespace Cert.KernelIdeal.Body

open Cert.KernelIdeal Cert.KernelIdeal.Gen Cert.Proof
open Idealize.ShloMosaic Idealize.ShloMosaic.ValueIdx Idealize.ShloMosaic.TcCoe

section Windows

variable {F : FTy → Type} [FloatOps F] (m : (ℓ : Loc nD τ sig) → Buf (Elt F) ℓ)

theorem inp_xt (c : Dev nD) (t : Fin (cfgM m).N) (b : Fin 8) (hb : b.val = t.val / 32) (r : Fin 7720) (l : Fin 128) :
    (inp m c t).xt (ix3 (n0 := 1) (n1 := 7720) (n2 := 128) 0 r l)
      = m ((c.tc : Thread nD τ).loc main_arg3) (ix3 (n0 := 8) (n1 := 7720) (n2 := 128) b r l) := by
  show m ((c.tc : Thread nD τ).loc main_arg3) (((cfgM m).win 1).blk t |>.view.emb _) = _
  congr 1
  have hB : (grid0.coords t 0).val = b.val := (blk_val t).trans hb.symm
  have h8 : b.val < 8 := b.isLt
  funext a
  apply Fin.ext
  fin_cases a
  · show (BitVec.ofNat 32 (grid0.coords t 0).val).toNat * 1 + 1 * 0 = b.val
    rw [hB, BitVec.toNat_ofNat]; omega
  · show 0 * 7720 + 1 * r.val = r.val
    omega
  · show 0 * 128 + 1 * l.val = l.val
    omega

theorem inp_wgu (c : Dev nD) (t : Fin (cfgM m).N) (k : Fin 2048) (j : Fin 1536) :
    (inp m c t).wgu (ix3 (n0 := 1) (n1 := 2048) (n2 := 1536) 0 k j)
      = m ((c.tc : Thread nD τ).loc main_arg4) (ix3 (n0 := 32) (n1 := 2048) (n2 := 1536) (ex (grid0.coords t)) k j) := by
  show m ((c.tc : Thread nD τ).loc main_arg4) (((cfgM m).win 2).blk t |>.view.emb _) = _
  congr 1
  have h8 : (grid0.coords t 1).val < 32 := (ex (grid0.coords t)).isLt
  funext a
  apply Fin.ext
  fin_cases a
  · show (BitVec.ofNat 32 (grid0.coords t 1).val).toNat * 1 + 1 * 0 = (grid0.coords t 1).val
    rw [BitVec.toNat_ofNat]; omega
  · show 0 * 2048 + 1 * k.val = k.val
    omega
  · show 0 * 1536 + 1 * j.val = j.val
    omega

theorem inp_wgus (c : Dev nD) (t : Fin (cfgM m).N) (j : Fin 1536) :
    (inp m c t).wgus (ix3 (n0 := 1) (n1 := 1) (n2 := 1536) 0 0 j)
      = m ((c.tc : Thread nD τ).loc main_arg5) (ix3 (n0 := 32) (n1 := 1) (n2 := 1536) (ex (grid0.coords t)) 0 j) := by
  show m ((c.tc : Thread nD τ).loc main_arg5) (((cfgM m).win 3).blk t |>.view.emb _) = _
  congr 1
  have h8 : (grid0.coords t 1).val < 32 := (ex (grid0.coords t)).isLt
  funext a
  apply Fin.ext
  fin_cases a
  · show (BitVec.ofNat 32 (grid0.coords t 1).val).toNat * 1 + 1 * 0 = (grid0.coords t 1).val
    rw [BitVec.toNat_ofNat]; omega
  · rfl
  · show 0 * 1536 + 1 * j.val = j.val
    omega

theorem inp_wd (c : Dev nD) (t : Fin (cfgM m).N) (k : Fin 768) (j : Fin 2048) :
    (inp m c t).wd (ix3 (n0 := 1) (n1 := 768) (n2 := 2048) 0 k j)
      = m ((c.tc : Thread nD τ).loc main_arg6) (ix3 (n0 := 32) (n1 := 768) (n2 := 2048) (ex (grid0.coords t)) k j) := by
  show m ((c.tc : Thread nD τ).loc main_arg6) (((cfgM m).win 4).blk t |>.view.emb _) = _
  congr 1
  have h8 : (grid0.coords t 1).val < 32 := (ex (grid0.coords t)).isLt
  funext a
  apply Fin.ext
  fin_cases a
  · show (BitVec.ofNat 32 (grid0.coords t 1).val).toNat * 1 + 1 * 0 = (grid0.coords t 1).val
    rw [BitVec.toNat_ofNat]; omega
  · show 0 * 768 + 1 * k.val = k.val
    omega
  · show 0 * 2048 + 1 * j.val = j.val
    omega

theorem inp_wds (c : Dev nD) (t : Fin (cfgM m).N) (j : Fin 2048) :
    (inp m c t).wds (ix3 (n0 := 1) (n1 := 1) (n2 := 2048) 0 0 j)
      = m ((c.tc : Thread nD τ).loc main_arg7) (ix3 (n0 := 32) (n1 := 1) (n2 := 2048) (ex (grid0.coords t)) 0 j) := by
  show m ((c.tc : Thread nD τ).loc main_arg7) (((cfgM m).win 5).blk t |>.view.emb _) = _
  congr 1
  have h8 : (grid0.coords t 1).val < 32 := (ex (grid0.coords t)).isLt
  funext a
  apply Fin.ext
  fin_cases a
  · show (BitVec.ofNat 32 (grid0.coords t 1).val).toNat * 1 + 1 * 0 = (grid0.coords t 1).val
    rw [BitVec.toNat_ofNat]; omega
  · rfl
  · show 0 * 2048 + 1 * j.val = j.val
    omega

end Windows

variable (m : (ℓ : Loc nD τ sig) → Buf (Elt Ideal) ℓ)

/-- The terms of a token's row, from the kernel's arguments. -/
def terms (c : Dev nD) (b : Fin 8) (u : Fin 1536) (col : Fin 2048) : Fin 32 → EReal :=
  Spec.term (fun e => m ((c.tc : Thread nD τ).loc main_arg0) (ix2 (n0 := 8) (n1 := 32) b e))
    (fun e => m ((c.tc : Thread nD τ).loc main_arg1) (ix2 (n0 := 8) (n1 := 32) b e))
    (fun k u => m ((c.tc : Thread nD τ).loc main_arg2) (ix3 (n0 := 8) (n1 := 8) (n2 := 1536) b k u))
    (fun r l => m ((c.tc : Thread nD τ).loc main_arg3) (ix3 (n0 := 8) (n1 := 7720) (n2 := 128) b r l))
    (fun e k j => m ((c.tc : Thread nD τ).loc main_arg4) (ix3 (n0 := 32) (n1 := 2048) (n2 := 1536) e k j))
    (fun e j => m ((c.tc : Thread nD τ).loc main_arg5) (ix3 (n0 := 32) (n1 := 1) (n2 := 1536) e 0 j))
    (fun e k j => m ((c.tc : Thread nD τ).loc main_arg6) (ix3 (n0 := 32) (n1 := 768) (n2 := 2048) e k j))
    (fun e j => m ((c.tc : Thread nD τ).loc main_arg7) (ix3 (n0 := 32) (n1 := 1) (n2 := 2048) e 0 j)) u col

/-- A token's row after the experts before `n`: the sum of their terms. -/
def Sums (c : Dev nD) (b : Fin 8) (n : Nat) (u : Fin 1536) (v : Row Ideal) : Prop :=
  ∀ k l, v k l = Spec.upto (terms m c b u (outCol k l)) n

theorem sums_zero (c : Dev nD) (b : Fin 8) (u : Fin 1536) : Sums m c b 0 u zeroRow := fun _ _ =>
  ofBits_zero_f32.trans (Spec.upto_zero _).symm

/-- The word of a token in row `r`, lane `l`. -/
theorem inp_word (c : Dev nD) (t : Fin (cfgM m).N) (u : Fin 1536) (r : Fin 5) (l : Fin 128) :
    (inp m c t).word u.val r l
      = m ((c.tc : Thread nD τ).loc main_arg3) (ix3 (n0 := 8) (n1 := 7720) (n2 := 128) (bk (grid0.coords t)) ⟨u.val * 5 + r.val, by omega⟩ l) := by
  unfold Inp.word
  have e : Fin.ofNat 7720 (u.val * 5 + r.val) = ⟨u.val * 5 + r.val, by omega⟩ := Fin.ext (Nat.mod_eq_of_lt (by omega))
  rw [e]
  exact inp_xt m c t (bk (grid0.coords t)) (blk_val t) _ l

/-- A gathered row's codes are the token's. -/
theorem tile_codes (c : Dev nD) (t : Fin (cfgM m).N) (u : Fin 1536) (row : Vec Ideal S128x128 .i32) (lhs : Vec Ideal S128x2048 .fp8e4m3) (n : Fin 128)
    (h : TileRow (inp m c t) u.val row lhs n) :
    (fun k => lhs (ix2 (n0 := 128) (n1 := 2048) n k))
      = Spec.codeAt (fun r l => m ((c.tc : Thread nD τ).loc main_arg3) (ix3 (n0 := 8) (n1 := 7720) (n2 := 128) (bk (grid0.coords t)) r l)) u := by
  funext k
  have hk := h.bytes ⟨k.val / 128 % 4, by omega⟩ ⟨k.val / 512, by omega⟩ ⟨k.val % 128, by omega⟩
  have e : colOf ⟨k.val / 128 % 4, by omega⟩ ⟨k.val / 512, by omega⟩ ⟨k.val % 128, by omega⟩ = k := Fin.ext (by
    show 128 * (4 * (k.val / 512) + k.val / 128 % 4) + k.val % 128 = k.val
    omega)
  rw [e, inp_word] at hk
  exact hk

theorem sums_part (c : Dev nD) (t : Fin (cfgM m).N) :
    Part (inp m c t) (grid0.coords t) (Sums m c (bk (grid0.coords t)) (ex (grid0.coords t)).val)
      (Sums m c (bk (grid0.coords t)) ((ex (grid0.coords t)).val + 1)) := by
  have hpos : (inp m c t).posOf = fun k u => m ((c.tc : Thread nD τ).loc main_arg2) (ix3 (n0 := 8) (n1 := 8) (n2 := 1536) (bk (grid0.coords t)) k u) :=
    funext fun k => funext fun u => inp_pos m c t (bk (grid0.coords t)) (blk_val t) k u
  refine ⟨fun u v hc hv k l => ?_, fun u v hc hv row lhs n ht k l => ?_⟩
  · rw [hpos] at hc
    rw [Spec.upto_succ, hv k l]
    refine (add_zero _).symm.trans (congrArg _ ?_)
    exact (if_neg hc).symm
  · rw [hpos] at hc
    rw [Spec.upto_succ, ← hv k l]
    refine congrArg (v k l + ·) ?_
    refine (rowsOf_apply (ex (grid0.coords t)) row lhs _ _ _ _ n (outCol k l)).trans ?_
    refine Eq.trans ?_ (if_pos hc).symm
    unfold Spec.part
    rw [tile_codes m c t u row lhs n ht, ht.words, ht.words, inp_word, inp_word]
    simp only [inp_wgu, inp_wgus, inp_wd, inp_wds]
    rfl

end Cert.KernelIdeal.Body
-- ==== Proof.RefValue.lean ====
/-
  The reference's result over the extended reals, at a token and a column: the sum, over the experts that the token chose, of each
  expert's row.
-/
module

public import proofs.«01_k».proof.Proof.RowSpec
public import proofs.«01_k».proof.Proof.Gen.ReferenceIdeal.Value
public import Idealize.ShloMosaic.Lib.ValueIdx
public import Idealize.ShloMosaic.Lib.ValueLayout
public import Idealize.ShloMosaic.Lib.ValueLayoutCasts
public import Idealize.ShloMosaic.Lib.Pipeline.Value
public import Idealize.ShloMosaic.PureOps.Ideal.Laws

@[expose] public section

set_option maxRecDepth 100000

noncomputable section

namespace Cert.ReferenceIdeal.Rows

open Cert.ReferenceIdeal Cert.ReferenceIdeal.Gen Cert.Proof
open Idealize.ShloMosaic Idealize.ShloMosaic.ValueIdx

theorem ofBits_zero_f32 : Ideal.ofBits .f32 0#32 = 0 := by
  rw [Scale.ofBits_f32]; simp [Ideal.ieee]

theorem ofBits_ninf_f32 : Ideal.ofBits .f32 0xFF800000#32 = ⊥ := by
  rw [Scale.ofBits_f32]; simp [Ideal.ieee]

theorem ofBits_inf_f32 : Ideal.ofBits .f32 0x7F800000#32 = ⊤ := by
  rw [Scale.ofBits_f32]; simp [Ideal.ieee]

theorem ofBits_one_f32 : Ideal.ofBits .f32 0x3F800000#32 = 1 := Scale.pow2_one

theorem ofBits_two_f32 : Ideal.ofBits .f32 0x40000000#32 = 2 := by
  refine (Scale.pow2_eq 128 (by omega) (by omega)).trans ?_
  norm_num
  rfl

/-- A batched product at an expert, a token and a column. -/
theorem dot1_apply (lhs : FVec Ideal S32x12288x2048 .fp8e4m3) (rhs : FVec Ideal S32x2048x1536 .fp8e4m3) (e : Fin 32) (t : Fin 12288) (c : Fin 1536) :
    matmul dot_S32x12288x2048_S32x2048x1536_S32x12288x1536_2_1_1_2_0_0 none lhs rhs (constant S32x12288x1536 .f32 0x00000000#32) (ix3 (n0 := 32) (n1 := 12288) (n2 := 1536) e t c)
      = ∑ k : Fin 2048, lhs (ix3 (n0 := 32) (n1 := 12288) (n2 := 2048) e t k) * rhs (ix3 (n0 := 32) (n1 := 2048) (n2 := 1536) e k c) := by
  let D := dot_S32x12288x2048_S32x2048x1536_S32x12288x1536_2_1_1_2_0_0
  refine (Ideal.matmul_apply D none lhs rhs _ _).trans ?_
  refine (congrArg (· + _) ofBits_zero_f32).trans ((zero_add _).trans ?_)
  have hr : D.contr.rank = 1 := rfl
  have hs : D.contr.size ⟨0, by rw [hr]; exact Nat.one_pos⟩ = 2048 := rfl
  rw [← Equiv.sum_comp (contrEquiv1 _ 2048 hr hs).symm]
  refine Finset.sum_congr rfl fun k _ => ?_
  have hk := contrEquiv1_symm_val _ 2048 hr hs k
  have el : D.lhsIdx (ix3 (n0 := 32) (n1 := 12288) (n2 := 1536) e t c) ((contrEquiv1 _ 2048 hr hs).symm k) = ix3 (n0 := 32) (n1 := 12288) (n2 := 2048) e t k := by
    funext a; apply Fin.ext
    match a with
    | ⟨0, _⟩ => rfl
    | ⟨1, _⟩ => rfl
    | ⟨2, _⟩ => exact hk
  have er : D.rhsIdx (ix3 (n0 := 32) (n1 := 12288) (n2 := 1536) e t c) ((contrEquiv1 _ 2048 hr hs).symm k) = ix3 (n0 := 32) (n1 := 2048) (n2 := 1536) e k c := by
    funext a; apply Fin.ext
    match a with
    | ⟨0, _⟩ => rfl
    | ⟨1, _⟩ => exact hk
    | ⟨2, _⟩ => rfl
  exact congrArg₂ (· * ·) (congrArg lhs el) (congrArg rhs er)

theorem dot2_apply (lhs : FVec Ideal S32x12288x768 .fp8e4m3) (rhs : FVec Ideal S32x768x2048 .fp8e4m3) (e : Fin 32) (t : Fin 12288) (c : Fin 2048) :
    matmul dot_S32x12288x768_S32x768x2048_S32x12288x2048_2_1_1_2_0_0 none lhs rhs (constant S32x12288x2048 .f32 0x00000000#32) (ix3 (n0 := 32) (n1 := 12288) (n2 := 2048) e t c)
      = ∑ k : Fin 768, lhs (ix3 (n0 := 32) (n1 := 12288) (n2 := 768) e t k) * rhs (ix3 (n0 := 32) (n1 := 768) (n2 := 2048) e k c) := by
  let D := dot_S32x12288x768_S32x768x2048_S32x12288x2048_2_1_1_2_0_0
  refine (Ideal.matmul_apply D none lhs rhs _ _).trans ?_
  refine (congrArg (· + _) ofBits_zero_f32).trans ((zero_add _).trans ?_)
  have hr : D.contr.rank = 1 := rfl
  have hs : D.contr.size ⟨0, by rw [hr]; exact Nat.one_pos⟩ = 768 := rfl
  rw [← Equiv.sum_comp (contrEquiv1 _ 768 hr hs).symm]
  refine Finset.sum_congr rfl fun k _ => ?_
  have hk := contrEquiv1_symm_val _ 768 hr hs k
  have el : D.lhsIdx (ix3 (n0 := 32) (n1 := 12288) (n2 := 2048) e t c) ((contrEquiv1 _ 768 hr hs).symm k) = ix3 (n0 := 32) (n1 := 12288) (n2 := 768) e t k := by
    funext a; apply Fin.ext
    match a with
    | ⟨0, _⟩ => rfl
    | ⟨1, _⟩ => rfl
    | ⟨2, _⟩ => exact hk
  have er : D.rhsIdx (ix3 (n0 := 32) (n1 := 12288) (n2 := 2048) e t c) ((contrEquiv1 _ 768 hr hs).symm k) = ix3 (n0 := 32) (n1 := 768) (n2 := 2048) e k c := by
    funext a; apply Fin.ext
    match a with
    | ⟨0, _⟩ => rfl
    | ⟨1, _⟩ => exact hk
    | ⟨2, _⟩ => rfl
  exact congrArg₂ (· * ·) (congrArg lhs el) (congrArg rhs er)

section Hidden

variable (x0 : Vec Ideal S12288x2048 .i8) (x5 : FVec Ideal S32x2048x1536 .fp8e4m3) (x1 : FVec Ideal S1x12288x1 .f32) (x6 : FVec Ideal S32x1x1536 .f32)

/-- Every expert's first product on every token, scaled. -/
def hidOf : FVec Ideal S32x12288x1536 .f32 :=
  mulf (mulf (matmul dot_S32x12288x2048_S32x2048x1536_S32x12288x1536_2_1_1_2_0_0 none
      (broadcastTo S32x12288x2048 (shapeCast S1x12288x2048 (shapeCast S1x12288x2048 (bitcastToFloat .fp8e4m3 (shapeCast S12288x2048 x0 shapeCasts_S12288x2048_S12288x2048 : IVec S12288x2048 8) : FVec Ideal S12288x2048 .fp8e4m3) shapeCasts_S12288x2048_S1x12288x2048) shapeCasts_S1x12288x2048_S1x12288x2048) broadcasts_S1x12288x2048_S32x12288x2048 : FVec Ideal S32x12288x2048 .fp8e4m3)
      x5 (constant S32x12288x1536 .f32 0x00000000#32))
    (broadcastTo S32x12288x1536 (shapeCast S1x12288x1 x1 shapeCasts_S1x12288x1_S1x12288x1) broadcasts_S1x12288x1_S32x12288x1536))
    (broadcastTo S32x12288x1536 x6 broadcasts_S32x1x1536_S32x12288x1536)

/-- The codes of a token, as numbers. -/
def codes (t : Fin 12288) (k : Fin 2048) : EReal := Ideal.ofBits .fp8e4m3 (x0 (ix2 (n0 := 12288) (n1 := 2048) t k))

/-- An expert's scaled columns for a token. -/
def hid (e : Fin 32) (t : Fin 12288) : Fin 1536 → EReal :=
  RowSpec.hid (codes x0 t) (x1 (ix3 (n0 := 1) (n1 := 12288) (n2 := 1) 0 t 0))
    (fun k c => x5 (ix3 (n0 := 32) (n1 := 2048) (n2 := 1536) e k c)) (fun c => x6 (ix3 (n0 := 32) (n1 := 1) (n2 := 1536) e 0 c))

theorem hidOf_apply (e : Fin 32) (t : Fin 12288) (j : Fin 1536) :
    hidOf x0 x5 x1 x6 (ix3 (n0 := 32) (n1 := 12288) (n2 := 1536) e t j) = hid x0 x5 x1 x6 e t j := by
  unfold hidOf hid RowSpec.hid codes
  rw [mulf_apply, mulf_apply]
  refine congrArg₂ (· * ·) (congrArg₂ (· * ·) ?_ ?_) ?_
  · refine (dot1_apply _ _ e t j).trans (Finset.sum_congr rfl fun k _ => ?_)
    refine congrArg (· * _) ?_
    refine (broadcastTo_apply _ _ _ (ix3 (n0 := 1) (n1 := 12288) (n2 := 2048) 0 t k) fun a => by fin_cases a <;> rfl).trans ?_
    rw [shapeCast_self]
    refine (shapeCast_ab_1ab_apply (a := 12288) (b := 2048) _ _ 0 t k).trans ?_
    rw [shapeCast_self]
    rfl
  · refine (broadcastTo_apply _ _ _ (ix3 (n0 := 1) (n1 := 12288) (n2 := 1) 0 t 0) fun a => by fin_cases a <;> rfl).trans ?_
    rw [shapeCast_self]
  · exact broadcastTo_apply _ _ _ (ix3 (n0 := 32) (n1 := 1) (n2 := 1536) e 0 j) fun a => by fin_cases a <;> rfl

theorem pay1_apply (e : Fin 32) (t : Fin 12288) (j : Fin 768) :
    k0_pay1 x0 x5 x1 x6 (ix3 (n0 := 32) (n1 := 12288) (n2 := 768) e t j) = RowSpec.act (hid x0 x5 x1 x6 e t) j := by
  have h0 := extractStridedSlice_apply ![0, 0, 0] (hidOf x0 x5 x1 x6) slices_S32x12288x1536_o0_0_0_S32x12288x768
    (ix3 (n0 := 32) (n1 := 12288) (n2 := 768) e t j) (ix3 (n0 := 32) (n1 := 12288) (n2 := 1536) e t ⟨j.val, by omega⟩)
    fun a => by fin_cases a <;> simp
  have h1 := extractStridedSlice_apply ![0, 0, 768] (hidOf x0 x5 x1 x6) slices_S32x12288x1536_o0_0_768_S32x12288x768
    (ix3 (n0 := 32) (n1 := 12288) (n2 := 768) e t j) (ix3 (n0 := 32) (n1 := 12288) (n2 := 1536) e t ⟨768 + j.val, by omega⟩)
    fun a => by fin_cases a <;> simp
  rw [hidOf_apply] at h0 h1
  unfold RowSpec.act
  rw [← h0, ← h1]
  rfl

theorem pay2_apply (e : Fin 32) (t : Fin 12288) :
    k0_pay2 x0 x5 x1 x6 (ix3 (n0 := 32) (n1 := 12288) (n2 := 1) e t 0) = RowSpec.quot (RowSpec.act (hid x0 x5 x1 x6 e t)) := by
  unfold k0_pay2 RowSpec.quot
  rw [mulf_apply]
  refine congrArg₂ (· * ·) ?_ rfl
  refine (shapeCast_apply _ _ _ (ix2 (n0 := 32) (n1 := 12288) e t) (by
    rw [Shape.rowMajor_val_two, Shape.rowMajor_val_three]; simp)).trans ?_
  refine (Ideal.multiReduction_maximumf_single _ _ _ _ _ _).trans ?_
  have hl : ∀ k : Fin 768, reduces_S32x12288x768_S32x12288.lift (ix2 (n0 := 32) (n1 := 12288) e t) k = ix3 (n0 := 32) (n1 := 12288) (n2 := 768) e t k := fun k => by
    funext a; fin_cases a <;> rfl
  refine (congrArg (fun z => Finset.fold max z _ _) ofBits_ninf_f32).trans ?_
  refine congrArg (fun f => Finset.fold max ⊥ f _) (funext fun k : Fin 768 => ?_)
  show (absf (k0_pay1 x0 x5 x1 x6) : FVec Ideal S32x12288x768 .f32) (reduces_S32x12288x768_S32x12288.lift (ix2 (n0 := 32) (n1 := 12288) e t) k) = _
  rw [hl k, ← pay1_apply x0 x5 x1 x6 e t k]; rfl

end Hidden

section Result

variable (x0 : Vec Ideal S12288x2048 .i8) (x1 : FVec Ideal S1x12288x1 .f32) (x2 : FVec Ideal S32x12288x1 .f32) (x3 : IVec S32x12288x1 32)
  (x4 : FVec Ideal S1x1x252 .f32) (x5 : FVec Ideal S32x2048x1536 .fp8e4m3) (x6 : FVec Ideal S32x1x1536 .f32)
  (x7 : FVec Ideal S32x768x2048 .fp8e4m3) (x8 : FVec Ideal S32x1x2048 .f32)

/-- The comparison "at least", as a bit. -/
theorem cmp_oge (x y : EReal) : (Ideal.cmp .oge x y = 1#1) ↔ y ≤ x := by
  unfold Ideal.cmp; by_cases h : y ≤ x <;> simp [h]

/-- The comparison "equal", as a bit. -/
theorem cmp_oeq (x y : EReal) : (Ideal.cmp .oeq x y = 1#1) ↔ x = y := by
  unfold Ideal.cmp; by_cases h : x = y <;> simp [h]

theorem pay3_apply (h4 : ∀ i : Fin 252, x4 (ix3 (n0 := 1) (n1 := 1) (n2 := 252) 0 0 i) = Scale.pow2 (i.val + 1)) (e : Fin 32) (t : Fin 12288) :
    k0_pay3 x0 x5 x1 x6 x4 (ix3 (n0 := 32) (n1 := 12288) (n2 := 1) e t 0) = Scale.below (RowSpec.quot (RowSpec.act (hid x0 x5 x1 x6 e t))) := by
  have hq := pay2_apply x0 x5 x1 x6 e t
  unfold k0_pay3 Scale.below
  refine (shapeCast_apply _ _ _ (ix2 (n0 := 32) (n1 := 12288) e t) (by
    rw [Shape.rowMajor_val_two, Shape.rowMajor_val_three]; simp)).trans ?_
  refine (Ideal.multiReduction_maximumf_single _ _ _ _ _ _).trans ?_
  have hl : ∀ k : Fin 252, reduces_S32x12288x252_S32x12288.lift (ix2 (n0 := 32) (n1 := 12288) e t) k = ix3 (n0 := 32) (n1 := 12288) (n2 := 252) e t k := fun k => by
    funext a; fin_cases a <;> rfl
  refine (congrArg (fun z => Finset.fold max z _ _) ofBits_ninf_f32).trans ?_
  refine congrArg (fun f => Finset.fold max ⊥ f _) (funext fun k : Fin 252 => ?_)
  show (select _ _ _ : FVec Ideal S32x12288x252 .f32) (reduces_S32x12288x252_S32x12288.lift (ix2 (n0 := 32) (n1 := 12288) e t) k) = _
  rw [hl k]
  rw [shapeCast_self, shapeCast_self]
  have hb : broadcastTo S32x12288x252 x4 broadcasts_S1x1x252_S32x12288x252 (ix3 (n0 := 32) (n1 := 12288) (n2 := 252) e t k) = Scale.pow2 (k.val + 1) :=
    (broadcastTo_apply _ _ _ (ix3 (n0 := 1) (n1 := 1) (n2 := 252) 0 0 k) fun a => by fin_cases a <;> rfl).trans (h4 k)
  have hb' : broadcastTo S32x12288x252 (k0_pay2 x0 x5 x1 x6) broadcasts_S32x12288x1_S32x12288x252 (ix3 (n0 := 32) (n1 := 12288) (n2 := 252) e t k)
      = RowSpec.quot (RowSpec.act (hid x0 x5 x1 x6 e t)) :=
    (broadcastTo_apply _ _ _ (ix3 (n0 := 32) (n1 := 12288) (n2 := 1) e t 0) fun a => by fin_cases a <;> rfl).trans hq
  show (if Ideal.cmp .oge (broadcastTo S32x12288x252 (k0_pay2 x0 x5 x1 x6) broadcasts_S32x12288x1_S32x12288x252 (ix3 (n0 := 32) (n1 := 12288) (n2 := 252) e t k))
      (broadcastTo S32x12288x252 x4 broadcasts_S1x1x252_S32x12288x252 (ix3 (n0 := 32) (n1 := 12288) (n2 := 252) e t k)) = 1#1
    then broadcastTo S32x12288x252 x4 broadcasts_S1x1x252_S32x12288x252 (ix3 (n0 := 32) (n1 := 12288) (n2 := 252) e t k) else Ideal.ofBits .f32 0#32) = _
  rw [hb, hb', ofBits_zero_f32]
  simp only [cmp_oge]

/-- The scale vector. -/
def scaleOf (v24 v35 : FVec Ideal S32x12288x1 .f32) (v37 : IVec S32x12288x1 1) (v38 : FVec Ideal S32x12288x1 .f32) : FVec Ideal S32x12288x1 .f32 :=
  select (ori v37 (cmpf .oeq v24 v38)) (broadcast S32x12288x1 (Scalar.ofBits .f32 0x3F800000#32 : Ideal .f32))
    (mulf (broadcast S32x12288x1 (Scalar.ofBits .f32 0x40000000#32 : Ideal .f32)) v35)

theorem scaleOf_apply (h4 : ∀ i : Fin 252, x4 (ix3 (n0 := 1) (n1 := 1) (n2 := 252) 0 0 i) = Scale.pow2 (i.val + 1)) (e : Fin 32) (t : Fin 12288) :
    scaleOf (k0_pay2 x0 x5 x1 x6) (k0_pay3 x0 x5 x1 x6 x4) (k0_pay4 x0 x5 x1 x6 x4) k0_pay5 (ix3 (n0 := 32) (n1 := 12288) (n2 := 1) e t 0)
      = Scale.scale (RowSpec.quot (RowSpec.act (hid x0 x5 x1 x6 e t))) := by
  have e1 : ∀ a b : BitVec 1, (IntOp.ori a b = 1#1) ↔ (a = 1#1 ∨ b = 1#1) := by decide
  unfold Scale.scale
  have h2 := pay2_apply x0 x5 x1 x6 e t
  have h3 := pay3_apply x0 x1 x4 x5 x6 h4 e t
  have h4' : k0_pay4 x0 x5 x1 x6 x4 (ix3 (n0 := 32) (n1 := 12288) (n2 := 1) e t 0)
      = Ideal.cmp .oeq (Scale.below (RowSpec.quot (RowSpec.act (hid x0 x5 x1 x6 e t)))) 0 := by
    have kc : ∀ (v w : FVec Ideal S32x12288x1 .f32) (i : S32x12288x1.Idx), cmpf .oeq v w i = Ideal.cmp .oeq (v i) (w i) := fun _ _ _ => rfl
    unfold k0_pay4
    refine (kc _ _ _).trans ?_
    rw [h3]
    exact congrArg (Ideal.cmp .oeq _) ofBits_zero_f32
  have h5 : k0_pay5 (F := Ideal) (ix3 (n0 := 32) (n1 := 12288) (n2 := 1) e t 0) = ⊤ := ofBits_inf_f32
  have key : ∀ (v24 v35 v38 : FVec Ideal S32x12288x1 .f32) (v37 : IVec S32x12288x1 1) (i : S32x12288x1.Idx), scaleOf v24 v35 v37 v38 i
      = if IntOp.ori (v37 i) (Ideal.cmp .oeq (v24 i) (v38 i)) = 1#1 then Ideal.ofBits .f32 0x3F800000#32 else Ideal.ofBits .f32 0x40000000#32 * v35 i :=
    fun _ _ _ _ _ => rfl
  rw [key, h2, h3, h4', h5, ofBits_one_f32, ofBits_two_f32]
  simp only [e1, cmp_oeq]

/-- The clipped and scaled activations. -/
def codesOf (v19 : FVec Ideal S32x12288x768 .f32) (s : FVec Ideal S32x12288x1 .f32) : FVec Ideal S32x12288x768 .fp8e4m3 :=
  truncf .fp8e4m3 (minimumf (broadcast S32x12288x768 (Scalar.ofBits .f32 0x43E00000#32 : Ideal .f32))
    (maximumf (broadcast S32x12288x768 (Scalar.ofBits .f32 0xC3E00000#32 : Ideal .f32))
      (mulf v19 (broadcastTo S32x12288x768 (divf (broadcast S32x12288x1 (Scalar.ofBits .f32 0x3F800000#32 : Ideal .f32)) s) broadcasts_S32x12288x1_S32x12288x768)))) bitsLt_fp8e4m3_f32

theorem codesOf_apply (v19 : FVec Ideal S32x12288x768 .f32) (s : FVec Ideal S32x12288x1 .f32) (e : Fin 32) (t : Fin 12288) (j : Fin 768) :
    codesOf v19 s (ix3 (n0 := 32) (n1 := 12288) (n2 := 768) e t j)
      = RowSpec.code (fun j => v19 (ix3 (n0 := 32) (n1 := 12288) (n2 := 768) e t j)) (Ideal.div 1 (s (ix3 (n0 := 32) (n1 := 12288) (n2 := 1) e t 0))) j := by
  have hb : broadcastTo S32x12288x768 (divf (broadcast S32x12288x1 (Scalar.ofBits .f32 0x3F800000#32 : Ideal .f32)) s) broadcasts_S32x12288x1_S32x12288x768 (ix3 (n0 := 32) (n1 := 12288) (n2 := 768) e t j)
      = Ideal.div 1 (s (ix3 (n0 := 32) (n1 := 12288) (n2 := 1) e t 0)) :=
    (broadcastTo_apply _ _ _ (ix3 (n0 := 32) (n1 := 12288) (n2 := 1) e t 0) fun a => by fin_cases a <;> rfl).trans
      (congrArg (Ideal.div · _) ofBits_one_f32)
  unfold RowSpec.code
  rw [← hb]
  rfl

/-- Every expert's rows. -/
def rowsOf (v : FVec Ideal S32x12288x768 .fp8e4m3) (s : FVec Ideal S32x12288x1 .f32) : FVec Ideal S32x12288x2048 .f32 :=
  mulf (mulf (matmul dot_S32x12288x768_S32x768x2048_S32x12288x2048_2_1_1_2_0_0 none v x7 (constant S32x12288x2048 .f32 0x00000000#32))
      (broadcastTo S32x12288x2048 (mulf s (shapeCast S32x12288x1 x2 shapeCasts_S32x12288x1_S32x12288x1)) broadcasts_S32x12288x1_S32x12288x2048))
    (broadcastTo S32x12288x2048 x8 broadcasts_S32x1x2048_S32x12288x2048)

theorem rowsOf_apply (v : FVec Ideal S32x12288x768 .fp8e4m3) (s : FVec Ideal S32x12288x1 .f32) (e : Fin 32) (t : Fin 12288) (c : Fin 2048) :
    rowsOf x2 x7 x8 v s (ix3 (n0 := 32) (n1 := 12288) (n2 := 2048) e t c)
      = RowSpec.out (fun j => v (ix3 (n0 := 32) (n1 := 12288) (n2 := 768) e t j)) (s (ix3 (n0 := 32) (n1 := 12288) (n2 := 1) e t 0))
          (x2 (ix3 (n0 := 32) (n1 := 12288) (n2 := 1) e t 0)) (fun k c => x7 (ix3 (n0 := 32) (n1 := 768) (n2 := 2048) e k c))
          (fun c => x8 (ix3 (n0 := 32) (n1 := 1) (n2 := 2048) e 0 c)) c := by
  unfold rowsOf RowSpec.out
  rw [mulf_apply, mulf_apply]
  refine congrArg₂ (· * ·) (congrArg₂ (· * ·) ?_ ?_) ?_
  · exact dot2_apply _ _ e t c
  · rw [shapeCast_self]
    exact broadcastTo_apply (mulf s x2) _ _ (ix3 (n0 := 32) (n1 := 12288) (n2 := 1) e t 0) fun a => by fin_cases a <;> rfl
  · exact broadcastTo_apply _ _ _ (ix3 (n0 := 32) (n1 := 1) (n2 := 2048) e 0 c) fun a => by fin_cases a <;> rfl

/-- The expert's row for a token, from the reference's arrays. -/
def row (e : Fin 32) (t : Fin 12288) : Fin 2048 → EReal :=
  RowSpec.row (codes x0 t) (x1 (ix3 (n0 := 1) (n1 := 12288) (n2 := 1) 0 t 0)) (x2 (ix3 (n0 := 32) (n1 := 12288) (n2 := 1) e t 0))
    (fun k c => x5 (ix3 (n0 := 32) (n1 := 2048) (n2 := 1536) e k c)) (fun c => x6 (ix3 (n0 := 32) (n1 := 1) (n2 := 1536) e 0 c))
    (fun k c => x7 (ix3 (n0 := 32) (n1 := 768) (n2 := 2048) e k c)) (fun c => x8 (ix3 (n0 := 32) (n1 := 1) (n2 := 2048) e 0 c))

/-- The result at a token and a column. -/
theorem pay6_apply (h4 : ∀ i : Fin 252, x4 (ix3 (n0 := 1) (n1 := 1) (n2 := 252) 0 0 i) = Scale.pow2 (i.val + 1)) (t : Fin 12288) (c : Fin 2048) :
    k0_pay6 (k0_pay1 x0 x5 x1 x6) (k0_pay2 x0 x5 x1 x6) (k0_pay3 x0 x5 x1 x6 x4) (k0_pay4 x0 x5 x1 x6 x4) k0_pay5 x7 x2 x8 x3 (ix2 (n0 := 12288) (n1 := 2048) t c)
      = ∑ e : Fin 32, if x3 (ix3 (n0 := 32) (n1 := 12288) (n2 := 1) e t 0) ≠ 0#32 then row x0 x1 x2 x5 x6 x7 x8 e t c else 0 := by
  unfold k0_pay6
  have key : ∀ (src : FVec Ideal S32x12288x2048 .f32) (acc : BitVec 32) (h : S32x12288x2048.Reduces [0] S12288x2048) (hφ : FKind.Formats .f32)
      (hacc : acc = FKind.add.neutral .f32 hφ) (hb : FTy.bf16.bits < FTy.f32.bits),
      (truncf .bf16 (multiReduction FKind.add [0] S12288x2048 src acc h hφ hacc) hb) (ix2 (n0 := 12288) (n1 := 2048) t c)
        = ∑ k, src (h.lift (ix2 (n0 := 12288) (n1 := 2048) t c) k) := fun src acc h hφ hacc _ =>
    Ideal.multiReduction_add_single src acc h hφ hacc _
  refine (key _ _ _ _ _ _).trans ?_
  have hl : ∀ k : Fin 32, reduces_S32x12288x2048_S12288x2048.lift (ix2 (n0 := 12288) (n1 := 2048) t c) k = ix3 (n0 := 32) (n1 := 12288) (n2 := 2048) k t c := fun k => by
    funext a; fin_cases a <;> rfl
  refine Finset.sum_congr rfl fun (e : Fin 32) _ => ?_
  rw [hl e]
  have e' : ∀ a b : BitVec 32, (IntOp.cmpi .ne a b = 1#1) ↔ a ≠ b := fun a b => by
    show BitVec.ofBool (a != b) = 1#1 ↔ _
    by_cases h : a = b
    · simp [h]
    · rw [bne_iff_ne.2 h]; simp [h]
  have hr := rowsOf_apply x2 x7 x8 (codesOf (k0_pay1 x0 x5 x1 x6) (scaleOf (k0_pay2 x0 x5 x1 x6) (k0_pay3 x0 x5 x1 x6 x4) (k0_pay4 x0 x5 x1 x6 x4) k0_pay5))
    (scaleOf (k0_pay2 x0 x5 x1 x6) (k0_pay3 x0 x5 x1 x6 x4) (k0_pay4 x0 x5 x1 x6 x4) k0_pay5) e t c
  simp only [codesOf_apply, scaleOf_apply x0 x1 x4 x5 x6 h4, pay1_apply] at hr
  have hc : broadcastTo S32x12288x2048 (cmpi .ne x3 (broadcast S32x12288x1 0#32)) broadcasts_S32x12288x1_S32x12288x2048 (ix3 (n0 := 32) (n1 := 12288) (n2 := 2048) e t c)
      = IntOp.cmpi .ne (x3 (ix3 (n0 := 32) (n1 := 12288) (n2 := 1) e t 0)) 0#32 :=
    broadcastTo_apply _ _ _ (ix3 (n0 := 32) (n1 := 12288) (n2 := 1) e t 0) fun a => by fin_cases a <;> rfl
  simp only [← e']
  rw [← hc]
  rw [shapeCast_self, shapeCast_self x3]
  unfold row RowSpec.row
  refine Eq.trans ?_ (congrArg (fun z => if _ = 1#1 then z else (0 : EReal)) hr)
  rw [← ofBits_zero_f32]
  rfl

end Result

end Cert.ReferenceIdeal.Rows

end
-- ==== Proof.RefRun.lean ====
/-
  The reference's kernel has one grid point and takes and leaves whole arrays: its result array is its last payload of the arrays
  its host lines left.
-/
module

public import proofs.«01_k».proof.Proof.Gen.ReferenceIdeal.Value
public import proofs.«01_k».proof.Proof.RefValue
public import Idealize.ShloMosaic.Lib.Pipeline.ValueKit.Basic

@[expose] public section

noncomputable section

namespace Cert.ReferenceIdeal.Rows

open Cert.ReferenceIdeal Cert.ReferenceIdeal.Gen Idealize.ShloMosaic Idealize.ShloMosaic.ValueIdx Idealize.ShloMosaic.TcCoe

attribute [local instance] Cert.ReferenceIdeal.Gen.facts

variable (m : (ℓ : Loc nD τ sig) → Buf (Elt Ideal) ℓ)

/-- The one store leaves its payload of the whole blocks. -/
theorem out_eq (x0 : Vec Ideal S12288x2048 .i8) (x1 : Vec Ideal S1x12288x1 .f32) (x2 : Vec Ideal S32x12288x1 .f32) (x3 : Vec Ideal S32x12288x1 .i32)
    (x4 : Vec Ideal S1x1x252 .f32) (x5 : Vec Ideal S32x2048x1536 .fp8e4m3) (x6 : Vec Ideal S32x1x1536 .f32) (x7 : Vec Ideal S32x768x2048 .fp8e4m3)
    (x8 : Vec Ideal S32x1x2048 .f32) :
    out0_9 x0 x1 x2 x3 x4 x5 x6 x7 x8 = k0_pay6 (k0_pay1 x0 x5 x1 x6) (k0_pay2 x0 x5 x1 x6) (k0_pay3 x0 x5 x1 x6 x4) (k0_pay4 x0 x5 x1 x6 x4) k0_pay5 x7 x2 x8 x3 := by
  unfold out0_9
  rw [View.canon_cons_unit_lit _ _ _ (by decide), View.ld_unit_lit _ x0 (by decide), View.ld_unit_lit _ x1 (by decide), View.ld_unit_lit _ x2 (by decide),
    View.ld_unit_lit _ x3 (by decide), View.ld_unit_lit _ x4 (by decide), View.ld_unit_lit _ x5 (by decide), View.ld_unit_lit _ x6 (by decide),
    View.ld_unit_lit _ x7 (by decide), View.ld_unit_lit _ x8 (by decide)]

/-- The arrays the kernel is launched on. -/
abbrev arr0 (c : Dev nD) : Vec Ideal S12288x2048 .i8 := V m c main_v38
abbrev arr1 (c : Dev nD) : FVec Ideal S1x12288x1 .f32 := V m c main_v43
abbrev arr2 (c : Dev nD) : FVec Ideal S32x12288x1 .f32 := V m c main_v46
abbrev arr3 (c : Dev nD) : IVec S32x12288x1 32 := V m c main_v14
abbrev arr4 (c : Dev nD) : FVec Ideal S1x1x252 .f32 := V m c main_v47
abbrev arr5 (c : Dev nD) : FVec Ideal S32x2048x1536 .fp8e4m3 := V m c main_arg4
abbrev arr6 (c : Dev nD) : FVec Ideal S32x1x1536 .f32 := V m c main_arg5
abbrev arr7 (c : Dev nD) : FVec Ideal S32x768x2048 .fp8e4m3 := V m c main_arg6
abbrev arr8 (c : Dev nD) : FVec Ideal S32x1x2048 .f32 := V m c main_arg7

/-! ## A whole window's block is its array -/

theorem iblk0 (c : Dev nD) (t : Fin cfg0.N) : iblk m c 0 t = arr0 m c := by
  funext y; show V m c main_v38 _ = V m c main_v38 _
  congr 1; funext a; apply Fin.ext
  show 0 * _ + 1 * (y a).val = _; omega

theorem iblk1 (c : Dev nD) (t : Fin cfg0.N) : iblk m c 1 t = arr1 m c := by
  funext y; show V m c main_v43 _ = V m c main_v43 _
  congr 1; funext a; apply Fin.ext
  show 0 * _ + 1 * (y a).val = _; omega

theorem iblk2 (c : Dev nD) (t : Fin cfg0.N) : iblk m c 2 t = arr2 m c := by
  funext y; show V m c main_v46 _ = V m c main_v46 _
  congr 1; funext a; apply Fin.ext
  show 0 * _ + 1 * (y a).val = _; omega

theorem iblk3 (c : Dev nD) (t : Fin cfg0.N) : iblk m c 3 t = arr3 m c := by
  funext y; show V m c main_v14 _ = V m c main_v14 _
  congr 1; funext a; apply Fin.ext
  show 0 * _ + 1 * (y a).val = _; omega

theorem iblk4 (c : Dev nD) (t : Fin cfg0.N) : iblk m c 4 t = arr4 m c := by
  funext y; show V m c main_v47 _ = V m c main_v47 _
  congr 1; funext a; apply Fin.ext
  show 0 * _ + 1 * (y a).val = _; omega

theorem iblk5 (c : Dev nD) (t : Fin cfg0.N) : iblk m c 5 t = arr5 m c := by
  funext y; show V m c main_arg4 _ = V m c main_arg4 _
  congr 1; funext a; apply Fin.ext
  show 0 * _ + 1 * (y a).val = _; omega

theorem iblk6 (c : Dev nD) (t : Fin cfg0.N) : iblk m c 6 t = arr6 m c := by
  funext y; show V m c main_arg5 _ = V m c main_arg5 _
  congr 1; funext a; apply Fin.ext
  show 0 * _ + 1 * (y a).val = _; omega

theorem iblk7 (c : Dev nD) (t : Fin cfg0.N) : iblk m c 7 t = arr7 m c := by
  funext y; show V m c main_arg6 _ = V m c main_arg6 _
  congr 1; funext a; apply Fin.ext
  show 0 * _ + 1 * (y a).val = _; omega

theorem iblk8 (c : Dev nD) (t : Fin cfg0.N) : iblk m c 8 t = arr8 m c := by
  funext y; show V m c main_arg7 _ = V m c main_arg7 _
  congr 1; funext a; apply Fin.ext
  show 0 * _ + 1 * (y a).val = _; omega

/-- The result array after the run is the last payload of the arrays before it. -/
theorem arr_eq (c : Dev nD) (y : S12288x2048.Idx) :
    (dats m 0 c).arrAt 9 cfg0.N y
      = k0_pay6 (k0_pay1 (arr0 m c) (arr5 m c) (arr1 m c) (arr6 m c)) (k0_pay2 (arr0 m c) (arr5 m c) (arr1 m c) (arr6 m c))
          (k0_pay3 (arr0 m c) (arr5 m c) (arr1 m c) (arr6 m c) (arr4 m c)) (k0_pay4 (arr0 m c) (arr5 m c) (arr1 m c) (arr6 m c) (arr4 m c)) k0_pay5
          (arr7 m c) (arr2 m c) (arr8 m c) (arr3 m c) y := by
  have h := congrFun (Value.blocks9 m c t0_0 (by decide)) y
  rw [Value.flushed9, iblk0, iblk1, iblk2, iblk3, iblk4, iblk5, iblk6, iblk7, iblk8, out_eq] at h
  have e : (((cfg0.win 9).blk t0_0).view.emb y : S12288x2048.Idx) = y := by
    funext a; apply Fin.ext
    show 0 * _ + 1 * (y a).val = _; omega
  generalize (dats m 0 c).arrAt 9 cfg0.N = A at h ⊢
  generalize k0_pay6 (F := Ideal) _ _ _ _ _ _ _ _ _ = z at h ⊢
  have g : ((cfg0.win 9).blk t0_0).view.read (Elt Ideal) A y = A y := congrArg A e
  exact g.symm.trans (h.trans rfl)

end Cert.ReferenceIdeal.Rows
-- ==== Proof.RefHost.lean ====
/-
  The reference's host lines, read at an index: the packed words of a token, its code bytes, scale and gates, the table of powers,
  and the bit that says whether an expert is chosen for a token.
-/
module

public import proofs.«01_k».proof.Proof.Gen.ReferenceIdeal.Frame
public import proofs.«01_k».proof.Proof.PreValid
public import proofs.«01_k».proof.Proof.Scale
public import Idealize.ShloMosaic.Lib.StableHlo.RunRead

@[expose] public section

noncomputable section

namespace Cert.ReferenceIdeal.Rows

open Cert.ReferenceIdeal Cert.ReferenceIdeal.Gen Idealize.ShloMosaic Idealize.ShloMosaic.ValueIdx Idealize.ShloMosaic.TcCoe
open Cert.Proof Cert.Proof.PreValid

attribute [local instance] Cert.ReferenceIdeal.Gen.facts

/-- Token `u` of block `b` among all tokens. -/
def tok (b : Fin 8) (u : Fin 1536) : Fin 12288 := ⟨1536 * b.val + u.val, by omega⟩

/-! ## The packed words -/

/-- The five rows of words of every token. -/
def words (x : IVec S8x7720x128 32) : IVec S12288x5x128 32 :=
  shapeCast S12288x5x128 (extractStridedSlice S8x1536x5x128 ![0, 0, 0, 0] (shapeCast S8x1544x5x128 x shapeCasts_S8x7720x128_S8x1544x5x128)
    slices_S8x1544x5x128_S8x1536x5x128_0_0_0_0) shapeCasts_S8x1536x5x128_S12288x5x128

theorem words_apply (x : IVec S8x7720x128 32) (b : Fin 8) (u : Fin 1536) (r : Fin 5) (l : Fin 128) :
    words x (ix3 (n0 := 12288) (n1 := 5) (n2 := 128) (tok b u) r l) = x (ix3 (n0 := 8) (n1 := 7720) (n2 := 128) b ⟨u.val * 5 + r.val, by omega⟩ l) := by
  unfold words
  refine (shapeCast_apply _ _ _ (ix4 (n0 := 8) (n1 := 1536) (n2 := 5) (n3 := 128) b u r l) (by
    rw [Shape.rowMajor_val_four, Shape.rowMajor_val_three]
    show ((b.val * 1536 + u.val) * 5 + r.val) * 128 + l.val = ((1536 * b.val + u.val) * 5 + r.val) * 128 + l.val
    omega)).trans ?_
  refine (extractStridedSlice_apply _ _ _ _ (ix4 (n0 := 8) (n1 := 1544) (n2 := 5) (n3 := 128) b ⟨u.val, by omega⟩ r l) (fun a => by
    fin_cases a <;> simp)).trans ?_
  exact shapeCast_apply _ _ _ (ix3 (n0 := 8) (n1 := 7720) (n2 := 128) b ⟨u.val * 5 + r.val, by omega⟩ l) (by
    rw [Shape.rowMajor_val_four, Shape.rowMajor_val_three]
    show (b.val * 7720 + (u.val * 5 + r.val)) * 128 + l.val = ((b.val * 1544 + u.val) * 5 + r.val) * 128 + l.val
    omega)

/-- Byte `s / 8` of the code words. -/
def bytesAt (s : BitVec 32) (x : IVec S8x7720x128 32) : IVec S12288x512 8 :=
  shapeCast S12288x512 (trunci 8 (Host.shrsi (extractStridedSlice S12288x4x128 ![0, 0, 0] (words x) slices_S12288x5x128_S12288x4x128_0_0_0)
    (broadcastInDim S12288x4x128 ![] bcast_S_S12288x4x128 (constantI S_ 32 s))) natLt_8_32) shapeCasts_S12288x4x128_S12288x512

theorem bytesAt_apply (s : BitVec 32) (hs : s.toNat < 32) (x : IVec S8x7720x128 32) (b : Fin 8) (u : Fin 1536) (r : Fin 4) (l : Fin 128) :
    bytesAt s x (ix2 (n0 := 12288) (n1 := 512) (tok b u) ⟨128 * r.val + l.val, by omega⟩)
      = (IntOp.shrsi .vector (x (ix3 (n0 := 8) (n1 := 7720) (n2 := 128) b ⟨u.val * 5 + r.val, by omega⟩ l)) s).truncate 8 := by
  unfold bytesAt
  refine (shapeCast_apply _ _ _ (ix3 (n0 := 12288) (n1 := 4) (n2 := 128) (tok b u) r l) (by
    rw [Shape.rowMajor_val_three, Shape.rowMajor_val_two]
    show ((tok b u).val * 4 + r.val) * 128 + l.val = (tok b u).val * 512 + (128 * r.val + l.val)
    omega)).trans ?_
  have h : extractStridedSlice S12288x4x128 ![0, 0, 0] (words x) slices_S12288x5x128_S12288x4x128_0_0_0 (ix3 (n0 := 12288) (n1 := 4) (n2 := 128) (tok b u) r l)
      = x (ix3 (n0 := 8) (n1 := 7720) (n2 := 128) b ⟨u.val * 5 + r.val, by omega⟩ l) :=
    (extractStridedSlice_apply _ _ _ _ (ix3 (n0 := 12288) (n1 := 5) (n2 := 128) (tok b u) ⟨r.val, by omega⟩ l) (fun a => by
      fin_cases a <;> simp)).trans (words_apply x b u ⟨r.val, by omega⟩ l)
  show (IntOp.shrsi .host (extractStridedSlice S12288x4x128 ![0, 0, 0] (words x) slices_S12288x5x128_S12288x4x128_0_0_0 (ix3 (n0 := 12288) (n1 := 4) (n2 := 128) (tok b u) r l)) s).truncate 8 = _
  rw [h]
  unfold IntOp.shrsi
  rw [if_pos hs, if_pos hs]

/-- The floats of the last row of words. -/
def lastRow (x : IVec S8x7720x128 32) : FVec Ideal S12288x128 .f32 :=
  bitcastToFloat .f32 (shapeCast S12288x128 (extractStridedSlice S12288x1x128 ![0, 4, 0] (words x) slices_S12288x5x128_S12288x1x128_0_4_0)
    shapeCasts_S12288x1x128_S12288x128)

theorem lastRow_apply (x : IVec S8x7720x128 32) (b : Fin 8) (u : Fin 1536) (l : Fin 128) :
    lastRow x (ix2 (n0 := 12288) (n1 := 128) (tok b u) l)
      = Ideal.ofBits .f32 (x (ix3 (n0 := 8) (n1 := 7720) (n2 := 128) b ⟨u.val * 5 + 4, by omega⟩ l)) := by
  unfold lastRow
  show Ideal.ofBits .f32 (shapeCast _ _ _ _) = _
  refine congrArg (Ideal.ofBits .f32) ?_
  refine (shapeCast_apply _ _ _ (ix3 (n0 := 12288) (n1 := 1) (n2 := 128) (tok b u) 0 l) (by
    rw [Shape.rowMajor_val_three, Shape.rowMajor_val_two]; simp)).trans ?_
  exact (extractStridedSlice_apply _ _ _ _ (ix3 (n0 := 12288) (n1 := 5) (n2 := 128) (tok b u) 4 l) (fun a => by
      fin_cases a <;> simp)).trans (words_apply x b u 4 l)

/-- The token scales. -/
def scales (x : IVec S8x7720x128 32) : FVec Ideal S1x12288x1 .f32 :=
  broadcastInDim S1x12288x1 ![1, 2] bcast_S12288x1_S1x12288x1_1_2 (extractStridedSlice S12288x1 ![0, 32] (lastRow x) slices_S12288x128_S12288x1_0_32)

theorem scales_apply (x : IVec S8x7720x128 32) (b : Fin 8) (u : Fin 1536) :
    scales x (ix3 (n0 := 1) (n1 := 12288) (n2 := 1) 0 (tok b u) 0)
      = Ideal.ofBits .f32 (x (ix3 (n0 := 8) (n1 := 7720) (n2 := 128) b ⟨u.val * 5 + 4, by omega⟩ 32)) := by
  unfold scales
  refine (broadcastInDim_apply _ _ _ _ (ix2 (n0 := 12288) (n1 := 1) (tok b u) 0) (fun a => by fin_cases a <;> rfl)).trans ?_
  exact (extractStridedSlice_apply _ _ _ _ (ix2 (n0 := 12288) (n1 := 128) (tok b u) 32) (fun a => by
      fin_cases a <;> simp)).trans (lastRow_apply x b u 32)

/-- The gates. -/
def gates (x : IVec S8x7720x128 32) : FVec Ideal S32x12288x1 .f32 :=
  broadcastInDim S32x12288x1 ![0, 1] bcast_S32x12288_S32x12288x1_0_1 (transpose S32x12288 [1, 0]
    (extractStridedSlice S12288x32 ![0, 0] (lastRow x) slices_S12288x128_S12288x32_0_0) transposes_S12288x32_S32x12288_1_0)

theorem gates_apply (x : IVec S8x7720x128 32) (b : Fin 8) (u : Fin 1536) (e : Fin 32) :
    gates x (ix3 (n0 := 32) (n1 := 12288) (n2 := 1) e (tok b u) 0)
      = Ideal.ofBits .f32 (x (ix3 (n0 := 8) (n1 := 7720) (n2 := 128) b ⟨u.val * 5 + 4, by omega⟩ ⟨e.val, by omega⟩)) := by
  unfold gates
  refine (broadcastInDim_apply _ _ _ _ (ix2 (n0 := 32) (n1 := 12288) e (tok b u)) (fun a => by fin_cases a <;> rfl)).trans ?_
  refine (transpose_apply _ _ _ _ (ix2 (n0 := 12288) (n1 := 32) (tok b u) e) (fun a => by fin_cases a <;> rfl)).trans ?_
  exact (extractStridedSlice_apply _ _ _ _ (ix2 (n0 := 12288) (n1 := 128) (tok b u) ⟨e.val, by omega⟩) (fun a => by
      fin_cases a <;> simp)).trans (lastRow_apply x b u ⟨e.val, by omega⟩)

/-! ## The code bytes side by side -/

/-- The code bytes of every token. -/
def codeBytes (x : IVec S8x7720x128 32) : IVec S12288x2048 8 :=
  concatenate S12288x2048 1 [⟨S12288x512, bytesAt 0#32 x⟩, ⟨S12288x512, bytesAt 8#32 x⟩, ⟨S12288x512, bytesAt 16#32 x⟩, ⟨S12288x512, bytesAt 24#32 x⟩]
    concatenates_S12288x512_S12288x512_S12288x512_S12288x512_S12288x2048_d1

theorem codeBytes_apply (x : IVec S8x7720x128 32) (b : Fin 8) (u : Fin 1536) (j r : Fin 4) (l : Fin 128) :
    codeBytes x (ix2 (n0 := 12288) (n1 := 2048) (tok b u) ⟨128 * (4 * j.val + r.val) + l.val, by omega⟩)
      = (IntOp.shrsi .vector (x (ix3 (n0 := 8) (n1 := 7720) (n2 := 128) b ⟨u.val * 5 + r.val, by omega⟩ l)) (BitVec.ofNat 32 (8 * j.val))).truncate 8 := by
  rw [← bytesAt_apply (BitVec.ofNat 32 (8 * j.val)) (by rw [BitVec.toNat_ofNat]; omega) x b u r l]
  unfold codeBytes
  exact concatenate_ofFn_apply (s₁ := S12288x512) 1 (fun j : Fin 4 => bytesAt (BitVec.ofNat 32 (8 * j.val)) x)
    concatenates_S12288x512_S12288x512_S12288x512_S12288x512_S12288x2048_d1 rfl 512 rfl
    (ix2 (n0 := 12288) (n1 := 2048) (tok b u) ⟨128 * (4 * j.val + r.val) + l.val, by omega⟩) j
    (by show (128 * (4 * j.val + r.val) + l.val) / 512 = j.val; omega)
    (ix2 (n0 := 12288) (n1 := 512) (tok b u) ⟨128 * r.val + l.val, by omega⟩)
    (by show 128 * r.val + l.val = (128 * (4 * j.val + r.val) + l.val) % 512; omega)
    (fun a ha => by fin_cases a; · rfl
                    · exact absurd rfl ha)

/-! ## The chosen experts -/

/-- Which expert is chosen for which token, as words. -/
def chosen (cnt off : IVec S8x32 32) (pos : IVec S8x8x1536 32) : IVec S32x12288x1 32 :=
  extui 32 (shapeCast S32x12288x1 (transpose S32x8x1536 [1, 0, 2] (Host.reduce IntOp.ori
    (andi (cmpi .sle (broadcastInDim S8x32x8x1536 ![0, 1, 2, 3] bcast_S8x32x1x1_S8x32x8x1536_0_1_2_3 (broadcastInDim S8x32x1x1 ![0, 1] bcast_S8x32_S8x32x1x1_0_1 off))
        (broadcastInDim S8x32x8x1536 ![0, 1, 2, 3] bcast_S8x1x8x1536_S8x32x8x1536_0_1_2_3 (broadcastInDim S8x1x8x1536 ![0, 2, 3] bcast_S8x8x1536_S8x1x8x1536_0_2_3 pos)))
      (cmpi .slt (broadcastInDim S8x32x8x1536 ![0, 1, 2, 3] bcast_S8x1x8x1536_S8x32x8x1536_0_1_2_3 (broadcastInDim S8x1x8x1536 ![0, 2, 3] bcast_S8x8x1536_S8x1x8x1536_0_2_3 pos))
        (broadcastInDim S8x32x8x1536 ![0, 1, 2, 3] bcast_S8x32x1x1_S8x32x8x1536_0_1_2_3 (addi (broadcastInDim S8x32x1x1 ![0, 1] bcast_S8x32_S8x32x1x1_0_1 off)
          (broadcastInDim S8x32x1x1 ![0, 1] bcast_S8x32_S8x32x1x1_0_1 cnt)))))
    (constantI S_ 1 0#1) reducesTo_S8x32x8x1536_S8x32x1536_d2 h_S_) transposes_S8x32x1536_S32x8x1536_1_0_2) shapeCasts_S32x8x1536_S32x12288x1) natLt_1_32

theorem bc_pair (x : IVec S8x32 32) (b : Fin 8) (e : Fin 32) (k : Fin 8) (u : Fin 1536) :
    broadcastInDim S8x32x8x1536 ![0, 1, 2, 3] bcast_S8x32x1x1_S8x32x8x1536_0_1_2_3 (broadcastInDim S8x32x1x1 ![0, 1] bcast_S8x32_S8x32x1x1_0_1 x)
      (ix4 (n0 := 8) (n1 := 32) (n2 := 8) (n3 := 1536) b e k u) = x (ix2 b e) :=
  (broadcastInDim_apply _ _ _ _ (ix4 (n0 := 8) (n1 := 32) (n2 := 1) (n3 := 1) b e 0 0) (fun a => by fin_cases a <;> rfl)).trans
    (broadcastInDim_apply _ _ _ _ (ix2 (n0 := 8) (n1 := 32) b e) (fun a => by fin_cases a <;> rfl))

theorem bc_place (x : IVec S8x8x1536 32) (b : Fin 8) (e : Fin 32) (k : Fin 8) (u : Fin 1536) :
    broadcastInDim S8x32x8x1536 ![0, 1, 2, 3] bcast_S8x1x8x1536_S8x32x8x1536_0_1_2_3 (broadcastInDim S8x1x8x1536 ![0, 2, 3] bcast_S8x8x1536_S8x1x8x1536_0_2_3 x)
      (ix4 (n0 := 8) (n1 := 32) (n2 := 8) (n3 := 1536) b e k u) = x (ix3 b k u) :=
  (broadcastInDim_apply _ _ _ _ (ix4 (n0 := 8) (n1 := 1) (n2 := 8) (n3 := 1536) b 0 k u) (fun a => by fin_cases a <;> rfl)).trans
    (broadcastInDim_apply _ _ _ _ (ix3 (n0 := 8) (n1 := 8) (n2 := 1536) b k u) (fun a => by fin_cases a <;> rfl))

/-- The or over the choices. -/
theorem any_iff (x : IVec S8x32x8x1536 1) (b : Fin 8) (e : Fin 32) (u : Fin 1536) :
    Host.reduce IntOp.ori x (constantI S_ 1 0#1) reducesTo_S8x32x8x1536_S8x32x1536_d2 h_S_ (ix3 (n0 := 8) (n1 := 32) (n2 := 1536) b e u) = 1#1
      ↔ ∃ k, x (ix4 (n0 := 8) (n1 := 32) (n2 := 8) (n3 := 1536) b e k u) = 1#1 := by
  rw [Host.reduce_eq_fold]
  refine (Routing.fold_ori _ _).trans ⟨?_, ?_⟩
  · rintro ⟨i, hi, hx⟩
    have hd := (Finset.mem_filter.mp hi).2
    have h0 := congrArg Fin.val (congrFun hd 0)
    have h1 := congrArg Fin.val (congrFun hd 1)
    have h2 := congrArg Fin.val (congrFun hd 2)
    rw [Shape.ReducesTo.drop_apply_val_of_eq reducesTo_S8x32x8x1536_S8x32x1536_d2 i 0 0 (by decide) (by decide)] at h0
    rw [Shape.ReducesTo.drop_apply_val_of_eq reducesTo_S8x32x8x1536_S8x32x1536_d2 i 1 1 (by decide) (by decide)] at h1
    rw [Shape.ReducesTo.drop_apply_val_of_eq reducesTo_S8x32x8x1536_S8x32x1536_d2 i 2 3 (by decide) (by decide)] at h2
    obtain ⟨a0, a1, a2, a3, rfl⟩ : ∃ a0 a1 a2 a3, i = ix4 (n0 := 8) (n1 := 32) (n2 := 8) (n3 := 1536) a0 a1 a2 a3 := ⟨_, _, _, _, eq_ix4 i⟩
    obtain rfl : a0 = b := Fin.ext h0
    obtain rfl : a1 = e := Fin.ext h1
    obtain rfl : a3 = u := Fin.ext h2
    exact ⟨a2, hx⟩
  · rintro ⟨k, hk⟩
    refine ⟨_, Finset.mem_filter.mpr ⟨Finset.mem_univ _, ?_⟩, hk⟩
    funext a; apply Fin.ext
    fin_cases a
    · exact Shape.ReducesTo.drop_apply_val_of_eq reducesTo_S8x32x8x1536_S8x32x1536_d2 _ 0 0 (by decide) (by decide)
    · exact Shape.ReducesTo.drop_apply_val_of_eq reducesTo_S8x32x8x1536_S8x32x1536_d2 _ 1 1 (by decide) (by decide)
    · exact Shape.ReducesTo.drop_apply_val_of_eq reducesTo_S8x32x8x1536_S8x32x1536_d2 _ 2 3 (by decide) (by decide)

theorem chosen_iff (cnt off : IVec S8x32 32) (pos : IVec S8x8x1536 32) (b : Fin 8)
    (h : Plan.Valid (fun e => cnt (ix2 b e)) (fun e => off (ix2 b e)) (fun k u => pos (ix3 b k u))) (e : Fin 32) (u : Fin 1536) :
    chosen cnt off pos (ix3 (n0 := 32) (n1 := 12288) (n2 := 1) e (tok b u) 0) ≠ 0#32
      ↔ Plan.Chosen (fun e => cnt (ix2 b e)) (fun e => off (ix2 b e)) (fun k u => pos (ix3 b k u)) e u := by
  have hx : ∀ a : BitVec 1, a.setWidth 32 ≠ 0#32 ↔ a = 1#1 := by decide
  unfold chosen
  refine (hx _).trans ?_
  rw [shapeCast_apply _ _ _ (ix3 (n0 := 32) (n1 := 8) (n2 := 1536) e b u) (by
      rw [Shape.rowMajor_val_three, Shape.rowMajor_val_three]
      show (e.val * 8 + b.val) * 1536 + u.val = (e.val * 12288 + (1536 * b.val + u.val)) * 1 + 0
      omega),
    transpose_apply _ _ _ _ (ix3 (n0 := 8) (n1 := 32) (n2 := 1536) b e u) (fun a => by fin_cases a <;> rfl), any_iff]
  refine exists_congr fun k => ?_
  have hc := h.cnt_le e
  have he := h.end_le e
  have hp := h.pos_lt k u
  have ha : (off (ix2 b e) + cnt (ix2 b e)).toNat = (off (ix2 b e)).toNat + (cnt (ix2 b e)).toNat := by rw [BitVec.toNat_add]; omega
  show IntOp.andi (IntOp.cmpi .sle _ _) (IntOp.cmpi .slt _ _) = 1#1 ↔ _
  rw [and_one, sle_int, slt_int]
  rw [bc_pair, bc_place]
  have h1 : broadcastInDim S8x32x8x1536 ![0, 1, 2, 3] bcast_S8x32x1x1_S8x32x8x1536_0_1_2_3 (addi (broadcastInDim S8x32x1x1 ![0, 1] bcast_S8x32_S8x32x1x1_0_1 off)
          (broadcastInDim S8x32x1x1 ![0, 1] bcast_S8x32_S8x32x1x1_0_1 cnt)) (ix4 (n0 := 8) (n1 := 32) (n2 := 8) (n3 := 1536) b e k u) = off (ix2 b e) + cnt (ix2 b e) :=
    congrArg₂ (· + ·) (bc_pair off b e k u) (bc_pair cnt b e k u)
  rw [h1, int_nat (by omega), int_nat (by omega), int_nat (by omega), ha]
  exact and_congr Int.ofNat_le Int.ofNat_lt

/-! ## The table of powers -/

theorem lit0_eq : ∀ i : Fin 252, lit0 i = BitVec.ofNat 32 (i.val + 1) <<< 23 := by decide +kernel

def powers : FVec Ideal S1x1x252 .f32 :=
  broadcastInDim S1x1x252 ![2] bcast_S252_S1x1x252_2 (fun i => Ideal.ofBits .f32 (lit0 (S252.rowMajor i)))

theorem powers_apply (i : Fin 252) : powers (ix3 (n0 := 1) (n1 := 1) (n2 := 252) 0 0 i) = Scale.pow2 (i.val + 1) := by
  unfold powers Scale.pow2
  refine (broadcastInDim_apply _ _ _ _ (ix1 (n := 252) i) (fun a => by fin_cases a; rfl)).trans ?_
  refine congrArg (Ideal.ofBits .f32) ?_
  have h : S252.rowMajor (ix1 (n := 252) i) = i := Fin.ext (Shape.rowMajor_val_one _)
  exact (congrArg lit0 h).trans (lit0_eq i)

/-! ## What the host lines leave -/

variable (m : (ℓ : Loc nD τ sig) → Buf (Elt Ideal) ℓ)

theorem v47_eq (c : Dev nD) : V m c main_v47 = powers := by
  unfold V
  after_reads_simp
  rfl

theorem v14_eq (c : Dev nD) : V m c main_v14 = chosen (m ((c.tc : Thread nD τ).loc main_arg0)) (m ((c.tc : Thread nD τ).loc main_arg1)) (m ((c.tc : Thread nD τ).loc main_arg2)) := by
  unfold V
  after_reads_simp
  rfl

theorem v38_eq (c : Dev nD) : V m c main_v38 = codeBytes (m ((c.tc : Thread nD τ).loc main_arg3)) := by
  unfold V
  after_reads_simp
  rfl

theorem v43_eq (c : Dev nD) : V m c main_v43 = scales (m ((c.tc : Thread nD τ).loc main_arg3)) := by
  unfold V
  after_reads_simp
  rfl

theorem v46_eq (c : Dev nD) : V m c main_v46 = gates (m ((c.tc : Thread nD τ).loc main_arg3)) := by
  unfold V
  after_reads_simp
  rfl

end Cert.ReferenceIdeal.Rows
-- ==== Proof.RefSpec.lean ====
/-
  The reference's result at a token and a column is the specified sum.
-/
module

public import proofs.«01_k».proof.Proof.RefRun
public import proofs.«01_k».proof.Proof.RefHost
public import proofs.«01_k».proof.Proof.Spec

@[expose] public section

noncomputable section

namespace Cert.ReferenceIdeal.Rows

open Cert.ReferenceIdeal Cert.ReferenceIdeal.Gen Idealize.ShloMosaic Idealize.ShloMosaic.ValueIdx Idealize.ShloMosaic.TcCoe
open Cert.Proof

attribute [local instance] Cert.ReferenceIdeal.Gen.facts

/-- A token's codes are the bytes of its words. -/
theorem codes_eq (x : IVec S8x7720x128 32) (b : Fin 8) (u : Fin 1536) :
    codes (codeBytes x) (tok b u) = Spec.codeAt (fun r l => x (ix3 (n0 := 8) (n1 := 7720) (n2 := 128) b r l)) u := by
  funext k
  have h := codeBytes_apply x b u ⟨k.val / 512, by omega⟩ ⟨k.val / 128 % 4, by omega⟩ ⟨k.val % 128, by omega⟩
  have e : (⟨128 * (4 * (k.val / 512) + k.val / 128 % 4) + k.val % 128, by omega⟩ : Fin 2048) = k := Fin.ext (by
    show 128 * (4 * (k.val / 512) + k.val / 128 % 4) + k.val % 128 = k.val
    omega)
  unfold codes Spec.codeAt
  refine congrArg (Ideal.ofBits .fp8e4m3) (Eq.trans ?_ h)
  exact congrArg (fun k => codeBytes x (ix2 (n0 := 12288) (n1 := 2048) (tok b u) k)) e.symm

variable (m : (ℓ : Loc nD τ sig) → Buf (Elt Ideal) ℓ)

/-- A token's row of the result. -/
theorem ref_apply (c : Dev nD) (b : Fin 8)
    (h : Plan.Valid (fun e => m ((c.tc : Thread nD τ).loc main_arg0) (ix2 b e)) (fun e => m ((c.tc : Thread nD τ).loc main_arg1) (ix2 b e))
      (fun k u => m ((c.tc : Thread nD τ).loc main_arg2) (ix3 b k u))) (u : Fin 1536) (col : Fin 2048) :
    (dats m 0 c).arrAt 9 cfg0.N (ix2 (n0 := 12288) (n1 := 2048) (tok b u) col)
      = ∑ e, Spec.term (fun e => m ((c.tc : Thread nD τ).loc main_arg0) (ix2 (n0 := 8) (n1 := 32) b e))
          (fun e => m ((c.tc : Thread nD τ).loc main_arg1) (ix2 (n0 := 8) (n1 := 32) b e))
          (fun k u => m ((c.tc : Thread nD τ).loc main_arg2) (ix3 (n0 := 8) (n1 := 8) (n2 := 1536) b k u))
          (fun r l => m ((c.tc : Thread nD τ).loc main_arg3) (ix3 (n0 := 8) (n1 := 7720) (n2 := 128) b r l))
          (fun e k j => m ((c.tc : Thread nD τ).loc main_arg4) (ix3 (n0 := 32) (n1 := 2048) (n2 := 1536) e k j))
          (fun e j => m ((c.tc : Thread nD τ).loc main_arg5) (ix3 (n0 := 32) (n1 := 1) (n2 := 1536) e 0 j))
          (fun e k j => m ((c.tc : Thread nD τ).loc main_arg6) (ix3 (n0 := 32) (n1 := 768) (n2 := 2048) e k j))
          (fun e j => m ((c.tc : Thread nD τ).loc main_arg7) (ix3 (n0 := 32) (n1 := 1) (n2 := 2048) e 0 j)) u col e := by
  rw [arr_eq]
  have h4 : ∀ i : Fin 252, arr4 m c (ix3 (n0 := 1) (n1 := 1) (n2 := 252) 0 0 i) = Scale.pow2 (i.val + 1) := fun i =>
    (congrFun (v47_eq m c) _).trans (powers_apply i)
  refine (pay6_apply _ _ _ _ _ _ _ _ _ h4 (tok b u) col).trans ?_
  refine Finset.sum_congr rfl fun e _ => ?_
  have h3 : arr3 m c (ix3 (n0 := 32) (n1 := 12288) (n2 := 1) e (tok b u) 0) ≠ 0#32 ↔ _ :=
    Iff.trans (by rw [show arr3 m c = _ from v14_eq m c]) (chosen_iff _ _ _ b h e u)
  have hr : row (arr0 m c) (arr1 m c) (arr2 m c) (arr5 m c) (arr6 m c) (arr7 m c) (arr8 m c) e (tok b u)
      = Spec.part (fun r l => m ((c.tc : Thread nD τ).loc main_arg3) (ix3 (n0 := 8) (n1 := 7720) (n2 := 128) b r l)) u e
          (fun k j => m ((c.tc : Thread nD τ).loc main_arg4) (ix3 (n0 := 32) (n1 := 2048) (n2 := 1536) e k j))
          (fun j => m ((c.tc : Thread nD τ).loc main_arg5) (ix3 (n0 := 32) (n1 := 1) (n2 := 1536) e 0 j))
          (fun k j => m ((c.tc : Thread nD τ).loc main_arg6) (ix3 (n0 := 32) (n1 := 768) (n2 := 2048) e k j))
          (fun j => m ((c.tc : Thread nD τ).loc main_arg7) (ix3 (n0 := 32) (n1 := 1) (n2 := 2048) e 0 j)) := by
    unfold row Spec.part
    rw [show arr0 m c = _ from v38_eq m c, codes_eq, show arr1 m c = _ from v43_eq m c, scales_apply, show arr2 m c = _ from v46_eq m c, gates_apply,
      show arr5 m c = _ from V_main_arg4 m c, show arr6 m c = _ from V_main_arg5 m c, show arr7 m c = _ from V_main_arg6 m c,
      show arr8 m c = _ from V_main_arg7 m c]
  unfold Spec.term
  rw [hr]
  by_cases hc : arr3 m c (ix3 (n0 := 32) (n1 := 12288) (n2 := 1) e (tok b u) 0) ≠ 0#32
  · rw [if_pos hc, if_pos (h3.mp hc)]
  · rw [if_neg hc, if_neg fun g => hc (h3.mpr g)]

end Cert.ReferenceIdeal.Rows
-- ==== Proof.Algebraic.lean ====
/-
  At exact reals the kernel and the reference leave equal results.
-/
module

public import proofs.«01_k».proof.Defs
public import proofs.«01_k».proof.Proof.Frames
public import proofs.«01_k».proof.Proof.KerSpec
public import proofs.«01_k».proof.Proof.RefSpec

@[expose] public section

noncomputable section

namespace Cert.Proof

open Idealize.ShloMosaic Idealize.ShloMosaic.ValueIdx Idealize.ShloMosaic.TcCoe Idealize.SL.Sem
open Cert.KernelIdeal.Body (Sums sums_zero sums_part run_rows ElemOk outCol)

attribute [local instance] Cert.Kernel.Gen.facts Cert.KernelIdeal.Gen.facts Cert.ReferenceIdeal.Gen.facts Cert.Pre_valid_plan.Gen.facts

/-- From equal arguments, with slot tables that are a plan, the kernel and the reference, both at exact reals, leave equal results. -/
theorem algebraic : Cert.algebraic_KernelIdeal_ReferenceIdeal := fun m g m' g' hpre hargs => by
  have h0 : ∀ c : Dev Cert.KernelIdeal.nD, ∀ b : Fin 8, Plan.Valid (fun e => m ((c.tc : Thread Cert.KernelIdeal.nD Cert.KernelIdeal.τ).loc Cert.KernelIdeal.main_arg0) (ix2 b e))
      (fun e => m ((c.tc : Thread Cert.KernelIdeal.nD Cert.KernelIdeal.τ).loc Cert.KernelIdeal.main_arg1) (ix2 b e))
      (fun k u => m ((c.tc : Thread Cert.KernelIdeal.nD Cert.KernelIdeal.τ).loc Cert.KernelIdeal.main_arg2) (ix3 b k u)) := fun c b =>
    PreValid.valid (F := Ideal) _ _ _ (hpre c).1 (hpre c).2.1 (hpre c).2.2.1 (hpre c).2.2.2.1 (hpre c).2.2.2.2.1 (hpre c).2.2.2.2.2 b
  refine ⟨fun c => (Cert.ReferenceIdeal.Gen.dats m' 0 c).arrAt 9 Cert.ReferenceIdeal.cfg0.N, ?_, ?_⟩
  · refine (θ_run _ _ _).mono (fun r h c => ⟨?_, h.1 c⟩)
      (run_rows m (Sums m) g (inp_valid m h0) (sums_zero m) (sums_part m))
    funext i
    obtain ⟨i0, i1, rfl⟩ : ∃ i0 i1, i = ix2 (n0 := 12288) (n1 := 2048) i0 i1 := ⟨_, _, eq_ix2 i⟩
    obtain ⟨v, hv, hy⟩ := h.2.2 c (ix2 (n0 := 12288) (n1 := 2048) i0 i1) ⟨i0.val / 1536, by omega⟩ ⟨i0.val % 1536, by omega⟩ ⟨i1.val / 128, by omega⟩
      ⟨i1.val % 128, by omega⟩ (by show i0.val = 1536 * (i0.val / 1536) + i0.val % 1536; omega)
      (by show i1.val = 128 * (i1.val / 128) + i1.val % 128; omega)
    have e0 : Cert.ReferenceIdeal.Rows.tok ⟨i0.val / 1536, by omega⟩ ⟨i0.val % 1536, by omega⟩ = i0 :=
      Fin.ext (by show 1536 * (i0.val / 1536) + i0.val % 1536 = i0.val; omega)
    have e1 : outCol ⟨i1.val / 128, by omega⟩ ⟨i1.val % 128, by omega⟩ = i1 :=
      Fin.ext (by show 128 * (i1.val / 128) + i1.val % 128 = i1.val; omega)
    obtain ⟨a0, a1, a2, a3, a4, a5, a6, a7⟩ := hargs c
    have hb := h0 c ⟨i0.val / 1536, by omega⟩
    rw [← a0, ← a1, ← a2] at hb
    have hr := Cert.ReferenceIdeal.Rows.ref_apply m' c ⟨i0.val / 1536, by omega⟩ hb ⟨i0.val % 1536, by omega⟩ i1
    rw [e0, a0, a1, a2, a3, a4, a5, a6, a7] at hr
    refine (hy.trans ?_).trans hr.symm
    have hv' := hv ⟨i1.val / 128, by omega⟩ ⟨i1.val % 128, by omega⟩
    rw [e1, Spec.upto_all] at hv'
    exact hv'
  · exact (θ_run _ _ _).mono (fun r h c => h c) (Cert.ReferenceIdeal.Value.run_blocks m' g')

end Cert.Proof
-- ==== Proof.lean ====
/-
  The claims: the kernel runs and leaves its arguments as they are, at both readings; so does the reference; the kernel read at exact
  reals is the kernel's own text; and at exact reals, with slot tables that are a plan, it returns what the reference returns.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_valid_plan
public import proofs.«01_k».proof.Proof.Frames
public import proofs.«01_k».proof.Proof.Algebraic
public import proofs.«01_k».proof.Proof.Gen.ReferenceIdeal.Value

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_valid_plan.Gen.facts,
    quiescent_kernel, quiescent_kernelIdeal, fun m ρ _ => Cert.ReferenceIdeal.Gen.frame m ρ,
    fun m ρ _ => Cert.ReferenceIdeal.Gen.frame m ρ, trivial, algebraic⟩

end Cert.Proof

end
